-- ==== Defs.lean ====
def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdIdeal_sc_finite [hPre_sc_finite : Cert.Pre_sc_finite.Facts] (m : (ℓ : Loc Cert.ScBwdIdeal.nD Cert.ScBwdIdeal.τ Cert.ScBwdIdeal.sig) → Buf (Elt Ideal) ℓ) : Prop :=
  ∀ c : Dev Cert.ScBwdIdeal.nD,
    (Cert.Pre_sc_finite.fn (F := Ideal) (m ((c.tc : Thread Cert.ScBwdIdeal.nD Cert.ScBwdIdeal.τ).loc Cert.ScBwdIdeal.main_arg0)) (m ((c.tc : Thread Cert.ScBwdIdeal.nD Cert.ScBwdIdeal.τ).loc Cert.ScBwdIdeal.main_arg1)) (m ((c.tc : Thread Cert.ScBwdIdeal.nD Cert.ScBwdIdeal.τ).loc Cert.ScBwdIdeal.main_arg2))).1 = (fun _ => 1#1)
    ∧ (Cert.Pre_sc_finite.fn (F := Ideal) (m ((c.tc : Thread Cert.ScBwdIdeal.nD Cert.ScBwdIdeal.τ).loc Cert.ScBwdIdeal.main_arg0)) (m ((c.tc : Thread Cert.ScBwdIdeal.nD Cert.ScBwdIdeal.τ).loc Cert.ScBwdIdeal.main_arg1)) (m ((c.tc : Thread Cert.ScBwdIdeal.nD Cert.ScBwdIdeal.τ).loc Cert.ScBwdIdeal.main_arg2))).2.1 = (fun _ => 1#1)
    ∧ (Cert.Pre_sc_finite.fn (F := Ideal) (m ((c.tc : Thread Cert.ScBwdIdeal.nD Cert.ScBwdIdeal.τ).loc Cert.ScBwdIdeal.main_arg0)) (m ((c.tc : Thread Cert.ScBwdIdeal.nD Cert.ScBwdIdeal.τ).loc Cert.ScBwdIdeal.main_arg1)) (m ((c.tc : Thread Cert.ScBwdIdeal.nD Cert.ScBwdIdeal.τ).loc Cert.ScBwdIdeal.main_arg2))).2.2 = (fun _ => 1#1)

def Pre_ScRefIdeal (m : (ℓ : Loc Cert.ScRefIdeal.nD Cert.ScRefIdeal.τ Cert.ScRefIdeal.sig) → Buf (Elt Ideal) ℓ) : Prop :=
  True

def Pre_ScRefIdeal_sc_finite [hPre_sc_finite : Cert.Pre_sc_finite.Facts] (m : (ℓ : Loc Cert.ScRefIdeal.nD Cert.ScRefIdeal.τ Cert.ScRefIdeal.sig) → Buf (Elt Ideal) ℓ) : Prop :=
  ∀ c : Dev Cert.ScRefIdeal.nD,
    (Cert.Pre_sc_finite.fn (F := Ideal) (m ((c.tc : Thread Cert.ScRefIdeal.nD Cert.ScRefIdeal.τ).loc Cert.ScRefIdeal.main_arg0)) (m ((c.tc : Thread Cert.ScRefIdeal.nD Cert.ScRefIdeal.τ).loc Cert.ScRefIdeal.main_arg1)) (m ((c.tc : Thread Cert.ScRefIdeal.nD Cert.ScRefIdeal.τ).loc Cert.ScRefIdeal.main_arg2))).1 = (fun _ => 1#1)
    ∧ (Cert.Pre_sc_finite.fn (F := Ideal) (m ((c.tc : Thread Cert.ScRefIdeal.nD Cert.ScRefIdeal.τ).loc Cert.ScRefIdeal.main_arg0)) (m ((c.tc : Thread Cert.ScRefIdeal.nD Cert.ScRefIdeal.τ).loc Cert.ScRefIdeal.main_arg1)) (m ((c.tc : Thread Cert.ScRefIdeal.nD Cert.ScRefIdeal.τ).loc Cert.ScRefIdeal.main_arg2))).2.1 = (fun _ => 1#1)
    ∧ (Cert.Pre_sc_finite.fn (F := Ideal) (m ((c.tc : Thread Cert.ScRefIdeal.nD Cert.ScRefIdeal.τ).loc Cert.ScRefIdeal.main_arg0)) (m ((c.tc : Thread Cert.ScRefIdeal.nD Cert.ScRefIdeal.τ).loc Cert.ScRefIdeal.main_arg1)) (m ((c.tc : Thread Cert.ScRefIdeal.nD Cert.ScRefIdeal.τ).loc Cert.ScRefIdeal.main_arg2))).2.2 = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_lru_finite [hPre_lru_finite : Cert.Pre_lru_finite.Facts] (m : (ℓ : Loc Cert.LruIdeal.nD Cert.LruIdeal.τ Cert.LruIdeal.sig) → Buf (Elt Ideal) ℓ) : Prop :=
  ∀ c : Dev Cert.LruIdeal.nD,
    (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.2.2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.2.2.2.2.1 = (fun _ => 1#1)
    ∧ (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8))).2.2.2.2.2.2.2.2 = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_lru_finite [hPre_lru_finite : Cert.Pre_lru_finite.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.2.2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.2.2.2.2.1 = (fun _ => 1#1)
    ∧ (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8))).2.2.2.2.2.2.2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_Norm0Ideal_norm0_finite [hPre_norm0_finite : Cert.Pre_norm0_finite.Facts] (m : (ℓ : Loc Cert.Norm0Ideal.nD Cert.Norm0Ideal.τ Cert.Norm0Ideal.sig) → Buf (Elt Ideal) ℓ) : Prop :=
  ∀ c : Dev Cert.Norm0Ideal.nD,
    (Cert.Pre_norm0_finite.fn (F := Ideal) (m ((c.tc : Thread Cert.Norm0Ideal.nD Cert.Norm0Ideal.τ).loc Cert.Norm0Ideal.main_arg0)) (m ((c.tc : Thread Cert.Norm0Ideal.nD Cert.Norm0Ideal.τ).loc Cert.Norm0Ideal.main_arg1)) (m ((c.tc : Thread Cert.Norm0Ideal.nD Cert.Norm0Ideal.τ).loc Cert.Norm0Ideal.main_arg2)) (m ((c.tc : Thread Cert.Norm0Ideal.nD Cert.Norm0Ideal.τ).loc Cert.Norm0Ideal.main_arg3)) (m ((c.tc : Thread Cert.Norm0Ideal.nD Cert.Norm0Ideal.τ).loc Cert.Norm0Ideal.main_arg4)) (m ((c.tc : Thread Cert.Norm0Ideal.nD Cert.Norm0Ideal.τ).loc Cert.Norm0Ideal.main_arg5))).1 = (fun _ => 1#1)
    ∧ (Cert.Pre_norm0_finite.fn (F := Ideal) (m ((c.tc : Thread Cert.Norm0Ideal.nD Cert.Norm0Ideal.τ).loc Cert.Norm0Ideal.main_arg0)) (m ((c.tc : Thread Cert.Norm0Ideal.nD Cert.Norm0Ideal.τ).loc Cert.Norm0Ideal.main_arg1)) (m ((c.tc : Thread Cert.Norm0Ideal.nD Cert.Norm0Ideal.τ).loc Cert.Norm0Ideal.main_arg2)) (m ((c.tc : Thread Cert.Norm0Ideal.nD Cert.Norm0Ideal.τ).loc Cert.Norm0Ideal.main_arg3)) (m ((c.tc : Thread Cert.Norm0Ideal.nD Cert.Norm0Ideal.τ).loc Cert.Norm0Ideal.main_arg4)) (m ((c.tc : Thread Cert.Norm0Ideal.nD Cert.Norm0Ideal.τ).loc Cert.Norm0Ideal.main_arg5))).2.1 = (fun _ => 1#1)
    ∧ (Cert.Pre_norm0_finite.fn (F := Ideal) (m ((c.tc : Thread Cert.Norm0Ideal.nD Cert.Norm0Ideal.τ).loc Cert.Norm0Ideal.main_arg0)) (m ((c.tc : Thread Cert.Norm0Ideal.nD Cert.Norm0Ideal.τ).loc Cert.Norm0Ideal.main_arg1)) (m ((c.tc : Thread Cert.Norm0Ideal.nD Cert.Norm0Ideal.τ).loc Cert.Norm0Ideal.main_arg2)) (m ((c.tc : Thread Cert.Norm0Ideal.nD Cert.Norm0Ideal.τ).loc Cert.Norm0Ideal.main_arg3)) (m ((c.tc : Thread Cert.Norm0Ideal.nD Cert.Norm0Ideal.τ).loc Cert.Norm0Ideal.main_arg4)) (m ((c.tc : Thread Cert.Norm0Ideal.nD Cert.Norm0Ideal.τ).loc Cert.Norm0Ideal.main_arg5))).2.2.1 = (fun _ => 1#1)
    ∧ (Cert.Pre_norm0_finite.fn (F := Ideal) (m ((c.tc : Thread Cert.Norm0Ideal.nD Cert.Norm0Ideal.τ).loc Cert.Norm0Ideal.main_arg0)) (m ((c.tc : Thread Cert.Norm0Ideal.nD Cert.Norm0Ideal.τ).loc Cert.Norm0Ideal.main_arg1)) (m ((c.tc : Thread Cert.Norm0Ideal.nD Cert.Norm0Ideal.τ).loc Cert.Norm0Ideal.main_arg2)) (m ((c.tc : Thread Cert.Norm0Ideal.nD Cert.Norm0Ideal.τ).loc Cert.Norm0Ideal.main_arg3)) (m ((c.tc : Thread Cert.Norm0Ideal.nD Cert.Norm0Ideal.τ).loc Cert.Norm0Ideal.main_arg4)) (m ((c.tc : Thread Cert.Norm0Ideal.nD Cert.Norm0Ideal.τ).loc Cert.Norm0Ideal.main_arg5))).2.2.2 = (fun _ => 1#1)

def Pre_Norm0RefIdeal (m : (ℓ : Loc Cert.Norm0RefIdeal.nD Cert.Norm0RefIdeal.τ Cert.Norm0RefIdeal.sig) → Buf (Elt Ideal) ℓ) : Prop :=
  True

def Pre_Norm0RefIdeal_norm0_finite [hPre_norm0_finite : Cert.Pre_norm0_finite.Facts] (m : (ℓ : Loc Cert.Norm0RefIdeal.nD Cert.Norm0RefIdeal.τ Cert.Norm0RefIdeal.sig) → Buf (Elt Ideal) ℓ) : Prop :=
  ∀ c : Dev Cert.Norm0RefIdeal.nD,
    (Cert.Pre_norm0_finite.fn (F := Ideal) (m ((c.tc : Thread Cert.Norm0RefIdeal.nD Cert.Norm0RefIdeal.τ).loc Cert.Norm0RefIdeal.main_arg0)) (m ((c.tc : Thread Cert.Norm0RefIdeal.nD Cert.Norm0RefIdeal.τ).loc Cert.Norm0RefIdeal.main_arg1)) (m ((c.tc : Thread Cert.Norm0RefIdeal.nD Cert.Norm0RefIdeal.τ).loc Cert.Norm0RefIdeal.main_arg2)) (m ((c.tc : Thread Cert.Norm0RefIdeal.nD Cert.Norm0RefIdeal.τ).loc Cert.Norm0RefIdeal.main_arg3)) (m ((c.tc : Thread Cert.Norm0RefIdeal.nD Cert.Norm0RefIdeal.τ).loc Cert.Norm0RefIdeal.main_arg4)) (m ((c.tc : Thread Cert.Norm0RefIdeal.nD Cert.Norm0RefIdeal.τ).loc Cert.Norm0RefIdeal.main_arg5))).1 = (fun _ => 1#1)
    ∧ (Cert.Pre_norm0_finite.fn (F := Ideal) (m ((c.tc : Thread Cert.Norm0RefIdeal.nD Cert.Norm0RefIdeal.τ).loc Cert.Norm0RefIdeal.main_arg0)) (m ((c.tc : Thread Cert.Norm0RefIdeal.nD Cert.Norm0RefIdeal.τ).loc Cert.Norm0RefIdeal.main_arg1)) (m ((c.tc : Thread Cert.Norm0RefIdeal.nD Cert.Norm0RefIdeal.τ).loc Cert.Norm0RefIdeal.main_arg2)) (m ((c.tc : Thread Cert.Norm0RefIdeal.nD Cert.Norm0RefIdeal.τ).loc Cert.Norm0RefIdeal.main_arg3)) (m ((c.tc : Thread Cert.Norm0RefIdeal.nD Cert.Norm0RefIdeal.τ).loc Cert.Norm0RefIdeal.main_arg4)) (m ((c.tc : Thread Cert.Norm0RefIdeal.nD Cert.Norm0RefIdeal.τ).loc Cert.Norm0RefIdeal.main_arg5))).2.1 = (fun _ => 1#1)
    ∧ (Cert.Pre_norm0_finite.fn (F := Ideal) (m ((c.tc : Thread Cert.Norm0RefIdeal.nD Cert.Norm0RefIdeal.τ).loc Cert.Norm0RefIdeal.main_arg0)) (m ((c.tc : Thread Cert.Norm0RefIdeal.nD Cert.Norm0RefIdeal.τ).loc Cert.Norm0RefIdeal.main_arg1)) (m ((c.tc : Thread Cert.Norm0RefIdeal.nD Cert.Norm0RefIdeal.τ).loc Cert.Norm0RefIdeal.main_arg2)) (m ((c.tc : Thread Cert.Norm0RefIdeal.nD Cert.Norm0RefIdeal.τ).loc Cert.Norm0RefIdeal.main_arg3)) (m ((c.tc : Thread Cert.Norm0RefIdeal.nD Cert.Norm0RefIdeal.τ).loc Cert.Norm0RefIdeal.main_arg4)) (m ((c.tc : Thread Cert.Norm0RefIdeal.nD Cert.Norm0RefIdeal.τ).loc Cert.Norm0RefIdeal.main_arg5))).2.2.1 = (fun _ => 1#1)
    ∧ (Cert.Pre_norm0_finite.fn (F := Ideal) (m ((c.tc : Thread Cert.Norm0RefIdeal.nD Cert.Norm0RefIdeal.τ).loc Cert.Norm0RefIdeal.main_arg0)) (m ((c.tc : Thread Cert.Norm0RefIdeal.nD Cert.Norm0RefIdeal.τ).loc Cert.Norm0RefIdeal.main_arg1)) (m ((c.tc : Thread Cert.Norm0RefIdeal.nD Cert.Norm0RefIdeal.τ).loc Cert.Norm0RefIdeal.main_arg2)) (m ((c.tc : Thread Cert.Norm0RefIdeal.nD Cert.Norm0RefIdeal.τ).loc Cert.Norm0RefIdeal.main_arg3)) (m ((c.tc : Thread Cert.Norm0RefIdeal.nD Cert.Norm0RefIdeal.τ).loc Cert.Norm0RefIdeal.main_arg4)) (m ((c.tc : Thread Cert.Norm0RefIdeal.nD Cert.Norm0RefIdeal.τ).loc Cert.Norm0RefIdeal.main_arg5))).2.2.2 = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).2.2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).2.2.2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5)) (m ((c.tc : Thread Cert.Norm1Ideal.nD Cert.Norm1Ideal.τ).loc Cert.Norm1Ideal.main_arg6)) (m ((c.tc : Thread Cert.Norm1Ideal.nD Cert.Norm1Ideal.τ).loc Cert.Norm1Ideal.main_arg7))).2.2.2.2.2 = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).2.2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).2.2.2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5)) (m ((c.tc : Thread Cert.Norm1RefIdeal.nD Cert.Norm1RefIdeal.τ).loc Cert.Norm1RefIdeal.main_arg6)) (m ((c.tc : Thread Cert.Norm1RefIdeal.nD Cert.Norm1RefIdeal.τ).loc Cert.Norm1RefIdeal.main_arg7))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_DevSum (m : (ℓ : Loc Cert.DevSum.nD Cert.DevSum.τ Cert.DevSum.sig) → Buf (Elt Bits) ℓ) : Prop :=
  True

def Pre_DevSumIdeal (m : (ℓ : Loc Cert.DevSumIdeal.nD Cert.DevSumIdeal.τ Cert.DevSumIdeal.sig) → Buf (Elt Ideal) ℓ) : Prop :=
  True

def Pre_DevSumRefIdeal (m : (ℓ : Loc Cert.DevSumRefIdeal.nD Cert.DevSumRefIdeal.τ Cert.DevSumRefIdeal.sig) → Buf (Elt Ideal) ℓ) : Prop :=
  True

def Pre_Adw (m : (ℓ : Loc Cert.Adw.nD Cert.Adw.τ Cert.Adw.sig) → Buf (Elt Bits) ℓ) : Prop :=
  True

def Pre_AdwIdeal (m : (ℓ : Loc Cert.AdwIdeal.nD Cert.AdwIdeal.τ Cert.AdwIdeal.sig) → Buf (Elt Ideal) ℓ) : Prop :=
  True

def Pre_AdwRefIdeal (m : (ℓ : Loc Cert.AdwRefIdeal.nD Cert.AdwRefIdeal.τ Cert.AdwRefIdeal.sig) → Buf (Elt Ideal) ℓ) : Prop :=
  True

def Pre_Adr (m : (ℓ : Loc Cert.Adr.nD Cert.Adr.τ Cert.Adr.sig) → Buf (Elt Bits) ℓ) : Prop :=
  True

def Pre_AdrIdeal (m : (ℓ : Loc Cert.AdrIdeal.nD Cert.AdrIdeal.τ Cert.AdrIdeal.sig) → Buf (Elt Ideal) ℓ) : Prop :=
  True

def Pre_AdrRefIdeal (m : (ℓ : Loc Cert.AdrRefIdeal.nD Cert.AdrRefIdeal.τ Cert.AdrRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_MmTnG (m : (ℓ : Loc Cert.MmTnG.nD Cert.MmTnG.τ Cert.MmTnG.sig) → Buf (Elt Bits) ℓ) : Prop :=
  True

def Pre_MmTnGIdeal (m : (ℓ : Loc Cert.MmTnGIdeal.nD Cert.MmTnGIdeal.τ Cert.MmTnGIdeal.sig) → Buf (Elt Ideal) ℓ) : Prop :=
  True

def Pre_MmTnGRefIdeal (m : (ℓ : Loc Cert.MmTnGRefIdeal.nD Cert.MmTnGRefIdeal.τ Cert.MmTnGRefIdeal.sig) → Buf (Elt Ideal) ℓ) : Prop :=
  True

def Pre_MmProjG (m : (ℓ : Loc Cert.MmProjG.nD Cert.MmProjG.τ Cert.MmProjG.sig) → Buf (Elt Bits) ℓ) : Prop :=
  True

def Pre_MmProjGIdeal (m : (ℓ : Loc Cert.MmProjGIdeal.nD Cert.MmProjGIdeal.τ Cert.MmProjGIdeal.sig) → Buf (Elt Ideal) ℓ) : Prop :=
  True

def Pre_MmProjGRefIdeal (m : (ℓ : Loc Cert.MmProjGRefIdeal.nD Cert.MmProjGRefIdeal.τ Cert.MmProjGRefIdeal.sig) → Buf (Elt Ideal) ℓ) : Prop :=
  True

def Pre_AdrSc (m : (ℓ : Loc Cert.AdrSc.nD Cert.AdrSc.τ Cert.AdrSc.sig) → Buf (Elt Bits) ℓ) : Prop :=
  True

def Pre_AdrScIdeal (m : (ℓ : Loc Cert.AdrScIdeal.nD Cert.AdrScIdeal.τ Cert.AdrScIdeal.sig) → Buf (Elt Ideal) ℓ) : Prop :=
  True

def Pre_AdrScRefIdeal (m : (ℓ : Loc Cert.AdrScRefIdeal.nD Cert.AdrScRefIdeal.τ Cert.AdrScRefIdeal.sig) → Buf (Elt Ideal) ℓ) : Prop :=
  True

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScBwdIdeal_pre_sc_finite [hScBwdIdeal : Cert.ScBwdIdeal.Facts] [hPre_sc_finite : Cert.Pre_sc_finite.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal_sc_finite m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2))
      ∧ r.2.sem = fun _ => 0)

def quiescent_ScRefIdeal_pre_sc_finite [hScRefIdeal : Cert.ScRefIdeal.Facts] [hPre_sc_finite : Cert.Pre_sc_finite.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal_sc_finite m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruIdeal_pre_lru_finite [hLruIdeal : Cert.LruIdeal.Facts] [hPre_lru_finite : Cert.Pre_lru_finite.Facts] : Prop :=
  ∀ (m : (ℓ : Loc Cert.LruIdeal.nD Cert.LruIdeal.τ Cert.LruIdeal.sig) → Buf (Elt Ideal) ℓ) (g : Dev Cert.LruIdeal.nD → PrngReg), Pre_LruIdeal_lru_finite m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_LruRefIdeal_pre_lru_finite [hLruRefIdeal : Cert.LruRefIdeal.Facts] [hPre_lru_finite : Cert.Pre_lru_finite.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_lru_finite m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1)
      ∧ r.2.mem ((c.tc : Thread Cert.Norm0.nD Cert.Norm0.τ).loc Cert.Norm0.main_arg2) = m ((c.tc : Thread Cert.Norm0.nD Cert.Norm0.τ).loc Cert.Norm0.main_arg2)
      ∧ r.2.mem ((c.tc : Thread Cert.Norm0.nD Cert.Norm0.τ).loc Cert.Norm0.main_arg3) = m ((c.tc : Thread Cert.Norm0.nD Cert.Norm0.τ).loc Cert.Norm0.main_arg3)
      ∧ r.2.mem ((c.tc : Thread Cert.Norm0.nD Cert.Norm0.τ).loc Cert.Norm0.main_arg4) = m ((c.tc : Thread Cert.Norm0.nD Cert.Norm0.τ).loc Cert.Norm0.main_arg4)
      ∧ r.2.mem ((c.tc : Thread Cert.Norm0.nD Cert.Norm0.τ).loc Cert.Norm0.main_arg5) = m ((c.tc : Thread Cert.Norm0.nD Cert.Norm0.τ).loc Cert.Norm0.main_arg5))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
      ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
      ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
      ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
      ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5))
      ∧ r.2.sem = fun _ => 0)

def quiescent_Norm0Ideal_pre_norm0_finite [hNorm0Ideal : Cert.Norm0Ideal.Facts] [hPre_norm0_finite : Cert.Pre_norm0_finite.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal_norm0_finite m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
      ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
      ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
      ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
      ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5))
      ∧ r.2.sem = fun _ => 0)

def quiescent_Norm0RefIdeal [hNorm0RefIdeal : Cert.Norm0RefIdeal.Facts] : Prop :=
  ∀ (m : (ℓ : Loc Cert.Norm0RefIdeal.nD Cert.Norm0RefIdeal.τ Cert.Norm0RefIdeal.sig) → Buf (Elt Ideal) ℓ) (g : Dev Cert.Norm0RefIdeal.nD → PrngReg), Pre_Norm0RefIdeal m →
    θ_run (Cert.Norm0RefIdeal.defs (F := Ideal)) (onTc (τ := Cert.Norm0RefIdeal.τ) (Cert.Norm0RefIdeal.main (F := Ideal))) ⟨m, fun _ => 0, g⟩ (fun r => (∀ c : Dev Cert.Norm0RefIdeal.nD,
      r.2.mem ((c.tc : Thread Cert.Norm0RefIdeal.nD Cert.Norm0RefIdeal.τ).loc Cert.Norm0RefIdeal.main_arg0) = m ((c.tc : Thread Cert.Norm0RefIdeal.nD Cert.Norm0RefIdeal.τ).loc Cert.Norm0RefIdeal.main_arg0)
      ∧ r.2.mem ((c.tc : Thread Cert.Norm0RefIdeal.nD Cert.Norm0RefIdeal.τ).loc Cert.Norm0RefIdeal.main_arg1) = m ((c.tc : Thread Cert.Norm0RefIdeal.nD Cert.Norm0RefIdeal.τ).loc Cert.Norm0RefIdeal.main_arg1)
      ∧ r.2.mem ((c.tc : Thread Cert.Norm0RefIdeal.nD Cert.Norm0RefIdeal.τ).loc Cert.Norm0RefIdeal.main_arg2) = m ((c.tc : Thread Cert.Norm0RefIdeal.nD Cert.Norm0RefIdeal.τ).loc Cert.Norm0RefIdeal.main_arg2)
      ∧ r.2.mem ((c.tc : Thread Cert.Norm0RefIdeal.nD Cert.Norm0RefIdeal.τ).loc Cert.Norm0RefIdeal.main_arg3) = m ((c.tc : Thread Cert.Norm0RefIdeal.nD Cert.Norm0RefIdeal.τ).loc Cert.Norm0RefIdeal.main_arg3)
      ∧ r.2.mem ((c.tc : Thread Cert.Norm0RefIdeal.nD Cert.Norm0RefIdeal.τ).loc Cert.Norm0RefIdeal.main_arg4) = m ((c.tc : Thread Cert.Norm0RefIdeal.nD Cert.Norm0RefIdeal.τ).loc Cert.Norm0RefIdeal.main_arg4)
      ∧ r.2.mem ((c.tc : Thread Cert.Norm0RefIdeal.nD Cert.Norm0RefIdeal.τ).loc Cert.Norm0RefIdeal.main_arg5) = m ((c.tc : Thread Cert.Norm0RefIdeal.nD Cert.Norm0RefIdeal.τ).loc Cert.Norm0RefIdeal.main_arg5))
      ∧ r.2.sem = fun _ => 0)

def quiescent_Norm0RefIdeal_pre_norm0_finite [hNorm0RefIdeal : Cert.Norm0RefIdeal.Facts] [hPre_norm0_finite : Cert.Pre_norm0_finite.Facts] : Prop :=
  ∀ (m : (ℓ : Loc Cert.Norm0RefIdeal.nD Cert.Norm0RefIdeal.τ Cert.Norm0RefIdeal.sig) → Buf (Elt Ideal) ℓ) (g : Dev Cert.Norm0RefIdeal.nD → PrngReg), Pre_Norm0RefIdeal_norm0_finite m →
    θ_run (Cert.Norm0RefIdeal.defs (F := Ideal)) (onTc (τ := Cert.Norm0RefIdeal.τ) (Cert.Norm0RefIdeal.main (F := Ideal))) ⟨m, fun _ => 0, g⟩ (fun r => (∀ c : Dev Cert.Norm0RefIdeal.nD,
      r.2.mem ((c.tc : Thread Cert.Norm0RefIdeal.nD Cert.Norm0RefIdeal.τ).loc Cert.Norm0RefIdeal.main_arg0) = m ((c.tc : Thread Cert.Norm0RefIdeal.nD Cert.Norm0RefIdeal.τ).loc Cert.Norm0RefIdeal.main_arg0)
      ∧ r.2.mem ((c.tc : Thread Cert.Norm0RefIdeal.nD Cert.Norm0RefIdeal.τ).loc Cert.Norm0RefIdeal.main_arg1) = m ((c.tc : Thread Cert.Norm0RefIdeal.nD Cert.Norm0RefIdeal.τ).loc Cert.Norm0RefIdeal.main_arg1)
      ∧ r.2.mem ((c.tc : Thread Cert.Norm0RefIdeal.nD Cert.Norm0RefIdeal.τ).loc Cert.Norm0RefIdeal.main_arg2) = m ((c.tc : Thread Cert.Norm0RefIdeal.nD Cert.Norm0RefIdeal.τ).loc Cert.Norm0RefIdeal.main_arg2)
      ∧ r.2.mem ((c.tc : Thread Cert.Norm0RefIdeal.nD Cert.Norm0RefIdeal.τ).loc Cert.Norm0RefIdeal.main_arg3) = m ((c.tc : Thread Cert.Norm0RefIdeal.nD Cert.Norm0RefIdeal.τ).loc Cert.Norm0RefIdeal.main_arg3)
      ∧ r.2.mem ((c.tc : Thread Cert.Norm0RefIdeal.nD Cert.Norm0RefIdeal.τ).loc Cert.Norm0RefIdeal.main_arg4) = m ((c.tc : Thread Cert.Norm0RefIdeal.nD Cert.Norm0RefIdeal.τ).loc Cert.Norm0RefIdeal.main_arg4)
      ∧ r.2.mem ((c.tc : Thread Cert.Norm0RefIdeal.nD Cert.Norm0RefIdeal.τ).loc Cert.Norm0RefIdeal.main_arg5) = m ((c.tc : Thread Cert.Norm0RefIdeal.nD Cert.Norm0RefIdeal.τ).loc Cert.Norm0RefIdeal.main_arg5))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5)
      ∧ r.2.mem ((c.tc : Thread Cert.Norm1.nD Cert.Norm1.τ).loc Cert.Norm1.main_arg6) = m ((c.tc : Thread Cert.Norm1.nD Cert.Norm1.τ).loc Cert.Norm1.main_arg6)
      ∧ r.2.mem ((c.tc : Thread Cert.Norm1.nD Cert.Norm1.τ).loc Cert.Norm1.main_arg7) = m ((c.tc : Thread Cert.Norm1.nD Cert.Norm1.τ).loc Cert.Norm1.main_arg7))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6)
      ∧ r.2.mem ((c.tc : Thread Cert.Norm1Ideal.nD Cert.Norm1Ideal.τ).loc Cert.Norm1Ideal.main_arg7) = m ((c.tc : Thread Cert.Norm1Ideal.nD Cert.Norm1Ideal.τ).loc Cert.Norm1Ideal.main_arg7))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6)
      ∧ r.2.mem ((c.tc : Thread Cert.Norm1Ideal.nD Cert.Norm1Ideal.τ).loc Cert.Norm1Ideal.main_arg7) = m ((c.tc : Thread Cert.Norm1Ideal.nD Cert.Norm1Ideal.τ).loc Cert.Norm1Ideal.main_arg7))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6)
      ∧ r.2.mem ((c.tc : Thread Cert.Norm1RefIdeal.nD Cert.Norm1RefIdeal.τ).loc Cert.Norm1RefIdeal.main_arg7) = m ((c.tc : Thread Cert.Norm1RefIdeal.nD Cert.Norm1RefIdeal.τ).loc Cert.Norm1RefIdeal.main_arg7))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6)
      ∧ r.2.mem ((c.tc : Thread Cert.Norm1RefIdeal.nD Cert.Norm1RefIdeal.τ).loc Cert.Norm1RefIdeal.main_arg7) = m ((c.tc : Thread Cert.Norm1RefIdeal.nD Cert.Norm1RefIdeal.τ).loc Cert.Norm1RefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_DevSum [hDevSum : Cert.DevSum.Facts] : Prop :=
  ∀ (m : (ℓ : Loc Cert.DevSum.nD Cert.DevSum.τ Cert.DevSum.sig) → Buf (Elt Bits) ℓ) (g : Dev Cert.DevSum.nD → PrngReg), Pre_DevSum m →
    θ_run (Cert.DevSum.defs (F := Bits)) (onTc (τ := Cert.DevSum.τ) (Cert.DevSum.main (F := Bits))) ⟨m, fun _ => 0, g⟩ (fun r => (∀ c : Dev Cert.DevSum.nD,
      r.2.mem ((c.tc : Thread Cert.DevSum.nD Cert.DevSum.τ).loc Cert.DevSum.main_arg0) = m ((c.tc : Thread Cert.DevSum.nD Cert.DevSum.τ).loc Cert.DevSum.main_arg0))
      ∧ r.2.sem = fun _ => 0)

def quiescent_DevSumIdeal [hDevSumIdeal : Cert.DevSumIdeal.Facts] : Prop :=
  ∀ (m : (ℓ : Loc Cert.DevSumIdeal.nD Cert.DevSumIdeal.τ Cert.DevSumIdeal.sig) → Buf (Elt Ideal) ℓ) (g : Dev Cert.DevSumIdeal.nD → PrngReg), Pre_DevSumIdeal m →
    θ_run (Cert.DevSumIdeal.defs (F := Ideal)) (onTc (τ := Cert.DevSumIdeal.τ) (Cert.DevSumIdeal.main (F := Ideal))) ⟨m, fun _ => 0, g⟩ (fun r => (∀ c : Dev Cert.DevSumIdeal.nD,
      r.2.mem ((c.tc : Thread Cert.DevSumIdeal.nD Cert.DevSumIdeal.τ).loc Cert.DevSumIdeal.main_arg0) = m ((c.tc : Thread Cert.DevSumIdeal.nD Cert.DevSumIdeal.τ).loc Cert.DevSumIdeal.main_arg0))
      ∧ r.2.sem = fun _ => 0)

def quiescent_DevSumRefIdeal [hDevSumRefIdeal : Cert.DevSumRefIdeal.Facts] : Prop :=
  ∀ (m : (ℓ : Loc Cert.DevSumRefIdeal.nD Cert.DevSumRefIdeal.τ Cert.DevSumRefIdeal.sig) → Buf (Elt Ideal) ℓ) (g : Dev Cert.DevSumRefIdeal.nD → PrngReg), Pre_DevSumRefIdeal m →
    θ_run (Cert.DevSumRefIdeal.defs (F := Ideal)) (onTc (τ := Cert.DevSumRefIdeal.τ) (Cert.DevSumRefIdeal.main (F := Ideal))) ⟨m, fun _ => 0, g⟩ (fun r => (∀ c : Dev Cert.DevSumRefIdeal.nD,
      r.2.mem ((c.tc : Thread Cert.DevSumRefIdeal.nD Cert.DevSumRefIdeal.τ).loc Cert.DevSumRefIdeal.main_arg0) = m ((c.tc : Thread Cert.DevSumRefIdeal.nD Cert.DevSumRefIdeal.τ).loc Cert.DevSumRefIdeal.main_arg0))
      ∧ r.2.sem = fun _ => 0)

def quiescent_Adw [hAdw : Cert.Adw.Facts] : Prop :=
  ∀ (m : (ℓ : Loc Cert.Adw.nD Cert.Adw.τ Cert.Adw.sig) → Buf (Elt Bits) ℓ) (g : Dev Cert.Adw.nD → PrngReg), Pre_Adw m →
    θ_run (Cert.Adw.defs (F := Bits)) (onTc (τ := Cert.Adw.τ) (Cert.Adw.main (F := Bits))) ⟨m, fun _ => 0, g⟩ (fun r => (∀ c : Dev Cert.Adw.nD,
      r.2.mem ((c.tc : Thread Cert.Adw.nD Cert.Adw.τ).loc Cert.Adw.main_arg0) = m ((c.tc : Thread Cert.Adw.nD Cert.Adw.τ).loc Cert.Adw.main_arg0)
      ∧ r.2.mem ((c.tc : Thread Cert.Adw.nD Cert.Adw.τ).loc Cert.Adw.main_arg1) = m ((c.tc : Thread Cert.Adw.nD Cert.Adw.τ).loc Cert.Adw.main_arg1)
      ∧ r.2.mem ((c.tc : Thread Cert.Adw.nD Cert.Adw.τ).loc Cert.Adw.main_arg2) = m ((c.tc : Thread Cert.Adw.nD Cert.Adw.τ).loc Cert.Adw.main_arg2)
      ∧ r.2.mem ((c.tc : Thread Cert.Adw.nD Cert.Adw.τ).loc Cert.Adw.main_arg3) = m ((c.tc : Thread Cert.Adw.nD Cert.Adw.τ).loc Cert.Adw.main_arg3))
      ∧ r.2.sem = fun _ => 0)

def quiescent_AdwIdeal [hAdwIdeal : Cert.AdwIdeal.Facts] : Prop :=
  ∀ (m : (ℓ : Loc Cert.AdwIdeal.nD Cert.AdwIdeal.τ Cert.AdwIdeal.sig) → Buf (Elt Ideal) ℓ) (g : Dev Cert.AdwIdeal.nD → PrngReg), Pre_AdwIdeal m →
    θ_run (Cert.AdwIdeal.defs (F := Ideal)) (onTc (τ := Cert.AdwIdeal.τ) (Cert.AdwIdeal.main (F := Ideal))) ⟨m, fun _ => 0, g⟩ (fun r => (∀ c : Dev Cert.AdwIdeal.nD,
      r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
      ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
      ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
      ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ r.2.sem = fun _ => 0)

def quiescent_AdwRefIdeal [hAdwRefIdeal : Cert.AdwRefIdeal.Facts] : Prop :=
  ∀ (m : (ℓ : Loc Cert.AdwRefIdeal.nD Cert.AdwRefIdeal.τ Cert.AdwRefIdeal.sig) → Buf (Elt Ideal) ℓ) (g : Dev Cert.AdwRefIdeal.nD → PrngReg), Pre_AdwRefIdeal m →
    θ_run (Cert.AdwRefIdeal.defs (F := Ideal)) (onTc (τ := Cert.AdwRefIdeal.τ) (Cert.AdwRefIdeal.main (F := Ideal))) ⟨m, fun _ => 0, g⟩ (fun r => (∀ c : Dev Cert.AdwRefIdeal.nD,
      r.2.mem ((c.tc : Thread Cert.AdwRefIdeal.nD Cert.AdwRefIdeal.τ).loc Cert.AdwRefIdeal.main_arg0) = m ((c.tc : Thread Cert.AdwRefIdeal.nD Cert.AdwRefIdeal.τ).loc Cert.AdwRefIdeal.main_arg0)
      ∧ r.2.mem ((c.tc : Thread Cert.AdwRefIdeal.nD Cert.AdwRefIdeal.τ).loc Cert.AdwRefIdeal.main_arg1) = m ((c.tc : Thread Cert.AdwRefIdeal.nD Cert.AdwRefIdeal.τ).loc Cert.AdwRefIdeal.main_arg1)
      ∧ r.2.mem ((c.tc : Thread Cert.AdwRefIdeal.nD Cert.AdwRefIdeal.τ).loc Cert.AdwRefIdeal.main_arg2) = m ((c.tc : Thread Cert.AdwRefIdeal.nD Cert.AdwRefIdeal.τ).loc Cert.AdwRefIdeal.main_arg2)
      ∧ r.2.mem ((c.tc : Thread Cert.AdwRefIdeal.nD Cert.AdwRefIdeal.τ).loc Cert.AdwRefIdeal.main_arg3) = m ((c.tc : Thread Cert.AdwRefIdeal.nD Cert.AdwRefIdeal.τ).loc Cert.AdwRefIdeal.main_arg3))
      ∧ r.2.sem = fun _ => 0)

def quiescent_Adr [hAdr : Cert.Adr.Facts] : Prop :=
  ∀ (m : (ℓ : Loc Cert.Adr.nD Cert.Adr.τ Cert.Adr.sig) → Buf (Elt Bits) ℓ) (g : Dev Cert.Adr.nD → PrngReg), Pre_Adr m →
    θ_run (Cert.Adr.defs (F := Bits)) (onTc (τ := Cert.Adr.τ) (Cert.Adr.main (F := Bits))) ⟨m, fun _ => 0, g⟩ (fun r => (∀ c : Dev Cert.Adr.nD,
      r.2.mem ((c.tc : Thread Cert.Adr.nD Cert.Adr.τ).loc Cert.Adr.main_arg0) = m ((c.tc : Thread Cert.Adr.nD Cert.Adr.τ).loc Cert.Adr.main_arg0)
      ∧ r.2.mem ((c.tc : Thread Cert.Adr.nD Cert.Adr.τ).loc Cert.Adr.main_arg1) = m ((c.tc : Thread Cert.Adr.nD Cert.Adr.τ).loc Cert.Adr.main_arg1)
      ∧ r.2.mem ((c.tc : Thread Cert.Adr.nD Cert.Adr.τ).loc Cert.Adr.main_arg2) = m ((c.tc : Thread Cert.Adr.nD Cert.Adr.τ).loc Cert.Adr.main_arg2)
      ∧ r.2.mem ((c.tc : Thread Cert.Adr.nD Cert.Adr.τ).loc Cert.Adr.main_arg3) = m ((c.tc : Thread Cert.Adr.nD Cert.Adr.τ).loc Cert.Adr.main_arg3)
      ∧ r.2.mem ((c.tc : Thread Cert.Adr.nD Cert.Adr.τ).loc Cert.Adr.main_arg4) = m ((c.tc : Thread Cert.Adr.nD Cert.Adr.τ).loc Cert.Adr.main_arg4)
      ∧ r.2.mem ((c.tc : Thread Cert.Adr.nD Cert.Adr.τ).loc Cert.Adr.main_arg5) = m ((c.tc : Thread Cert.Adr.nD Cert.Adr.τ).loc Cert.Adr.main_arg5))
      ∧ r.2.sem = fun _ => 0)

def quiescent_AdrIdeal [hAdrIdeal : Cert.AdrIdeal.Facts] : Prop :=
  ∀ (m : (ℓ : Loc Cert.AdrIdeal.nD Cert.AdrIdeal.τ Cert.AdrIdeal.sig) → Buf (Elt Ideal) ℓ) (g : Dev Cert.AdrIdeal.nD → PrngReg), Pre_AdrIdeal m →
    θ_run (Cert.AdrIdeal.defs (F := Ideal)) (onTc (τ := Cert.AdrIdeal.τ) (Cert.AdrIdeal.main (F := Ideal))) ⟨m, fun _ => 0, g⟩ (fun r => (∀ c : Dev Cert.AdrIdeal.nD,
      r.2.mem ((c.tc : Thread Cert.AdrIdeal.nD Cert.AdrIdeal.τ).loc Cert.AdrIdeal.main_arg0) = m ((c.tc : Thread Cert.AdrIdeal.nD Cert.AdrIdeal.τ).loc Cert.AdrIdeal.main_arg0)
      ∧ r.2.mem ((c.tc : Thread Cert.AdrIdeal.nD Cert.AdrIdeal.τ).loc Cert.AdrIdeal.main_arg1) = m ((c.tc : Thread Cert.AdrIdeal.nD Cert.AdrIdeal.τ).loc Cert.AdrIdeal.main_arg1)
      ∧ r.2.mem ((c.tc : Thread Cert.AdrIdeal.nD Cert.AdrIdeal.τ).loc Cert.AdrIdeal.main_arg2) = m ((c.tc : Thread Cert.AdrIdeal.nD Cert.AdrIdeal.τ).loc Cert.AdrIdeal.main_arg2)
      ∧ r.2.mem ((c.tc : Thread Cert.AdrIdeal.nD Cert.AdrIdeal.τ).loc Cert.AdrIdeal.main_arg3) = m ((c.tc : Thread Cert.AdrIdeal.nD Cert.AdrIdeal.τ).loc Cert.AdrIdeal.main_arg3)
      ∧ r.2.mem ((c.tc : Thread Cert.AdrIdeal.nD Cert.AdrIdeal.τ).loc Cert.AdrIdeal.main_arg4) = m ((c.tc : Thread Cert.AdrIdeal.nD Cert.AdrIdeal.τ).loc Cert.AdrIdeal.main_arg4)
      ∧ r.2.mem ((c.tc : Thread Cert.AdrIdeal.nD Cert.AdrIdeal.τ).loc Cert.AdrIdeal.main_arg5) = m ((c.tc : Thread Cert.AdrIdeal.nD Cert.AdrIdeal.τ).loc Cert.AdrIdeal.main_arg5))
      ∧ r.2.sem = fun _ => 0)

def quiescent_AdrRefIdeal [hAdrRefIdeal : Cert.AdrRefIdeal.Facts] : Prop :=
  ∀ (m : (ℓ : Loc Cert.AdrRefIdeal.nD Cert.AdrRefIdeal.τ Cert.AdrRefIdeal.sig) → Buf (Elt Ideal) ℓ) (g : Dev Cert.AdrRefIdeal.nD → PrngReg), Pre_AdrRefIdeal m →
    θ_run (Cert.AdrRefIdeal.defs (F := Ideal)) (onTc (τ := Cert.AdrRefIdeal.τ) (Cert.AdrRefIdeal.main (F := Ideal))) ⟨m, fun _ => 0, g⟩ (fun r => (∀ c : Dev Cert.AdrRefIdeal.nD,
      r.2.mem ((c.tc : Thread Cert.AdrRefIdeal.nD Cert.AdrRefIdeal.τ).loc Cert.AdrRefIdeal.main_arg0) = m ((c.tc : Thread Cert.AdrRefIdeal.nD Cert.AdrRefIdeal.τ).loc Cert.AdrRefIdeal.main_arg0)
      ∧ r.2.mem ((c.tc : Thread Cert.AdrRefIdeal.nD Cert.AdrRefIdeal.τ).loc Cert.AdrRefIdeal.main_arg1) = m ((c.tc : Thread Cert.AdrRefIdeal.nD Cert.AdrRefIdeal.τ).loc Cert.AdrRefIdeal.main_arg1)
      ∧ r.2.mem ((c.tc : Thread Cert.AdrRefIdeal.nD Cert.AdrRefIdeal.τ).loc Cert.AdrRefIdeal.main_arg2) = m ((c.tc : Thread Cert.AdrRefIdeal.nD Cert.AdrRefIdeal.τ).loc Cert.AdrRefIdeal.main_arg2)
      ∧ r.2.mem ((c.tc : Thread Cert.AdrRefIdeal.nD Cert.AdrRefIdeal.τ).loc Cert.AdrRefIdeal.main_arg3) = m ((c.tc : Thread Cert.AdrRefIdeal.nD Cert.AdrRefIdeal.τ).loc Cert.AdrRefIdeal.main_arg3)
      ∧ r.2.mem ((c.tc : Thread Cert.AdrRefIdeal.nD Cert.AdrRefIdeal.τ).loc Cert.AdrRefIdeal.main_arg4) = m ((c.tc : Thread Cert.AdrRefIdeal.nD Cert.AdrRefIdeal.τ).loc Cert.AdrRefIdeal.main_arg4)
      ∧ r.2.mem ((c.tc : Thread Cert.AdrRefIdeal.nD Cert.AdrRefIdeal.τ).loc Cert.AdrRefIdeal.main_arg5) = m ((c.tc : Thread Cert.AdrRefIdeal.nD Cert.AdrRefIdeal.τ).loc Cert.AdrRefIdeal.main_arg5))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_MmTnG [hMmTnG : Cert.MmTnG.Facts] : Prop :=
  ∀ (m : (ℓ : Loc Cert.MmTnG.nD Cert.MmTnG.τ Cert.MmTnG.sig) → Buf (Elt Bits) ℓ) (g : Dev Cert.MmTnG.nD → PrngReg), Pre_MmTnG m →
    θ_run (Cert.MmTnG.defs (F := Bits)) (onTc (τ := Cert.MmTnG.τ) (Cert.MmTnG.main (F := Bits))) ⟨m, fun _ => 0, g⟩ (fun r => (∀ c : Dev Cert.MmTnG.nD,
      r.2.mem ((c.tc : Thread Cert.MmTnG.nD Cert.MmTnG.τ).loc Cert.MmTnG.main_arg0) = m ((c.tc : Thread Cert.MmTnG.nD Cert.MmTnG.τ).loc Cert.MmTnG.main_arg0)
      ∧ r.2.mem ((c.tc : Thread Cert.MmTnG.nD Cert.MmTnG.τ).loc Cert.MmTnG.main_arg1) = m ((c.tc : Thread Cert.MmTnG.nD Cert.MmTnG.τ).loc Cert.MmTnG.main_arg1))
      ∧ r.2.sem = fun _ => 0)

def quiescent_MmTnGIdeal [hMmTnGIdeal : Cert.MmTnGIdeal.Facts] : Prop :=
  ∀ (m : (ℓ : Loc Cert.MmTnGIdeal.nD Cert.MmTnGIdeal.τ Cert.MmTnGIdeal.sig) → Buf (Elt Ideal) ℓ) (g : Dev Cert.MmTnGIdeal.nD → PrngReg), Pre_MmTnGIdeal m →
    θ_run (Cert.MmTnGIdeal.defs (F := Ideal)) (onTc (τ := Cert.MmTnGIdeal.τ) (Cert.MmTnGIdeal.main (F := Ideal))) ⟨m, fun _ => 0, g⟩ (fun r => (∀ c : Dev Cert.MmTnGIdeal.nD,
      r.2.mem ((c.tc : Thread Cert.MmTnGIdeal.nD Cert.MmTnGIdeal.τ).loc Cert.MmTnGIdeal.main_arg0) = m ((c.tc : Thread Cert.MmTnGIdeal.nD Cert.MmTnGIdeal.τ).loc Cert.MmTnGIdeal.main_arg0)
      ∧ r.2.mem ((c.tc : Thread Cert.MmTnGIdeal.nD Cert.MmTnGIdeal.τ).loc Cert.MmTnGIdeal.main_arg1) = m ((c.tc : Thread Cert.MmTnGIdeal.nD Cert.MmTnGIdeal.τ).loc Cert.MmTnGIdeal.main_arg1))
      ∧ r.2.sem = fun _ => 0)

def quiescent_MmTnGRefIdeal [hMmTnGRefIdeal : Cert.MmTnGRefIdeal.Facts] : Prop :=
  ∀ (m : (ℓ : Loc Cert.MmTnGRefIdeal.nD Cert.MmTnGRefIdeal.τ Cert.MmTnGRefIdeal.sig) → Buf (Elt Ideal) ℓ) (g : Dev Cert.MmTnGRefIdeal.nD → PrngReg), Pre_MmTnGRefIdeal m →
    θ_run (Cert.MmTnGRefIdeal.defs (F := Ideal)) (onTc (τ := Cert.MmTnGRefIdeal.τ) (Cert.MmTnGRefIdeal.main (F := Ideal))) ⟨m, fun _ => 0, g⟩ (fun r => (∀ c : Dev Cert.MmTnGRefIdeal.nD,
      r.2.mem ((c.tc : Thread Cert.MmTnGRefIdeal.nD Cert.MmTnGRefIdeal.τ).loc Cert.MmTnGRefIdeal.main_arg0) = m ((c.tc : Thread Cert.MmTnGRefIdeal.nD Cert.MmTnGRefIdeal.τ).loc Cert.MmTnGRefIdeal.main_arg0)
      ∧ r.2.mem ((c.tc : Thread Cert.MmTnGRefIdeal.nD Cert.MmTnGRefIdeal.τ).loc Cert.MmTnGRefIdeal.main_arg1) = m ((c.tc : Thread Cert.MmTnGRefIdeal.nD Cert.MmTnGRefIdeal.τ).loc Cert.MmTnGRefIdeal.main_arg1))
      ∧ r.2.sem = fun _ => 0)

def quiescent_MmProjG [hMmProjG : Cert.MmProjG.Facts] : Prop :=
  ∀ (m : (ℓ : Loc Cert.MmProjG.nD Cert.MmProjG.τ Cert.MmProjG.sig) → Buf (Elt Bits) ℓ) (g : Dev Cert.MmProjG.nD → PrngReg), Pre_MmProjG m →
    θ_run (Cert.MmProjG.defs (F := Bits)) (onTc (τ := Cert.MmProjG.τ) (Cert.MmProjG.main (F := Bits))) ⟨m, fun _ => 0, g⟩ (fun r => (∀ c : Dev Cert.MmProjG.nD,
      r.2.mem ((c.tc : Thread Cert.MmProjG.nD Cert.MmProjG.τ).loc Cert.MmProjG.main_arg0) = m ((c.tc : Thread Cert.MmProjG.nD Cert.MmProjG.τ).loc Cert.MmProjG.main_arg0)
      ∧ r.2.mem ((c.tc : Thread Cert.MmProjG.nD Cert.MmProjG.τ).loc Cert.MmProjG.main_arg1) = m ((c.tc : Thread Cert.MmProjG.nD Cert.MmProjG.τ).loc Cert.MmProjG.main_arg1)
      ∧ r.2.mem ((c.tc : Thread Cert.MmProjG.nD Cert.MmProjG.τ).loc Cert.MmProjG.main_arg2) = m ((c.tc : Thread Cert.MmProjG.nD Cert.MmProjG.τ).loc Cert.MmProjG.main_arg2))
      ∧ r.2.sem = fun _ => 0)

def quiescent_MmProjGIdeal [hMmProjGIdeal : Cert.MmProjGIdeal.Facts] : Prop :=
  ∀ (m : (ℓ : Loc Cert.MmProjGIdeal.nD Cert.MmProjGIdeal.τ Cert.MmProjGIdeal.sig) → Buf (Elt Ideal) ℓ) (g : Dev Cert.MmProjGIdeal.nD → PrngReg), Pre_MmProjGIdeal m →
    θ_run (Cert.MmProjGIdeal.defs (F := Ideal)) (onTc (τ := Cert.MmProjGIdeal.τ) (Cert.MmProjGIdeal.main (F := Ideal))) ⟨m, fun _ => 0, g⟩ (fun r => (∀ c : Dev Cert.MmProjGIdeal.nD,
      r.2.mem ((c.tc : Thread Cert.MmProjGIdeal.nD Cert.MmProjGIdeal.τ).loc Cert.MmProjGIdeal.main_arg0) = m ((c.tc : Thread Cert.MmProjGIdeal.nD Cert.MmProjGIdeal.τ).loc Cert.MmProjGIdeal.main_arg0)
      ∧ r.2.mem ((c.tc : Thread Cert.MmProjGIdeal.nD Cert.MmProjGIdeal.τ).loc Cert.MmProjGIdeal.main_arg1) = m ((c.tc : Thread Cert.MmProjGIdeal.nD Cert.MmProjGIdeal.τ).loc Cert.MmProjGIdeal.main_arg1)
      ∧ r.2.mem ((c.tc : Thread Cert.MmProjGIdeal.nD Cert.MmProjGIdeal.τ).loc Cert.MmProjGIdeal.main_arg2) = m ((c.tc : Thread Cert.MmProjGIdeal.nD Cert.MmProjGIdeal.τ).loc Cert.MmProjGIdeal.main_arg2))
      ∧ r.2.sem = fun _ => 0)

def quiescent_MmProjGRefIdeal [hMmProjGRefIdeal : Cert.MmProjGRefIdeal.Facts] : Prop :=
  ∀ (m : (ℓ : Loc Cert.MmProjGRefIdeal.nD Cert.MmProjGRefIdeal.τ Cert.MmProjGRefIdeal.sig) → Buf (Elt Ideal) ℓ) (g : Dev Cert.MmProjGRefIdeal.nD → PrngReg), Pre_MmProjGRefIdeal m →
    θ_run (Cert.MmProjGRefIdeal.defs (F := Ideal)) (onTc (τ := Cert.MmProjGRefIdeal.τ) (Cert.MmProjGRefIdeal.main (F := Ideal))) ⟨m, fun _ => 0, g⟩ (fun r => (∀ c : Dev Cert.MmProjGRefIdeal.nD,
      r.2.mem ((c.tc : Thread Cert.MmProjGRefIdeal.nD Cert.MmProjGRefIdeal.τ).loc Cert.MmProjGRefIdeal.main_arg0) = m ((c.tc : Thread Cert.MmProjGRefIdeal.nD Cert.MmProjGRefIdeal.τ).loc Cert.MmProjGRefIdeal.main_arg0)
      ∧ r.2.mem ((c.tc : Thread Cert.MmProjGRefIdeal.nD Cert.MmProjGRefIdeal.τ).loc Cert.MmProjGRefIdeal.main_arg1) = m ((c.tc : Thread Cert.MmProjGRefIdeal.nD Cert.MmProjGRefIdeal.τ).loc Cert.MmProjGRefIdeal.main_arg1)
      ∧ r.2.mem ((c.tc : Thread Cert.MmProjGRefIdeal.nD Cert.MmProjGRefIdeal.τ).loc Cert.MmProjGRefIdeal.main_arg2) = m ((c.tc : Thread Cert.MmProjGRefIdeal.nD Cert.MmProjGRefIdeal.τ).loc Cert.MmProjGRefIdeal.main_arg2))
      ∧ r.2.sem = fun _ => 0)

def quiescent_AdrSc [hAdrSc : Cert.AdrSc.Facts] : Prop :=
  ∀ (m : (ℓ : Loc Cert.AdrSc.nD Cert.AdrSc.τ Cert.AdrSc.sig) → Buf (Elt Bits) ℓ) (g : Dev Cert.AdrSc.nD → PrngReg), Pre_AdrSc m →
    θ_run (Cert.AdrSc.defs (F := Bits)) (onTc (τ := Cert.AdrSc.τ) (Cert.AdrSc.main (F := Bits))) ⟨m, fun _ => 0, g⟩ (fun r => (∀ c : Dev Cert.AdrSc.nD,
      r.2.mem ((c.tc : Thread Cert.AdrSc.nD Cert.AdrSc.τ).loc Cert.AdrSc.main_arg0) = m ((c.tc : Thread Cert.AdrSc.nD Cert.AdrSc.τ).loc Cert.AdrSc.main_arg0)
      ∧ r.2.mem ((c.tc : Thread Cert.AdrSc.nD Cert.AdrSc.τ).loc Cert.AdrSc.main_arg1) = m ((c.tc : Thread Cert.AdrSc.nD Cert.AdrSc.τ).loc Cert.AdrSc.main_arg1)
      ∧ r.2.mem ((c.tc : Thread Cert.AdrSc.nD Cert.AdrSc.τ).loc Cert.AdrSc.main_arg2) = m ((c.tc : Thread Cert.AdrSc.nD Cert.AdrSc.τ).loc Cert.AdrSc.main_arg2)
      ∧ r.2.mem ((c.tc : Thread Cert.AdrSc.nD Cert.AdrSc.τ).loc Cert.AdrSc.main_arg3) = m ((c.tc : Thread Cert.AdrSc.nD Cert.AdrSc.τ).loc Cert.AdrSc.main_arg3)
      ∧ r.2.mem ((c.tc : Thread Cert.AdrSc.nD Cert.AdrSc.τ).loc Cert.AdrSc.main_arg4) = m ((c.tc : Thread Cert.AdrSc.nD Cert.AdrSc.τ).loc Cert.AdrSc.main_arg4)
      ∧ r.2.mem ((c.tc : Thread Cert.AdrSc.nD Cert.AdrSc.τ).loc Cert.AdrSc.main_arg5) = m ((c.tc : Thread Cert.AdrSc.nD Cert.AdrSc.τ).loc Cert.AdrSc.main_arg5)
      ∧ r.2.mem ((c.tc : Thread Cert.AdrSc.nD Cert.AdrSc.τ).loc Cert.AdrSc.main_arg6) = m ((c.tc : Thread Cert.AdrSc.nD Cert.AdrSc.τ).loc Cert.AdrSc.main_arg6)
      ∧ r.2.mem ((c.tc : Thread Cert.AdrSc.nD Cert.AdrSc.τ).loc Cert.AdrSc.main_arg7) = m ((c.tc : Thread Cert.AdrSc.nD Cert.AdrSc.τ).loc Cert.AdrSc.main_arg7))
      ∧ r.2.sem = fun _ => 0)

def quiescent_AdrScIdeal [hAdrScIdeal : Cert.AdrScIdeal.Facts] : Prop :=
  ∀ (m : (ℓ : Loc Cert.AdrScIdeal.nD Cert.AdrScIdeal.τ Cert.AdrScIdeal.sig) → Buf (Elt Ideal) ℓ) (g : Dev Cert.AdrScIdeal.nD → PrngReg), Pre_AdrScIdeal m →
    θ_run (Cert.AdrScIdeal.defs (F := Ideal)) (onTc (τ := Cert.AdrScIdeal.τ) (Cert.AdrScIdeal.main (F := Ideal))) ⟨m, fun _ => 0, g⟩ (fun r => (∀ c : Dev Cert.AdrScIdeal.nD,
      r.2.mem ((c.tc : Thread Cert.AdrScIdeal.nD Cert.AdrScIdeal.τ).loc Cert.AdrScIdeal.main_arg0) = m ((c.tc : Thread Cert.AdrScIdeal.nD Cert.AdrScIdeal.τ).loc Cert.AdrScIdeal.main_arg0)
      ∧ r.2.mem ((c.tc : Thread Cert.AdrScIdeal.nD Cert.AdrScIdeal.τ).loc Cert.AdrScIdeal.main_arg1) = m ((c.tc : Thread Cert.AdrScIdeal.nD Cert.AdrScIdeal.τ).loc Cert.AdrScIdeal.main_arg1)
      ∧ r.2.mem ((c.tc : Thread Cert.AdrScIdeal.nD Cert.AdrScIdeal.τ).loc Cert.AdrScIdeal.main_arg2) = m ((c.tc : Thread Cert.AdrScIdeal.nD Cert.AdrScIdeal.τ).loc Cert.AdrScIdeal.main_arg2)
      ∧ r.2.mem ((c.tc : Thread Cert.AdrScIdeal.nD Cert.AdrScIdeal.τ).loc Cert.AdrScIdeal.main_arg3) = m ((c.tc : Thread Cert.AdrScIdeal.nD Cert.AdrScIdeal.τ).loc Cert.AdrScIdeal.main_arg3)
      ∧ r.2.mem ((c.tc : Thread Cert.AdrScIdeal.nD Cert.AdrScIdeal.τ).loc Cert.AdrScIdeal.main_arg4) = m ((c.tc : Thread Cert.AdrScIdeal.nD Cert.AdrScIdeal.τ).loc Cert.AdrScIdeal.main_arg4)
      ∧ r.2.mem ((c.tc : Thread Cert.AdrScIdeal.nD Cert.AdrScIdeal.τ).loc Cert.AdrScIdeal.main_arg5) = m ((c.tc : Thread Cert.AdrScIdeal.nD Cert.AdrScIdeal.τ).loc Cert.AdrScIdeal.main_arg5)
      ∧ r.2.mem ((c.tc : Thread Cert.AdrScIdeal.nD Cert.AdrScIdeal.τ).loc Cert.AdrScIdeal.main_arg6) = m ((c.tc : Thread Cert.AdrScIdeal.nD Cert.AdrScIdeal.τ).loc Cert.AdrScIdeal.main_arg6)
      ∧ r.2.mem ((c.tc : Thread Cert.AdrScIdeal.nD Cert.AdrScIdeal.τ).loc Cert.AdrScIdeal.main_arg7) = m ((c.tc : Thread Cert.AdrScIdeal.nD Cert.AdrScIdeal.τ).loc Cert.AdrScIdeal.main_arg7))
      ∧ r.2.sem = fun _ => 0)

def quiescent_AdrScRefIdeal [hAdrScRefIdeal : Cert.AdrScRefIdeal.Facts] : Prop :=
  ∀ (m : (ℓ : Loc Cert.AdrScRefIdeal.nD Cert.AdrScRefIdeal.τ Cert.AdrScRefIdeal.sig) → Buf (Elt Ideal) ℓ) (g : Dev Cert.AdrScRefIdeal.nD → PrngReg), Pre_AdrScRefIdeal m →
    θ_run (Cert.AdrScRefIdeal.defs (F := Ideal)) (onTc (τ := Cert.AdrScRefIdeal.τ) (Cert.AdrScRefIdeal.main (F := Ideal))) ⟨m, fun _ => 0, g⟩ (fun r => (∀ c : Dev Cert.AdrScRefIdeal.nD,
      r.2.mem ((c.tc : Thread Cert.AdrScRefIdeal.nD Cert.AdrScRefIdeal.τ).loc Cert.AdrScRefIdeal.main_arg0) = m ((c.tc : Thread Cert.AdrScRefIdeal.nD Cert.AdrScRefIdeal.τ).loc Cert.AdrScRefIdeal.main_arg0)
      ∧ r.2.mem ((c.tc : Thread Cert.AdrScRefIdeal.nD Cert.AdrScRefIdeal.τ).loc Cert.AdrScRefIdeal.main_arg1) = m ((c.tc : Thread Cert.AdrScRefIdeal.nD Cert.AdrScRefIdeal.τ).loc Cert.AdrScRefIdeal.main_arg1)
      ∧ r.2.mem ((c.tc : Thread Cert.AdrScRefIdeal.nD Cert.AdrScRefIdeal.τ).loc Cert.AdrScRefIdeal.main_arg2) = m ((c.tc : Thread Cert.AdrScRefIdeal.nD Cert.AdrScRefIdeal.τ).loc Cert.AdrScRefIdeal.main_arg2)
      ∧ r.2.mem ((c.tc : Thread Cert.AdrScRefIdeal.nD Cert.AdrScRefIdeal.τ).loc Cert.AdrScRefIdeal.main_arg3) = m ((c.tc : Thread Cert.AdrScRefIdeal.nD Cert.AdrScRefIdeal.τ).loc Cert.AdrScRefIdeal.main_arg3)
      ∧ r.2.mem ((c.tc : Thread Cert.AdrScRefIdeal.nD Cert.AdrScRefIdeal.τ).loc Cert.AdrScRefIdeal.main_arg4) = m ((c.tc : Thread Cert.AdrScRefIdeal.nD Cert.AdrScRefIdeal.τ).loc Cert.AdrScRefIdeal.main_arg4)
      ∧ r.2.mem ((c.tc : Thread Cert.AdrScRefIdeal.nD Cert.AdrScRefIdeal.τ).loc Cert.AdrScRefIdeal.main_arg5) = m ((c.tc : Thread Cert.AdrScRefIdeal.nD Cert.AdrScRefIdeal.τ).loc Cert.AdrScRefIdeal.main_arg5)
      ∧ r.2.mem ((c.tc : Thread Cert.AdrScRefIdeal.nD Cert.AdrScRefIdeal.τ).loc Cert.AdrScRefIdeal.main_arg6) = m ((c.tc : Thread Cert.AdrScRefIdeal.nD Cert.AdrScRefIdeal.τ).loc Cert.AdrScRefIdeal.main_arg6)
      ∧ r.2.mem ((c.tc : Thread Cert.AdrScRefIdeal.nD Cert.AdrScRefIdeal.τ).loc Cert.AdrScRefIdeal.main_arg7) = m ((c.tc : Thread Cert.AdrScRefIdeal.nD Cert.AdrScRefIdeal.τ).loc Cert.AdrScRefIdeal.main_arg7))
      ∧ r.2.sem = fun _ => 0)

def preserves_ScBwd_ScBwdIdeal : Prop :=
  True

def algebraic_ScBwdIdeal_ScRefIdeal_pre_sc_finite [hScBwdIdeal : Cert.ScBwdIdeal.Facts] [hScRefIdeal : Cert.ScRefIdeal.Facts] [hPre_sc_finite : Cert.Pre_sc_finite.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScBwdIdeal_sc_finite m →
    (∀ c : Dev Cert.ScBwdIdeal.nD,
      m' ((c.tc : Thread Cert.ScRefIdeal.nD Cert.ScRefIdeal.τ).loc Cert.ScRefIdeal.main_arg0) = m ((c.tc : Thread Cert.ScBwdIdeal.nD Cert.ScBwdIdeal.τ).loc Cert.ScBwdIdeal.main_arg0)
      ∧ m' ((c.tc : Thread Cert.ScRefIdeal.nD Cert.ScRefIdeal.τ).loc Cert.ScRefIdeal.main_arg1) = m ((c.tc : Thread Cert.ScBwdIdeal.nD Cert.ScBwdIdeal.τ).loc Cert.ScBwdIdeal.main_arg1)
      ∧ m' ((c.tc : Thread Cert.ScRefIdeal.nD Cert.ScRefIdeal.τ).loc Cert.ScRefIdeal.main_arg2) = m ((c.tc : Thread Cert.ScBwdIdeal.nD Cert.ScBwdIdeal.τ).loc Cert.ScBwdIdeal.main_arg2)) →
    ∃ (v0 : (c : Dev Cert.ScBwdIdeal.nD) → Buf (Elt Ideal) ((c.tc : Thread Cert.ScBwdIdeal.nD Cert.ScBwdIdeal.τ).loc Cert.ScBwdIdeal.main_v7_0)) (v1 : (c : Dev Cert.ScBwdIdeal.nD) → Buf (Elt Ideal) ((c.tc : Thread Cert.ScBwdIdeal.nD Cert.ScBwdIdeal.τ).loc Cert.ScBwdIdeal.main_v7_1)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v7_0) = v0 c
          ∧ r.2.mem ((c.tc : Thread Cert.ScBwdIdeal.nD Cert.ScBwdIdeal.τ).loc Cert.ScBwdIdeal.main_v7_1) = v1 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v79) = v0 c
          ∧ r.2.mem ((c.tc : Thread Cert.ScRefIdeal.nD Cert.ScRefIdeal.τ).loc Cert.ScRefIdeal.main_v81) = v1 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2))

def preserves_Lru_LruIdeal : Prop :=
  True

def algebraic_LruIdeal_LruRefIdeal_pre_lru_finite [hLruIdeal : Cert.LruIdeal.Facts] [hLruRefIdeal : Cert.LruRefIdeal.Facts] [hPre_lru_finite : Cert.Pre_lru_finite.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_lru_finite m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v11_0)) (v1 : (c : Dev Cert.LruIdeal.nD) → Buf (Elt Ideal) ((c.tc : Thread Cert.LruIdeal.nD Cert.LruIdeal.τ).loc Cert.LruIdeal.main_v14_0)) (v2 : (c : Dev Cert.LruIdeal.nD) → Buf (Elt Ideal) ((c.tc : Thread Cert.LruIdeal.nD Cert.LruIdeal.τ).loc Cert.LruIdeal.main_v14_1)) (v3 : (c : Dev Cert.LruIdeal.nD) → Buf (Elt Ideal) ((c.tc : Thread Cert.LruIdeal.nD Cert.LruIdeal.τ).loc Cert.LruIdeal.main_v14_2)) (v4 : (c : Dev Cert.LruIdeal.nD) → Buf (Elt Ideal) ((c.tc : Thread Cert.LruIdeal.nD Cert.LruIdeal.τ).loc Cert.LruIdeal.main_v14_3)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v11_0) = v0 c
          ∧ r.2.mem ((c.tc : Thread Cert.LruIdeal.nD Cert.LruIdeal.τ).loc Cert.LruIdeal.main_v14_0) = v1 c
          ∧ r.2.mem ((c.tc : Thread Cert.LruIdeal.nD Cert.LruIdeal.τ).loc Cert.LruIdeal.main_v14_1) = v2 c
          ∧ r.2.mem ((c.tc : Thread Cert.LruIdeal.nD Cert.LruIdeal.τ).loc Cert.LruIdeal.main_v14_2) = v3 c
          ∧ r.2.mem ((c.tc : Thread Cert.LruIdeal.nD Cert.LruIdeal.τ).loc Cert.LruIdeal.main_v14_3) = v4 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v218) = v0 c
          ∧ r.2.mem ((c.tc : Thread Cert.LruRefIdeal.nD Cert.LruRefIdeal.τ).loc Cert.LruRefIdeal.main_v222) = v1 c
          ∧ r.2.mem ((c.tc : Thread Cert.LruRefIdeal.nD Cert.LruRefIdeal.τ).loc Cert.LruRefIdeal.main_v224) = v2 c
          ∧ r.2.mem ((c.tc : Thread Cert.LruRefIdeal.nD Cert.LruRefIdeal.τ).loc Cert.LruRefIdeal.main_v226) = v3 c
          ∧ r.2.mem ((c.tc : Thread Cert.LruRefIdeal.nD Cert.LruRefIdeal.τ).loc Cert.LruRefIdeal.main_v216) = v4 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)) (v2 : (c : Dev Cert.AdaIdeal.nD) → Buf (Elt Ideal) ((c.tc : Thread Cert.AdaIdeal.nD Cert.AdaIdeal.τ).loc Cert.AdaIdeal.main_v1_2)) (v3 : (c : Dev Cert.AdaIdeal.nD) → Buf (Elt Ideal) ((c.tc : Thread Cert.AdaIdeal.nD Cert.AdaIdeal.τ).loc Cert.AdaIdeal.main_v1_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_v1_2) = v2 c
          ∧ r.2.mem ((c.tc : Thread Cert.AdaIdeal.nD Cert.AdaIdeal.τ).loc Cert.AdaIdeal.main_v1_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_v47) = v1 c
          ∧ r.2.mem ((c.tc : Thread Cert.AdaRefIdeal.nD Cert.AdaRefIdeal.τ).loc Cert.AdaRefIdeal.main_v28) = v2 c
          ∧ r.2.mem ((c.tc : Thread Cert.AdaRefIdeal.nD Cert.AdaRefIdeal.τ).loc Cert.AdaRefIdeal.main_v34) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Norm0_Norm0Ideal : Prop :=
  True

def algebraic_Norm0Ideal_Norm0RefIdeal_pre_norm0_finite [hNorm0Ideal : Cert.Norm0Ideal.Facts] [hNorm0RefIdeal : Cert.Norm0RefIdeal.Facts] [hPre_norm0_finite : Cert.Pre_norm0_finite.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.Norm0RefIdeal.nD Cert.Norm0RefIdeal.τ Cert.Norm0RefIdeal.sig) → Buf (Elt Ideal) ℓ) (g' : Dev Cert.Norm0RefIdeal.nD → PrngReg), Pre_Norm0Ideal_norm0_finite m →
    (∀ c : Dev Cert.Norm0Ideal.nD,
      m' ((c.tc : Thread Cert.Norm0RefIdeal.nD Cert.Norm0RefIdeal.τ).loc Cert.Norm0RefIdeal.main_arg0) = m ((c.tc : Thread Cert.Norm0Ideal.nD Cert.Norm0Ideal.τ).loc Cert.Norm0Ideal.main_arg0)
      ∧ m' ((c.tc : Thread Cert.Norm0RefIdeal.nD Cert.Norm0RefIdeal.τ).loc Cert.Norm0RefIdeal.main_arg1) = m ((c.tc : Thread Cert.Norm0Ideal.nD Cert.Norm0Ideal.τ).loc Cert.Norm0Ideal.main_arg1)
      ∧ m' ((c.tc : Thread Cert.Norm0RefIdeal.nD Cert.Norm0RefIdeal.τ).loc Cert.Norm0RefIdeal.main_arg2) = m ((c.tc : Thread Cert.Norm0Ideal.nD Cert.Norm0Ideal.τ).loc Cert.Norm0Ideal.main_arg2)
      ∧ m' ((c.tc : Thread Cert.Norm0RefIdeal.nD Cert.Norm0RefIdeal.τ).loc Cert.Norm0RefIdeal.main_arg3) = m ((c.tc : Thread Cert.Norm0Ideal.nD Cert.Norm0Ideal.τ).loc Cert.Norm0Ideal.main_arg3)
      ∧ m' ((c.tc : Thread Cert.Norm0RefIdeal.nD Cert.Norm0RefIdeal.τ).loc Cert.Norm0RefIdeal.main_arg4) = m ((c.tc : Thread Cert.Norm0Ideal.nD Cert.Norm0Ideal.τ).loc Cert.Norm0Ideal.main_arg4)
      ∧ m' ((c.tc : Thread Cert.Norm0RefIdeal.nD Cert.Norm0RefIdeal.τ).loc Cert.Norm0RefIdeal.main_arg5) = m ((c.tc : Thread Cert.Norm0Ideal.nD Cert.Norm0Ideal.τ).loc Cert.Norm0Ideal.main_arg5)) →
    ∃ (v0 : (c : Dev Cert.Norm0Ideal.nD) → Buf (Elt Ideal) ((c.tc : Thread Cert.Norm0Ideal.nD Cert.Norm0Ideal.τ).loc Cert.Norm0Ideal.main_v5_0)) (v1 : (c : Dev Cert.Norm0Ideal.nD) → Buf (Elt Ideal) ((c.tc : Thread Cert.Norm0Ideal.nD Cert.Norm0Ideal.τ).loc Cert.Norm0Ideal.main_v5_1)) (v2 : (c : Dev Cert.Norm0Ideal.nD) → Buf (Elt Ideal) ((c.tc : Thread Cert.Norm0Ideal.nD Cert.Norm0Ideal.τ).loc Cert.Norm0Ideal.main_v5_2)) (v3 : (c : Dev Cert.Norm0Ideal.nD) → Buf (Elt Ideal) ((c.tc : Thread Cert.Norm0Ideal.nD Cert.Norm0Ideal.τ).loc Cert.Norm0Ideal.main_v5_3)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v5_0) = v0 c
          ∧ r.2.mem ((c.tc : Thread Cert.Norm0Ideal.nD Cert.Norm0Ideal.τ).loc Cert.Norm0Ideal.main_v5_1) = v1 c
          ∧ r.2.mem ((c.tc : Thread Cert.Norm0Ideal.nD Cert.Norm0Ideal.τ).loc Cert.Norm0Ideal.main_v5_2) = v2 c
          ∧ r.2.mem ((c.tc : Thread Cert.Norm0Ideal.nD Cert.Norm0Ideal.τ).loc Cert.Norm0Ideal.main_v5_3) = v3 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1)
          ∧ r.2.mem ((c.tc : Thread Cert.Norm0Ideal.nD Cert.Norm0Ideal.τ).loc Cert.Norm0Ideal.main_arg2) = m ((c.tc : Thread Cert.Norm0Ideal.nD Cert.Norm0Ideal.τ).loc Cert.Norm0Ideal.main_arg2)
          ∧ r.2.mem ((c.tc : Thread Cert.Norm0Ideal.nD Cert.Norm0Ideal.τ).loc Cert.Norm0Ideal.main_arg3) = m ((c.tc : Thread Cert.Norm0Ideal.nD Cert.Norm0Ideal.τ).loc Cert.Norm0Ideal.main_arg3)
          ∧ r.2.mem ((c.tc : Thread Cert.Norm0Ideal.nD Cert.Norm0Ideal.τ).loc Cert.Norm0Ideal.main_arg4) = m ((c.tc : Thread Cert.Norm0Ideal.nD Cert.Norm0Ideal.τ).loc Cert.Norm0Ideal.main_arg4)
          ∧ r.2.mem ((c.tc : Thread Cert.Norm0Ideal.nD Cert.Norm0Ideal.τ).loc Cert.Norm0Ideal.main_arg5) = m ((c.tc : Thread Cert.Norm0Ideal.nD Cert.Norm0Ideal.τ).loc Cert.Norm0Ideal.main_arg5))
      ∧ θ_run (Cert.Norm0RefIdeal.defs (F := Ideal)) (onTc (τ := Cert.Norm0RefIdeal.τ) (Cert.Norm0RefIdeal.main (F := Ideal))) ⟨m', fun _ => 0, g'⟩ (fun r => ∀ c : Dev Cert.Norm0RefIdeal.nD,
          r.2.mem ((c.tc : Thread Cert.Norm0RefIdeal.nD Cert.Norm0RefIdeal.τ).loc Cert.Norm0RefIdeal.main_v58) = v0 c
          ∧ r.2.mem ((c.tc : Thread Cert.Norm0RefIdeal.nD Cert.Norm0RefIdeal.τ).loc Cert.Norm0RefIdeal.main_v35) = v1 c
          ∧ r.2.mem ((c.tc : Thread Cert.Norm0RefIdeal.nD Cert.Norm0RefIdeal.τ).loc Cert.Norm0RefIdeal.main_v28) = v2 c
          ∧ r.2.mem ((c.tc : Thread Cert.Norm0RefIdeal.nD Cert.Norm0RefIdeal.τ).loc Cert.Norm0RefIdeal.main_v59) = v3 c
          ∧ r.2.mem ((c.tc : Thread Cert.Norm0RefIdeal.nD Cert.Norm0RefIdeal.τ).loc Cert.Norm0RefIdeal.main_arg0) = m' ((c.tc : Thread Cert.Norm0RefIdeal.nD Cert.Norm0RefIdeal.τ).loc Cert.Norm0RefIdeal.main_arg0)
          ∧ r.2.mem ((c.tc : Thread Cert.Norm0RefIdeal.nD Cert.Norm0RefIdeal.τ).loc Cert.Norm0RefIdeal.main_arg1) = m' ((c.tc : Thread Cert.Norm0RefIdeal.nD Cert.Norm0RefIdeal.τ).loc Cert.Norm0RefIdeal.main_arg1)
          ∧ r.2.mem ((c.tc : Thread Cert.Norm0RefIdeal.nD Cert.Norm0RefIdeal.τ).loc Cert.Norm0RefIdeal.main_arg2) = m' ((c.tc : Thread Cert.Norm0RefIdeal.nD Cert.Norm0RefIdeal.τ).loc Cert.Norm0RefIdeal.main_arg2)
          ∧ r.2.mem ((c.tc : Thread Cert.Norm0RefIdeal.nD Cert.Norm0RefIdeal.τ).loc Cert.Norm0RefIdeal.main_arg3) = m' ((c.tc : Thread Cert.Norm0RefIdeal.nD Cert.Norm0RefIdeal.τ).loc Cert.Norm0RefIdeal.main_arg3)
          ∧ r.2.mem ((c.tc : Thread Cert.Norm0RefIdeal.nD Cert.Norm0RefIdeal.τ).loc Cert.Norm0RefIdeal.main_arg4) = m' ((c.tc : Thread Cert.Norm0RefIdeal.nD Cert.Norm0RefIdeal.τ).loc Cert.Norm0RefIdeal.main_arg4)
          ∧ r.2.mem ((c.tc : Thread Cert.Norm0RefIdeal.nD Cert.Norm0RefIdeal.τ).loc Cert.Norm0RefIdeal.main_arg5) = m' ((c.tc : Thread Cert.Norm0RefIdeal.nD Cert.Norm0RefIdeal.τ).loc Cert.Norm0RefIdeal.main_arg5))

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)
      ∧ m' ((c.tc : Thread Cert.Norm1RefIdeal.nD Cert.Norm1RefIdeal.τ).loc Cert.Norm1RefIdeal.main_arg6) = m ((c.tc : Thread Cert.Norm1Ideal.nD Cert.Norm1Ideal.τ).loc Cert.Norm1Ideal.main_arg6)
      ∧ m' ((c.tc : Thread Cert.Norm1RefIdeal.nD Cert.Norm1RefIdeal.τ).loc Cert.Norm1RefIdeal.main_arg7) = m ((c.tc : Thread Cert.Norm1Ideal.nD Cert.Norm1Ideal.τ).loc Cert.Norm1Ideal.main_arg7)) →
    ∃ (v0 : (c : Dev Cert.Norm1Ideal.nD) → Buf (Elt Ideal) ((c.tc : Thread Cert.Norm1Ideal.nD Cert.Norm1Ideal.τ).loc Cert.Norm1Ideal.main_v11_0)) (v1 : (c : Dev Cert.Norm1Ideal.nD) → Buf (Elt Ideal) ((c.tc : Thread Cert.Norm1Ideal.nD Cert.Norm1Ideal.τ).loc Cert.Norm1Ideal.main_v11_1)) (v2 : (c : Dev Cert.Norm1Ideal.nD) → Buf (Elt Ideal) ((c.tc : Thread Cert.Norm1Ideal.nD Cert.Norm1Ideal.τ).loc Cert.Norm1Ideal.main_v11_2)) (v3 : (c : Dev Cert.Norm1Ideal.nD) → Buf (Elt Ideal) ((c.tc : Thread Cert.Norm1Ideal.nD Cert.Norm1Ideal.τ).loc Cert.Norm1Ideal.main_v11_3)) (v4 : (c : Dev Cert.Norm1Ideal.nD) → Buf (Elt Ideal) ((c.tc : Thread Cert.Norm1Ideal.nD Cert.Norm1Ideal.τ).loc Cert.Norm1Ideal.main_v11_4)) (v5 : (c : Dev Cert.Norm1Ideal.nD) → Buf (Elt Ideal) ((c.tc : Thread Cert.Norm1Ideal.nD Cert.Norm1Ideal.τ).loc Cert.Norm1Ideal.main_v11_5)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v11_0) = v0 c
          ∧ r.2.mem ((c.tc : Thread Cert.Norm1Ideal.nD Cert.Norm1Ideal.τ).loc Cert.Norm1Ideal.main_v11_1) = v1 c
          ∧ r.2.mem ((c.tc : Thread Cert.Norm1Ideal.nD Cert.Norm1Ideal.τ).loc Cert.Norm1Ideal.main_v11_2) = v2 c
          ∧ r.2.mem ((c.tc : Thread Cert.Norm1Ideal.nD Cert.Norm1Ideal.τ).loc Cert.Norm1Ideal.main_v11_3) = v3 c
          ∧ r.2.mem ((c.tc : Thread Cert.Norm1Ideal.nD Cert.Norm1Ideal.τ).loc Cert.Norm1Ideal.main_v11_4) = v4 c
          ∧ r.2.mem ((c.tc : Thread Cert.Norm1Ideal.nD Cert.Norm1Ideal.τ).loc Cert.Norm1Ideal.main_v11_5) = v5 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
          ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6)
          ∧ r.2.mem ((c.tc : Thread Cert.Norm1Ideal.nD Cert.Norm1Ideal.τ).loc Cert.Norm1Ideal.main_arg7) = m ((c.tc : Thread Cert.Norm1Ideal.nD Cert.Norm1Ideal.τ).loc Cert.Norm1Ideal.main_arg7))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v70) = v0 c
          ∧ r.2.mem ((c.tc : Thread Cert.Norm1RefIdeal.nD Cert.Norm1RefIdeal.τ).loc Cert.Norm1RefIdeal.main_v39) = v1 c
          ∧ r.2.mem ((c.tc : Thread Cert.Norm1RefIdeal.nD Cert.Norm1RefIdeal.τ).loc Cert.Norm1RefIdeal.main_v32) = v2 c
          ∧ r.2.mem ((c.tc : Thread Cert.Norm1RefIdeal.nD Cert.Norm1RefIdeal.τ).loc Cert.Norm1RefIdeal.main_v71) = v3 c
          ∧ r.2.mem ((c.tc : Thread Cert.Norm1RefIdeal.nD Cert.Norm1RefIdeal.τ).loc Cert.Norm1RefIdeal.main_v73) = v4 c
          ∧ r.2.mem ((c.tc : Thread Cert.Norm1RefIdeal.nD Cert.Norm1RefIdeal.τ).loc Cert.Norm1RefIdeal.main_v69) = v5 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5)
          ∧ r.2.mem ((c.tc : Thread Cert.Norm1RefIdeal.nD Cert.Norm1RefIdeal.τ).loc Cert.Norm1RefIdeal.main_arg6) = m' ((c.tc : Thread Cert.Norm1RefIdeal.nD Cert.Norm1RefIdeal.τ).loc Cert.Norm1RefIdeal.main_arg6)
          ∧ r.2.mem ((c.tc : Thread Cert.Norm1RefIdeal.nD Cert.Norm1RefIdeal.τ).loc Cert.Norm1RefIdeal.main_arg7) = m' ((c.tc : Thread Cert.Norm1RefIdeal.nD Cert.Norm1RefIdeal.τ).loc Cert.Norm1RefIdeal.main_arg7))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v9_0)) (v1 : (c : Dev Cert.LossIdeal.nD) → Buf (Elt Ideal) ((c.tc : Thread Cert.LossIdeal.nD Cert.LossIdeal.τ).loc Cert.LossIdeal.main_v9_1)) (v2 : (c : Dev Cert.LossIdeal.nD) → Buf (Elt Ideal) ((c.tc : Thread Cert.LossIdeal.nD Cert.LossIdeal.τ).loc Cert.LossIdeal.main_v9_2)) (v3 : (c : Dev Cert.LossIdeal.nD) → Buf (Elt Ideal) ((c.tc : Thread Cert.LossIdeal.nD Cert.LossIdeal.τ).loc Cert.LossIdeal.main_v9_3)) (v4 : (c : Dev Cert.LossIdeal.nD) → Buf (Elt Ideal) ((c.tc : Thread Cert.LossIdeal.nD Cert.LossIdeal.τ).loc Cert.LossIdeal.main_v9_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v9_0) = v0 c
          ∧ r.2.mem ((c.tc : Thread Cert.LossIdeal.nD Cert.LossIdeal.τ).loc Cert.LossIdeal.main_v9_1) = v1 c
          ∧ r.2.mem ((c.tc : Thread Cert.LossIdeal.nD Cert.LossIdeal.τ).loc Cert.LossIdeal.main_v9_2) = v2 c
          ∧ r.2.mem ((c.tc : Thread Cert.LossIdeal.nD Cert.LossIdeal.τ).loc Cert.LossIdeal.main_v9_3) = v3 c
          ∧ r.2.mem ((c.tc : Thread Cert.LossIdeal.nD Cert.LossIdeal.τ).loc Cert.LossIdeal.main_v9_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v63) = v0 c
          ∧ r.2.mem ((c.tc : Thread Cert.LossRefIdeal.nD Cert.LossRefIdeal.τ).loc Cert.LossRefIdeal.main_v64) = v1 c
          ∧ r.2.mem ((c.tc : Thread Cert.LossRefIdeal.nD Cert.LossRefIdeal.τ).loc Cert.LossRefIdeal.main_v65) = v2 c
          ∧ r.2.mem ((c.tc : Thread Cert.LossRefIdeal.nD Cert.LossRefIdeal.τ).loc Cert.LossRefIdeal.main_v67) = v3 c
          ∧ r.2.mem ((c.tc : Thread Cert.LossRefIdeal.nD Cert.LossRefIdeal.τ).loc Cert.LossRefIdeal.main_v62) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v5)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v5) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v34) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v2)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v2) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v22) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v20) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v4_0)) (v1 : (c : Dev Cert.MmOutIdeal.nD) → Buf (Elt Ideal) ((c.tc : Thread Cert.MmOutIdeal.nD Cert.MmOutIdeal.τ).loc Cert.MmOutIdeal.main_v4_1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v4_0) = v0 c
          ∧ r.2.mem ((c.tc : Thread Cert.MmOutIdeal.nD Cert.MmOutIdeal.τ).loc Cert.MmOutIdeal.main_v4_1) = v1 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v5) = v0 c
          ∧ r.2.mem ((c.tc : Thread Cert.MmOutRefIdeal.nD Cert.MmOutRefIdeal.τ).loc Cert.MmOutRefIdeal.main_v7) = v1 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v5)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v5) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v8) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v7)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v7) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v4) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v6)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v6) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v6) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_DevSum_DevSumIdeal : Prop :=
  True

def algebraic_DevSumIdeal_DevSumRefIdeal [hDevSumIdeal : Cert.DevSumIdeal.Facts] [hDevSumRefIdeal : Cert.DevSumRefIdeal.Facts] : Prop :=
  ∀ (m : (ℓ : Loc Cert.DevSumIdeal.nD Cert.DevSumIdeal.τ Cert.DevSumIdeal.sig) → Buf (Elt Ideal) ℓ) (g : Dev Cert.DevSumIdeal.nD → PrngReg)
    (m' : (ℓ : Loc Cert.DevSumRefIdeal.nD Cert.DevSumRefIdeal.τ Cert.DevSumRefIdeal.sig) → Buf (Elt Ideal) ℓ) (g' : Dev Cert.DevSumRefIdeal.nD → PrngReg), Pre_DevSumIdeal m →
    (∀ c : Dev Cert.DevSumIdeal.nD,
      m' ((c.tc : Thread Cert.DevSumRefIdeal.nD Cert.DevSumRefIdeal.τ).loc Cert.DevSumRefIdeal.main_arg0) = m ((c.tc : Thread Cert.DevSumIdeal.nD Cert.DevSumIdeal.τ).loc Cert.DevSumIdeal.main_arg0)) →
    ∃ (v0 : (c : Dev Cert.DevSumIdeal.nD) → Buf (Elt Ideal) ((c.tc : Thread Cert.DevSumIdeal.nD Cert.DevSumIdeal.τ).loc Cert.DevSumIdeal.main_v0)),
      θ_run (Cert.DevSumIdeal.defs (F := Ideal)) (onTc (τ := Cert.DevSumIdeal.τ) (Cert.DevSumIdeal.main (F := Ideal))) ⟨m, fun _ => 0, g⟩ (fun r => ∀ c : Dev Cert.DevSumIdeal.nD,
          r.2.mem ((c.tc : Thread Cert.DevSumIdeal.nD Cert.DevSumIdeal.τ).loc Cert.DevSumIdeal.main_v0) = v0 c
          ∧ r.2.mem ((c.tc : Thread Cert.DevSumIdeal.nD Cert.DevSumIdeal.τ).loc Cert.DevSumIdeal.main_arg0) = m ((c.tc : Thread Cert.DevSumIdeal.nD Cert.DevSumIdeal.τ).loc Cert.DevSumIdeal.main_arg0))
      ∧ θ_run (Cert.DevSumRefIdeal.defs (F := Ideal)) (onTc (τ := Cert.DevSumRefIdeal.τ) (Cert.DevSumRefIdeal.main (F := Ideal))) ⟨m', fun _ => 0, g'⟩ (fun r => ∀ c : Dev Cert.DevSumRefIdeal.nD,
          r.2.mem ((c.tc : Thread Cert.DevSumRefIdeal.nD Cert.DevSumRefIdeal.τ).loc Cert.DevSumRefIdeal.main_v0) = v0 c
          ∧ r.2.mem ((c.tc : Thread Cert.DevSumRefIdeal.nD Cert.DevSumRefIdeal.τ).loc Cert.DevSumRefIdeal.main_arg0) = m' ((c.tc : Thread Cert.DevSumRefIdeal.nD Cert.DevSumRefIdeal.τ).loc Cert.DevSumRefIdeal.main_arg0))

def preserves_Adw_AdwIdeal : Prop :=
  True

def algebraic_AdwIdeal_AdwRefIdeal [hAdwIdeal : Cert.AdwIdeal.Facts] [hAdwRefIdeal : Cert.AdwRefIdeal.Facts] : Prop :=
  ∀ (m : (ℓ : Loc Cert.AdwIdeal.nD Cert.AdwIdeal.τ Cert.AdwIdeal.sig) → Buf (Elt Ideal) ℓ) (g : Dev Cert.AdwIdeal.nD → PrngReg)
    (m' : (ℓ : Loc Cert.AdwRefIdeal.nD Cert.AdwRefIdeal.τ Cert.AdwRefIdeal.sig) → Buf (Elt Ideal) ℓ) (g' : Dev Cert.AdwRefIdeal.nD → PrngReg), Pre_AdwIdeal m →
    (∀ c : Dev Cert.AdwIdeal.nD,
      m' ((c.tc : Thread Cert.AdwRefIdeal.nD Cert.AdwRefIdeal.τ).loc Cert.AdwRefIdeal.main_arg0) = m ((c.tc : Thread Cert.AdwIdeal.nD Cert.AdwIdeal.τ).loc Cert.AdwIdeal.main_arg0)
      ∧ m' ((c.tc : Thread Cert.AdwRefIdeal.nD Cert.AdwRefIdeal.τ).loc Cert.AdwRefIdeal.main_arg1) = m ((c.tc : Thread Cert.AdwIdeal.nD Cert.AdwIdeal.τ).loc Cert.AdwIdeal.main_arg1)
      ∧ m' ((c.tc : Thread Cert.AdwRefIdeal.nD Cert.AdwRefIdeal.τ).loc Cert.AdwRefIdeal.main_arg2) = m ((c.tc : Thread Cert.AdwIdeal.nD Cert.AdwIdeal.τ).loc Cert.AdwIdeal.main_arg2)
      ∧ m' ((c.tc : Thread Cert.AdwRefIdeal.nD Cert.AdwRefIdeal.τ).loc Cert.AdwRefIdeal.main_arg3) = m ((c.tc : Thread Cert.AdwIdeal.nD Cert.AdwIdeal.τ).loc Cert.AdwIdeal.main_arg3)) →
    ∃ (v0 : (c : Dev Cert.AdwIdeal.nD) → Buf (Elt Ideal) ((c.tc : Thread Cert.AdwIdeal.nD Cert.AdwIdeal.τ).loc Cert.AdwIdeal.main_v0_0)) (v1 : (c : Dev Cert.AdwIdeal.nD) → Buf (Elt Ideal) ((c.tc : Thread Cert.AdwIdeal.nD Cert.AdwIdeal.τ).loc Cert.AdwIdeal.main_v0_1)) (v2 : (c : Dev Cert.AdwIdeal.nD) → Buf (Elt Ideal) ((c.tc : Thread Cert.AdwIdeal.nD Cert.AdwIdeal.τ).loc Cert.AdwIdeal.main_v0_2)),
      θ_run (Cert.AdwIdeal.defs (F := Ideal)) (onTc (τ := Cert.AdwIdeal.τ) (Cert.AdwIdeal.main (F := Ideal))) ⟨m, fun _ => 0, g⟩ (fun r => ∀ c : Dev Cert.AdwIdeal.nD,
          r.2.mem ((c.tc : Thread Cert.AdwIdeal.nD Cert.AdwIdeal.τ).loc Cert.AdwIdeal.main_v0_0) = v0 c
          ∧ r.2.mem ((c.tc : Thread Cert.AdwIdeal.nD Cert.AdwIdeal.τ).loc Cert.AdwIdeal.main_v0_1) = v1 c
          ∧ r.2.mem ((c.tc : Thread Cert.AdwIdeal.nD Cert.AdwIdeal.τ).loc Cert.AdwIdeal.main_v0_2) = v2 c
          ∧ r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
          ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
          ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
          ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ θ_run (Cert.AdwRefIdeal.defs (F := Ideal)) (onTc (τ := Cert.AdwRefIdeal.τ) (Cert.AdwRefIdeal.main (F := Ideal))) ⟨m', fun _ => 0, g'⟩ (fun r => ∀ c : Dev Cert.AdwRefIdeal.nD,
          r.2.mem ((c.tc : Thread Cert.AdwRefIdeal.nD Cert.AdwRefIdeal.τ).loc Cert.AdwRefIdeal.main_v23) = v0 c
          ∧ r.2.mem ((c.tc : Thread Cert.AdwRefIdeal.nD Cert.AdwRefIdeal.τ).loc Cert.AdwRefIdeal.main_v4) = v1 c
          ∧ r.2.mem ((c.tc : Thread Cert.AdwRefIdeal.nD Cert.AdwRefIdeal.τ).loc Cert.AdwRefIdeal.main_v10) = v2 c
          ∧ r.2.mem ((c.tc : Thread Cert.AdwRefIdeal.nD Cert.AdwRefIdeal.τ).loc Cert.AdwRefIdeal.main_arg0) = m' ((c.tc : Thread Cert.AdwRefIdeal.nD Cert.AdwRefIdeal.τ).loc Cert.AdwRefIdeal.main_arg0)
          ∧ r.2.mem ((c.tc : Thread Cert.AdwRefIdeal.nD Cert.AdwRefIdeal.τ).loc Cert.AdwRefIdeal.main_arg1) = m' ((c.tc : Thread Cert.AdwRefIdeal.nD Cert.AdwRefIdeal.τ).loc Cert.AdwRefIdeal.main_arg1)
          ∧ r.2.mem ((c.tc : Thread Cert.AdwRefIdeal.nD Cert.AdwRefIdeal.τ).loc Cert.AdwRefIdeal.main_arg2) = m' ((c.tc : Thread Cert.AdwRefIdeal.nD Cert.AdwRefIdeal.τ).loc Cert.AdwRefIdeal.main_arg2)
          ∧ r.2.mem ((c.tc : Thread Cert.AdwRefIdeal.nD Cert.AdwRefIdeal.τ).loc Cert.AdwRefIdeal.main_arg3) = m' ((c.tc : Thread Cert.AdwRefIdeal.nD Cert.AdwRefIdeal.τ).loc Cert.AdwRefIdeal.main_arg3))

def preserves_Adr_AdrIdeal : Prop :=
  True

def algebraic_AdrIdeal_AdrRefIdeal [hAdrIdeal : Cert.AdrIdeal.Facts] [hAdrRefIdeal : Cert.AdrRefIdeal.Facts] : Prop :=
  ∀ (m : (ℓ : Loc Cert.AdrIdeal.nD Cert.AdrIdeal.τ Cert.AdrIdeal.sig) → Buf (Elt Ideal) ℓ) (g : Dev Cert.AdrIdeal.nD → PrngReg)
    (m' : (ℓ : Loc Cert.AdrRefIdeal.nD Cert.AdrRefIdeal.τ Cert.AdrRefIdeal.sig) → Buf (Elt Ideal) ℓ) (g' : Dev Cert.AdrRefIdeal.nD → PrngReg), Pre_AdrIdeal m →
    (∀ c : Dev Cert.AdrIdeal.nD,
      m' ((c.tc : Thread Cert.AdrRefIdeal.nD Cert.AdrRefIdeal.τ).loc Cert.AdrRefIdeal.main_arg0) = m ((c.tc : Thread Cert.AdrIdeal.nD Cert.AdrIdeal.τ).loc Cert.AdrIdeal.main_arg0)
      ∧ m' ((c.tc : Thread Cert.AdrRefIdeal.nD Cert.AdrRefIdeal.τ).loc Cert.AdrRefIdeal.main_arg1) = m ((c.tc : Thread Cert.AdrIdeal.nD Cert.AdrIdeal.τ).loc Cert.AdrIdeal.main_arg1)
      ∧ m' ((c.tc : Thread Cert.AdrRefIdeal.nD Cert.AdrRefIdeal.τ).loc Cert.AdrRefIdeal.main_arg2) = m ((c.tc : Thread Cert.AdrIdeal.nD Cert.AdrIdeal.τ).loc Cert.AdrIdeal.main_arg2)
      ∧ m' ((c.tc : Thread Cert.AdrRefIdeal.nD Cert.AdrRefIdeal.τ).loc Cert.AdrRefIdeal.main_arg3) = m ((c.tc : Thread Cert.AdrIdeal.nD Cert.AdrIdeal.τ).loc Cert.AdrIdeal.main_arg3)
      ∧ m' ((c.tc : Thread Cert.AdrRefIdeal.nD Cert.AdrRefIdeal.τ).loc Cert.AdrRefIdeal.main_arg4) = m ((c.tc : Thread Cert.AdrIdeal.nD Cert.AdrIdeal.τ).loc Cert.AdrIdeal.main_arg4)
      ∧ m' ((c.tc : Thread Cert.AdrRefIdeal.nD Cert.AdrRefIdeal.τ).loc Cert.AdrRefIdeal.main_arg5) = m ((c.tc : Thread Cert.AdrIdeal.nD Cert.AdrIdeal.τ).loc Cert.AdrIdeal.main_arg5)) →
    ∃ (v0 : (c : Dev Cert.AdrIdeal.nD) → Buf (Elt Ideal) ((c.tc : Thread Cert.AdrIdeal.nD Cert.AdrIdeal.τ).loc Cert.AdrIdeal.main_v6_0)) (v1 : (c : Dev Cert.AdrIdeal.nD) → Buf (Elt Ideal) ((c.tc : Thread Cert.AdrIdeal.nD Cert.AdrIdeal.τ).loc Cert.AdrIdeal.main_v6_1)) (v2 : (c : Dev Cert.AdrIdeal.nD) → Buf (Elt Ideal) ((c.tc : Thread Cert.AdrIdeal.nD Cert.AdrIdeal.τ).loc Cert.AdrIdeal.main_v6_2)) (v3 : (c : Dev Cert.AdrIdeal.nD) → Buf (Elt Ideal) ((c.tc : Thread Cert.AdrIdeal.nD Cert.AdrIdeal.τ).loc Cert.AdrIdeal.main_v6_3)),
      θ_run (Cert.AdrIdeal.defs (F := Ideal)) (onTc (τ := Cert.AdrIdeal.τ) (Cert.AdrIdeal.main (F := Ideal))) ⟨m, fun _ => 0, g⟩ (fun r => ∀ c : Dev Cert.AdrIdeal.nD,
          r.2.mem ((c.tc : Thread Cert.AdrIdeal.nD Cert.AdrIdeal.τ).loc Cert.AdrIdeal.main_v6_0) = v0 c
          ∧ r.2.mem ((c.tc : Thread Cert.AdrIdeal.nD Cert.AdrIdeal.τ).loc Cert.AdrIdeal.main_v6_1) = v1 c
          ∧ r.2.mem ((c.tc : Thread Cert.AdrIdeal.nD Cert.AdrIdeal.τ).loc Cert.AdrIdeal.main_v6_2) = v2 c
          ∧ r.2.mem ((c.tc : Thread Cert.AdrIdeal.nD Cert.AdrIdeal.τ).loc Cert.AdrIdeal.main_v6_3) = v3 c
          ∧ r.2.mem ((c.tc : Thread Cert.AdrIdeal.nD Cert.AdrIdeal.τ).loc Cert.AdrIdeal.main_arg0) = m ((c.tc : Thread Cert.AdrIdeal.nD Cert.AdrIdeal.τ).loc Cert.AdrIdeal.main_arg0)
          ∧ r.2.mem ((c.tc : Thread Cert.AdrIdeal.nD Cert.AdrIdeal.τ).loc Cert.AdrIdeal.main_arg1) = m ((c.tc : Thread Cert.AdrIdeal.nD Cert.AdrIdeal.τ).loc Cert.AdrIdeal.main_arg1)
          ∧ r.2.mem ((c.tc : Thread Cert.AdrIdeal.nD Cert.AdrIdeal.τ).loc Cert.AdrIdeal.main_arg2) = m ((c.tc : Thread Cert.AdrIdeal.nD Cert.AdrIdeal.τ).loc Cert.AdrIdeal.main_arg2)
          ∧ r.2.mem ((c.tc : Thread Cert.AdrIdeal.nD Cert.AdrIdeal.τ).loc Cert.AdrIdeal.main_arg3) = m ((c.tc : Thread Cert.AdrIdeal.nD Cert.AdrIdeal.τ).loc Cert.AdrIdeal.main_arg3)
          ∧ r.2.mem ((c.tc : Thread Cert.AdrIdeal.nD Cert.AdrIdeal.τ).loc Cert.AdrIdeal.main_arg4) = m ((c.tc : Thread Cert.AdrIdeal.nD Cert.AdrIdeal.τ).loc Cert.AdrIdeal.main_arg4)
          ∧ r.2.mem ((c.tc : Thread Cert.AdrIdeal.nD Cert.AdrIdeal.τ).loc Cert.AdrIdeal.main_arg5) = m ((c.tc : Thread Cert.AdrIdeal.nD Cert.AdrIdeal.τ).loc Cert.AdrIdeal.main_arg5))
      ∧ θ_run (Cert.AdrRefIdeal.defs (F := Ideal)) (onTc (τ := Cert.AdrRefIdeal.τ) (Cert.AdrRefIdeal.main (F := Ideal))) ⟨m', fun _ => 0, g'⟩ (fun r => ∀ c : Dev Cert.AdrRefIdeal.nD,
          r.2.mem ((c.tc : Thread Cert.AdrRefIdeal.nD Cert.AdrRefIdeal.τ).loc Cert.AdrRefIdeal.main_v9) = v0 c
          ∧ r.2.mem ((c.tc : Thread Cert.AdrRefIdeal.nD Cert.AdrRefIdeal.τ).loc Cert.AdrRefIdeal.main_v33) = v1 c
          ∧ r.2.mem ((c.tc : Thread Cert.AdrRefIdeal.nD Cert.AdrRefIdeal.τ).loc Cert.AdrRefIdeal.main_v14) = v2 c
          ∧ r.2.mem ((c.tc : Thread Cert.AdrRefIdeal.nD Cert.AdrRefIdeal.τ).loc Cert.AdrRefIdeal.main_v20) = v3 c
          ∧ r.2.mem ((c.tc : Thread Cert.AdrRefIdeal.nD Cert.AdrRefIdeal.τ).loc Cert.AdrRefIdeal.main_arg0) = m' ((c.tc : Thread Cert.AdrRefIdeal.nD Cert.AdrRefIdeal.τ).loc Cert.AdrRefIdeal.main_arg0)
          ∧ r.2.mem ((c.tc : Thread Cert.AdrRefIdeal.nD Cert.AdrRefIdeal.τ).loc Cert.AdrRefIdeal.main_arg1) = m' ((c.tc : Thread Cert.AdrRefIdeal.nD Cert.AdrRefIdeal.τ).loc Cert.AdrRefIdeal.main_arg1)
          ∧ r.2.mem ((c.tc : Thread Cert.AdrRefIdeal.nD Cert.AdrRefIdeal.τ).loc Cert.AdrRefIdeal.main_arg2) = m' ((c.tc : Thread Cert.AdrRefIdeal.nD Cert.AdrRefIdeal.τ).loc Cert.AdrRefIdeal.main_arg2)
          ∧ r.2.mem ((c.tc : Thread Cert.AdrRefIdeal.nD Cert.AdrRefIdeal.τ).loc Cert.AdrRefIdeal.main_arg3) = m' ((c.tc : Thread Cert.AdrRefIdeal.nD Cert.AdrRefIdeal.τ).loc Cert.AdrRefIdeal.main_arg3)
          ∧ r.2.mem ((c.tc : Thread Cert.AdrRefIdeal.nD Cert.AdrRefIdeal.τ).loc Cert.AdrRefIdeal.main_arg4) = m' ((c.tc : Thread Cert.AdrRefIdeal.nD Cert.AdrRefIdeal.τ).loc Cert.AdrRefIdeal.main_arg4)
          ∧ r.2.mem ((c.tc : Thread Cert.AdrRefIdeal.nD Cert.AdrRefIdeal.τ).loc Cert.AdrRefIdeal.main_arg5) = m' ((c.tc : Thread Cert.AdrRefIdeal.nD Cert.AdrRefIdeal.τ).loc Cert.AdrRefIdeal.main_arg5))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v6)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v6) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v7) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def preserves_MmTnG_MmTnGIdeal : Prop :=
  True

def algebraic_MmTnGIdeal_MmTnGRefIdeal [hMmTnGIdeal : Cert.MmTnGIdeal.Facts] [hMmTnGRefIdeal : Cert.MmTnGRefIdeal.Facts] : Prop :=
  ∀ (m : (ℓ : Loc Cert.MmTnGIdeal.nD Cert.MmTnGIdeal.τ Cert.MmTnGIdeal.sig) → Buf (Elt Ideal) ℓ) (g : Dev Cert.MmTnGIdeal.nD → PrngReg)
    (m' : (ℓ : Loc Cert.MmTnGRefIdeal.nD Cert.MmTnGRefIdeal.τ Cert.MmTnGRefIdeal.sig) → Buf (Elt Ideal) ℓ) (g' : Dev Cert.MmTnGRefIdeal.nD → PrngReg), Pre_MmTnGIdeal m →
    (∀ c : Dev Cert.MmTnGIdeal.nD,
      m' ((c.tc : Thread Cert.MmTnGRefIdeal.nD Cert.MmTnGRefIdeal.τ).loc Cert.MmTnGRefIdeal.main_arg0) = m ((c.tc : Thread Cert.MmTnGIdeal.nD Cert.MmTnGIdeal.τ).loc Cert.MmTnGIdeal.main_arg0)
      ∧ m' ((c.tc : Thread Cert.MmTnGRefIdeal.nD Cert.MmTnGRefIdeal.τ).loc Cert.MmTnGRefIdeal.main_arg1) = m ((c.tc : Thread Cert.MmTnGIdeal.nD Cert.MmTnGIdeal.τ).loc Cert.MmTnGIdeal.main_arg1)) →
    ∃ (v0 : (c : Dev Cert.MmTnGIdeal.nD) → Buf (Elt Ideal) ((c.tc : Thread Cert.MmTnGIdeal.nD Cert.MmTnGIdeal.τ).loc Cert.MmTnGIdeal.main_v12)),
      θ_run (Cert.MmTnGIdeal.defs (F := Ideal)) (onTc (τ := Cert.MmTnGIdeal.τ) (Cert.MmTnGIdeal.main (F := Ideal))) ⟨m, fun _ => 0, g⟩ (fun r => ∀ c : Dev Cert.MmTnGIdeal.nD,
          r.2.mem ((c.tc : Thread Cert.MmTnGIdeal.nD Cert.MmTnGIdeal.τ).loc Cert.MmTnGIdeal.main_v12) = v0 c
          ∧ r.2.mem ((c.tc : Thread Cert.MmTnGIdeal.nD Cert.MmTnGIdeal.τ).loc Cert.MmTnGIdeal.main_arg0) = m ((c.tc : Thread Cert.MmTnGIdeal.nD Cert.MmTnGIdeal.τ).loc Cert.MmTnGIdeal.main_arg0)
          ∧ r.2.mem ((c.tc : Thread Cert.MmTnGIdeal.nD Cert.MmTnGIdeal.τ).loc Cert.MmTnGIdeal.main_arg1) = m ((c.tc : Thread Cert.MmTnGIdeal.nD Cert.MmTnGIdeal.τ).loc Cert.MmTnGIdeal.main_arg1))
      ∧ θ_run (Cert.MmTnGRefIdeal.defs (F := Ideal)) (onTc (τ := Cert.MmTnGRefIdeal.τ) (Cert.MmTnGRefIdeal.main (F := Ideal))) ⟨m', fun _ => 0, g'⟩ (fun r => ∀ c : Dev Cert.MmTnGRefIdeal.nD,
          r.2.mem ((c.tc : Thread Cert.MmTnGRefIdeal.nD Cert.MmTnGRefIdeal.τ).loc Cert.MmTnGRefIdeal.main_v15) = v0 c
          ∧ r.2.mem ((c.tc : Thread Cert.MmTnGRefIdeal.nD Cert.MmTnGRefIdeal.τ).loc Cert.MmTnGRefIdeal.main_arg0) = m' ((c.tc : Thread Cert.MmTnGRefIdeal.nD Cert.MmTnGRefIdeal.τ).loc Cert.MmTnGRefIdeal.main_arg0)
          ∧ r.2.mem ((c.tc : Thread Cert.MmTnGRefIdeal.nD Cert.MmTnGRefIdeal.τ).loc Cert.MmTnGRefIdeal.main_arg1) = m' ((c.tc : Thread Cert.MmTnGRefIdeal.nD Cert.MmTnGRefIdeal.τ).loc Cert.MmTnGRefIdeal.main_arg1))

def preserves_MmProjG_MmProjGIdeal : Prop :=
  True

def algebraic_MmProjGIdeal_MmProjGRefIdeal [hMmProjGIdeal : Cert.MmProjGIdeal.Facts] [hMmProjGRefIdeal : Cert.MmProjGRefIdeal.Facts] : Prop :=
  ∀ (m : (ℓ : Loc Cert.MmProjGIdeal.nD Cert.MmProjGIdeal.τ Cert.MmProjGIdeal.sig) → Buf (Elt Ideal) ℓ) (g : Dev Cert.MmProjGIdeal.nD → PrngReg)
    (m' : (ℓ : Loc Cert.MmProjGRefIdeal.nD Cert.MmProjGRefIdeal.τ Cert.MmProjGRefIdeal.sig) → Buf (Elt Ideal) ℓ) (g' : Dev Cert.MmProjGRefIdeal.nD → PrngReg), Pre_MmProjGIdeal m →
    (∀ c : Dev Cert.MmProjGIdeal.nD,
      m' ((c.tc : Thread Cert.MmProjGRefIdeal.nD Cert.MmProjGRefIdeal.τ).loc Cert.MmProjGRefIdeal.main_arg0) = m ((c.tc : Thread Cert.MmProjGIdeal.nD Cert.MmProjGIdeal.τ).loc Cert.MmProjGIdeal.main_arg0)
      ∧ m' ((c.tc : Thread Cert.MmProjGRefIdeal.nD Cert.MmProjGRefIdeal.τ).loc Cert.MmProjGRefIdeal.main_arg1) = m ((c.tc : Thread Cert.MmProjGIdeal.nD Cert.MmProjGIdeal.τ).loc Cert.MmProjGIdeal.main_arg1)
      ∧ m' ((c.tc : Thread Cert.MmProjGRefIdeal.nD Cert.MmProjGRefIdeal.τ).loc Cert.MmProjGRefIdeal.main_arg2) = m ((c.tc : Thread Cert.MmProjGIdeal.nD Cert.MmProjGIdeal.τ).loc Cert.MmProjGIdeal.main_arg2)) →
    ∃ (v0 : (c : Dev Cert.MmProjGIdeal.nD) → Buf (Elt Ideal) ((c.tc : Thread Cert.MmProjGIdeal.nD Cert.MmProjGIdeal.τ).loc Cert.MmProjGIdeal.main_v11)),
      θ_run (Cert.MmProjGIdeal.defs (F := Ideal)) (onTc (τ := Cert.MmProjGIdeal.τ) (Cert.MmProjGIdeal.main (F := Ideal))) ⟨m, fun _ => 0, g⟩ (fun r => ∀ c : Dev Cert.MmProjGIdeal.nD,
          r.2.mem ((c.tc : Thread Cert.MmProjGIdeal.nD Cert.MmProjGIdeal.τ).loc Cert.MmProjGIdeal.main_v11) = v0 c
          ∧ r.2.mem ((c.tc : Thread Cert.MmProjGIdeal.nD Cert.MmProjGIdeal.τ).loc Cert.MmProjGIdeal.main_arg0) = m ((c.tc : Thread Cert.MmProjGIdeal.nD Cert.MmProjGIdeal.τ).loc Cert.MmProjGIdeal.main_arg0)
          ∧ r.2.mem ((c.tc : Thread Cert.MmProjGIdeal.nD Cert.MmProjGIdeal.τ).loc Cert.MmProjGIdeal.main_arg1) = m ((c.tc : Thread Cert.MmProjGIdeal.nD Cert.MmProjGIdeal.τ).loc Cert.MmProjGIdeal.main_arg1)
          ∧ r.2.mem ((c.tc : Thread Cert.MmProjGIdeal.nD Cert.MmProjGIdeal.τ).loc Cert.MmProjGIdeal.main_arg2) = m ((c.tc : Thread Cert.MmProjGIdeal.nD Cert.MmProjGIdeal.τ).loc Cert.MmProjGIdeal.main_arg2))
      ∧ θ_run (Cert.MmProjGRefIdeal.defs (F := Ideal)) (onTc (τ := Cert.MmProjGRefIdeal.τ) (Cert.MmProjGRefIdeal.main (F := Ideal))) ⟨m', fun _ => 0, g'⟩ (fun r => ∀ c : Dev Cert.MmProjGRefIdeal.nD,
          r.2.mem ((c.tc : Thread Cert.MmProjGRefIdeal.nD Cert.MmProjGRefIdeal.τ).loc Cert.MmProjGRefIdeal.main_v7) = v0 c
          ∧ r.2.mem ((c.tc : Thread Cert.MmProjGRefIdeal.nD Cert.MmProjGRefIdeal.τ).loc Cert.MmProjGRefIdeal.main_arg0) = m' ((c.tc : Thread Cert.MmProjGRefIdeal.nD Cert.MmProjGRefIdeal.τ).loc Cert.MmProjGRefIdeal.main_arg0)
          ∧ r.2.mem ((c.tc : Thread Cert.MmProjGRefIdeal.nD Cert.MmProjGRefIdeal.τ).loc Cert.MmProjGRefIdeal.main_arg1) = m' ((c.tc : Thread Cert.MmProjGRefIdeal.nD Cert.MmProjGRefIdeal.τ).loc Cert.MmProjGRefIdeal.main_arg1)
          ∧ r.2.mem ((c.tc : Thread Cert.MmProjGRefIdeal.nD Cert.MmProjGRefIdeal.τ).loc Cert.MmProjGRefIdeal.main_arg2) = m' ((c.tc : Thread Cert.MmProjGRefIdeal.nD Cert.MmProjGRefIdeal.τ).loc Cert.MmProjGRefIdeal.main_arg2))

def preserves_AdrSc_AdrScIdeal : Prop :=
  True

def algebraic_AdrScIdeal_AdrScRefIdeal [hAdrScIdeal : Cert.AdrScIdeal.Facts] [hAdrScRefIdeal : Cert.AdrScRefIdeal.Facts] : Prop :=
  ∀ (m : (ℓ : Loc Cert.AdrScIdeal.nD Cert.AdrScIdeal.τ Cert.AdrScIdeal.sig) → Buf (Elt Ideal) ℓ) (g : Dev Cert.AdrScIdeal.nD → PrngReg)
    (m' : (ℓ : Loc Cert.AdrScRefIdeal.nD Cert.AdrScRefIdeal.τ Cert.AdrScRefIdeal.sig) → Buf (Elt Ideal) ℓ) (g' : Dev Cert.AdrScRefIdeal.nD → PrngReg), Pre_AdrScIdeal m →
    (∀ c : Dev Cert.AdrScIdeal.nD,
      m' ((c.tc : Thread Cert.AdrScRefIdeal.nD Cert.AdrScRefIdeal.τ).loc Cert.AdrScRefIdeal.main_arg0) = m ((c.tc : Thread Cert.AdrScIdeal.nD Cert.AdrScIdeal.τ).loc Cert.AdrScIdeal.main_arg0)
      ∧ m' ((c.tc : Thread Cert.AdrScRefIdeal.nD Cert.AdrScRefIdeal.τ).loc Cert.AdrScRefIdeal.main_arg1) = m ((c.tc : Thread Cert.AdrScIdeal.nD Cert.AdrScIdeal.τ).loc Cert.AdrScIdeal.main_arg1)
      ∧ m' ((c.tc : Thread Cert.AdrScRefIdeal.nD Cert.AdrScRefIdeal.τ).loc Cert.AdrScRefIdeal.main_arg2) = m ((c.tc : Thread Cert.AdrScIdeal.nD Cert.AdrScIdeal.τ).loc Cert.AdrScIdeal.main_arg2)
      ∧ m' ((c.tc : Thread Cert.AdrScRefIdeal.nD Cert.AdrScRefIdeal.τ).loc Cert.AdrScRefIdeal.main_arg3) = m ((c.tc : Thread Cert.AdrScIdeal.nD Cert.AdrScIdeal.τ).loc Cert.AdrScIdeal.main_arg3)
      ∧ m' ((c.tc : Thread Cert.AdrScRefIdeal.nD Cert.AdrScRefIdeal.τ).loc Cert.AdrScRefIdeal.main_arg4) = m ((c.tc : Thread Cert.AdrScIdeal.nD Cert.AdrScIdeal.τ).loc Cert.AdrScIdeal.main_arg4)
      ∧ m' ((c.tc : Thread Cert.AdrScRefIdeal.nD Cert.AdrScRefIdeal.τ).loc Cert.AdrScRefIdeal.main_arg5) = m ((c.tc : Thread Cert.AdrScIdeal.nD Cert.AdrScIdeal.τ).loc Cert.AdrScIdeal.main_arg5)
      ∧ m' ((c.tc : Thread Cert.AdrScRefIdeal.nD Cert.AdrScRefIdeal.τ).loc Cert.AdrScRefIdeal.main_arg6) = m ((c.tc : Thread Cert.AdrScIdeal.nD Cert.AdrScIdeal.τ).loc Cert.AdrScIdeal.main_arg6)
      ∧ m' ((c.tc : Thread Cert.AdrScRefIdeal.nD Cert.AdrScRefIdeal.τ).loc Cert.AdrScRefIdeal.main_arg7) = m ((c.tc : Thread Cert.AdrScIdeal.nD Cert.AdrScIdeal.τ).loc Cert.AdrScIdeal.main_arg7)) →
    ∃ (v0 : (c : Dev Cert.AdrScIdeal.nD) → Buf (Elt Ideal) ((c.tc : Thread Cert.AdrScIdeal.nD Cert.AdrScIdeal.τ).loc Cert.AdrScIdeal.main_v6_0)) (v1 : (c : Dev Cert.AdrScIdeal.nD) → Buf (Elt Ideal) ((c.tc : Thread Cert.AdrScIdeal.nD Cert.AdrScIdeal.τ).loc Cert.AdrScIdeal.main_v6_1)) (v2 : (c : Dev Cert.AdrScIdeal.nD) → Buf (Elt Ideal) ((c.tc : Thread Cert.AdrScIdeal.nD Cert.AdrScIdeal.τ).loc Cert.AdrScIdeal.main_v6_2)) (v3 : (c : Dev Cert.AdrScIdeal.nD) → Buf (Elt Ideal) ((c.tc : Thread Cert.AdrScIdeal.nD Cert.AdrScIdeal.τ).loc Cert.AdrScIdeal.main_v6_3)),
      θ_run (Cert.AdrScIdeal.defs (F := Ideal)) (onTc (τ := Cert.AdrScIdeal.τ) (Cert.AdrScIdeal.main (F := Ideal))) ⟨m, fun _ => 0, g⟩ (fun r => ∀ c : Dev Cert.AdrScIdeal.nD,
          r.2.mem ((c.tc : Thread Cert.AdrScIdeal.nD Cert.AdrScIdeal.τ).loc Cert.AdrScIdeal.main_v6_0) = v0 c
          ∧ r.2.mem ((c.tc : Thread Cert.AdrScIdeal.nD Cert.AdrScIdeal.τ).loc Cert.AdrScIdeal.main_v6_1) = v1 c
          ∧ r.2.mem ((c.tc : Thread Cert.AdrScIdeal.nD Cert.AdrScIdeal.τ).loc Cert.AdrScIdeal.main_v6_2) = v2 c
          ∧ r.2.mem ((c.tc : Thread Cert.AdrScIdeal.nD Cert.AdrScIdeal.τ).loc Cert.AdrScIdeal.main_v6_3) = v3 c
          ∧ r.2.mem ((c.tc : Thread Cert.AdrScIdeal.nD Cert.AdrScIdeal.τ).loc Cert.AdrScIdeal.main_arg0) = m ((c.tc : Thread Cert.AdrScIdeal.nD Cert.AdrScIdeal.τ).loc Cert.AdrScIdeal.main_arg0)
          ∧ r.2.mem ((c.tc : Thread Cert.AdrScIdeal.nD Cert.AdrScIdeal.τ).loc Cert.AdrScIdeal.main_arg1) = m ((c.tc : Thread Cert.AdrScIdeal.nD Cert.AdrScIdeal.τ).loc Cert.AdrScIdeal.main_arg1)
          ∧ r.2.mem ((c.tc : Thread Cert.AdrScIdeal.nD Cert.AdrScIdeal.τ).loc Cert.AdrScIdeal.main_arg2) = m ((c.tc : Thread Cert.AdrScIdeal.nD Cert.AdrScIdeal.τ).loc Cert.AdrScIdeal.main_arg2)
          ∧ r.2.mem ((c.tc : Thread Cert.AdrScIdeal.nD Cert.AdrScIdeal.τ).loc Cert.AdrScIdeal.main_arg3) = m ((c.tc : Thread Cert.AdrScIdeal.nD Cert.AdrScIdeal.τ).loc Cert.AdrScIdeal.main_arg3)
          ∧ r.2.mem ((c.tc : Thread Cert.AdrScIdeal.nD Cert.AdrScIdeal.τ).loc Cert.AdrScIdeal.main_arg4) = m ((c.tc : Thread Cert.AdrScIdeal.nD Cert.AdrScIdeal.τ).loc Cert.AdrScIdeal.main_arg4)
          ∧ r.2.mem ((c.tc : Thread Cert.AdrScIdeal.nD Cert.AdrScIdeal.τ).loc Cert.AdrScIdeal.main_arg5) = m ((c.tc : Thread Cert.AdrScIdeal.nD Cert.AdrScIdeal.τ).loc Cert.AdrScIdeal.main_arg5)
          ∧ r.2.mem ((c.tc : Thread Cert.AdrScIdeal.nD Cert.AdrScIdeal.τ).loc Cert.AdrScIdeal.main_arg6) = m ((c.tc : Thread Cert.AdrScIdeal.nD Cert.AdrScIdeal.τ).loc Cert.AdrScIdeal.main_arg6)
          ∧ r.2.mem ((c.tc : Thread Cert.AdrScIdeal.nD Cert.AdrScIdeal.τ).loc Cert.AdrScIdeal.main_arg7) = m ((c.tc : Thread Cert.AdrScIdeal.nD Cert.AdrScIdeal.τ).loc Cert.AdrScIdeal.main_arg7))
      ∧ θ_run (Cert.AdrScRefIdeal.defs (F := Ideal)) (onTc (τ := Cert.AdrScRefIdeal.τ) (Cert.AdrScRefIdeal.main (F := Ideal))) ⟨m', fun _ => 0, g'⟩ (fun r => ∀ c : Dev Cert.AdrScRefIdeal.nD,
          r.2.mem ((c.tc : Thread Cert.AdrScRefIdeal.nD Cert.AdrScRefIdeal.τ).loc Cert.AdrScRefIdeal.main_v14) = v0 c
          ∧ r.2.mem ((c.tc : Thread Cert.AdrScRefIdeal.nD Cert.AdrScRefIdeal.τ).loc Cert.AdrScRefIdeal.main_v38) = v1 c
          ∧ r.2.mem ((c.tc : Thread Cert.AdrScRefIdeal.nD Cert.AdrScRefIdeal.τ).loc Cert.AdrScRefIdeal.main_v19) = v2 c
          ∧ r.2.mem ((c.tc : Thread Cert.AdrScRefIdeal.nD Cert.AdrScRefIdeal.τ).loc Cert.AdrScRefIdeal.main_v25) = v3 c
          ∧ r.2.mem ((c.tc : Thread Cert.AdrScRefIdeal.nD Cert.AdrScRefIdeal.τ).loc Cert.AdrScRefIdeal.main_arg0) = m' ((c.tc : Thread Cert.AdrScRefIdeal.nD Cert.AdrScRefIdeal.τ).loc Cert.AdrScRefIdeal.main_arg0)
          ∧ r.2.mem ((c.tc : Thread Cert.AdrScRefIdeal.nD Cert.AdrScRefIdeal.τ).loc Cert.AdrScRefIdeal.main_arg1) = m' ((c.tc : Thread Cert.AdrScRefIdeal.nD Cert.AdrScRefIdeal.τ).loc Cert.AdrScRefIdeal.main_arg1)
          ∧ r.2.mem ((c.tc : Thread Cert.AdrScRefIdeal.nD Cert.AdrScRefIdeal.τ).loc Cert.AdrScRefIdeal.main_arg2) = m' ((c.tc : Thread Cert.AdrScRefIdeal.nD Cert.AdrScRefIdeal.τ).loc Cert.AdrScRefIdeal.main_arg2)
          ∧ r.2.mem ((c.tc : Thread Cert.AdrScRefIdeal.nD Cert.AdrScRefIdeal.τ).loc Cert.AdrScRefIdeal.main_arg3) = m' ((c.tc : Thread Cert.AdrScRefIdeal.nD Cert.AdrScRefIdeal.τ).loc Cert.AdrScRefIdeal.main_arg3)
          ∧ r.2.mem ((c.tc : Thread Cert.AdrScRefIdeal.nD Cert.AdrScRefIdeal.τ).loc Cert.AdrScRefIdeal.main_arg4) = m' ((c.tc : Thread Cert.AdrScRefIdeal.nD Cert.AdrScRefIdeal.τ).loc Cert.AdrScRefIdeal.main_arg4)
          ∧ r.2.mem ((c.tc : Thread Cert.AdrScRefIdeal.nD Cert.AdrScRefIdeal.τ).loc Cert.AdrScRefIdeal.main_arg5) = m' ((c.tc : Thread Cert.AdrScRefIdeal.nD Cert.AdrScRefIdeal.τ).loc Cert.AdrScRefIdeal.main_arg5)
          ∧ r.2.mem ((c.tc : Thread Cert.AdrScRefIdeal.nD Cert.AdrScRefIdeal.τ).loc Cert.AdrScRefIdeal.main_arg6) = m' ((c.tc : Thread Cert.AdrScRefIdeal.nD Cert.AdrScRefIdeal.τ).loc Cert.AdrScRefIdeal.main_arg6)
          ∧ r.2.mem ((c.tc : Thread Cert.AdrScRefIdeal.nD Cert.AdrScRefIdeal.τ).loc Cert.AdrScRefIdeal.main_arg7) = m' ((c.tc : Thread Cert.AdrScRefIdeal.nD Cert.AdrScRefIdeal.τ).loc Cert.AdrScRefIdeal.main_arg7))

def Claim : Prop :=
  ∃ (hScBwd : Cert.ScBwd.Facts) (hScBwdIdeal : Cert.ScBwdIdeal.Facts) (hScRefIdeal : Cert.ScRefIdeal.Facts) (hLru : Cert.Lru.Facts) (hLruIdeal : Cert.LruIdeal.Facts) (hLruRefIdeal : Cert.LruRefIdeal.Facts) (hAda : Cert.Ada.Facts) (hAdaIdeal : Cert.AdaIdeal.Facts) (hAdaRefIdeal : Cert.AdaRefIdeal.Facts) (hNorm0 : Cert.Norm0.Facts) (hNorm0Ideal : Cert.Norm0Ideal.Facts) (hNorm0RefIdeal : Cert.Norm0RefIdeal.Facts) (hNorm1 : Cert.Norm1.Facts) (hNorm1Ideal : Cert.Norm1Ideal.Facts) (hNorm1RefIdeal : Cert.Norm1RefIdeal.Facts) (hLoss : Cert.Loss.Facts) (hLossIdeal : Cert.LossIdeal.Facts) (hLossRefIdeal : Cert.LossRefIdeal.Facts) (hScFwd : Cert.ScFwd.Facts) (hScFwdIdeal : Cert.ScFwdIdeal.Facts) (hScFwdRefIdeal : Cert.ScFwdRefIdeal.Facts) (hNormMod : Cert.NormMod.Facts) (hNormModIdeal : Cert.NormModIdeal.Facts) (hNormModRefIdeal : Cert.NormModRefIdeal.Facts) (hAdaMod : Cert.AdaMod.Facts) (hAdaModIdeal : Cert.AdaModIdeal.Facts) (hAdaModRefIdeal : Cert.AdaModRefIdeal.Facts) (hMmOut : Cert.MmOut.Facts) (hMmOutIdeal : Cert.MmOutIdeal.Facts) (hMmOutRefIdeal : Cert.MmOutRefIdeal.Facts) (hMmProj : Cert.MmProj.Facts) (hMmProjIdeal : Cert.MmProjIdeal.Facts) (hMmProjRefIdeal : Cert.MmProjRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hDevSum : Cert.DevSum.Facts) (hDevSumIdeal : Cert.DevSumIdeal.Facts) (hDevSumRefIdeal : Cert.DevSumRefIdeal.Facts) (hAdw : Cert.Adw.Facts) (hAdwIdeal : Cert.AdwIdeal.Facts) (hAdwRefIdeal : Cert.AdwRefIdeal.Facts) (hAdr : Cert.Adr.Facts) (hAdrIdeal : Cert.AdrIdeal.Facts) (hAdrRefIdeal : Cert.AdrRefIdeal.Facts) (hPairSum : Cert.PairSum.Facts) (hPairSumIdeal : Cert.PairSumIdeal.Facts) (hPairSumRefIdeal : Cert.PairSumRefIdeal.Facts) (hMmTnG : Cert.MmTnG.Facts) (hMmTnGIdeal : Cert.MmTnGIdeal.Facts) (hMmTnGRefIdeal : Cert.MmTnGRefIdeal.Facts) (hMmProjG : Cert.MmProjG.Facts) (hMmProjGIdeal : Cert.MmProjGIdeal.Facts) (hMmProjGRefIdeal : Cert.MmProjGRefIdeal.Facts) (hAdrSc : Cert.AdrSc.Facts) (hAdrScIdeal : Cert.AdrScIdeal.Facts) (hAdrScRefIdeal : Cert.AdrScRefIdeal.Facts) (hPre_sc_finite : Cert.Pre_sc_finite.Facts) (hPre_lru_finite : Cert.Pre_lru_finite.Facts) (hPre_norm0_finite : Cert.Pre_norm0_finite.Facts) (hPre_norm1_finite : Cert.Pre_norm1_finite.Facts) (hPre_loss_finite : Cert.Pre_loss_finite.Facts),
    quiescent_ScBwd (hScBwd := hScBwd)
    ∧ quiescent_ScBwdIdeal (hScBwdIdeal := hScBwdIdeal)
    ∧ quiescent_ScBwdIdeal_pre_sc_finite (hScBwdIdeal := hScBwdIdeal) (hPre_sc_finite := hPre_sc_finite)
    ∧ quiescent_ScRefIdeal (hScRefIdeal := hScRefIdeal)
    ∧ quiescent_ScRefIdeal_pre_sc_finite (hScRefIdeal := hScRefIdeal) (hPre_sc_finite := hPre_sc_finite)
    ∧ quiescent_Lru (hLru := hLru)
    ∧ quiescent_LruIdeal (hLruIdeal := hLruIdeal)
    ∧ quiescent_LruIdeal_pre_lru_finite (hLruIdeal := hLruIdeal) (hPre_lru_finite := hPre_lru_finite)
    ∧ quiescent_LruRefIdeal (hLruRefIdeal := hLruRefIdeal)
    ∧ quiescent_LruRefIdeal_pre_lru_finite (hLruRefIdeal := hLruRefIdeal) (hPre_lru_finite := hPre_lru_finite)
    ∧ quiescent_Ada (hAda := hAda)
    ∧ quiescent_AdaIdeal (hAdaIdeal := hAdaIdeal)
    ∧ quiescent_AdaRefIdeal (hAdaRefIdeal := hAdaRefIdeal)
    ∧ quiescent_Norm0 (hNorm0 := hNorm0)
    ∧ quiescent_Norm0Ideal (hNorm0Ideal := hNorm0Ideal)
    ∧ quiescent_Norm0Ideal_pre_norm0_finite (hNorm0Ideal := hNorm0Ideal) (hPre_norm0_finite := hPre_norm0_finite)
    ∧ quiescent_Norm0RefIdeal (hNorm0RefIdeal := hNorm0RefIdeal)
    ∧ quiescent_Norm0RefIdeal_pre_norm0_finite (hNorm0RefIdeal := hNorm0RefIdeal) (hPre_norm0_finite := hPre_norm0_finite)
    ∧ quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_DevSum (hDevSum := hDevSum)
    ∧ quiescent_DevSumIdeal (hDevSumIdeal := hDevSumIdeal)
    ∧ quiescent_DevSumRefIdeal (hDevSumRefIdeal := hDevSumRefIdeal)
    ∧ quiescent_Adw (hAdw := hAdw)
    ∧ quiescent_AdwIdeal (hAdwIdeal := hAdwIdeal)
    ∧ quiescent_AdwRefIdeal (hAdwRefIdeal := hAdwRefIdeal)
    ∧ quiescent_Adr (hAdr := hAdr)
    ∧ quiescent_AdrIdeal (hAdrIdeal := hAdrIdeal)
    ∧ quiescent_AdrRefIdeal (hAdrRefIdeal := hAdrRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_MmTnG (hMmTnG := hMmTnG)
    ∧ quiescent_MmTnGIdeal (hMmTnGIdeal := hMmTnGIdeal)
    ∧ quiescent_MmTnGRefIdeal (hMmTnGRefIdeal := hMmTnGRefIdeal)
    ∧ quiescent_MmProjG (hMmProjG := hMmProjG)
    ∧ quiescent_MmProjGIdeal (hMmProjGIdeal := hMmProjGIdeal)
    ∧ quiescent_MmProjGRefIdeal (hMmProjGRefIdeal := hMmProjGRefIdeal)
    ∧ quiescent_AdrSc (hAdrSc := hAdrSc)
    ∧ quiescent_AdrScIdeal (hAdrScIdeal := hAdrScIdeal)
    ∧ quiescent_AdrScRefIdeal (hAdrScRefIdeal := hAdrScRefIdeal)
    ∧ preserves_ScBwd_ScBwdIdeal
    ∧ algebraic_ScBwdIdeal_ScRefIdeal_pre_sc_finite (hScBwdIdeal := hScBwdIdeal) (hScRefIdeal := hScRefIdeal) (hPre_sc_finite := hPre_sc_finite)
    ∧ preserves_Lru_LruIdeal
    ∧ algebraic_LruIdeal_LruRefIdeal_pre_lru_finite (hLruIdeal := hLruIdeal) (hLruRefIdeal := hLruRefIdeal) (hPre_lru_finite := hPre_lru_finite)
    ∧ preserves_Ada_AdaIdeal
    ∧ algebraic_AdaIdeal_AdaRefIdeal (hAdaIdeal := hAdaIdeal) (hAdaRefIdeal := hAdaRefIdeal)
    ∧ preserves_Norm0_Norm0Ideal
    ∧ algebraic_Norm0Ideal_Norm0RefIdeal_pre_norm0_finite (hNorm0Ideal := hNorm0Ideal) (hNorm0RefIdeal := hNorm0RefIdeal) (hPre_norm0_finite := hPre_norm0_finite)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_ScFwd_ScFwdIdeal
    ∧ algebraic_ScFwdIdeal_ScFwdRefIdeal (hScFwdIdeal := hScFwdIdeal) (hScFwdRefIdeal := hScFwdRefIdeal)
    ∧ preserves_NormMod_NormModIdeal
    ∧ algebraic_NormModIdeal_NormModRefIdeal (hNormModIdeal := hNormModIdeal) (hNormModRefIdeal := hNormModRefIdeal)
    ∧ preserves_AdaMod_AdaModIdeal
    ∧ algebraic_AdaModIdeal_AdaModRefIdeal (hAdaModIdeal := hAdaModIdeal) (hAdaModRefIdeal := hAdaModRefIdeal)
    ∧ preserves_MmOut_MmOutIdeal
    ∧ algebraic_MmOutIdeal_MmOutRefIdeal (hMmOutIdeal := hMmOutIdeal) (hMmOutRefIdeal := hMmOutRefIdeal)
    ∧ preserves_MmProj_MmProjIdeal
    ∧ algebraic_MmProjIdeal_MmProjRefIdeal (hMmProjIdeal := hMmProjIdeal) (hMmProjRefIdeal := hMmProjRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_DevSum_DevSumIdeal
    ∧ algebraic_DevSumIdeal_DevSumRefIdeal (hDevSumIdeal := hDevSumIdeal) (hDevSumRefIdeal := hDevSumRefIdeal)
    ∧ preserves_Adw_AdwIdeal
    ∧ algebraic_AdwIdeal_AdwRefIdeal (hAdwIdeal := hAdwIdeal) (hAdwRefIdeal := hAdwRefIdeal)
    ∧ preserves_Adr_AdrIdeal
    ∧ algebraic_AdrIdeal_AdrRefIdeal (hAdrIdeal := hAdrIdeal) (hAdrRefIdeal := hAdrRefIdeal)
    ∧ preserves_PairSum_PairSumIdeal
    ∧ algebraic_PairSumIdeal_PairSumRefIdeal (hPairSumIdeal := hPairSumIdeal) (hPairSumRefIdeal := hPairSumRefIdeal)
    ∧ preserves_MmTnG_MmTnGIdeal
    ∧ algebraic_MmTnGIdeal_MmTnGRefIdeal (hMmTnGIdeal := hMmTnGIdeal) (hMmTnGRefIdeal := hMmTnGRefIdeal)
    ∧ preserves_MmProjG_MmProjGIdeal
    ∧ algebraic_MmProjGIdeal_MmProjGRefIdeal (hMmProjGIdeal := hMmProjGIdeal) (hMmProjGRefIdeal := hMmProjGRefIdeal)
    ∧ preserves_AdrSc_AdrScIdeal
    ∧ algebraic_AdrScIdeal_AdrScRefIdeal (hAdrScIdeal := hAdrScIdeal) (hAdrScRefIdeal := hAdrScRefIdeal)
-- ==== Pre_loss_finite.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S2048 : S_.BroadcastsInDim S2048 (![] : Fin 0 → Fin S2048.rank)

variable [Facts]

def fn {F : FTy → Type} [FloatOps F] (main_arg0 : FVec F S1x2048x2048 .f32) (main_arg1 : FVec F S1x2048x2048 .f32) (main_arg2 : FVec F S1x2048 .f32) (main_arg3 : FVec F S2048 .f32) (main_arg4 : FVec F S1x2048x2048 .f32) : IVec S1x2048x2048 1 × IVec S1x2048x2048 1 × IVec S1x2048 1 × IVec S2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  (main_v2, main_v5, main_v8, main_v11, main_v14)
-- ==== Pre_lru_finite.lean ====
abbrev S1x2048x8192 : Shape := ⟨3, ![1, 2048, 8192]⟩
abbrev S1x4x4096 : Shape := ⟨3, ![1, 4, 4096]⟩
abbrev S1x4096 : Shape := ⟨2, ![1, 4096]⟩
abbrev S1x16x256x256 : Shape := ⟨4, ![1, 16, 256, 256]⟩
abbrev S1x16x256 : Shape := ⟨3, ![1, 16, 256]⟩
abbrev S1x2048x4096 : Shape := ⟨3, ![1, 2048, 4096]⟩
abbrev S_ : Shape := ⟨0, ![]⟩

class Facts : Prop where
  bcast_S_S1x2048x8192 : S_.BroadcastsInDim S1x2048x8192 (![] : Fin 0 → Fin S1x2048x8192.rank)
  bcast_S_S1x4x4096 : S_.BroadcastsInDim S1x4x4096 (![] : Fin 0 → Fin S1x4x4096.rank)
  bcast_S_S1x4096 : S_.BroadcastsInDim S1x4096 (![] : Fin 0 → Fin S1x4096.rank)
  bcast_S_S1x16x256x256 : S_.BroadcastsInDim S1x16x256x256 (![] : Fin 0 → Fin S1x16x256x256.rank)
  bcast_S_S1x16x256 : S_.BroadcastsInDim S1x16x256 (![] : Fin 0 → Fin S1x16x256.rank)
  bcast_S_S1x2048x4096 : S_.BroadcastsInDim S1x2048x4096 (![] : Fin 0 → Fin S1x2048x4096.rank)

variable [Facts]

def fn_part1 {F : FTy → Type} [FloatOps F] (main_arg6 : FVec F S1x16x256 .f32) (main_arg7 : FVec F S1x4096 .f32) (main_arg8 : FVec F S1x2048x4096 .f32) (main_v2 : IVec S1x2048x8192 1) (main_v5 : IVec S1x4x4096 1) (main_v8 : IVec S1x4096 1) (main_v11 : IVec S1x16x256x256 1) (main_v14 : IVec S1x16x256 1) (main_v17 : IVec S1x16x256x256 1) : IVec S1x2048x8192 1 × IVec S1x4x4096 1 × IVec S1x4096 1 × IVec S1x16x256x256 1 × IVec S1x16x256 1 × IVec S1x16x256x256 1 × IVec S1x16x256 1 × IVec S1x4096 1 × IVec S1x2048x4096 1 :=
  let main_v18 : FVec F S1x16x256 .f32 := Host.absf main_arg6
  let main_cst_5 : FVec F S_ .f32 := constant S_ .f32 0x7F800000#32
  let main_v19 : FVec F S1x16x256 .f32 := broadcastInDim S1x16x256 ![] bcast_S_S1x16x256 main_cst_5
  let main_v20 : IVec S1x16x256 1 := cmpf .olt main_v18 main_v19
  let main_v21 : FVec F S1x4096 .f32 := Host.absf main_arg7
  let main_cst_6 : FVec F S_ .f32 := constant S_ .f32 0x7F800000#32
  let main_v22 : FVec F S1x4096 .f32 := broadcastInDim S1x4096 ![] bcast_S_S1x4096 main_cst_6
  let main_v23 : IVec S1x4096 1 := cmpf .olt main_v21 main_v22
  let main_v24 : FVec F S1x2048x4096 .f32 := Host.absf main_arg8
  let main_cst_7 : FVec F S_ .f32 := constant S_ .f32 0x7F800000#32
  let main_v25 : FVec F S1x2048x4096 .f32 := broadcastInDim S1x2048x4096 ![] bcast_S_S1x2048x4096 main_cst_7
  let main_v26 : IVec S1x2048x4096 1 := cmpf .olt main_v24 main_v25
  (main_v2, main_v5, main_v8, main_v11, main_v14, main_v17, main_v20, main_v23, main_v26)

def fn {F : FTy → Type} [FloatOps F] (main_arg0 : FVec F S1x2048x8192 .f32) (main_arg1 : FVec F S1x4x4096 .f32) (main_arg2 : FVec F S1x4096 .f32) (main_arg3 : FVec F S1x16x256x256 .f32) (main_arg4 : FVec F S1x16x256 .f32) (main_arg5 : FVec F S1x16x256x256 .f32) (main_arg6 : FVec F S1x16x256 .f32) (main_arg7 : FVec F S1x4096 .f32) (main_arg8 : FVec F S1x2048x4096 .f32) : IVec S1x2048x8192 1 × IVec S1x4x4096 1 × IVec S1x4096 1 × IVec S1x16x256x256 1 × IVec S1x16x256 1 × IVec S1x16x256x256 1 × IVec S1x16x256 1 × IVec S1x4096 1 × IVec S1x2048x4096 1 :=
  let main_v0 : FVec F S1x2048x8192 .f32 := Host.absf main_arg0
  let main_cst : FVec F S_ .f32 := constant S_ .f32 0x7F800000#32
  let main_v1 : FVec F S1x2048x8192 .f32 := broadcastInDim S1x2048x8192 ![] bcast_S_S1x2048x8192 main_cst
  let main_v2 : IVec S1x2048x8192 1 := cmpf .olt main_v0 main_v1
  let main_v3 : FVec F S1x4x4096 .f32 := Host.absf main_arg1
  let main_cst_0 : FVec F S_ .f32 := constant S_ .f32 0x7F800000#32
  let main_v4 : FVec F S1x4x4096 .f32 := broadcastInDim S1x4x4096 ![] bcast_S_S1x4x4096 main_cst_0
  let main_v5 : IVec S1x4x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S1x16x256x256 .f32 := Host.absf main_arg3
  let main_cst_2 : FVec F S_ .f32 := constant S_ .f32 0x7F800000#32
  let main_v10 : FVec F S1x16x256x256 .f32 := broadcastInDim S1x16x256x256 ![] bcast_S_S1x16x256x256 main_cst_2
  let main_v11 : IVec S1x16x256x256 1 := cmpf .olt main_v9 main_v10
  let main_v12 : FVec F S1x16x256 .f32 := Host.absf main_arg4
  let main_cst_3 : FVec F S_ .f32 := constant S_ .f32 0x7F800000#32
  let main_v13 : FVec F S1x16x256 .f32 := broadcastInDim S1x16x256 ![] bcast_S_S1x16x256 main_cst_3
  let main_v14 : IVec S1x16x256 1 := cmpf .olt main_v12 main_v13
  let main_v15 : FVec F S1x16x256x256 .f32 := Host.absf main_arg5
  let main_cst_4 : FVec F S_ .f32 := constant S_ .f32 0x7F800000#32
  let main_v16 : FVec F S1x16x256x256 .f32 := broadcastInDim S1x16x256x256 ![] bcast_S_S1x16x256x256 main_cst_4
  let main_v17 : IVec S1x16x256x256 1 := cmpf .olt main_v15 main_v16
  fn_part1 (F := F) main_arg6 main_arg7 main_arg8 main_v2 main_v5 main_v8 main_v11 main_v14 main_v17
-- ==== Pre_norm0_finite.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S2048 : S_.BroadcastsInDim S2048 (![] : Fin 0 → Fin S2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S2048 .f32) (main_arg2 : FVec F S1x2048 .f32) (main_arg3 : FVec F S1x2048 .f32) (main_arg4 : FVec F S1x2048x2048 .f32) (main_arg5 : FVec F S1x2048x2048 .f32) : IVec S1x2048x2048 1 × IVec S2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x2048 .f32 := Host.absf main_arg4
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_norm1_finite.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S2048 : S_.BroadcastsInDim S2048 (![] : Fin 0 → Fin S2048.rank)

variable [Facts]

def fn {F : FTy → Type} [FloatOps F] (main_arg0 : FVec F S1x2048x2048 .f32) (main_arg1 : FVec F S1x2048x2048 .f32) (main_arg2 : FVec F S1x2048 .f32) (main_arg3 : FVec F S2048 .f32) (main_arg4 : FVec F S1x2048 .f32) (main_arg5 : FVec F S1x2048 .f32) (main_arg6 : FVec F S1x2048x2048 .f32) (main_arg7 : FVec F S1x2048x2048 .f32) : IVec S1x2048x2048 1 × IVec S1x2048x2048 1 × IVec S1x2048 1 × IVec S2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048x2048 .f32 := Host.absf main_arg6
  let main_cst_4 : FVec F S_ .f32 := constant S_ .f32 0x7F800000#32
  let main_v16 : FVec F S1x2048x2048 .f32 := broadcastInDim S1x2048x2048 ![] bcast_S_S1x2048x2048 main_cst_4
  let main_v17 : IVec S1x2048x2048 1 := cmpf .olt main_v15 main_v16
  (main_v2, main_v5, main_v8, main_v11, main_v14, main_v17)
-- ==== Pre_sc_finite.lean ====
abbrev S1x2048x16384 : Shape := ⟨3, ![1, 2048, 16384]⟩
abbrev S1x3x4096 : Shape := ⟨3, ![1, 3, 4096]⟩
abbrev S1x2048x4096 : Shape := ⟨3, ![1, 2048, 4096]⟩
abbrev S_ : Shape := ⟨0, ![]⟩

class Facts : Prop where
  bcast_S_S1x2048x16384 : S_.BroadcastsInDim S1x2048x16384 (![] : Fin 0 → Fin S1x2048x16384.rank)
  bcast_S_S1x3x4096 : S_.BroadcastsInDim S1x3x4096 (![] : Fin 0 → Fin S1x3x4096.rank)
  bcast_S_S1x2048x4096 : S_.BroadcastsInDim S1x2048x4096 (![] : Fin 0 → Fin S1x2048x4096.rank)

variable [Facts]

def fn {F : FTy → Type} [FloatOps F] (main_arg0 : FVec F S1x2048x16384 .f32) (main_arg1 : FVec F S1x3x4096 .f32) (main_arg2 : FVec F S1x2048x4096 .f32) : IVec S1x2048x16384 1 × IVec S1x3x4096 1 × IVec S1x2048x4096 1 :=
  let main_v0 : FVec F S1x2048x16384 .f32 := Host.absf main_arg0
  let main_cst : FVec F S_ .f32 := constant S_ .f32 0x7F800000#32
  let main_v1 : FVec F S1x2048x16384 .f32 := broadcastInDim S1x2048x16384 ![] bcast_S_S1x2048x16384 main_cst
  let main_v2 : IVec S1x2048x16384 1 := cmpf .olt main_v0 main_v1
  let main_v3 : FVec F S1x3x4096 .f32 := Host.absf main_arg1
  let main_cst_0 : FVec F S_ .f32 := constant S_ .f32 0x7F800000#32
  let main_v4 : FVec F S1x3x4096 .f32 := broadcastInDim S1x3x4096 ![] bcast_S_S1x3x4096 main_cst_0
  let main_v5 : IVec S1x3x4096 1 := cmpf .olt main_v3 main_v4
  let main_v6 : FVec F S1x2048x4096 .f32 := Host.absf main_arg2
  let main_cst_1 : FVec F S_ .f32 := constant S_ .f32 0x7F800000#32
  let main_v7 : FVec F S1x2048x4096 .f32 := broadcastInDim S1x2048x4096 ![] bcast_S_S1x2048x4096 main_cst_1
  let main_v8 : IVec S1x2048x4096 1 := cmpf .olt main_v6 main_v7
  (main_v2, main_v5, main_v8)
-- ==== ScBwd.lean ====
abbrev S1x2048x16384 : Shape := ⟨3, ![1, 2048, 16384]⟩
abbrev S1x3x4096 : Shape := ⟨3, ![1, 3, 4096]⟩
abbrev S1x2048x4096 : Shape := ⟨3, ![1, 2048, 4096]⟩
abbrev S2048x16384 : Shape := ⟨2, ![2048, 16384]⟩
abbrev S2048x4x4096 : Shape := ⟨3, ![2048, 4, 4096]⟩
abbrev S4x2048x4096 : Shape := ⟨3, ![4, 2048, 4096]⟩
abbrev S2048x4096 : Shape := ⟨2, ![2048, 4096]⟩
abbrev S3x4096 : Shape := ⟨2, ![3, 4096]⟩
abbrev S8x4096 : Shape := ⟨2, ![8, 4096]⟩
abbrev S1x2048x256 : Shape := ⟨3, ![1, 2048, 256]⟩
abbrev S2048x256 : Shape := ⟨2, ![2048, 256]⟩
abbrev S3x256 : Shape := ⟨2, ![3, 256]⟩
abbrev S4x2048x256 : Shape := ⟨3, ![4, 2048, 256]⟩
abbrev S8x256 : Shape := ⟨2, ![8, 256]⟩
abbrev S1x256 : Shape := ⟨2, ![1, 256]⟩
abbrev S256 : Shape := ⟨1, ![256]⟩

abbrev nBuf : Space → Nat
  | .hbm => 12
  | .vmem => 16
  | .smem => 0
  | _ => 0

abbrev bufTy : (tb : Table) → Fin (tcTables nBuf tb) → BufTy
  | .hbm, ⟨0, _⟩ => ⟨S1x2048x16384, .f32⟩
  | .hbm, ⟨1, _⟩ => ⟨S1x3x4096, .f32⟩
  | .hbm, ⟨2, _⟩ => ⟨S1x2048x4096, .f32⟩
  | .hbm, ⟨3, _⟩ => ⟨S2048x16384, .f32⟩
  | .hbm, ⟨4, _⟩ => ⟨S2048x4x4096, .f32⟩
  | .hbm, ⟨5, _⟩ => ⟨S4x2048x4096, .f32⟩
  | .hbm, ⟨6, _⟩ => ⟨S4x2048x4096, .bf16⟩
  | .hbm, ⟨7, _⟩ => ⟨S2048x4096, .f32⟩
  | .hbm, ⟨8, _⟩ => ⟨S2048x4096, .bf16⟩
  | .hbm, ⟨9, _⟩ => ⟨S3x4096, .f32⟩
  | .hbm, ⟨10, _⟩ => ⟨S4x2048x4096, .bf16⟩
  | .hbm, ⟨11, _⟩ => ⟨S8x4096, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S4x2048x256, .bf16⟩
  | .local _ .vmem, ⟨13, _⟩ => ⟨S4x2048x256, .bf16⟩
  | .local _ .vmem, ⟨14, _⟩ => ⟨S8x256, .f32⟩
  | .local _ .vmem, ⟨15, _⟩ => ⟨S8x256, .f32⟩
  | _, _ => ⟨S1x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScRefIdeal.lean ====
abbrev S1x2048x16384 : Shape := ⟨3, ![1, 2048, 16384]⟩
abbrev S1x3x4096 : Shape := ⟨3, ![1, 3, 4096]⟩
abbrev S1x2048x4096 : Shape := ⟨3, ![1, 2048, 4096]⟩
abbrev S3x4096 : Shape := ⟨2, ![3, 4096]⟩
abbrev S_ : Shape := ⟨0, ![]⟩
abbrev S1x2x4096 : Shape := ⟨3, ![1, 2, 4096]⟩
abbrev S1x2050x4096 : Shape := ⟨3, ![1, 2050, 4096]⟩
abbrev S1x4096 : Shape := ⟨2, ![1, 4096]⟩
abbrev S4096 : Shape := ⟨1, ![4096]⟩
abbrev S1x1x4096 : Shape := ⟨3, ![1, 1, 4096]⟩
abbrev S2048x16384 : Shape := ⟨2, ![2048, 16384]⟩
abbrev S2048x4x4096 : Shape := ⟨3, ![2048, 4, 4096]⟩
abbrev S4x2048x4096 : Shape := ⟨3, ![4, 2048, 4096]⟩
abbrev S8x4096 : Shape := ⟨2, ![8, 4096]⟩

abbrev nBuf : Space → Nat
  | .hbm => 117
  | .vmem => 0
  | .smem => 0
  | _ => 0

abbrev bufTy : (tb : Table) → Fin (tcTables nBuf tb) → BufTy
  | .hbm, ⟨0, _⟩ => ⟨S1x2048x16384, .f32⟩
  | .hbm, ⟨1, _⟩ => ⟨S1x3x4096, .f32⟩
  | .hbm, ⟨2, _⟩ => ⟨S1x2048x4096, .f32⟩
  | .hbm, ⟨3, _⟩ => ⟨S3x4096, .f32⟩
  | .hbm, ⟨4, _⟩ => ⟨S1x2048x4096, .f32⟩
  | .hbm, ⟨5, _⟩ => ⟨S1x2048x4096, .f32⟩
  | .hbm, ⟨6, _⟩ => ⟨S1x2048x4096, .f32⟩
  | .hbm, ⟨7, _⟩ => ⟨S1x2048x4096, .f32⟩
  | .hbm, ⟨8, _⟩ => ⟨S1x2048x4096, .f32⟩
  | .hbm, ⟨9, _⟩ => ⟨S_, .f32⟩
  | .hbm, ⟨10, _⟩ => ⟨S1x2x4096, .f32⟩
  | .hbm, ⟨11, _⟩ => ⟨S1x2050x4096, .f32⟩
  | .hbm, ⟨12, _⟩ => ⟨S_, .f32⟩
  | .hbm, ⟨13, _⟩ => ⟨S1x2x4096, .f32⟩
  | .hbm, ⟨14, _⟩ => ⟨S1x4096, .f32⟩
  | .hbm, ⟨15, _⟩ => ⟨S4096, .f32⟩
  | .hbm, ⟨16, _⟩ => ⟨S1x2048x4096, .f32⟩
  | .hbm, ⟨17, _⟩ => ⟨S1x1x4096, .f32⟩
  | .hbm, ⟨18, _⟩ => ⟨S1x2048x4096, .f32⟩
  | .hbm, ⟨19, _⟩ => ⟨S1x2048x4096, .f32⟩
  | .hbm, ⟨20, _⟩ => ⟨S_, .f32⟩
  | .hbm, ⟨21, _⟩ => ⟨S1x2048x4096, .f32⟩
  | .hbm, ⟨22, _⟩ => ⟨S1x2048x4096, .f32⟩
  | .hbm, ⟨23, _⟩ => ⟨S1x4096, .f32⟩
  | .hbm, ⟨24, _⟩ => ⟨S4096, .f32⟩
  | .hbm, ⟨25, _⟩ => ⟨S1x2048x4096, .f32⟩
  | .hbm, ⟨26, _⟩ => ⟨S1x1x4096, .f32⟩
  | .hbm, ⟨27, _⟩ => ⟨S1x2048x4096, .f32⟩
  | .hbm, ⟨28, _⟩ => ⟨S1x2048x4096, .f32⟩
  | .hbm, ⟨29, _⟩ => ⟨S1x2048x4096, .f32⟩
  | .hbm, ⟨30, _⟩ => ⟨S1x4096, .f32⟩
  | .hbm, ⟨31, _⟩ => ⟨S4096, .f32⟩
  | .hbm, ⟨32, _⟩ => ⟨S1x2048x4096, .f32⟩
  | .hbm, ⟨33, _⟩ => ⟨S1x1x4096, .f32⟩
  | .hbm, ⟨34, _⟩ => ⟨S1x2048x4096, .f32⟩
  | .hbm, ⟨35, _⟩ => ⟨S1x2048x4096, .f32⟩
  | .hbm, ⟨36, _⟩ => ⟨S1x2048x4096, .f32⟩
  | .hbm, ⟨37, _⟩ => ⟨S1x2048x4096, .f32⟩
  | .hbm, ⟨38, _⟩ => ⟨S1x2048x4096, .f32⟩
  | .hbm, ⟨39, _⟩ => ⟨S1x2048x4096, .f32⟩
  | .hbm, ⟨40, _⟩ => ⟨S_, .f32⟩
  | .hbm, ⟨41, _⟩ => ⟨S1x2048x4096, .f32⟩
  | .hbm, ⟨42, _⟩ => ⟨S1x2048x4096, .f32⟩
  | .hbm, ⟨43, _⟩ => ⟨S_, .f32⟩
  | .hbm, ⟨44, _⟩ => ⟨S1x2048x4096, .f32⟩
  | .hbm, ⟨45, _⟩ => ⟨S1x2048x4096, .f32⟩
  | .hbm, ⟨46, _⟩ => ⟨S_, .f32⟩
  | .hbm, ⟨47, _⟩ => ⟨S1x2048x4096, .f32⟩
  | .hbm, ⟨48, _⟩ => ⟨S1x2048x4096, .f32⟩
  | .hbm, ⟨49, _⟩ => ⟨S1x2048x4096, .f32⟩
  | .hbm, ⟨50, _⟩ => ⟨S1x2048x4096, .f32⟩
  | .hbm, ⟨51, _⟩ => ⟨S1x2048x4096, .f32⟩
  | .hbm, ⟨52, _⟩ => ⟨S1x2048x4096, .f32⟩
  | .hbm, ⟨53, _⟩ => ⟨S1x2048x4096, .f32⟩
  | .hbm, ⟨54, _⟩ => ⟨S1x2048x4096, .f32⟩
  | .hbm, ⟨55, _⟩ => ⟨S1x2048x4096, .f32⟩
  | .hbm, ⟨56, _⟩ => ⟨S1x2048x4096, .f32⟩
  | .hbm, ⟨57, _⟩ => ⟨S1x2048x4096, .f32⟩
  | .hbm, ⟨58, _⟩ => ⟨S1x2048x4096, .f32⟩
  | .hbm, ⟨59, _⟩ => ⟨S1x2048x4096, .f32⟩
  | .hbm, ⟨60, _⟩ => ⟨S1x2048x4096, .f32⟩
  | .hbm, ⟨61, _⟩ => ⟨S1x2048x4096, .f32⟩
  | .hbm, ⟨62, _⟩ => ⟨S1x2048x4096, .f32⟩
  | .hbm, ⟨63, _⟩ => ⟨S_, .f32⟩
  | .hbm, ⟨64, _⟩ => ⟨S1x4096, .f32⟩
  | .hbm, ⟨65, _⟩ => ⟨S1x1x4096, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S1x2050x4096, .f32⟩
  | .hbm, ⟨70, _⟩ => ⟨S1x4096, .f32⟩
  | .hbm, ⟨71, _⟩ => ⟨S_, .f32⟩
  | .hbm, ⟨72, _⟩ => ⟨S3x4096, .f32⟩
  | .hbm, ⟨73, _⟩ => ⟨S1x2048x4096, .f32⟩
  | .hbm, ⟨74, _⟩ => ⟨S1x2048x4096, .f32⟩
  | .hbm, ⟨75, _⟩ => ⟨S1x2048x4096, .f32⟩
  | .hbm, ⟨76, _⟩ => ⟨S_, .f32⟩
  | .hbm, ⟨77, _⟩ => ⟨S1x4096, .f32⟩
  | .hbm, ⟨78, _⟩ => ⟨S1x1x4096, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S1x2050x4096, .f32⟩
  | .hbm, ⟨83, _⟩ => ⟨S1x2050x4096, .f32⟩
  | .hbm, ⟨84, _⟩ => ⟨S1x4096, .f32⟩
  | .hbm, ⟨85, _⟩ => ⟨S_, .f32⟩
  | .hbm, ⟨86, _⟩ => ⟨S3x4096, .f32⟩
  | .hbm, ⟨87, _⟩ => ⟨S3x4096, .f32⟩
  | .hbm, ⟨88, _⟩ => ⟨S1x2048x4096, .f32⟩
  | .hbm, ⟨89, _⟩ => ⟨S1x2048x4096, .f32⟩
  | .hbm, ⟨90, _⟩ => ⟨S1x2048x4096, .f32⟩
  | .hbm, ⟨91, _⟩ => ⟨S_, .f32⟩
  | .hbm, ⟨92, _⟩ => ⟨S1x4096, .f32⟩
  | .hbm, ⟨93, _⟩ => ⟨S1x1x4096, .f32⟩
  | .hbm, ⟨94, _⟩ => ⟨S_, .f32⟩
  | .hbm, ⟨95, _⟩ => ⟨S4096, .f32⟩
  | .hbm, ⟨96, _⟩ => ⟨S_, .f32⟩
  | .hbm, ⟨97, _⟩ => ⟨S1x2050x4096, .f32⟩
  | .hbm, ⟨98, _⟩ => ⟨S1x2050x4096, .f32⟩
  | .hbm, ⟨99, _⟩ => ⟨S1x4096, .f32⟩
  | .hbm, ⟨100, _⟩ => ⟨S_, .f32⟩
  | .hbm, ⟨101, _⟩ => ⟨S3x4096, .f32⟩
  | .hbm, ⟨102, _⟩ => ⟨S3x4096, .f32⟩
  | .hbm, ⟨103, _⟩ => ⟨S1x2x4096, .f32⟩
  | .hbm, ⟨104, _⟩ => ⟨S1x2048x4096, .f32⟩
  | .hbm, ⟨105, _⟩ => ⟨S1x2048x4096, .f32⟩
  | .hbm, ⟨106, _⟩ => ⟨S1x2048x4096, .f32⟩
  | .hbm, ⟨107, _⟩ => ⟨S1x2048x16384, .f32⟩
  | .hbm, ⟨108, _⟩ => ⟨S1x3x4096, .f32⟩
  | .hbm, ⟨109, _⟩ => ⟨S2048x16384, .f32⟩
  | .hbm, ⟨110, _⟩ => ⟨S2048x4x4096, .f32⟩
  | .hbm, ⟨111, _⟩ => ⟨S4x2048x4096, .f32⟩
  | .hbm, ⟨112, _⟩ => ⟨S4x2048x4096, .bf16⟩
  | .hbm, ⟨113, _⟩ => ⟨S3x4096, .f32⟩
  | .hbm, ⟨114, _⟩ => ⟨S_, .i32⟩
  | .hbm, ⟨115, _⟩ => ⟨S_, .f32⟩
  | .hbm, ⟨116, _⟩ => ⟨S8x4096, .f32⟩
  | _, _ => ⟨S1x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v32_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v32_1 : Ref sig .tc := ⟨.hbm, 49, rfl⟩
abbrev main_v32_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c : Ref sig .tc := ⟨.hbm, 114, rfl⟩
abbrev main_call2_v0 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Lru.lean ====
abbrev S1x2048x8192 : Shape := ⟨3, ![1, 2048, 8192]⟩
abbrev S1x4x4096 : Shape := ⟨3, ![1, 4, 4096]⟩
abbrev S1x4096 : Shape := ⟨2, ![1, 4096]⟩
abbrev S1x16x256x256 : Shape := ⟨4, ![1, 16, 256, 256]⟩
abbrev S1x16x256 : Shape := ⟨3, ![1, 16, 256]⟩
abbrev S1x2048x4096 : Shape := ⟨3, ![1, 2048, 4096]⟩
abbrev S2048x8192 : Shape := ⟨2, ![2048, 8192]⟩
abbrev S2048x2x4096 : Shape := ⟨3, ![2048, 2, 4096]⟩
abbrev S2x2048x4096 : Shape := ⟨3, ![2, 2048, 4096]⟩
abbrev S4x4096 : Shape := ⟨2, ![4, 4096]⟩
abbrev S16x256x256 : Shape := ⟨3, ![16, 256, 256]⟩
abbrev S2048x4096 : Shape := ⟨2, ![2048, 4096]⟩
abbrev S6x2048x4096 : Shape := ⟨3, ![6, 2048, 4096]⟩
abbrev S1x2048x256 : Shape := ⟨3, ![1, 2048, 256]⟩
abbrev S4x256 : Shape := ⟨2, ![4, 256]⟩
abbrev S1x256 : Shape := ⟨2, ![1, 256]⟩
abbrev S1x256x256 : Shape := ⟨3, ![1, 256, 256]⟩
abbrev S2048x256 : Shape := ⟨2, ![2048, 256]⟩
abbrev S6x2048x256 : Shape := ⟨3, ![6, 2048, 256]⟩
abbrev S256x256 : Shape := ⟨2, ![256, 256]⟩
abbrev S64x256 : Shape := ⟨2, ![64, 256]⟩
abbrev S1x64x256 : Shape := ⟨3, ![1, 64, 256]⟩
abbrev S16x4096 : Shape := ⟨2, ![16, 4096]⟩
abbrev S2x2048x256 : Shape := ⟨3, ![2, 2048, 256]⟩
abbrev S16x256 : Shape := ⟨2, ![16, 256]⟩
abbrev S256 : Shape := ⟨1, ![256]⟩
abbrev S256x2048 : Shape := ⟨2, ![256, 2048]⟩

abbrev nBuf : Space → Nat
  | .hbm => 28
  | .vmem => 52
  | .smem => 0
  | _ => 0

abbrev bufTy : (tb : Table) → Fin (tcTables nBuf tb) → BufTy
  | .hbm, ⟨0, _⟩ => ⟨S1x2048x8192, .f32⟩
  | .hbm, ⟨1, _⟩ => ⟨S1x4x4096, .f32⟩
  | .hbm, ⟨2, _⟩ => ⟨S1x4096, .f32⟩
  | .hbm, ⟨3, _⟩ => ⟨S1x16x256x256, .f32⟩
  | .hbm, ⟨4, _⟩ => ⟨S1x16x256, .f32⟩
  | .hbm, ⟨5, _⟩ => ⟨S1x16x256x256, .f32⟩
  | .hbm, ⟨6, _⟩ => ⟨S1x16x256, .f32⟩
  | .hbm, ⟨7, _⟩ => ⟨S1x4096, .f32⟩
  | .hbm, ⟨8, _⟩ => ⟨S1x2048x4096, .f32⟩
  | .hbm, ⟨9, _⟩ => ⟨S2048x8192, .f32⟩
  | .hbm, ⟨10, _⟩ => ⟨S2048x2x4096, .f32⟩
  | .hbm, ⟨11, _⟩ => ⟨S2x2048x4096, .f32⟩
  | .hbm, ⟨12, _⟩ => ⟨S2x2048x4096, .bf16⟩
  | .hbm, ⟨13, _⟩ => ⟨S4x4096, .f32⟩
  | .hbm, ⟨14, _⟩ => ⟨S16x256x256, .f32⟩
  | .hbm, ⟨15, _⟩ => ⟨S16x256x256, .bf16⟩
  | .hbm, ⟨16, _⟩ => ⟨S1x4096, .f32⟩
  | .hbm, ⟨17, _⟩ => ⟨S16x256x256, .f32⟩
  | .hbm, ⟨18, _⟩ => ⟨S16x256x256, .bf16⟩
  | .hbm, ⟨19, _⟩ => ⟨S1x4096, .f32⟩
  | .hbm, ⟨20, _⟩ => ⟨S2048x4096, .bf16⟩
  | .hbm, ⟨21, _⟩ => ⟨S6x2048x4096, .f32⟩
  | .hbm, ⟨22, _⟩ => ⟨S2048x4096, .f32⟩
  | .hbm, ⟨23, _⟩ => ⟨S2048x4096, .bf16⟩
  | .hbm, ⟨24, _⟩ => ⟨S2x2048x4096, .bf16⟩
  | .hbm, ⟨25, _⟩ => ⟨S16x256x256, .bf16⟩
  | .hbm, ⟨26, _⟩ => ⟨S16x256x256, .bf16⟩
  | .hbm, ⟨27, _⟩ => ⟨S16x4096, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256, .f32⟩
  | .local _ .vmem, ⟨11, _⟩ => ⟨S1x256, .f32⟩
  | .local _ .vmem, ⟨12, _⟩ => ⟨S1x256x256, .bf16⟩
  | .local _ .vmem, ⟨13, _⟩ => ⟨S1x256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2048x256, .bf16⟩
  | .local _ .vmem, ⟨19, _⟩ => ⟨S2048x256, .bf16⟩
  | .local _ .vmem, ⟨20, _⟩ => ⟨S6x2048x256, .f32⟩
  | .local _ .vmem, ⟨21, _⟩ => ⟨S6x2048x256, .f32⟩
  | .local _ .vmem, ⟨22, _⟩ => ⟨S1x2048x256, .bf16⟩
  | .local _ .vmem, ⟨23, _⟩ => ⟨S1x2048x256, .bf16⟩
  | .local _ .vmem, ⟨24, _⟩ => ⟨S1x2048x256, .bf16⟩
  | .local _ .vmem, ⟨25, _⟩ => ⟨S1x2048x256, .bf16⟩
  | .local _ .vmem, ⟨26, _⟩ => ⟨S6x2048x256, .f32⟩
  | .local _ .vmem, ⟨27, _⟩ => ⟨S6x2048x256, .f32⟩
  | .local _ .vmem, ⟨28, _⟩ => ⟨S2048x256, .bf16⟩
  | .local _ .vmem, ⟨29, _⟩ => ⟨S2048x256, .bf16⟩
  | .local _ .vmem, ⟨30, _⟩ => ⟨S4x256, .f32⟩
  | .local _ .vmem, ⟨31, _⟩ => ⟨S4x256, .f32⟩
  | .local _ .vmem, ⟨32, _⟩ => ⟨S1x256, .f32⟩
  | .local _ .vmem, ⟨33, _⟩ => ⟨S1x256, .f32⟩
  | .local _ .vmem, ⟨34, _⟩ => ⟨S1x256x256, .bf16⟩
  | .local _ .vmem, ⟨35, _⟩ => ⟨S1x256x256, .bf16⟩
  | .local _ .vmem, ⟨36, _⟩ => ⟨S1x256, .f32⟩
  | .local _ .vmem, ⟨37, _⟩ => ⟨S1x256, .f32⟩
  | .local _ .vmem, ⟨38, _⟩ => ⟨S1x256x256, .bf16⟩
  | .local _ .vmem, ⟨39, _⟩ => ⟨S1x256x256, .bf16⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S2x2048x256, .bf16⟩
  | .local _ .vmem, ⟨45, _⟩ => ⟨S2x2048x256, .bf16⟩
  | .local _ .vmem, ⟨46, _⟩ => ⟨S1x256x256, .bf16⟩
  | .local _ .vmem, ⟨47, _⟩ => ⟨S1x256x256, .bf16⟩
  | .local _ .vmem, ⟨48, _⟩ => ⟨S1x256x256, .bf16⟩
  | .local _ .vmem, ⟨49, _⟩ => ⟨S1x256x256, .bf16⟩
  | .local _ .vmem, ⟨50, _⟩ => ⟨S16x256, .f32⟩
  | .local _ .vmem, ⟨51, _⟩ => ⟨S16x256, .f32⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x2048x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S16x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== LruRefIdeal.lean ====
abbrev S1x2048x8192 : Shape := ⟨3, ![1, 2048, 8192]⟩
abbrev S1x4x4096 : Shape := ⟨3, ![1, 4, 4096]⟩
abbrev S1x4096 : Shape := ⟨2, ![1, 4096]⟩
abbrev S1x16x256x256 : Shape := ⟨4, ![1, 16, 256, 256]⟩
abbrev S1x16x256 : Shape := ⟨3, ![1, 16, 256]⟩
abbrev S1x2048x4096 : Shape := ⟨3, ![1, 2048, 4096]⟩
abbrev S4x4096 : Shape := ⟨2, ![4, 4096]⟩
abbrev S4096 : Shape := ⟨1, ![4096]⟩
abbrev S16x256x256 : Shape := ⟨3, ![16, 256, 256]⟩
abbrev S16x256 : Shape := ⟨2, ![16, 256]⟩
abbrev S_ : Shape := ⟨0, ![]⟩
abbrev S1x3x4096 : Shape := ⟨3, ![1, 3, 4096]⟩
abbrev S1x2051x4096 : Shape := ⟨3, ![1, 2051, 4096]⟩
abbrev S1x1x4096 : Shape := ⟨3, ![1, 1, 4096]⟩
abbrev S1x2048x16x256 : Shape := ⟨4, ![1, 2048, 16, 256]⟩
abbrev S16x256x1x2048 : Shape := ⟨4, ![16, 256, 1, 2048]⟩
abbrev S1x1x16x256 : Shape := ⟨4, ![1, 1, 16, 256]⟩
abbrev S2048x1x4096 : Shape := ⟨3, ![2048, 1, 4096]⟩
abbrev S16x1x2048x256 : Shape := ⟨4, ![16, 1, 2048, 256]⟩
abbrev S8x4096 : Shape := ⟨2, ![8, 4096]⟩
abbrev S16x4096 : Shape := ⟨2, ![16, 4096]⟩
abbrev S2048x4096 : Shape := ⟨2, ![2048, 4096]⟩
abbrev S2048x8192 : Shape := ⟨2, ![2048, 8192]⟩
abbrev S2048x2x4096 : Shape := ⟨3, ![2048, 2, 4096]⟩
abbrev S2x2048x4096 : Shape := ⟨3, ![2, 2048, 4096]⟩

abbrev nBuf : Space → Nat
  | .hbm => 408
  | .vmem => 0
  | .smem => 0
  | _ => 0

abbrev hbmTy0_0 (i : Nat) : BufTy := match i % 128 with
  | 0 => ⟨S1x2048x8192, .f32⟩
  | 1 => ⟨S1x4x4096, .f32⟩
  | 2 => ⟨S1x4096, .f32⟩
  | 3 => ⟨S1x16x256x256, .f32⟩
  | 4 => ⟨S1x16x256, .f32⟩
  | 5 => ⟨S1x16x256x256, .f32⟩
  | 6 => ⟨S1x16x256, .f32⟩
  | 7 => ⟨S1x4096, .f32⟩
  | 8 => ⟨S1x2048x4096, .f32⟩
  | 9 => ⟨S4x4096, .f32⟩
  | 10 => ⟨S4096, .f32⟩
  | 11 => ⟨S16x256x256, .f32⟩
  | 12 => ⟨S16x256, .f32⟩
  | 13 => ⟨S16x256x256, .f32⟩
  | 14 => ⟨S16x256, .f32⟩
  | 15 => ⟨S4096, .f32⟩
  | 16 => ⟨S1x2048x4096, .f32⟩
  | 17 => ⟨S1x2048x4096, .f32⟩
  | 18 => ⟨S_, .f32⟩
  | 19 => ⟨S1x3x4096, .f32⟩
  | 20 => ⟨S1x2051x4096, .f32⟩
  | 21 => ⟨S_, .f32⟩
  | 22 => ⟨S1x3x4096, .f32⟩
  | 23 => ⟨S1x4096, .f32⟩
  | 24 => ⟨S4096, .f32⟩
  | 25 => ⟨S1x2048x4096, .f32⟩
  | 26 => ⟨S1x1x4096, .f32⟩
  | 27 => ⟨S1x2048x4096, .f32⟩
  | 28 => ⟨S1x2048x4096, .f32⟩
  | 29 => ⟨S_, .f32⟩
  | 30 => ⟨S1x2048x4096, .f32⟩
  | 31 => ⟨S1x2048x4096, .f32⟩
  | 32 => ⟨S1x4096, .f32⟩
  | 33 => ⟨S4096, .f32⟩
  | 34 => ⟨S1x2048x4096, .f32⟩
  | 35 => ⟨S1x1x4096, .f32⟩
  | 36 => ⟨S1x2048x4096, .f32⟩
  | 37 => ⟨S1x2048x4096, .f32⟩
  | 38 => ⟨S1x2048x4096, .f32⟩
  | 39 => ⟨S1x4096, .f32⟩
  | 40 => ⟨S4096, .f32⟩
  | 41 => ⟨S1x2048x4096, .f32⟩
  | 42 => ⟨S1x1x4096, .f32⟩
  | 43 => ⟨S1x2048x4096, .f32⟩
  | 44 => ⟨S1x2048x4096, .f32⟩
  | 45 => ⟨S1x2048x4096, .f32⟩
  | 46 => ⟨S1x4096, .f32⟩
  | 47 => ⟨S4096, .f32⟩
  | 48 => ⟨S1x2048x4096, .f32⟩
  | 49 => ⟨S1x1x4096, .f32⟩
  | 50 => ⟨S1x2048x4096, .f32⟩
  | 51 => ⟨S1x2048x4096, .f32⟩
  | 52 => ⟨S1x2048x4096, .f32⟩
  | 53 => ⟨S1x1x4096, .f32⟩
  | 54 => ⟨S1x2048x4096, .f32⟩
  | 55 => ⟨S1x2048x4096, .f32⟩
  | 56 => ⟨S1x2048x16x256, .f32⟩
  | 57 => ⟨S16x256x1x2048, .f32⟩
  | 58 => ⟨S1x2048x16x256, .f32⟩
  | 59 => ⟨S1x1x16x256, .f32⟩
  | 60 => ⟨S1x2048x16x256, .f32⟩
  | 61 => ⟨S1x2048x16x256, .f32⟩
  | 62 => ⟨S1x2048x16x256, .f32⟩
  | 63 => ⟨S1x2048x16x256, .f32⟩
  | 64 => ⟨S_, .f32⟩
  | 65 => ⟨S1x2048x16x256, .f32⟩
  | 66 => ⟨S1x2048x16x256, .f32⟩
  | 67 => ⟨S_, .f32⟩
  | 68 => ⟨S1x2048x16x256, .f32⟩
  | 69 => ⟨S1x2048x16x256, .f32⟩
  | 70 => ⟨S_, .f32⟩
  | 71 => ⟨S1x2048x16x256, .f32⟩
  | 72 => ⟨S1x2048x16x256, .f32⟩
  | 73 => ⟨S1x2048x16x256, .f32⟩
  | 74 => ⟨S1x2048x4096, .f32⟩
  | 75 => ⟨S16x256x1x2048, .f32⟩
  | 76 => ⟨S1x2048x16x256, .f32⟩
  | 77 => ⟨S1x1x16x256, .f32⟩
  | 78 => ⟨S1x2048x16x256, .f32⟩
  | 79 => ⟨S1x2048x16x256, .f32⟩
  | 80 => ⟨S1x2048x16x256, .f32⟩
  | 81 => ⟨S1x2048x16x256, .f32⟩
  | 82 => ⟨S_, .f32⟩
  | 83 => ⟨S1x2048x16x256, .f32⟩
  | 84 => ⟨S1x2048x16x256, .f32⟩
  | 85 => ⟨S_, .f32⟩
  | 86 => ⟨S1x2048x16x256, .f32⟩
  | 87 => ⟨S1x2048x16x256, .f32⟩
  | 88 => ⟨S_, .f32⟩
  | 89 => ⟨S1x2048x16x256, .f32⟩
  | 90 => ⟨S1x2048x16x256, .f32⟩
  | 91 => ⟨S1x2048x16x256, .f32⟩
  | 92 => ⟨S1x2048x4096, .f32⟩
  | 93 => ⟨S_, .f32⟩
  | 94 => ⟨S1x2048x4096, .f32⟩
  | 95 => ⟨S1x2048x4096, .f32⟩
  | 96 => ⟨S4096, .f32⟩
  | 97 => ⟨S_, .f32⟩
  | 98 => ⟨S4096, .f32⟩
  | 99 => ⟨S4096, .f32⟩
  | 100 => ⟨S4096, .f32⟩
  | 101 => ⟨S4096, .f32⟩
  | 102 => ⟨S4096, .i1⟩
  | 103 => ⟨S4096, .f32⟩
  | 104 => ⟨S4096, .f32⟩
  | 105 => ⟨S4096, .f32⟩
  | 106 => ⟨S4096, .f32⟩
  | 107 => ⟨S4096, .f32⟩
  | 108 => ⟨S4096, .f32⟩
  | 109 => ⟨S4096, .f32⟩
  | 110 => ⟨S4096, .f32⟩
  | 111 => ⟨S_, .f32⟩
  | 112 => ⟨S4096, .f32⟩
  | 113 => ⟨S4096, .i1⟩
  | 114 => ⟨S_, .f32⟩
  | 115 => ⟨S4096, .f32⟩
  | 116 => ⟨S4096, .f32⟩
  | 117 => ⟨S_, .f32⟩
  | 118 => ⟨S4096, .f32⟩
  | 119 => ⟨S4096, .i1⟩
  | 120 => ⟨S_, .f32⟩
  | 121 => ⟨S4096, .f32⟩
  | 122 => ⟨S4096, .f32⟩
  | 123 => ⟨S4096, .f32⟩
  | 124 => ⟨S4096, .f32⟩
  | 125 => ⟨S_, .f32⟩
  | 126 => ⟨S_, .f32⟩
  | 127 => ⟨S_, .i1⟩
  | _ => ⟨S1x2048x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S4096, .f32⟩
  | 5 => ⟨S4096, .i1⟩
  | 6 => ⟨S_, .f32⟩
  | 7 => ⟨S4096, .f32⟩
  | 8 => ⟨S4096, .f32⟩
  | 9 => ⟨S4096, .f32⟩
  | 10 => ⟨S4096, .f32⟩
  | 11 => ⟨S4096, .f32⟩
  | 12 => ⟨S_, .f32⟩
  | 13 => ⟨S4096, .f32⟩
  | 14 => ⟨S4096, .f32⟩
  | 15 => ⟨S1x1x4096, .f32⟩
  | 16 => ⟨S1x2048x4096, .f32⟩
  | 17 => ⟨S1x2048x4096, .f32⟩
  | 18 => ⟨S1x2048x4096, .f32⟩
  | 19 => ⟨S_, .f32⟩
  | 20 => ⟨S1x2048x4096, .f32⟩
  | 21 => ⟨S1x2048x4096, .f32⟩
  | 22 => ⟨S1x2048x4096, .f32⟩
  | 23 => ⟨S1x2048x4096, .f32⟩
  | 24 => ⟨S1x2048x4096, .f32⟩
  | 25 => ⟨S1x2048x4096, .f32⟩
  | 26 => ⟨S_, .f32⟩
  | 27 => ⟨S1x2048x4096, .f32⟩
  | 28 => ⟨S1x2048x4096, .f32⟩
  | 29 => ⟨S1x2048x4096, .f32⟩
  | 30 => ⟨S1x2048x4096, .f32⟩
  | 31 => ⟨S_, .f32⟩
  | 32 => ⟨S1x4096, .f32⟩
  | 33 => ⟨S2048x1x4096, .f32⟩
  | 34 => ⟨S2048x1x4096, .f32⟩
  | 35 => ⟨S_, .f32⟩
  | 36 => ⟨S2048x1x4096, .f32⟩
  | 37 => ⟨S_, .f32⟩
  | 38 => ⟨S2048x1x4096, .f32⟩
  | 39 => ⟨S_, .i32⟩
  | 40 => ⟨S2048x1x4096, .f32⟩
  | 41 => ⟨S2048x1x4096, .f32⟩
  | 42 => ⟨S_, .i32⟩
  | 43 => ⟨S1x4096, .f32⟩
  | 44 => ⟨S2048x1x4096, .f32⟩
  | 45 => ⟨S2048x1x4096, .f32⟩
  | 46 => ⟨S_, .i32⟩
  | 47 => ⟨S_, .i1⟩
  | 48 => ⟨S_, .i32⟩
  | 49 => ⟨S_, .i32⟩
  | 50 => ⟨S1x1x4096, .f32⟩
  | 51 => ⟨S1x4096, .f32⟩
  | 52 => ⟨S_, .i32⟩
  | 53 => ⟨S_, .i32⟩
  | 54 => ⟨S1x1x4096, .f32⟩
  | 55 => ⟨S1x4096, .f32⟩
  | 56 => ⟨S1x4096, .f32⟩
  | 57 => ⟨S1x4096, .f32⟩
  | 58 => ⟨S1x1x4096, .f32⟩
  | 59 => ⟨S_, .i32⟩
  | 60 => ⟨S_, .i32⟩
  | 61 => ⟨S2048x1x4096, .f32⟩
  | 62 => ⟨S1x1x4096, .f32⟩
  | 63 => ⟨S_, .i32⟩
  | 64 => ⟨S_, .i32⟩
  | 65 => ⟨S2048x1x4096, .f32⟩
  | 66 => ⟨S_, .i32⟩
  | 67 => ⟨S_, .i32⟩
  | 68 => ⟨S1x2048x4096, .f32⟩
  | 69 => ⟨S1x2048x4096, .f32⟩
  | 70 => ⟨S1x2048x4096, .f32⟩
  | 71 => ⟨S_, .f32⟩
  | 72 => ⟨S1x2048x4096, .f32⟩
  | 73 => ⟨S1x2048x4096, .f32⟩
  | 74 => ⟨S_, .f32⟩
  | 75 => ⟨S1x2048x4096, .f32⟩
  | 76 => ⟨S1x2048x4096, .f32⟩
  | 77 => ⟨S_, .f32⟩
  | 78 => ⟨S1x2048x4096, .f32⟩
  | 79 => ⟨S1x2048x4096, .f32⟩
  | 80 => ⟨S1x2048x4096, .f32⟩
  | 81 => ⟨S1x2048x4096, .f32⟩
  | 82 => ⟨S1x2048x4096, .f32⟩
  | 83 => ⟨S_, .f32⟩
  | 84 => ⟨S1x4096, .f32⟩
  | 85 => ⟨S1x2048x4096, .f32⟩
  | 86 => ⟨S1x2048x4096, .f32⟩
  | 87 => ⟨S1x2048x4096, .f32⟩
  | 88 => ⟨S1x2048x4096, .f32⟩
  | 89 => ⟨S1x2048x4096, .f32⟩
  | 90 => ⟨S1x2048x4096, .f32⟩
  | 91 => ⟨S2048x1x4096, .f32⟩
  | 92 => ⟨S_, .f32⟩
  | 93 => ⟨S1x4096, .f32⟩
  | 94 => ⟨S_, .f32⟩
  | 95 => ⟨S2048x1x4096, .f32⟩
  | 96 => ⟨S_, .f32⟩
  | 97 => ⟨S2048x1x4096, .f32⟩
  | 98 => ⟨S_, .i32⟩
  | 99 => ⟨S2048x1x4096, .f32⟩
  | 100 => ⟨S2048x1x4096, .f32⟩
  | 101 => ⟨S2048x1x4096, .f32⟩
  | 102 => ⟨S_, .i32⟩
  | 103 => ⟨S1x4096, .f32⟩
  | 104 => ⟨S2048x1x4096, .f32⟩
  | 105 => ⟨S2048x1x4096, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x1x4096, .f32⟩
  | 115 => ⟨S1x4096, .f32⟩
  | 116 => ⟨S_, .i32⟩
  | 117 => ⟨S_, .i32⟩
  | 118 => ⟨S1x1x4096, .f32⟩
  | 119 => ⟨S1x4096, .f32⟩
  | 120 => ⟨S_, .i32⟩
  | 121 => ⟨S_, .i32⟩
  | 122 => ⟨S1x1x4096, .f32⟩
  | 123 => ⟨S1x4096, .f32⟩
  | 124 => ⟨S1x4096, .f32⟩
  | 125 => ⟨S1x4096, .f32⟩
  | 126 => ⟨S1x4096, .f32⟩
  | 127 => ⟨S1x1x4096, .f32⟩
  | _ => ⟨S1x2048x8192, .f32⟩

abbrev hbmTy0_2 (i : Nat) : BufTy := match i % 128 with
  | 0 => ⟨S_, .i32⟩
  | 1 => ⟨S_, .i32⟩
  | 2 => ⟨S2048x1x4096, .f32⟩
  | 3 => ⟨S1x1x4096, .f32⟩
  | 4 => ⟨S_, .i32⟩
  | 5 => ⟨S_, .i32⟩
  | 6 => ⟨S2048x1x4096, .f32⟩
  | 7 => ⟨S_, .i32⟩
  | 8 => ⟨S_, .i32⟩
  | 9 => ⟨S1x2048x4096, .f32⟩
  | 10 => ⟨S1x2048x4096, .f32⟩
  | 11 => ⟨S1x2048x4096, .f32⟩
  | 12 => ⟨S1x2048x4096, .f32⟩
  | 13 => ⟨S1x2048x4096, .f32⟩
  | 14 => ⟨S1x2048x4096, .f32⟩
  | 15 => ⟨S1x2048x4096, .f32⟩
  | 16 => ⟨S1x2048x4096, .f32⟩
  | 17 => ⟨S1x2048x4096, .f32⟩
  | 18 => ⟨S_, .f32⟩
  | 19 => ⟨S1x2048x4096, .f32⟩
  | 20 => ⟨S1x2048x4096, .f32⟩
  | 21 => ⟨S1x2048x4096, .f32⟩
  | 22 => ⟨S1x2048x4096, .f32⟩
  | 23 => ⟨S1x2048x4096, .f32⟩
  | 24 => ⟨S_, .f32⟩
  | 25 => ⟨S1x4096, .f32⟩
  | 26 => ⟨S1x1x4096, .f32⟩
  | 27 => ⟨S1x2048x4096, .f32⟩
  | 28 => ⟨S1x2048x4096, .f32⟩
  | 29 => ⟨S_, .f32⟩
  | 30 => ⟨S4096, .f32⟩
  | 31 => ⟨S4096, .f32⟩
  | 32 => ⟨S4096, .f32⟩
  | 33 => ⟨S_, .f32⟩
  | 34 => ⟨S1x2048x4096, .f32⟩
  | 35 => ⟨S1x2048x4096, .f32⟩
  | 36 => ⟨S1x2048x16x256, .f32⟩
  | 37 => ⟨S1x2048x16x256, .f32⟩
  | 38 => ⟨S_, .f32⟩
  | 39 => ⟨S1x16x256, .f32⟩
  | 40 => ⟨S1x1x16x256, .f32⟩
  | 41 => ⟨S_, .f32⟩
  | 42 => ⟨S16x256, .f32⟩
  | 43 => ⟨S16x256x1x2048, .f32⟩
  | 44 => ⟨S16x1x2048x256, .f32⟩
  | 45 => ⟨S1x2048x16x256, .f32⟩
  | 46 => ⟨S16x256x256, .f32⟩
  | 47 => ⟨S16x256x256, .f32⟩
  | 48 => ⟨S1x2048x16x256, .f32⟩
  | 49 => ⟨S1x2048x16x256, .f32⟩
  | 50 => ⟨S_, .f32⟩
  | 51 => ⟨S1x16x256, .f32⟩
  | 52 => ⟨S1x1x16x256, .f32⟩
  | 53 => ⟨S_, .f32⟩
  | 54 => ⟨S16x256, .f32⟩
  | 55 => ⟨S16x256x1x2048, .f32⟩
  | 56 => ⟨S16x1x2048x256, .f32⟩
  | 57 => ⟨S1x2048x16x256, .f32⟩
  | 58 => ⟨S1x2048x16x256, .f32⟩
  | 59 => ⟨S16x256x256, .f32⟩
  | 60 => ⟨S16x256x256, .f32⟩
  | 61 => ⟨S1x2048x4096, .f32⟩
  | 62 => ⟨S1x2048x4096, .f32⟩
  | 63 => ⟨S_, .f32⟩
  | 64 => ⟨S1x4096, .f32⟩
  | 65 => ⟨S1x1x4096, .f32⟩
  | 66 => ⟨S_, .f32⟩
  | 67 => ⟨S4096, .f32⟩
  | 68 => ⟨S1x2048x4096, .f32⟩
  | 69 => ⟨S1x2048x4096, .f32⟩
  | 70 => ⟨S1x2048x4096, .f32⟩
  | 71 => ⟨S_, .f32⟩
  | 72 => ⟨S1x4096, .f32⟩
  | 73 => ⟨S1x1x4096, .f32⟩
  | 74 => ⟨S_, .f32⟩
  | 75 => ⟨S4096, .f32⟩
  | 76 => ⟨S_, .f32⟩
  | 77 => ⟨S1x2051x4096, .f32⟩
  | 78 => ⟨S1x4096, .f32⟩
  | 79 => ⟨S_, .f32⟩
  | 80 => ⟨S4x4096, .f32⟩
  | 81 => ⟨S1x2048x4096, .f32⟩
  | 82 => ⟨S1x2048x4096, .f32⟩
  | 83 => ⟨S1x2048x4096, .f32⟩
  | 84 => ⟨S_, .f32⟩
  | 85 => ⟨S1x4096, .f32⟩
  | 86 => ⟨S1x1x4096, .f32⟩
  | 87 => ⟨S_, .f32⟩
  | 88 => ⟨S4096, .f32⟩
  | 89 => ⟨S_, .f32⟩
  | 90 => ⟨S1x2051x4096, .f32⟩
  | 91 => ⟨S1x2051x4096, .f32⟩
  | 92 => ⟨S1x4096, .f32⟩
  | 93 => ⟨S_, .f32⟩
  | 94 => ⟨S4x4096, .f32⟩
  | 95 => ⟨S4x4096, .f32⟩
  | 96 => ⟨S1x2048x4096, .f32⟩
  | 97 => ⟨S1x2048x4096, .f32⟩
  | 98 => ⟨S1x2048x4096, .f32⟩
  | 99 => ⟨S_, .f32⟩
  | 100 => ⟨S1x4096, .f32⟩
  | 101 => ⟨S1x1x4096, .f32⟩
  | 102 => ⟨S_, .f32⟩
  | 103 => ⟨S4096, .f32⟩
  | 104 => ⟨S_, .f32⟩
  | 105 => ⟨S1x2051x4096, .f32⟩
  | 106 => ⟨S1x2051x4096, .f32⟩
  | 107 => ⟨S1x4096, .f32⟩
  | 108 => ⟨S_, .f32⟩
  | 109 => ⟨S4x4096, .f32⟩
  | 110 => ⟨S4x4096, .f32⟩
  | 111 => ⟨S1x2048x4096, .f32⟩
  | 112 => ⟨S1x2048x4096, .f32⟩
  | 113 => ⟨S1x2048x4096, .f32⟩
  | 114 => ⟨S_, .f32⟩
  | 115 => ⟨S1x4096, .f32⟩
  | 116 => ⟨S1x1x4096, .f32⟩
  | 117 => ⟨S_, .f32⟩
  | 118 => ⟨S4096, .f32⟩
  | 119 => ⟨S_, .f32⟩
  | 120 => ⟨S1x2051x4096, .f32⟩
  | 121 => ⟨S1x2051x4096, .f32⟩
  | 122 => ⟨S1x4096, .f32⟩
  | 123 => ⟨S_, .f32⟩
  | 124 => ⟨S4x4096, .f32⟩
  | 125 => ⟨S4x4096, .f32⟩
  | 126 => ⟨S1x3x4096, .f32⟩
  | 127 => ⟨S1x2048x4096, .f32⟩
  | _ => ⟨S1x2048x8192, .f32⟩

abbrev hbmTy0_3 (i : Nat) : BufTy := match i % 128 with
  | 0 => ⟨S1x2048x8192, .f32⟩
  | 1 => ⟨S1x4096, .f32⟩
  | 2 => ⟨S1x16x256, .f32⟩
  | 3 => ⟨S1x16x256x256, .f32⟩
  | 4 => ⟨S1x16x256, .f32⟩
  | 5 => ⟨S1x16x256x256, .f32⟩
  | 6 => ⟨S1x4096, .f32⟩
  | 7 => ⟨S1x4x4096, .f32⟩
  | 8 => ⟨S1x4096, .f32⟩
  | 9 => ⟨S1x4096, .f32⟩
  | 10 => ⟨S4x4096, .f32⟩
  | 11 => ⟨S_, .f32⟩
  | 12 => ⟨S8x4096, .f32⟩
  | 13 => ⟨S16x4096, .f32⟩
  | 14 => ⟨S2048x4096, .f32⟩
  | 15 => ⟨S2048x4096, .bf16⟩
  | 16 => ⟨S2048x8192, .f32⟩
  | 17 => ⟨S2048x2x4096, .f32⟩
  | 18 => ⟨S2x2048x4096, .f32⟩
  | 19 => ⟨S2x2048x4096, .bf16⟩
  | 20 => ⟨S16x256x256, .f32⟩
  | 21 => ⟨S16x256x256, .bf16⟩
  | 22 => ⟨S16x256x256, .f32⟩
  | 23 => ⟨S16x256x256, .bf16⟩
  | _ => ⟨S1x2048x8192, .f32⟩

abbrev hbmTy (i : Nat) : BufTy := match i / 128 with
  | 0 => hbmTy0_0 i
  | 1 => hbmTy0_1 i
  | 2 => hbmTy0_2 i
  | 3 => hbmTy0_3 i
  | _ => ⟨S1x2048x8192, .f32⟩

abbrev bufTy : (tb : Table) → Fin (tcTables nBuf tb) → BufTy
  | .hbm, ⟨i, _⟩ => hbmTy i
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_v78_0 : Ref sig .tc := ⟨.hbm, 110, rfl⟩
abbrev main_call0_cst_0 : Ref sig .tc := ⟨.hbm, 111, rfl⟩
abbrev main_call0_v13 : Ref sig .tc := ⟨.hbm, 112, rfl⟩
abbrev main_call0_v14 : Ref sig .tc := ⟨.hbm, 113, rfl⟩
abbrev main_call0_cst_1 : Ref sig .tc := ⟨.hbm, 114, rfl⟩
abbrev main_call0_v15 : Ref sig .tc := ⟨.hbm, 115, rfl⟩
abbrev main_call0_v16 : Ref sig .tc := ⟨.hbm, 116, rfl⟩
abbrev main_call0_cst_2 : Ref sig .tc := ⟨.hbm, 117, rfl⟩
abbrev main_call0_v17 : Ref sig .tc := ⟨.hbm, 118, rfl⟩
abbrev main_call0_v18 : Ref sig .tc := ⟨.hbm, 119, rfl⟩
abbrev main_call0_cst_3 : Ref sig .tc := ⟨.hbm, 120, rfl⟩
abbrev main_call0_v19 : Ref sig .tc := ⟨.hbm, 121, rfl⟩
abbrev main_call0_v20 : Ref sig .tc := ⟨.hbm, 122, rfl⟩
abbrev main_call0_v21 : Ref sig .tc := ⟨.hbm, 123, rfl⟩
abbrev main_v78_1 : Ref sig .tc := ⟨.hbm, 124, rfl⟩
abbrev main_call0_cst_4 : Ref sig .tc := ⟨.hbm, 125, rfl⟩
abbrev main_call0_cst_5 : Ref sig .tc := ⟨.hbm, 126, rfl⟩
abbrev main_call0_v23 : Ref sig .tc := ⟨.hbm, 127, rfl⟩
abbrev main_call0_cst_6 : Ref sig .tc := ⟨.hbm, 128, rfl⟩
abbrev main_call0_cst_7 : Ref sig .tc := ⟨.hbm, 129, rfl⟩
abbrev main_call0_v24 : Ref sig .tc := ⟨.hbm, 130, rfl⟩
abbrev main_call0_cst_8 : Ref sig .tc := ⟨.hbm, 131, rfl⟩
abbrev main_call0_v25 : Ref sig .tc := ⟨.hbm, 132, rfl⟩
abbrev main_call0_v26 : Ref sig .tc := ⟨.hbm, 133, rfl⟩
abbrev main_call0_cst_9 : Ref sig .tc := ⟨.hbm, 134, rfl⟩
abbrev main_call0_v27 : Ref sig .tc := ⟨.hbm, 135, rfl⟩
abbrev main_call0_v28 : Ref sig .tc := ⟨.hbm, 136, rfl⟩
abbrev main_call0_v29 : Ref sig .tc := ⟨.hbm, 137, rfl⟩
abbrev main_call0_v30 : Ref sig .tc := ⟨.hbm, 138, rfl⟩
abbrev main_call0_v31 : Ref sig .tc := ⟨.hbm, 139, rfl⟩
abbrev main_call0_cst_10 : Ref sig .tc := ⟨.hbm, 140, rfl⟩
abbrev main_call0_v32 : Ref sig .tc := ⟨.hbm, 141, rfl⟩
abbrev main_v78_2 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_9 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_10 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_11 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_12 : Ref sig .tc := ⟨.hbm, 163, rfl⟩
abbrev main_v96 : Ref sig .tc := ⟨.hbm, 164, rfl⟩
abbrev main_cst_13 : Ref sig .tc := ⟨.hbm, 165, rfl⟩
abbrev main_v97 : Ref sig .tc := ⟨.hbm, 166, rfl⟩
abbrev main_c : Ref sig .tc := ⟨.hbm, 167, rfl⟩
abbrev main_v98_0 : Ref sig .tc := ⟨.hbm, 168, rfl⟩
abbrev main_v98_1 : Ref sig .tc := ⟨.hbm, 169, rfl⟩
abbrev main_v98_2 : Ref sig .tc := ⟨.hbm, 170, rfl⟩
abbrev main_v98_3 : Ref sig .tc := ⟨.hbm, 171, rfl⟩
abbrev main_v98_4 : Ref sig .tc := ⟨.hbm, 172, rfl⟩
abbrev main_v98_5 : Ref sig .tc := ⟨.hbm, 173, rfl⟩
abbrev main_while0c_c_51 : Ref sig .tc := ⟨.hbm, 174, rfl⟩
abbrev main_while0c_v227 : Ref sig .tc := ⟨.hbm, 175, rfl⟩
abbrev main_while0b_call1_c : Ref sig .tc := ⟨.hbm, 176, rfl⟩
abbrev main_while0b_call1_c_0 : Ref sig .tc := ⟨.hbm, 177, rfl⟩
abbrev main_while0b_call1_v0 : Ref sig .tc := ⟨.hbm, 178, rfl⟩
abbrev main_while0b_v227 : Ref sig .tc := ⟨.hbm, 179, rfl⟩
abbrev main_while0b_call2_c : Ref sig .tc := ⟨.hbm, 180, rfl⟩
abbrev main_while0b_call2_c_0 : Ref sig .tc := ⟨.hbm, 181, rfl⟩
abbrev main_while0b_call2_v0 : Ref sig .tc := ⟨.hbm, 182, rfl⟩
abbrev main_while0b_v228 : Ref sig .tc := ⟨.hbm, 183, rfl⟩
abbrev main_while0b_v229 : Ref sig .tc := ⟨.hbm, 184, rfl⟩
abbrev main_while0b_v230 : Ref sig .tc := ⟨.hbm, 185, rfl⟩
abbrev main_while0b_call3_v0 : Ref sig .tc := ⟨.hbm, 186, rfl⟩
abbrev main_while0b_call3_c : Ref sig .tc := ⟨.hbm, 187, rfl⟩
abbrev main_while0b_call3_c_0 : Ref sig .tc := ⟨.hbm, 188, rfl⟩
abbrev main_while0b_v231 : Ref sig .tc := ⟨.hbm, 189, rfl⟩
abbrev main_while0b_call4_v0 : Ref sig .tc := ⟨.hbm, 190, rfl⟩
abbrev main_while0b_call4_c : Ref sig .tc := ⟨.hbm, 191, rfl⟩
abbrev main_while0b_call4_c_0 : Ref sig .tc := ⟨.hbm, 192, rfl⟩
abbrev main_while0b_v232 : Ref sig .tc := ⟨.hbm, 193, rfl⟩
abbrev main_while0b_c_51 : Ref sig .tc := ⟨.hbm, 194, rfl⟩
abbrev main_while0b_v233 : Ref sig .tc := ⟨.hbm, 195, rfl⟩
abbrev main_v99 : Ref sig .tc := ⟨.hbm, 196, rfl⟩
abbrev main_call5_v0 : Ref sig .tc := ⟨.hbm, 197, rfl⟩
abbrev main_call5_v1 : Ref sig .tc := ⟨.hbm, 198, rfl⟩
abbrev main_call5_cst : Ref sig .tc := ⟨.hbm, 199, rfl⟩
abbrev main_call5_v2 : Ref sig .tc := ⟨.hbm, 200, rfl⟩
abbrev main_call5_v3 : Ref sig .tc := ⟨.hbm, 201, rfl⟩
abbrev main_call5_cst_0 : Ref sig .tc := ⟨.hbm, 202, rfl⟩
abbrev main_call5_v4 : Ref sig .tc := ⟨.hbm, 203, rfl⟩
abbrev main_v100_2 : Ref sig .tc := ⟨.hbm, 204, rfl⟩
abbrev main_call5_cst_1 : Ref sig .tc := ⟨.hbm, 205, rfl⟩
abbrev main_call5_v6 : Ref sig .tc := ⟨.hbm, 206, rfl⟩
abbrev main_call5_v7 : Ref sig .tc := ⟨.hbm, 207, rfl⟩
abbrev main_v100_1 : Ref sig .tc := ⟨.hbm, 208, rfl⟩
abbrev main_v100_0 : Ref sig .tc := ⟨.hbm, 209, rfl⟩
abbrev main_v101 : Ref sig .tc := ⟨.hbm, 210, rfl⟩
abbrev main_cst_14 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_v105 : Ref sig .tc := ⟨.hbm, 218, rfl⟩
abbrev main_v106 : Ref sig .tc := ⟨.hbm, 219, rfl⟩
abbrev main_cst_15 : Ref sig .tc := ⟨.hbm, 220, rfl⟩
abbrev main_v107 : Ref sig .tc := ⟨.hbm, 221, rfl⟩
abbrev main_cst_16 : Ref sig .tc := ⟨.hbm, 222, rfl⟩
abbrev main_v108 : Ref sig .tc := ⟨.hbm, 223, rfl⟩
abbrev main_cst_17 : Ref sig .tc := ⟨.hbm, 224, rfl⟩
abbrev main_v109 : Ref sig .tc := ⟨.hbm, 225, rfl⟩
abbrev main_c_18 : Ref sig .tc := ⟨.hbm, 226, rfl⟩
abbrev main_v110_0 : Ref sig .tc := ⟨.hbm, 227, rfl⟩
abbrev main_v110_1 : Ref sig .tc := ⟨.hbm, 228, rfl⟩
abbrev main_v110_2 : Ref sig .tc := ⟨.hbm, 229, rfl⟩
abbrev main_v110_3 : Ref sig .tc := ⟨.hbm, 230, rfl⟩
abbrev main_v110_4 : Ref sig .tc := ⟨.hbm, 231, rfl⟩
abbrev main_v110_5 : Ref sig .tc := ⟨.hbm, 232, rfl⟩
abbrev main_v110_6 : Ref sig .tc := ⟨.hbm, 233, rfl⟩
abbrev main_while1c_c_52 : Ref sig .tc := ⟨.hbm, 234, rfl⟩
abbrev main_while1c_v227 : Ref sig .tc := ⟨.hbm, 235, rfl⟩
abbrev main_while1b_c_52 : Ref sig .tc := ⟨.hbm, 236, rfl⟩
abbrev main_while1b_v227 : Ref sig .tc := ⟨.hbm, 237, rfl⟩
abbrev main_while1b_c_53 : Ref sig .tc := ⟨.hbm, 238, rfl⟩
abbrev main_while1b_v228 : Ref sig .tc := ⟨.hbm, 239, rfl⟩
abbrev main_while1b_call7_c : Ref sig .tc := ⟨.hbm, 240, rfl⟩
abbrev main_while1b_call7_c_0 : Ref sig .tc := ⟨.hbm, 241, rfl⟩
abbrev main_while1b_call7_v0 : Ref sig .tc := ⟨.hbm, 242, rfl⟩
abbrev main_while1b_v229 : Ref sig .tc := ⟨.hbm, 243, rfl⟩
abbrev main_while1b_call8_c : Ref sig .tc := ⟨.hbm, 244, rfl⟩
abbrev main_while1b_call8_c_0 : Ref sig .tc := ⟨.hbm, 245, rfl⟩
abbrev main_while1b_call8_v0 : Ref sig .tc := ⟨.hbm, 246, rfl⟩
abbrev main_while1b_v230 : Ref sig .tc := ⟨.hbm, 247, rfl⟩
abbrev main_while1b_call9_c : Ref sig .tc := ⟨.hbm, 248, rfl⟩
abbrev main_while1b_call9_c_0 : Ref sig .tc := ⟨.hbm, 249, rfl⟩
abbrev main_while1b_call9_v0 : Ref sig .tc := ⟨.hbm, 250, rfl⟩
abbrev main_while1b_v231 : Ref sig .tc := ⟨.hbm, 251, rfl⟩
abbrev main_while1b_v232 : Ref sig .tc := ⟨.hbm, 252, rfl⟩
abbrev main_while1b_v233 : Ref sig .tc := ⟨.hbm, 253, rfl⟩
abbrev main_while1b_v234 : Ref sig .tc := ⟨.hbm, 254, rfl⟩
abbrev main_while1b_call10_v0 : Ref sig .tc := ⟨.hbm, 255, rfl⟩
abbrev main_while1b_call10_c : Ref sig .tc := ⟨.hbm, 256, rfl⟩
abbrev main_while1b_call10_c_0 : Ref sig .tc := ⟨.hbm, 257, rfl⟩
abbrev main_while1b_v235 : Ref sig .tc := ⟨.hbm, 258, rfl⟩
abbrev main_while1b_call11_v0 : Ref sig .tc := ⟨.hbm, 259, rfl⟩
abbrev main_while1b_call11_c : Ref sig .tc := ⟨.hbm, 260, rfl⟩
abbrev main_while1b_call11_c_0 : Ref sig .tc := ⟨.hbm, 261, rfl⟩
abbrev main_while1b_v236 : Ref sig .tc := ⟨.hbm, 262, rfl⟩
abbrev main_while1b_c_54 : Ref sig .tc := ⟨.hbm, 263, rfl⟩
abbrev main_while1b_v237 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_cst_19 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_cst_20 : Ref sig .tc := ⟨.hbm, 280, rfl⟩
abbrev main_v125 : Ref sig .tc := ⟨.hbm, 281, rfl⟩
abbrev main_v126 : Ref sig .tc := ⟨.hbm, 282, rfl⟩
abbrev main_v127 : Ref sig .tc := ⟨.hbm, 283, rfl⟩
abbrev main_v128 : Ref sig .tc := ⟨.hbm, 284, rfl⟩
abbrev main_cst_21 : Ref sig .tc := ⟨.hbm, 285, rfl⟩
abbrev main_v129 : Ref sig .tc := ⟨.hbm, 286, rfl⟩
abbrev main_v130 : Ref sig .tc := ⟨.hbm, 287, rfl⟩
abbrev main_v131 : Ref sig .tc := ⟨.hbm, 288, rfl⟩
abbrev main_cst_22 : Ref sig .tc := ⟨.hbm, 289, rfl⟩
abbrev main_v132 : Ref sig .tc := ⟨.hbm, 290, rfl⟩
abbrev main_v133 : Ref sig .tc := ⟨.hbm, 291, rfl⟩
abbrev main_v134 : Ref sig .tc := ⟨.hbm, 292, rfl⟩
abbrev main_v135 : Ref sig .tc := ⟨.hbm, 293, rfl⟩
abbrev main_cst_23 : Ref sig .tc := ⟨.hbm, 294, rfl⟩
abbrev main_v136 : Ref sig .tc := ⟨.hbm, 295, rfl⟩
abbrev main_v137 : Ref sig .tc := ⟨.hbm, 296, rfl⟩
abbrev main_cst_24 : Ref sig .tc := ⟨.hbm, 297, rfl⟩
abbrev main_v138 : Ref sig .tc := ⟨.hbm, 298, rfl⟩
abbrev main_v139 : Ref sig .tc := ⟨.hbm, 299, rfl⟩
abbrev main_v140 : Ref sig .tc := ⟨.hbm, 300, rfl⟩
abbrev main_v141 : Ref sig .tc := ⟨.hbm, 301, rfl⟩
abbrev main_v142 : Ref sig .tc := ⟨.hbm, 302, rfl⟩
abbrev main_v143 : Ref sig .tc := ⟨.hbm, 303, rfl⟩
abbrev main_v144 : Ref sig .tc := ⟨.hbm, 304, rfl⟩
abbrev main_v145 : Ref sig .tc := ⟨.hbm, 305, rfl⟩
abbrev main_cst_25 : Ref sig .tc := ⟨.hbm, 306, rfl⟩
abbrev main_v146 : Ref sig .tc := ⟨.hbm, 307, rfl⟩
abbrev main_v147 : Ref sig .tc := ⟨.hbm, 308, rfl⟩
abbrev main_cst_26 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_cst_27 : Ref sig .tc := ⟨.hbm, 319, rfl⟩
abbrev main_v157 : Ref sig .tc := ⟨.hbm, 320, rfl⟩
abbrev main_v158 : Ref sig .tc := ⟨.hbm, 321, rfl⟩
abbrev main_cst_28 : Ref sig .tc := ⟨.hbm, 322, rfl⟩
abbrev main_v159 : Ref sig .tc := ⟨.hbm, 323, rfl⟩
abbrev main_v160 : Ref sig .tc := ⟨.hbm, 324, rfl⟩
abbrev main_v161 : Ref sig .tc := ⟨.hbm, 325, rfl⟩
abbrev main_v162 : Ref sig .tc := ⟨.hbm, 326, rfl⟩
abbrev main_cst_29 : Ref sig .tc := ⟨.hbm, 327, rfl⟩
abbrev main_v163 : Ref sig .tc := ⟨.hbm, 328, rfl⟩
abbrev main_v164 : Ref sig .tc := ⟨.hbm, 329, rfl⟩
abbrev main_cst_30 : Ref sig .tc := ⟨.hbm, 330, rfl⟩
abbrev main_v165 : Ref sig .tc := ⟨.hbm, 331, rfl⟩
abbrev main_cst_31 : Ref sig .tc := ⟨.hbm, 332, rfl⟩
abbrev main_v166 : Ref sig .tc := ⟨.hbm, 333, rfl⟩
abbrev main_v167 : Ref sig .tc := ⟨.hbm, 334, rfl⟩
abbrev main_cst_32 : Ref sig .tc := ⟨.hbm, 335, rfl⟩
abbrev main_v168 : Ref sig .tc := ⟨.hbm, 336, rfl⟩
abbrev main_v169 : Ref sig .tc := ⟨.hbm, 337, rfl⟩
abbrev main_v170 : Ref sig .tc := ⟨.hbm, 338, rfl⟩
abbrev main_v171 : Ref sig .tc := ⟨.hbm, 339, rfl⟩
abbrev main_cst_33 : Ref sig .tc := ⟨.hbm, 340, rfl⟩
abbrev main_v172 : Ref sig .tc := ⟨.hbm, 341, rfl⟩
abbrev main_v173 : Ref sig .tc := ⟨.hbm, 342, rfl⟩
abbrev main_cst_34 : Ref sig .tc := ⟨.hbm, 343, rfl⟩
abbrev main_v174 : Ref sig .tc := ⟨.hbm, 344, rfl⟩
abbrev main_cst_35 : Ref sig .tc := ⟨.hbm, 345, rfl⟩
abbrev main_v175 : Ref sig .tc := ⟨.hbm, 346, rfl⟩
abbrev main_v176 : Ref sig .tc := ⟨.hbm, 347, rfl⟩
abbrev main_v177 : Ref sig .tc := ⟨.hbm, 348, rfl⟩
abbrev main_cst_36 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_cst_37 : Ref sig .tc := ⟨.hbm, 355, rfl⟩
abbrev main_v183 : Ref sig .tc := ⟨.hbm, 356, rfl⟩
abbrev main_v184 : Ref sig .tc := ⟨.hbm, 357, rfl⟩
abbrev main_cst_38 : Ref sig .tc := ⟨.hbm, 358, rfl⟩
abbrev main_v185 : Ref sig .tc := ⟨.hbm, 359, rfl⟩
abbrev main_cst_39 : Ref sig .tc := ⟨.hbm, 360, rfl⟩
abbrev main_v186 : Ref sig .tc := ⟨.hbm, 361, rfl⟩
abbrev main_v187 : Ref sig .tc := ⟨.hbm, 362, rfl⟩
abbrev main_v188 : Ref sig .tc := ⟨.hbm, 363, rfl⟩
abbrev main_cst_40 : Ref sig .tc := ⟨.hbm, 364, rfl⟩
abbrev main_v189 : Ref sig .tc := ⟨.hbm, 365, rfl⟩
abbrev main_v190 : Ref sig .tc := ⟨.hbm, 366, rfl⟩
abbrev main_v191 : Ref sig .tc := ⟨.hbm, 367, rfl⟩
abbrev main_v192 : Ref sig .tc := ⟨.hbm, 368, rfl⟩
abbrev main_v193 : Ref sig .tc := ⟨.hbm, 369, rfl⟩
abbrev main_cst_41 : Ref sig .tc := ⟨.hbm, 370, rfl⟩
abbrev main_v194 : Ref sig .tc := ⟨.hbm, 371, rfl⟩
abbrev main_v195 : Ref sig .tc := ⟨.hbm, 372, rfl⟩
abbrev main_cst_42 : Ref sig .tc := ⟨.hbm, 373, rfl⟩
abbrev main_v196 : Ref sig .tc := ⟨.hbm, 374, rfl⟩
abbrev main_cst_43 : Ref sig .tc := ⟨.hbm, 375, rfl⟩
abbrev main_v197 : Ref sig .tc := ⟨.hbm, 376, rfl⟩
abbrev main_v198 : Ref sig .tc := ⟨.hbm, 377, rfl⟩
abbrev main_v199 : Ref sig .tc := ⟨.hbm, 378, rfl⟩
abbrev main_cst_44 : Ref sig .tc := ⟨.hbm, 379, rfl⟩
abbrev main_v200 : Ref sig .tc := ⟨.hbm, 380, rfl⟩
abbrev main_v201 : Ref sig .tc := ⟨.hbm, 381, rfl⟩
abbrev main_v202 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_v206 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_v214 : Ref sig .tc := ⟨.hbm, 394, rfl⟩
abbrev main_cst_45 : Ref sig .tc := ⟨.hbm, 395, rfl⟩
abbrev main_v215 : Ref sig .tc := ⟨.hbm, 396, rfl⟩
abbrev main_v216 : Ref sig .tc := ⟨.hbm, 397, rfl⟩
abbrev main_v217 : Ref sig .tc := ⟨.hbm, 398, rfl⟩
abbrev main_v218 : Ref sig .tc := ⟨.hbm, 399, rfl⟩
abbrev main_v219 : Ref sig .tc := ⟨.hbm, 400, rfl⟩
abbrev main_v220 : Ref sig .tc := ⟨.hbm, 401, rfl⟩
abbrev main_v221 : Ref sig .tc := ⟨.hbm, 402, rfl⟩
abbrev main_v222 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_v226 : Ref sig .tc := ⟨.hbm, 407, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Ada.lean ====
abbrev S8x2048 : Shape := ⟨2, ![8, 2048]⟩
abbrev S2x8x768 : Shape := ⟨3, ![2, 8, 768]⟩
abbrev S2x2048x768 : Shape := ⟨3, ![2, 2048, 768]⟩
abbrev S2048x8 : Shape := ⟨2, ![2048, 8]⟩
abbrev S512x8 : Shape := ⟨2, ![512, 8]⟩
abbrev S1x8x768 : Shape := ⟨3, ![1, 8, 768]⟩
abbrev S1x512x768 : Shape := ⟨3, ![1, 512, 768]⟩
abbrev S512x1 : Shape := ⟨2, ![512, 1]⟩
abbrev S1x1x768 : Shape := ⟨3, ![1, 1, 768]⟩
abbrev S1x768 : Shape := ⟨2, ![1, 768]⟩
abbrev S512x768 : Shape := ⟨2, ![512, 768]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2048x8, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .local _ .vmem, ⟨0, _⟩ => ⟨S512x8, .f32⟩
  | .local _ .vmem, ⟨1, _⟩ => ⟨S512x8, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaRefIdeal.lean ====
abbrev S8x2048 : Shape := ⟨2, ![8, 2048]⟩
abbrev S2x8x768 : Shape := ⟨3, ![2, 8, 768]⟩
abbrev S2x2048x768 : Shape := ⟨3, ![2, 2048, 768]⟩
abbrev S1x2048x768 : Shape := ⟨3, ![1, 2048, 768]⟩
abbrev S2048x768 : Shape := ⟨2, ![2048, 768]⟩
abbrev S_ : Shape := ⟨0, ![]⟩
abbrev S8x768 : Shape := ⟨2, ![8, 768]⟩
abbrev S1x8x768 : Shape := ⟨3, ![1, 8, 768]⟩
abbrev S768x2048 : Shape := ⟨2, ![768, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S1x2048x768, .f32⟩
  | .hbm, ⟨6, _⟩ => ⟨S2048x768, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x768, .f32⟩
  | .hbm, ⟨17, _⟩ => ⟨S1x2048x768, .f32⟩
  | .hbm, ⟨18, _⟩ => ⟨S2048x768, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S8x768, .f32⟩
  | .hbm, ⟨29, _⟩ => ⟨S1x8x768, .f32⟩
  | .hbm, ⟨30, _⟩ => ⟨S1x8x768, .f32⟩
  | .hbm, ⟨31, _⟩ => ⟨S2x8x768, .f32⟩
  | .hbm, ⟨32, _⟩ => ⟨S1x8x768, .f32⟩
  | .hbm, ⟨33, _⟩ => ⟨S8x768, .f32⟩
  | .hbm, ⟨34, _⟩ => ⟨S1x8x768, .f32⟩
  | .hbm, ⟨35, _⟩ => ⟨S8x768, .f32⟩
  | .hbm, ⟨36, _⟩ => ⟨S768x2048, .f32⟩
  | .hbm, ⟨37, _⟩ => ⟨S2048x768, .f32⟩
  | .hbm, ⟨38, _⟩ => ⟨S1x2048x768, .f32⟩
  | .hbm, ⟨39, _⟩ => ⟨S_, .f32⟩
  | .hbm, ⟨40, _⟩ => ⟨S2x2048x768, .f32⟩
  | .hbm, ⟨41, _⟩ => ⟨S768x2048, .f32⟩
  | .hbm, ⟨42, _⟩ => ⟨S2048x768, .f32⟩
  | .hbm, ⟨43, _⟩ => ⟨S1x2048x768, .f32⟩
  | .hbm, ⟨44, _⟩ => ⟨S_, .f32⟩
  | .hbm, ⟨45, _⟩ => ⟨S2x2048x768, .f32⟩
  | .hbm, ⟨46, _⟩ => ⟨S2x2048x768, .f32⟩
  | .hbm, ⟨47, _⟩ => ⟨S_, .f32⟩
  | .hbm, ⟨48, _⟩ => ⟨S2x2048x768, .f32⟩
  | .hbm, ⟨49, _⟩ => ⟨S2x2048x768, .f32⟩
  | .hbm, ⟨50, _⟩ => ⟨S_, .f32⟩
  | .hbm, ⟨51, _⟩ => ⟨S2x2048x768, .f32⟩
  | .hbm, ⟨52, _⟩ => ⟨S2x2048x768, .f32⟩
  | .hbm, ⟨53, _⟩ => ⟨S2x2048x768, .f32⟩
  | .hbm, ⟨54, _⟩ => ⟨S_, .f32⟩
  | .hbm, ⟨55, _⟩ => ⟨S2x2048x768, .f32⟩
  | .hbm, ⟨56, _⟩ => ⟨S2x2048x768, .f32⟩
  | .hbm, ⟨57, _⟩ => ⟨S2x2048x768, .f32⟩
  | .hbm, ⟨58, _⟩ => ⟨S_, .f32⟩
  | .hbm, ⟨59, _⟩ => ⟨S2x2048x768, .f32⟩
  | .hbm, ⟨60, _⟩ => ⟨S2x2048x768, .f32⟩
  | .hbm, ⟨61, _⟩ => ⟨S2x2048x768, .f32⟩
  | .hbm, ⟨62, _⟩ => ⟨S_, .f32⟩
  | .hbm, ⟨63, _⟩ => ⟨S2x2048x768, .f32⟩
  | .hbm, ⟨64, _⟩ => ⟨S2x2048x768, .f32⟩
  | .hbm, ⟨65, _⟩ => ⟨S_, .f32⟩
  | .hbm, ⟨66, _⟩ => ⟨S2x2048x768, .f32⟩
  | .hbm, ⟨67, _⟩ => ⟨S2x2048x768, .f32⟩
  | .hbm, ⟨68, _⟩ => ⟨S2x2048x768, .f32⟩
  | .hbm, ⟨69, _⟩ => ⟨S_, .f32⟩
  | .hbm, ⟨70, _⟩ => ⟨S2x2048x768, .f32⟩
  | .hbm, ⟨71, _⟩ => ⟨S2x2048x768, .f32⟩
  | .hbm, ⟨72, _⟩ => ⟨S2x2048x768, .f32⟩
  | .hbm, ⟨73, _⟩ => ⟨S_, .f32⟩
  | .hbm, ⟨74, _⟩ => ⟨S2x2048x768, .f32⟩
  | .hbm, ⟨75, _⟩ => ⟨S2x2048x768, .f32⟩
  | .hbm, ⟨76, _⟩ => ⟨S2x2048x768, .f32⟩
  | .hbm, ⟨77, _⟩ => ⟨S_, .f32⟩
  | .hbm, ⟨78, _⟩ => ⟨S2x2048x768, .f32⟩
  | .hbm, ⟨79, _⟩ => ⟨S2x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]
-- ==== Norm0.lean ====
abbrev S1x2048x2048 : Shape := ⟨3, ![1, 2048, 2048]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm0RefIdeal.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 80
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x2048, .f32⟩
  | .hbm, ⟨22, _⟩ => ⟨S1x2048x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S1x2048x2048, .f32⟩
  | .hbm, ⟨31, _⟩ => ⟨S1x2048x2048, .f32⟩
  | .hbm, ⟨32, _⟩ => ⟨S1x1x2048, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048, .f32⟩
  | .hbm, ⟨38, _⟩ => ⟨S1x1x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S1x2048x2048, .f32⟩
  | .hbm, ⟨43, _⟩ => ⟨S_, .f32⟩
  | .hbm, ⟨44, _⟩ => ⟨S1x2048, .f32⟩
  | .hbm, ⟨45, _⟩ => ⟨S1x1x2048, .f32⟩
  | .hbm, ⟨46, _⟩ => ⟨S1x2048x2048, .f32⟩
  | .hbm, ⟨47, _⟩ => ⟨S1x2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x2048, .f32⟩
  | .hbm, ⟨52, _⟩ => ⟨S_, .f32⟩
  | .hbm, ⟨53, _⟩ => ⟨S1x2048, .f32⟩
  | .hbm, ⟨54, _⟩ => ⟨S1x1x2048, .f32⟩
  | .hbm, ⟨55, _⟩ => ⟨S1x2048x2048, .f32⟩
  | .hbm, ⟨56, _⟩ => ⟨S1x2048x2048, .f32⟩
  | .hbm, ⟨57, _⟩ => ⟨S_, .f32⟩
  | .hbm, ⟨58, _⟩ => ⟨S2048, .f32⟩
  | .hbm, ⟨59, _⟩ => ⟨S1x2048x2048, .f32⟩
  | .hbm, ⟨60, _⟩ => ⟨S_, .f32⟩
  | .hbm, ⟨61, _⟩ => ⟨S1x2048, .f32⟩
  | .hbm, ⟨62, _⟩ => ⟨S1x2048x1, .f32⟩
  | .hbm, ⟨63, _⟩ => ⟨S1x2048x2048, .f32⟩
  | .hbm, ⟨64, _⟩ => ⟨S1x2048x2048, .f32⟩
  | .hbm, ⟨65, _⟩ => ⟨S1x2048x1, .f32⟩
  | .hbm, ⟨66, _⟩ => ⟨S_, .f32⟩
  | .hbm, ⟨67, _⟩ => ⟨S1x2048x1, .f32⟩
  | .hbm, ⟨68, _⟩ => ⟨S1x2048x1, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S1x2048x2048, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S2048x2048, .f32⟩
  | .hbm, ⟨79, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Norm1.lean ====
abbrev S1x2048x2048 : Shape := ⟨3, ![1, 2048, 2048]⟩
abbrev S1x2048 : Shape := ⟨2, ![1, 2048]⟩
abbrev S2048 : Shape := ⟨1, ![2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 19
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S2048x2048, .bf16⟩
  | .hbm, ⟨24, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm1RefIdeal.lean ====
abbrev S1x2048x2048 : Shape := ⟨3, ![1, 2048, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S1x1x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x2048, .f32⟩
  | .hbm, ⟨28, _⟩ => ⟨S1x2048x2048, .f32⟩
  | .hbm, ⟨29, _⟩ => ⟨S1x1x2048, .f32⟩
  | .hbm, ⟨30, _⟩ => ⟨S1x2048x2048, .f32⟩
  | .hbm, ⟨31, _⟩ => ⟨S1x2048x2048, .f32⟩
  | .hbm, ⟨32, _⟩ => ⟨S1x1x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S1x2048x2048, .f32⟩
  | .hbm, ⟨37, _⟩ => ⟨S1x2048x2048, .f32⟩
  | .hbm, ⟨38, _⟩ => ⟨S1x1x2048, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S_, .f32⟩
  | .hbm, ⟨43, _⟩ => ⟨S1x2048, .f32⟩
  | .hbm, ⟨44, _⟩ => ⟨S1x1x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S1x2048x2048, .f32⟩
  | .hbm, ⟨49, _⟩ => ⟨S_, .f32⟩
  | .hbm, ⟨50, _⟩ => ⟨S1x2048, .f32⟩
  | .hbm, ⟨51, _⟩ => ⟨S1x1x2048, .f32⟩
  | .hbm, ⟨52, _⟩ => ⟨S1x2048x2048, .f32⟩
  | .hbm, ⟨53, _⟩ => ⟨S1x2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S1x2048x2048, .f32⟩
  | .hbm, ⟨58, _⟩ => ⟨S_, .f32⟩
  | .hbm, ⟨59, _⟩ => ⟨S1x2048, .f32⟩
  | .hbm, ⟨60, _⟩ => ⟨S1x1x2048, .f32⟩
  | .hbm, ⟨61, _⟩ => ⟨S1x2048x2048, .f32⟩
  | .hbm, ⟨62, _⟩ => ⟨S1x2048x2048, .f32⟩
  | .hbm, ⟨63, _⟩ => ⟨S_, .f32⟩
  | .hbm, ⟨64, _⟩ => ⟨S2048, .f32⟩
  | .hbm, ⟨65, _⟩ => ⟨S1x2048x2048, .f32⟩
  | .hbm, ⟨66, _⟩ => ⟨S_, .f32⟩
  | .hbm, ⟨67, _⟩ => ⟨S1x2048, .f32⟩
  | .hbm, ⟨68, _⟩ => ⟨S1x2048x1, .f32⟩
  | .hbm, ⟨69, _⟩ => ⟨S1x2048x2048, .f32⟩
  | .hbm, ⟨70, _⟩ => ⟨S1x2048x2048, .f32⟩
  | .hbm, ⟨71, _⟩ => ⟨S1x2048x2048, .f32⟩
  | .hbm, ⟨72, _⟩ => ⟨S1x2048x1, .f32⟩
  | .hbm, ⟨73, _⟩ => ⟨S_, .f32⟩
  | .hbm, ⟨74, _⟩ => ⟨S1x2048x1, .f32⟩
  | .hbm, ⟨75, _⟩ => ⟨S1x2048x1, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S1x2048x2048, .f32⟩
  | .hbm, ⟨80, _⟩ => ⟨S1x2048x2048, .f32⟩
  | .hbm, ⟨81, _⟩ => ⟨S1x2048x2048, .f32⟩
  | .hbm, ⟨82, _⟩ => ⟨S1x2048x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S_, .f32⟩
  | .hbm, ⟨89, _⟩ => ⟨S1x2048, .f32⟩
  | .hbm, ⟨90, _⟩ => ⟨S1x1x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S2048x2048, .f32⟩
  | .hbm, ⟨95, _⟩ => ⟨S1x2048, .f32⟩
  | .hbm, ⟨96, _⟩ => ⟨S2048x2048, .f32⟩
  | .hbm, ⟨97, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Loss.lean ====
abbrev S1x2048x2048 : Shape := ⟨3, ![1, 2048, 2048]⟩
abbrev S1x2048 : Shape := ⟨2, ![1, 2048]⟩
abbrev S2048 : Shape := ⟨1, ![2048]⟩
abbrev S2048x2048 : Shape := ⟨2, ![2048, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S1x128, .f32⟩
  | .hbm, ⟨16, _⟩ => ⟨S1x2048, .f32⟩
  | .hbm, ⟨17, _⟩ => ⟨S2048x2048, .bf16⟩
  | .hbm, ⟨18, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x128, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S1x2048x2048 : Shape := ⟨3, ![1, 2048, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S2048x2048 : Shape := ⟨2, ![2048, 2048]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048x2048, .f32⟩
  | .hbm, ⟨5, _⟩ => ⟨S1x1x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S_, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x2048x2048, .f32⟩
  | .hbm, ⟨57, _⟩ => ⟨S1x2048x2048, .f32⟩
  | .hbm, ⟨58, _⟩ => ⟨S_, .f32⟩
  | .hbm, ⟨59, _⟩ => ⟨S2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x2048, .f32⟩
  | .hbm, ⟨65, _⟩ => ⟨S1x2048x2048, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S1x2048x2048, .f32⟩
  | .hbm, ⟨79, _⟩ => ⟨S1x2048x2048, .f32⟩
  | .hbm, ⟨80, _⟩ => ⟨S1x2048x2048, .f32⟩
  | .hbm, ⟨81, _⟩ => ⟨S_, .f32⟩
  | .hbm, ⟨82, _⟩ => ⟨S1x2048, .f32⟩
  | .hbm, ⟨83, _⟩ => ⟨S1x1x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S2048x2048, .f32⟩
  | .hbm, ⟨88, _⟩ => ⟨S1x128, .f32⟩
  | .hbm, ⟨89, _⟩ => ⟨S1x2048, .f32⟩
  | .hbm, ⟨90, _⟩ => ⟨S2048x2048, .f32⟩
  | .hbm, ⟨91, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== ScFwd.lean ====
abbrev S1x2048x16384 : Shape := ⟨3, ![1, 2048, 16384]⟩
abbrev S1x3x4096 : Shape := ⟨3, ![1, 3, 4096]⟩
abbrev S2048x16384 : Shape := ⟨2, ![2048, 16384]⟩
abbrev S2048x4x4096 : Shape := ⟨3, ![2048, 4, 4096]⟩
abbrev S4x2048x4096 : Shape := ⟨3, ![4, 2048, 4096]⟩
abbrev S3x4096 : Shape := ⟨2, ![3, 4096]⟩
abbrev S2048x4096 : Shape := ⟨2, ![2048, 4096]⟩
abbrev S1x2048x256 : Shape := ⟨3, ![1, 2048, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x16384, .f32⟩
  | .hbm, ⟨1, _⟩ => ⟨S1x3x4096, .f32⟩
  | .hbm, ⟨2, _⟩ => ⟨S2048x16384, .f32⟩
  | .hbm, ⟨3, _⟩ => ⟨S2048x4x4096, .f32⟩
  | .hbm, ⟨4, _⟩ => ⟨S4x2048x4096, .f32⟩
  | .hbm, ⟨5, _⟩ => ⟨S4x2048x4096, .bf16⟩
  | .hbm, ⟨6, _⟩ => ⟨S3x4096, .f32⟩
  | .hbm, ⟨7, _⟩ => ⟨S2048x4096, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | _, _ => ⟨S1x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScFwdRefIdeal.lean ====
abbrev S1x2048x16384 : Shape := ⟨3, ![1, 2048, 16384]⟩
abbrev S1x3x4096 : Shape := ⟨3, ![1, 3, 4096]⟩
abbrev S3x4096 : Shape := ⟨2, ![3, 4096]⟩
abbrev S1x2048x4096 : Shape := ⟨3, ![1, 2048, 4096]⟩
abbrev S_ : Shape := ⟨0, ![]⟩
abbrev S1x2x4096 : Shape := ⟨3, ![1, 2, 4096]⟩
abbrev S1x2050x4096 : Shape := ⟨3, ![1, 2050, 4096]⟩
abbrev S1x4096 : Shape := ⟨2, ![1, 4096]⟩
abbrev S4096 : Shape := ⟨1, ![4096]⟩
abbrev S1x1x4096 : Shape := ⟨3, ![1, 1, 4096]⟩
abbrev S2048x4096 : Shape := ⟨2, ![2048, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1x2048x16384, .f32⟩
  | .hbm, ⟨1, _⟩ => ⟨S1x3x4096, .f32⟩
  | .hbm, ⟨2, _⟩ => ⟨S3x4096, .f32⟩
  | .hbm, ⟨3, _⟩ => ⟨S1x2048x4096, .f32⟩
  | .hbm, ⟨4, _⟩ => ⟨S1x2048x4096, .f32⟩
  | .hbm, ⟨5, _⟩ => ⟨S1x2048x4096, .f32⟩
  | .hbm, ⟨6, _⟩ => ⟨S1x2048x4096, .f32⟩
  | .hbm, ⟨7, _⟩ => ⟨S1x2048x4096, .f32⟩
  | .hbm, ⟨8, _⟩ => ⟨S_, .f32⟩
  | .hbm, ⟨9, _⟩ => ⟨S1x2x4096, .f32⟩
  | .hbm, ⟨10, _⟩ => ⟨S1x2050x4096, .f32⟩
  | .hbm, ⟨11, _⟩ => ⟨S1x4096, .f32⟩
  | .hbm, ⟨12, _⟩ => ⟨S4096, .f32⟩
  | .hbm, ⟨13, _⟩ => ⟨S1x2048x4096, .f32⟩
  | .hbm, ⟨14, _⟩ => ⟨S1x1x4096, .f32⟩
  | .hbm, ⟨15, _⟩ => ⟨S1x2048x4096, .f32⟩
  | .hbm, ⟨16, _⟩ => ⟨S1x2048x4096, .f32⟩
  | .hbm, ⟨17, _⟩ => ⟨S_, .f32⟩
  | .hbm, ⟨18, _⟩ => ⟨S1x2048x4096, .f32⟩
  | .hbm, ⟨19, _⟩ => ⟨S1x2048x4096, .f32⟩
  | .hbm, ⟨20, _⟩ => ⟨S1x4096, .f32⟩
  | .hbm, ⟨21, _⟩ => ⟨S4096, .f32⟩
  | .hbm, ⟨22, _⟩ => ⟨S1x2048x4096, .f32⟩
  | .hbm, ⟨23, _⟩ => ⟨S1x1x4096, .f32⟩
  | .hbm, ⟨24, _⟩ => ⟨S1x2048x4096, .f32⟩
  | .hbm, ⟨25, _⟩ => ⟨S1x2048x4096, .f32⟩
  | .hbm, ⟨26, _⟩ => ⟨S1x2048x4096, .f32⟩
  | .hbm, ⟨27, _⟩ => ⟨S1x4096, .f32⟩
  | .hbm, ⟨28, _⟩ => ⟨S4096, .f32⟩
  | .hbm, ⟨29, _⟩ => ⟨S1x2048x4096, .f32⟩
  | .hbm, ⟨30, _⟩ => ⟨S1x1x4096, .f32⟩
  | .hbm, ⟨31, _⟩ => ⟨S1x2048x4096, .f32⟩
  | .hbm, ⟨32, _⟩ => ⟨S1x2048x4096, .f32⟩
  | .hbm, ⟨33, _⟩ => ⟨S1x2048x4096, .f32⟩
  | .hbm, ⟨34, _⟩ => ⟨S1x2048x4096, .f32⟩
  | .hbm, ⟨35, _⟩ => ⟨S1x2048x4096, .f32⟩
  | .hbm, ⟨36, _⟩ => ⟨S1x2048x4096, .f32⟩
  | .hbm, ⟨37, _⟩ => ⟨S_, .f32⟩
  | .hbm, ⟨38, _⟩ => ⟨S1x2048x4096, .f32⟩
  | .hbm, ⟨39, _⟩ => ⟨S1x2048x4096, .f32⟩
  | .hbm, ⟨40, _⟩ => ⟨S_, .f32⟩
  | .hbm, ⟨41, _⟩ => ⟨S1x2048x4096, .f32⟩
  | .hbm, ⟨42, _⟩ => ⟨S1x2048x4096, .f32⟩
  | .hbm, ⟨43, _⟩ => ⟨S1x2048x4096, .f32⟩
  | .hbm, ⟨44, _⟩ => ⟨S1x2048x4096, .f32⟩
  | .hbm, ⟨45, _⟩ => ⟨S2048x4096, .f32⟩
  | .hbm, ⟨46, _⟩ => ⟨S2048x4096, .bf16⟩
  | _, _ => ⟨S1x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormMod.lean ====
abbrev S1x2048x2048 : Shape := ⟨3, ![1, 2048, 2048]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S1x2048x2048 : Shape := ⟨3, ![1, 2048, 2048]⟩
abbrev S2048 : Shape := ⟨1, ![2048]⟩
abbrev S1x2048 : Shape := ⟨2, ![1, 2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x2048, .f32⟩
  | .hbm, ⟨16, _⟩ => ⟨S1x2048x2048, .f32⟩
  | .hbm, ⟨17, _⟩ => ⟨S1x1x2048, .f32⟩
  | .hbm, ⟨18, _⟩ => ⟨S1x2048x2048, .f32⟩
  | .hbm, ⟨19, _⟩ => ⟨S1x2048x2048, .f32⟩
  | .hbm, ⟨20, _⟩ => ⟨S1x1x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S2048x2048, .f32⟩
  | .hbm, ⟨30, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== AdaMod.lean ====
abbrev S8x2048 : Shape := ⟨2, ![8, 2048]⟩
abbrev S2x2048x768 : Shape := ⟨3, ![2, 2048, 768]⟩
abbrev S2x768 : Shape := ⟨2, ![2, 768]⟩
abbrev S2x1x768 : Shape := ⟨3, ![2, 1, 768]⟩
abbrev S2x8x768 : Shape := ⟨3, ![2, 8, 768]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x768, .f32⟩
  | .hbm, ⟨3, _⟩ => ⟨S2x1x768, .f32⟩
  | .hbm, ⟨4, _⟩ => ⟨S2x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x2048 : Shape := ⟨2, ![8, 2048]⟩
abbrev S2x2048x768 : Shape := ⟨3, ![2, 2048, 768]⟩
abbrev S2x768 : Shape := ⟨2, ![2, 768]⟩
abbrev S1x2048x768 : Shape := ⟨3, ![1, 2048, 768]⟩
abbrev S2048x768 : Shape := ⟨2, ![2048, 768]⟩
abbrev S1x768 : Shape := ⟨2, ![1, 768]⟩
abbrev S768 : Shape := ⟨1, ![768]⟩
abbrev S_ : Shape := ⟨0, ![]⟩
abbrev S8x768 : Shape := ⟨2, ![8, 768]⟩
abbrev S1x8x768 : Shape := ⟨3, ![1, 8, 768]⟩
abbrev S2x8x768 : Shape := ⟨3, ![2, 8, 768]⟩

abbrev nBuf : Space → Nat
  | .hbm => 40
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x768, .f32⟩
  | .hbm, ⟨3, _⟩ => ⟨S1x2048x768, .f32⟩
  | .hbm, ⟨4, _⟩ => ⟨S2048x768, .f32⟩
  | .hbm, ⟨5, _⟩ => ⟨S1x768, .f32⟩
  | .hbm, ⟨6, _⟩ => ⟨S768, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x768, .f32⟩
  | .hbm, ⟨17, _⟩ => ⟨S1x768, .f32⟩
  | .hbm, ⟨18, _⟩ => ⟨S8x768, .f32⟩
  | .hbm, ⟨19, _⟩ => ⟨S8x768, .f32⟩
  | .hbm, ⟨20, _⟩ => ⟨S1x2048x768, .f32⟩
  | .hbm, ⟨21, _⟩ => ⟨S2048x768, .f32⟩
  | .hbm, ⟨22, _⟩ => ⟨S1x768, .f32⟩
  | .hbm, ⟨23, _⟩ => ⟨S768, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S8x768, .f32⟩
  | .hbm, ⟨34, _⟩ => ⟨S1x768, .f32⟩
  | .hbm, ⟨35, _⟩ => ⟨S8x768, .f32⟩
  | .hbm, ⟨36, _⟩ => ⟨S8x768, .f32⟩
  | .hbm, ⟨37, _⟩ => ⟨S1x8x768, .f32⟩
  | .hbm, ⟨38, _⟩ => ⟨S1x8x768, .f32⟩
  | .hbm, ⟨39, _⟩ => ⟨S2x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== MmOut.lean ====
abbrev S1x2048x4096 : Shape := ⟨3, ![1, 2048, 4096]⟩
abbrev S4096x2048 : Shape := ⟨2, ![4096, 2048]⟩
abbrev S1x2048x2048 : Shape := ⟨3, ![1, 2048, 2048]⟩
abbrev S1x2048 : Shape := ⟨2, ![1, 2048]⟩
abbrev S2048x4096 : Shape := ⟨2, ![2048, 4096]⟩
abbrev S2048x2048 : Shape := ⟨2, ![2048, 2048]⟩
abbrev S2048x512 : Shape := ⟨2, ![2048, 512]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S1x2048x4096, .f32⟩
  | .hbm, ⟨1, _⟩ => ⟨S4096x2048, .f32⟩
  | .hbm, ⟨2, _⟩ => ⟨S1x2048x2048, .f32⟩
  | .hbm, ⟨3, _⟩ => ⟨S1x2048, .f32⟩
  | .hbm, ⟨4, _⟩ => ⟨S2048x4096, .f32⟩
  | .hbm, ⟨5, _⟩ => ⟨S2048x4096, .bf16⟩
  | .hbm, ⟨6, _⟩ => ⟨S4096x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MmOutRefIdeal.lean ====
abbrev S1x2048x4096 : Shape := ⟨3, ![1, 2048, 4096]⟩
abbrev S4096x2048 : Shape := ⟨2, ![4096, 2048]⟩
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096x2048, .f32⟩
  | .hbm, ⟨2, _⟩ => ⟨S1x2048x2048, .f32⟩
  | .hbm, ⟨3, _⟩ => ⟨S1x2048, .f32⟩
  | .hbm, ⟨4, _⟩ => ⟨S1x2048x2048, .f32⟩
  | .hbm, ⟨5, _⟩ => ⟨S1x1x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MmProj.lean ====
abbrev S1x2048x2048 : Shape := ⟨3, ![1, 2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S2x2048x4096 : Shape := ⟨3, ![2, 2048, 4096]⟩
abbrev S1x2048x512 : Shape := ⟨3, ![1, 2048, 512]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S2048x2048, .f32⟩
  | .hbm, ⟨5, _⟩ => ⟨S2048x2048, .bf16⟩
  | .hbm, ⟨6, _⟩ => ⟨S8x2048x1024, .bf16⟩
  | .hbm, ⟨7, _⟩ => ⟨S2x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg0 c512_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg0 c512_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmProjRefIdeal.lean ====
abbrev S1x2048x2048 : Shape := ⟨3, ![1, 2048, 2048]⟩
abbrev S2048x8192 : Shape := ⟨2, ![2048, 8192]⟩
abbrev S1x2048x8192 : Shape := ⟨3, ![1, 2048, 8192]⟩
abbrev S1x2048x4096 : Shape := ⟨3, ![1, 2048, 4096]⟩
abbrev S2048x4096 : Shape := ⟨2, ![2048, 4096]⟩
abbrev S2x2048x4096 : Shape := ⟨3, ![2, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S1x2048x8192, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .f32⟩
  | .hbm, ⟨7, _⟩ => ⟨S1x2048x4096, .f32⟩
  | .hbm, ⟨8, _⟩ => ⟨S1x2048x4096, .f32⟩
  | .hbm, ⟨9, _⟩ => ⟨S2x2048x4096, .f32⟩
  | .hbm, ⟨10, _⟩ => ⟨S2x2048x4096, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== MmNt.lean ====
abbrev S1x2048x16384 : Shape := ⟨3, ![1, 2048, 16384]⟩
abbrev S2048x16384 : Shape := ⟨2, ![2048, 16384]⟩
abbrev S2048x4x4096 : Shape := ⟨3, ![2048, 4, 4096]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 10
  | .vmem => 7
  | .smem => 0
  | _ => 0

abbrev bufTy : (tb : Table) → Fin (tcTables nBuf tb) → BufTy
  | .hbm, ⟨0, _⟩ => ⟨S1x2048x16384, .f32⟩
  | .hbm, ⟨1, _⟩ => ⟨S2048x16384, .f32⟩
  | .hbm, ⟨2, _⟩ => ⟨S2048x16384, .f32⟩
  | .hbm, ⟨3, _⟩ => ⟨S2048x4x4096, .f32⟩
  | .hbm, ⟨4, _⟩ => ⟨S4x2048x4096, .f32⟩
  | .hbm, ⟨5, _⟩ => ⟨S2048x8x2048, .f32⟩
  | .hbm, ⟨6, _⟩ => ⟨S8x2048x2048, .f32⟩
  | .hbm, ⟨7, _⟩ => ⟨S4x2048x4096, .bf16⟩
  | .hbm, ⟨8, _⟩ => ⟨S8x2048x2048, .bf16⟩
  | .hbm, ⟨9, _⟩ => ⟨S2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S1x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2048_i32_4 : BitVec 32 := 2048#32
  let v18 : BitVec 32 := Scalar.muli arg1 c2048_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2048_i32_11 : BitVec 32 := 2048#32
  let v29 : BitVec 32 := Scalar.divsi v28 c2048_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2048_i32_11 c0_i32_14
  let v36 : BitVec 32 := Scalar.extui v35
  let c0_i32_15 : BitVec 32 := 0#32
  let v37 : BitVec 1 := Scalar.cmpi .slt c2048_i32_11 c0_i32_15
  let v38 : BitVec 32 := Scalar.extui v37
  let v39 : BitVec 32 := Scalar.subi v36 v38
  let v40 : BitVec 1 := Scalar.cmpi .ne v34 v39
  let v41 : BitVec 32 := Scalar.remsi v28 c2048_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2048_i32_5 : BitVec 32 := 2048#32
  let v18 : BitVec 32 := Scalar.muli arg1 c2048_i32_5
  let c2048_i32_6 : BitVec 32 := 2048#32
  let c0_i32_7 : BitVec 32 := 0#32
  let v19 : BitVec 1 := Scalar.cmpi .eq c2048_i32_6 c0_i32_7
  let c1_i32_8 : BitVec 32 := 1#32
  let v20 : BitVec 32 := Scalar.select v19 c1_i32_8 c2048_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2048_i32_12 : BitVec 32 := 2048#32
  let v29 : BitVec 32 := Scalar.divsi v28 c2048_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2048_i32_12 c0_i32_15
  let v36 : BitVec 32 := Scalar.extui v35
  let c0_i32_16 : BitVec 32 := 0#32
  let v37 : BitVec 1 := Scalar.cmpi .slt c2048_i32_12 c0_i32_16
  let v38 : BitVec 32 := Scalar.extui v37
  let v39 : BitVec 32 := Scalar.subi v36 v38
  let v40 : BitVec 1 := Scalar.cmpi .ne v34 v39
  let v41 : BitVec 32 := Scalar.remsi v28 c2048_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmNtRefIdeal.lean ====
abbrev S1x2048x16384 : Shape := ⟨3, ![1, 2048, 16384]⟩
abbrev S2048x16384 : Shape := ⟨2, ![2048, 16384]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x16384, .f32⟩
  | .hbm, ⟨1, _⟩ => ⟨S2048x16384, .f32⟩
  | .hbm, ⟨2, _⟩ => ⟨S_, .f32⟩
  | .hbm, ⟨3, _⟩ => ⟨S1x2048x2048, .f32⟩
  | .hbm, ⟨4, _⟩ => ⟨S1x2048x16384, .f32⟩
  | .hbm, ⟨5, _⟩ => ⟨S1x2048x2048, .f32⟩
  | .hbm, ⟨6, _⟩ => ⟨S2048x2048, .f32⟩
  | .hbm, ⟨7, _⟩ => ⟨S2048x2048, .bf16⟩
  | _, _ => ⟨S1x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmTn.lean ====
abbrev S1x2048x2048 : Shape := ⟨3, ![1, 2048, 2048]⟩
abbrev S1x2048x8192 : Shape := ⟨3, ![1, 2048, 8192]⟩
abbrev S2048x8192 : Shape := ⟨2, ![2048, 8192]⟩
abbrev S2048x2x4096 : Shape := ⟨3, ![2048, 2, 4096]⟩
abbrev S2x2048x4096 : Shape := ⟨3, ![2, 2048, 4096]⟩
abbrev S2048x2048 : Shape := ⟨2, ![2048, 2048]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x8192, .f32⟩
  | .hbm, ⟨2, _⟩ => ⟨S2048x8192, .f32⟩
  | .hbm, ⟨3, _⟩ => ⟨S2048x2x4096, .f32⟩
  | .hbm, ⟨4, _⟩ => ⟨S2x2048x4096, .f32⟩
  | .hbm, ⟨5, _⟩ => ⟨S2048x2048, .f32⟩
  | .hbm, ⟨6, _⟩ => ⟨S2048x2048, .bf16⟩
  | .hbm, ⟨7, _⟩ => ⟨S2x2048x4096, .bf16⟩
  | .hbm, ⟨8, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmTnRefIdeal.lean ====
abbrev S1x2048x2048 : Shape := ⟨3, ![1, 2048, 2048]⟩
abbrev S1x2048x8192 : Shape := ⟨3, ![1, 2048, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x8192, .f32⟩
  | .hbm, ⟨2, _⟩ => ⟨S_, .f32⟩
  | .hbm, ⟨3, _⟩ => ⟨S2048x8192, .f32⟩
  | .hbm, ⟨4, _⟩ => ⟨S1x2048x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DevSum.lean ====
abbrev S8x920x128 : Shape := ⟨3, ![8, 920, 128]⟩
abbrev S920x128 : Shape := ⟨2, ![920, 128]⟩
abbrev S1x920x128 : Shape := ⟨3, ![1, 920, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x920x128, .f32⟩
  | .hbm, ⟨1, _⟩ => ⟨S920x128, .f32⟩
  | .local _ .vmem, ⟨0, _⟩ => ⟨S8x920x128, .f32⟩
  | .local _ .vmem, ⟨1, _⟩ => ⟨S920x128, .f32⟩
  | _, _ => ⟨S8x920x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x920x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DevSumRefIdeal.lean ====
abbrev S8x920x128 : Shape := ⟨3, ![8, 920, 128]⟩
abbrev S_ : Shape := ⟨0, ![]⟩
abbrev S920x128 : Shape := ⟨2, ![920, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x920x128, .f32⟩
  | .hbm, ⟨1, _⟩ => ⟨S_, .f32⟩
  | .hbm, ⟨2, _⟩ => ⟨S920x128, .f32⟩
  | _, _ => ⟨S8x920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adw.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdwRefIdeal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adr.lean ====
abbrev S2048x1024 : Shape := ⟨2, ![2048, 1024]⟩
abbrev S4x2x2048x1024 : Shape := ⟨4, ![4, 2, 2048, 1024]⟩
abbrev S4x1x2048x1024 : Shape := ⟨4, ![4, 1, 2048, 1024]⟩
abbrev S3x2048x1024 : Shape := ⟨3, ![3, 2048, 1024]⟩
abbrev S_ : Shape := ⟨0, ![]⟩
abbrev S1 : Shape := ⟨1, ![1]⟩
abbrev S5 : Shape := ⟨1, ![5]⟩
abbrev S256x1024 : Shape := ⟨2, ![256, 1024]⟩
abbrev S1x1x256x1024 : Shape := ⟨4, ![1, 1, 256, 1024]⟩
abbrev S3x256x1024 : Shape := ⟨3, ![3, 256, 1024]⟩
abbrev S1x256x1024 : Shape := ⟨3, ![1, 256, 1024]⟩

abbrev nBuf : Space → Nat
  | .hbm => 20
  | .vmem => 20
  | .smem => 1
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2x2048x1024, .bf16⟩
  | .hbm, ⟨4, _⟩ => ⟨S4x1x2048x1024, .bf16⟩
  | .hbm, ⟨5, _⟩ => ⟨S3x2048x1024, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .smem, ⟨0, _⟩ => ⟨S5, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdrRefIdeal.lean ====
abbrev S2048x1024 : Shape := ⟨2, ![2048, 1024]⟩
abbrev S4x2x2048x1024 : Shape := ⟨4, ![4, 2, 2048, 1024]⟩
abbrev S4x1x2048x1024 : Shape := ⟨4, ![4, 1, 2048, 1024]⟩
abbrev S3x2048x1024 : Shape := ⟨3, ![3, 2048, 1024]⟩
abbrev S1x1x2048x1024 : Shape := ⟨4, ![1, 1, 2048, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2x2048x1024, .bf16⟩
  | .hbm, ⟨4, _⟩ => ⟨S4x1x2048x1024, .bf16⟩
  | .hbm, ⟨5, _⟩ => ⟨S3x2048x1024, .bf16⟩
  | .hbm, ⟨6, _⟩ => ⟨S1x1x2048x1024, .bf16⟩
  | .hbm, ⟨7, _⟩ => ⟨S2048x1024, .bf16⟩
  | .hbm, ⟨8, _⟩ => ⟨S2048x1024, .f32⟩
  | .hbm, ⟨9, _⟩ => ⟨S1x1x2048x1024, .bf16⟩
  | .hbm, ⟨10, _⟩ => ⟨S2048x1024, .bf16⟩
  | .hbm, ⟨11, _⟩ => ⟨S2048x1024, .f32⟩
  | .hbm, ⟨12, _⟩ => ⟨S2048x1024, .f32⟩
  | .hbm, ⟨13, _⟩ => ⟨S3x2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== PairSum.lean ====
abbrev S4x2x2048x1024 : Shape := ⟨4, ![4, 2, 2048, 1024]⟩
abbrev S4x1x2048x1024 : Shape := ⟨4, ![4, 1, 2048, 1024]⟩
abbrev S_ : Shape := ⟨0, ![]⟩
abbrev S1 : Shape := ⟨1, ![1]⟩
abbrev S5 : Shape := ⟨1, ![5]⟩
abbrev S3x2048x1024 : Shape := ⟨3, ![3, 2048, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 13
  | .vmem => 6
  | .smem => 1
  | _ => 0

abbrev bufTy : (tb : Table) → Fin (tcTables nBuf tb) → BufTy
  | .hbm, ⟨0, _⟩ => ⟨S4x2x2048x1024, .bf16⟩
  | .hbm, ⟨1, _⟩ => ⟨S4x1x2048x1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S3x2048x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S5, .i32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v6 : Ref sig .tc := ⟨.hbm, 12, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let c4 : Index := 4#32
  let v2 : BitVec 32 := pf.at 0 (Rect.unit (s := S5) ![4] S1.size inb_S5_S1_4) numel1_S1
  let c0_i32 : BitVec 32 := 0#32
  let c0_i32_0 : BitVec 32 := 0#32
  ![v1.toNat, v2.toNat, arg1.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let c0_i32 : BitVec 32 := 0#32
  let c0_i32_0 : BitVec 32 := 0#32
  let c0_i32_1 : BitVec 32 := 0#32
  ![v1.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S4x2x2048x1024 : Shape := ⟨4, ![4, 2, 2048, 1024]⟩
abbrev S4x1x2048x1024 : Shape := ⟨4, ![4, 1, 2048, 1024]⟩
abbrev S3x1x2048x1024 : Shape := ⟨4, ![3, 1, 2048, 1024]⟩
abbrev S3x2048x1024 : Shape := ⟨3, ![3, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2x2048x1024, .bf16⟩
  | .hbm, ⟨1, _⟩ => ⟨S4x1x2048x1024, .bf16⟩
  | .hbm, ⟨2, _⟩ => ⟨S3x1x2048x1024, .bf16⟩
  | .hbm, ⟨3, _⟩ => ⟨S3x2048x1024, .bf16⟩
  | .hbm, ⟨4, _⟩ => ⟨S3x2048x1024, .f32⟩
  | .hbm, ⟨5, _⟩ => ⟨S3x1x2048x1024, .bf16⟩
  | .hbm, ⟨6, _⟩ => ⟨S3x2048x1024, .bf16⟩
  | .hbm, ⟨7, _⟩ => ⟨S3x2048x1024, .f32⟩
  | .hbm, ⟨8, _⟩ => ⟨S3x2048x1024, .f32⟩
  | .hbm, ⟨9, _⟩ => ⟨S3x2048x1024, .bf16⟩
  | _, _ => ⟨S4x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MmTnG.lean ====
abbrev S1x2048x2048 : Shape := ⟨3, ![1, 2048, 2048]⟩
abbrev S1x2048x16384 : Shape := ⟨3, ![1, 2048, 16384]⟩
abbrev S2048x16384 : Shape := ⟨2, ![2048, 16384]⟩
abbrev S2048x4x4096 : Shape := ⟨3, ![2048, 4, 4096]⟩
abbrev S4x2048x4096 : Shape := ⟨3, ![4, 2048, 4096]⟩
abbrev S2048x2048 : Shape := ⟨2, ![2048, 2048]⟩
abbrev S_ : Shape := ⟨0, ![]⟩
abbrev S1 : Shape := ⟨1, ![1]⟩
abbrev S5 : Shape := ⟨1, ![5]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 19
  | .vmem => 7
  | .smem => 1
  | _ => 0

abbrev bufTy : (tb : Table) → Fin (tcTables nBuf tb) → BufTy
  | .hbm, ⟨0, _⟩ => ⟨S1x2048x2048, .f32⟩
  | .hbm, ⟨1, _⟩ => ⟨S1x2048x16384, .f32⟩
  | .hbm, ⟨2, _⟩ => ⟨S2048x16384, .f32⟩
  | .hbm, ⟨3, _⟩ => ⟨S2048x4x4096, .f32⟩
  | .hbm, ⟨4, _⟩ => ⟨S4x2048x4096, .f32⟩
  | .hbm, ⟨5, _⟩ => ⟨S2048x2048, .f32⟩
  | .hbm, ⟨6, _⟩ => ⟨S2048x2048, .bf16⟩
  | .hbm, ⟨7, _⟩ => ⟨S4x2048x4096, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .smem, ⟨0, _⟩ => ⟨S5, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmTnGRefIdeal.lean ====
abbrev S1x2048x2048 : Shape := ⟨3, ![1, 2048, 2048]⟩
abbrev S1x2048x16384 : Shape := ⟨3, ![1, 2048, 16384]⟩
abbrev S_ : Shape := ⟨0, ![]⟩
abbrev S2048x16384 : Shape := ⟨2, ![2048, 16384]⟩
abbrev S16384x2048 : Shape := ⟨2, ![16384, 2048]⟩
abbrev S2048x2048 : Shape := ⟨2, ![2048, 2048]⟩
abbrev S2x2048x2048 : Shape := ⟨3, ![2, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x16384, .f32⟩
  | .hbm, ⟨2, _⟩ => ⟨S_, .f32⟩
  | .hbm, ⟨3, _⟩ => ⟨S2048x16384, .f32⟩
  | .hbm, ⟨4, _⟩ => ⟨S1x2048x16384, .f32⟩
  | .hbm, ⟨5, _⟩ => ⟨S16384x2048, .f32⟩
  | .hbm, ⟨6, _⟩ => ⟨S2048x16384, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x2048x2048, .f32⟩
  | .hbm, ⟨16, _⟩ => ⟨S1x2048x2048, .f32⟩
  | .hbm, ⟨17, _⟩ => ⟨S2x2048x2048, .f32⟩
  | .hbm, ⟨18, _⟩ => ⟨S2x2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== MmProjG.lean ====
abbrev S1x2048x2048 : Shape := ⟨3, ![1, 2048, 2048]⟩
abbrev S2048x16384 : Shape := ⟨2, ![2048, 16384]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S2048x2048 : Shape := ⟨2, ![2048, 2048]⟩
abbrev S_ : Shape := ⟨0, ![]⟩
abbrev S1 : Shape := ⟨1, ![1]⟩
abbrev S5 : Shape := ⟨1, ![5]⟩
abbrev S1x2048x512 : Shape := ⟨3, ![1, 2048, 512]⟩
abbrev S2048x512 : Shape := ⟨2, ![2048, 512]⟩

abbrev nBuf : Space → Nat
  | .hbm => 19
  | .vmem => 5
  | .smem => 1
  | _ => 0

abbrev bufTy : (tb : Table) → Fin (tcTables nBuf tb) → BufTy
  | .hbm, ⟨0, _⟩ => ⟨S1x2048x2048, .f32⟩
  | .hbm, ⟨1, _⟩ => ⟨S2048x16384, .f32⟩
  | .hbm, ⟨2, _⟩ => ⟨S4x2048x4096, .bf16⟩
  | .hbm, ⟨3, _⟩ => ⟨S2048x8x2048, .f32⟩
  | .hbm, ⟨4, _⟩ => ⟨S8x2048x2048, .f32⟩
  | .hbm, ⟨5, _⟩ => ⟨S2048x2048, .f32⟩
  | .hbm, ⟨6, _⟩ => ⟨S2048x2048, .bf16⟩
  | .hbm, ⟨7, _⟩ => ⟨S8x2048x2048, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S4x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S5, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v11 : Ref sig .tc := ⟨.hbm, 18, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2048_i32 c0_i32_1
  let v11 : BitVec 32 := Scalar.extui v10
  let c0_i32_2 : BitVec 32 := 0#32
  let v12 : BitVec 1 := Scalar.cmpi .slt c2048_i32 c0_i32_2
  let v13 : BitVec 32 := Scalar.extui v12
  let v14 : BitVec 32 := Scalar.subi v11 v13
  let v15 : BitVec 1 := Scalar.cmpi .ne v9 v14
  let v16 : BitVec 32 := Scalar.remsi v3 c2048_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c2_4 : Index := 2#32
  let v21 : BitVec 32 := pf.at 0 (Rect.unit (s := S5) ![2] S1.size inb_S5_S1_2) numel1_S1
  let c4096_i32_5 : BitVec 32 := 4096#32
  let v22 : BitVec 32 := Scalar.muli v21 c4096_i32_5
  let c512_i32_6 : BitVec 32 := 512#32
  let v23 : BitVec 32 := Scalar.muli arg0 c512_i32_6
  let v24 : BitVec 32 := Scalar.addi v22 v23
  let c2048_i32_7 : BitVec 32 := 2048#32
  let c0_i32_8 : BitVec 32 := 0#32
  let v25 : BitVec 1 := Scalar.cmpi .eq c2048_i32_7 c0_i32_8
  let c1_i32_9 : BitVec 32 := 1#32
  let v26 : BitVec 32 := Scalar.select v25 c1_i32_9 c2048_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c512_i32_13 : BitVec 32 := 512#32
  let v35 : BitVec 32 := Scalar.divsi v34 c512_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c512_i32_13 c0_i32_16
  let v42 : BitVec 32 := Scalar.extui v41
  let c0_i32_17 : BitVec 32 := 0#32
  let v43 : BitVec 1 := Scalar.cmpi .slt c512_i32_13 c0_i32_17
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c0_i32_20 : BitVec 32 := 0#32
  let c0_i32_21 : BitVec 32 := 0#32
  ![v20.toNat, c0_i32_20.toNat, v51.toNat]

def cc0_transform_3 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_5 : Index := 2#32
  let v21 : BitVec 32 := pf.at 0 (Rect.unit (s := S5) ![2] S1.size inb_S5_S1_2) numel1_S1
  let c4096_i32_6 : BitVec 32 := 4096#32
  let v22 : BitVec 32 := Scalar.muli v21 c4096_i32_6
  let c512_i32_7 : BitVec 32 := 512#32
  let v23 : BitVec 32 := Scalar.muli arg0 c512_i32_7
  let v24 : BitVec 32 := Scalar.addi v22 v23
  let c4096_i32_8 : BitVec 32 := 4096#32
  let c0_i32_9 : BitVec 32 := 0#32
  let v25 : BitVec 1 := Scalar.cmpi .eq c4096_i32_8 c0_i32_9
  let c1_i32_10 : BitVec 32 := 1#32
  let v26 : BitVec 32 := Scalar.select v25 c1_i32_10 c4096_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c512_i32_14 : BitVec 32 := 512#32
  let v35 : BitVec 32 := Scalar.divsi v34 c512_i32_14
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c0_i32_17 : BitVec 32 := 0#32
  let v41 : BitVec 1 := Scalar.cmpi .sgt c512_i32_14 c0_i32_17
  let v42 : BitVec 32 := Scalar.extui v41
  let c0_i32_18 : BitVec 32 := 0#32
  let v43 : BitVec 1 := Scalar.cmpi .slt c512_i32_14 c0_i32_18
  let v44 : BitVec 32 := Scalar.extui v43
  let v45 : BitVec 32 := Scalar.subi v42 v44
  let v46 : BitVec 1 := Scalar.cmpi .ne v40 v45
  let v47 : BitVec 32 := Scalar.remsi v34 c512_i32_14
  let c0_i32_19 : BitVec 32 := 0#32
  let v48 : BitVec 1 := Scalar.cmpi .ne v47 c0_i32_19
  let v49 : BitVec 1 := Scalar.andi v46 v48
  let c1_i32_20 : BitVec 32 := 1#32
  let v50 : BitVec 32 := Scalar.subi v35 c1_i32_20
  let v51 : BitVec 32 := Scalar.select v49 v50 v35
  let c0_i32_21 : BitVec 32 := 0#32
  let c0_i32_22 : BitVec 32 := 0#32
  ![v20.toNat, c0_i32_21.toNat, v51.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmProjGRefIdeal.lean ====
abbrev S1x2048x2048 : Shape := ⟨3, ![1, 2048, 2048]⟩
abbrev S2048x16384 : Shape := ⟨2, ![2048, 16384]⟩
abbrev S4x2048x4096 : Shape := ⟨3, ![4, 2048, 4096]⟩
abbrev S1x2048x16384 : Shape := ⟨3, ![1, 2048, 16384]⟩
abbrev S1x2048x4096 : Shape := ⟨3, ![1, 2048, 4096]⟩
abbrev S3x2048x4096 : Shape := ⟨3, ![3, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x16384, .f32⟩
  | .hbm, ⟨2, _⟩ => ⟨S4x2048x4096, .bf16⟩
  | .hbm, ⟨3, _⟩ => ⟨S1x2048x16384, .f32⟩
  | .hbm, ⟨4, _⟩ => ⟨S1x2048x4096, .f32⟩
  | .hbm, ⟨5, _⟩ => ⟨S1x2048x4096, .f32⟩
  | .hbm, ⟨6, _⟩ => ⟨S1x2048x4096, .f32⟩
  | .hbm, ⟨7, _⟩ => ⟨S1x2048x4096, .f32⟩
  | .hbm, ⟨8, _⟩ => ⟨S3x2048x4096, .bf16⟩
  | .hbm, ⟨9, _⟩ => ⟨S1x2048x4096, .bf16⟩
  | .hbm, ⟨10, _⟩ => ⟨S4x2048x4096, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdrSc.lean ====
abbrev S2048x2048 : Shape := ⟨2, ![2048, 2048]⟩
abbrev S1x2x2048x2048 : Shape := ⟨4, ![1, 2, 2048, 2048]⟩
abbrev S1x1x2048x2048 : Shape := ⟨4, ![1, 1, 2048, 2048]⟩
abbrev S1x2048x2048 : Shape := ⟨3, ![1, 2048, 2048]⟩
abbrev S_ : Shape := ⟨0, ![]⟩
abbrev S1 : Shape := ⟨1, ![1]⟩
abbrev S5 : Shape := ⟨1, ![5]⟩
abbrev S256x2048 : Shape := ⟨2, ![256, 2048]⟩
abbrev S1x1x256x2048 : Shape := ⟨4, ![1, 1, 256, 2048]⟩
abbrev S1x256x2048 : Shape := ⟨3, ![1, 256, 2048]⟩

abbrev nBuf : Space → Nat
  | .hbm => 22
  | .vmem => 24
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2x2048x2048, .bf16⟩
  | .hbm, ⟨4, _⟩ => ⟨S1x1x2048x2048, .bf16⟩
  | .hbm, ⟨5, _⟩ => ⟨S1x2048x2048, .bf16⟩
  | .hbm, ⟨6, _⟩ => ⟨S1x2048x2048, .bf16⟩
  | .hbm, ⟨7, _⟩ => ⟨S1x2048x2048, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x256x2048, .bf16⟩
  | .local _ .vmem, ⟨7, _⟩ => ⟨S1x1x256x2048, .bf16⟩
  | .local _ .vmem, ⟨8, _⟩ => ⟨S1x1x256x2048, .bf16⟩
  | .local _ .vmem, ⟨9, _⟩ => ⟨S1x1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .smem, ⟨0, _⟩ => ⟨S5, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdrScRefIdeal.lean ====
abbrev S2048x2048 : Shape := ⟨2, ![2048, 2048]⟩
abbrev S1x2x2048x2048 : Shape := ⟨4, ![1, 2, 2048, 2048]⟩
abbrev S1x1x2048x2048 : Shape := ⟨4, ![1, 1, 2048, 2048]⟩
abbrev S1x2048x2048 : Shape := ⟨3, ![1, 2048, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2x2048x2048, .bf16⟩
  | .hbm, ⟨4, _⟩ => ⟨S1x1x2048x2048, .bf16⟩
  | .hbm, ⟨5, _⟩ => ⟨S1x2048x2048, .bf16⟩
  | .hbm, ⟨6, _⟩ => ⟨S1x2048x2048, .bf16⟩
  | .hbm, ⟨7, _⟩ => ⟨S1x2048x2048, .bf16⟩
  | .hbm, ⟨8, _⟩ => ⟨S1x1x2048x2048, .bf16⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Common.lean ====
module

public import Idealize.ShloMosaic.Lib.Pipeline.ValueKit
public import Idealize.ShloMosaic.Lib.Tactic.CleanTypes

@[expose] public section

noncomputable section

open Idealize.ShloMosaic

namespace Cert.Common

section Sums
variable {n0 n1 n2 : Nat} {t : Shape} (h : (⟨3, ![n0, n1, n2]⟩ : Shape).ReducesTo [0, 1] t)
include h

theorem lead_rank : t.rank = 1 := h.1
theorem lead_pos : 0 < t.rank := by rw [lead_rank h]; exact Nat.one_pos
theorem lead_size : t.size ⟨0, lead_pos h⟩ = n2 := h.2 ⟨0, lead_pos h⟩
/-- The kept coordinate of a result index, on the operand's last axis. -/
def kept (j : t.Idx) : Fin n2 := (j ⟨0, lead_pos h⟩).cast (lead_size h)

/-- The host's sum over the two leading axes of a rank-3 array, at a result index. -/
@[pointwise] theorem sum_lead (x : (⟨3, ![n0, n1, n2]⟩ : Shape).Idx → EReal) (init : EReal) (j : t.Idx) :
    Ideal.hostReduceAdd h x init j =
      init + ∑ a : Fin n0, ∑ b : Fin n1, x (ix3 a b ⟨(j ⟨0, lead_pos h⟩).val, (kept h j).isLt⟩) := by
  unfold Ideal.hostReduceAdd
  congr 1
  rw [Finset.sum_filter_eq_sum_of_fiber _ (fun k : Fin n0 × Fin n1 => ix3 k.1 k.2 (kept h j))
    (fun k k' e => Prod.ext (congrFun e 0) (congrFun e 1)), Fintype.sum_prod_type]
  · rfl
  · intro i
    constructor
    · intro e
      refine ⟨(i 0, i 1), ?_⟩
      funext a
      match a with
      | ⟨0, _⟩ => rfl
      | ⟨1, _⟩ => rfl
      | ⟨2, _⟩ => exact Fin.ext (congrArg Fin.val (congrFun e ⟨0, lead_pos h⟩)).symm
    · rintro ⟨k, rfl⟩
      funext b
      obtain ⟨b, hb⟩ := b
      obtain rfl : b = 0 := by rw [lead_rank h] at hb; omega
      rfl

end Sums

/-- An array whose magnitude is below infinity everywhere holds real numbers. -/
theorem real_entries {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1)
    (i : s.Idx) : ∃ r : ℝ, x i = (r : EReal) := by
  have h1 := congrFun h i
  simp only [cmpf, Host.absf, broadcastInDim, constant] at h1
  have htop : (FloatOps.ofBits .f32 0x7F800000#32 : Ideal .f32) = (⊤ : EReal) := by
    simp [Ideal.ofBits, Ideal.ieee]
  simp only [htop, Ideal.hostAbsf_def] at h1
  have h2 : BitVec.ofBool (decide (max (x i) (-x i) < (⊤ : EReal))) = 1#1 := h1
  have h3 : max (x i) (-x i) < (⊤ : EReal) := by
    by_contra hn
    rw [decide_eq_false hn] at h2
    exact absurd h2 (by decide)
  clear h h1 h2
  generalize (x i : EReal) = v at h3 ⊢
  induction v using EReal.rec with
  | bot => simp at h3
  | top => simp at h3
  | coe r => exact ⟨r, rfl⟩

/-- An extended real that is a real number. -/
def IsR (x : EReal) : Prop := ∃ r : ℝ, x = (r : EReal)

theorem IsR.zero : IsR 0 := ⟨0, EReal.coe_zero.symm⟩
theorem IsR.one : IsR 1 := ⟨1, EReal.coe_one.symm⟩
theorem IsR.mul {x y : EReal} (hx : IsR x) (hy : IsR y) : IsR (x * y) := by
  obtain ⟨r, rfl⟩ := hx; obtain ⟨q, rfl⟩ := hy; exact ⟨r * q, (EReal.coe_mul r q).symm⟩
theorem IsR.add {x y : EReal} (hx : IsR x) (hy : IsR y) : IsR (x + y) := by
  obtain ⟨r, rfl⟩ := hx; obtain ⟨q, rfl⟩ := hy; exact ⟨r + q, (EReal.coe_add r q).symm⟩
theorem IsR.sum {ι : Type} (S : Finset ι) (f : ι → EReal) (h : ∀ i, IsR (f i)) : IsR (∑ i ∈ S, f i) := by
  classical
  induction S using Finset.induction_on with
  | empty => exact IsR.zero
  | insert a S ha ih => rw [Finset.sum_insert ha]; exact (h a).add ih

end Cert.Common

end
-- ==== Proof.ScMath.lean ====
module

public import Idealize.ShloMosaic.Lib.Pipeline.ValueKit
public import Idealize.ShloMosaic.Lib.WordCmp
public import proofs.«01_k».proof.Proof.Common

@[expose] public section

noncomputable section

open Idealize.ShloMosaic Cert.Common

namespace Cert.Sc

/-- A sequence of 2048 values: one column of an array. -/
abbrev Col := Fin 2048 → EReal

/-- Column `e` of quarter `j` of a projection. -/
def quarter (A : (⟨3, ![1, 2048, 16384]⟩ : Shape).Idx → EReal) (j : Fin 4) (e : Fin 4096) : Col := fun s =>
  A (ix3 0 s ⟨j.val * 4096 + e.val, by omega⟩)

/-- The column moved `k` steps down (towards later times), zeros coming in. -/
def dn (k : Nat) (f : Col) : Col := fun s => if h : s.val < k then 0 else f ⟨s.val - k, by omega⟩

/-- The column moved `k` steps up (towards earlier times), zeros coming in. -/
def up (k : Nat) (f : Col) : Col := fun s => if h : s.val + k < 2048 then f ⟨s.val + k, h⟩ else 0

theorem pick_lt {α : Type} (n k : Nat) (hn : n < 2048) (hk : k ≤ 2048) (x y : α) :
    Scalar.select (IntOp.cmpi .slt (BitVec.ofNat 32 n) (BitVec.ofNat 32 k)) x y = if n < k then x else y := by
  rw [WordCmp.cmpi_slt_ofNat (by omega) (by omega)]
  by_cases h : n < k <;> simp [Scalar.select, h]

theorem pick_ge {α : Type} (n k : Nat) (hn : n < 2048) (hk : k ≤ 2048) (x y : α) :
    Scalar.select (IntOp.cmpi .sge (BitVec.ofNat 32 n) (BitVec.ofNat 32 k)) x y = if n < k then y else x := by
  rw [WordCmp.cmpi_sge_ofNat (by omega) (by omega)]
  by_cases h : n < k
  · simp [Scalar.select, h, Nat.not_le.mpr h]
  · simp [Scalar.select, h, Nat.le_of_not_lt h]

/-- A rotation whose wrapped rows are masked to zero is a move up. -/
theorem rot_up (k r : Nat) (hr : k + r = 2048) (hk : 0 < k) (F : Col) (s : Fin 2048) (h : (s.val + 2048 - r) % 2048 < 2048) :
    Scalar.select (IntOp.cmpi .slt (BitVec.ofNat 32 s.val) (BitVec.ofNat 32 r)) (F ⟨(s.val + 2048 - r) % 2048, h⟩) 0 = up k F s := by
  rw [pick_lt _ _ s.isLt (by omega)]
  unfold up
  split <;> rename_i h1
  · rw [dif_pos (by omega)]; congr 1; apply Fin.ext; show (s.val + 2048 - r) % 2048 = s.val + k; omega
  · rw [dif_neg (by omega)]

/-- A rotation whose wrapped rows are masked to zero is a move down. -/
theorem rot_dn (k : Nat) (hk : k ≤ 2048) (F : Col) (s : Fin 2048) (h : (s.val + 2048 - k) % 2048 < 2048) :
    Scalar.select (IntOp.cmpi .sge (BitVec.ofNat 32 s.val) (BitVec.ofNat 32 k)) (F ⟨(s.val + 2048 - k) % 2048, h⟩) 0 = dn k F s := by
  rw [pick_ge _ _ s.isLt hk]
  unfold dn
  split <;> rename_i h1
  · rfl
  · congr 1; apply Fin.ext; show (s.val + 2048 - k) % 2048 = s.val - k; omega

theorem up_two (F : Col) (s : Fin 2048) : up 2 F s =
    Scalar.select (IntOp.cmpi .slt (BitVec.ofNat 32 s.val) 2046#32) (F ⟨(s.val + 2048 - 2046) % 2048, Nat.mod_lt _ (by norm_num)⟩) 0 :=
  (rot_up 2 2046 rfl (by norm_num) F s _).symm
theorem up_one (F : Col) (s : Fin 2048) : up 1 F s =
    Scalar.select (IntOp.cmpi .slt (BitVec.ofNat 32 s.val) 2047#32) (F ⟨(s.val + 2048 - 2047) % 2048, Nat.mod_lt _ (by norm_num)⟩) 0 :=
  (rot_up 1 2047 rfl (by norm_num) F s _).symm
theorem dn_two (F : Col) (s : Fin 2048) : dn 2 F s =
    Scalar.select (IntOp.cmpi .sge (BitVec.ofNat 32 s.val) 2#32) (F ⟨(s.val + 2048 - 2) % 2048, Nat.mod_lt _ (by norm_num)⟩) 0 :=
  (rot_dn 2 (by norm_num) F s _).symm
theorem dn_one (F : Col) (s : Fin 2048) : dn 1 F s =
    Scalar.select (IntOp.cmpi .sge (BitVec.ofNat 32 s.val) 1#32) (F ⟨(s.val + 2048 - 1) % 2048, Nat.mod_lt _ (by norm_num)⟩) 0 :=
  (rot_dn 1 (by norm_num) F s _).symm

/-- The convolution of three taps. -/
def conv (w : Fin 3 → EReal) (x : Col) : Col := fun s => w 2 * x s + dn 2 (fun r => w 0 * x r) s + dn 1 (fun r => w 1 * x r) s
/-- Its transpose. -/
def back (w : Fin 3 → EReal) (d : Col) : Col := fun s => w 2 * d s + up 2 (fun r => w 0 * d r) s + up 1 (fun r => w 1 * d r) s
/-- The cotangent of the convolution's result. -/
def du (b g y : Col) : Col := fun s => y s * b s * (g s * Ideal.logistic (g s))
def dq0 (w : Fin 3 → EReal) (c v g y : Col) : Col := fun s =>
  y s * conv w (fun r => c r * v r) s * (g s * Ideal.logistic (g s))
def dq1 (w : Fin 3 → EReal) (b v g y : Col) : Col := fun s => back w (du b g y) s * v s
def dq2 (w : Fin 3 → EReal) (b c g y : Col) : Col := fun s => back w (du b g y) s * c s
def dq3 (w : Fin 3 → EReal) (b c v g y : Col) : Col := fun s =>
  y s * b s * conv w (fun r => c r * v r) s * (Ideal.logistic (g s) * (1 + g s * (1 - Ideal.logistic (g s))))
/-- The gradient of tap `2 - k`. -/
def dtap (k : Nat) (b c v g y : Col) : EReal := ∑ s, du b g y s * dn k (fun r => c r * v r) s

theorem dn_zero (F : Col) (s : Fin 2048) : dn 0 F s = F s := by
  unfold dn
  rw [dif_neg (Nat.not_lt_zero _)]
  rfl

/-- A masked product is the product of the mask's other factor. -/
theorem select_mul (m : BitVec 1) (a x : EReal) : Scalar.select m (a * x) 0 = a * Scalar.select m x 0 := by
  unfold Scalar.select
  split
  · rfl
  · rw [mul_zero]

/-! The reference's order of the same sums and products. -/

def conv' (w : Fin 3 → EReal) (x : Col) : Col := fun s => w 0 * dn 2 x s + w 1 * dn 1 x s + w 2 * x s
def back' (w : Fin 3 → EReal) (d : Col) : Col := fun s => w 2 * d s + up 1 (fun r => w 1 * d r) s + up 2 (fun r => w 0 * d r) s
def du' (b g y : Col) : Col := fun s => b s * (y s * (g s * Ideal.logistic (g s)))
def dq3' (w : Fin 3 → EReal) (b c v g y : Col) : Col := fun s =>
  b s * conv' w (fun r => c r * v r) s * y s * Ideal.logistic (g s)
    + g s * (b s * conv' w (fun r => c r * v r) s * y s) * (Ideal.logistic (g s) * (1 - Ideal.logistic (g s)))

theorem dn_mul (k : Nat) (a : EReal) (x : Col) (s : Fin 2048) : dn k (fun r => a * x r) s = a * dn k x s := by
  unfold dn
  split
  · rw [mul_zero]
  · rfl

theorem conv_eq (w : Fin 3 → EReal) (x : Col) : conv w x = conv' w x := by
  funext s
  unfold conv conv'
  rw [dn_mul, dn_mul, add_assoc, add_comm]

theorem back_eq (w : Fin 3 → EReal) (d : Col) : back w d = back' w d := by
  funext s
  unfold back back'
  rw [add_right_comm]

theorem du_eq (b g y : Col) : du b g y = du' b g y := by
  funext s
  unfold du du'
  rw [mul_comm (y s), mul_assoc]

theorem isR_dn (k : Nat) (x : Col) (h : ∀ s, IsR (x s)) (s : Fin 2048) : IsR (dn k x s) := by
  unfold dn
  split
  · exact IsR.zero
  · exact h _

theorem silu_slope {X g : EReal} (hX : IsR X) (hg : IsR g) :
    X * (Ideal.logistic g * (1 + g * (1 - Ideal.logistic g)))
      = X * Ideal.logistic g + g * X * (Ideal.logistic g * (1 - Ideal.logistic g)) := by
  obtain ⟨x, rfl⟩ := hX
  obtain ⟨g, rfl⟩ := hg
  rw [Ideal.logistic_coe]
  simp only [← EReal.coe_one, ← EReal.coe_sub, ← EReal.coe_mul, ← EReal.coe_add]
  congr 1
  ring

theorem dq3_eq (w : Fin 3 → EReal) (b c v g y : Col) (hw : ∀ k, IsR (w k)) (hb : ∀ s, IsR (b s)) (hc : ∀ s, IsR (c s))
    (hv : ∀ s, IsR (v s)) (hg : ∀ s, IsR (g s)) (hy : ∀ s, IsR (y s)) : dq3 w b c v g y = dq3' w b c v g y := by
  funext s
  have hcv : ∀ s, IsR (c s * v s) := fun s => (hc s).mul (hv s)
  have hu : IsR (conv' w (fun r => c r * v r) s) :=
    (((hw 0).mul (isR_dn 2 _ hcv s)).add ((hw 1).mul (isR_dn 1 _ hcv s))).add ((hw 2).mul (hcv s))
  unfold dq3 dq3'
  rw [conv_eq, show y s * b s * conv' w (fun r => c r * v r) s = b s * conv' w (fun r => c r * v r) s * y s by
    rw [mul_assoc, mul_comm]]
  exact silu_slope (((hb s).mul hu).mul (hy s)) (hg s)

/-! The reference's spellings of the moves. -/

theorem dn_two' (F : Col) (s : Fin 2048) : dn 2 F s = if h : s.val < 2 then 0 else F ⟨s.val - 2, by omega⟩ := rfl
theorem dn_one' (F : Col) (s : Fin 2048) : dn 1 F s = if h : 1 + s.val < 2 then 0 else F ⟨1 + s.val - 2, by omega⟩ := by
  unfold dn
  split <;> rename_i h
  · rw [dif_pos (by omega)]
  · rw [dif_neg (by omega)]; congr 1; apply Fin.ext; show s.val - 1 = 1 + s.val - 2; omega
theorem up_two' (F : Col) (s : Fin 2048) :
    up 2 F s = if h : 2 + s.val < 2048 then F ⟨2 + s.val, h⟩ else 0 := by
  unfold up
  split <;> rename_i h
  · rw [dif_pos (by omega)]; congr 1; apply Fin.ext; show s.val + 2 = 2 + s.val; omega
  · rw [dif_neg (by omega)]
theorem up_one' (F : Col) (s : Fin 2048) :
    up 1 F s = if h : 1 ≤ 2 + s.val ∧ 2 + s.val - 1 < 2048 then F ⟨2 + s.val - 1, h.2⟩ else 0 := by
  unfold up
  split <;> rename_i h
  · rw [dif_pos (by omega)]; congr 1; apply Fin.ext; show s.val + 1 = 2 + s.val - 1; omega
  · rw [dif_neg (by omega)]

/-- The sum against a column moved two down, its two leading rows apart. -/
theorem sum_dn_two (G F : Col) : (∑ s, G s * dn 2 F s) =
    (∑ x : Fin 2, G ⟨x.val, by omega⟩ * 0) + ∑ x : Fin 2046, G ⟨2 + x.val, by omega⟩ * F ⟨x.val, by omega⟩ := by
  rw [show (∑ s : Fin 2048, G s * dn 2 F s) = ∑ s : Fin (2 + 2046), G s * dn 2 F s from rfl, Fin.sum_univ_add]
  congr 1

theorem dtap_two (b c v g y : Col) : dtap 2 b c v g y = ∑ s : Fin 2048,
    Scalar.select (IntOp.cmpi .sge (BitVec.ofNat 32 s.val) 2#32) (du b g y s *
      (c ⟨(s.val + 2048 - 2) % 2048, Nat.mod_lt _ (by norm_num)⟩ * v ⟨(s.val + 2048 - 2) % 2048, Nat.mod_lt _ (by norm_num)⟩)) 0 :=
  Finset.sum_congr rfl fun s _ => by rw [select_mul, dn_two]
theorem dtap_one (b c v g y : Col) : dtap 1 b c v g y = ∑ s : Fin 2048,
    Scalar.select (IntOp.cmpi .sge (BitVec.ofNat 32 s.val) 1#32) (du b g y s *
      (c ⟨(s.val + 2048 - 1) % 2048, Nat.mod_lt _ (by norm_num)⟩ * v ⟨(s.val + 2048 - 1) % 2048, Nat.mod_lt _ (by norm_num)⟩)) 0 :=
  Finset.sum_congr rfl fun s _ => by rw [select_mul, dn_one]
theorem dtap_zero (b c v g y : Col) : dtap 0 b c v g y = ∑ s : Fin 2048, du b g y s * (c s * v s) :=
  Finset.sum_congr rfl fun s _ => by rw [dn_zero]

/-! The two results, as functions of the three argument arrays. -/

section Results
variable (A : (⟨3, ![1, 2048, 16384]⟩ : Shape).Idx → EReal) (W : (⟨3, ![1, 3, 4096]⟩ : Shape).Idx → EReal)
  (D : (⟨3, ![1, 2048, 4096]⟩ : Shape).Idx → EReal)

/-- Column `e` of the taps and of the result's cotangent. -/
def taps (e : Fin 4096) : Fin 3 → EReal := fun k => W (ix3 0 k e)
def cot (e : Fin 4096) : Col := fun s => D (ix3 0 s e)

/-- The gradient of quarter `j` of the projection at column `e`, step `s`. -/
def dpAt (j : Nat) (e : Fin 4096) (s : Fin 2048) : EReal :=
  if j = 0 then dq0 (taps W e) (quarter A 1 e) (quarter A 2 e) (quarter A 3 e) (cot D e) s
  else if j = 1 then dq1 (taps W e) (quarter A 0 e) (quarter A 2 e) (quarter A 3 e) (cot D e) s
  else if j = 2 then dq2 (taps W e) (quarter A 0 e) (quarter A 1 e) (quarter A 3 e) (cot D e) s
  else dq3 (taps W e) (quarter A 0 e) (quarter A 1 e) (quarter A 2 e) (quarter A 3 e) (cot D e) s

/-- Row `k` of the taps' gradient at column `e`: three taps, then zeros. -/
def vecAt (k : Nat) (e : Fin 4096) : EReal :=
  if k < 3 then dtap (2 - k) (quarter A 0 e) (quarter A 1 e) (quarter A 2 e) (quarter A 3 e) (cot D e) else 0

end Results

end Cert.Sc

end
-- ==== Proof.ScVal.lean ====
module

public import proofs.«01_k».proof.Proof.Gen.ScBwdIdeal.Value
public import proofs.«01_k».proof.Proof.ScMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ScBwdIdeal.Hand

open Cert.ScBwdIdeal Cert.ScBwdIdeal.Gen Cert.Sc

variable (m : (ℓ : Loc nD τ sig) → Buf (Elt Ideal) ℓ)

theorem idx : ∀ t : Fin cfg0.N, win0_0.index t = ![0, 0, t.val] ∧ win0_1.index t = ![1, 0, t.val] ∧
    win0_2.index t = ![2, 0, t.val] ∧ win0_3.index t = ![3, 0, t.val] ∧ win0_4.index t = ![0, t.val] ∧
    win0_5.index t = ![0, t.val] ∧ win0_6.index t = ![0, 0, t.val] ∧ win0_7.index t = ![0, t.val] :=
  (by decide +kernel : ∀ t : Fin grid0.N, _)

/-- Column `e` of quarter `j` of the projection. -/
def pr (c : Dev nD) (j : Fin 4) (e : Fin 4096) : Col := quarter (m ((c : Thread nD τ).loc main_arg0)) j e
def wt (c : Dev nD) (e : Fin 4096) : Fin 3 → EReal := taps (m ((c : Thread nD τ).loc main_arg1)) e
def ct (c : Dev nD) (e : Fin 4096) : Col := cot (m ((c : Thread nD τ).loc main_arg2)) e

/-- The packed projection at (j, s, e), from the argument. -/
theorem packed (c : Dev nD) (j : Fin 4) (s : Fin 2048) (e : Fin 4096) : V m c main_v3 (ix3 j s e) = pr m c j e s := by
  unfold pr quarter
  entry_read
  pointwise

theorem dyRow (c : Dev nD) (s : Fin 2048) (e : Fin 4096) : V m c main_v5 (ix2 s e) = ct m c e s := by
  unfold ct cot
  entry_read
  pointwise

theorem wRow (c : Dev nD) (k : Fin 3) (e : Fin 4096) : V m c main_v6 (ix2 k e) = wt m c e k := by
  unfold wt taps
  entry_read
  pointwise

/-- The column of the arrays that column `x` of point `t`'s blocks is. -/
def col (t : Fin cfg0.N) (x : Fin 256) : Fin 4096 :=
  ⟨t.val * 256 + x.val, by have : t.val < 16 := t.isLt; omega⟩

theorem ib0 (c : Dev nD) (t : Fin cfg0.N) (s : Fin 2048) (x : Fin 256) :
    iblk m c 0 t (ix3 0 s x) = pr m c 0 (col t x) s := by
  rw [← packed]
  blk_point [iblk, idx t, col]
theorem ib1 (c : Dev nD) (t : Fin cfg0.N) (s : Fin 2048) (x : Fin 256) :
    iblk m c 1 t (ix3 0 s x) = pr m c 1 (col t x) s := by
  rw [← packed]
  blk_point [iblk, idx t, col]
theorem ib2 (c : Dev nD) (t : Fin cfg0.N) (s : Fin 2048) (x : Fin 256) :
    iblk m c 2 t (ix3 0 s x) = pr m c 2 (col t x) s := by
  rw [← packed]
  blk_point [iblk, idx t, col]
theorem ib3 (c : Dev nD) (t : Fin cfg0.N) (s : Fin 2048) (x : Fin 256) :
    iblk m c 3 t (ix3 0 s x) = pr m c 3 (col t x) s := by
  rw [← packed]
  blk_point [iblk, idx t, col]
theorem ib4 (c : Dev nD) (t : Fin cfg0.N) (s : Fin 2048) (x : Fin 256) :
    iblk m c 4 t (ix2 s x) = ct m c (col t x) s := by
  rw [← dyRow]
  blk_point [iblk, idx t, col]
theorem ib5 (c : Dev nD) (t : Fin cfg0.N) (k : Fin 3) (x : Fin 256) :
    iblk m c 5 t (ix2 k x) = wt m c (col t x) k := by
  rw [← wRow]
  blk_point [iblk, idx t, col]

theorem point6 (c : Dev nD) (t : Fin cfg0.N) (y : S4x2048x256.Idx) :
    (outsAt0 m c t).1 y = dpAt (m ((c : Thread nD τ).loc main_arg0)) (m ((c : Thread nD τ).loc main_arg1)) (m ((c : Thread nD τ).loc main_arg2)) (y 0).val (col t (y 2)) (y 1) := by
  unfold Gen.outsAt0; frame_out
  canon_tiles x h
  all_goals
    open_payloads
    pointwise
    idx_vars x
    obtain rfl : x0 = 0 := Subsingleton.elim _ _
    rw [h0, show y 1 = x1 from Fin.ext h1, show y 2 = x2 from Fin.ext h2]
    simp only [ib0, ib1, ib2, ib3, ib4, ib5, dpAt, dq0, dq1, dq2, dq3, back, conv, du, up_two, up_one, dn_two, dn_one]
    rfl

/-- Row `k` of the block lies where its one-row rectangle says. -/
theorem row_emb (k : Nat) (inb : ∀ a, (![k, 0] : Fin 2 → Nat) a + (![1, 256] : Fin 2 → Nat) a ≤ S8x256.size a) (r : Fin 8) (hr : r.val = k) (x : Fin 256) :
    (ix2 r x : S8x256.Idx) = (Rect.unit ![k, 0] ![1, 256] inb).emb (ix2 0 x) := by
  funext a
  apply Fin.ext
  rw [ValueKit.rect_emb_unit_val]
  match a with
  | ⟨0, _⟩ => exact hr
  | ⟨1, _⟩ => exact (Nat.zero_add _).symm

theorem row_off (k : Nat) (inb : ∀ a, (![k, 0] : Fin 2 → Nat) a + (![1, 256] : Fin 2 → Nat) a ≤ S8x256.size a) (r : Fin 8) (hr : r.val ≠ k) (x : Fin 256) :
    (ix2 r x : S8x256.Idx) ∉ (Rect.unit ![k, 0] ![1, 256] inb).set := by
  rw [Rect.mem_set_unit]
  intro h
  have h0 := h 0
  simp at h0
  omega

/-- What a one-row store on top of other stores leaves at (r, x). -/
theorem row_canon {Val : EltTy → Type} [∀ e, Nonempty (Val e)] {e : EltTy} (k : Nat) (inb) (a : S1x256.Idx → Val e) (l) (r : Fin 8) (x : Fin 256) :
    View.canon (Val := Val) (s := S8x256) (e := e) (⟨Rect.unit ![k, 0] ![1, 256] inb, a⟩ :: l) (ix2 r x)
      = if r.val = k then a (ix2 0 x) else View.canon l (ix2 r x) := by
  split <;> rename_i h1
  · rw [row_emb k inb r h1 x]; exact View.canon_cons_emb _ _ _ _
  exact View.canon_cons_of_not_mem _ _ (row_off k inb r h1 x)

theorem all_canon {Val : EltTy → Type} [∀ e, Nonempty (Val e)] {e : EltTy} (inb) (a : S8x256.Idx → Val e) (r : Fin 8) (x : Fin 256) :
    View.canon (Val := Val) (s := S8x256) (e := e) [⟨Rect.unit ![0, 0] ![8, 256] inb, a⟩] (ix2 r x) = a (ix2 r x) := by
  have hz : (ix2 r x : S8x256.Idx) = (Rect.unit ![0, 0] ![8, 256] inb).emb (ix2 r x) := by
    funext a
    apply Fin.ext
    rw [ValueKit.rect_emb_unit_val]
    match a with
    | ⟨0, _⟩ => exact (Nat.zero_add _).symm
    | ⟨1, _⟩ => exact (Nat.zero_add _).symm
  conv_lhs => rw [hz]
  exact View.canon_cons_emb _ _ _ _

theorem point7 (c : Dev nD) (t : Fin cfg0.N) (r : Fin 8) (x : Fin 256) :
    (outsAt0 m c t).2 (ix2 r x) = vecAt (m ((c : Thread nD τ).loc main_arg0)) (m ((c : Thread nD τ).loc main_arg2)) r.val (col t x) := by
  unfold Gen.outsAt0; frame_out
  refine (row_canon 1 _ _ _ r x).trans ?_
  split
  · rename_i h
    rw [h]
    open_payloads
    pointwise

    simp only [ib0, ib1, ib2, ib3, ib4, ib5]
    rw [vecAt, if_pos (by omega), show 2 - 1 = 1 from rfl, dtap_one]
    rfl
  refine (row_canon 0 _ _ _ r x).trans ?_
  split
  · rename_i h
    rw [h]
    open_payloads
    pointwise
    simp only [ib0, ib1, ib2, ib3, ib4, ib5]
    rw [vecAt, if_pos (by omega), show 2 - 0 = 2 from rfl, dtap_two]
    rfl
  refine (row_canon 2 _ _ _ r x).trans ?_
  split
  · rename_i h
    rw [h]
    open_payloads
    pointwise
    simp only [ib0, ib1, ib2, ib3, ib4, ib5]
    rw [vecAt, if_pos (by omega), show 2 - 2 = 0 from rfl, dtap_zero]
    rfl
  refine (all_canon _ _ r x).trans ?_
  rw [vecAt, if_neg (by omega)]
  open_payloads
  pointwise

theorem final6 (c : Dev nD) : (dats m 0 c).arrAt 6 cfg0.N = fun i =>
    dpAt (m ((c : Thread nD τ).loc main_arg0)) (m ((c : Thread nD τ).loc main_arg1)) (m ((c : Thread nD τ).loc main_arg2)) (i 0).val (i 2) (i 1) := by
  refine (dats m 0 c).arrAt_eq_of_covers 6 _ (by decide +kernel) fun t hf y => ?_
  have e2 : ((win0_6.blk t).view.emb y 2) = col t (y 2) := Fin.ext (by blk_simp [idx t, col])
  have e1 : ((win0_6.blk t).view.emb y 1) = y 1 := Fin.ext (by blk_simp [idx t])
  have e0 : ((win0_6.blk t).view.emb y 0).val = (y 0).val := by blk_simp [idx t]

  show _ = dpAt _ _ _ ((win0_6.blk t).view.emb y 0).val ((win0_6.blk t).view.emb y 2) ((win0_6.blk t).view.emb y 1)
  rw [e0, e1, e2, ← point6]
  blk_simp
  rw [after0_6]

theorem final7 (c : Dev nD) : (dats m 0 c).arrAt 7 cfg0.N = fun i =>
    vecAt (m ((c : Thread nD τ).loc main_arg0)) (m ((c : Thread nD τ).loc main_arg2)) (i 0).val (i 1) := by
  refine (dats m 0 c).arrAt_eq_of_covers 7 _ (by decide +kernel) fun t hf y => ?_
  have e1 : ((win0_7.blk t).view.emb y 1) = col t (y 1) := Fin.ext (by blk_simp [idx t, col])
  have e0 : ((win0_7.blk t).view.emb y 0).val = (y 0).val := by blk_simp [idx t]
  show _ = vecAt _ _ ((win0_7.blk t).view.emb y 0).val ((win0_7.blk t).view.emb y 1)
  rw [e0, e1]
  blk_simp
  rw [after0_7]
  idx_vars y
  exact point7 m c t y0 y1

end Cert.ScBwdIdeal.Hand

end
-- ==== Proof.ScRefVal.lean ====
module

public import proofs.«01_k».proof.Proof.Gen.ScRefIdeal.Run
public import Idealize.ShloMosaic.Lib.Pipeline.ValueKit
public import Idealize.ShloMosaic.Lib.Tactic.CleanTypes
public import proofs.«01_k».proof.Proof.ScMath

@[expose] public section

set_option maxRecDepth 16384

noncomputable section

open Idealize.ShloMosaic Idealize.ShloMosaic.TcCoe Idealize.SL.Sem
open Idealize.ShloMosaic.Pipeline (Dat)

namespace Cert.ScRefIdeal.Hand

open Cert.ScRefIdeal Cert.ScRefIdeal.Gen Cert.Sc

variable (m : (ℓ : Loc nD τ sig) → Buf (Elt Ideal) ℓ)

/-- Column `e` of quarter `j` of the projection. -/
def pr (c : Dev nD) (j : Fin 4) (e : Fin 4096) : Col := quarter (m ((c : Thread nD τ).loc main_arg0)) j e
def wt (c : Dev nD) (e : Fin 4096) : Fin 3 → EReal := taps (m ((c : Thread nD τ).loc main_arg1)) e
def ct (c : Dev nD) (e : Fin 4096) : Col := cot (m ((c : Thread nD τ).loc main_arg2)) e

section Reads
variable (c : Dev nD) (e : Fin 4096)
theorem r0 (s : Fin 2048) (n : Nat) (h : n < 16384) (hn : n = e.val) :
    m ((c : Thread nD τ).loc main_arg0) (ix3 0 s ⟨n, h⟩) = pr m c 0 e s := by
  subst hn; unfold pr quarter; congr 2; exact Fin.ext (Nat.zero_add _).symm
theorem r1 (s : Fin 2048) (n : Nat) (h : n < 16384) (hn : n = 4096 + e.val) :
    m ((c : Thread nD τ).loc main_arg0) (ix3 0 s ⟨n, h⟩) = pr m c 1 e s := by subst hn; rfl
theorem r2 (s : Fin 2048) (n : Nat) (h : n < 16384) (hn : n = 8192 + e.val) :
    m ((c : Thread nD τ).loc main_arg0) (ix3 0 s ⟨n, h⟩) = pr m c 2 e s := by subst hn; rfl
theorem r3 (s : Fin 2048) (n : Nat) (h : n < 16384) (hn : n = 12288 + e.val) :
    m ((c : Thread nD τ).loc main_arg0) (ix3 0 s ⟨n, h⟩) = pr m c 3 e s := by subst hn; rfl
theorem rwt (k : Fin 3) : m ((c : Thread nD τ).loc main_arg1) (ix3 0 k e) = wt m c e k := rfl
theorem rct (s : Fin 2048) : m ((c : Thread nD τ).loc main_arg2) (ix3 0 s e) = ct m c e s := rfl
theorem rwt' (k : Fin 3) (n : Nat) (h : n < 4096) (hn : n = e.val) :
    m ((c : Thread nD τ).loc main_arg1) (ix3 0 k ⟨n, h⟩) = wt m c e k := by subst hn; rfl
theorem rct' (s : Fin 2048) (n : Nat) (h : n < 4096) (hn : n = e.val) :
    m ((c : Thread nD τ).loc main_arg2) (ix3 0 s ⟨n, h⟩) = ct m c e s := by subst hn; rfl
end Reads
theorem rl (x : EReal) : Ideal.div 1 (1 + Ideal.exp (-x)) = Ideal.logistic x := rfl

/-- A conjunct that holds may be left out of a condition. -/
theorem dif_and_of {P Q : Prop} [Decidable (P ∧ Q)] [Decidable P] (hq : Q) {α : Type} (a : P ∧ Q → α) (b : α) :
    (if h : P ∧ Q then a h else b) = if h : P then a ⟨h, hq⟩ else b := by
  by_cases hp : P
  · rw [dif_pos ⟨hp, hq⟩, dif_pos hp]
  · rw [dif_neg (fun h => hp h.1), dif_neg hp]

theorem out0_0 (c : Dev nD) (s : Fin 2048) (e : Fin 4096) :
    Value.res_out0 m c (ix3 0 s e) = dq0 (wt m c e) (pr m c 1 e) (pr m c 2 e) (pr m c 3 e) (ct m c e) s := by
  unfold Value.res_out0 Value.res_main_v79
  clean_types
  pointwise
  simp (disch := omega) only [r0 m c e, r1 m c e, r2 m c e, r3 m c e, rwt' m c e, rct' m c e, rl]
  try simp only [rwt, rct]
  rw [dq0, mul_right_comm, conv_eq]
  unfold conv'
  simp only [dn_two', dn_one']

theorem out0_1 (c : Dev nD) (s : Fin 2048) (e : Fin 4096) :
    Value.res_out0 m c (ix3 1 s e) = dq1 (wt m c e) (pr m c 0 e) (pr m c 2 e) (pr m c 3 e) (ct m c e) s := by
  unfold Value.res_out0 Value.res_main_v79
  clean_types
  pointwise
  simp (disch := omega) only [r0 m c e, r1 m c e, r2 m c e, r3 m c e, rwt' m c e, rct' m c e, rl]
  try simp only [rwt, rct]
  rw [dq1, back_eq, du_eq]
  unfold back' du'
  simp only [up_two', up_one']

/-- The transposed convolution as the reference reads it: a sum of padded shifts. -/
theorem back_read (w : Fin 3 → EReal) (b g y : Col) (s : Fin 2048) :
    (w 2 * (b s * (y s * (g s * Ideal.logistic (g s)))) +
        if h : 1 ≤ 2 + s.val ∧ 2 + s.val - 1 < 2048 then
          w 1 * (b ⟨2 + s.val - 1, h.2⟩ * (y ⟨2 + s.val - 1, h.2⟩ * (g ⟨2 + s.val - 1, h.2⟩ * Ideal.logistic (g ⟨2 + s.val - 1, h.2⟩))))
        else 0) +
      (if h : 2 + s.val < 2048 then
        w 0 * (b ⟨2 + s.val, h⟩ * (y ⟨2 + s.val, h⟩ * (g ⟨2 + s.val, h⟩ * Ideal.logistic (g ⟨2 + s.val, h⟩))))
      else 0) = back w (du b g y) s := by
  rw [back_eq, du_eq]
  unfold back' du'
  simp only [up_two', up_one']

theorem out0_2 (c : Dev nD) (s : Fin 2048) (e : Fin 4096) :
    Value.res_out0 m c (ix3 2 s e) = dq2 (wt m c e) (pr m c 0 e) (pr m c 1 e) (pr m c 3 e) (ct m c e) s := by
  unfold Value.res_out0 Value.res_main_v79
  clean_types
  pointwise
  simp (disch := omega) only [r0 m c e, r1 m c e, r2 m c e, r3 m c e, rwt' m c e, rct' m c e, rl]
  try simp only [rwt, rct]
  refine (dif_neg (by omega)).trans ((dif_neg (by omega)).trans ((dif_pos (by omega)).trans ?_))
  simp (disch := omega) only [dif_pos, dif_and_of]
  refine (mul_comm (pr m c 1 e s) _).trans (congrArg (fun z => z * pr m c 1 e s) (back_read _ _ _ _ s))

theorem out0_3 (c : Dev nD) (s : Fin 2048) (e : Fin 4096) :
    Value.res_out0 m c (ix3 3 s e) = dq3' (wt m c e) (pr m c 0 e) (pr m c 1 e) (pr m c 2 e) (pr m c 3 e) (ct m c e) s := by
  unfold Value.res_out0 Value.res_main_v79
  clean_types
  pointwise
  simp (disch := omega) only [r0 m c e, r1 m c e, r2 m c e, r3 m c e, rwt' m c e, rct' m c e, rl]
  try simp only [rwt, rct]
  refine (dif_neg (by omega)).trans ((dif_neg (by omega)).trans ((dif_neg (by omega)).trans ?_))
  unfold dq3' conv'
  simp only [dn_two', dn_one']

theorem sitofp_zero : (FloatOps.sitofp FTy.f32 0#32 : Ideal .f32) = (0 : EReal) := by
  show ((((0#32 : BitVec 32).toInt : ℤ) : ℝ) : EReal) = 0
  simp

theorem out1 (c : Dev nD) (k : Fin 8) (e : Fin 4096) :
    Value.res_out1 m c (ix2 k e) = vecAt (m ((c : Thread nD τ).loc main_arg0)) (m ((c : Thread nD τ).loc main_arg2)) k.val e := by
  unfold Value.res_out1 Value.res_main_v81
  clean_types
  fin_cases k
  · pointwise
    simp (disch := omega) only [r0 m c e, r1 m c e, r2 m c e, r3 m c e, rwt' m c e, rct' m c e, rl]
    try simp only [rwt, rct]
    rw [vecAt, if_pos (by norm_num), dtap, sum_dn_two, du_eq]
    simp only [Fin.sum_univ_one]
    rfl
  · pointwise
    simp (disch := omega) only [r0 m c e, r1 m c e, r2 m c e, r3 m c e, rwt' m c e, rct' m c e, rl]
    try simp only [rwt, rct]
    rw [vecAt, if_pos (by norm_num), show 2 - 1 = 1 from rfl, dtap, du_eq]
    simp only [Fin.sum_univ_one, dn_one']
    rfl
  · pointwise
    simp (disch := omega) only [r0 m c e, r1 m c e, r2 m c e, r3 m c e, rwt' m c e, rct' m c e, rl]
    try simp only [rwt, rct]
    rw [vecAt, if_pos (by norm_num), dtap_zero, du_eq]
    simp only [Fin.sum_univ_one]
    rfl
  all_goals
    pointwise
    rw [vecAt, if_neg (by norm_num)]
    exact sitofp_zero
end Cert.ScRefIdeal.Hand
end
-- ==== Proof.ScClaim.lean ====
module

public import proofs.«01_k».proof.Defs
public import proofs.«01_k».proof.Proof.ScVal
public import proofs.«01_k».proof.Proof.ScRefVal
public import proofs.«01_k».proof.Proof.Common

@[expose] public section

set_option maxRecDepth 16384

noncomputable section

open Idealize.ShloMosaic Idealize.ShloMosaic.TcCoe Idealize.SL.Sem

namespace Cert.Sc

open Cert.Common

/-- What the printed precondition states of its broadcasts. -/
instance preFacts : Cert.Pre_sc_finite.Facts := ⟨by decide, by decide, by decide⟩

/-- The reference's two results are the kernel's two functions, at finite arguments. -/
theorem ref_first (m : (ℓ : Loc Cert.ScRefIdeal.nD Cert.ScRefIdeal.τ Cert.ScRefIdeal.sig) → Buf (Elt Ideal) ℓ) (c : Dev Cert.ScRefIdeal.nD)
    (h0 : ∀ i, IsR (m ((c : Thread Cert.ScRefIdeal.nD Cert.ScRefIdeal.τ).loc Cert.ScRefIdeal.main_arg0) i))
    (h1 : ∀ i, IsR (m ((c : Thread Cert.ScRefIdeal.nD Cert.ScRefIdeal.τ).loc Cert.ScRefIdeal.main_arg1) i))
    (h2 : ∀ i, IsR (m ((c : Thread Cert.ScRefIdeal.nD Cert.ScRefIdeal.τ).loc Cert.ScRefIdeal.main_arg2) i)) :
    Cert.ScRefIdeal.Value.res_main_v79 m c = fun i : Cert.ScRefIdeal.S4x2048x4096.Idx =>
      dpAt (m ((c : Thread Cert.ScRefIdeal.nD Cert.ScRefIdeal.τ).loc Cert.ScRefIdeal.main_arg0))
        (m ((c : Thread Cert.ScRefIdeal.nD Cert.ScRefIdeal.τ).loc Cert.ScRefIdeal.main_arg1))
        (m ((c : Thread Cert.ScRefIdeal.nD Cert.ScRefIdeal.τ).loc Cert.ScRefIdeal.main_arg2)) (i 0).val (i 2) (i 1) := by
  funext i
  idx_vars i
  fin_cases i0
  · exact (Cert.ScRefIdeal.Hand.out0_0 m c i1 i2).trans (if_pos rfl).symm
  · exact (Cert.ScRefIdeal.Hand.out0_1 m c i1 i2).trans ((if_pos rfl).symm.trans (if_neg one_ne_zero).symm)
  · exact (Cert.ScRefIdeal.Hand.out0_2 m c i1 i2).trans ((if_pos rfl).symm.trans ((if_neg (by decide)).symm.trans (if_neg (by decide)).symm))
  · refine (Cert.ScRefIdeal.Hand.out0_3 m c i1 i2).trans ?_
    refine (congrFun (dq3_eq _ _ _ _ _ _ (fun k => h1 _) (fun s => h0 _) (fun s => h0 _) (fun s => h0 _) (fun s => h0 _) (fun s => h2 _)) i1).symm.trans ?_
    exact (if_neg (by decide)).symm.trans ((if_neg (by decide)).symm.trans (if_neg (by decide)).symm)

theorem ref_second (m : (ℓ : Loc Cert.ScRefIdeal.nD Cert.ScRefIdeal.τ Cert.ScRefIdeal.sig) → Buf (Elt Ideal) ℓ) (c : Dev Cert.ScRefIdeal.nD) :
    Cert.ScRefIdeal.Value.res_main_v81 m c = fun i : Cert.ScRefIdeal.S8x4096.Idx =>
      vecAt (m ((c : Thread Cert.ScRefIdeal.nD Cert.ScRefIdeal.τ).loc Cert.ScRefIdeal.main_arg0))
        (m ((c : Thread Cert.ScRefIdeal.nD Cert.ScRefIdeal.τ).loc Cert.ScRefIdeal.main_arg2)) (i 0).val (i 1) := by
  funext i
  idx_vars i
  exact Cert.ScRefIdeal.Hand.out1 m c i0 i1

theorem claim : Cert.algebraic_ScBwdIdeal_ScRefIdeal_pre_sc_finite (hScBwdIdeal := Cert.ScBwdIdeal.Gen.facts)
    (hScRefIdeal := Cert.ScRefIdeal.Gen.facts) (hPre_sc_finite := preFacts) := by
  intro m g m' g' hpre hagree
  refine ⟨fun c i => dpAt (m ((c : Thread Cert.ScBwdIdeal.nD Cert.ScBwdIdeal.τ).loc Cert.ScBwdIdeal.main_arg0))
      (m ((c : Thread Cert.ScBwdIdeal.nD Cert.ScBwdIdeal.τ).loc Cert.ScBwdIdeal.main_arg1))
      (m ((c : Thread Cert.ScBwdIdeal.nD Cert.ScBwdIdeal.τ).loc Cert.ScBwdIdeal.main_arg2)) (i 0).val (i 2) (i 1),
    fun c i => vecAt (m ((c : Thread Cert.ScBwdIdeal.nD Cert.ScBwdIdeal.τ).loc Cert.ScBwdIdeal.main_arg0))
      (m ((c : Thread Cert.ScBwdIdeal.nD Cert.ScBwdIdeal.τ).loc Cert.ScBwdIdeal.main_arg2)) (i 0).val (i 1),
    (θ_run _ _ _).mono (fun r h c => ?_) (Cert.ScBwdIdeal.Value.run_blocks m g),
    (θ_run _ _ _).mono (fun r h c => ?_) (Cert.ScRefIdeal.Value.run m' g')⟩
  · obtain ⟨o0, o1, k⟩ := h c
    exact ⟨o0.trans (Cert.ScBwdIdeal.Hand.final6 m c), o1.trans (Cert.ScBwdIdeal.Hand.final7 m c), k⟩
  · obtain ⟨o0, o1, k⟩ := h c
    obtain ⟨a0, a1, a2⟩ := hagree c
    have r0 := real_entries _ _ (hpre c).1
    have r1 := real_entries _ _ (hpre c).2.1
    have r2 := real_entries _ _ (hpre c).2.2
    refine ⟨o0.trans ((ref_first m' c ?_ ?_ ?_).trans ?_), o1.trans ((ref_second m' c).trans ?_), k⟩
    · rw [a0]; exact r0
    · rw [a1]; exact r1
    · rw [a2]; exact r2
    · rw [a0, a1, a2]; rfl
    · rw [a0, a2]; rfl

end Cert.Sc

end
-- ==== Proof.LruMath.lean ====
module

public import proofs.«01_k».proof.Proof.Common

@[expose] public section

noncomputable section

open Idealize.ShloMosaic

namespace Cert.LruM

/-- The sequence moved `k` steps towards later times, zeros coming in. -/
def dn (k : ℕ) (f : ℕ → ℝ) (s : ℕ) : ℝ := if k ≤ s then f (s - k) else 0
/-- The sequence of 2048 values moved `k` steps towards earlier times, zeros coming in. -/
def up (k : ℕ) (f : ℕ → ℝ) (s : ℕ) : ℝ := if s + k < 2048 then f (s + k) else 0

/-- The linear recurrence `h (n + 1) = a n * h n + b n` from zero. -/
def lin (a b : ℕ → ℝ) : ℕ → ℝ
  | 0 => 0
  | n + 1 => a n * lin a b n + b n

/-- The same recurrence run from the last of 2048 times to the first. -/
def back (a b : ℕ → ℝ) (s : ℕ) : ℝ := lin (fun n => up 1 a (2047 - n)) (fun n => b (2047 - n)) (2048 - s)

theorem back_end (a b : ℕ → ℝ) : back a b 2048 = 0 := rfl
theorem back_step (a b : ℕ → ℝ) (s : ℕ) (h : s < 2048) : back a b s = up 1 a s * back a b (s + 1) + b s := by
  unfold back
  rw [show 2048 - s = (2047 - s) + 1 by omega, lin, show 2047 - (2047 - s) = s by omega,
    show 2048 - (s + 1) = 2047 - s by omega]

/-! Doubling levels inside blocks of 64 times. -/

def levB (k : ℕ) (a b : ℕ → ℝ) (s : ℕ) : ℝ := a s * (if k ≤ s % 64 then b (s - k) else 0) + b s
def levA (k : ℕ) (a : ℕ → ℝ) (s : ℕ) : ℝ := a s * (if k ≤ s % 64 then a (s - k) else 1)
def revB (k : ℕ) (a b : ℕ → ℝ) (s : ℕ) : ℝ := a s * (if s % 64 + k < 64 then b (s + k) else 0) + b s
def revA (k : ℕ) (a : ℕ → ℝ) (s : ℕ) : ℝ := a s * (if s % 64 + k < 64 then a (s + k) else 1)

/-- After levels reaching `k` times back, a value is given by the one `k` times before, or by the one before its block. -/
def Reach (H : ℕ → ℝ) (k : ℕ) (a b : ℕ → ℝ) : Prop := ∀ s, H (s + 1) = a s * H (s + 1 - min k (s % 64 + 1)) + b s

theorem Reach.double {H : ℕ → ℝ} {k : ℕ} {a b : ℕ → ℝ} (h : Reach H k a b) (hk : 0 < k) : Reach H (k + k) (levA k a) (levB k a b) := by
  intro s
  unfold levA levB
  split <;> rename_i hs
  · have h1 := h s
    have h2 := h (s - k)
    rw [show s - k + 1 = s + 1 - k by omega] at h2
    rw [show min k (s % 64 + 1) = k by omega, h2] at h1
    rw [h1, show s + 1 - k - min k ((s - k) % 64 + 1) = s + 1 - min (k + k) (s % 64 + 1) by omega]
    ring
  · have h1 := h s
    rw [show min k (s % 64 + 1) = min (k + k) (s % 64 + 1) by omega] at h1
    rw [h1]
    ring

theorem reach_one (a b : ℕ → ℝ) : Reach (lin a b) 1 a b := by
  intro s
  rw [show s + 1 - min 1 (s % 64 + 1) = s by omega, lin]

theorem Reach.whole {H : ℕ → ℝ} {a b : ℕ → ℝ} (h : Reach H 64 a b) (n r : ℕ) (hr : r < 64) :
    H (64 * n + r + 1) = a (64 * n + r) * H (64 * n) + b (64 * n + r) := by
  rw [h, show 64 * n + r + 1 - min 64 ((64 * n + r) % 64 + 1) = 64 * n by omega]

/-- The same towards later times. -/
def Ahead (G : ℕ → ℝ) (k : ℕ) (a b : ℕ → ℝ) : Prop := ∀ s, s < 2048 → G s = a s * G (s + min k (64 - s % 64)) + b s

theorem Ahead.double {G : ℕ → ℝ} {k : ℕ} {a b : ℕ → ℝ} (h : Ahead G k a b) (hk : 0 < k) : Ahead G (k + k) (revA k a) (revB k a b) := by
  intro s hs0
  unfold revA revB
  split <;> rename_i hs
  · have h1 := h s hs0
    have h2 := h (s + k) (by omega)
    rw [show min k (64 - s % 64) = k by omega, h2] at h1
    rw [h1, show s + k + min k (64 - (s + k) % 64) = s + min (k + k) (64 - s % 64) by omega]
    ring
  · have h1 := h s hs0
    rw [show min k (64 - s % 64) = min (k + k) (64 - s % 64) by omega] at h1
    rw [h1]
    ring

theorem ahead_one (a b : ℕ → ℝ) : Ahead (back a b) 1 (up 1 a) b := by
  intro s hs
  rw [show s + min 1 (64 - s % 64) = s + 1 by omega]
  exact back_step a b s hs

theorem Ahead.whole {G : ℕ → ℝ} {a b : ℕ → ℝ} (h : Ahead G 64 a b) (n r : ℕ) (hn : n < 32) (hr : r < 64) :
    G (64 * n + r) = a (64 * n + r) * G (64 * n + 64) + b (64 * n + r) := by
  rw [h _ (by omega), show 64 * n + r + min 64 (64 - (64 * n + r) % 64) = 64 * n + 64 by omega]

end Cert.LruM

end
-- ==== Proof.LruScan.lean ====
module

public import proofs.«01_k».proof.Proof.Gen.LruIdeal.Frame
public import Idealize.ShloMosaic.Lib.Pipeline.ValueKit
public import Idealize.ShloMosaic.Lib.Tactic.CleanTypes
public import Idealize.ShloMosaic.Lib.WordCmp
public import proofs.«01_k».proof.Proof.LruMath

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

/-- One block of 256 columns, 2048 times. -/
abbrev Arr := FVec Ideal S2048x256 .f32

/-! ### Masked moves -/

theorem low_bits (s : ℕ) (hs : s < 2048) : IntOp.andi (BitVec.ofNat 32 s) 63#32 = BitVec.ofNat 32 (s % 64) := by
  apply BitVec.eq_of_toNat_eq
  have h63 : (63#32).toNat = 2 ^ 6 - 1 := rfl
  show (BitVec.ofNat 32 s &&& 63#32).toNat = _
  rw [BitVec.toNat_and, h63, Nat.and_two_pow_sub_one_eq_mod, BitVec.toNat_ofNat, BitVec.toNat_ofNat]
  omega

theorem pick_ge {α : Type} (n k : ℕ) (hn : n < 4096) (hk : k < 4096) (x y : α) :
    Scalar.select (IntOp.cmpi .sge (BitVec.ofNat 32 n) (BitVec.ofNat 32 k)) x y = if k ≤ n then x else y := by
  rw [WordCmp.cmpi_sge_ofNat (by omega) (by omega)]
  by_cases h : k ≤ n <;> simp [Scalar.select, h]

theorem pick_lt {α : Type} (n k : ℕ) (hn : n < 4096) (hk : k < 4096) (x y : α) :
    Scalar.select (IntOp.cmpi .slt (BitVec.ofNat 32 n) (BitVec.ofNat 32 k)) x y = if n < k then x else y := by
  rw [WordCmp.cmpi_slt_ofNat (by omega) (by omega)]
  by_cases h : n < k <;> simp [Scalar.select, h]

/-- Rows moved `k` down inside blocks of 64, `fill` coming in. -/
def downP (k : ℕ) (fill : BitVec 32) (x : Arr) : Arr :=
  select (cmpi .sge (andi (iota .tc S2048x256 32 [0] iota_S2048x256_d0_w32) (broadcast S2048x256 63#32)) (broadcast S2048x256 (BitVec.ofNat 32 k)))
    (dynamicRotate 0 (BitVec.ofNat 32 k) none x rotates_S2048x256_d0) (broadcast S2048x256 (Scalar.ofBits .f32 fill))
/-- Rows moved `2048 - r` up inside blocks of 64, `fill` coming in; `l` is 64 less the distance. -/
def upP (l r : ℕ) (fill : BitVec 32) (x : Arr) : Arr :=
  select (cmpi .slt (andi (iota .tc S2048x256 32 [0] iota_S2048x256_d0_w32) (broadcast S2048x256 63#32)) (broadcast S2048x256 (BitVec.ofNat 32 l)))
    (dynamicRotate 0 (BitVec.ofNat 32 r) none x rotates_S2048x256_d0) (broadcast S2048x256 (Scalar.ofBits .f32 fill))
/-- Rows moved `k` down over the whole length. -/
def downW (k : ℕ) (x : Arr) : Arr :=
  select (cmpi .sge (iota .tc S2048x256 32 [0] iota_S2048x256_d0_w32) (broadcast S2048x256 (BitVec.ofNat 32 k)))
    (dynamicRotate 0 (BitVec.ofNat 32 k) none x rotates_S2048x256_d0) (broadcast S2048x256 (Scalar.ofBits .f32 0x00000000#32))
/-- Rows moved `2048 - r` up over the whole length. -/
def upW (r : ℕ) (x : Arr) : Arr :=
  select (cmpi .slt (iota .tc S2048x256 32 [0] iota_S2048x256_d0_w32) (broadcast S2048x256 (BitVec.ofNat 32 r)))
    (dynamicRotate 0 (BitVec.ofNat 32 r) none x rotates_S2048x256_d0) (broadcast S2048x256 (Scalar.ofBits .f32 0x00000000#32))

/-- Lane `x` of the array holds the real sequence `f`. -/
def Rd (a : Arr) (x : Fin 256) (f : ℕ → ℝ) : Prop := ∀ s : Fin 2048, a (ix2 s x) = ((f s.val : ℝ) : EReal)

theorem Rd.down {a : Arr} {x : Fin 256} {f : ℕ → ℝ} (h : Rd a x f) (k : ℕ) (hk : k < 64) (fill : BitVec 32) (q : ℝ)
    (hq : Ideal.ofBits FTy.f32 fill = ((q : ℝ) : EReal)) : Rd (downP k fill a) x fun s => if k ≤ s % 64 then f (s - k) else q := by
  intro s
  unfold downP
  pointwise
  rw [low_bits _ s.isLt, pick_ge _ _ (by omega) (by omega), BitVec.toNat_ofNat]
  split <;> rename_i h1
  · refine Eq.trans ?_ (h ⟨s.val - k, by omega⟩); congr 2; apply Fin.ext; show (s.val + 2048 - (k % 2 ^ 32) % 2048) % 2048 = s.val - k; omega
  · exact hq

theorem Rd.upP {a : Arr} {x : Fin 256} {f : ℕ → ℝ} (h : Rd a x f) (k l r : ℕ) (h0 : 0 < k) (hl : l + k = 64) (hr : r + k = 2048) (fill : BitVec 32) (q : ℝ)
    (hq : Ideal.ofBits FTy.f32 fill = ((q : ℝ) : EReal)) : Rd (upP l r fill a) x fun s => if s % 64 + k < 64 then f (s + k) else q := by
  intro s
  unfold Hand.upP
  pointwise
  rw [low_bits _ s.isLt, pick_lt _ _ (by omega) (by omega), BitVec.toNat_ofNat]
  have hs := s.isLt
  split <;> rename_i h1
  · rw [if_pos (by omega)]
    refine Eq.trans ?_ (h ⟨s.val + k, by omega⟩); congr 2; apply Fin.ext
    show (s.val + 2048 - (r % 2 ^ 32) % 2048) % 2048 = s.val + k; omega
  · rw [if_neg (by omega)]; exact hq

theorem zero_word : Ideal.ofBits FTy.f32 0x00000000#32 = ((0 : ℝ) : EReal) := by
  simp [Ideal.ofBits, Ideal.ieee]
theorem one_word : Ideal.ofBits FTy.f32 0x3F800000#32 = ((1 : ℝ) : EReal) := by
  simp [Ideal.ofBits, Ideal.ieee, -EReal.coe_mul]; norm_num

theorem Rd.downW {a : Arr} {x : Fin 256} {f : ℕ → ℝ} (h : Rd a x f) (k : ℕ) (hk : k < 64) : Rd (downW k a) x (dn k f) := by
  intro s
  unfold Hand.downW
  pointwise
  rw [pick_ge _ _ (by omega) (by omega), BitVec.toNat_ofNat]
  unfold dn
  split <;> rename_i h1
  · refine Eq.trans ?_ (h ⟨s.val - k, by omega⟩); congr 2; apply Fin.ext; show (s.val + 2048 - (k % 2 ^ 32) % 2048) % 2048 = s.val - k; omega
  · first | exact zero_word | exact EReal.coe_zero.symm

theorem Rd.upW {a : Arr} {x : Fin 256} {f : ℕ → ℝ} (h : Rd a x f) (k r : ℕ) (h0 : 0 < k) (hr : r + k = 2048) : Rd (upW r a) x (up k f) := by
  intro s
  unfold Hand.upW
  pointwise
  rw [pick_lt _ _ (by omega) (by omega), BitVec.toNat_ofNat]
  unfold up
  split <;> rename_i h1
  · rw [if_pos (by omega)]
    refine Eq.trans ?_ (h ⟨s.val + k, by omega⟩); congr 2; apply Fin.ext
    show (s.val + 2048 - (r % 2 ^ 32) % 2048) % 2048 = s.val + k; omega
  · rw [if_neg (by omega)]; first | exact zero_word | exact EReal.coe_zero.symm

/-! ### Levels -/

def lvlB (k : ℕ) (a b : Arr) : Arr := addf (mulf a (downP k 0x00000000#32 b)) b
def lvlA (k : ℕ) (a : Arr) : Arr := mulf a (downP k 0x3F800000#32 a)
def rlvB (l r : ℕ) (a b : Arr) : Arr := addf (mulf a (upP l r 0x00000000#32 b)) b
def rlvA (l r : ℕ) (a : Arr) : Arr := mulf a (upP l r 0x3F800000#32 a)

theorem Rd.lvlB {a b : Arr} {x : Fin 256} {f g : ℕ → ℝ} (ha : Rd a x f) (hb : Rd b x g) (k : ℕ) (hk : k < 64) :
    Rd (lvlB k a b) x (levB k f g) := by
  intro s
  show a (ix2 s x) * downP k _ b (ix2 s x) + b (ix2 s x) = _
  rw [ha, hb, hb.down k hk _ 0 zero_word, ← EReal.coe_mul, ← EReal.coe_add]; rfl
theorem Rd.lvlA {a : Arr} {x : Fin 256} {f : ℕ → ℝ} (ha : Rd a x f) (k : ℕ) (hk : k < 64) : Rd (lvlA k a) x (levA k f) := by
  intro s
  show a (ix2 s x) * downP k _ a (ix2 s x) = _
  rw [ha, ha.down k hk _ 1 one_word, ← EReal.coe_mul]; rfl
theorem Rd.rlvB {a b : Arr} {x : Fin 256} {f g : ℕ → ℝ} (ha : Rd a x f) (hb : Rd b x g) (k l r : ℕ) (h0 : 0 < k) (hl : l + k = 64) (hr : r + k = 2048) :
    Rd (rlvB l r a b) x (revB k f g) := by
  intro s
  show a (ix2 s x) * Hand.upP l r _ b (ix2 s x) + b (ix2 s x) = _
  rw [ha, hb, hb.upP k l r h0 hl hr _ 0 zero_word, ← EReal.coe_mul, ← EReal.coe_add]; rfl
theorem Rd.rlvA {a : Arr} {x : Fin 256} {f : ℕ → ℝ} (ha : Rd a x f) (k l r : ℕ) (h0 : 0 < k) (hl : l + k = 64) (hr : r + k = 2048) :
    Rd (rlvA l r a) x (revA k f) := by
  intro s
  show a (ix2 s x) * Hand.upP l r _ a (ix2 s x) = _
  rw [ha, ha.upP k l r h0 hl hr _ 1 one_word, ← EReal.coe_mul]; rfl

/-! ### Tiles -/

/-- Row `r` of the `n`-th tile of 64 rows. -/
def at_ (n : ℕ) (i : S64x256.Idx) : S2048x256.Idx := ix2 ⟨(64 * n + (i 0).val) % 2048, Nat.mod_lt _ (by norm_num)⟩ (i 1)

theorem at_eq (n : ℕ) (r : Fin 64) (x : Fin 256) (h : 64 * n + r.val < 2048) : at_ n (ix2 r x) = ix2 ⟨64 * n + r.val, h⟩ x := by
  unfold at_
  congr 1
  exact Fin.ext (Nat.mod_eq_of_lt h)

/-- The tiles of 64 rows, each from the last row of the one before it. -/
def tileF (A B : Arr) : ℕ → FVec Ideal S64x256 .f32
  | 0 => fun i => B (at_ 0 i)
  | n + 1 => fun i => A (at_ (n + 1) i) * tileF A B n (ix2 63 (i 1)) + B (at_ (n + 1) i)

/-- The tiles from the last one back, each from the first row of the one behind it. -/
def tileR (A B : Arr) : ℕ → FVec Ideal S64x256 .f32
  | 0 => fun i => B (at_ 31 i)
  | n + 1 => fun i => A (at_ (30 - n) i) * tileR A B n (ix2 0 (i 1)) + B (at_ (30 - n) i)

theorem tile_first (A B : Arr) (h) : extractStridedSlice S64x256 ![0, 0] B h = tileF A B 0 := by
  funext i
  idx_vars i
  pointwise
  show _ = B (at_ 0 (ix2 _ _))
  rw [at_eq 0 _ _ (by omega)]
  congr 2
  apply Fin.ext
  simp

theorem tile_step (A B : Arr) (n o : ℕ) (ho : o = 64 * (n + 1)) (hn : n < 31) (h h') (h1) (h2) :
    addf (mulf (extractStridedSlice S64x256 ![o, 0] A h) (broadcastTo S64x256 (extractStridedSlice S1x256 ![63, 0] (tileF A B n) h1) h2))
      (extractStridedSlice S64x256 ![o, 0] B h') = tileF A B (n + 1) := by
  subst ho
  funext i
  idx_vars i
  pointwise
  show _ = A (at_ (n + 1) (ix2 _ _)) * _ + B (at_ (n + 1) (ix2 _ _))
  rw [at_eq (n + 1) _ _ (by omega)]
  rfl

theorem tile_last (A B : Arr) (h) : extractStridedSlice S64x256 ![1984, 0] B h = tileR A B 0 := by
  funext i
  idx_vars i
  pointwise
  show _ = B (at_ 31 (ix2 _ _))
  rw [at_eq 31 _ _ (by omega)]

theorem tile_back (A B : Arr) (n o : ℕ) (ho : o = 64 * (30 - n)) (hn : n < 31) (h h') (h1) (h2) :
    addf (mulf (extractStridedSlice S64x256 ![o, 0] A h) (broadcastTo S64x256 (extractStridedSlice S1x256 ![0, 0] (tileR A B n) h1) h2))
      (extractStridedSlice S64x256 ![o, 0] B h') = tileR A B (n + 1) := by
  subst ho
  funext i
  idx_vars i
  pointwise
  show _ = A (at_ (30 - n) (ix2 _ _)) * _ + B (at_ (30 - n) (ix2 _ _))
  rw [at_eq (30 - n) _ _ (by omega)]
  rfl

theorem tileF_at {A B : Arr} {x : Fin 256} {a b H : ℕ → ℝ} (hA : Rd A x a) (hB : Rd B x b) (hH : Reach H 64 a b) (h0 : H 0 = 0) (n : ℕ) (hn : n < 32) :
    ∀ r : Fin 64, tileF A B n (ix2 r x) = ((H (64 * n + r.val + 1) : ℝ) : EReal) := by
  induction n with
  | zero =>
    intro r
    show B (at_ 0 (ix2 r x)) = _
    rw [at_eq 0 _ _ (by omega), hB, hH.whole 0 r.val r.isLt]
    congr 1
    show b (0 + r.val) = a (0 + r.val) * H 0 + b (0 + r.val)
    rw [h0, mul_zero, zero_add (b _)]
  | succ n ih =>
    intro r
    show A (at_ (n + 1) (ix2 r x)) * tileF A B n (ix2 63 x) + B (at_ (n + 1) (ix2 r x)) = _
    rw [at_eq (n + 1) _ _ (by omega), hA, hB, ih (by omega), hH.whole (n + 1) r.val r.isLt, ← EReal.coe_mul, ← EReal.coe_add]
    rfl

theorem tileR_at {A B : Arr} {x : Fin 256} {a b G : ℕ → ℝ} (hA : Rd A x a) (hB : Rd B x b) (hG : Ahead G 64 a b) (h0 : G 2048 = 0) (n : ℕ) (hn : n < 32) :
    ∀ r : Fin 64, tileR A B n (ix2 r x) = ((G (64 * (31 - n) + r.val) : ℝ) : EReal) := by
  induction n with
  | zero =>
    intro r
    show B (at_ 31 (ix2 r x)) = _
    rw [at_eq 31 _ _ (by omega), hB]
    congr 1
    have e := hG.whole 31 r.val (by omega) r.isLt
    rw [show G (64 * 31 + 64) = 0 from h0, mul_zero, zero_add] at e
    exact e.symm
  | succ n ih =>
    intro r
    show A (at_ (30 - n) (ix2 r x)) * tileR A B n (ix2 0 x) + B (at_ (30 - n) (ix2 r x)) = _
    rw [at_eq (30 - n) _ _ (by omega), hA, hB, ih (by omega), show 31 - (n + 1) = 30 - n by omega, hG.whole (30 - n) r.val (by omega) r.isLt,
      show 64 * (31 - n) + (0 : Fin 64).val = 64 * (30 - n) + 64 by show 64 * (31 - n) + 0 = _; omega, ← EReal.coe_mul, ← EReal.coe_add]

/-- The tiles from the first row on, laid end to end. -/
theorem tiles_whole (T : Fin 32 → FVec Ideal S64x256 .f32) (h) (s : Fin 2048) (x : Fin 256) :
    concatenate S2048x256 0 (List.ofFn fun n : Fin 32 => ⟨S64x256, T n⟩) h (ix2 s x)
      = T ⟨s.val / 64, by omega⟩ (ix2 ⟨s.val % 64, by omega⟩ x) :=
  concatenate_ofFn_apply 0 T h rfl 64 rfl (ix2 s x) ⟨s.val / 64, by omega⟩ rfl (ix2 ⟨s.val % 64, by omega⟩ x) rfl
    (fun b hb => by match b, hb with
      | ⟨1, _⟩, _ => rfl
      | ⟨0, _⟩, hb => exact absurd rfl hb)

/-- All six levels. -/
def lvA (a : Arr) : Arr := lvlA 32 (lvlA 16 (lvlA 8 (lvlA 4 (lvlA 2 (lvlA 1 a)))))
def lvB (a b : Arr) : Arr :=
  lvlB 32 (lvlA 16 (lvlA 8 (lvlA 4 (lvlA 2 (lvlA 1 a))))) (lvlB 16 (lvlA 8 (lvlA 4 (lvlA 2 (lvlA 1 a))))
    (lvlB 8 (lvlA 4 (lvlA 2 (lvlA 1 a))) (lvlB 4 (lvlA 2 (lvlA 1 a)) (lvlB 2 (lvlA 1 a) (lvlB 1 a b)))))
def rvA (a : Arr) : Arr := rlvA 32 2016 (rlvA 48 2032 (rlvA 56 2040 (rlvA 60 2044 (rlvA 62 2046 (rlvA 63 2047 a)))))
def rvB (a b : Arr) : Arr :=
  rlvB 32 2016 (rlvA 48 2032 (rlvA 56 2040 (rlvA 60 2044 (rlvA 62 2046 (rlvA 63 2047 a)))))
    (rlvB 48 2032 (rlvA 56 2040 (rlvA 60 2044 (rlvA 62 2046 (rlvA 63 2047 a))))
      (rlvB 56 2040 (rlvA 60 2044 (rlvA 62 2046 (rlvA 63 2047 a)))
        (rlvB 60 2044 (rlvA 62 2046 (rlvA 63 2047 a)) (rlvB 62 2046 (rlvA 63 2047 a) (rlvB 63 2047 a b)))))

theorem tileF_lin {A B : Arr} {x : Fin 256} {a b : ℕ → ℝ} (hA : Rd A x a) (hB : Rd B x b) (n : ℕ) (hn : n < 32) (r : Fin 64) :
    tileF (lvA A) (lvB A B) n (ix2 r x) = ((lin a b (64 * n + r.val + 1) : ℝ) : EReal) := by
  have a1 := hA.lvlA 1 (by omega)
  have a2 := a1.lvlA 2 (by omega)
  have a3 := a2.lvlA 4 (by omega)
  have a4 := a3.lvlA 8 (by omega)
  have a5 := a4.lvlA 16 (by omega)
  have b6 := a5.lvlB (a4.lvlB (a3.lvlB (a2.lvlB (a1.lvlB (hA.lvlB hB 1 (by omega)) 2 (by omega)) 4 (by omega)) 8 (by omega)) 16 (by omega)) 32 (by omega)
  exact tileF_at (a5.lvlA 32 (by omega)) b6 ((((((reach_one a b).double one_pos).double two_pos).double four_pos).double (by omega)).double (by omega) |>.double (by omega)) rfl n hn r

theorem tileR_back {A B : Arr} {x : Fin 256} {a b : ℕ → ℝ} (hA : Rd A x (up 1 a)) (hB : Rd B x b) (n : ℕ) (hn : n < 32) (r : Fin 64) :
    tileR (rvA A) (rvB A B) n (ix2 r x) = ((back a b (64 * (31 - n) + r.val) : ℝ) : EReal) := by
  have a1 := hA.rlvA 1 63 2047 (by omega) rfl rfl
  have a2 := a1.rlvA 2 62 2046 (by omega) rfl rfl
  have a3 := a2.rlvA 4 60 2044 (by omega) rfl rfl
  have a4 := a3.rlvA 8 56 2040 (by omega) rfl rfl
  have a5 := a4.rlvA 16 48 2032 (by omega) rfl rfl
  have b6 := a5.rlvB (a4.rlvB (a3.rlvB (a2.rlvB (a1.rlvB (hA.rlvB hB 1 63 2047 (by omega) rfl rfl) 2 62 2046 (by omega) rfl rfl) 4 60 2044 (by omega) rfl rfl) 8 56 2040 (by omega) rfl rfl) 16 48 2032 (by omega) rfl rfl) 32 32 2016 (by omega) rfl rfl
  exact tileR_at (a5.rlvA 32 32 2016 (by omega) rfl rfl) b6 ((((((ahead_one a b).double one_pos).double two_pos).double four_pos).double (by omega)).double (by omega) |>.double (by omega)) (back_end a b) n hn r

end Cert.LruIdeal.Hand

end
-- ==== Proof.LruModel.lean ====
module

public import proofs.«01_k».proof.Proof.LruMath

@[expose] public section

noncomputable section

open Idealize.ShloMosaic

namespace Cert.LruM

/-- The arguments as real numbers. -/
structure In where
  p : ℕ → Fin 8192 → ℝ
  cw : Fin 4 → Fin 4096 → ℝ
  cb : Fin 4096 → ℝ
  wa : Fin 16 → Fin 256 → Fin 256 → ℝ
  ba : Fin 16 → Fin 256 → ℝ
  wx : Fin 16 → Fin 256 → Fin 256 → ℝ
  bx : Fin 16 → Fin 256 → ℝ
  lam : Fin 4096 → ℝ
  dy : ℕ → Fin 4096 → ℝ

/-- Column `x` of head `h`. -/
def col (h : Fin 16) (x : Fin 256) : Fin 4096 := ⟨h.val * 256 + x.val, by omega⟩

def sgm (z : ℝ) : ℝ := (1 + Real.exp (-z))⁻¹
theorem sig_pos (z : ℝ) : 0 < sgm z := inv_pos.mpr (by positivity)

section
variable (I : In) (h : Fin 16) (x : Fin 256)

def vin (s : ℕ) : ℝ := I.p s ⟨(col h x).val, by omega⟩
def gin (s : ℕ) : ℝ := I.p s ⟨4096 + (col h x).val, by omega⟩
def dy (s : ℕ) : ℝ := I.dy s (col h x)
def tap (k : Fin 4) : ℝ := I.cw k (col h x)
/-- The convolution's result. -/
def cv (s : ℕ) : ℝ := tap I h x 3 * vin I h x s + tap I h x 0 * dn 3 (vin I h x) s + tap I h x 1 * dn 2 (vin I h x) s
  + tap I h x 2 * dn 1 (vin I h x) s + I.cb (col h x)
def rg (s : ℕ) : ℝ := sgm (∑ j, cv I h j s * I.wa h j x + I.ba h x)
def ig (s : ℕ) : ℝ := sgm (∑ j, cv I h j s * I.wx h j x + I.bx h x)
def sp : ℝ := max (-I.lam (col h x)) 0 + Real.log (1 + Real.exp (-|I.lam (col h x)|))
def la (s : ℕ) : ℝ := -8 * rg I h x s * sp I h x
def av (s : ℕ) : ℝ := Real.exp (la I h x s)
def mu (s : ℕ) : ℝ := Real.sqrt (1 - av I h x s * av I h x s)
def bv (s : ℕ) : ℝ := mu I h x s * ig I h x s * cv I h x s
def hv (s : ℕ) : ℝ := lin (av I h x) (bv I h x) (s + 1)
def si (s : ℕ) : ℝ := gin I h x s * sgm (gin I h x s)
def yv (s : ℕ) : ℝ := hv I h x s * si I h x s

def dhs (s : ℕ) : ℝ := dy I h x s * si I h x s
def dh (s : ℕ) : ℝ := back (av I h x) (dhs I h x) s
def da (s : ℕ) : ℝ := dh I h x s * dn 1 (hv I h x) s
def dla (s : ℕ) : ℝ := da I h x s * av I h x s - dh I h x s * (ig I h x s * cv I h x s) * (av I h x s * av I h x s) * (1 / mu I h x s)
def dzr (s : ℕ) : ℝ := dla I h x s * rg I h x s * (1 - rg I h x s) * (-8 * sp I h x)
def dzi (s : ℕ) : ℝ := dh I h x s * mu I h x s * cv I h x s * ig I h x s * (1 - ig I h x s)
def dcv (s : ℕ) : ℝ := dh I h x s * mu I h x s * ig I h x s + ∑ k, dzr I h k s * I.wa h x k + ∑ k, dzi I h k s * I.wx h x k
def dvin (s : ℕ) : ℝ := tap I h x 3 * dcv I h x s + tap I h x 0 * up 3 (dcv I h x) s + tap I h x 1 * up 2 (dcv I h x) s
  + tap I h x 2 * up 1 (dcv I h x) s
def dgin (s : ℕ) : ℝ := dy I h x s * hv I h x s * (sgm (gin I h x s) * (1 + gin I h x s * (1 - sgm (gin I h x s))))
end

/-- The gradient of the projection's half `j` at a column. -/
def dp (I : In) (j : ℕ) (h : Fin 16) (x : Fin 256) (s : ℕ) : ℝ := if j = 0 then dvin I h x s else dgin I h x s
def dwa (I : In) (h : Fin 16) (i j : Fin 256) : ℝ := ∑ s : Fin 2048, cv I h i s.val * dzr I h j s.val
def dwx (I : In) (h : Fin 16) (i j : Fin 256) : ℝ := ∑ s : Fin 2048, cv I h i s.val * dzi I h j s.val

/-- Row `r` of the vector gradients. -/
def vec (I : In) (r : ℕ) (h : Fin 16) (x : Fin 256) : ℝ :=
  if r = 0 then ∑ s : Fin 2048, dzr I h x s.val
  else if r = 1 then ∑ s : Fin 2048, dzi I h x s.val
  else if r = 2 then 8 * (∑ s : Fin 2048, dla I h x s.val * rg I h x s.val) * sgm (-I.lam (col h x))
  else if r = 3 then ∑ s : Fin 2048, dcv I h x s.val
  else if r < 8 then ∑ s : Fin 2048, dcv I h x s.val * dn (7 - r) (vin I h x) s.val
  else 0

theorem sp_pos (I : In) (h : Fin 16) (x : Fin 256) : 0 < sp I h x := by
  unfold sp
  exact add_pos_of_nonneg_of_pos (le_max_right _ _) (Real.log_pos (by have := Real.exp_pos (-|I.lam (col h x)|); linarith))
theorem rg_pos (I : In) (h : Fin 16) (x : Fin 256) (s : ℕ) : 0 < rg I h x s := sig_pos _
theorem la_neg (I : In) (h : Fin 16) (x : Fin 256) (s : ℕ) : la I h x s < 0 := by
  unfold la
  have := mul_pos (rg_pos I h x s) (sp_pos I h x)
  nlinarith
theorem av_sq (I : In) (h : Fin 16) (x : Fin 256) (s : ℕ) : av I h x s * av I h x s = Real.exp (2 * la I h x s) := by
  unfold av; rw [← Real.exp_add]; congr 1; ring
theorem one_sub_pos (I : In) (h : Fin 16) (x : Fin 256) (s : ℕ) : 0 < 1 - av I h x s * av I h x s := by
  rw [av_sq, sub_pos, Real.exp_lt_one_iff]; have := la_neg I h x s; linarith
theorem mu_pos (I : In) (h : Fin 16) (x : Fin 256) (s : ℕ) : 0 < mu I h x s := Real.sqrt_pos.mpr (one_sub_pos I h x s)

theorem coe_sum {ι : Type} [Fintype ι] (f : ι → ℝ) : (∑ i, ((f i : ℝ) : EReal)) = ((∑ i, f i : ℝ) : EReal) := by
  classical
  have : ∀ S : Finset ι, (∑ i ∈ S, ((f i : ℝ) : EReal)) = ((∑ i ∈ S, f i : ℝ) : EReal) := by
    intro S
    induction S using Finset.induction_on with
    | empty => simp
    | insert a S ha ih => rw [Finset.sum_insert ha, Finset.sum_insert ha, ih, EReal.coe_add]
  exact this _

theorem coe_max (a b : ℝ) : max (a : EReal) (b : EReal) = ((max a b : ℝ) : EReal) := (EReal.coe_strictMono.monotone.map_max).symm

/-- `1 - e ^ (2 t)` by the hyperbolic tangent. -/
theorem tanh_form (t : ℝ) : Real.tanh (-t) * (1 + Real.exp t * Real.exp t) = 1 - Real.exp t * Real.exp t := by
  have h0 := Real.exp_pos t
  rw [Real.tanh_neg, Real.tanh_eq_sinh_div_cosh, Real.sinh_eq, Real.cosh_eq, Real.exp_neg]
  have : (Real.exp t + (Real.exp t)⁻¹) ≠ 0 := by positivity
  field_simp
  ring

theorem log_one_add_exp (z : ℝ) : Ideal.log1p ((Real.exp z : ℝ) : EReal) = ((Real.log (1 + Real.exp z) : ℝ) : EReal) := by
  unfold Ideal.log1p
  rw [← EReal.coe_one, ← EReal.coe_add, Ideal.log_coe, if_neg]
  have := Real.exp_pos z
  linarith

theorem sqrt_pos_form {z : ℝ} (hz : 0 < z) : Ideal.sqrt ((z : ℝ) : EReal) = ((Real.sqrt z : ℝ) : EReal) := by
  rw [Ideal.sqrt_coe, if_neg (not_lt.mpr hz.le)]

theorem sig_form (z : ℝ) : Ideal.logistic ((z : ℝ) : EReal) = ((sgm z : ℝ) : EReal) := Ideal.logistic_coe _

end Cert.LruM

end
-- ==== Proof.LruFwd.lean ====
module

public import proofs.«01_k».proof.Proof.LruScan
public import proofs.«01_k».proof.Proof.LruModel

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

theorem eight_word : Ideal.ofBits FTy.f32 0xC1000000#32 = ((-8 : ℝ) : EReal) := by
  simp [Ideal.ofBits, Ideal.ieee, -EReal.coe_mul]; norm_num

/-! ### The stages of the first kernel's body -/

theorem rd1 {v0 : Vec Ideal S1x2048x256 .bf16} {x : Fin 256} {f : ℕ → ℝ} (h : ∀ s : Fin 2048, v0 (ix3 0 s x) = ((f s.val : ℝ) : EReal)) :
    Rd (k0_pay1 v0) x f := by
  intro s
  unfold k0_pay1
  pointwise
  exact h s

theorem rd2 {v0 : Vec Ideal S1x2048x256 .bf16} {w3 w0 w1 : Vec Ideal S1x256 .f32} {x : Fin 256} {f : ℕ → ℝ} {a3 a0 a1 : ℝ}
    (h : Rd (k0_pay1 v0) x f) (h3 : w3 (ix2 0 x) = ((a3 : ℝ) : EReal)) (h0 : w0 (ix2 0 x) = ((a0 : ℝ) : EReal)) (h1 : w1 (ix2 0 x) = ((a1 : ℝ) : EReal)) :
    Rd (k0_pay2 v0 w3 w0 w1) x fun s => a3 * f s + a0 * dn 3 f s + a1 * dn 2 f s := by
  intro s
  rw [show k0_pay2 v0 w3 w0 w1 = addf (addf (mulf (broadcastTo S2048x256 (shapeCast S1x256 w3 shapeCasts_S1x256_S1x256) broadcasts_S1x256_S2048x256) (k0_pay1 v0))
      (mulf (broadcastTo S2048x256 (shapeCast S1x256 w0 shapeCasts_S1x256_S1x256) broadcasts_S1x256_S2048x256) (downW 3 (k0_pay1 v0))))
      (mulf (broadcastTo S2048x256 (shapeCast S1x256 w1 shapeCasts_S1x256_S1x256) broadcasts_S1x256_S2048x256) (downW 2 (k0_pay1 v0))) from rfl]
  have e3 := h.downW 3 (by omega) s
  have e2 := h.downW 2 (by omega) s
  have e0 := h s
  generalize downW 3 (k0_pay1 v0) = D3 at *
  generalize downW 2 (k0_pay1 v0) = D2 at *
  generalize k0_pay1 v0 = P at *
  pointwise
  rw [e3, e2, e0, h3, h0, h1]
  simp only [EReal.coe_mul, EReal.coe_add]

theorem rd3 {v0 : Vec Ideal S1x2048x256 .bf16} {w2 : Vec Ideal S1x256 .f32} {x : Fin 256} {f : ℕ → ℝ} {a2 : ℝ}
    (h : Rd (k0_pay1 v0) x f) (h2 : w2 (ix2 0 x) = ((a2 : ℝ) : EReal)) : Rd (k0_pay3 v0 w2) x fun s => a2 * dn 1 f s := by
  intro s
  rw [show k0_pay3 v0 w2 = mulf (broadcastTo S2048x256 (shapeCast S1x256 w2 shapeCasts_S1x256_S1x256) broadcasts_S1x256_S2048x256) (downW 1 (k0_pay1 v0)) from rfl]
  have e1 := h.downW 1 (by omega) s
  generalize downW 1 (k0_pay1 v0) = D1 at *
  pointwise
  rw [e1, h2]
  simp only [EReal.coe_mul]

theorem rd4 {v28 v38 : Arr} {w : Vec Ideal S1x256 .f32} {x : Fin 256} {f g : ℕ → ℝ} {b : ℝ}
    (hf : Rd v28 x f) (hg : Rd v38 x g) (hb : w (ix2 0 x) = ((b : ℝ) : EReal)) : Rd (k0_pay4 v28 v38 w) x fun s => f s + g s + b := by
  intro s
  unfold k0_pay4
  pointwise
  rw [hf s, hg s, hb]
  simp only [EReal.coe_add]

/-- A gate: the product with a head's matrix, the bias and the logistic. -/
theorem rd6 {v28 v38 : Arr} {w : Vec Ideal S1x256 .f32} {M : Vec Ideal S1x256x256 .bf16} {q : Vec Ideal S1x256 .f32} {V : Fin 256 → ℕ → ℝ} {W : Fin 256 → ℝ} {x : Fin 256} {b : ℝ}
    (hV : ∀ j, Rd (k0_pay4 v28 v38 w) j (V j)) (hM : ∀ j, M (ix3 0 j x) = ((W j : ℝ) : EReal)) (hq : q (ix2 0 x) = ((b : ℝ) : EReal)) :
    Rd (k0_pay6 v28 v38 w M q) x fun s => sgm (∑ j, V j s * W j + b) := by
  intro s
  unfold k0_pay6 k0_pay5
  generalize k0_pay4 v28 v38 w = P at *
  pointwise
  simp only [hV _ s, hM, hq, ← EReal.coe_mul, coe_sum, ← EReal.coe_add, sig_form]

theorem rd7 {v28 v38 : Arr} {w : Vec Ideal S1x256 .f32} {M : Vec Ideal S1x256x256 .bf16} {q : Vec Ideal S1x256 .f32} {V : Fin 256 → ℕ → ℝ} {W : Fin 256 → ℝ} {x : Fin 256} {b : ℝ}
    (hV : ∀ j, Rd (k0_pay4 v28 v38 w) j (V j)) (hM : ∀ j, M (ix3 0 j x) = ((W j : ℝ) : EReal)) (hq : q (ix2 0 x) = ((b : ℝ) : EReal)) :
    Rd (k0_pay7 v28 v38 w M q) x fun s => sgm (∑ j, V j s * W j + b) :=
  rd6 hV hM hq

/-- The rate `log (1 + e ^ (-l))`. -/
theorem rate_form (l : ℝ) : max ((0 : EReal) - (l : EReal)) 0 + Ideal.log1p (Ideal.exp (0 - FloatOps.absf (F := Ideal) (φ := .f32) ((0 : EReal) - (l : EReal))))
    = ((max (-l) 0 + Real.log (1 + Real.exp (-|l|)) : ℝ) : EReal) := by
  rw [show FloatOps.absf (F := Ideal) (φ := .f32) ((0 : EReal) - (l : EReal)) = max ((0 : EReal) - (l : EReal)) (-((0 : EReal) - (l : EReal))) from rfl,
    zero_sub, ← EReal.coe_neg, ← EReal.coe_neg, ← EReal.coe_zero, coe_max, coe_max, ← EReal.coe_sub, Ideal.exp_coe, log_one_add_exp, ← EReal.coe_add,
    zero_sub, show max (-l) (- -l) = |l| by rw [max_comm, neg_neg]; rfl]

theorem rd8 {v28 v38 : Arr} {w : Vec Ideal S1x256 .f32} {M : Vec Ideal S1x256x256 .bf16} {q u : Vec Ideal S1x256 .f32} {x : Fin 256} {R : ℕ → ℝ} {l : ℝ}
    (hR : Rd (k0_pay6 v28 v38 w M q) x R) (hl : u (ix2 0 x) = ((l : ℝ) : EReal)) :
    Rd (k0_pay8 v28 v38 w M q u) x fun s => -8 * R s * (max (-l) 0 + Real.log (1 + Real.exp (-|l|))) := by
  intro s
  unfold k0_pay8
  generalize k0_pay6 v28 v38 w M q = P at *
  pointwise
  rw [hR s, hl, eight_word, rate_form, ← EReal.coe_mul, ← EReal.coe_mul]

theorem rd9 {v28 v38 : Arr} {w : Vec Ideal S1x256 .f32} {M : Vec Ideal S1x256x256 .bf16} {q u : Vec Ideal S1x256 .f32} {x : Fin 256} {R : ℕ → ℝ}
    (hR : Rd (k0_pay8 v28 v38 w M q u) x R) : Rd (k0_pay9 v28 v38 w M q u) x fun s => Real.exp (R s) := by
  intro s
  unfold k0_pay9
  generalize k0_pay8 v28 v38 w M q u = P at *
  pointwise
  rw [hR s, Ideal.exp_coe]

theorem rd10 {v28 v38 : Arr} {w : Vec Ideal S1x256 .f32} {M : Vec Ideal S1x256x256 .bf16} {q u : Vec Ideal S1x256 .f32} {x : Fin 256} {R : ℕ → ℝ}
    (hR : Rd (k0_pay8 v28 v38 w M q u) x R) : Rd (k0_pay10 v28 v38 w M q u) x fun s => -R s := by
  intro s
  unfold k0_pay10
  generalize k0_pay8 v28 v38 w M q u = P at *
  pointwise
  rw [hR s]
  simp only [zero_sub, EReal.coe_neg]

theorem rd11 {A L : Arr} {x : Fin 256} {R : ℕ → ℝ} (hA : Rd A x fun s => Real.exp (R s)) (hL : Rd L x fun s => -R s) (hR : ∀ s, R s < 0) :
    Rd (k0_pay11 A L) x fun s => Real.sqrt (1 - Real.exp (R s) * Real.exp (R s)) := by
  intro s
  unfold k0_pay11
  pointwise
  rw [hA s, hL s]
  have h1 : (1 : EReal) = ((1 : ℝ) : EReal) := EReal.coe_one.symm
  rw [h1, Ideal.tanh_coe, ← EReal.coe_mul, ← EReal.coe_add, ← EReal.coe_mul, tanh_form, sqrt_pos_form]
  rw [← Real.exp_add, sub_pos, Real.exp_lt_one_iff]
  have := hR s.val
  linarith

theorem rd17 {V I A M : Arr} {x : Fin 256} {f g h : ℕ → ℝ} (hM : Rd M x f) (hI : Rd I x g) (hV : Rd V x h) :
    Rd (mulf (mulf M I) V) x fun s => f s * g s * h s := by
  intro s
  show M (ix2 s x) * I (ix2 s x) * V (ix2 s x) = _
  rw [hM s, hI s, hV s, ← EReal.coe_mul, ← EReal.coe_mul]

end Cert.LruIdeal.Hand

end
-- ==== Proof.LruFwdBlk.lean ====
module

public import proofs.«01_k».proof.Proof.LruFwd

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

section
variable (V : (c : Dev nD) → (b : Ref sig .tc) → b.ty.Contents (Elt Ideal)) (c : Dev nD) (t : Fin cfg0.N)

/-- The head a grid point works on. -/
def hd : Fin 16 := ⟨t.val, t.isLt⟩

/-! The stages of the body on the blocks of a grid point. -/
def q2 : Arr := k0_pay2 (iblk0 V c 0 t) (View.ld (iblk0 V c 2 t) (Rect.unit ![3, 0] ![1, 256] inb_S4x256_S1x256_3_0))
  (View.ld (iblk0 V c 2 t) (Rect.unit ![0, 0] ![1, 256] inb_S4x256_S1x256_0_0)) (View.ld (iblk0 V c 2 t) (Rect.unit ![1, 0] ![1, 256] inb_S4x256_S1x256_1_0))
def q3 : Arr := k0_pay3 (iblk0 V c 0 t) (View.ld (iblk0 V c 2 t) (Rect.unit ![2, 0] ![1, 256] inb_S4x256_S1x256_2_0))
def qV : Arr := k0_pay4 (q2 V c t) (q3 V c t) (iblk0 V c 3 t)
def qR : Arr := k0_pay6 (q2 V c t) (q3 V c t) (iblk0 V c 3 t) (iblk0 V c 4 t) (iblk0 V c 5 t)
def qI : Arr := k0_pay7 (q2 V c t) (q3 V c t) (iblk0 V c 3 t) (iblk0 V c 6 t) (iblk0 V c 7 t)
def qA : Arr := k0_pay9 (q2 V c t) (q3 V c t) (iblk0 V c 3 t) (iblk0 V c 4 t) (iblk0 V c 5 t) (iblk0 V c 8 t)
def qN : Arr := k0_pay10 (q2 V c t) (q3 V c t) (iblk0 V c 3 t) (iblk0 V c 4 t) (iblk0 V c 5 t) (iblk0 V c 8 t)
def qM : Arr := k0_pay11 (qA V c t) (qN V c t)
def qB : Arr := mulf (mulf (qM V c t) (qI V c t)) (qV V c t)

/-- The blocks a grid point reads, in real numbers. -/
structure Blk0 (I : In) : Prop where
  b0 : ∀ (s : Fin 2048) (x : Fin 256), iblk0 V c 0 t (ix3 0 s x) = ((vin I (hd t) x s.val : ℝ) : EReal)
  b1 : ∀ (s : Fin 2048) (x : Fin 256), iblk0 V c 1 t (ix3 0 s x) = ((gin I (hd t) x s.val : ℝ) : EReal)
  b2 : ∀ (k : Fin 4) (x : Fin 256), iblk0 V c 2 t (ix2 k x) = ((tap I (hd t) x k : ℝ) : EReal)
  b3 : ∀ x : Fin 256, iblk0 V c 3 t (ix2 0 x) = ((I.cb (col (hd t) x) : ℝ) : EReal)
  b4 : ∀ j x : Fin 256, iblk0 V c 4 t (ix3 0 j x) = ((I.wa (hd t) j x : ℝ) : EReal)
  b5 : ∀ x : Fin 256, iblk0 V c 5 t (ix2 0 x) = ((I.ba (hd t) x : ℝ) : EReal)
  b6 : ∀ j x : Fin 256, iblk0 V c 6 t (ix3 0 j x) = ((I.wx (hd t) j x : ℝ) : EReal)
  b7 : ∀ x : Fin 256, iblk0 V c 7 t (ix2 0 x) = ((I.bx (hd t) x : ℝ) : EReal)
  b8 : ∀ x : Fin 256, iblk0 V c 8 t (ix2 0 x) = ((I.lam (col (hd t) x) : ℝ) : EReal)

variable {V c t} {I : In} (H : Blk0 V c t I)
include H

theorem rq2 (x : Fin 256) : Rd (q2 V c t) x fun s => tap I (hd t) x 3 * vin I (hd t) x s + tap I (hd t) x 0 * dn 3 (vin I (hd t) x) s + tap I (hd t) x 1 * dn 2 (vin I (hd t) x) s :=
  rd2 (rd1 fun s => H.b0 s x) (by pointwise; exact H.b2 3 x) (by pointwise; exact H.b2 0 x) (by pointwise; exact H.b2 1 x)
theorem rq3 (x : Fin 256) : Rd (q3 V c t) x fun s => tap I (hd t) x 2 * dn 1 (vin I (hd t) x) s :=
  rd3 (rd1 fun s => H.b0 s x) (by pointwise; exact H.b2 2 x)
theorem rqV (x : Fin 256) : Rd (qV V c t) x (cv I (hd t) x) := rd4 (rq2 H x) (rq3 H x) (H.b3 x)
theorem rqR (x : Fin 256) : Rd (qR V c t) x (rg I (hd t) x) := rd6 (fun j => rqV H j) (fun j => H.b4 j x) (H.b5 x)
theorem rqI (x : Fin 256) : Rd (qI V c t) x (ig I (hd t) x) := rd7 (fun j => rqV H j) (fun j => H.b6 j x) (H.b7 x)
theorem rqA (x : Fin 256) : Rd (qA V c t) x (av I (hd t) x) := rd9 (R := la I (hd t) x) (rd8 (rqR H x) (H.b8 x))
theorem rqN (x : Fin 256) : Rd (qN V c t) x fun s => -la I (hd t) x s := rd10 (R := la I (hd t) x) (rd8 (rqR H x) (H.b8 x))
theorem rqM (x : Fin 256) : Rd (qM V c t) x (mu I (hd t) x) := rd11 (R := la I (hd t) x) (rqA H x) (rqN H x) (la_neg I (hd t) x)
theorem rqB (x : Fin 256) : Rd (qB V c t) x (bv I (hd t) x) := rd17 (A := qA V c t) (rqM H x) (rqI H x) (rqV H x)

theorem tile_h (n : ℕ) (hn : n < 32) (r : Fin 64) (x : Fin 256) :
    tileF (lvA (qA V c t)) (lvB (qA V c t) (qB V c t)) n (ix2 r x) = ((hv I (hd t) x (64 * n + r.val) : ℝ) : EReal) :=
  tileF_lin (rqA H x) (rqB H x) n hn r

theorem point9 (y : S2048x256.Idx) : (outsAt0 V c t).1 y = ((yv I (hd t) (y 1) (y 0).val : ℝ) : EReal) := by
  unfold Gen.outsAt0; frame_out
  simp only [k0_pay28, k0_pay29, k0_pay30, k0_pay31, k0_pay32]
  generalize hB : k0_pay26 (F := Ideal) _ _ _ = B
  generalize hA : k0_pay27 (F := Ideal) _ = A
  have eB : lvB (qA V c t) (qB V c t) = B := hB
  have eA : lvA (qA V c t) = A := hA
  have hT := tile_h H
  rw [eA, eB] at hT
  clear hA hB eA eB
  simp (disch := decide) only [k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140, k0_pay141, k0_pay142, tile_first A B, tile_step A B]
  canon_tiles i h
  all_goals
    pointwise
    idx_vars i
    rw [hT _ (by decide), H.b1, sig_form, h0, show y 1 = i1 from Fin.ext h1, ← EReal.coe_mul, ← EReal.coe_mul]
    first
      | rfl
      | rw [Nat.mul_zero, Nat.zero_add]; rfl
end

/-! ### What the first kernel keeps -/

theorem keep_tile {Val : EltTy → Type} [∀ e, Nonempty (Val e)] {e : EltTy} (o : ℕ) (ho : o % 64 = 0) (inb) (a : S1x64x256.Idx → Val e) (l) (r : Fin 6) (s : Fin 2048) (x : Fin 256) :
    View.canon (Val := Val) (s := S6x2048x256) (e := e) (⟨Rect.unit ![0, o, 0] ![1, 64, 256] inb, a⟩ :: l) (ix3 r s x)
      = if r.val = 0 ∧ s.val / 64 = o / 64 then a (ix3 0 ⟨s.val % 64, by omega⟩ x) else View.canon l (ix3 r s x) := by
  split <;> rename_i h1
  · have hz : (ix3 r s x : S6x2048x256.Idx) = (Rect.unit ![0, o, 0] ![1, 64, 256] inb).emb (ix3 0 ⟨s.val % 64, by omega⟩ x) := by
      funext a
      apply Fin.ext
      rw [ValueKit.rect_emb_unit_val]
      match a with
      | ⟨0, _⟩ => exact h1.1
      | ⟨1, _⟩ => show s.val = o + s.val % 64; omega
      | ⟨2, _⟩ => exact (Nat.zero_add _).symm
    rw [hz]; exact View.canon_cons_emb _ _ _ _
  · refine View.canon_cons_of_not_mem _ _ ?_
    rw [Rect.mem_set_unit]
    intro h
    have h0 := h 0
    have h2 := h 1
    simp at h0 h2
    omega

theorem keep_row {Val : EltTy → Type} [∀ e, Nonempty (Val e)] {e : EltTy} (k : ℕ) (inb) (a : S1x2048x256.Idx → Val e) (l) (r : Fin 6) (s : Fin 2048) (x : Fin 256) :
    View.canon (Val := Val) (s := S6x2048x256) (e := e) (⟨Rect.unit ![k, 0, 0] ![1, 2048, 256] inb, a⟩ :: l) (ix3 r s x)
      = if r.val = k then a (ix3 0 s x) else View.canon l (ix3 r s x) := by
  split <;> rename_i h1
  · have hz : (ix3 r s x : S6x2048x256.Idx) = (Rect.unit ![k, 0, 0] ![1, 2048, 256] inb).emb (ix3 0 s x) := by
      funext a
      apply Fin.ext
      rw [ValueKit.rect_emb_unit_val]
      match a with
      | ⟨0, _⟩ => exact h1
      | ⟨1, _⟩ => exact (Nat.zero_add _).symm
      | ⟨2, _⟩ => exact (Nat.zero_add _).symm
    rw [hz]; exact View.canon_cons_emb _ _ _ _
  · refine View.canon_cons_of_not_mem _ _ ?_
    rw [Rect.mem_set_unit]
    intro h
    have h0 := h 0
    simp at h0
    omega

/-- Row `r` of what is kept: the states, the convolution's result, both gates, the decay and the multiplier. -/
def kept (I : In) (h : Fin 16) (x : Fin 256) (r s : ℕ) : ℝ :=
  if r = 0 then hv I h x s else if r = 1 then cv I h x s else if r = 2 then rg I h x s else if r = 3 then ig I h x s
  else if r = 4 then av I h x s else mu I h x s

section
variable {V : (c : Dev nD) → (b : Ref sig .tc) → b.ty.Contents (Elt Ideal)} {c : Dev nD} {t : Fin cfg0.N} {I : In} (H : Blk0 V c t I)
include H

theorem point10 (r : Fin 6) (s : Fin 2048) (x : Fin 256) : (outsAt0 V c t).2 (ix3 r s x) = ((kept I (hd t) x r.val s.val : ℝ) : EReal) := by
  unfold Gen.outsAt0; frame_out
  simp only [k0_pay28, k0_pay29, k0_pay30, k0_pay31, k0_pay32]
  generalize hB : k0_pay26 (F := Ideal) _ _ _ = B
  generalize hA : k0_pay27 (F := Ideal) _ = A
  have eB : lvB (qA V c t) (qB V c t) = B := hB
  have eA : lvA (qA V c t) = A := hA
  have hT := tile_h H
  rw [eA, eB] at hT
  clear hA hB eA eB
  simp (disch := decide) only [k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140, k0_pay141, k0_pay142, tile_first A B, tile_step A B]
  have hp : ∀ n (hn : n < 32) (hc), r.val = 0 ∧ s.val / 64 = n →
      shapeCast S1x64x256 (tileF A B n) hc (ix3 0 ⟨s.val % 64, by omega⟩ x) = ((kept I (hd t) x r.val s.val : ℝ) : EReal) := by
    intro n hn hc hr
    pointwise
    rw [hT n hn, kept, if_pos hr.1]
    congr 2
    show 64 * n + s.val % 64 = s.val
    omega
  iterate 32
    refine (keep_tile (Val := Elt Ideal) (e := .f32) _ (by decide) _ _ _ r s x).trans ?_
    split
    · rename_i hr
      exact hp _ (by decide) _ hr
  have hs := s.isLt
  have h0 : r.val ≠ 0 := fun h => by omega
  clear hp hT
  refine (keep_row 5 _ _ _ r s x).trans ?_
  split
  · rename_i hr
    rw [hr]
    refine Eq.trans ?_ (rqM H x s)
    show k0_pay16 (qA V c t) (qN V c t) _ = _
    unfold k0_pay16
    pointwise
    rfl
  refine (keep_row 4 _ _ _ r s x).trans ?_
  split
  · rename_i hr
    rw [hr]
    refine Eq.trans ?_ (rqA H x s)
    show k0_pay15 (qA V c t) _ = _
    unfold k0_pay15
    pointwise
  refine (keep_row 3 _ _ _ r s x).trans ?_
  split
  · rename_i hr
    rw [hr]
    refine Eq.trans ?_ (rqI H x s)
    show k0_pay14 (qI V c t) _ = _
    unfold k0_pay14
    pointwise
  refine (keep_row 2 _ _ _ r s x).trans ?_
  split
  · rename_i hr
    rw [hr]
    refine Eq.trans ?_ (rqR H x s)
    show k0_pay13 (qR V c t) _ = _
    unfold k0_pay13
    pointwise
  refine (keep_row 1 _ _ _ r s x).trans ?_
  rw [if_pos (by omega), show r.val = 1 by omega]
  refine Eq.trans ?_ (rqV H x s)
  show k0_pay12 (qV V c t) _ = _
  unfold k0_pay12
  pointwise
end

end Cert.LruIdeal.Hand

end
-- ==== Proof.LruBwd.lean ====
module

public import proofs.«01_k».proof.Proof.LruFwdBlk

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

/-- The states of the backward recurrence, put together from their tiles. -/
def hsR (A B : Arr) : Arr := fun i => tileR A B (31 - (i 0).val / 64) (ix2 ⟨(i 0).val % 64, Nat.mod_lt _ (by decide)⟩ (i 1))

theorem pay61_eq (A B : Arr) : k1_pay61 B A (tileR A B 0) (tileR A B 1) (tileR A B 2) (tileR A B 3) (tileR A B 4) (tileR A B 5) (tileR A B 6) (tileR A B 7) (tileR A B 8) (tileR A B 9) (tileR A B 10) (tileR A B 11) (tileR A B 12) (tileR A B 13) (tileR A B 14) (tileR A B 15) (tileR A B 16) (tileR A B 17) (tileR A B 18) (tileR A B 19) (tileR A B 20) (tileR A B 21) (tileR A B 22) (tileR A B 23) (tileR A B 24) (tileR A B 25) (tileR A B 26) (tileR A B 27) = hsR A B := by
  simp only [k1_pay61]
  rw [tile_back A B 27 192 rfl (by decide), tile_back A B 28 128 rfl (by decide), tile_back A B 29 64 rfl (by decide), tile_back A B 30 0 rfl (by decide)]
  funext i
  obtain ⟨s, x, rfl⟩ : ∃ (s : Fin 2048) (x : Fin 256), i = ix2 s x := ⟨i 0, i 1, by funext a; match a with | ⟨0, _⟩ => rfl | ⟨1, _⟩ => rfl⟩
  exact tiles_whole (fun n : Fin 32 => tileR A B (31 - n.val)) _ s x

section
variable (A B : Arr) (v4 v6 v8 v10 v12 v14 : Arr) (v26 : FVec Ideal S1x256 .f32)

/-- The gradient of the log decay. -/
def uL (D v4 v6 v10 v12 v14 : Arr) : Arr :=
  subf (mulf (mulf D (downW 1 v4)) v12) (divf (mulf (mulf D (mulf v10 v6)) (mulf v12 v12)) v14)
def uZr (L v8 : Arr) (v26 : FVec Ideal S1x256 .f32) : Arr :=
  mulf (mulf L (subf (broadcast S2048x256 (Scalar.ofBits .f32 0x3F800000#32)) v8))
    (broadcastTo S2048x256 (mulf (broadcast S1x256 (Scalar.ofBits .f32 0xC1000000#32)) v26) broadcasts_S1x256_S2048x256)
def uZi (M v6 v10 : Arr) : Arr := mulf (mulf (mulf M v6) v10) (subf (broadcast S2048x256 (Scalar.ofBits .f32 0x3F800000#32)) v10)

theorem pay63_eq : k1_pay63 v10 v14 B A (tileR A B 0) (tileR A B 1) (tileR A B 2) (tileR A B 3) (tileR A B 4) (tileR A B 5) (tileR A B 6) (tileR A B 7) (tileR A B 8) (tileR A B 9) (tileR A B 10) (tileR A B 11) (tileR A B 12) (tileR A B 13) (tileR A B 14) (tileR A B 15) (tileR A B 16) (tileR A B 17) (tileR A B 18) (tileR A B 19) (tileR A B 20) (tileR A B 21) (tileR A B 22) (tileR A B 23) (tileR A B 24) (tileR A B 25) (tileR A B 26) (tileR A B 27) = mulf (mulf (hsR A B) v14) v10 := by
  simp only [k1_pay63, k1_pay62, pay61_eq]
theorem pay64_eq : k1_pay64 v4 v6 v8 v10 v12 v14 B A (tileR A B 0) (tileR A B 1) (tileR A B 2) (tileR A B 3) (tileR A B 4) (tileR A B 5) (tileR A B 6) (tileR A B 7) (tileR A B 8) (tileR A B 9) (tileR A B 10) (tileR A B 11) (tileR A B 12) (tileR A B 13) (tileR A B 14) (tileR A B 15) (tileR A B 16) (tileR A B 17) (tileR A B 18) (tileR A B 19) (tileR A B 20) (tileR A B 21) (tileR A B 22) (tileR A B 23) (tileR A B 24) (tileR A B 25) (tileR A B 26) (tileR A B 27) = mulf (uL (hsR A B) v4 v6 v10 v12 v14) v8 := by
  simp only [k1_pay64, pay61_eq]; rfl
theorem pay65_eq : k1_pay65 v4 v6 v8 v10 v12 v14 v26 B A (tileR A B 0) (tileR A B 1) (tileR A B 2) (tileR A B 3) (tileR A B 4) (tileR A B 5) (tileR A B 6) (tileR A B 7) (tileR A B 8) (tileR A B 9) (tileR A B 10) (tileR A B 11) (tileR A B 12) (tileR A B 13) (tileR A B 14) (tileR A B 15) (tileR A B 16) (tileR A B 17) (tileR A B 18) (tileR A B 19) (tileR A B 20) (tileR A B 21) (tileR A B 22) (tileR A B 23) (tileR A B 24) (tileR A B 25) (tileR A B 26) (tileR A B 27) = uZr (mulf (uL (hsR A B) v4 v6 v10 v12 v14) v8) v8 v26 := by
  simp only [k1_pay65, pay64_eq]; rfl
theorem pay66_eq : k1_pay66 v6 v10 v14 B A (tileR A B 0) (tileR A B 1) (tileR A B 2) (tileR A B 3) (tileR A B 4) (tileR A B 5) (tileR A B 6) (tileR A B 7) (tileR A B 8) (tileR A B 9) (tileR A B 10) (tileR A B 11) (tileR A B 12) (tileR A B 13) (tileR A B 14) (tileR A B 15) (tileR A B 16) (tileR A B 17) (tileR A B 18) (tileR A B 19) (tileR A B 20) (tileR A B 21) (tileR A B 22) (tileR A B 23) (tileR A B 24) (tileR A B 25) (tileR A B 26) (tileR A B 27) = uZi (mulf (hsR A B) v14) v6 v10 := by
  simp only [k1_pay66, k1_pay62, pay61_eq]; rfl
end

/-! ### The stages in real numbers -/

theorem rd_row {v : Vec Ideal S1x2048x256 .f32} {x : Fin 256} {f : ℕ → ℝ} (h : ∀ s : Fin 2048, v (ix3 0 s x) = ((f s.val : ℝ) : EReal)) :
    Rd (k1_pay4 v) x f := by
  intro s
  unfold k1_pay4
  pointwise
  exact h s

theorem rd_wide {v : Vec Ideal S1x2048x256 .bf16} {x : Fin 256} {f : ℕ → ℝ} (h : ∀ s : Fin 2048, v (ix3 0 s x) = ((f s.val : ℝ) : EReal)) :
    Rd (k1_pay3 v) x f := by
  intro s
  unfold k1_pay3
  pointwise
  exact h s

theorem rd_dy {v : Vec Ideal S2048x256 .bf16} {x : Fin 256} {f : ℕ → ℝ} (h : ∀ s : Fin 2048, v (ix2 s x) = ((f s.val : ℝ) : EReal)) :
    Rd (k1_pay13 v) x f := by
  intro s
  unfold k1_pay13
  pointwise
  exact h s

theorem rd_mul {a b : Arr} {x : Fin 256} {f g : ℕ → ℝ} (ha : Rd a x f) (hb : Rd b x g) : Rd (mulf a b) x fun s => f s * g s := by
  intro s
  show a (ix2 s x) * b (ix2 s x) = _
  rw [ha s, hb s, ← EReal.coe_mul]

theorem rd_sig {a : Arr} {x : Fin 256} {f : ℕ → ℝ} (ha : Rd a x f) : Rd (k1_pay14 a) x fun s => sgm (f s) := by
  intro s
  show Ideal.logistic (a (ix2 s x)) = _
  rw [ha s, sig_form]

theorem rd_states {A S : Arr} {x : Fin 256} {a b : ℕ → ℝ} (ha : Rd A x a) (hb : Rd S x b) :
    Rd (hsR (rvA (k1_pay16 A)) (rvB (k1_pay16 A) S)) x (back a b) := by
  intro s
  have hu : Rd (k1_pay16 A) x (up 1 a) := ha.upW 1 2047 (by omega) rfl
  refine (tileR_back hu hb (31 - s.val / 64) (by omega) ⟨s.val % 64, by omega⟩).trans ?_
  congr 2
  show 64 * (31 - (31 - s.val / 64)) + s.val % 64 = s.val
  have := s.isLt
  omega

theorem rd_rate {v : Vec Ideal S1x256 .f32} {x : Fin 256} {l : ℝ} (h : v (ix2 0 x) = ((l : ℝ) : EReal)) :
    k1_pay11 v (ix2 0 x) = ((max (-l) 0 + Real.log (1 + Real.exp (-|l|)) : ℝ) : EReal) := by
  unfold k1_pay11
  pointwise
  rw [h, rate_form]

theorem rd_la {D H V I A M : Arr} {x : Fin 256} {d h v i a m : ℕ → ℝ} (hD : Rd D x d) (hH : Rd H x h) (hV : Rd V x v) (hI : Rd I x i) (hA : Rd A x a) (hM : Rd M x m)
    (hm : ∀ s, m s ≠ 0) : Rd (uL D H V I A M) x fun s => d s * dn 1 h s * a s - d s * (i s * v s) * (a s * a s) * (1 / m s) := by
  intro s
  have e := hH.downW 1 (by omega) s
  show D (ix2 s x) * downW 1 H (ix2 s x) * A (ix2 s x) - Ideal.div (D (ix2 s x) * (I (ix2 s x) * V (ix2 s x)) * (A (ix2 s x) * A (ix2 s x))) (M (ix2 s x)) = _
  rw [e, hD s, hV s, hI s, hA s, hM s, Ideal.div_coe (hm _)]
  simp only [← EReal.coe_mul, ← EReal.coe_sub]

theorem rd_zr {L R : Arr} {v : FVec Ideal S1x256 .f32} {x : Fin 256} {l r : ℕ → ℝ} {p : ℝ} (hL : Rd L x l) (hR : Rd R x r) (hp : v (ix2 0 x) = ((p : ℝ) : EReal)) :
    Rd (uZr L R v) x fun s => l s * (1 - r s) * (-8 * p) := by
  intro s
  unfold uZr
  pointwise
  rw [hL s, hR s, hp, eight_word, ← EReal.coe_one]
  simp only [← EReal.coe_mul, ← EReal.coe_sub]

theorem rd_zi {M V I : Arr} {x : Fin 256} {m v i : ℕ → ℝ} (hM : Rd M x m) (hV : Rd V x v) (hI : Rd I x i) :
    Rd (uZi M V I) x fun s => m s * v s * i s * (1 - i s) := by
  intro s
  unfold uZi
  pointwise
  rw [hM s, hV s, hI s, ← EReal.coe_one]
  simp only [← EReal.coe_mul, ← EReal.coe_sub]

/-- Two products with transposed matrices of a head, on top of a first term. -/
theorem rd_cv {a zr zi : Arr} {Wa Wx : Vec Ideal S1x256x256 .bf16} {x : Fin 256} {f : ℕ → ℝ} {r i : Fin 256 → ℕ → ℝ} {wa wx : Fin 256 → ℝ}
    (ha : Rd a x f) (hr : ∀ k, Rd zr k (r k)) (hi : ∀ k, Rd zi k (i k)) (hwa : ∀ k, Wa (ix3 0 x k) = ((wa k : ℝ) : EReal)) (hwx : ∀ k, Wx (ix3 0 x k) = ((wx k : ℝ) : EReal)) :
    Rd (k1_pay77 a (k1_pay71 zr) (k1_pay72 zi) Wa Wx) x fun s => f s + ∑ k, r k s * wa k + ∑ k, i k s * wx k := by
  intro s
  unfold k1_pay77 k1_pay71 k1_pay72
  pointwise
  simp only [ha s, hr _ s, hi _ s, hwa, hwx, ← EReal.coe_mul, coe_sum, ← EReal.coe_add]

theorem rd_sum {a : Arr} {x : Fin 256} {f : ℕ → ℝ} (ha : Rd a x f) : k1_pay68 a (ix2 0 x) = ((∑ s : Fin 2048, f s.val : ℝ) : EReal) := by
  unfold k1_pay68
  pointwise
  simp only [ha _, coe_sum]

theorem rd_prod {a : FVec Ideal S2048x256 .bf16} {b : Arr} {i j : Fin 256} {f g : ℕ → ℝ} (ha : ∀ s : Fin 2048, a (ix2 s i) = ((f s.val : ℝ) : EReal)) (hb : Rd b j g) :
    k1_pay74 a b (ix3 0 i j) = ((∑ s : Fin 2048, f s.val * g s.val : ℝ) : EReal) := by
  unfold k1_pay74 k1_pay73 k1_pay71
  pointwise
  simp only [ha _, hb _, ← EReal.coe_mul, coe_sum]

theorem rd_lam {L : Arr} {v : Vec Ideal S1x256 .f32} {x : Fin 256} {f : ℕ → ℝ} {l : ℝ} (hL : Rd L x f) (hv : v (ix2 0 x) = ((l : ℝ) : EReal)) :
    k1_pay70 L v (ix2 0 x) = ((8 * (∑ s : Fin 2048, f s.val) * sgm (-l) : ℝ) : EReal) := by
  unfold k1_pay70
  pointwise
  simp only [hL _, coe_sum, hv, eight_word, zero_sub, ← EReal.coe_neg, ← EReal.coe_mul, sig_form]
  congr 1
  ring

theorem rd_gate {H G : Arr} {Y : Vec Ideal S2048x256 .bf16} {x : Fin 256} {h g y : ℕ → ℝ} (hH : Rd H x h) (hG : Rd G x g) (hY : Rd (k1_pay13 Y) x y) (s : Fin 2048) :
    k1_pay15 H G Y (ix3 0 s x) = ((y s.val * h s.val * (sgm (g s.val) * (1 + g s.val * (1 - sgm (g s.val)))) : ℝ) : EReal) := by
  unfold k1_pay15 k1_pay14
  generalize k1_pay13 Y = P at *
  pointwise
  rw [hH s, hG s, hY s, sig_form, ← EReal.coe_one]
  simp only [← EReal.coe_mul, ← EReal.coe_sub, ← EReal.coe_add]

/-- The convolution's gradient by its input. -/
def uV (C : Arr) (w3 w0 w1 w2 : Vec Ideal S1x256 .f32) : Arr :=
  addf (addf (addf (mulf (broadcastTo S2048x256 (shapeCast S1x256 w3 shapeCasts_S1x256_S1x256) broadcasts_S1x256_S2048x256) C)
      (mulf (broadcastTo S2048x256 (shapeCast S1x256 w0 shapeCasts_S1x256_S1x256) broadcasts_S1x256_S2048x256) (upW 2045 C)))
      (mulf (broadcastTo S2048x256 (shapeCast S1x256 w1 shapeCasts_S1x256_S1x256) broadcasts_S1x256_S2048x256) (upW 2046 C)))
      (mulf (broadcastTo S2048x256 (shapeCast S1x256 w2 shapeCasts_S1x256_S1x256) broadcasts_S1x256_S2048x256) (upW 2047 C))

theorem rd_uV {C : Arr} {w3 w0 w1 w2 : Vec Ideal S1x256 .f32} {x : Fin 256} {f : ℕ → ℝ} {a3 a0 a1 a2 : ℝ} (hC : Rd C x f)
    (h3 : w3 (ix2 0 x) = ((a3 : ℝ) : EReal)) (h0 : w0 (ix2 0 x) = ((a0 : ℝ) : EReal)) (h1 : w1 (ix2 0 x) = ((a1 : ℝ) : EReal)) (h2 : w2 (ix2 0 x) = ((a2 : ℝ) : EReal)) :
    Rd (uV C w3 w0 w1 w2) x fun s => a3 * f s + a0 * up 3 f s + a1 * up 2 f s + a2 * up 1 f s := by
  intro s
  unfold uV
  have e3 := hC.upW 3 2045 (by omega) rfl s
  have e2 := hC.upW 2 2046 (by omega) rfl s
  have e1 := hC.upW 1 2047 (by omega) rfl s
  have e0 := hC s
  generalize upW 2045 C = D3 at *
  generalize upW 2046 C = D2 at *
  generalize upW 2047 C = D1 at *
  pointwise
  rw [e3, e2, e1, e0, h3, h0, h1, h2]
  simp only [EReal.coe_mul, EReal.coe_add]

theorem rd_vin {a zr zi : Arr} {Wa Wx : Vec Ideal S1x256x256 .bf16} {w3 w0 w1 w2 : Vec Ideal S1x256 .f32} (s : Fin 2048) (x : Fin 256) {C : Arr} (hC : k1_pay77 a (k1_pay71 zr) (k1_pay72 zi) Wa Wx = C) :
    k1_pay2 (k1_pay82 C (k1_pay80 a (k1_pay71 zr) (k1_pay72 zi) Wa Wx w3 w0) w1) (k1_pay84 w2) k1_pay85 (k1_pay86 C) (Scalar.ofBits .f32 0x00000000#32) (ix3 0 s x)
      = uV C w3 w0 w1 w2 (ix2 s x) := by
  rw [show k1_pay2 (k1_pay82 C (k1_pay80 a (k1_pay71 zr) (k1_pay72 zi) Wa Wx w3 w0) w1) (k1_pay84 w2) k1_pay85 (k1_pay86 C) (Scalar.ofBits .f32 0x00000000#32)
    = shapeCast S1x2048x256 (truncf (F := Ideal) .bf16 (uV (k1_pay77 a (k1_pay71 zr) (k1_pay72 zi) Wa Wx) w3 w0 w1 w2) bitsLt_bf16_f32) shapeCasts_S2048x256_S1x2048x256 by rw [← hC]; rfl, hC]
  generalize uV C w3 w0 w1 w2 = U
  pointwise

end Cert.LruIdeal.Hand

end
-- ==== Proof.LruBwdBlk.lean ====
module

public import proofs.«01_k».proof.Proof.LruBwd

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

section
variable (V : (c : Dev nD) → (b : Ref sig .tc) → b.ty.Contents (Elt Ideal)) (c : Dev nD) (t : Fin cfg1.N)

/-- The head a grid point of the second kernel works on. -/
def hd1 : Fin 16 := ⟨t.val, t.isLt⟩

/-! The stages of the second body on the blocks of a grid point. -/
def gH : Arr := k1_pay4 (View.ld (iblk1 V c 2 t) (Rect.unit ![0, 0, 0] ![1, 2048, 256] inb_S6x2048x256_S1x2048x256_0_0_0))
def gV : Arr := k1_pay5 (View.ld (iblk1 V c 2 t) (Rect.unit ![1, 0, 0] ![1, 2048, 256] inb_S6x2048x256_S1x2048x256_1_0_0))
def gR : Arr := k1_pay6 (View.ld (iblk1 V c 2 t) (Rect.unit ![2, 0, 0] ![1, 2048, 256] inb_S6x2048x256_S1x2048x256_2_0_0))
def gI : Arr := k1_pay7 (View.ld (iblk1 V c 2 t) (Rect.unit ![3, 0, 0] ![1, 2048, 256] inb_S6x2048x256_S1x2048x256_3_0_0))
def gA : Arr := k1_pay8 (View.ld (iblk1 V c 2 t) (Rect.unit ![4, 0, 0] ![1, 2048, 256] inb_S6x2048x256_S1x2048x256_4_0_0))
def gM : Arr := k1_pay9 (View.ld (iblk1 V c 2 t) (Rect.unit ![5, 0, 0] ![1, 2048, 256] inb_S6x2048x256_S1x2048x256_5_0_0))
def gG : Arr := k1_pay12 (iblk1 V c 1 t)
def gS : Arr := mulf (k1_pay13 (iblk1 V c 3 t)) (mulf (gG V c t) (k1_pay14 (gG V c t)))
def gD : Arr := hsR (rvA (k1_pay16 (gA V c t))) (rvB (k1_pay16 (gA V c t)) (gS V c t))
def gDm : Arr := mulf (gD V c t) (gM V c t)
def gL : Arr := mulf (uL (gD V c t) (gH V c t) (gV V c t) (gI V c t) (gA V c t) (gM V c t)) (gR V c t)
def gZr : Arr := uZr (gL V c t) (gR V c t) (k1_pay11 (iblk1 V c 10 t))
def gZi : Arr := uZi (gDm V c t) (gV V c t) (gI V c t)
def gC : Arr := k1_pay77 (mulf (gDm V c t) (gI V c t)) (k1_pay71 (gZr V c t)) (k1_pay72 (gZi V c t)) (iblk1 V c 6 t) (iblk1 V c 8 t)
def gU : Arr := uV (gC V c t) (View.ld (iblk1 V c 4 t) (Rect.unit ![3, 0] ![1, 256] inb_S4x256_S1x256_3_0)) (View.ld (iblk1 V c 4 t) (Rect.unit ![0, 0] ![1, 256] inb_S4x256_S1x256_0_0)) (View.ld (iblk1 V c 4 t) (Rect.unit ![1, 0] ![1, 256] inb_S4x256_S1x256_1_0)) (View.ld (iblk1 V c 4 t) (Rect.unit ![2, 0] ![1, 256] inb_S4x256_S1x256_2_0))

/-- The blocks a grid point of the second kernel reads, in real numbers. -/
structure Blk1 (I : In) : Prop where
  b0 : ∀ (s : Fin 2048) (x : Fin 256), iblk1 V c 0 t (ix3 0 s x) = ((vin I (hd1 t) x s.val : ℝ) : EReal)
  b1 : ∀ (s : Fin 2048) (x : Fin 256), iblk1 V c 1 t (ix3 0 s x) = ((gin I (hd1 t) x s.val : ℝ) : EReal)
  b2 : ∀ (r : Fin 6) (s : Fin 2048) (x : Fin 256), iblk1 V c 2 t (ix3 r s x) = ((kept I (hd1 t) x r.val s.val : ℝ) : EReal)
  b3 : ∀ (s : Fin 2048) (x : Fin 256), iblk1 V c 3 t (ix2 s x) = ((dy I (hd1 t) x s.val : ℝ) : EReal)
  b4 : ∀ (k : Fin 4) (x : Fin 256), iblk1 V c 4 t (ix2 k x) = ((tap I (hd1 t) x k : ℝ) : EReal)
  b6 : ∀ j x : Fin 256, iblk1 V c 6 t (ix3 0 j x) = ((I.wa (hd1 t) j x : ℝ) : EReal)
  b8 : ∀ j x : Fin 256, iblk1 V c 8 t (ix3 0 j x) = ((I.wx (hd1 t) j x : ℝ) : EReal)
  b10 : ∀ x : Fin 256, iblk1 V c 10 t (ix2 0 x) = ((I.lam (col (hd1 t) x) : ℝ) : EReal)

variable {V c t} {I : In} (H : Blk1 V c t I)
include H

theorem rgH (x : Fin 256) : Rd (gH V c t) x (hv I (hd1 t) x) := rd_row fun s => by pointwise; exact H.b2 0 s x
theorem rgV (x : Fin 256) : Rd (gV V c t) x (cv I (hd1 t) x) := rd_row fun s => by pointwise; exact H.b2 1 s x
theorem rgR (x : Fin 256) : Rd (gR V c t) x (rg I (hd1 t) x) := rd_row fun s => by pointwise; exact H.b2 2 s x
theorem rgI (x : Fin 256) : Rd (gI V c t) x (ig I (hd1 t) x) := rd_row fun s => by pointwise; exact H.b2 3 s x
theorem rgA (x : Fin 256) : Rd (gA V c t) x (av I (hd1 t) x) := rd_row fun s => by pointwise; exact H.b2 4 s x
theorem rgM (x : Fin 256) : Rd (gM V c t) x (mu I (hd1 t) x) := rd_row fun s => by pointwise; exact H.b2 5 s x
theorem rgV0 (x : Fin 256) : Rd (k1_pay3 (iblk1 V c 0 t)) x (vin I (hd1 t) x) := rd_wide fun s => H.b0 s x
theorem rgG (x : Fin 256) : Rd (gG V c t) x (gin I (hd1 t) x) := rd_wide fun s => H.b1 s x
theorem rgY (x : Fin 256) : Rd (k1_pay13 (iblk1 V c 3 t)) x (dy I (hd1 t) x) := rd_dy fun s => H.b3 s x
theorem rgS (x : Fin 256) : Rd (gS V c t) x (dhs I (hd1 t) x) := rd_mul (rgY H x) (rd_mul (rgG H x) (rd_sig (rgG H x)))
theorem rgD (x : Fin 256) : Rd (gD V c t) x (dh I (hd1 t) x) := rd_states (rgA H x) (rgS H x)
theorem rgDm (x : Fin 256) : Rd (gDm V c t) x fun s => dh I (hd1 t) x s * mu I (hd1 t) x s := rd_mul (rgD H x) (rgM H x)
theorem rgL (x : Fin 256) : Rd (gL V c t) x fun s => dla I (hd1 t) x s * rg I (hd1 t) x s :=
  rd_mul (rd_la (rgD H x) (rgH H x) (rgV H x) (rgI H x) (rgA H x) (rgM H x) fun s => (mu_pos I (hd1 t) x s).ne') (rgR H x)
theorem rgZr (x : Fin 256) : Rd (gZr V c t) x (dzr I (hd1 t) x) := rd_zr (rgL H x) (rgR H x) (rd_rate (H.b10 x))
theorem rgZi (x : Fin 256) : Rd (gZi V c t) x (dzi I (hd1 t) x) := rd_zi (rgDm H x) (rgV H x) (rgI H x)
theorem rgC (x : Fin 256) : Rd (gC V c t) x (dcv I (hd1 t) x) :=
  rd_cv (rd_mul (rgDm H x) (rgI H x)) (rgZr H) (rgZi H) (fun k => H.b6 x k) (fun k => H.b8 x k)
theorem rgU (x : Fin 256) : Rd (gU V c t) x (dvin I (hd1 t) x) :=
  rd_uV (rgC H x) (by pointwise; exact H.b4 3 x) (by pointwise; exact H.b4 0 x) (by pointwise; exact H.b4 1 x) (by pointwise; exact H.b4 2 x)

theorem point12 (i j : Fin 256) : (outsAt1 V c t).2.1 (ix3 0 i j) = ((dwa I (hd1 t) i j : ℝ) : EReal) := by
  unfold Gen.outsAt1; frame_out
  simp only [k1_pay33, k1_pay34, k1_pay35, k1_pay36, k1_pay37, k1_pay38, k1_pay39, k1_pay40]
  generalize hB : k1_pay31 (F := Ideal) _ _ _ _ _ = B
  generalize hA : k1_pay32 (F := Ideal) _ = A
  have eB : rvB (k1_pay16 (gA V c t)) (gS V c t) = B := hB
  have eA : rvA (k1_pay16 (gA V c t)) = A := hA
  clear hA hB
  simp (disch := decide) only [k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, tile_last A B, tile_back A B]
  simp only [Nat.reduceAdd, pay63_eq, pay64_eq, pay65_eq, pay66_eq]
  subst eA eB
  exact rd_prod (b := gZr V c t) (rgV H i) (rgZr H j)

theorem point13 (i j : Fin 256) : (outsAt1 V c t).2.2.1 (ix3 0 i j) = ((dwx I (hd1 t) i j : ℝ) : EReal) := by
  unfold Gen.outsAt1; frame_out
  simp only [k1_pay33, k1_pay34, k1_pay35, k1_pay36, k1_pay37, k1_pay38, k1_pay39, k1_pay40]
  generalize hB : k1_pay31 (F := Ideal) _ _ _ _ _ = B
  generalize hA : k1_pay32 (F := Ideal) _ = A
  have eB : rvB (k1_pay16 (gA V c t)) (gS V c t) = B := hB
  have eA : rvA (k1_pay16 (gA V c t)) = A := hA
  clear hA hB
  simp (disch := decide) only [k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, tile_last A B, tile_back A B]
  simp only [Nat.reduceAdd, pay63_eq, pay64_eq, pay65_eq, pay66_eq]
  subst eA eB
  exact rd_prod (b := gZi V c t) (rgV H i) (rgZi H j)
end

/-! ### The two stored halves and the stored rows -/

theorem half_row {Val : EltTy → Type} [∀ e, Nonempty (Val e)] {e : EltTy} (k : ℕ) (inb) (a : S1x2048x256.Idx → Val e) (l) (r : Fin 2) (s : Fin 2048) (x : Fin 256) :
    View.canon (Val := Val) (s := S2x2048x256) (e := e) (⟨Rect.unit ![k, 0, 0] ![1, 2048, 256] inb, a⟩ :: l) (ix3 r s x)
      = if r.val = k then a (ix3 0 s x) else View.canon l (ix3 r s x) := by
  split <;> rename_i h1
  · have hz : (ix3 r s x : S2x2048x256.Idx) = (Rect.unit ![k, 0, 0] ![1, 2048, 256] inb).emb (ix3 0 s x) := by
      funext a
      apply Fin.ext
      rw [ValueKit.rect_emb_unit_val]
      match a with
      | ⟨0, _⟩ => exact h1
      | ⟨1, _⟩ => exact (Nat.zero_add _).symm
      | ⟨2, _⟩ => exact (Nat.zero_add _).symm
    rw [hz]; exact View.canon_cons_emb _ _ _ _
  · refine View.canon_cons_of_not_mem _ _ ?_
    rw [Rect.mem_set_unit]
    intro h
    have h0 := h 0
    simp at h0
    omega

theorem line_row {Val : EltTy → Type} [∀ e, Nonempty (Val e)] {e : EltTy} (k n : ℕ) (inb) (a : (⟨2, ![n, 256]⟩ : Shape).Idx → Val e) (l) (r : Fin 16) (x : Fin 256)
    (q : Fin n) (hq : r.val = k + q.val) :
    View.canon (Val := Val) (s := S16x256) (e := e) (⟨Rect.unit ![k, 0] ![n, 256] inb, a⟩ :: l) (ix2 r x) = a (ix2 q x) := by
  have hz : (ix2 r x : S16x256.Idx) = (Rect.unit ![k, 0] ![n, 256] inb).emb (ix2 q x) := by
    funext a
    apply Fin.ext
    rw [ValueKit.rect_emb_unit_val]
    match a with
    | ⟨0, _⟩ => exact hq
    | ⟨1, _⟩ => exact (Nat.zero_add _).symm
  conv_lhs => rw [hz]
  exact View.canon_cons_emb _ _ _ _

theorem line_off {Val : EltTy → Type} [∀ e, Nonempty (Val e)] {e : EltTy} (k : ℕ) (inb) (a : S1x256.Idx → Val e) (l) (r : Fin 16) (x : Fin 256) :
    View.canon (Val := Val) (s := S16x256) (e := e) (⟨Rect.unit ![k, 0] ![1, 256] inb, a⟩ :: l) (ix2 r x)
      = if r.val = k then a (ix2 0 x) else View.canon l (ix2 r x) := by
  split <;> rename_i h1
  · exact line_row k 1 inb a l r x 0 h1
  · refine View.canon_cons_of_not_mem _ _ ?_
    rw [Rect.mem_set_unit]
    intro h
    have h0 := h 0
    simp at h0
    omega

section
variable {V : (c : Dev nD) → (b : Ref sig .tc) → b.ty.Contents (Elt Ideal)} {c : Dev nD} {t : Fin cfg1.N} {I : In} (H : Blk1 V c t I)
include H

theorem point11 (j : Fin 2) (s : Fin 2048) (x : Fin 256) : (outsAt1 V c t).1 (ix3 j s x) = ((dp I j.val (hd1 t) x s.val : ℝ) : EReal) := by
  unfold Gen.outsAt1; frame_out
  simp only [k1_pay33, k1_pay34, k1_pay35, k1_pay36, k1_pay37, k1_pay38, k1_pay39, k1_pay40]
  generalize hB : k1_pay31 (F := Ideal) _ _ _ _ _ = B
  generalize hA : k1_pay32 (F := Ideal) _ = A
  have eB : rvB (k1_pay16 (gA V c t)) (gS V c t) = B := hB
  have eA : rvA (k1_pay16 (gA V c t)) = A := hA
  clear hA hB
  simp (disch := decide) only [k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, tile_last A B, tile_back A B]
  simp only [Nat.reduceAdd, pay63_eq, pay64_eq, pay65_eq, pay66_eq]
  subst eA eB
  refine (half_row (Val := Elt Ideal) (e := .bf16) 0 _ _ _ j s x).trans ?_
  split
  · rename_i hj
    rw [hj]
    exact (rd_vin (C := gC V c t) s x rfl).trans (rgU H x s)
  refine (half_row (Val := Elt Ideal) (e := .bf16) 1 _ _ _ j s x).trans ?_
  rw [if_pos (by omega), dp, if_neg (by assumption)]
  exact rd_gate (rgH H x) (rgG H x) (rgY H x) s

theorem point14 (r : Fin 16) (x : Fin 256) : (outsAt1 V c t).2.2.2 (ix2 r x) = ((vec I r.val (hd1 t) x : ℝ) : EReal) := by
  unfold Gen.outsAt1; frame_out
  simp only [k1_pay33, k1_pay34, k1_pay35, k1_pay36, k1_pay37, k1_pay38, k1_pay39, k1_pay40]
  generalize hB : k1_pay31 (F := Ideal) _ _ _ _ _ = B
  generalize hA : k1_pay32 (F := Ideal) _ = A
  have eB : rvB (k1_pay16 (gA V c t)) (gS V c t) = B := hB
  have eA : rvA (k1_pay16 (gA V c t)) = A := hA
  clear hA hB
  simp (disch := decide) only [k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, tile_last A B, tile_back A B]
  simp only [Nat.reduceAdd, pay63_eq, pay64_eq, pay65_eq, pay66_eq]
  subst eA eB
  refine (line_off (Val := Elt Ideal) (e := .f32) 6 _ _ _ r x).trans ?_
  split
  · rename_i hr
    rw [hr]
    exact rd_sum (rd_mul (rgC H x) ((rgV0 H x).downW 1 (by omega)))
  refine (line_off (Val := Elt Ideal) (e := .f32) 5 _ _ _ r x).trans ?_
  split
  · rename_i hr
    rw [hr]
    exact rd_sum (rd_mul (rgC H x) ((rgV0 H x).downW 2 (by omega)))
  refine (line_off (Val := Elt Ideal) (e := .f32) 4 _ _ _ r x).trans ?_
  split
  · rename_i hr
    rw [hr]
    exact rd_sum (rd_mul (rgC H x) ((rgV0 H x).downW 3 (by omega)))
  refine (line_off (Val := Elt Ideal) (e := .f32) 7 _ _ _ r x).trans ?_
  split
  · rename_i hr
    rw [hr]
    exact (rd_sum (rd_mul (rgC H x) (rgV0 H x))).trans (by simp [vec, dn])
  refine (line_off (Val := Elt Ideal) (e := .f32) 3 _ _ _ r x).trans ?_
  split
  · rename_i hr
    rw [hr]
    exact rd_sum (rgC H x)
  refine (line_off (Val := Elt Ideal) (e := .f32) 2 _ _ _ r x).trans ?_
  split
  · rename_i hr
    rw [hr]
    exact rd_lam (rgL H x) (H.b10 x)
  refine (line_off (Val := Elt Ideal) (e := .f32) 1 _ _ _ r x).trans ?_
  split
  · rename_i hr
    rw [hr]
    exact rd_sum (rgZi H x)
  refine (line_off (Val := Elt Ideal) (e := .f32) 0 _ _ _ r x).trans ?_
  split
  · rename_i hr
    rw [hr]
    exact rd_sum (rgZr H x)
  refine (line_row (Val := Elt Ideal) (e := .f32) 0 16 _ _ _ r x r (by omega)).trans ?_
  rw [vec, if_neg (by assumption), if_neg (by assumption), if_neg (by assumption), if_neg (by assumption), if_neg (by omega)]
  unfold k1_pay67
  pointwise
  exact EReal.coe_zero.symm
end

end Cert.LruIdeal.Hand

end
-- ==== Proof.LruKer.lean ====
module

public import proofs.«01_k».proof.Proof.LruBwdBlk
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.LruM

namespace Cert.LruIdeal.Hand

open Cert.LruIdeal Cert.LruIdeal.Gen

theorem idx0 : ∀ t : Fin cfg0.N, win0_0.index t = ![0, 0, t.val] ∧ win0_1.index t = ![1, 0, t.val] ∧ win0_2.index t = ![0, t.val] ∧ win0_3.index t = ![0, t.val] ∧
    win0_4.index t = ![t.val, 0, 0] ∧ win0_5.index t = ![0, t.val] ∧ win0_6.index t = ![t.val, 0, 0] ∧ win0_7.index t = ![0, t.val] ∧ win0_8.index t = ![0, t.val] ∧
    win0_9.index t = ![0, t.val] ∧ win0_10.index t = ![0, 0, t.val] :=
  (by decide +kernel : ∀ t : Fin grid0.N, _)

theorem idx1 : ∀ t : Fin cfg1.N, win1_0.index t = ![0, 0, t.val] ∧ win1_1.index t = ![1, 0, t.val] ∧ win1_2.index t = ![0, 0, t.val] ∧ win1_3.index t = ![0, t.val] ∧
    win1_4.index t = ![0, t.val] ∧ win1_5.index t = ![0, t.val] ∧ win1_6.index t = ![t.val, 0, 0] ∧ win1_7.index t = ![0, t.val] ∧ win1_8.index t = ![t.val, 0, 0] ∧
    win1_9.index t = ![0, t.val] ∧ win1_10.index t = ![0, t.val] ∧ win1_11.index t = ![0, 0, t.val] ∧ win1_12.index t = ![t.val, 0, 0] ∧ win1_13.index t = ![t.val, 0, 0] ∧
    win1_14.index t = ![0, t.val] :=
  (by decide +kernel : ∀ t : Fin grid1.N, _)

variable (m : (ℓ : Loc nD τ sig) → Buf (Elt Ideal) ℓ) (ρ : Dev nD → PrngReg) (c : Dev nD)

/-- An argument array. -/
abbrev arg (b : Ref sig .tc) : b.ty.Contents (Elt Ideal) := m ((c : Thread nD τ).loc b)

/-! ### The arrays the kernels are given -/

theorem in_p (j : Fin 2) (s : Fin 2048) (e : Fin 4096) : V1 m ρ c main_v3 (ix3 j s e) = arg m c main_arg0 (ix3 0 s ⟨j.val * 4096 + e.val, by omega⟩) := by
  show StableHlo.after hostOps0 (W0 m ρ c) (Proc.devRef .tc main_v3) (ix3 j s e) = _
  entry_read
  pointwise
theorem in_cw (k : Fin 4) (e : Fin 4096) : V1 m ρ c main_v4 (ix2 k e) = arg m c main_arg1 (ix3 0 k e) := by
  show StableHlo.after hostOps0 (W0 m ρ c) (Proc.devRef .tc main_v4) (ix2 k e) = _
  entry_read
  pointwise
theorem in_wa (h : Fin 16) (i j : Fin 256) : V1 m ρ c main_v6 (ix3 h i j) = arg m c main_arg3 (ix4 0 h i j) := by
  show StableHlo.after hostOps0 (W0 m ρ c) (Proc.devRef .tc main_v6) (ix3 h i j) = _
  entry_read
  pointwise
theorem in_ba (h : Fin 16) (x : Fin 256) : V1 m ρ c main_v7 (ix2 0 (col h x)) = arg m c main_arg4 (ix3 0 h x) := by
  show StableHlo.after hostOps0 (W0 m ρ c) (Proc.devRef .tc main_v7) (ix2 0 (col h x)) = _
  entry_read
  pointwise
  exact congrArg₂ (fun a b => arg m c main_arg4 (ix3 0 a b)) (Fin.ext (by show (h.val * 256 + x.val) / 256 = h.val; omega)) (Fin.ext (by show (h.val * 256 + x.val) % 256 = x.val; omega))
theorem in_wx (h : Fin 16) (i j : Fin 256) : V1 m ρ c main_v9 (ix3 h i j) = arg m c main_arg5 (ix4 0 h i j) := by
  show StableHlo.after hostOps0 (W0 m ρ c) (Proc.devRef .tc main_v9) (ix3 h i j) = _
  entry_read
  pointwise
theorem in_bx (h : Fin 16) (x : Fin 256) : V1 m ρ c main_v10 (ix2 0 (col h x)) = arg m c main_arg6 (ix3 0 h x) := by
  show StableHlo.after hostOps0 (W0 m ρ c) (Proc.devRef .tc main_v10) (ix2 0 (col h x)) = _
  entry_read
  pointwise
  exact congrArg₂ (fun a b => arg m c main_arg6 (ix3 0 a b)) (Fin.ext (by show (h.val * 256 + x.val) / 256 = h.val; omega)) (Fin.ext (by show (h.val * 256 + x.val) % 256 = x.val; omega))
theorem in_dy (s : Fin 2048) (e : Fin 4096) : V3 m ρ c main_v13 (ix2 s e) = arg m c main_arg8 (ix3 0 s e) := by
  have h := W2_args m ρ c main_arg8 (by decide)
  show StableHlo.after hostOps1 (W2 m ρ c) (Proc.devRef .tc main_v13) (ix2 s e) = _
  generalize W2 m ρ c = W at *
  entry_read
  pointwise
  exact congrFun h _

/-! ### The blocks in real numbers -/

/-- The arguments are the real numbers of `I`. -/
structure Args (I : In) : Prop where
  a0 : ∀ (s : Fin 2048) (e : Fin 8192), arg m c main_arg0 (ix3 0 s e) = ((I.p s.val e : ℝ) : EReal)
  a1 : ∀ (k : Fin 4) (e : Fin 4096), arg m c main_arg1 (ix3 0 k e) = ((I.cw k e : ℝ) : EReal)
  a2 : ∀ e : Fin 4096, arg m c main_arg2 (ix2 0 e) = ((I.cb e : ℝ) : EReal)
  a3 : ∀ (h : Fin 16) (i j : Fin 256), arg m c main_arg3 (ix4 0 h i j) = ((I.wa h i j : ℝ) : EReal)
  a4 : ∀ (h : Fin 16) (x : Fin 256), arg m c main_arg4 (ix3 0 h x) = ((I.ba h x : ℝ) : EReal)
  a5 : ∀ (h : Fin 16) (i j : Fin 256), arg m c main_arg5 (ix4 0 h i j) = ((I.wx h i j : ℝ) : EReal)
  a6 : ∀ (h : Fin 16) (x : Fin 256), arg m c main_arg6 (ix3 0 h x) = ((I.bx h x : ℝ) : EReal)
  a7 : ∀ e : Fin 4096, arg m c main_arg7 (ix2 0 e) = ((I.lam e : ℝ) : EReal)
  a8 : ∀ (s : Fin 2048) (e : Fin 4096), arg m c main_arg8 (ix3 0 s e) = ((I.dy s.val e : ℝ) : EReal)

variable {m c} {I : In} (H : Args m c I)
include H

theorem in_vin (h : Fin 16) (s : Fin 2048) (x : Fin 256) : V1 m ρ c main_v3 (ix3 0 s (col h x)) = ((vin I h x s.val : ℝ) : EReal) := by
  rw [in_p, H.a0]
  exact congrArg (fun e => ((I.p s.val e : ℝ) : EReal)) (Fin.ext (by show 0 * 4096 + (h.val * 256 + x.val) = h.val * 256 + x.val; omega))
theorem in_gin (h : Fin 16) (s : Fin 2048) (x : Fin 256) : V1 m ρ c main_v3 (ix3 1 s (col h x)) = ((gin I h x s.val : ℝ) : EReal) := by
  rw [in_p, H.a0]
  exact congrArg (fun e => ((I.p s.val e : ℝ) : EReal)) (Fin.ext (by show 1 * 4096 + (h.val * 256 + x.val) = 4096 + (h.val * 256 + x.val); omega))

theorem blk0 (t : Fin cfg0.N) : Blk0 (V1 m ρ) c t I where
  b0 s x := by
    refine Eq.trans ?_ (in_vin ρ H (hd t) s x)
    blk_point [iblk0, idx0 t, col, hd]
  b1 s x := by
    refine Eq.trans ?_ (in_gin ρ H (hd t) s x)
    blk_point [iblk0, idx0 t, col, hd]
  b2 k x := by
    refine Eq.trans ?_ ((in_cw m ρ c k (col (hd t) x)).trans (H.a1 k _))
    blk_point [iblk0, idx0 t, col, hd]
  b3 x := by
    refine Eq.trans ?_ ((congrFun (W1_args m ρ c main_arg2 (by decide)) _).trans (H.a2 (col (hd t) x)))
    blk_point [iblk0, idx0 t, col, hd]
  b4 j x := by
    refine Eq.trans ?_ ((in_wa m ρ c (hd t) j x).trans (H.a3 _ _ _))
    blk_point [iblk0, idx0 t, col, hd]
  b5 x := by
    refine Eq.trans ?_ ((in_ba m ρ c (hd t) x).trans (H.a4 _ _))
    blk_point [iblk0, idx0 t, col, hd]
  b6 j x := by
    refine Eq.trans ?_ ((in_wx m ρ c (hd t) j x).trans (H.a5 _ _ _))
    blk_point [iblk0, idx0 t, col, hd]
  b7 x := by
    refine Eq.trans ?_ ((in_bx m ρ c (hd t) x).trans (H.a6 _ _))
    blk_point [iblk0, idx0 t, col, hd]
  b8 x := by
    refine Eq.trans ?_ ((congrFun (W1_args m ρ c main_arg7 (by decide)) _).trans (H.a7 (col (hd t) x)))
    blk_point [iblk0, idx0 t, col, hd]

/-- The head of a column, and the column inside its head. -/
def hdOf (e : Fin 4096) : Fin 16 := ⟨e.val / 256, by omega⟩
def inHd (e : Fin 4096) : Fin 256 := ⟨e.val % 256, by omega⟩
omit H in
theorem hdOf_col (h : Fin 16) (x : Fin 256) : hdOf (col h x) = h := Fin.ext (by show (h.val * 256 + x.val) / 256 = h.val; omega)
omit H in
theorem inHd_col (h : Fin 16) (x : Fin 256) : inHd (col h x) = x := Fin.ext (by show (h.val * 256 + x.val) % 256 = x.val; omega)

theorem final9 : (dat0 (V1 m ρ) c).arrAt 9 cfg0.N = fun i => ((yv I (hdOf (i 1)) (inHd (i 1)) (i 0).val : ℝ) : EReal) := by
  refine (dat0 (V1 m ρ) c).arrAt_eq_of_covers 9 _ (by decide +kernel) fun t hf y => ?_
  have e1 : ((win0_9.blk t).view.emb y 1) = col (hd t) (y 1) := Fin.ext (by blk_simp [idx0 t, col, hd])
  have e0 : ((win0_9.blk t).view.emb y 0).val = (y 0).val := by blk_simp [idx0 t]
  show _ = ((yv I (hdOf ((win0_9.blk t).view.emb y 1)) (inHd ((win0_9.blk t).view.emb y 1)) ((win0_9.blk t).view.emb y 0).val : ℝ) : EReal)
  rw [e0, e1]
  refine Eq.trans ?_ (congrArg₂ (fun a b => ((yv I a b (y 0).val : ℝ) : EReal)) (hdOf_col (hd t) (y 1)).symm (inHd_col (hd t) (y 1)).symm)
  blk_simp
  rw [after0_9]
  exact point9 (blk0 ρ H t) y

theorem final10 : (dat0 (V1 m ρ) c).arrAt 10 cfg0.N = fun i => ((kept I (hdOf (i 2)) (inHd (i 2)) (i 0).val (i 1).val : ℝ) : EReal) := by
  refine (dat0 (V1 m ρ) c).arrAt_eq_of_covers 10 _ (by decide +kernel) fun t hf y => ?_
  have e2 : ((win0_10.blk t).view.emb y 2) = col (hd t) (y 2) := Fin.ext (by blk_simp [idx0 t, col, hd])
  have e1 : ((win0_10.blk t).view.emb y 1).val = (y 1).val := by blk_simp [idx0 t]
  have e0 : ((win0_10.blk t).view.emb y 0).val = (y 0).val := by blk_simp [idx0 t]
  show _ = ((kept I (hdOf ((win0_10.blk t).view.emb y 2)) (inHd ((win0_10.blk t).view.emb y 2)) ((win0_10.blk t).view.emb y 0).val ((win0_10.blk t).view.emb y 1).val : ℝ) : EReal)
  rw [e0, e1, e2]
  refine Eq.trans ?_ (congrArg₂ (fun a b => ((kept I a b (y 0).val (y 1).val : ℝ) : EReal)) (hdOf_col (hd t) (y 2)).symm (inHd_col (hd t) (y 2)).symm)
  blk_simp
  rw [after0_10]
  idx_vars y
  exact point10 (blk0 ρ H t) y0 y1 y2

omit H in
/-- An array the first kernel only reads is the second's too. -/
theorem same (b : Ref sig .tc) (h1 : b ∉ hostOps1_W) (h2 : ∀ w : Fin cfg0.W, Pipeline.arrRef spec0 w = b → (cfg0.win w).isOut = false) : V3 m ρ c b = V1 m ρ c b :=
  (W3_of m ρ c b h1).trans (W2_of m ρ c b h2)

theorem blk1 (t : Fin cfg1.N) : Blk1 (V3 m ρ) c t I where
  b0 s x := by
    refine Eq.trans ?_ (in_vin ρ H (hd1 t) s x)
    rw [← same ρ main_v3 (by decide) (by decide +kernel)]
    blk_point [iblk1, idx1 t, col, hd1]
  b1 s x := by
    refine Eq.trans ?_ (in_gin ρ H (hd1 t) s x)
    rw [← same ρ main_v3 (by decide) (by decide +kernel)]
    blk_point [iblk1, idx1 t, col, hd1]
  b2 r s x := by
    have e : V3 m ρ c main_v11_1 (ix3 r s (col (hd1 t) x)) = ((kept I (hd1 t) x r.val s.val : ℝ) : EReal) := by
      refine (congrFun ((W3_of m ρ c main_v11_1 (by decide)).trans ((W2_arr m ρ c 10).trans (final10 ρ H))) _).trans ?_
      show ((kept I (hdOf (col (hd1 t) x)) (inHd (col (hd1 t) x)) r.val s.val : ℝ) : EReal) = _
      rw [hdOf_col, inHd_col]
    rw [← e]
    blk_point [iblk1, idx1 t, col, hd1]
  b3 s x := by
    refine Eq.trans ?_ ((in_dy m ρ c s (col (hd1 t) x)).trans (H.a8 s _))
    blk_point [iblk1, idx1 t, col, hd1]
  b4 k x := by
    refine Eq.trans ?_ ((in_cw m ρ c k (col (hd1 t) x)).trans (H.a1 k _))
    rw [← same ρ main_v4 (by decide) (by decide +kernel)]
    blk_point [iblk1, idx1 t, col, hd1]
  b6 j x := by
    refine Eq.trans ?_ ((in_wa m ρ c (hd1 t) j x).trans (H.a3 _ _ _))
    rw [← same ρ main_v6 (by decide) (by decide +kernel)]
    blk_point [iblk1, idx1 t, col, hd1]
  b8 j x := by
    refine Eq.trans ?_ ((in_wx m ρ c (hd1 t) j x).trans (H.a5 _ _ _))
    rw [← same ρ main_v9 (by decide) (by decide +kernel)]
    blk_point [iblk1, idx1 t, col, hd1]
  b10 x := by
    refine Eq.trans ?_ ((congrFun (W3_args m ρ c main_arg7 (by decide)) _).trans (H.a7 (col (hd1 t) x)))
    blk_point [iblk1, idx1 t, col, hd1]

theorem final11 : (dat1 (V3 m ρ) c).arrAt 11 cfg1.N = fun i => ((dp I (i 0).val (hdOf (i 2)) (inHd (i 2)) (i 1).val : ℝ) : EReal) := by
  refine (dat1 (V3 m ρ) c).arrAt_eq_of_covers 11 _ (by decide +kernel) fun t hf y => ?_
  have e2 : ((win1_11.blk t).view.emb y 2) = col (hd1 t) (y 2) := Fin.ext (by blk_simp [idx1 t, col, hd1])
  have e1 : ((win1_11.blk t).view.emb y 1).val = (y 1).val := by blk_simp [idx1 t]
  have e0 : ((win1_11.blk t).view.emb y 0).val = (y 0).val := by blk_simp [idx1 t]
  show _ = ((dp I ((win1_11.blk t).view.emb y 0).val (hdOf ((win1_11.blk t).view.emb y 2)) (inHd ((win1_11.blk t).view.emb y 2)) ((win1_11.blk t).view.emb y 1).val : ℝ) : EReal)
  rw [e0, e1, e2]
  refine Eq.trans ?_ (congrArg₂ (fun a b => ((dp I (y 0).val a b (y 1).val : ℝ) : EReal)) (hdOf_col (hd1 t) (y 2)).symm (inHd_col (hd1 t) (y 2)).symm)
  blk_simp
  rw [after1_11]
  idx_vars y
  exact point11 (blk1 ρ H t) y0 y1 y2

theorem final12 : (dat1 (V3 m ρ) c).arrAt 12 cfg1.N = fun i => ((dwa I (i 0) (i 1) (i 2) : ℝ) : EReal) := by
  refine (dat1 (V3 m ρ) c).arrAt_eq_of_covers 12 _ (by decide +kernel) fun t hf y => ?_
  have e2 : ((win1_12.blk t).view.emb y 2) = y 2 := Fin.ext (by blk_simp [idx1 t])
  have e1 : ((win1_12.blk t).view.emb y 1) = y 1 := Fin.ext (by blk_simp [idx1 t])
  have e0 : ((win1_12.blk t).view.emb y 0) = hd1 t := Fin.ext (by blk_simp [idx1 t, hd1])
  show _ = ((dwa I ((win1_12.blk t).view.emb y 0) ((win1_12.blk t).view.emb y 1) ((win1_12.blk t).view.emb y 2) : ℝ) : EReal)
  rw [e0, e1, e2]
  blk_simp
  rw [after1_12]
  idx_vars y
  obtain rfl : y0 = 0 := Subsingleton.elim _ _
  exact point12 (blk1 ρ H t) y1 y2

theorem final13 : (dat1 (V3 m ρ) c).arrAt 13 cfg1.N = fun i => ((dwx I (i 0) (i 1) (i 2) : ℝ) : EReal) := by
  refine (dat1 (V3 m ρ) c).arrAt_eq_of_covers 13 _ (by decide +kernel) fun t hf y => ?_
  have e2 : ((win1_13.blk t).view.emb y 2) = y 2 := Fin.ext (by blk_simp [idx1 t])
  have e1 : ((win1_13.blk t).view.emb y 1) = y 1 := Fin.ext (by blk_simp [idx1 t])
  have e0 : ((win1_13.blk t).view.emb y 0) = hd1 t := Fin.ext (by blk_simp [idx1 t, hd1])
  show _ = ((dwx I ((win1_13.blk t).view.emb y 0) ((win1_13.blk t).view.emb y 1) ((win1_13.blk t).view.emb y 2) : ℝ) : EReal)
  rw [e0, e1, e2]
  blk_simp
  rw [after1_13]
  idx_vars y
  obtain rfl : y0 = 0 := Subsingleton.elim _ _
  exact point13 (blk1 ρ H t) y1 y2

theorem final14 : (dat1 (V3 m ρ) c).arrAt 14 cfg1.N = fun i => ((vec I (i 0).val (hdOf (i 1)) (inHd (i 1)) : ℝ) : EReal) := by
  refine (dat1 (V3 m ρ) c).arrAt_eq_of_covers 14 _ (by decide +kernel) fun t hf y => ?_
  have e1 : ((win1_14.blk t).view.emb y 1) = col (hd1 t) (y 1) := Fin.ext (by blk_simp [idx1 t, col, hd1])
  have e0 : ((win1_14.blk t).view.emb y 0).val = (y 0).val := by blk_simp [idx1 t]
  show _ = ((vec I ((win1_14.blk t).view.emb y 0).val (hdOf ((win1_14.blk t).view.emb y 1)) (inHd ((win1_14.blk t).view.emb y 1)) : ℝ) : EReal)
  rw [e0, e1]
  refine Eq.trans ?_ (congrArg₂ (fun a b => ((vec I (y 0).val a b : ℝ) : EReal)) (hdOf_col (hd1 t) (y 1)).symm (inHd_col (hd1 t) (y 1)).symm)
  blk_simp
  rw [after1_14]
  idx_vars y
  exact point14 (blk1 ρ H t) y0 y1

end Cert.LruIdeal.Hand

end
-- ==== Proof.LruKerRun.lean ====
module

public import proofs.«01_k».proof.Proof.Gen.LruIdeal.Frame
public import Idealize.ShloMosaic.Lib.Claim
public import Idealize.ShloMosaic.Lib.Pipeline.ValueKit
public import Idealize.ShloMosaic.Adequacy
public import Idealize.ShloMosaic.Init

/-! The run of the recurrence's two calls: every buffer of the program ends at the last boundary's contents. -/

@[expose] public section

set_option maxRecDepth 16384

noncomputable section

namespace Cert.LruIdeal.Hand

open Idealize.ShloMosaic Idealize.ShloMosaic.TcCoe Cert.LruIdeal Cert.LruIdeal.Gen
open Idealize.SL Idealize.SL.RA Idealize.SL.BI
open scoped Idealize.SL.BI
open Idealize.SL.BI.BIBase Idealize.SL.Sem Idealize.SL.BI.Laws Idealize.SL.ProofMode Idealize.ShloMosaic.Rounds

variable (m : (ℓ : Loc nD τ sig) → Buf (Elt Ideal) ℓ) (ρ : Dev nD → PrngReg)

set_option backward.isDefEq.respectTransparency.types false in
theorem run : θ_run (defs (F := Ideal)) (onTc (τ := τ) (main (F := Ideal))) ⟨m, fun _ => 0, ρ⟩
    (fun r => ∀ (c : Dev nD) (b : Ref sig .tc), ¬ (Proc.devRef .tc b : DevRef τ sig).isScoped → r.2.mem ((c.tc : Thread nD τ).loc b) = W4 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have none : (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) := by
        rw [BI.bigSep_emp_const]
      have all : (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) := .rfl
      iintro Hu; imodintro
      isplitl [Hu]
      · iapply all
        iexact Hu
      iapply none
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c b hb => h c _ (mem_uc b hb))

/-- Where the results stand at the end: the forward call's first output, the backward call's four. -/
theorem end_y (c : Dev nD) : W4 m ρ c (Proc.devRef .tc main_v11_0) = (dat0 (V1 m ρ) c).arrAt 9 cfg0.N :=
  (W4_of m ρ c main_v11_0 (by decide)).trans ((W3_of m ρ c main_v11_0 (by decide +kernel)).trans (W2_arr m ρ c 9))
theorem end_dp (c : Dev nD) : W4 m ρ c (Proc.devRef .tc main_v14_0) = (dat1 (V3 m ρ) c).arrAt 11 cfg1.N := W4_arr m ρ c 11
theorem end_dwa (c : Dev nD) : W4 m ρ c (Proc.devRef .tc main_v14_1) = (dat1 (V3 m ρ) c).arrAt 12 cfg1.N := W4_arr m ρ c 12
theorem end_dwx (c : Dev nD) : W4 m ρ c (Proc.devRef .tc main_v14_2) = (dat1 (V3 m ρ) c).arrAt 13 cfg1.N := W4_arr m ρ c 13
theorem end_vec (c : Dev nD) : W4 m ρ c (Proc.devRef .tc main_v14_3) = (dat1 (V3 m ρ) c).arrAt 14 cfg1.N := W4_arr m ρ c 14

end Cert.LruIdeal.Hand

end
-- ==== Proof.LruRefOps.lean ====
module

public import proofs.«01_k».proof.Proof.Gen.LruRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference of the recurrence's backward call as lines of host operations with its two host loops between them. -/

@[expose] public section

set_option maxRecDepth 16384
set_option maxHeartbeats 40000000

noncomputable section

namespace Cert.LruRefIdeal.Host

open Idealize.ShloMosaic Idealize.ShloMosaic.TcCoe Cert.LruRefIdeal.Gen
open Idealize.SL Idealize.SL.RA Idealize.SL.BI
open scoped Idealize.SL.BI
open Idealize.SL.BI.BIBase Idealize.SL.Sem

variable {F : FTy → Type} [FloatOps F]

abbrev line0_0 : List (HloOp τ sig (Elt F)) :=
  ( StableHlo.reshape main_arg1 main_v0 (rfl : (.f32 : EltTy) = .f32) shapeCasts_S1x4x4096_S4x4096
  :: StableHlo.reshape main_arg2 main_v1 (rfl : (.f32 : EltTy) = .f32) shapeCasts_S1x4096_S4096
  :: StableHlo.reshape main_arg3 main_v2 (rfl : (.f32 : EltTy) = .f32) shapeCasts_S1x16x256x256_S16x256x256
  :: StableHlo.reshape main_arg4 main_v3 (rfl : (.f32 : EltTy) = .f32) shapeCasts_S1x16x256_S16x256
  :: StableHlo.reshape main_arg5 main_v4 (rfl : (.f32 : EltTy) = .f32) shapeCasts_S1x16x256x256_S16x256x256
  :: StableHlo.reshape main_arg6 main_v5 (rfl : (.f32 : EltTy) = .f32) shapeCasts_S1x16x256_S16x256
  :: StableHlo.reshape main_arg7 main_v6 (rfl : (.f32 : EltTy) = .f32) shapeCasts_S1x4096_S4096
  :: StableHlo.unary main_arg0 main_v7 ((extractStridedSlice S1x2048x4096 ![0, 0, 0] · slices_S1x2048x8192_S1x2048x4096_0_0_0) : (⟨S1x2048x8192, .f32⟩ : BufTy).Contents (Elt F) → (⟨S1x2048x4096, .f32⟩ : BufTy).Contents (Elt F))
  :: StableHlo.unary main_arg0 main_v8 ((extractStridedSlice S1x2048x4096 ![0, 0, 4096] · slices_S1x2048x8192_S1x2048x4096_0_0_4096) : (⟨S1x2048x8192, .f32⟩ : BufTy).Contents (Elt F) → (⟨S1x2048x4096, .f32⟩ : BufTy).Contents (Elt F))
  :: StableHlo.nullary main_cst (constant S_ .f32 0x00000000#32)
  :: StableHlo.unary main_cst main_v9 (broadcastInDim S1x3x4096 ![] bcast_S_S1x3x4096 : (⟨S_, .f32⟩ : BufTy).Contents (Elt F) → (⟨S1x3x4096, .f32⟩ : BufTy).Contents (Elt F))
  :: StableHlo.binary main_v9 main_v7 main_v10 ((fun a b => concatenate S1x2051x4096 1 [⟨S1x3x4096, a⟩, ⟨S1x2048x4096, b⟩] concatenates_S1x3x4096_S1x2048x4096_S1x2051x4096_d1) : (⟨S1x3x4096, .f32⟩ : BufTy).Contents (Elt F) → (⟨S1x2048x4096, .f32⟩ : BufTy).Contents (Elt F) → (⟨S1x2051x4096, .f32⟩ : BufTy).Contents (Elt F))
  :: StableHlo.nullary main_cst_0 (constant S_ .f32 0x00000000#32)
  :: StableHlo.unary main_cst_0 main_v11 (broadcastInDim S1x3x4096 ![] bcast_S_S1x3x4096 : (⟨S_, .f32⟩ : BufTy).Contents (Elt F) → (⟨S1x3x4096, .f32⟩ : BufTy).Contents (Elt F))
  :: StableHlo.unary main_v0 main_v12 ((extractStridedSlice S1x4096 ![0, 0] · slices_S4x4096_S1x4096_0_0) : (⟨S4x4096, .f32⟩ : BufTy).Contents (Elt F) → (⟨S1x4096, .f32⟩ : BufTy).Contents (Elt F))
  :: StableHlo.reshape main_v12 main_v13 (rfl : (.f32 : EltTy) = .f32) shapeCasts_S1x4096_S4096
  :: StableHlo.unary main_v10 main_v14 ((extractStridedSlice S1x2048x4096 ![0, 0, 0] · slices_S1x2051x4096_S1x2048x4096_0_0_0) : (⟨S1x2051x4096, .f32⟩ : BufTy).Contents (Elt F) → (⟨S1x2048x4096, .f32⟩ : BufTy).Contents (Elt F))
  :: StableHlo.unary main_v13 main_v15 (broadcastInDim S1x1x4096 ![2] bcast_S4096_S1x1x4096_2 : (⟨S4096, .f32⟩ : BufTy).Contents (Elt F) → (⟨S1x1x4096, .f32⟩ : BufTy).Contents (Elt F))
  :: StableHlo.unary main_v15 main_v16 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v16 main_v14 main_v17 (mulf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_1 (constant S_ .f32 0x00000000#32)
  :: StableHlo.unary main_cst_1 main_v18 (broadcastInDim S1x2048x4096 ![] bcast_S_S1x2048x4096 : (⟨S_, .f32⟩ : BufTy).Contents (Elt F) → (⟨S1x2048x4096, .f32⟩ : BufTy).Contents (Elt F))
  :: StableHlo.binary main_v18 main_v17 main_v19 (addf : (⟨S1x2048x4096, .f32⟩ : BufTy).Contents (Elt F) → (⟨S1x2048x4096, .f32⟩ : BufTy).Contents (Elt F) → (⟨S1x2048x4096, .f32⟩ : BufTy).Contents (Elt F))
  :: StableHlo.unary main_v0 main_v20 ((extractStridedSlice S1x4096 ![1, 0] · slices_S4x4096_S1x4096_1_0) : (⟨S4x4096, .f32⟩ : BufTy).Contents (Elt F) → (⟨S1x4096, .f32⟩ : BufTy).Contents (Elt F))
  :: StableHlo.reshape main_v20 main_v21 (rfl : (.f32 : EltTy) = .f32) shapeCasts_S1x4096_S4096
  :: StableHlo.unary main_v10 main_v22 ((extractStridedSlice S1x2048x4096 ![0, 1, 0] · slices_S1x2051x4096_S1x2048x4096_0_1_0) : (⟨S1x2051x4096, .f32⟩ : BufTy).Contents (Elt F) → (⟨S1x2048x4096, .f32⟩ : BufTy).Contents (Elt F))
  :: StableHlo.unary main_v21 main_v23 (broadcastInDim S1x1x4096 ![2] bcast_S4096_S1x1x4096_2 : (⟨S4096, .f32⟩ : BufTy).Contents (Elt F) → (⟨S1x1x4096, .f32⟩ : BufTy).Contents (Elt F))
  :: StableHlo.unary main_v23 main_v24 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v24 main_v22 main_v25 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v19 main_v25 main_v26 (addf : (⟨S1x2048x4096, .f32⟩ : BufTy).Contents (Elt F) → (⟨S1x2048x4096, .f32⟩ : BufTy).Contents (Elt F) → (⟨S1x2048x4096, .f32⟩ : BufTy).Contents (Elt F))
  :: StableHlo.unary main_v0 main_v27 ((extractStridedSlice S1x4096 ![2, 0] · slices_S4x4096_S1x4096_2_0) : (⟨S4x4096, .f32⟩ : BufTy).Contents (Elt F) → (⟨S1x4096, .f32⟩ : BufTy).Contents (Elt F))
  :: StableHlo.reshape main_v27 main_v28 (rfl : (.f32 : EltTy) = .f32) shapeCasts_S1x4096_S4096
  :: StableHlo.unary main_v10 main_v29 ((extractStridedSlice S1x2048x4096 ![0, 2, 0] · slices_S1x2051x4096_S1x2048x4096_0_2_0) : (⟨S1x2051x4096, .f32⟩ : BufTy).Contents (Elt F) → (⟨S1x2048x4096, .f32⟩ : BufTy).Contents (Elt F))
  :: StableHlo.unary main_v28 main_v30 (broadcastInDim S1x1x4096 ![2] bcast_S4096_S1x1x4096_2 : (⟨S4096, .f32⟩ : BufTy).Contents (Elt F) → (⟨S1x1x4096, .f32⟩ : BufTy).Contents (Elt F))
  :: StableHlo.unary main_v30 main_v31 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v31 main_v29 main_v32 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v26 main_v32 main_v33 (addf : (⟨S1x2048x4096, .f32⟩ : BufTy).Contents (Elt F) → (⟨S1x2048x4096, .f32⟩ : BufTy).Contents (Elt F) → (⟨S1x2048x4096, .f32⟩ : BufTy).Contents (Elt F))
  :: StableHlo.unary main_v0 main_v34 ((extractStridedSlice S1x4096 ![3, 0] · slices_S4x4096_S1x4096_3_0) : (⟨S4x4096, .f32⟩ : BufTy).Contents (Elt F) → (⟨S1x4096, .f32⟩ : BufTy).Contents (Elt F))
  :: StableHlo.reshape main_v34 main_v35 (rfl : (.f32 : EltTy) = .f32) shapeCasts_S1x4096_S4096
  :: StableHlo.unary main_v10 main_v36 ((extractStridedSlice S1x2048x4096 ![0, 3, 0] · slices_S1x2051x4096_S1x2048x4096_0_3_0) : (⟨S1x2051x4096, .f32⟩ : BufTy).Contents (Elt F) → (⟨S1x2048x4096, .f32⟩ : BufTy).Contents (Elt F))
  :: StableHlo.unary main_v35 main_v37 (broadcastInDim S1x1x4096 ![2] bcast_S4096_S1x1x4096_2 : (⟨S4096, .f32⟩ : BufTy).Contents (Elt F) → (⟨S1x1x4096, .f32⟩ : BufTy).Contents (Elt F))
  :: StableHlo.unary main_v37 main_v38 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v38 main_v36 main_v39 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v33 main_v39 main_v40 (addf : (⟨S1x2048x4096, .f32⟩ : BufTy).Contents (Elt F) → (⟨S1x2048x4096, .f32⟩ : BufTy).Contents (Elt F) → (⟨S1x2048x4096, .f32⟩ : BufTy).Contents (Elt F))
  :: StableHlo.unary main_v1 main_v41 (broadcastInDim S1x1x4096 ![2] bcast_S4096_S1x1x4096_2 : (⟨S4096, .f32⟩ : BufTy).Contents (Elt F) → (⟨S1x1x4096, .f32⟩ : BufTy).Contents (Elt F))
  :: StableHlo.unary main_v41 main_v42 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v40 main_v42 main_v43 (addf : (⟨S1x2048x4096, .f32⟩ : BufTy).Contents (Elt F) → (⟨S1x2048x4096, .f32⟩ : BufTy).Contents (Elt F) → (⟨S1x2048x4096, .f32⟩ : BufTy).Contents (Elt F))
  :: StableHlo.reshape main_v43 main_v44 (rfl : (.f32 : EltTy) = .f32) shapeCasts_S1x2048x4096_S1x2048x16x256
  :: StableHlo.binary main_v2 main_v44 main_v45 ((fun l r => Host.dotGeneral dot_S16x256x256_S1x2048x16x256_S16x256x1x2048_1_3_2_01_0_2 none l r) : (⟨S16x256x256, .f32⟩ : BufTy).Contents (Elt F) → (⟨S1x2048x16x256, .f32⟩ : BufTy).Contents (Elt F) → (⟨S16x256x1x2048, .f32⟩ : BufTy).Contents (Elt F))
  :: StableHlo.unary main_v45 main_v46 ((transpose S1x2048x16x256 [2, 3, 0, 1] · transposes_S16x256x1x2048_S1x2048x16x256_2_3_0_1) : (⟨S16x256x1x2048, .f32⟩ : BufTy).Contents (Elt F) → (⟨S1x2048x16x256, .f32⟩ : BufTy).Contents (Elt F))
  :: StableHlo.unary main_v3 main_v47 (broadcastInDim S1x1x16x256 ![2, 3] bcast_S16x256_S1x1x16x256_2_3 : (⟨S16x256, .f32⟩ : BufTy).Contents (Elt F) → (⟨S1x1x16x256, .f32⟩ : BufTy).Contents (Elt F))
  :: StableHlo.unary main_v47 main_v48 (broadcastInDim S1x2048x16x256 ![0, 1, 2, 3] bcast_S1x1x16x256_S1x2048x16x256_0_1_2_3 : (⟨S1x1x16x256, .f32⟩ : BufTy).Contents (Elt F) → (⟨S1x2048x16x256, .f32⟩ : BufTy).Contents (Elt F))
  :: StableHlo.binary main_v46 main_v48 main_v49 (addf : (⟨S1x2048x16x256, .f32⟩ : BufTy).Contents (Elt F) → (⟨S1x2048x16x256, .f32⟩ : BufTy).Contents (Elt F) → (⟨S1x2048x16x256, .f32⟩ : BufTy).Contents (Elt F))
  :: StableHlo.unary main_v49 main_v50 (Host.negf : (⟨S1x2048x16x256, .f32⟩ : BufTy).Contents (Elt F) → (⟨S1x2048x16x256, .f32⟩ : BufTy).Contents (Elt F))
  :: StableHlo.unary main_v50 main_v51 (Host.exp : (⟨S1x2048x16x256, .f32⟩ : BufTy).Contents (Elt F) → (⟨S1x2048x16x256, .f32⟩ : BufTy).Contents (Elt F))
  :: StableHlo.nullary main_cst_2 (constant S_ .f32 0x3F800000#32)
  :: StableHlo.unary main_cst_2 main_v52 (broadcastInDim S1x2048x16x256 ![] bcast_S_S1x2048x16x256 : (⟨S_, .f32⟩ : BufTy).Contents (Elt F) → (⟨S1x2048x16x256, .f32⟩ : BufTy).Contents (Elt F))
  :: StableHlo.binary main_v52 main_v51 main_v53 (addf : (⟨S1x2048x16x256, .f32⟩ : BufTy).Contents (Elt F) → (⟨S1x2048x16x256, .f32⟩ : BufTy).Contents (Elt F) → (⟨S1x2048x16x256, .f32⟩ : BufTy).Contents (Elt F))
  :: StableHlo.nullary main_cst_3 (constant S_ .f32 0x3F800000#32)
  :: StableHlo.unary main_cst_3 main_v54 (broadcastInDim S1x2048x16x256 ![] bcast_S_S1x2048x16x256 : (⟨S_, .f32⟩ : BufTy).Contents (Elt F) → (⟨S1x2048x16x256, .f32⟩ : BufTy).Contents (Elt F))
  :: [] )
theorem line0_0_sub : (line0_0 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub ..⟩
theorem main_part0_chain (c : Dev nD) : main_part0 (F := F) c = (Pipeline.chainK
  [  ]
  (StableHlo.seq line0_0) : Prog (TpuEff nD τ sig (Elt F) (HostLoop.Sig (Pipeline.Sig Λ₀ (Fin 0) fun p => (pcfgs (F := F) p).Adm) 2) .tc) PUnit) := by
  chain_rfl

abbrev line1_0 : List (HloOp τ sig (Elt F)) :=
  [ StableHlo.binary main_v54 main_v53 main_v55 (Host.divf : (⟨S1x2048x16x256, .f32⟩ : BufTy).Contents (Elt F) → (⟨S1x2048x16x256, .f32⟩ : BufTy).Contents (Elt F) → (⟨S1x2048x16x256, .f32⟩ : BufTy).Contents (Elt F)),
    StableHlo.nullary main_cst_4 (constant S_ .f32 0x3F800000#32),
    StableHlo.unary main_cst_4 main_v56 (broadcastInDim S1x2048x16x256 ![] bcast_S_S1x2048x16x256 : (⟨S_, .f32⟩ : BufTy).Contents (Elt F) → (⟨S1x2048x16x256, .f32⟩ : BufTy).Contents (Elt F)),
    StableHlo.binary main_v56 main_v55 main_v57 (subf : (⟨S1x2048x16x256, .f32⟩ : BufTy).Contents (Elt F) → (⟨S1x2048x16x256, .f32⟩ : BufTy).Contents (Elt F) → (⟨S1x2048x16x256, .f32⟩ : BufTy).Contents (Elt F)),
    StableHlo.binary main_v55 main_v57 main_v58 (mulf : (⟨S1x2048x16x256, .f32⟩ : BufTy).Contents (Elt F) → (⟨S1x2048x16x256, .f32⟩ : BufTy).Contents (Elt F) → (⟨S1x2048x16x256, .f32⟩ : BufTy).Contents (Elt F)),
    StableHlo.reshape main_v55 main_v59 (rfl : (.f32 : EltTy) = .f32) shapeCasts_S1x2048x16x256_S1x2048x4096,
    StableHlo.binary main_v4 main_v44 main_v60 ((fun l r => Host.dotGeneral dot_S16x256x256_S1x2048x16x256_S16x256x1x2048_1_3_2_01_0_2 none l r) : (⟨S16x256x256, .f32⟩ : BufTy).Contents (Elt F) → (⟨S1x2048x16x256, .f32⟩ : BufTy).Contents (Elt F) → (⟨S16x256x1x2048, .f32⟩ : BufTy).Contents (Elt F)),
    StableHlo.unary main_v60 main_v61 ((transpose S1x2048x16x256 [2, 3, 0, 1] · transposes_S16x256x1x2048_S1x2048x16x256_2_3_0_1) : (⟨S16x256x1x2048, .f32⟩ : BufTy).Contents (Elt F) → (⟨S1x2048x16x256, .f32⟩ : BufTy).Contents (Elt F)),
    StableHlo.unary main_v5 main_v62 (broadcastInDim S1x1x16x256 ![2, 3] bcast_S16x256_S1x1x16x256_2_3 : (⟨S16x256, .f32⟩ : BufTy).Contents (Elt F) → (⟨S1x1x16x256, .f32⟩ : BufTy).Contents (Elt F)),
    StableHlo.unary main_v62 main_v63 (broadcastInDim S1x2048x16x256 ![0, 1, 2, 3] bcast_S1x1x16x256_S1x2048x16x256_0_1_2_3 : (⟨S1x1x16x256, .f32⟩ : BufTy).Contents (Elt F) → (⟨S1x2048x16x256, .f32⟩ : BufTy).Contents (Elt F)),
    StableHlo.binary main_v61 main_v63 main_v64 (addf : (⟨S1x2048x16x256, .f32⟩ : BufTy).Contents (Elt F) → (⟨S1x2048x16x256, .f32⟩ : BufTy).Contents (Elt F) → (⟨S1x2048x16x256, .f32⟩ : BufTy).Contents (Elt F)),
    StableHlo.unary main_v64 main_v65 (Host.negf : (⟨S1x2048x16x256, .f32⟩ : BufTy).Contents (Elt F) → (⟨S1x2048x16x256, .f32⟩ : BufTy).Contents (Elt F)),
    StableHlo.unary main_v65 main_v66 (Host.exp : (⟨S1x2048x16x256, .f32⟩ : BufTy).Contents (Elt F) → (⟨S1x2048x16x256, .f32⟩ : BufTy).Contents (Elt F)),
    StableHlo.nullary main_cst_5 (constant S_ .f32 0x3F800000#32),
    StableHlo.unary main_cst_5 main_v67 (broadcastInDim S1x2048x16x256 ![] bcast_S_S1x2048x16x256 : (⟨S_, .f32⟩ : BufTy).Contents (Elt F) → (⟨S1x2048x16x256, .f32⟩ : BufTy).Contents (Elt F)),
    StableHlo.binary main_v67 main_v66 main_v68 (addf : (⟨S1x2048x16x256, .f32⟩ : BufTy).Contents (Elt F) → (⟨S1x2048x16x256, .f32⟩ : BufTy).Contents (Elt F) → (⟨S1x2048x16x256, .f32⟩ : BufTy).Contents (Elt F)),
    StableHlo.nullary main_cst_6 (constant S_ .f32 0x3F800000#32),
    StableHlo.unary main_cst_6 main_v69 (broadcastInDim S1x2048x16x256 ![] bcast_S_S1x2048x16x256 : (⟨S_, .f32⟩ : BufTy).Contents (Elt F) → (⟨S1x2048x16x256, .f32⟩ : BufTy).Contents (Elt F)),
    StableHlo.binary main_v69 main_v68 main_v70 (Host.divf : (⟨S1x2048x16x256, .f32⟩ : BufTy).Contents (Elt F) → (⟨S1x2048x16x256, .f32⟩ : BufTy).Contents (Elt F) → (⟨S1x2048x16x256, .f32⟩ : BufTy).Contents (Elt F)),
    StableHlo.nullary main_cst_7 (constant S_ .f32 0x3F800000#32),
    StableHlo.unary main_cst_7 main_v71 (broadcastInDim S1x2048x16x256 ![] bcast_S_S1x2048x16x256 : (⟨S_, .f32⟩ : BufTy).Contents (Elt F) → (⟨S1x2048x16x256, .f32⟩ : BufTy).Contents (Elt F)),
    StableHlo.binary main_v71 main_v70 main_v72 (subf : (⟨S1x2048x16x256, .f32⟩ : BufTy).Contents (Elt F) → (⟨S1x2048x16x256, .f32⟩ : BufTy).Contents (Elt F) → (⟨S1x2048x16x256, .f32⟩ : BufTy).Contents (Elt F)),
    StableHlo.binary main_v70 main_v72 main_v73 (mulf : (⟨S1x2048x16x256, .f32⟩ : BufTy).Contents (Elt F) → (⟨S1x2048x16x256, .f32⟩ : BufTy).Contents (Elt F) → (⟨S1x2048x16x256, .f32⟩ : BufTy).Contents (Elt F)),
    StableHlo.reshape main_v70 main_v74 (rfl : (.f32 : EltTy) = .f32) shapeCasts_S1x2048x16x256_S1x2048x4096,
    StableHlo.nullary main_cst_8 (constant S_ .f32 0xC1000000#32),
    StableHlo.unary main_cst_8 main_v75 (broadcastInDim S1x2048x4096 ![] bcast_S_S1x2048x4096 : (⟨S_, .f32⟩ : BufTy).Contents (Elt F) → (⟨S1x2048x4096, .f32⟩ : BufTy).Contents (Elt F)),
    StableHlo.binary main_v75 main_v59 main_v76 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_v6 main_v77 (Host.negf : (⟨S4096, .f32⟩ : BufTy).Contents (Elt F) → (⟨S4096, .f32⟩ : BufTy).Contents (Elt F)) ]
theorem line1_0_sub : (line1_0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.reshape_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.unary_bufs_sub ..⟩
abbrev line1_1 : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S4096, .f32⟩) (broadcastInDim S4096 ![] bcast_S_S4096)
  :: StableHlo.TRef.binary (.of main_v77 : StableHlo.TRef sig ⟨S4096, .f32⟩) (.of main_call0_v0 : StableHlo.TRef sig ⟨S4096, .f32⟩) (.of main_call0_v1 : StableHlo.TRef sig ⟨S4096, .f32⟩) maximumf
  :: StableHlo.TRef.unary (.of main_call0_cst : StableHlo.TRef sig ⟨S_, .f32⟩) (.of main_call0_v2 : StableHlo.TRef sig ⟨S4096, .f32⟩) (broadcastInDim S4096 ![] bcast_S_S4096)
  :: StableHlo.TRef.binary (.of main_v77 : StableHlo.TRef sig ⟨S4096, .f32⟩) (.of main_call0_v2 : StableHlo.TRef sig ⟨S4096, .f32⟩) (.of main_call0_v3 : StableHlo.TRef sig ⟨S4096, .f32⟩) subf
  :: StableHlo.TRef.binary (.of main_call0_v3 : StableHlo.TRef sig ⟨S4096, .f32⟩) (.of main_call0_v3 : StableHlo.TRef sig ⟨S4096, .f32⟩) (.of main_call0_v4 : StableHlo.TRef sig ⟨S4096, .i1⟩) (cmpf .une)
  :: StableHlo.TRef.unary (.of main_call0_cst : StableHlo.TRef sig ⟨S_, .f32⟩) (.of main_call0_v5 : StableHlo.TRef sig ⟨S4096, .f32⟩) (broadcastInDim S4096 ![] bcast_S_S4096)
  :: StableHlo.TRef.binary (.of main_v77 : StableHlo.TRef sig ⟨S4096, .f32⟩) (.of main_call0_v5 : StableHlo.TRef sig ⟨S4096, .f32⟩) (.of main_call0_v6 : StableHlo.TRef sig ⟨S4096, .f32⟩) addf
  :: StableHlo.TRef.unary (.of main_call0_v3 : StableHlo.TRef sig ⟨S4096, .f32⟩) (.of main_call0_v7 : StableHlo.TRef sig ⟨S4096, .f32⟩) Host.absf
  :: StableHlo.TRef.unary (.of main_call0_v7 : StableHlo.TRef sig ⟨S4096, .f32⟩) (.of main_call0_v8 : StableHlo.TRef sig ⟨S4096, .f32⟩) Host.negf
  :: StableHlo.TRef.unary (.of main_call0_v8 : StableHlo.TRef sig ⟨S4096, .f32⟩) (.of main_call0_v9 : StableHlo.TRef sig ⟨S4096, .f32⟩) Host.exp
  :: StableHlo.TRef.unary (.of main_call0_v9 : StableHlo.TRef sig ⟨S4096, .f32⟩) (.of main_call0_v10 : StableHlo.TRef sig ⟨S4096, .f32⟩) Host.log1p
  :: StableHlo.TRef.binary (.of main_call0_v1 : StableHlo.TRef sig ⟨S4096, .f32⟩) (.of main_call0_v10 : StableHlo.TRef sig ⟨S4096, .f32⟩) (.of main_call0_v11 : StableHlo.TRef sig ⟨S4096, .f32⟩) addf
  :: StableHlo.TRef.ternary (.of main_call0_v4 : StableHlo.TRef sig ⟨S4096, .i1⟩) (.of main_call0_v6 : StableHlo.TRef sig ⟨S4096, .f32⟩) (.of main_call0_v11 : StableHlo.TRef sig ⟨S4096, .f32⟩) (.of main_v78_0 : StableHlo.TRef sig ⟨S4096, .f32⟩) select
  :: StableHlo.TRef.nullary (.of main_call0_cst_0 : StableHlo.TRef sig ⟨S_, .f32⟩) (constant S_ .f32 0x7F800000#32)
  :: StableHlo.TRef.unary (.of main_call0_cst_0 : StableHlo.TRef sig ⟨S_, .f32⟩) (.of main_call0_v13 : StableHlo.TRef sig ⟨S4096, .f32⟩) (broadcastInDim S4096 ![] bcast_S_S4096)
  :: StableHlo.TRef.binary (.of main_v77 : StableHlo.TRef sig ⟨S4096, .f32⟩) (.of main_call0_v13 : StableHlo.TRef sig ⟨S4096, .f32⟩) (.of main_call0_v14 : StableHlo.TRef sig ⟨S4096, .i1⟩) (cmpf .oeq)
  :: StableHlo.TRef.nullary (.of main_call0_cst_1 : StableHlo.TRef sig ⟨S_, .f32⟩) (constant S_ .f32 0x00000000#32)
  :: StableHlo.TRef.unary (.of main_call0_cst_1 : StableHlo.TRef sig ⟨S_, .f32⟩) (.of main_call0_v15 : StableHlo.TRef sig ⟨S4096, .f32⟩) (broadcastInDim S4096 ![] bcast_S_S4096)
  :: StableHlo.TRef.ternary (.of main_call0_v14 : StableHlo.TRef sig ⟨S4096, .i1⟩) (.of main_call0_v15 : StableHlo.TRef sig ⟨S4096, .f32⟩) (.of main_v77 : StableHlo.TRef sig ⟨S4096, .f32⟩) (.of main_call0_v16 : StableHlo.TRef sig ⟨S4096, .f32⟩) select
  :: StableHlo.TRef.nullary (.of main_call0_cst_2 : StableHlo.TRef sig ⟨S_, .f32⟩) (constant S_ .f32 0x7F800000#32)
  :: StableHlo.TRef.unary (.of main_call0_cst_2 : StableHlo.TRef sig ⟨S_, .f32⟩) (.of main_call0_v17 : StableHlo.TRef sig ⟨S4096, .f32⟩) (broadcastInDim S4096 ![] bcast_S_S4096)
  :: StableHlo.TRef.binary (.of main_v78_0 : StableHlo.TRef sig ⟨S4096, .f32⟩) (.of main_call0_v17 : StableHlo.TRef sig ⟨S4096, .f32⟩) (.of main_call0_v18 : StableHlo.TRef sig ⟨S4096, .i1⟩) (cmpf .oeq)
  :: StableHlo.TRef.nullary (.of main_call0_cst_3 : StableHlo.TRef sig ⟨S_, .f32⟩) (constant S_ .f32 0x00000000#32)
  :: StableHlo.TRef.unary (.of main_call0_cst_3 : StableHlo.TRef sig ⟨S_, .f32⟩) (.of main_call0_v19 : StableHlo.TRef sig ⟨S4096, .f32⟩) (broadcastInDim S4096 ![] bcast_S_S4096)
  :: StableHlo.TRef.ternary (.of main_call0_v18 : StableHlo.TRef sig ⟨S4096, .i1⟩) (.of main_call0_v19 : StableHlo.TRef sig ⟨S4096, .f32⟩) (.of main_v78_0 : StableHlo.TRef sig ⟨S4096, .f32⟩) (.of main_call0_v20 : StableHlo.TRef sig ⟨S4096, .f32⟩) select
  :: StableHlo.TRef.binary (.of main_call0_v16 : StableHlo.TRef sig ⟨S4096, .f32⟩) (.of main_call0_v20 : StableHlo.TRef sig ⟨S4096, .f32⟩) (.of main_call0_v21 : StableHlo.TRef sig ⟨S4096, .f32⟩) subf
  :: StableHlo.TRef.unary (.of main_call0_v21 : StableHlo.TRef sig ⟨S4096, .f32⟩) (.of main_v78_1 : StableHlo.TRef sig ⟨S4096, .f32⟩) Host.exp
  :: StableHlo.TRef.nullary (.of main_call0_cst_4 : StableHlo.TRef sig ⟨S_, .f32⟩) (constant S_ .f32 0x00000000#32)
  :: StableHlo.TRef.nullary (.of main_call0_cst_5 : StableHlo.TRef sig ⟨S_, .f32⟩) (constant S_ .f32 0x7F800000#32)
  :: StableHlo.TRef.binary (.of main_call0_cst_4 : StableHlo.TRef sig ⟨S_, .f32⟩) (.of main_call0_cst_5 : StableHlo.TRef sig ⟨S_, .f32⟩) (.of main_call0_v23 : StableHlo.TRef sig ⟨S_, .i1⟩) (cmpf .oeq)
  :: StableHlo.TRef.nullary (.of main_call0_cst_6 : StableHlo.TRef sig ⟨S_, .f32⟩) (constant S_ .f32 0x00000000#32)
  :: StableHlo.TRef.nullary (.of main_call0_cst_7 : StableHlo.TRef sig ⟨S_, .f32⟩) (constant S_ .f32 0x00000000#32)
  :: StableHlo.TRef.ternary (.of main_call0_v23 : StableHlo.TRef sig ⟨S_, .i1⟩) (.of main_call0_cst_7 : StableHlo.TRef sig ⟨S_, .f32⟩) (.of main_call0_cst_6 : StableHlo.TRef sig ⟨S_, .f32⟩) (.of main_call0_v24 : StableHlo.TRef sig ⟨S_, .f32⟩) select
  :: StableHlo.TRef.nullary (.of main_call0_cst_8 : StableHlo.TRef sig ⟨S_, .f32⟩) (constant S_ .f32 0x7F800000#32)
  :: StableHlo.TRef.unary (.of main_call0_cst_8 : StableHlo.TRef sig ⟨S_, .f32⟩) (.of main_call0_v25 : StableHlo.TRef sig ⟨S4096, .f32⟩) (broadcastInDim S4096 ![] bcast_S_S4096)
  :: StableHlo.TRef.binary (.of main_v78_0 : StableHlo.TRef sig ⟨S4096, .f32⟩) (.of main_call0_v25 : StableHlo.TRef sig ⟨S4096, .f32⟩) (.of main_call0_v26 : StableHlo.TRef sig ⟨S4096, .i1⟩) (cmpf .oeq)
  :: StableHlo.TRef.nullary (.of main_call0_cst_9 : StableHlo.TRef sig ⟨S_, .f32⟩) (constant S_ .f32 0x00000000#32)
  :: StableHlo.TRef.unary (.of main_call0_cst_9 : StableHlo.TRef sig ⟨S_, .f32⟩) (.of main_call0_v27 : StableHlo.TRef sig ⟨S4096, .f32⟩) (broadcastInDim S4096 ![] bcast_S_S4096)
  :: StableHlo.TRef.ternary (.of main_call0_v26 : StableHlo.TRef sig ⟨S4096, .i1⟩) (.of main_call0_v27 : StableHlo.TRef sig ⟨S4096, .f32⟩) (.of main_v78_0 : StableHlo.TRef sig ⟨S4096, .f32⟩) (.of main_call0_v28 : StableHlo.TRef sig ⟨S4096, .f32⟩) select
  :: StableHlo.TRef.unary (.of main_call0_v24 : StableHlo.TRef sig ⟨S_, .f32⟩) (.of main_call0_v29 : StableHlo.TRef sig ⟨S4096, .f32⟩) (broadcastInDim S4096 ![] bcast_S_S4096)
  :: StableHlo.TRef.binary (.of main_call0_v29 : StableHlo.TRef sig ⟨S4096, .f32⟩) (.of main_call0_v28 : StableHlo.TRef sig ⟨S4096, .f32⟩) (.of main_call0_v30 : StableHlo.TRef sig ⟨S4096, .f32⟩) subf
  :: StableHlo.TRef.unary (.of main_call0_v30 : StableHlo.TRef sig ⟨S4096, .f32⟩) (.of main_call0_v31 : StableHlo.TRef sig ⟨S4096, .f32⟩) Host.exp
  :: StableHlo.TRef.nullary (.of main_call0_cst_10 : StableHlo.TRef sig ⟨S_, .f32⟩) (constant S_ .f32 0x00000000#32)
  :: StableHlo.TRef.unary (.of main_call0_cst_10 : StableHlo.TRef sig ⟨S_, .f32⟩) (.of main_call0_v32 : StableHlo.TRef sig ⟨S4096, .f32⟩) (broadcastInDim S4096 ![] bcast_S_S4096)
  :: StableHlo.TRef.binary (.of main_call0_v32 : StableHlo.TRef sig ⟨S4096, .f32⟩) (.of main_call0_v31 : StableHlo.TRef sig ⟨S4096, .f32⟩) (.of main_v78_2 : StableHlo.TRef sig ⟨S4096, .f32⟩) mulf
  :: [] )
theorem line1_1_sub : (line1_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
abbrev line1_2 : List (HloOp τ sig (Elt F)) :=
  [ StableHlo.unary main_v78_0 main_v79 (broadcastInDim S1x1x4096 ![2] bcast_S4096_S1x1x4096_2 : (⟨S4096, .f32⟩ : BufTy).Contents (Elt F) → (⟨S1x1x4096, .f32⟩ : BufTy).Contents (Elt F)),
    StableHlo.unary main_v79 main_v80 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    StableHlo.binary main_v76 main_v80 main_v81 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_v81 main_v82 (Host.exp : (⟨S1x2048x4096, .f32⟩ : BufTy).Contents (Elt F) → (⟨S1x2048x4096, .f32⟩ : BufTy).Contents (Elt F)),
    StableHlo.nullary main_cst_9 (constant S_ .f32 0x40000000#32),
    StableHlo.unary main_cst_9 main_v83 (broadcastInDim S1x2048x4096 ![] bcast_S_S1x2048x4096 : (⟨S_, .f32⟩ : BufTy).Contents (Elt F) → (⟨S1x2048x4096, .f32⟩ : BufTy).Contents (Elt F)),
    StableHlo.binary main_v83 main_v81 main_v84 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_v84 main_v85 (Host.expm1 : (⟨S1x2048x4096, .f32⟩ : BufTy).Contents (Elt F) → (⟨S1x2048x4096, .f32⟩ : BufTy).Contents (Elt F)),
    StableHlo.unary main_v84 main_v86 (Host.exp : (⟨S1x2048x4096, .f32⟩ : BufTy).Contents (Elt F) → (⟨S1x2048x4096, .f32⟩ : BufTy).Contents (Elt F)),
    StableHlo.unary main_v85 main_v87 (Host.negf : (⟨S1x2048x4096, .f32⟩ : BufTy).Contents (Elt F) → (⟨S1x2048x4096, .f32⟩ : BufTy).Contents (Elt F)),
    StableHlo.unary main_v87 main_v88 (Host.sqrt : (⟨S1x2048x4096, .f32⟩ : BufTy).Contents (Elt F) → (⟨S1x2048x4096, .f32⟩ : BufTy).Contents (Elt F)),
    StableHlo.nullary main_cst_10 (constant S_ .f32 0x3F000000#32),
    StableHlo.unary main_cst_10 main_v89 (broadcastInDim S1x2048x4096 ![] bcast_S_S1x2048x4096 : (⟨S_, .f32⟩ : BufTy).Contents (Elt F) → (⟨S1x2048x4096, .f32⟩ : BufTy).Contents (Elt F)),
    StableHlo.binary main_v89 main_v88 main_v90 (Host.divf : (⟨S1x2048x4096, .f32⟩ : BufTy).Contents (Elt F) → (⟨S1x2048x4096, .f32⟩ : BufTy).Contents (Elt F) → (⟨S1x2048x4096, .f32⟩ : BufTy).Contents (Elt F)),
    StableHlo.binary main_v74 main_v43 main_v91 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v88 main_v91 main_v92 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_11 (constant S_ .f32 0x00000000#32),
    StableHlo.unary main_cst_11 main_v93 (broadcastInDim S1x4096 ![] bcast_S_S1x4096 : (⟨S_, .f32⟩ : BufTy).Contents (Elt F) → (⟨S1x4096, .f32⟩ : BufTy).Contents (Elt F)),
    StableHlo.unary main_v82 main_v94 ((transpose S2048x1x4096 [1, 0, 2] · transposes_S1x2048x4096_S2048x1x4096_1_0_2) : (⟨S1x2048x4096, .f32⟩ : BufTy).Contents (Elt F) → (⟨S2048x1x4096, .f32⟩ : BufTy).Contents (Elt F)),
    StableHlo.unary main_v92 main_v95 ((transpose S2048x1x4096 [1, 0, 2] · transposes_S1x2048x4096_S2048x1x4096_1_0_2) : (⟨S1x2048x4096, .f32⟩ : BufTy).Contents (Elt F) → (⟨S2048x1x4096, .f32⟩ : BufTy).Contents (Elt F)),
    StableHlo.nullary main_cst_12 (constant S_ .f32 0x00000000#32),
    StableHlo.unary main_cst_12 main_v96 (broadcastInDim S2048x1x4096 ![] bcast_S_S2048x1x4096 : (⟨S_, .f32⟩ : BufTy).Contents (Elt F) → (⟨S2048x1x4096, .f32⟩ : BufTy).Contents (Elt F)),
    StableHlo.nullary main_cst_13 (constant S_ .f32 0x00000000#32),
    StableHlo.unary main_cst_13 main_v97 (broadcastInDim S2048x1x4096 ![] bcast_S_S2048x1x4096 : (⟨S_, .f32⟩ : BufTy).Contents (Elt F) → (⟨S2048x1x4096, .f32⟩ : BufTy).Contents (Elt F)),
    StableHlo.nullary main_c (constantI S_ 32 0#32),
    StableHlo.unary main_v94 main_v98_0 id,
    StableHlo.unary main_v95 main_v98_1 id,
    StableHlo.unary main_c main_v98_2 id,
    StableHlo.unary main_v93 main_v98_3 id,
    StableHlo.unary main_v96 main_v98_4 id,
    StableHlo.unary main_v97 main_v98_5 id ]
theorem line1_2_sub : (line1_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem main_part1_chain (c : Dev nD) : main_part1 (F := F) c = (Pipeline.chainK
  [ StableHlo.seq line1_0,
    StableHlo.seq line1_1 ]
  (StableHlo.seq line1_2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

abbrev line2_0 : List (HloOp τ sig (Elt F)) :=
  [ StableHlo.unary main_v98_4 main_v99 ((transpose S1x2048x4096 [1, 0, 2] · transposes_S2048x1x4096_S1x2048x4096_1_0_2) : (⟨S2048x1x4096, .f32⟩ : BufTy).Contents (Elt F) → (⟨S1x2048x4096, .f32⟩ : BufTy).Contents (Elt F)) ]
theorem line2_0_sub : (line2_0 : List (HloOp τ sig (Elt F))).Forall fun op => op.bufs ⊆ StableHlo.tcRefs τ sig :=
  StableHlo.unary_bufs_sub ..
abbrev line2_1 : List (HloOp τ sig (Elt F)) :=
  [ StableHlo.TRef.unary (.of main_v8 : StableHlo.TRef sig ⟨S1x2048x4096, .f32⟩) (.of main_call5_v0 : StableHlo.TRef sig ⟨S1x2048x4096, .f32⟩) Host.negf,
    StableHlo.TRef.unary (.of main_call5_v0 : StableHlo.TRef sig ⟨S1x2048x4096, .f32⟩) (.of main_call5_v1 : StableHlo.TRef sig ⟨S1x2048x4096, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S1x2048x4096, .f32⟩) (broadcastInDim S1x2048x4096 ![] bcast_S_S1x2048x4096),
    StableHlo.TRef.binary (.of main_call5_v2 : StableHlo.TRef sig ⟨S1x2048x4096, .f32⟩) (.of main_call5_v1 : StableHlo.TRef sig ⟨S1x2048x4096, .f32⟩) (.of main_call5_v3 : StableHlo.TRef sig ⟨S1x2048x4096, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S1x2048x4096, .f32⟩) (broadcastInDim S1x2048x4096 ![] bcast_S_S1x2048x4096),
    StableHlo.TRef.binary (.of main_call5_v4 : StableHlo.TRef sig ⟨S1x2048x4096, .f32⟩) (.of main_call5_v3 : StableHlo.TRef sig ⟨S1x2048x4096, .f32⟩) (.of main_v100_2 : StableHlo.TRef sig ⟨S1x2048x4096, .f32⟩) Host.divf,
    StableHlo.TRef.nullary (.of main_call5_cst_1 : StableHlo.TRef sig ⟨S_, .f32⟩) (constant S_ .f32 0x3F800000#32),
    StableHlo.TRef.unary (.of main_call5_cst_1 : StableHlo.TRef sig ⟨S_, .f32⟩) (.of main_call5_v6 : StableHlo.TRef sig ⟨S1x2048x4096, .f32⟩) (broadcastInDim S1x2048x4096 ![] bcast_S_S1x2048x4096),
    StableHlo.TRef.binary (.of main_call5_v6 : StableHlo.TRef sig ⟨S1x2048x4096, .f32⟩) (.of main_v100_2 : StableHlo.TRef sig ⟨S1x2048x4096, .f32⟩) (.of main_call5_v7 : StableHlo.TRef sig ⟨S1x2048x4096, .f32⟩) subf,
    StableHlo.TRef.binary (.of main_v100_2 : StableHlo.TRef sig ⟨S1x2048x4096, .f32⟩) (.of main_call5_v7 : StableHlo.TRef sig ⟨S1x2048x4096, .f32⟩) (.of main_v100_1 : StableHlo.TRef sig ⟨S1x2048x4096, .f32⟩) mulf,
    StableHlo.TRef.binary (.of main_v8 : StableHlo.TRef sig ⟨S1x2048x4096, .f32⟩) (.of main_v100_2 : StableHlo.TRef sig ⟨S1x2048x4096, .f32⟩) (.of main_v100_0 : StableHlo.TRef sig ⟨S1x2048x4096, .f32⟩) mulf ]
theorem line2_1_sub : (line2_1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
abbrev line2_2 : List (HloOp τ sig (Elt F)) :=
  [ StableHlo.binary main_v99 main_v100_0 main_v101 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_14 (constant S_ .f32 0x00000000#32),
    StableHlo.unary main_cst_14 main_v102 (broadcastInDim S1x4096 ![] bcast_S_S1x4096 : (⟨S_, .f32⟩ : BufTy).Contents (Elt F) → (⟨S1x4096, .f32⟩ : BufTy).Contents (Elt F)),
    StableHlo.binary main_v99 main_arg8 main_v103 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_arg8 main_v100_0 main_v104 (mulf : (⟨S1x2048x4096, .f32⟩ : BufTy).Contents (Elt F) → (⟨S1x2048x4096, .f32⟩ : BufTy).Contents (Elt F) → (⟨S1x2048x4096, .f32⟩ : BufTy).Contents (Elt F)) ]
theorem line2_2_sub : (line2_2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub ..⟩
abbrev line2_3 : List (HloOp τ sig (Elt F)) :=
  [ StableHlo.TRef.binary (.of main_v8 : StableHlo.TRef sig ⟨S1x2048x4096, .f32⟩) (.of main_v103 : StableHlo.TRef sig ⟨S1x2048x4096, .f32⟩) (.of main_call6_v0 : StableHlo.TRef sig ⟨S1x2048x4096, .f32⟩) mulf,
    StableHlo.TRef.binary (.of main_v103 : StableHlo.TRef sig ⟨S1x2048x4096, .f32⟩) (.of main_v100_2 : StableHlo.TRef sig ⟨S1x2048x4096, .f32⟩) (.of main_call6_v1 : StableHlo.TRef sig ⟨S1x2048x4096, .f32⟩) mulf,
    StableHlo.TRef.binary (.of main_call6_v0 : StableHlo.TRef sig ⟨S1x2048x4096, .f32⟩) (.of main_v100_1 : StableHlo.TRef sig ⟨S1x2048x4096, .f32⟩) (.of main_call6_v2 : StableHlo.TRef sig ⟨S1x2048x4096, .f32⟩) mulf,
    StableHlo.TRef.binary (.of main_call6_v1 : StableHlo.TRef sig ⟨S1x2048x4096, .f32⟩) (.of main_call6_v2 : StableHlo.TRef sig ⟨S1x2048x4096, .f32⟩) (.of main_v105 : StableHlo.TRef sig ⟨S1x2048x4096, .f32⟩) addf ]
theorem line2_3_sub : (line2_3 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
abbrev line2_4 : List (HloOp τ sig (Elt F)) :=
  [ StableHlo.unary main_v104 main_v106 ((transpose S2048x1x4096 [1, 0, 2] · transposes_S1x2048x4096_S2048x1x4096_1_0_2) : (⟨S1x2048x4096, .f32⟩ : BufTy).Contents (Elt F) → (⟨S2048x1x4096, .f32⟩ : BufTy).Contents (Elt F)),
    StableHlo.nullary main_cst_15 (constant S_ .f32 0x00000000#32),
    StableHlo.unary main_cst_15 main_v107 (broadcastInDim S1x4096 ![] bcast_S_S1x4096 : (⟨S_, .f32⟩ : BufTy).Contents (Elt F) → (⟨S1x4096, .f32⟩ : BufTy).Contents (Elt F)),
    StableHlo.nullary main_cst_16 (constant S_ .f32 0x00000000#32),
    StableHlo.unary main_cst_16 main_v108 (broadcastInDim S2048x1x4096 ![] bcast_S_S2048x1x4096 : (⟨S_, .f32⟩ : BufTy).Contents (Elt F) → (⟨S2048x1x4096, .f32⟩ : BufTy).Contents (Elt F)),
    StableHlo.nullary main_cst_17 (constant S_ .f32 0x00000000#32),
    StableHlo.unary main_cst_17 main_v109 (broadcastInDim S2048x1x4096 ![] bcast_S_S2048x1x4096 : (⟨S_, .f32⟩ : BufTy).Contents (Elt F) → (⟨S2048x1x4096, .f32⟩ : BufTy).Contents (Elt F)),
    StableHlo.nullary main_c_18 (constantI S_ 32 0#32),
    StableHlo.unary main_v106 main_v110_0 id,
    StableHlo.unary main_v98_5 main_v110_1 id,
    StableHlo.unary main_v94 main_v110_2 id,
    StableHlo.unary main_c_18 main_v110_3 id,
    StableHlo.unary main_v107 main_v110_4 id,
    StableHlo.unary main_v108 main_v110_5 id,
    StableHlo.unary main_v109 main_v110_6 id ]
theorem line2_4_sub : (line2_4 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev line2_5 : List (HloOp τ sig (Elt F)) :=
  [ StableHlo.unary main_v110_6 main_v111 ((transpose S1x2048x4096 [1, 0, 2] · transposes_S2048x1x4096_S1x2048x4096_1_0_2) : (⟨S2048x1x4096, .f32⟩ : BufTy).Contents (Elt F) → (⟨S1x2048x4096, .f32⟩ : BufTy).Contents (Elt F)),
    StableHlo.unary main_v110_5 main_v112 ((transpose S1x2048x4096 [1, 0, 2] · transposes_S2048x1x4096_S1x2048x4096_1_0_2) : (⟨S2048x1x4096, .f32⟩ : BufTy).Contents (Elt F) → (⟨S1x2048x4096, .f32⟩ : BufTy).Contents (Elt F)),
    StableHlo.binary main_v88 main_v111 main_v113 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v111 main_v91 main_v114 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v74 main_v113 main_v115 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v113 main_v43 main_v116 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v114 main_v90 main_v117 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_v117 main_v118 (Host.negf : (⟨S1x2048x4096, .f32⟩ : BufTy).Contents (Elt F) → (⟨S1x2048x4096, .f32⟩ : BufTy).Contents (Elt F)),
    StableHlo.binary main_v118 main_v86 main_v119 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_19 (constant S_ .f32 0x40000000#32),
    StableHlo.unary main_cst_19 main_v120 (broadcastInDim S1x2048x4096 ![] bcast_S_S1x2048x4096 : (⟨S_, .f32⟩ : BufTy).Contents (Elt F) → (⟨S1x2048x4096, .f32⟩ : BufTy).Contents (Elt F)),
    StableHlo.binary main_v120 main_v119 main_v121 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v112 main_v82 main_v122 (mulf : (⟨S1x2048x4096, .f32⟩ : BufTy).Contents (Elt F) → (⟨S1x2048x4096, .f32⟩ : BufTy).Contents (Elt F) → (⟨S1x2048x4096, .f32⟩ : BufTy).Contents (Elt F)),
    StableHlo.binary main_v121 main_v122 main_v123 (addf : (⟨S1x2048x4096, .f32⟩ : BufTy).Contents (Elt F) → (⟨S1x2048x4096, .f32⟩ : BufTy).Contents (Elt F) → (⟨S1x2048x4096, .f32⟩ : BufTy).Contents (Elt F)),
    StableHlo.binary main_v76 main_v123 main_v124 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_20 (constant S_ .f32 0x00000000#32),
    StableHlo.binary main_v124 main_cst_20 main_v125 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F)),
    StableHlo.reshape main_v125 main_v126 (rfl : (.f32 : EltTy) = .f32) shapeCasts_S1x4096_S1x1x4096,
    StableHlo.unary main_v79 main_v127 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    StableHlo.binary main_v123 main_v127 main_v128 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_21 (constant S_ .f32 0x00000000#32),
    StableHlo.binary main_v126 main_cst_21 main_v129 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F)) ]
theorem line2_5_sub : (line2_5 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub ..⟩
abbrev line2_6 : List (HloOp τ sig (Elt F)) :=
  [ StableHlo.TRef.binary (.of main_v129 : StableHlo.TRef sig ⟨S4096, .f32⟩) (.of main_v78_1 : StableHlo.TRef sig ⟨S4096, .f32⟩) (.of main_v130 : StableHlo.TRef sig ⟨S4096, .f32⟩) mulf ]
theorem line2_6_sub : (line2_6 : List (HloOp τ sig (Elt F))).Forall fun op => op.bufs ⊆ StableHlo.tcRefs τ sig :=
  StableHlo.binary_bufs_sub ..
abbrev line2_7 : List (HloOp τ sig (Elt F)) :=
  [ StableHlo.unary main_v130 main_v131 (Host.negf : (⟨S4096, .f32⟩ : BufTy).Contents (Elt F) → (⟨S4096, .f32⟩ : BufTy).Contents (Elt F)),
    StableHlo.nullary main_cst_22 (constant S_ .f32 0xC1000000#32),
    StableHlo.unary main_cst_22 main_v132 (broadcastInDim S1x2048x4096 ![] bcast_S_S1x2048x4096 : (⟨S_, .f32⟩ : BufTy).Contents (Elt F) → (⟨S1x2048x4096, .f32⟩ : BufTy).Contents (Elt F)),
    StableHlo.binary main_v132 main_v128 main_v133 (mulf : (⟨S1x2048x4096, .f32⟩ : BufTy).Contents (Elt F) → (⟨S1x2048x4096, .f32⟩ : BufTy).Contents (Elt F) → (⟨S1x2048x4096, .f32⟩ : BufTy).Contents (Elt F)),
    StableHlo.reshape main_v116 main_v134 (rfl : (.f32 : EltTy) = .f32) shapeCasts_S1x2048x4096_S1x2048x16x256,
    StableHlo.binary main_v134 main_v73 main_v135 (mulf : (⟨S1x2048x16x256, .f32⟩ : BufTy).Contents (Elt F) → (⟨S1x2048x16x256, .f32⟩ : BufTy).Contents (Elt F) → (⟨S1x2048x16x256, .f32⟩ : BufTy).Contents (Elt F)),
    StableHlo.nullary main_cst_23 (constant S_ .f32 0x00000000#32),
    StableHlo.binary main_v135 main_cst_23 main_v136 ((fun x v => Host.reduceAdd x v reducesTo_S1x2048x16x256_S1x16x256_d1 h_S_) : (⟨S1x2048x16x256, .f32⟩ : BufTy).Contents (Elt F) → (⟨S_, .f32⟩ : BufTy).Contents (Elt F) → (⟨S1x16x256, .f32⟩ : BufTy).Contents (Elt F)),
    StableHlo.reshape main_v136 main_v137 (rfl : (.f32 : EltTy) = .f32) shapeCasts_S1x16x256_S1x1x16x256,
    StableHlo.nullary main_cst_24 (constant S_ .f32 0x00000000#32),
    StableHlo.binary main_v137 main_cst_24 main_v138 ((fun x v => Host.reduceAdd x v reducesTo_S1x1x16x256_S16x256_d0_1 h_S_) : (⟨S1x1x16x256, .f32⟩ : BufTy).Contents (Elt F) → (⟨S_, .f32⟩ : BufTy).Contents (Elt F) → (⟨S16x256, .f32⟩ : BufTy).Contents (Elt F)),
    StableHlo.unary main_v135 main_v139 ((transpose S16x256x1x2048 [2, 3, 0, 1] · transposes_S1x2048x16x256_S16x256x1x2048_2_3_0_1) : (⟨S1x2048x16x256, .f32⟩ : BufTy).Contents (Elt F) → (⟨S16x256x1x2048, .f32⟩ : BufTy).Contents (Elt F)) ]
theorem line2_7_sub : (line2_7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub ..⟩
theorem main_part2_chain (c : Dev nD) : main_part2 (F := F) c = (Pipeline.chainK
  [ HostLoop.enter 0,
    StableHlo.seq line2_0,
    StableHlo.seq line2_1,
    StableHlo.seq line2_2,
    StableHlo.seq line2_3,
    StableHlo.seq line2_4,
    HostLoop.enter 1,
    StableHlo.seq line2_5,
    StableHlo.seq line2_6 ]
  (StableHlo.seq line2_7) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

abbrev line3_0 : List (HloOp τ sig (Elt F)) :=
  ( StableHlo.binary main_v139 main_v4 main_v140 ((fun l r => Host.dotGeneral dot_S16x256x1x2048_S16x256x256_S16x1x2048x256_1_2_23_1_0_0 none l r) : (⟨S16x256x1x2048, .f32⟩ : BufTy).Contents (Elt F) → (⟨S16x256x256, .f32⟩ : BufTy).Contents (Elt F) → (⟨S16x1x2048x256, .f32⟩ : BufTy).Contents (Elt F))
  :: StableHlo.unary main_v140 main_v141 ((transpose S1x2048x16x256 [1, 2, 0, 3] · transposes_S16x1x2048x256_S1x2048x16x256_1_2_0_3) : (⟨S16x1x2048x256, .f32⟩ : BufTy).Contents (Elt F) → (⟨S1x2048x16x256, .f32⟩ : BufTy).Contents (Elt F))
  :: StableHlo.binary main_v139 main_v44 main_v142 ((fun l r => Host.dotGeneral dot_S16x256x1x2048_S1x2048x16x256_S16x256x256_23_01_1_3_0_2 none l r) : (⟨S16x256x1x2048, .f32⟩ : BufTy).Contents (Elt F) → (⟨S1x2048x16x256, .f32⟩ : BufTy).Contents (Elt F) → (⟨S16x256x256, .f32⟩ : BufTy).Contents (Elt F))
  :: StableHlo.unary main_v142 main_v143 ((transpose S16x256x256 [0, 2, 1] · transposes_S16x256x256_S16x256x256_0_2_1) : (⟨S16x256x256, .f32⟩ : BufTy).Contents (Elt F) → (⟨S16x256x256, .f32⟩ : BufTy).Contents (Elt F))
  :: StableHlo.reshape main_v133 main_v144 (rfl : (.f32 : EltTy) = .f32) shapeCasts_S1x2048x4096_S1x2048x16x256
  :: StableHlo.binary main_v144 main_v58 main_v145 (mulf : (⟨S1x2048x16x256, .f32⟩ : BufTy).Contents (Elt F) → (⟨S1x2048x16x256, .f32⟩ : BufTy).Contents (Elt F) → (⟨S1x2048x16x256, .f32⟩ : BufTy).Contents (Elt F))
  :: StableHlo.nullary main_cst_25 (constant S_ .f32 0x00000000#32)
  :: StableHlo.binary main_v145 main_cst_25 main_v146 ((fun x v => Host.reduceAdd x v reducesTo_S1x2048x16x256_S1x16x256_d1 h_S_) : (⟨S1x2048x16x256, .f32⟩ : BufTy).Contents (Elt F) → (⟨S_, .f32⟩ : BufTy).Contents (Elt F) → (⟨S1x16x256, .f32⟩ : BufTy).Contents (Elt F))
  :: StableHlo.reshape main_v146 main_v147 (rfl : (.f32 : EltTy) = .f32) shapeCasts_S1x16x256_S1x1x16x256
  :: StableHlo.nullary main_cst_26 (constant S_ .f32 0x00000000#32)
  :: StableHlo.binary main_v147 main_cst_26 main_v148 ((fun x v => Host.reduceAdd x v reducesTo_S1x1x16x256_S16x256_d0_1 h_S_) : (⟨S1x1x16x256, .f32⟩ : BufTy).Contents (Elt F) → (⟨S_, .f32⟩ : BufTy).Contents (Elt F) → (⟨S16x256, .f32⟩ : BufTy).Contents (Elt F))
  :: StableHlo.unary main_v145 main_v149 ((transpose S16x256x1x2048 [2, 3, 0, 1] · transposes_S1x2048x16x256_S16x256x1x2048_2_3_0_1) : (⟨S1x2048x16x256, .f32⟩ : BufTy).Contents (Elt F) → (⟨S16x256x1x2048, .f32⟩ : BufTy).Contents (Elt F))
  :: StableHlo.binary main_v149 main_v2 main_v150 ((fun l r => Host.dotGeneral dot_S16x256x1x2048_S16x256x256_S16x1x2048x256_1_2_23_1_0_0 none l r) : (⟨S16x256x1x2048, .f32⟩ : BufTy).Contents (Elt F) → (⟨S16x256x256, .f32⟩ : BufTy).Contents (Elt F) → (⟨S16x1x2048x256, .f32⟩ : BufTy).Contents (Elt F))
  :: StableHlo.unary main_v150 main_v151 ((transpose S1x2048x16x256 [1, 2, 0, 3] · transposes_S16x1x2048x256_S1x2048x16x256_1_2_0_3) : (⟨S16x1x2048x256, .f32⟩ : BufTy).Contents (Elt F) → (⟨S1x2048x16x256, .f32⟩ : BufTy).Contents (Elt F))
  :: StableHlo.binary main_v141 main_v151 main_v152 (addf : (⟨S1x2048x16x256, .f32⟩ : BufTy).Contents (Elt F) → (⟨S1x2048x16x256, .f32⟩ : BufTy).Contents (Elt F) → (⟨S1x2048x16x256, .f32⟩ : BufTy).Contents (Elt F))
  :: StableHlo.binary main_v149 main_v44 main_v153 ((fun l r => Host.dotGeneral dot_S16x256x1x2048_S1x2048x16x256_S16x256x256_23_01_1_3_0_2 none l r) : (⟨S16x256x1x2048, .f32⟩ : BufTy).Contents (Elt F) → (⟨S1x2048x16x256, .f32⟩ : BufTy).Contents (Elt F) → (⟨S16x256x256, .f32⟩ : BufTy).Contents (Elt F))
  :: StableHlo.unary main_v153 main_v154 ((transpose S16x256x256 [0, 2, 1] · transposes_S16x256x256_S16x256x256_0_2_1) : (⟨S16x256x256, .f32⟩ : BufTy).Contents (Elt F) → (⟨S16x256x256, .f32⟩ : BufTy).Contents (Elt F))
  :: StableHlo.reshape main_v152 main_v155 (rfl : (.f32 : EltTy) = .f32) shapeCasts_S1x2048x16x256_S1x2048x4096
  :: StableHlo.binary main_v115 main_v155 main_v156 (addf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_27 (constant S_ .f32 0x00000000#32)
  :: StableHlo.binary main_v156 main_cst_27 main_v157 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F))
  :: StableHlo.reshape main_v157 main_v158 (rfl : (.f32 : EltTy) = .f32) shapeCasts_S1x4096_S1x1x4096
  :: StableHlo.nullary main_cst_28 (constant S_ .f32 0x00000000#32)
  :: StableHlo.binary main_v158 main_cst_28 main_v159 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F))
  :: StableHlo.unary main_v37 main_v160 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v160 main_v156 main_v161 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v156 main_v36 main_v162 (mulf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_29 (constant S_ .f32 0x00000000#32)
  :: StableHlo.binary main_v162 main_cst_29 main_v163 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F))
  :: StableHlo.reshape main_v163 main_v164 (rfl : (.f32 : EltTy) = .f32) shapeCasts_S1x4096_S1x1x4096
  :: StableHlo.nullary main_cst_30 (constant S_ .f32 0x00000000#32)
  :: StableHlo.binary main_v164 main_cst_30 main_v165 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F))
  :: StableHlo.nullary main_cst_31 (constant S_ .f32 0x00000000#32)
  :: StableHlo.binary main_v161 main_cst_31 main_v166 ((fun x v => pad S1x2051x4096 ![0, 3, 0] ![0, 0, 0] ![0, 0, 0] x v pads_S1x2048x4096_S1x2051x4096_000_300_000 h_S_) : (⟨S1x2048x4096, .f32⟩ : BufTy).Contents (Elt F) → (⟨S_, .f32⟩ : BufTy).Contents (Elt F) → (⟨S1x2051x4096, .f32⟩ : BufTy).Contents (Elt F))
  :: StableHlo.unary main_v165 main_v167 (broadcastInDim S1x4096 ![1] bcast_S4096_S1x4096_1 : (⟨S4096, .f32⟩ : BufTy).Contents (Elt F) → (⟨S1x4096, .f32⟩ : BufTy).Contents (Elt F))
  :: StableHlo.nullary main_cst_32 (constant S_ .f32 0x00000000#32)
  :: StableHlo.binary main_v167 main_cst_32 main_v168 ((fun x v => pad S4x4096 ![3, 0] ![0, 0] ![0, 0] x v pads_S1x4096_S4x4096_300_000 h_S_) : (⟨S1x4096, .f32⟩ : BufTy).Contents (Elt F) → (⟨S_, .f32⟩ : BufTy).Contents (Elt F) → (⟨S4x4096, .f32⟩ : BufTy).Contents (Elt F))
  :: StableHlo.unary main_v30 main_v169 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v169 main_v156 main_v170 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v156 main_v29 main_v171 (mulf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_33 (constant S_ .f32 0x00000000#32)
  :: StableHlo.binary main_v171 main_cst_33 main_v172 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F))
  :: StableHlo.reshape main_v172 main_v173 (rfl : (.f32 : EltTy) = .f32) shapeCasts_S1x4096_S1x1x4096
  :: StableHlo.nullary main_cst_34 (constant S_ .f32 0x00000000#32)
  :: StableHlo.binary main_v173 main_cst_34 main_v174 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F))
  :: StableHlo.nullary main_cst_35 (constant S_ .f32 0x00000000#32)
  :: StableHlo.binary main_v170 main_cst_35 main_v175 ((fun x v => pad S1x2051x4096 ![0, 2, 0] ![0, 1, 0] ![0, 0, 0] x v pads_S1x2048x4096_S1x2051x4096_000_210_000 h_S_) : (⟨S1x2048x4096, .f32⟩ : BufTy).Contents (Elt F) → (⟨S_, .f32⟩ : BufTy).Contents (Elt F) → (⟨S1x2051x4096, .f32⟩ : BufTy).Contents (Elt F))
  :: StableHlo.binary main_v166 main_v175 main_v176 (addf : (⟨S1x2051x4096, .f32⟩ : BufTy).Contents (Elt F) → (⟨S1x2051x4096, .f32⟩ : BufTy).Contents (Elt F) → (⟨S1x2051x4096, .f32⟩ : BufTy).Contents (Elt F))
  :: StableHlo.unary main_v174 main_v177 (broadcastInDim S1x4096 ![1] bcast_S4096_S1x4096_1 : (⟨S4096, .f32⟩ : BufTy).Contents (Elt F) → (⟨S1x4096, .f32⟩ : BufTy).Contents (Elt F))
  :: StableHlo.nullary main_cst_36 (constant S_ .f32 0x00000000#32)
  :: StableHlo.binary main_v177 main_cst_36 main_v178 ((fun x v => pad S4x4096 ![2, 0] ![1, 0] ![0, 0] x v pads_S1x4096_S4x4096_210_000 h_S_) : (⟨S1x4096, .f32⟩ : BufTy).Contents (Elt F) → (⟨S_, .f32⟩ : BufTy).Contents (Elt F) → (⟨S4x4096, .f32⟩ : BufTy).Contents (Elt F))
  :: StableHlo.binary main_v168 main_v178 main_v179 (addf : (⟨S4x4096, .f32⟩ : BufTy).Contents (Elt F) → (⟨S4x4096, .f32⟩ : BufTy).Contents (Elt F) → (⟨S4x4096, .f32⟩ : BufTy).Contents (Elt F))
  :: StableHlo.unary main_v23 main_v180 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v180 main_v156 main_v181 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v156 main_v22 main_v182 (mulf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_37 (constant S_ .f32 0x00000000#32)
  :: StableHlo.binary main_v182 main_cst_37 main_v183 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F))
  :: StableHlo.reshape main_v183 main_v184 (rfl : (.f32 : EltTy) = .f32) shapeCasts_S1x4096_S1x1x4096
  :: StableHlo.nullary main_cst_38 (constant S_ .f32 0x00000000#32)
  :: StableHlo.binary main_v184 main_cst_38 main_v185 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F))
  :: [] )
theorem line3_0_sub : (line3_0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub ..⟩
theorem main_part3_chain (c : Dev nD) : main_part3 (F := F) c = (Pipeline.chainK
  [  ]
  (StableHlo.seq line3_0) : Prog (TpuEff nD τ sig (Elt F) (HostLoop.Sig (Pipeline.Sig Λ₀ (Fin 0) fun p => (pcfgs (F := F) p).Adm) 2) .tc) PUnit) := by
  chain_rfl

abbrev line4_0 : List (HloOp τ sig (Elt F)) :=
  ( StableHlo.nullary main_cst_39 (constant S_ .f32 0x00000000#32)
  :: StableHlo.binary main_v181 main_cst_39 main_v186 ((fun x v => pad S1x2051x4096 ![0, 1, 0] ![0, 2, 0] ![0, 0, 0] x v pads_S1x2048x4096_S1x2051x4096_000_120_000 h_S_) : (⟨S1x2048x4096, .f32⟩ : BufTy).Contents (Elt F) → (⟨S_, .f32⟩ : BufTy).Contents (Elt F) → (⟨S1x2051x4096, .f32⟩ : BufTy).Contents (Elt F))
  :: StableHlo.binary main_v176 main_v186 main_v187 (addf : (⟨S1x2051x4096, .f32⟩ : BufTy).Contents (Elt F) → (⟨S1x2051x4096, .f32⟩ : BufTy).Contents (Elt F) → (⟨S1x2051x4096, .f32⟩ : BufTy).Contents (Elt F))
  :: StableHlo.unary main_v185 main_v188 (broadcastInDim S1x4096 ![1] bcast_S4096_S1x4096_1 : (⟨S4096, .f32⟩ : BufTy).Contents (Elt F) → (⟨S1x4096, .f32⟩ : BufTy).Contents (Elt F))
  :: StableHlo.nullary main_cst_40 (constant S_ .f32 0x00000000#32)
  :: StableHlo.binary main_v188 main_cst_40 main_v189 ((fun x v => pad S4x4096 ![1, 0] ![2, 0] ![0, 0] x v pads_S1x4096_S4x4096_120_000 h_S_) : (⟨S1x4096, .f32⟩ : BufTy).Contents (Elt F) → (⟨S_, .f32⟩ : BufTy).Contents (Elt F) → (⟨S4x4096, .f32⟩ : BufTy).Contents (Elt F))
  :: StableHlo.binary main_v179 main_v189 main_v190 (addf : (⟨S4x4096, .f32⟩ : BufTy).Contents (Elt F) → (⟨S4x4096, .f32⟩ : BufTy).Contents (Elt F) → (⟨S4x4096, .f32⟩ : BufTy).Contents (Elt F))
  :: StableHlo.unary main_v15 main_v191 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F))
  :: StableHlo.binary main_v191 main_v156 main_v192 (mulf : (⟨S1x2048x4096, .f32⟩ : BufTy).Contents (Elt F) → (⟨S1x2048x4096, .f32⟩ : BufTy).Contents (Elt F) → (⟨S1x2048x4096, .f32⟩ : BufTy).Contents (Elt F))
  :: StableHlo.binary main_v156 main_v14 main_v193 (mulf : (⟨S1x2048x4096, .f32⟩ : BufTy).Contents (Elt F) → (⟨S1x2048x4096, .f32⟩ : BufTy).Contents (Elt F) → (⟨S1x2048x4096, .f32⟩ : BufTy).Contents (Elt F))
  :: StableHlo.nullary main_cst_41 (constant S_ .f32 0x00000000#32)
  :: StableHlo.binary main_v193 main_cst_41 main_v194 ((fun x v => Host.reduceAdd x v reducesTo_S1x2048x4096_S1x4096_d1 h_S_) : (⟨S1x2048x4096, .f32⟩ : BufTy).Contents (Elt F) → (⟨S_, .f32⟩ : BufTy).Contents (Elt F) → (⟨S1x4096, .f32⟩ : BufTy).Contents (Elt F))
  :: StableHlo.reshape main_v194 main_v195 (rfl : (.f32 : EltTy) = .f32) shapeCasts_S1x4096_S1x1x4096
  :: StableHlo.nullary main_cst_42 (constant S_ .f32 0x00000000#32)
  :: StableHlo.binary main_v195 main_cst_42 main_v196 ((fun x v => Host.reduceAdd x v reducesTo_S1x1x4096_S4096_d0_1 h_S_) : (⟨S1x1x4096, .f32⟩ : BufTy).Contents (Elt F) → (⟨S_, .f32⟩ : BufTy).Contents (Elt F) → (⟨S4096, .f32⟩ : BufTy).Contents (Elt F))
  :: StableHlo.nullary main_cst_43 (constant S_ .f32 0x00000000#32)
  :: StableHlo.binary main_v192 main_cst_43 main_v197 ((fun x v => pad S1x2051x4096 ![0, 0, 0] ![0, 3, 0] ![0, 0, 0] x v pads_S1x2048x4096_S1x2051x4096_000_030_000 h_S_) : (⟨S1x2048x4096, .f32⟩ : BufTy).Contents (Elt F) → (⟨S_, .f32⟩ : BufTy).Contents (Elt F) → (⟨S1x2051x4096, .f32⟩ : BufTy).Contents (Elt F))
  :: StableHlo.binary main_v187 main_v197 main_v198 (addf : (⟨S1x2051x4096, .f32⟩ : BufTy).Contents (Elt F) → (⟨S1x2051x4096, .f32⟩ : BufTy).Contents (Elt F) → (⟨S1x2051x4096, .f32⟩ : BufTy).Contents (Elt F))
  :: StableHlo.unary main_v196 main_v199 (broadcastInDim S1x4096 ![1] bcast_S4096_S1x4096_1 : (⟨S4096, .f32⟩ : BufTy).Contents (Elt F) → (⟨S1x4096, .f32⟩ : BufTy).Contents (Elt F))
  :: StableHlo.nullary main_cst_44 (constant S_ .f32 0x00000000#32)
  :: StableHlo.binary main_v199 main_cst_44 main_v200 ((fun x v => pad S4x4096 ![0, 0] ![3, 0] ![0, 0] x v pads_S1x4096_S4x4096_030_000 h_S_) : (⟨S1x4096, .f32⟩ : BufTy).Contents (Elt F) → (⟨S_, .f32⟩ : BufTy).Contents (Elt F) → (⟨S4x4096, .f32⟩ : BufTy).Contents (Elt F))
  :: StableHlo.binary main_v190 main_v200 main_v201 (addf : (⟨S4x4096, .f32⟩ : BufTy).Contents (Elt F) → (⟨S4x4096, .f32⟩ : BufTy).Contents (Elt F) → (⟨S4x4096, .f32⟩ : BufTy).Contents (Elt F))
  :: StableHlo.unary main_v198 main_v202 ((extractStridedSlice S1x3x4096 ![0, 0, 0] · slices_S1x2051x4096_S1x3x4096_0_0_0) : (⟨S1x2051x4096, .f32⟩ : BufTy).Contents (Elt F) → (⟨S1x3x4096, .f32⟩ : BufTy).Contents (Elt F))
  :: StableHlo.unary main_v198 main_v203 ((extractStridedSlice S1x2048x4096 ![0, 3, 0] · slices_S1x2051x4096_S1x2048x4096_0_3_0) : (⟨S1x2051x4096, .f32⟩ : BufTy).Contents (Elt F) → (⟨S1x2048x4096, .f32⟩ : BufTy).Contents (Elt F))
  :: StableHlo.binary main_v203 main_v105 main_v204 ((fun a b => concatenate S1x2048x8192 2 [⟨S1x2048x4096, a⟩, ⟨S1x2048x4096, b⟩] concatenates_S1x2048x4096_S1x2048x4096_S1x2048x8192_d2) : (⟨S1x2048x4096, .f32⟩ : BufTy).Contents (Elt F) → (⟨S1x2048x4096, .f32⟩ : BufTy).Contents (Elt F) → (⟨S1x2048x8192, .f32⟩ : BufTy).Contents (Elt F))
  :: StableHlo.unary main_v131 main_v205 (broadcastInDim S1x4096 ![1] bcast_S4096_S1x4096_1 : (⟨S4096, .f32⟩ : BufTy).Contents (Elt F) → (⟨S1x4096, .f32⟩ : BufTy).Contents (Elt F))
  :: StableHlo.unary main_v138 main_v206 (broadcastInDim S1x16x256 ![1, 2] bcast_S16x256_S1x16x256_1_2 : (⟨S16x256, .f32⟩ : BufTy).Contents (Elt F) → (⟨S1x16x256, .f32⟩ : BufTy).Contents (Elt F))
  :: StableHlo.unary main_v143 main_v207 (broadcastInDim S1x16x256x256 ![1, 2, 3] bcast_S16x256x256_S1x16x256x256_1_2_3 : (⟨S16x256x256, .f32⟩ : BufTy).Contents (Elt F) → (⟨S1x16x256x256, .f32⟩ : BufTy).Contents (Elt F))
  :: StableHlo.unary main_v148 main_v208 (broadcastInDim S1x16x256 ![1, 2] bcast_S16x256_S1x16x256_1_2 : (⟨S16x256, .f32⟩ : BufTy).Contents (Elt F) → (⟨S1x16x256, .f32⟩ : BufTy).Contents (Elt F))
  :: StableHlo.unary main_v154 main_v209 (broadcastInDim S1x16x256x256 ![1, 2, 3] bcast_S16x256x256_S1x16x256x256_1_2_3 : (⟨S16x256x256, .f32⟩ : BufTy).Contents (Elt F) → (⟨S1x16x256x256, .f32⟩ : BufTy).Contents (Elt F))
  :: StableHlo.unary main_v159 main_v210 (broadcastInDim S1x4096 ![1] bcast_S4096_S1x4096_1 : (⟨S4096, .f32⟩ : BufTy).Contents (Elt F) → (⟨S1x4096, .f32⟩ : BufTy).Contents (Elt F))
  :: StableHlo.unary main_v201 main_v211 (broadcastInDim S1x4x4096 ![1, 2] bcast_S4x4096_S1x4x4096_1_2 : (⟨S4x4096, .f32⟩ : BufTy).Contents (Elt F) → (⟨S1x4x4096, .f32⟩ : BufTy).Contents (Elt F))
  :: StableHlo.reshape main_v208 main_v212 (rfl : (.f32 : EltTy) = .f32) shapeCasts_S1x16x256_S1x4096
  :: StableHlo.reshape main_v206 main_v213 (rfl : (.f32 : EltTy) = .f32) shapeCasts_S1x16x256_S1x4096
  :: StableHlo.reshape main_v211 main_v214 (rfl : (.f32 : EltTy) = .f32) shapeCasts_S1x4x4096_S4x4096
  :: StableHlo.nullary main_cst_45 (constant S_ .f32 0x00000000#32)
  :: StableHlo.unary main_cst_45 main_v215 (broadcastInDim S8x4096 ![] bcast_S_S8x4096 : (⟨S_, .f32⟩ : BufTy).Contents (Elt F) → (⟨S8x4096, .f32⟩ : BufTy).Contents (Elt F))
  :: StableHlo.nary ![main_v212, main_v213, main_v205, main_v210, main_v214, main_v215] main_v216 (fun u => (concatenate S16x4096 0 [⟨S1x4096, (u 0 : (⟨S1x4096, .f32⟩ : BufTy).Contents (Elt F))⟩, ⟨S1x4096, (u 1 : (⟨S1x4096, .f32⟩ : BufTy).Contents (Elt F))⟩, ⟨S1x4096, (u 2 : (⟨S1x4096, .f32⟩ : BufTy).Contents (Elt F))⟩, ⟨S1x4096, (u 3 : (⟨S1x4096, .f32⟩ : BufTy).Contents (Elt F))⟩, ⟨S4x4096, (u 4 : (⟨S4x4096, .f32⟩ : BufTy).Contents (Elt F))⟩, ⟨S8x4096, (u 5 : (⟨S8x4096, .f32⟩ : BufTy).Contents (Elt F))⟩] concatenates_S1x4096_S1x4096_S1x4096_S1x4096_S4x4096_S8x4096_S16x4096_d0 : (⟨S16x4096, .f32⟩ : BufTy).Contents (Elt F)))
  :: StableHlo.reshape main_v101 main_v217 (rfl : (.f32 : EltTy) = .f32) shapeCasts_S1x2048x4096_S2048x4096
  :: StableHlo.unary main_v217 main_v218 ((truncf .bf16 · bitsLt_bf16_f32) : (⟨S2048x4096, .f32⟩ : BufTy).Contents (Elt F) → (⟨S2048x4096, .bf16⟩ : BufTy).Contents (Elt F))
  :: StableHlo.reshape main_v204 main_v219 (rfl : (.f32 : EltTy) = .f32) shapeCasts_S1x2048x8192_S2048x8192
  :: StableHlo.reshape main_v219 main_v220 (rfl : (.f32 : EltTy) = .f32) shapeCasts_S2048x8192_S2048x2x4096
  :: StableHlo.unary main_v220 main_v221 ((transpose S2x2048x4096 [1, 0, 2] · transposes_S2048x2x4096_S2x2048x4096_1_0_2) : (⟨S2048x2x4096, .f32⟩ : BufTy).Contents (Elt F) → (⟨S2x2048x4096, .f32⟩ : BufTy).Contents (Elt F))
  :: StableHlo.unary main_v221 main_v222 ((truncf .bf16 · bitsLt_bf16_f32) : (⟨S2x2048x4096, .f32⟩ : BufTy).Contents (Elt F) → (⟨S2x2048x4096, .bf16⟩ : BufTy).Contents (Elt F))
  :: StableHlo.reshape main_v209 main_v223 (rfl : (.f32 : EltTy) = .f32) shapeCasts_S1x16x256x256_S16x256x256
  :: StableHlo.unary main_v223 main_v224 ((truncf .bf16 · bitsLt_bf16_f32) : (⟨S16x256x256, .f32⟩ : BufTy).Contents (Elt F) → (⟨S16x256x256, .bf16⟩ : BufTy).Contents (Elt F))
  :: StableHlo.reshape main_v207 main_v225 (rfl : (.f32 : EltTy) = .f32) shapeCasts_S1x16x256x256_S16x256x256
  :: StableHlo.unary main_v225 main_v226 ((truncf .bf16 · bitsLt_bf16_f32) : (⟨S16x256x256, .f32⟩ : BufTy).Contents (Elt F) → (⟨S16x256x256, .bf16⟩ : BufTy).Contents (Elt F))
  :: [] )
theorem line4_0_sub : (line4_0 : List (HloOp τ sig (Elt F))).Forall fun op => op.bufs ⊆ StableHlo.tcRefs τ sig :=
  ⟨StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.nullary_bufs_sub .., StableHlo.unary_bufs_sub .., StableHlo.nary_bufs_sub .., StableHlo.reshape_bufs_sub .., StableHlo.unary_bufs_sub .., StableHlo.reshape_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub ..⟩
theorem main_part4_chain (c : Dev nD) : main_part4 (F := F) c = (Pipeline.chain
  [ StableHlo.seq line4_0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

theorem main_chain_windows (c : Dev nD) : main (F := F) c = (Pipeline.chain
  [ StableHlo.seq line0_0,
    StableHlo.seq line1_0,
    StableHlo.seq line1_1,
    StableHlo.seq line1_2,
    HostLoop.enter 0,
    StableHlo.seq line2_0,
    StableHlo.seq line2_1,
    StableHlo.seq line2_2,
    StableHlo.seq line2_3,
    StableHlo.seq line2_4,
    HostLoop.enter 1,
    StableHlo.seq line2_5,
    StableHlo.seq line2_6,
    StableHlo.seq line2_7,
    StableHlo.seq line3_0,
    StableHlo.seq line4_0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

abbrev trip0_0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v98_0 : StableHlo.TRef sig ⟨S2048x1x4096, .f32⟩) ![(.of main_v98_2 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while0b_call1_v0 : StableHlo.TRef sig ⟨S1x1x4096, .f32⟩) (.of main_while0b_v227 : StableHlo.TRef sig ⟨S1x4096, .f32⟩) (rfl : (.f32 : EltTy) = .f32) shapeCasts_S1x1x4096_S1x4096 ]
theorem trip0_0_sub : (trip0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev trip0_1 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v98_1 : StableHlo.TRef sig ⟨S2048x1x4096, .f32⟩) ![(.of main_v98_2 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while0b_call2_v0 : StableHlo.TRef sig ⟨S1x1x4096, .f32⟩) (.of main_while0b_v228 : StableHlo.TRef sig ⟨S1x4096, .f32⟩) (rfl : (.f32 : EltTy) = .f32) shapeCasts_S1x1x4096_S1x4096 ]
theorem trip0_1_sub : (trip0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev trip0_2 : List (HloOp τ sig (Elt F)) :=
  [ StableHlo.binary main_while0b_v227 main_v98_3 main_while0b_v229 (mulf : (⟨S1x4096, .f32⟩ : BufTy).Contents (Elt F) → (⟨S1x4096, .f32⟩ : BufTy).Contents (Elt F) → (⟨S1x4096, .f32⟩ : BufTy).Contents (Elt F)),
    StableHlo.binary main_while0b_v229 main_while0b_v228 main_while0b_v230 (addf : (⟨S1x4096, .f32⟩ : BufTy).Contents (Elt F) → (⟨S1x4096, .f32⟩ : BufTy).Contents (Elt F) → (⟨S1x4096, .f32⟩ : BufTy).Contents (Elt F)) ]
theorem trip0_2_sub : (trip0_2 : List (HloOp τ sig (Elt F))).Forall fun op => op.bufs ⊆ StableHlo.tcRefs τ sig :=
  ⟨StableHlo.binary_bufs_sub .., StableHlo.binary_bufs_sub ..⟩
abbrev trip0_3 : List (HloOp τ sig (Elt F)) :=
  [ StableHlo.TRef.unary (.of main_while0b_v230 : StableHlo.TRef sig ⟨S1x4096, .f32⟩) (.of main_while0b_call3_v0 : StableHlo.TRef sig ⟨S1x1x4096, .f32⟩) (broadcastInDim S1x1x4096 ![1, 2] bcast_S1x4096_S1x1x4096_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v98_4 : StableHlo.TRef sig ⟨S2048x1x4096, .f32⟩) (.of main_while0b_call3_v0 : StableHlo.TRef sig ⟨S1x1x4096, .f32⟩) ![(.of main_v98_2 : StableHlo.TRef sig ⟨S_, .i32⟩), (.of main_while0b_call3_c : StableHlo.TRef sig ⟨S_, .i32⟩), (.of main_while0b_call3_c_0 : StableHlo.TRef sig ⟨S_, .i32⟩)] (.of main_while0b_v231 : StableHlo.TRef sig ⟨S2048x1x4096, .f32⟩) (fun x u i => Host.dynamicUpdateSlice x u (fun k => (i k (Shape.Idx.first h_S_)).toInt) updateFits_S2048x1x4096_S1x1x4096) ]
theorem trip0_3_sub : (trip0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev trip0_4 : List (HloOp τ sig (Elt F)) :=
  [ StableHlo.TRef.unary (.of main_v98_3 : StableHlo.TRef sig ⟨S1x4096, .f32⟩) (.of main_while0b_call4_v0 : StableHlo.TRef sig ⟨S1x1x4096, .f32⟩) (broadcastInDim S1x1x4096 ![1, 2] bcast_S1x4096_S1x1x4096_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v98_5 : StableHlo.TRef sig ⟨S2048x1x4096, .f32⟩) (.of main_while0b_call4_v0 : StableHlo.TRef sig ⟨S1x1x4096, .f32⟩) ![(.of main_v98_2 : StableHlo.TRef sig ⟨S_, .i32⟩), (.of main_while0b_call4_c : StableHlo.TRef sig ⟨S_, .i32⟩), (.of main_while0b_call4_c_0 : StableHlo.TRef sig ⟨S_, .i32⟩)] (.of main_while0b_v232 : StableHlo.TRef sig ⟨S2048x1x4096, .f32⟩) (fun x u i => Host.dynamicUpdateSlice x u (fun k => (i k (Shape.Idx.first h_S_)).toInt) updateFits_S2048x1x4096_S1x1x4096) ]
theorem trip0_4_sub : (trip0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev trip0_5 : List (HloOp τ sig (Elt F)) :=
  [ StableHlo.nullary main_while0b_c_51 (constantI S_ 32 1#32),
    StableHlo.binary main_v98_2 main_while0b_c_51 main_while0b_v233 (addi : (⟨S_, .i32⟩ : BufTy).Contents (Elt F) → (⟨S_, .i32⟩ : BufTy).Contents (Elt F) → (⟨S_, .i32⟩ : BufTy).Contents (Elt F)),
    StableHlo.unary main_while0b_v233 main_v98_2 id,
    StableHlo.unary main_while0b_v230 main_v98_3 id,
    StableHlo.unary main_while0b_v231 main_v98_4 id,
    StableHlo.unary main_while0b_v232 main_v98_5 id ]
theorem trip0_5_sub : (trip0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq trip0_0,
    StableHlo.seq trip0_1,
    StableHlo.seq trip0_2,
    StableHlo.seq trip0_3,
    StableHlo.seq trip0_4,
    StableHlo.seq trip0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

abbrev trip1_0 : List (HloOp τ sig (Elt F)) :=
  [ StableHlo.nullary main_while1b_c_52 (constantI S_ 32 2048#32),
    StableHlo.binary main_while1b_c_52 main_v110_3 main_while1b_v227 (subi : (⟨S_, .i32⟩ : BufTy).Contents (Elt F) → (⟨S_, .i32⟩ : BufTy).Contents (Elt F) → (⟨S_, .i32⟩ : BufTy).Contents (Elt F)),
    StableHlo.nullary main_while1b_c_53 (constantI S_ 32 1#32),
    StableHlo.binary main_while1b_v227 main_while1b_c_53 main_while1b_v228 (subi : (⟨S_, .i32⟩ : BufTy).Contents (Elt F) → (⟨S_, .i32⟩ : BufTy).Contents (Elt F) → (⟨S_, .i32⟩ : BufTy).Contents (Elt F)) ]
theorem trip1_0_sub : (trip1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
abbrev trip1_1 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v110_0 : StableHlo.TRef sig ⟨S2048x1x4096, .f32⟩) ![(.of main_while1b_v228 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call7_v0 : StableHlo.TRef sig ⟨S1x1x4096, .f32⟩) (.of main_while1b_v229 : StableHlo.TRef sig ⟨S1x4096, .f32⟩) (rfl : (.f32 : EltTy) = .f32) shapeCasts_S1x1x4096_S1x4096 ]
theorem trip1_1_sub : (trip1_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev trip1_2 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v110_1 : StableHlo.TRef sig ⟨S2048x1x4096, .f32⟩) ![(.of main_while1b_v228 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call8_v0 : StableHlo.TRef sig ⟨S1x1x4096, .f32⟩) (.of main_while1b_v230 : StableHlo.TRef sig ⟨S1x4096, .f32⟩) (rfl : (.f32 : EltTy) = .f32) shapeCasts_S1x1x4096_S1x4096 ]
theorem trip1_2_sub : (trip1_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev trip1_3 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v110_2 : StableHlo.TRef sig ⟨S2048x1x4096, .f32⟩) ![(.of main_while1b_v228 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x1x4096, .f32⟩) (fun x i => Host.dynamicSlice S1x1x4096 x (fun k => (i k (Shape.Idx.first h_S_)).toInt) sliceFits_S2048x1x4096_S1x1x4096),
    StableHlo.TRef.reshape (.of main_while1b_call9_v0 : StableHlo.TRef sig ⟨S1x1x4096, .f32⟩) (.of main_while1b_v231 : StableHlo.TRef sig ⟨S1x4096, .f32⟩) (rfl : (.f32 : EltTy) = .f32) shapeCasts_S1x1x4096_S1x4096 ]
theorem trip1_3_sub : (trip1_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev trip1_4 : List (HloOp τ sig (Elt F)) :=
  [ StableHlo.binary main_v110_4 main_while1b_v229 main_while1b_v232 (addf : (⟨S1x4096, .f32⟩ : BufTy).Contents (Elt F) → (⟨S1x4096, .f32⟩ : BufTy).Contents (Elt F) → (⟨S1x4096, .f32⟩ : BufTy).Contents (Elt F)),
    StableHlo.binary main_while1b_v231 main_while1b_v232 main_while1b_v233 (mulf : (⟨S1x4096, .f32⟩ : BufTy).Contents (Elt F) → (⟨S1x4096, .f32⟩ : BufTy).Contents (Elt F) → (⟨S1x4096, .f32⟩ : BufTy).Contents (Elt F)),
    StableHlo.binary main_while1b_v232 main_while1b_v230 main_while1b_v234 (mulf : (⟨S1x4096, .f32⟩ : BufTy).Contents (Elt F) → (⟨S1x4096, .f32⟩ : BufTy).Contents (Elt F) → (⟨S1x4096, .f32⟩ : BufTy).Contents (Elt F)) ]
theorem trip1_4_sub : (trip1_4 : List (HloOp τ sig (Elt F))).Forall fun op => op.bufs ⊆ StableHlo.tcRefs τ sig :=
  ⟨StableHlo.binary_bufs_sub .., StableHlo.binary_bufs_sub .., StableHlo.binary_bufs_sub ..⟩
abbrev trip1_5 : List (HloOp τ sig (Elt F)) :=
  [ StableHlo.TRef.unary (.of main_while1b_v234 : StableHlo.TRef sig ⟨S1x4096, .f32⟩) (.of main_while1b_call10_v0 : StableHlo.TRef sig ⟨S1x1x4096, .f32⟩) (broadcastInDim S1x1x4096 ![1, 2] bcast_S1x4096_S1x1x4096_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v110_5 : StableHlo.TRef sig ⟨S2048x1x4096, .f32⟩) (.of main_while1b_call10_v0 : StableHlo.TRef sig ⟨S1x1x4096, .f32⟩) ![(.of main_while1b_v228 : StableHlo.TRef sig ⟨S_, .i32⟩), (.of main_while1b_call10_c : StableHlo.TRef sig ⟨S_, .i32⟩), (.of main_while1b_call10_c_0 : StableHlo.TRef sig ⟨S_, .i32⟩)] (.of main_while1b_v235 : StableHlo.TRef sig ⟨S2048x1x4096, .f32⟩) (fun x u i => Host.dynamicUpdateSlice x u (fun k => (i k (Shape.Idx.first h_S_)).toInt) updateFits_S2048x1x4096_S1x1x4096) ]
theorem trip1_5_sub : (trip1_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev trip1_6 : List (HloOp τ sig (Elt F)) :=
  [ StableHlo.TRef.unary (.of main_while1b_v232 : StableHlo.TRef sig ⟨S1x4096, .f32⟩) (.of main_while1b_call11_v0 : StableHlo.TRef sig ⟨S1x1x4096, .f32⟩) (broadcastInDim S1x1x4096 ![1, 2] bcast_S1x4096_S1x1x4096_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v110_6 : StableHlo.TRef sig ⟨S2048x1x4096, .f32⟩) (.of main_while1b_call11_v0 : StableHlo.TRef sig ⟨S1x1x4096, .f32⟩) ![(.of main_while1b_v228 : StableHlo.TRef sig ⟨S_, .i32⟩), (.of main_while1b_call11_c : StableHlo.TRef sig ⟨S_, .i32⟩), (.of main_while1b_call11_c_0 : StableHlo.TRef sig ⟨S_, .i32⟩)] (.of main_while1b_v236 : StableHlo.TRef sig ⟨S2048x1x4096, .f32⟩) (fun x u i => Host.dynamicUpdateSlice x u (fun k => (i k (Shape.Idx.first h_S_)).toInt) updateFits_S2048x1x4096_S1x1x4096) ]
theorem trip1_6_sub : (trip1_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev trip1_7 : List (HloOp τ sig (Elt F)) :=
  [ StableHlo.nullary main_while1b_c_54 (constantI S_ 32 1#32),
    StableHlo.binary main_v110_3 main_while1b_c_54 main_while1b_v237 (addi : (⟨S_, .i32⟩ : BufTy).Contents (Elt F) → (⟨S_, .i32⟩ : BufTy).Contents (Elt F) → (⟨S_, .i32⟩ : BufTy).Contents (Elt F)),
    StableHlo.unary main_while1b_v237 main_v110_3 id,
    StableHlo.unary main_while1b_v233 main_v110_4 id,
    StableHlo.unary main_while1b_v235 main_v110_5 id,
    StableHlo.unary main_while1b_v236 main_v110_6 id ]
theorem trip1_7_sub : (trip1_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while1_body_chain : main_while1_body (F := F) = (Pipeline.chain
  [ StableHlo.seq trip1_0,
    StableHlo.seq trip1_1,
    StableHlo.seq trip1_2,
    StableHlo.seq trip1_3,
    StableHlo.seq trip1_4,
    StableHlo.seq trip1_5,
    StableHlo.seq trip1_6,
    StableHlo.seq trip1_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

/-- The buffers `line0_0` writes. -/
abbrev line0_0_W : List (Ref sig .tc) := [main_v0, main_v1, main_v2, main_v3, main_v4, main_v5, main_v6, main_v7, main_v8, main_cst, main_v9, main_v10, main_cst_0, main_v11, main_v12, main_v13, main_v14, main_v15, main_v16, main_v17, main_cst_1, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_cst_2, main_v52, main_v53, main_cst_3, main_v54]
theorem line0_0_writes : (line0_0 : List (HloOp τ sig (Elt F))).Forall fun op => op.writes ⊆ (line0_0_W.map (Proc.devRef (τ := τ) .tc)).toFinset :=
  StableHlo.forall_writes_sub_of_map rfl
theorem line0_0_fresh : (line0_0 : List (HloOp τ sig (Elt F))).Forall fun op => op.fresh = ∅ :=
  StableHlo.forall_fresh_of_map rfl

/-- The buffers `line1_0` writes. -/
abbrev line1_0_W : List (Ref sig .tc) := [main_v55, main_cst_4, main_v56, main_v57, main_v58, main_v59, main_v60, main_v61, main_v62, main_v63, main_v64, main_v65, main_v66, main_cst_5, main_v67, main_v68, main_cst_6, main_v69, main_v70, main_cst_7, main_v71, main_v72, main_v73, main_v74, main_cst_8, main_v75, main_v76, main_v77]
theorem line1_0_writes : (line1_0 : List (HloOp τ sig (Elt F))).Forall fun op => op.writes ⊆ (line1_0_W.map (Proc.devRef (τ := τ) .tc)).toFinset :=
  StableHlo.forall_writes_sub_of_map rfl
theorem line1_0_fresh : (line1_0 : List (HloOp τ sig (Elt F))).Forall fun op => op.fresh = ∅ :=
  StableHlo.forall_fresh_of_map rfl

/-- The buffers `line1_1` writes. -/
abbrev line1_1_W : List (Ref sig .tc) := [main_call0_cst, main_call0_v0, main_call0_v1, main_call0_v2, main_call0_v3, main_call0_v4, main_call0_v5, main_call0_v6, main_call0_v7, main_call0_v8, main_call0_v9, main_call0_v10, main_call0_v11, main_v78_0, main_call0_cst_0, main_call0_v13, main_call0_v14, main_call0_cst_1, main_call0_v15, main_call0_v16, main_call0_cst_2, main_call0_v17, main_call0_v18, main_call0_cst_3, main_call0_v19, main_call0_v20, main_call0_v21, main_v78_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v78_2]
theorem line1_1_writes : (line1_1 : List (HloOp τ sig (Elt F))).Forall fun op => op.writes ⊆ (line1_1_W.map (Proc.devRef (τ := τ) .tc)).toFinset :=
  StableHlo.forall_writes_sub_of_map rfl
theorem line1_1_fresh : (line1_1 : List (HloOp τ sig (Elt F))).Forall fun op => op.fresh = ∅ :=
  StableHlo.forall_fresh_of_map rfl

/-- The buffers `line1_2` writes. -/
abbrev line1_2_W : List (Ref sig .tc) := [main_v79, main_v80, main_v81, main_v82, main_cst_9, main_v83, main_v84, main_v85, main_v86, main_v87, main_v88, main_cst_10, main_v89, main_v90, main_v91, main_v92, main_cst_11, main_v93, main_v94, main_v95, main_cst_12, main_v96, main_cst_13, main_v97, main_c, main_v98_0, main_v98_1, main_v98_2, main_v98_3, main_v98_4, main_v98_5]
theorem line1_2_writes : (line1_2 : List (HloOp τ sig (Elt F))).Forall fun op => op.writes ⊆ (line1_2_W.map (Proc.devRef (τ := τ) .tc)).toFinset :=
  StableHlo.forall_writes_sub_of_map rfl
theorem line1_2_fresh : (line1_2 : List (HloOp τ sig (Elt F))).Forall fun op => op.fresh = ∅ :=
  StableHlo.forall_fresh_of_map rfl

/-- The buffers `line2_0` writes. -/
abbrev line2_0_W : List (Ref sig .tc) := [main_v99]
theorem line2_0_writes : (line2_0 : List (HloOp τ sig (Elt F))).Forall fun op => op.writes ⊆ (line2_0_W.map (Proc.devRef (τ := τ) .tc)).toFinset :=
  StableHlo.forall_writes_sub_of_map rfl
theorem line2_0_fresh : (line2_0 : List (HloOp τ sig (Elt F))).Forall fun op => op.fresh = ∅ :=
  StableHlo.forall_fresh_of_map rfl

/-- The buffers `line2_1` writes. -/
abbrev line2_1_W : List (Ref sig .tc) := [main_call5_v0, main_call5_v1, main_call5_cst, main_call5_v2, main_call5_v3, main_call5_cst_0, main_call5_v4, main_v100_2, main_call5_cst_1, main_call5_v6, main_call5_v7, main_v100_1, main_v100_0]
theorem line2_1_writes : (line2_1 : List (HloOp τ sig (Elt F))).Forall fun op => op.writes ⊆ (line2_1_W.map (Proc.devRef (τ := τ) .tc)).toFinset :=
  StableHlo.forall_writes_sub_of_map rfl
theorem line2_1_fresh : (line2_1 : List (HloOp τ sig (Elt F))).Forall fun op => op.fresh = ∅ :=
  StableHlo.forall_fresh_of_map rfl

/-- The buffers `line2_2` writes. -/
abbrev line2_2_W : List (Ref sig .tc) := [main_v101, main_cst_14, main_v102, main_v103, main_v104]
theorem line2_2_writes : (line2_2 : List (HloOp τ sig (Elt F))).Forall fun op => op.writes ⊆ (line2_2_W.map (Proc.devRef (τ := τ) .tc)).toFinset :=
  StableHlo.forall_writes_sub_of_map rfl
theorem line2_2_fresh : (line2_2 : List (HloOp τ sig (Elt F))).Forall fun op => op.fresh = ∅ :=
  StableHlo.forall_fresh_of_map rfl

/-- The buffers `line2_3` writes. -/
abbrev line2_3_W : List (Ref sig .tc) := [main_call6_v0, main_call6_v1, main_call6_v2, main_v105]
theorem line2_3_writes : (line2_3 : List (HloOp τ sig (Elt F))).Forall fun op => op.writes ⊆ (line2_3_W.map (Proc.devRef (τ := τ) .tc)).toFinset :=
  StableHlo.forall_writes_sub_of_map rfl
theorem line2_3_fresh : (line2_3 : List (HloOp τ sig (Elt F))).Forall fun op => op.fresh = ∅ :=
  StableHlo.forall_fresh_of_map rfl

/-- The buffers `line2_4` writes. -/
abbrev line2_4_W : List (Ref sig .tc) := [main_v106, main_cst_15, main_v107, main_cst_16, main_v108, main_cst_17, main_v109, main_c_18, main_v110_0, main_v110_1, main_v110_2, main_v110_3, main_v110_4, main_v110_5, main_v110_6]
theorem line2_4_writes : (line2_4 : List (HloOp τ sig (Elt F))).Forall fun op => op.writes ⊆ (line2_4_W.map (Proc.devRef (τ := τ) .tc)).toFinset :=
  StableHlo.forall_writes_sub_of_map rfl
theorem line2_4_fresh : (line2_4 : List (HloOp τ sig (Elt F))).Forall fun op => op.fresh = ∅ :=
  StableHlo.forall_fresh_of_map rfl

/-- The buffers `line2_5` writes. -/
abbrev line2_5_W : List (Ref sig .tc) := [main_v111, main_v112, main_v113, main_v114, main_v115, main_v116, main_v117, main_v118, main_v119, main_cst_19, main_v120, main_v121, main_v122, main_v123, main_v124, main_cst_20, main_v125, main_v126, main_v127, main_v128, main_cst_21, main_v129]
theorem line2_5_writes : (line2_5 : List (HloOp τ sig (Elt F))).Forall fun op => op.writes ⊆ (line2_5_W.map (Proc.devRef (τ := τ) .tc)).toFinset :=
  StableHlo.forall_writes_sub_of_map rfl
theorem line2_5_fresh : (line2_5 : List (HloOp τ sig (Elt F))).Forall fun op => op.fresh = ∅ :=
  StableHlo.forall_fresh_of_map rfl

/-- The buffers `line2_6` writes. -/
abbrev line2_6_W : List (Ref sig .tc) := [main_v130]
theorem line2_6_writes : (line2_6 : List (HloOp τ sig (Elt F))).Forall fun op => op.writes ⊆ (line2_6_W.map (Proc.devRef (τ := τ) .tc)).toFinset :=
  StableHlo.forall_writes_sub_of_map rfl
theorem line2_6_fresh : (line2_6 : List (HloOp τ sig (Elt F))).Forall fun op => op.fresh = ∅ :=
  StableHlo.forall_fresh_of_map rfl

/-- The buffers `line2_7` writes. -/
abbrev line2_7_W : List (Ref sig .tc) := [main_v131, main_cst_22, main_v132, main_v133, main_v134, main_v135, main_cst_23, main_v136, main_v137, main_cst_24, main_v138, main_v139]
theorem line2_7_writes : (line2_7 : List (HloOp τ sig (Elt F))).Forall fun op => op.writes ⊆ (line2_7_W.map (Proc.devRef (τ := τ) .tc)).toFinset :=
  StableHlo.forall_writes_sub_of_map rfl
theorem line2_7_fresh : (line2_7 : List (HloOp τ sig (Elt F))).Forall fun op => op.fresh = ∅ :=
  StableHlo.forall_fresh_of_map rfl

/-- The buffers `line3_0` writes. -/
abbrev line3_0_W : List (Ref sig .tc) := [main_v140, main_v141, main_v142, main_v143, main_v144, main_v145, main_cst_25, main_v146, main_v147, main_cst_26, main_v148, main_v149, main_v150, main_v151, main_v152, main_v153, main_v154, main_v155, main_v156, main_cst_27, main_v157, main_v158, main_cst_28, main_v159, main_v160, main_v161, main_v162, main_cst_29, main_v163, main_v164, main_cst_30, main_v165, main_cst_31, main_v166, main_v167, main_cst_32, main_v168, main_v169, main_v170, main_v171, main_cst_33, main_v172, main_v173, main_cst_34, main_v174, main_cst_35, main_v175, main_v176, main_v177, main_cst_36, main_v178, main_v179, main_v180, main_v181, main_v182, main_cst_37, main_v183, main_v184, main_cst_38, main_v185]
theorem line3_0_writes : (line3_0 : List (HloOp τ sig (Elt F))).Forall fun op => op.writes ⊆ (line3_0_W.map (Proc.devRef (τ := τ) .tc)).toFinset :=
  StableHlo.forall_writes_sub_of_map rfl
theorem line3_0_fresh : (line3_0 : List (HloOp τ sig (Elt F))).Forall fun op => op.fresh = ∅ :=
  StableHlo.forall_fresh_of_map rfl

/-- The buffers `line4_0` writes. -/
abbrev line4_0_W : List (Ref sig .tc) := [main_cst_39, main_v186, main_v187, main_v188, main_cst_40, main_v189, main_v190, main_v191, main_v192, main_v193, main_cst_41, main_v194, main_v195, main_cst_42, main_v196, main_cst_43, main_v197, main_v198, main_v199, main_cst_44, main_v200, main_v201, main_v202, main_v203, main_v204, main_v205, main_v206, main_v207, main_v208, main_v209, main_v210, main_v211, main_v212, main_v213, main_v214, main_cst_45, main_v215, main_v216, main_v217, main_v218, main_v219, main_v220, main_v221, main_v222, main_v223, main_v224, main_v225, main_v226]
theorem line4_0_writes : (line4_0 : List (HloOp τ sig (Elt F))).Forall fun op => op.writes ⊆ (line4_0_W.map (Proc.devRef (τ := τ) .tc)).toFinset :=
  StableHlo.forall_writes_sub_of_map rfl
theorem line4_0_fresh : (line4_0 : List (HloOp τ sig (Elt F))).Forall fun op => op.fresh = ∅ :=
  StableHlo.forall_fresh_of_map rfl

/-- The buffers `trip0_0` writes. -/
abbrev trip0_0_W : List (Ref sig .tc) := [main_while0b_call1_c, main_while0b_call1_c_0, main_while0b_call1_v0, main_while0b_v227]
theorem trip0_0_writes : (trip0_0 : List (HloOp τ sig (Elt F))).Forall fun op => op.writes ⊆ (trip0_0_W.map (Proc.devRef (τ := τ) .tc)).toFinset :=
  StableHlo.forall_writes_sub_of_map rfl
theorem trip0_0_fresh : (trip0_0 : List (HloOp τ sig (Elt F))).Forall fun op => op.fresh = ∅ :=
  StableHlo.forall_fresh_of_map rfl

/-- The buffers `trip0_1` writes. -/
abbrev trip0_1_W : List (Ref sig .tc) := [main_while0b_call2_c, main_while0b_call2_c_0, main_while0b_call2_v0, main_while0b_v228]
theorem trip0_1_writes : (trip0_1 : List (HloOp τ sig (Elt F))).Forall fun op => op.writes ⊆ (trip0_1_W.map (Proc.devRef (τ := τ) .tc)).toFinset :=
  StableHlo.forall_writes_sub_of_map rfl
theorem trip0_1_fresh : (trip0_1 : List (HloOp τ sig (Elt F))).Forall fun op => op.fresh = ∅ :=
  StableHlo.forall_fresh_of_map rfl

/-- The buffers `trip0_2` writes. -/
abbrev trip0_2_W : List (Ref sig .tc) := [main_while0b_v229, main_while0b_v230]
theorem trip0_2_writes : (trip0_2 : List (HloOp τ sig (Elt F))).Forall fun op => op.writes ⊆ (trip0_2_W.map (Proc.devRef (τ := τ) .tc)).toFinset :=
  StableHlo.forall_writes_sub_of_map rfl
theorem trip0_2_fresh : (trip0_2 : List (HloOp τ sig (Elt F))).Forall fun op => op.fresh = ∅ :=
  StableHlo.forall_fresh_of_map rfl

/-- The buffers `trip0_3` writes. -/
abbrev trip0_3_W : List (Ref sig .tc) := [main_while0b_call3_v0, main_while0b_call3_c, main_while0b_call3_c_0, main_while0b_v231]
theorem trip0_3_writes : (trip0_3 : List (HloOp τ sig (Elt F))).Forall fun op => op.writes ⊆ (trip0_3_W.map (Proc.devRef (τ := τ) .tc)).toFinset :=
  StableHlo.forall_writes_sub_of_map rfl
theorem trip0_3_fresh : (trip0_3 : List (HloOp τ sig (Elt F))).Forall fun op => op.fresh = ∅ :=
  StableHlo.forall_fresh_of_map rfl

/-- The buffers `trip0_4` writes. -/
abbrev trip0_4_W : List (Ref sig .tc) := [main_while0b_call4_v0, main_while0b_call4_c, main_while0b_call4_c_0, main_while0b_v232]
theorem trip0_4_writes : (trip0_4 : List (HloOp τ sig (Elt F))).Forall fun op => op.writes ⊆ (trip0_4_W.map (Proc.devRef (τ := τ) .tc)).toFinset :=
  StableHlo.forall_writes_sub_of_map rfl
theorem trip0_4_fresh : (trip0_4 : List (HloOp τ sig (Elt F))).Forall fun op => op.fresh = ∅ :=
  StableHlo.forall_fresh_of_map rfl

/-- The buffers `trip0_5` writes. -/
abbrev trip0_5_W : List (Ref sig .tc) := [main_while0b_c_51, main_while0b_v233, main_v98_2, main_v98_3, main_v98_4, main_v98_5]
theorem trip0_5_writes : (trip0_5 : List (HloOp τ sig (Elt F))).Forall fun op => op.writes ⊆ (trip0_5_W.map (Proc.devRef (τ := τ) .tc)).toFinset :=
  StableHlo.forall_writes_sub_of_map rfl
theorem trip0_5_fresh : (trip0_5 : List (HloOp τ sig (Elt F))).Forall fun op => op.fresh = ∅ :=
  StableHlo.forall_fresh_of_map rfl

/-- The buffers `trip1_0` writes. -/
abbrev trip1_0_W : List (Ref sig .tc) := [main_while1b_c_52, main_while1b_v227, main_while1b_c_53, main_while1b_v228]
theorem trip1_0_writes : (trip1_0 : List (HloOp τ sig (Elt F))).Forall fun op => op.writes ⊆ (trip1_0_W.map (Proc.devRef (τ := τ) .tc)).toFinset :=
  StableHlo.forall_writes_sub_of_map rfl
theorem trip1_0_fresh : (trip1_0 : List (HloOp τ sig (Elt F))).Forall fun op => op.fresh = ∅ :=
  StableHlo.forall_fresh_of_map rfl

/-- The buffers `trip1_1` writes. -/
abbrev trip1_1_W : List (Ref sig .tc) := [main_while1b_call7_c, main_while1b_call7_c_0, main_while1b_call7_v0, main_while1b_v229]
theorem trip1_1_writes : (trip1_1 : List (HloOp τ sig (Elt F))).Forall fun op => op.writes ⊆ (trip1_1_W.map (Proc.devRef (τ := τ) .tc)).toFinset :=
  StableHlo.forall_writes_sub_of_map rfl
theorem trip1_1_fresh : (trip1_1 : List (HloOp τ sig (Elt F))).Forall fun op => op.fresh = ∅ :=
  StableHlo.forall_fresh_of_map rfl

/-- The buffers `trip1_2` writes. -/
abbrev trip1_2_W : List (Ref sig .tc) := [main_while1b_call8_c, main_while1b_call8_c_0, main_while1b_call8_v0, main_while1b_v230]
theorem trip1_2_writes : (trip1_2 : List (HloOp τ sig (Elt F))).Forall fun op => op.writes ⊆ (trip1_2_W.map (Proc.devRef (τ := τ) .tc)).toFinset :=
  StableHlo.forall_writes_sub_of_map rfl
theorem trip1_2_fresh : (trip1_2 : List (HloOp τ sig (Elt F))).Forall fun op => op.fresh = ∅ :=
  StableHlo.forall_fresh_of_map rfl

/-- The buffers `trip1_3` writes. -/
abbrev trip1_3_W : List (Ref sig .tc) := [main_while1b_call9_c, main_while1b_call9_c_0, main_while1b_call9_v0, main_while1b_v231]
theorem trip1_3_writes : (trip1_3 : List (HloOp τ sig (Elt F))).Forall fun op => op.writes ⊆ (trip1_3_W.map (Proc.devRef (τ := τ) .tc)).toFinset :=
  StableHlo.forall_writes_sub_of_map rfl
theorem trip1_3_fresh : (trip1_3 : List (HloOp τ sig (Elt F))).Forall fun op => op.fresh = ∅ :=
  StableHlo.forall_fresh_of_map rfl

/-- The buffers `trip1_4` writes. -/
abbrev trip1_4_W : List (Ref sig .tc) := [main_while1b_v232, main_while1b_v233, main_while1b_v234]
theorem trip1_4_writes : (trip1_4 : List (HloOp τ sig (Elt F))).Forall fun op => op.writes ⊆ (trip1_4_W.map (Proc.devRef (τ := τ) .tc)).toFinset :=
  StableHlo.forall_writes_sub_of_map rfl
theorem trip1_4_fresh : (trip1_4 : List (HloOp τ sig (Elt F))).Forall fun op => op.fresh = ∅ :=
  StableHlo.forall_fresh_of_map rfl

/-- The buffers `trip1_5` writes. -/
abbrev trip1_5_W : List (Ref sig .tc) := [main_while1b_call10_v0, main_while1b_call10_c, main_while1b_call10_c_0, main_while1b_v235]
theorem trip1_5_writes : (trip1_5 : List (HloOp τ sig (Elt F))).Forall fun op => op.writes ⊆ (trip1_5_W.map (Proc.devRef (τ := τ) .tc)).toFinset :=
  StableHlo.forall_writes_sub_of_map rfl
theorem trip1_5_fresh : (trip1_5 : List (HloOp τ sig (Elt F))).Forall fun op => op.fresh = ∅ :=
  StableHlo.forall_fresh_of_map rfl

/-- The buffers `trip1_6` writes. -/
abbrev trip1_6_W : List (Ref sig .tc) := [main_while1b_call11_v0, main_while1b_call11_c, main_while1b_call11_c_0, main_while1b_v236]
theorem trip1_6_writes : (trip1_6 : List (HloOp τ sig (Elt F))).Forall fun op => op.writes ⊆ (trip1_6_W.map (Proc.devRef (τ := τ) .tc)).toFinset :=
  StableHlo.forall_writes_sub_of_map rfl
theorem trip1_6_fresh : (trip1_6 : List (HloOp τ sig (Elt F))).Forall fun op => op.fresh = ∅ :=
  StableHlo.forall_fresh_of_map rfl

/-- The buffers `trip1_7` writes. -/
abbrev trip1_7_W : List (Ref sig .tc) := [main_while1b_c_54, main_while1b_v237, main_v110_3, main_v110_4, main_v110_5, main_v110_6]
theorem trip1_7_writes : (trip1_7 : List (HloOp τ sig (Elt F))).Forall fun op => op.writes ⊆ (trip1_7_W.map (Proc.devRef (τ := τ) .tc)).toFinset :=
  StableHlo.forall_writes_sub_of_map rfl
theorem trip1_7_fresh : (trip1_7 : List (HloOp τ sig (Elt F))).Forall fun op => op.fresh = ∅ :=
  StableHlo.forall_fresh_of_map rfl

end Cert.LruRefIdeal.Host

end

end
-- ==== Proof.TwoLoops.lean ====
module

public import Idealize.ShloMosaic.Lib.Pipeline.Regions
public import Idealize.ShloMosaic.Lib.StableHlo.RunLoop

/-! A host program of two counted loops, one after the other, with lines of operations before, between and after them:
what every buffer holds at its end. -/

@[expose] public section

noncomputable section

namespace Cert.TwoLoops

open Idealize.ShloMosaic Idealize.ShloMosaic.TcCoe Idealize.ShloMosaic.StableHlo
open Idealize.ShloMosaic.Pipeline (CSeg Ticket PCfg ucRefs)
open Idealize.SL Idealize.SL.RA Idealize.SL.BI
open scoped Idealize.SL.BI
open Idealize.SL.BI.BIBase Idealize.SL.Sem

variable {nD : Nat} {τ : Topo} {sig : RefSig} {F : FTy → Type} {Λ₀ : Idealize.SL.Sem.Labels}

local notation "𝕄" => MT nD τ sig Unit (Elt F) ℕ (Option PUnit) ℕ

/-- The tally of what the core owes, which rides along unchanged. -/
abbrev Owed (c : Dev nD) : sProp 𝕄 := iprop(∃ W, owes (c : Thread nD τ) (0 : CellTallies nD τ sig Unit) W)

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTicket : Fin 0 → Ticket (Ix := Unit) (Name := ℕ) (U := Option PUnit) (Lvl := ℕ) (nD := nD) (τ := τ) pcs (noAdm pcs) := fun j => j.elim0
abbrev noWait : GSem nD τ sig → Finset Unit := fun _ => ∅
abbrev level : GSem nD τ sig → Unit → ℕ := fun _ _ => 0

/-- A counted loop: its number, its condition and body with their lines, and how often it runs. -/
structure Loop where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  eq : loops l = HostLoop.step l cond body
  test : List (HloOp τ sig (Elt F))
  lines : List (List (HloOp τ sig (Elt F)))
  plain : Plain lines
  hbody : body = Pipeline.chain (lines.map fun ops => (seq ops : Prog _ PUnit))
  n : ℕ

variable {pcs loops}

/-- What the buffers hold when a loop entered at `W` is left. -/
abbrev Loop.out (A : Loop (nD := nD) pcs loops) (W : Dev nD → Valuation τ sig (Elt F)) (c : Dev nD) : Valuation τ sig (Elt F) :=
  after A.test (atTrip A.test A.lines W A.n c)

/-- The loop's test answers as counted, entered at `W`. -/
abbrev Loop.Counts (A : Loop (nD := nD) pcs loops) (W : Dev nD → Valuation τ sig (Elt F)) : Prop :=
  LoopCond pcs defs₀ Variants.none loops Owed A.cond A.test A.lines W A.n

variable (A B : Loop (nD := nD) (τ := τ) (F := F) pcs loops) (pre mid post : List (List (HloOp τ sig (Elt F))))
  (hpre : Plain pre) (hmid : Plain mid) (hpost : Plain post) (m : (ℓ : Loc nD τ sig) → Buf (Elt F) ℓ)

abbrev enterA (c : Dev nD) : Valuation τ sig (Elt F) := afterL pre (launchContents m c)
abbrev enterB (c : Dev nD) : Valuation τ sig (Elt F) := afterL mid (A.out (enterA pre m) c)
abbrev final (c : Dev nD) : Valuation τ sig (Elt F) := afterL post (B.out (enterB A pre mid m) c)

/-- The program's segments. -/
def parts (hA : A.Counts defs₀ (enterA pre m)) (hB : B.Counts defs₀ (enterB A pre mid m)) :
    List (CSeg pcs (noAdm pcs) defs₀ Variants.none noWait level loops (noTicket pcs)) :=
  segsOf _ _ _ _ _ _ _ _ Owed pre hpre (launchContents m)
    ++ loopSeg _ _ _ _ _ _ _ _ A.l A.cond A.body A.eq A.test A.lines A.plain A.hbody A.n (enterA pre m) Owed hA
      :: (segsOf _ _ _ _ _ _ _ _ Owed mid hmid (A.out (enterA pre m))
    ++ loopSeg _ _ _ _ _ _ _ _ B.l B.cond B.body B.eq B.test B.lines B.plain B.hbody B.n (enterB A pre mid m) Owed hB
      :: segsOf _ _ _ _ _ _ _ _ Owed post hpost (B.out (enterB A pre mid m)))

variable {A B pre mid post hpre hmid hpost m}

theorem parts_prog (hA) (hB) :
    (parts defs₀ A B pre mid post hpre hmid hpost m hA hB).map CSeg.prog
      = (pre.map fun ops => (seq ops : Prog _ PUnit)) ++ HostLoop.enter A.l :: ((mid.map fun ops => (seq ops : Prog _ PUnit))
          ++ HostLoop.enter B.l :: post.map fun ops => (seq ops : Prog _ PUnit)) := by
  unfold parts
  rw [List.map_append, List.map_cons, List.map_append, List.map_cons, segsOf_prog, segsOf_prog, segsOf_prog]
  rfl

theorem parts_chain (hA) (hB) :
    CSeg.Chains (fun c => iprop(held (c : Thread nD τ) (ucRefs τ sig) (launchContents m c) ∗ Owed c))
      (parts defs₀ A B pre mid post hpre hmid hpost m hA hB)
      (fun c => iprop(held (c : Thread nD τ) (ucRefs τ sig) (final A B pre mid post m c) ∗ Owed c)) := by
  unfold parts
  exact CSeg.Chains.append (segsOf_chains _ _ _ _ _ _ _ _ Owed pre hpre _)
    ⟨fun _ => .rfl, CSeg.Chains.append (segsOf_chains _ _ _ _ _ _ _ _ Owed mid hmid _)
      ⟨fun _ => .rfl, segsOf_chains _ _ _ _ _ _ _ _ Owed post hpost _⟩⟩

/-- Every run of the two loops ends with each buffer of the program at `final`. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((pre.map fun ops => (seq ops : Prog _ PUnit)) ++ HostLoop.enter A.l
      :: ((mid.map fun ops => (seq ops : Prog _ PUnit)) ++ HostLoop.enter B.l :: post.map fun ops => (seq ops : Prog _ PUnit))))
    (hpre : Plain pre) (hmid : Plain mid) (hpost : Plain post) (ρ : Dev nD → PrngReg)
    (hA : A.Counts defs₀ (enterA pre m)) (hB : B.Counts defs₀ (enterB A pre mid m)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final A B pre mid post m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noWait level loops (noTicket pcs) m ρ main
    (parts defs₀ A B pre mid post hpre hmid hpost m hA hB)
    (fun c Q => by
      rw [hmain c]
      show wp _ _ _ (Pipeline.chain ((parts defs₀ A B pre mid post hpre hmid hpost m hA hB).map CSeg.prog)) Q ⊢ _
      rw [parts_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (final A B pre mid post m c)))
    (hch := parts_chain defs₀ hA hB)
    (hinit := by
      refine Pipeline.initEach noWait level fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final A B pre mid post m c b)
    (hfin := fun c s' => by
      unfold held
      iintro ⟨Hh, HSI⟩
      ihave Hr := (pointsTo_read_all (ucRefs τ sig) (fun b => ((c : Dev nD), b)) (fun b => final A B pre mid post m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end

end
-- ==== Proof.LruRefRun.lean ====
module

public import proofs.«01_k».proof.Proof.LruRefOps
public import proofs.«01_k».proof.Proof.TwoLoops

/-! The run of the reference of the recurrence's backward call: both its loops are counted, and every buffer ends at the
fold of its lines. -/

@[expose] public section

set_option maxRecDepth 100000

noncomputable section

namespace Cert.LruRefIdeal.Host

open Idealize.ShloMosaic Idealize.ShloMosaic.TcCoe Cert.LruRefIdeal.Gen Idealize.ShloMosaic.StableHlo
open Idealize.SL Idealize.SL.RA Idealize.SL.BI
open scoped Idealize.SL.BI
open Idealize.SL.BI.BIBase Idealize.SL.Sem

variable {F : FTy → Type} [FloatOps F]

abbrev before : List (List (HloOp τ sig (Elt F))) := [line0_0, line1_0, line1_1, line1_2]
theorem before_plain : Plain (before (F := F)) := .cons line0_0_sub (.cons line1_0_sub (.cons line1_1_sub (.cons line1_2_sub (.nil) (List.forall_iff_forall_mem.mp line1_2_fresh)) (List.forall_iff_forall_mem.mp line1_1_fresh)) (List.forall_iff_forall_mem.mp line1_0_fresh)) (List.forall_iff_forall_mem.mp line0_0_fresh)
/-- A buffer no operation of these lines writes is left as it was. -/
theorem before_keep (V : Valuation τ sig (Elt F)) {r : Ref sig .tc} (h : r ∉ line0_0_W ++ line1_0_W ++ line1_1_W ++ line1_2_W) :
    afterL before V (Proc.devRef .tc r) = V (Proc.devRef .tc r) := by
  simp only [List.mem_append, not_or] at h
  obtain ⟨⟨⟨h0, h1⟩, h2⟩, h3⟩ := h
  exact (after_of_writes_sub line1_2 _ line1_2_writes h3) |>.trans <| (after_of_writes_sub line1_1 _ line1_1_writes h2) |>.trans <| (after_of_writes_sub line1_0 _ line1_0_writes h1) |>.trans <| (after_of_writes_sub line0_0 _ line0_0_writes h0)

abbrev trip0 : List (List (HloOp τ sig (Elt F))) := [trip0_0, trip0_1, trip0_2, trip0_3, trip0_4, trip0_5]
theorem trip0_plain : Plain (trip0 (F := F)) := .cons trip0_0_sub (.cons trip0_1_sub (.cons trip0_2_sub (.cons trip0_3_sub (.cons trip0_4_sub (.cons trip0_5_sub (.nil) (List.forall_iff_forall_mem.mp trip0_5_fresh)) (List.forall_iff_forall_mem.mp trip0_4_fresh)) (List.forall_iff_forall_mem.mp trip0_3_fresh)) (List.forall_iff_forall_mem.mp trip0_2_fresh)) (List.forall_iff_forall_mem.mp trip0_1_fresh)) (List.forall_iff_forall_mem.mp trip0_0_fresh)
/-- A buffer no operation of these lines writes is left as it was. -/
theorem trip0_keep (V : Valuation τ sig (Elt F)) {r : Ref sig .tc} (h : r ∉ trip0_0_W ++ trip0_1_W ++ trip0_2_W ++ trip0_3_W ++ trip0_4_W ++ trip0_5_W) :
    afterL trip0 V (Proc.devRef .tc r) = V (Proc.devRef .tc r) := by
  simp only [List.mem_append, not_or] at h
  obtain ⟨⟨⟨⟨⟨h0, h1⟩, h2⟩, h3⟩, h4⟩, h5⟩ := h
  exact (after_of_writes_sub trip0_5 _ trip0_5_writes h5) |>.trans <| (after_of_writes_sub trip0_4 _ trip0_4_writes h4) |>.trans <| (after_of_writes_sub trip0_3 _ trip0_3_writes h3) |>.trans <| (after_of_writes_sub trip0_2 _ trip0_2_writes h2) |>.trans <| (after_of_writes_sub trip0_1 _ trip0_1_writes h1) |>.trans <| (after_of_writes_sub trip0_0 _ trip0_0_writes h0)

abbrev between : List (List (HloOp τ sig (Elt F))) := [line2_0, line2_1, line2_2, line2_3, line2_4]
theorem between_plain : Plain (between (F := F)) := .cons line2_0_sub (.cons line2_1_sub (.cons line2_2_sub (.cons line2_3_sub (.cons line2_4_sub (.nil) (List.forall_iff_forall_mem.mp line2_4_fresh)) (List.forall_iff_forall_mem.mp line2_3_fresh)) (List.forall_iff_forall_mem.mp line2_2_fresh)) (List.forall_iff_forall_mem.mp line2_1_fresh)) (List.forall_iff_forall_mem.mp line2_0_fresh)
/-- A buffer no operation of these lines writes is left as it was. -/
theorem between_keep (V : Valuation τ sig (Elt F)) {r : Ref sig .tc} (h : r ∉ line2_0_W ++ line2_1_W ++ line2_2_W ++ line2_3_W ++ line2_4_W) :
    afterL between V (Proc.devRef .tc r) = V (Proc.devRef .tc r) := by
  simp only [List.mem_append, not_or] at h
  obtain ⟨⟨⟨⟨h0, h1⟩, h2⟩, h3⟩, h4⟩ := h
  exact (after_of_writes_sub line2_4 _ line2_4_writes h4) |>.trans <| (after_of_writes_sub line2_3 _ line2_3_writes h3) |>.trans <| (after_of_writes_sub line2_2 _ line2_2_writes h2) |>.trans <| (after_of_writes_sub line2_1 _ line2_1_writes h1) |>.trans <| (after_of_writes_sub line2_0 _ line2_0_writes h0)

abbrev trip1 : List (List (HloOp τ sig (Elt F))) := [trip1_0, trip1_1, trip1_2, trip1_3, trip1_4, trip1_5, trip1_6, trip1_7]
theorem trip1_plain : Plain (trip1 (F := F)) := .cons trip1_0_sub (.cons trip1_1_sub (.cons trip1_2_sub (.cons trip1_3_sub (.cons trip1_4_sub (.cons trip1_5_sub (.cons trip1_6_sub (.cons trip1_7_sub (.nil) (List.forall_iff_forall_mem.mp trip1_7_fresh)) (List.forall_iff_forall_mem.mp trip1_6_fresh)) (List.forall_iff_forall_mem.mp trip1_5_fresh)) (List.forall_iff_forall_mem.mp trip1_4_fresh)) (List.forall_iff_forall_mem.mp trip1_3_fresh)) (List.forall_iff_forall_mem.mp trip1_2_fresh)) (List.forall_iff_forall_mem.mp trip1_1_fresh)) (List.forall_iff_forall_mem.mp trip1_0_fresh)
/-- A buffer no operation of these lines writes is left as it was. -/
theorem trip1_keep (V : Valuation τ sig (Elt F)) {r : Ref sig .tc} (h : r ∉ trip1_0_W ++ trip1_1_W ++ trip1_2_W ++ trip1_3_W ++ trip1_4_W ++ trip1_5_W ++ trip1_6_W ++ trip1_7_W) :
    afterL trip1 V (Proc.devRef .tc r) = V (Proc.devRef .tc r) := by
  simp only [List.mem_append, not_or] at h
  obtain ⟨⟨⟨⟨⟨⟨⟨h0, h1⟩, h2⟩, h3⟩, h4⟩, h5⟩, h6⟩, h7⟩ := h
  exact (after_of_writes_sub trip1_7 _ trip1_7_writes h7) |>.trans <| (after_of_writes_sub trip1_6 _ trip1_6_writes h6) |>.trans <| (after_of_writes_sub trip1_5 _ trip1_5_writes h5) |>.trans <| (after_of_writes_sub trip1_4 _ trip1_4_writes h4) |>.trans <| (after_of_writes_sub trip1_3 _ trip1_3_writes h3) |>.trans <| (after_of_writes_sub trip1_2 _ trip1_2_writes h2) |>.trans <| (after_of_writes_sub trip1_1 _ trip1_1_writes h1) |>.trans <| (after_of_writes_sub trip1_0 _ trip1_0_writes h0)

abbrev rest : List (List (HloOp τ sig (Elt F))) := [line2_5, line2_6, line2_7, line3_0, line4_0]
theorem rest_plain : Plain (rest (F := F)) := .cons line2_5_sub (.cons line2_6_sub (.cons line2_7_sub (.cons line3_0_sub (.cons line4_0_sub (.nil) (List.forall_iff_forall_mem.mp line4_0_fresh)) (List.forall_iff_forall_mem.mp line3_0_fresh)) (List.forall_iff_forall_mem.mp line2_7_fresh)) (List.forall_iff_forall_mem.mp line2_6_fresh)) (List.forall_iff_forall_mem.mp line2_5_fresh)
/-- A buffer no operation of these lines writes is left as it was. -/
theorem rest_keep (V : Valuation τ sig (Elt F)) {r : Ref sig .tc} (h : r ∉ line2_5_W ++ line2_6_W ++ line2_7_W ++ line3_0_W ++ line4_0_W) :
    afterL rest V (Proc.devRef .tc r) = V (Proc.devRef .tc r) := by
  simp only [List.mem_append, not_or] at h
  obtain ⟨⟨⟨⟨h0, h1⟩, h2⟩, h3⟩, h4⟩ := h
  exact (after_of_writes_sub line4_0 _ line4_0_writes h4) |>.trans <| (after_of_writes_sub line3_0 _ line3_0_writes h3) |>.trans <| (after_of_writes_sub line2_7 _ line2_7_writes h2) |>.trans <| (after_of_writes_sub line2_6 _ line2_6_writes h1) |>.trans <| (after_of_writes_sub line2_5 _ line2_5_writes h0)

/-- The test of loop 0. -/
abbrev test0 : List (HloOp τ sig (Elt F)) :=
  [ StableHlo.nullary main_while0c_c_51 (constantI S_ 32 2048#32), StableHlo.binary main_v98_2 main_while0c_c_51 main_while0c_v227 (cmpi .slt) ]
theorem test0_keep (V : Valuation τ sig (Elt F)) {r : Ref sig .tc} (h : r ∉ [main_while0c_c_51, main_while0c_v227]) :
    after test0 V (Proc.devRef .tc r) = V (Proc.devRef .tc r) :=
  after_of_writes_sub (W := [main_while0c_c_51, main_while0c_v227]) test0 V (StableHlo.forall_writes_sub_of_map rfl) h

theorem count0 (V : Valuation τ sig (Elt F)) : afterL trip0 V (Proc.devRef .tc main_v98_2) = addi (V (Proc.devRef .tc main_v98_2)) (constantI S_ 32 1#32) := by
  simp only [afterL_cons, afterL_nil]
  have e : ∀ X : Valuation τ sig (Elt F), after trip0_5 X (Proc.devRef .tc main_v98_2) = addi (X (Proc.devRef .tc main_v98_2)) (constantI S_ 32 1#32) := fun X => by
    after_results; rfl
  rw [e, after_of_writes_sub trip0_4 _ trip0_4_writes (by decide +kernel), after_of_writes_sub trip0_3 _ trip0_3_writes (by decide +kernel), after_of_writes_sub trip0_2 _ trip0_2_writes (by decide +kernel), after_of_writes_sub trip0_1 _ trip0_1_writes (by decide +kernel), after_of_writes_sub trip0_0 _ trip0_0_writes (by decide +kernel)]

theorem counter0 (W : Dev nD → Valuation τ sig (Elt F)) (c : Dev nD) (h : W c (Proc.devRef .tc main_v98_2) = fun _ => (0#32 : BitVec 32)) :
    ∀ k, atTrip test0 trip0 W k c (Proc.devRef .tc main_v98_2) = fun _ => Scf.iv 0#32 1#32 k
  | 0 => by rw [atTrip_zero, h, Scf.iv_zero]
  | k + 1 => by
    rw [atTrip_succ, count0, test0_keep _ (by decide +kernel), counter0 W c h k, Scf.iv_succ]
    rfl

set_option backward.isDefEq.respectTransparency.types false in
theorem counts0 (W : Dev nD → Valuation τ sig (Elt F)) (h : ∀ c, W c (Proc.devRef .tc main_v98_2) = fun _ => (0#32 : BitVec 32)) :
    LoopCond (pcfgs (F := F)) defs₀ Variants.none loops TwoLoops.Owed main_while0_cond test0 trip0 W 2048 := by
  intro k hk c bd
  have hctr := counter0 W c (h c) k
  unfold main_while0_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test0 trip0 W k c) main_v98_2 HostLoop.idx0)
        (HloOp.result _ (atTrip test0 trip0 W k c) main_while0c_c_51 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-- The test of loop 1. -/
abbrev test1 : List (HloOp τ sig (Elt F)) :=
  [ StableHlo.nullary main_while1c_c_52 (constantI S_ 32 2048#32), StableHlo.binary main_v110_3 main_while1c_c_52 main_while1c_v227 (cmpi .slt) ]
theorem test1_keep (V : Valuation τ sig (Elt F)) {r : Ref sig .tc} (h : r ∉ [main_while1c_c_52, main_while1c_v227]) :
    after test1 V (Proc.devRef .tc r) = V (Proc.devRef .tc r) :=
  after_of_writes_sub (W := [main_while1c_c_52, main_while1c_v227]) test1 V (StableHlo.forall_writes_sub_of_map rfl) h

theorem count1 (V : Valuation τ sig (Elt F)) : afterL trip1 V (Proc.devRef .tc main_v110_3) = addi (V (Proc.devRef .tc main_v110_3)) (constantI S_ 32 1#32) := by
  simp only [afterL_cons, afterL_nil]
  have e : ∀ X : Valuation τ sig (Elt F), after trip1_7 X (Proc.devRef .tc main_v110_3) = addi (X (Proc.devRef .tc main_v110_3)) (constantI S_ 32 1#32) := fun X => by
    after_results; rfl
  rw [e, after_of_writes_sub trip1_6 _ trip1_6_writes (by decide +kernel), after_of_writes_sub trip1_5 _ trip1_5_writes (by decide +kernel), after_of_writes_sub trip1_4 _ trip1_4_writes (by decide +kernel), after_of_writes_sub trip1_3 _ trip1_3_writes (by decide +kernel), after_of_writes_sub trip1_2 _ trip1_2_writes (by decide +kernel), after_of_writes_sub trip1_1 _ trip1_1_writes (by decide +kernel), after_of_writes_sub trip1_0 _ trip1_0_writes (by decide +kernel)]

theorem counter1 (W : Dev nD → Valuation τ sig (Elt F)) (c : Dev nD) (h : W c (Proc.devRef .tc main_v110_3) = fun _ => (0#32 : BitVec 32)) :
    ∀ k, atTrip test1 trip1 W k c (Proc.devRef .tc main_v110_3) = fun _ => Scf.iv 0#32 1#32 k
  | 0 => by rw [atTrip_zero, h, Scf.iv_zero]
  | k + 1 => by
    rw [atTrip_succ, count1, test1_keep _ (by decide +kernel), counter1 W c h k, Scf.iv_succ]
    rfl

set_option backward.isDefEq.respectTransparency.types false in
theorem counts1 (W : Dev nD → Valuation τ sig (Elt F)) (h : ∀ c, W c (Proc.devRef .tc main_v110_3) = fun _ => (0#32 : BitVec 32)) :
    LoopCond (pcfgs (F := F)) defs₀ Variants.none loops TwoLoops.Owed main_while1_cond test1 trip1 W 2048 := by
  intro k hk c bd
  have hctr := counter1 W c (h c) k
  unfold main_while1_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test1 trip1 W k c) main_v110_3 HostLoop.idx0)
        (HloOp.result _ (atTrip test1 trip1 W k c) main_while1c_c_52 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-- The forward scan. -/
abbrev scan0 : TwoLoops.Loop (F := F) (τ := τ) (nD := nD) pcfgs loops where
  l := 0
  cond := main_while0_cond
  body := main_while0_body
  eq := rfl
  test := test0
  lines := trip0
  plain := trip0_plain
  hbody := by rw [while0_body_chain]; rfl
  n := 2048
/-- The scan of the gradients, from the last row to the first. -/
abbrev scan1 : TwoLoops.Loop (F := F) (τ := τ) (nD := nD) pcfgs loops where
  l := 1
  cond := main_while1_cond
  body := main_while1_body
  eq := rfl
  test := test1
  lines := trip1
  plain := trip1_plain
  hbody := by rw [while1_body_chain]; rfl
  n := 2048

variable (m : (ℓ : Loc nD τ sig) → Buf (Elt F) ℓ) (ρ : Dev nD → PrngReg)

/-- What the buffers hold at the entry of the first loop, at its end, at the entry of the second, at its end, at the end. -/
def V0 (c : Dev nD) : Valuation τ sig (Elt F) := TwoLoops.enterA before m c
def V1 (c : Dev nD) : Valuation τ sig (Elt F) := scan0.out (V0 m) c
def V2 (c : Dev nD) : Valuation τ sig (Elt F) := afterL between (V1 m c)
def V3 (c : Dev nD) : Valuation τ sig (Elt F) := scan1.out (V2 m) c
def V4 (c : Dev nD) : Valuation τ sig (Elt F) := afterL rest (V3 m c)

theorem V0_ctr (c : Dev nD) : V0 m c (Proc.devRef .tc main_v98_2) = fun _ => (0#32 : BitVec 32) := by
  unfold V0
  simp only [TwoLoops.enterA, afterL_cons, afterL_nil]
  after_reads_simp
  rfl
theorem V2_ctr (c : Dev nD) : V2 m c (Proc.devRef .tc main_v110_3) = fun _ => (0#32 : BitVec 32) := by
  unfold V2
  simp only [afterL_cons, afterL_nil]
  after_reads_simp
  rfl

/-- Every run of the reference ends with every buffer at its fold. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = V4 m c (Proc.devRef .tc b)) :=
  TwoLoops.run (A := scan0) (B := scan1) (pre := before) (mid := between) (post := rest) (m := m) defs₀ main
    (fun c => by rw [main_chain_windows]; rfl) before_plain between_plain rest_plain ρ
    (counts0 _ fun c => V0_ctr m c) (counts1 _ fun c => V2_ctr m c)

/-- An argument is never written. -/
theorem V4_arg (c : Dev nD) {r : Ref sig .tc} (h0 : r ∉ line0_0_W ++ line1_0_W ++ line1_1_W ++ line1_2_W) (h1 : r ∉ trip0_0_W ++ trip0_1_W ++ trip0_2_W ++ trip0_3_W ++ trip0_4_W ++ trip0_5_W)
    (h2 : r ∉ line2_0_W ++ line2_1_W ++ line2_2_W ++ line2_3_W ++ line2_4_W) (h3 : r ∉ trip1_0_W ++ trip1_1_W ++ trip1_2_W ++ trip1_3_W ++ trip1_4_W ++ trip1_5_W ++ trip1_6_W ++ trip1_7_W)
    (h4 : r ∉ line2_5_W ++ line2_6_W ++ line2_7_W ++ line3_0_W ++ line4_0_W)
    (h5 : r ∉ [main_while0c_c_51, main_while0c_v227]) (h6 : r ∉ [main_while1c_c_52, main_while1c_v227]) :
    V4 m c (Proc.devRef .tc r) = m ((c : Thread nD τ).loc r) := by
  have a0 : ∀ k, atTrip test0 trip0 (V0 m) k c (Proc.devRef .tc r) = V0 m c (Proc.devRef .tc r) := fun k => by
    induction k with
    | zero => rfl
    | succ k ih => rw [atTrip_succ, trip0_keep _ h1, test0_keep _ h5, ih]
  have a1 : ∀ k, atTrip test1 trip1 (V2 m) k c (Proc.devRef .tc r) = V2 m c (Proc.devRef .tc r) := fun k => by
    induction k with
    | zero => rfl
    | succ k ih => rw [atTrip_succ, trip1_keep _ h3, test1_keep _ h6, ih]
  refine (rest_keep _ h4).trans ((test1_keep _ h6).trans ((a1 2048).trans ((between_keep _ h2).trans ((test0_keep _ h5).trans ((a0 2048).trans (before_keep _ h0))))))

end Cert.LruRefIdeal.Host

end

end
-- ==== Proof.LruRefRows.lean ====
module

public import proofs.«01_k».proof.Proof.Gen.LruRefIdeal
public import proofs.«01_k».proof.Proof.Common
public import proofs.«01_k».proof.Proof.LruModel
public import Idealize.ShloMosaic.Lib.Pipeline.ValueKit
public import Idealize.ShloMosaic.Lib.Tactic.CleanTypes

/-! The array operations of the reference, on arrays that hold real numbers. -/

@[expose] public section

set_option maxRecDepth 16384

noncomputable section

namespace Cert.LruRefIdeal.Host

open Idealize.ShloMosaic Idealize.ShloMosaic.TcCoe Cert.LruRefIdeal.Gen Cert.LruM Cert.Common

/-- Real numbers by head, column and time. -/
abbrev Seq := Fin 16 → Fin 256 → ℕ → ℝ
/-- Where an array keeps them. -/
abbrev Place (s : Shape) := Fin 16 → Fin 256 → Fin 2048 → s.Idx

def P3 : Place S1x2048x4096 := fun h x s => ix3 0 s (col h x)
def P4 : Place S1x2048x16x256 := fun h x s => ix4 0 s h x
def PT : Place S2048x1x4096 := fun h x s => ix3 s 0 (col h x)
def Q4 : Place S16x256x1x2048 := fun h x s => ix4 h x 0 s

def Holds {s : Shape} (p : Place s) (a : FVec Ideal s .f32) (f : Seq) : Prop := ∀ h x s, a (p h x s) = ((f h x s.val : ℝ) : EReal)

section
variable {s : Shape} {p : Place s} {a b : FVec Ideal s .f32} {f g : Seq}

theorem Holds.congr (ha : Holds p a f) (e : ∀ h x (s : Fin 2048), f h x s.val = g h x s.val) : Holds p a g := fun h x s => by rw [ha, e]
theorem Holds.mul (ha : Holds p a f) (hb : Holds p b g) : Holds p (mulf a b) fun h x s => f h x s * g h x s := fun h x s => by
  show a _ * b _ = _; rw [ha, hb, ← EReal.coe_mul]
theorem Holds.add (ha : Holds p a f) (hb : Holds p b g) : Holds p (addf a b) fun h x s => f h x s + g h x s := fun h x s => by
  show a _ + b _ = _; rw [ha, hb, ← EReal.coe_add]
theorem Holds.sub (ha : Holds p a f) (hb : Holds p b g) : Holds p (subf a b) fun h x s => f h x s - g h x s := fun h x s => by
  show a _ - b _ = _; rw [ha, hb, ← EReal.coe_sub]
theorem Holds.neg (ha : Holds p a f) : Holds p (Host.negf a) fun h x s => -f h x s := fun h x s => by
  show -a _ = _; rw [ha, ← EReal.coe_neg]
theorem Holds.exp (ha : Holds p a f) : Holds p (Host.exp a) fun h x s => Real.exp (f h x s) := fun h x s => by
  show Ideal.exp (a _) = _; rw [ha, Ideal.exp_coe]
theorem Holds.expm1 (ha : Holds p a f) : Holds p (Host.expm1 a) fun h x s => Real.exp (f h x s) - 1 := fun h x s => by
  show Ideal.exp (a _) - 1 = _; rw [ha, Ideal.exp_coe, ← EReal.coe_one, ← EReal.coe_sub]
theorem Holds.sqrt (ha : Holds p a f) (hf : ∀ h x (s : Fin 2048), 0 ≤ f h x s.val) : Holds p (Host.sqrt a) fun h x s => Real.sqrt (f h x s) := fun h x s => by
  show Ideal.sqrt (a _) = _; rw [ha, Ideal.sqrt_coe, if_neg (not_lt.mpr (hf h x s))]
theorem Holds.div (ha : Holds p a f) (hb : Holds p b g) (hg : ∀ h x (s : Fin 2048), g h x s.val ≠ 0) : Holds p (Host.divf a b) fun h x s => f h x s * (1 / g h x s) := fun h x s => by
  show Ideal.div (a _) (b _) = _; rw [ha, hb, Ideal.div_coe (hg h x s), ← EReal.coe_mul]
/-- A constant array. -/
theorem Holds.const (w : BitVec 32) (q : ℝ) (hq : Ideal.ofBits FTy.f32 w = ((q : ℝ) : EReal)) (hb : S_.BroadcastsInDim s (![] : Fin 0 → Fin s.rank)) :
    Holds p (broadcastInDim s ![] hb (constant S_ .f32 w)) fun _ _ _ => q := fun h x s => hq
end

theorem word_zero : Ideal.ofBits FTy.f32 0x00000000#32 = ((0 : ℝ) : EReal) := by simp [Ideal.ofBits, Ideal.ieee, -EReal.coe_mul]
theorem word_one : Ideal.ofBits FTy.f32 0x3F800000#32 = ((1 : ℝ) : EReal) := by simp [Ideal.ofBits, Ideal.ieee, -EReal.coe_mul]; norm_num
theorem word_two : Ideal.ofBits FTy.f32 0x40000000#32 = ((2 : ℝ) : EReal) := by simp [Ideal.ofBits, Ideal.ieee, -EReal.coe_mul]; norm_num
theorem word_half : Ideal.ofBits FTy.f32 0x3F000000#32 = ((1 / 2 : ℝ) : EReal) := by simp [Ideal.ofBits, Ideal.ieee, -EReal.coe_mul]; norm_num
theorem word_neg8 : Ideal.ofBits FTy.f32 0xC1000000#32 = ((-8 : ℝ) : EReal) := by simp [Ideal.ofBits, Ideal.ieee, -EReal.coe_mul]; norm_num

/-! ### Changes of layout -/

section
variable {f g : Seq}
theorem Holds.split {a : FVec Ideal S1x2048x4096 .f32} (ha : Holds P3 a f) (hc : S1x2048x4096.ShapeCasts S1x2048x16x256) : Holds P4 (shapeCast S1x2048x16x256 a hc) f := fun h x s => by
  show shapeCast S1x2048x16x256 a hc (ix4 0 s h x) = _
  rw [← ha h x s]
  unfold P3
  pointwise
  rfl
theorem Holds.join {a : FVec Ideal S1x2048x16x256 .f32} (ha : Holds P4 a f) (hc : S1x2048x16x256.ShapeCasts S1x2048x4096) : Holds P3 (shapeCast S1x2048x4096 a hc) f := fun h x s => by
  show shapeCast S1x2048x4096 a hc (ix3 0 s (col h x)) = _
  rw [← ha h x s]
  unfold P4
  pointwise
  exact congrArg₂ (fun y z => a (ix4 0 s y z)) (Fin.ext (by show (h.val * 256 + x.val) / 256 = h.val; omega)) (Fin.ext (by show (h.val * 256 + x.val) % 256 = x.val; omega))
theorem Holds.toT {a : FVec Ideal S1x2048x4096 .f32} (ha : Holds P3 a f) (hc : S1x2048x4096.Transposes [1, 0, 2] S2048x1x4096) : Holds PT (transpose S2048x1x4096 [1, 0, 2] a hc) f := fun h x s => by
  show transpose S2048x1x4096 [1, 0, 2] a hc (ix3 s 0 (col h x)) = _
  rw [← ha h x s]
  unfold P3
  pointwise
theorem Holds.ofT {a : FVec Ideal S2048x1x4096 .f32} (ha : Holds PT a f) (hc : S2048x1x4096.Transposes [1, 0, 2] S1x2048x4096) : Holds P3 (transpose S1x2048x4096 [1, 0, 2] a hc) f := fun h x s => by
  show transpose S1x2048x4096 [1, 0, 2] a hc (ix3 0 s (col h x)) = _
  rw [← ha h x s]
  unfold PT
  pointwise
theorem Holds.toQ {a : FVec Ideal S1x2048x16x256 .f32} (ha : Holds P4 a f) (hc : S1x2048x16x256.Transposes [2, 3, 0, 1] S16x256x1x2048) : Holds Q4 (transpose S16x256x1x2048 [2, 3, 0, 1] a hc) f := fun h x s => by
  show transpose S16x256x1x2048 [2, 3, 0, 1] a hc (ix4 h x 0 s) = _
  rw [← ha h x s]
  unfold P4
  pointwise
end

/-- The gates' matrices in real numbers. -/
def Mat (w : FVec Ideal S16x256x256 .f32) (f : Fin 16 → Fin 256 → Fin 256 → ℝ) : Prop := ∀ h i j, w (ix3 h i j) = ((f h i j : ℝ) : EReal)

theorem Holds.gate {w : FVec Ideal S16x256x256 .f32} {q} (hw : Mat w q) {a : FVec Ideal S1x2048x16x256 .f32} {f : Seq} (ha : Holds P4 a f) :
    Holds P4 (transpose S1x2048x16x256 [2, 3, 0, 1] (Host.dotGeneral dot_S16x256x256_S1x2048x16x256_S16x256x1x2048_1_3_2_01_0_2 none w a) transposes_S16x256x1x2048_S1x2048x16x256_2_3_0_1)
      fun h x s => ∑ j, f h j s * q h j x := fun h x s => by
  show transpose S1x2048x16x256 [2, 3, 0, 1] _ transposes_S16x256x1x2048_S1x2048x16x256_2_3_0_1 (ix4 0 s h x) = _
  pointwise
  rw [← coe_sum]
  exact Finset.sum_congr rfl fun j _ => by rw [hw h j x, show a (ix4 0 s h j) = _ from ha h j s, ← EReal.coe_mul, mul_comm]

theorem Holds.back {w : FVec Ideal S16x256x256 .f32} {q} (hw : Mat w q) {a : FVec Ideal S16x256x1x2048 .f32} {f : Seq} (ha : Holds Q4 a f) :
    Holds P4 (transpose S1x2048x16x256 [1, 2, 0, 3] (Host.dotGeneral dot_S16x256x1x2048_S16x256x256_S16x1x2048x256_1_2_23_1_0_0 none a w) transposes_S16x1x2048x256_S1x2048x16x256_1_2_0_3)
      fun h x s => ∑ k, f h k s * q h x k := fun h x s => by
  show transpose S1x2048x16x256 [1, 2, 0, 3] _ transposes_S16x1x2048x256_S1x2048x16x256_1_2_0_3 (ix4 0 s h x) = _
  pointwise
  rw [← coe_sum]
  exact Finset.sum_congr rfl fun j _ => by rw [hw h x j, show a (ix4 h j 0 s) = _ from ha h j s, ← EReal.coe_mul]

theorem Holds.outer {a : FVec Ideal S16x256x1x2048 .f32} {b : FVec Ideal S1x2048x16x256 .f32} {f g : Seq} (ha : Holds Q4 a f) (hb : Holds P4 b g) :
    Mat (transpose S16x256x256 [0, 2, 1] (Host.dotGeneral dot_S16x256x1x2048_S1x2048x16x256_S16x256x256_23_01_1_3_0_2 none a b) transposes_S16x256x256_S16x256x256_0_2_1)
      fun h i j => ∑ s : Fin 2048, g h i s.val * f h j s.val := fun h i j => by
  pointwise
  rw [← coe_sum, Fin.sum_univ_one]
  exact Finset.sum_congr rfl fun s _ => by rw [show a (ix4 h j 0 s) = _ from ha h j s, show b (ix4 0 s h i) = _ from hb h i s, ← EReal.coe_mul, mul_comm]

/-! ### Sums over time -/

/-- Real numbers by column. -/
def Lane (a : FVec Ideal S4096 .f32) (f : Fin 16 → Fin 256 → ℝ) : Prop := ∀ h x, a (ix1 (col h x)) = ((f h x : ℝ) : EReal)
def LaneH (a : FVec Ideal S16x256 .f32) (f : Fin 16 → Fin 256 → ℝ) : Prop := ∀ h x, a (ix2 h x) = ((f h x : ℝ) : EReal)

theorem one_one (v : S1x1x16x256.Idx → EReal) (i : EReal) (h : Fin 16) (x : Fin 256) :
    Ideal.hostReduceAdd reducesTo_S1x1x16x256_S16x256_d0_1 v i (ix2 h x) = i + v (ix4 0 0 h x) := by
  unfold Ideal.hostReduceAdd
  rw [Finset.sum_filter_eq_sum_of_fiber _ (fun _ : Fin 1 => ix4 0 0 h x) (fun _ _ _ => Subsingleton.elim _ _), Fin.sum_univ_one]
  intro j
  constructor
  · intro e
    refine ⟨0, funext fun b => ?_⟩
    match b with
    | ⟨0, _⟩ => exact Subsingleton.elim (α := Fin 1) _ _
    | ⟨1, _⟩ => exact Subsingleton.elim (α := Fin 1) _ _
    | ⟨2, _⟩ => exact (congrFun e 0).symm
    | ⟨3, _⟩ => exact (congrFun e 1).symm
  · rintro ⟨k, rfl⟩
    funext b
    match b with
    | ⟨0, _⟩ => rfl
    | ⟨1, _⟩ => rfl

theorem Holds.sum {a : FVec Ideal S1x2048x4096 .f32} {f : Seq} (ha : Holds P3 a f) :
    Lane (Host.reduceAdd (shapeCast S1x1x4096 (Host.reduceAdd a (constant S_ .f32 0x00000000#32) reducesTo_S1x2048x4096_S1x4096_d1 h_S_) shapeCasts_S1x4096_S1x1x4096)
      (constant S_ .f32 0x00000000#32) reducesTo_S1x1x4096_S4096_d0_1 h_S_) fun h x => ∑ s : Fin 2048, f h x s.val := fun h x => by
  pointwise
  rw [← coe_sum, Fin.sum_univ_one, Fin.sum_univ_one]
  exact Finset.sum_congr rfl fun s _ => ha h x s
theorem Holds.sumH {a : FVec Ideal S1x2048x16x256 .f32} {f : Seq} (ha : Holds P4 a f) :
    LaneH (Host.reduceAdd (shapeCast S1x1x16x256 (Host.reduceAdd a (constant S_ .f32 0x00000000#32) reducesTo_S1x2048x16x256_S1x16x256_d1 h_S_) shapeCasts_S1x16x256_S1x1x16x256)
      (constant S_ .f32 0x00000000#32) reducesTo_S1x1x16x256_S16x256_d0_1 h_S_) fun h x => ∑ s : Fin 2048, f h x s.val := fun h x => by
  show Ideal.hostReduceAdd reducesTo_S1x1x16x256_S16x256_d0_1 _ (Ideal.ofBits FTy.f32 0x00000000#32) (ix2 h x) = _
  rw [one_one, word_zero, EReal.coe_zero, zero_add]
  pointwise
  rw [← coe_sum]
  exact Finset.sum_congr rfl fun s _ => ha h x s

/-! ### Lanes spread over time -/

/-- A row of 4096 columns. -/
def Line (t : FVec Ideal S1x1x4096 .f32) (g : Fin 16 → Fin 256 → ℝ) : Prop := ∀ h x, t (ix3 0 0 (col h x)) = ((g h x : ℝ) : EReal)
theorem Lane.line {l : FVec Ideal S4096 .f32} {g} (hl : Lane l g) : Line (broadcastInDim S1x1x4096 ![2] bcast_S4096_S1x1x4096_2 l) g := fun h x => by
  rw [← hl h x]
  pointwise
theorem Line.wide {t : FVec Ideal S1x1x4096 .f32} {g} (ht : Line t g) : Holds P3 (broadcastInDim S1x2048x4096 ![0, 1, 2] bcast_S1x1x4096_S1x2048x4096_0_1_2 t) fun h x _ => g h x := fun h x s => by
  rw [← ht h x]
  unfold P3
  pointwise
theorem LaneH.wide {l : FVec Ideal S16x256 .f32} {g} (hl : LaneH l g) :
    Holds P4 (broadcastInDim S1x2048x16x256 ![0, 1, 2, 3] bcast_S1x1x16x256_S1x2048x16x256_0_1_2_3 (broadcastInDim S1x1x16x256 ![2, 3] bcast_S16x256_S1x1x16x256_2_3 l)) fun h x _ => g h x :=
  fun h x s => by
  rw [← hl h x]
  unfold P4
  pointwise

/-! ### The convolution -/

/-- One of its four taps. -/
theorem tap_lane {w : FVec Ideal S1x4x4096 .f32} {q : Fin 4 → Fin 4096 → ℝ} (hw : ∀ k e, w (ix3 0 k e) = ((q k e : ℝ) : EReal)) (k : Fin 4) (hk : S4x4096.Slices (![k.val, 0] : Fin 2 → Nat) S1x4096) :
    Lane (shapeCast S4096 (extractStridedSlice S1x4096 ![k.val, 0] (shapeCast S4x4096 w shapeCasts_S1x4x4096_S4x4096) hk) shapeCasts_S1x4096_S4096) fun h x => q k (col h x) := fun h x => by
  rw [← hw k (col h x)]
  pointwise

/-- The projection's first half with three zero rows before it, read from row `k` on. -/
def late (a : FVec Ideal S1x2048x8192 .f32) (k : ℕ) (hk : S1x2051x4096.Slices (![0, k, 0] : Fin 3 → Nat) S1x2048x4096) : FVec Ideal S1x2048x4096 .f32 :=
  extractStridedSlice S1x2048x4096 ![0, k, 0]
    (concatenate S1x2051x4096 1 [⟨S1x3x4096, broadcastInDim S1x3x4096 ![] bcast_S_S1x3x4096 (constant S_ .f32 0x00000000#32)⟩,
      ⟨S1x2048x4096, extractStridedSlice S1x2048x4096 ![0, 0, 0] a slices_S1x2048x8192_S1x2048x4096_0_0_0⟩] concatenates_S1x3x4096_S1x2048x4096_S1x2051x4096_d1) hk

theorem late_holds {a : FVec Ideal S1x2048x8192 .f32} {f : Seq} (ha : ∀ h x (s : Fin 2048), a (ix3 0 s ⟨(col h x).val, by omega⟩) = ((f h x s.val : ℝ) : EReal)) (k : ℕ) (hk3 : k ≤ 3)
    (hk : S1x2051x4096.Slices (![0, k, 0] : Fin 3 → Nat) S1x2048x4096) : Holds P3 (late a k hk) fun h x => dn (3 - k) (f h x) := fun h x s => by
  unfold late P3 dn
  pointwise
  by_cases hs : k + s.val < 3
  · exact (dif_pos hs).trans (EReal.coe_zero.symm.trans (congrArg (fun r : ℝ => (r : EReal)) (if_neg (by omega)).symm))
  · refine (dif_neg hs).trans (Eq.trans ?_ (congrArg (fun r : ℝ => (r : EReal)) (if_pos (by omega)).symm))
    refine (ha h x ⟨k + s.val - 3, by omega⟩).trans ?_
    exact congrArg (fun n => ((f h x n : ℝ) : EReal)) (by show k + s.val - 3 = s.val - (3 - k); omega)

/-- A sequence put `k` rows down in 2051 rows, read from row 3 on. -/
theorem Holds.put {a : FVec Ideal S1x2048x4096 .f32} {f : Seq} (ha : Holds P3 a f) (k l : ℕ) (hl : k + l = 3)
    (hp : S1x2048x4096.Pads (![0, k, 0] : Fin 3 → Nat) ![0, l, 0] ![0, 0, 0] S1x2051x4096) :
    Holds P3 (extractStridedSlice S1x2048x4096 ![0, 3, 0] (pad S1x2051x4096 ![0, k, 0] ![0, l, 0] ![0, 0, 0] a (constant (F := Ideal) S_ .f32 0x00000000#32) hp h_S_) slices_S1x2051x4096_S1x2048x4096_0_3_0)
      fun h x => up l (f h x) := fun h x s => by
  unfold P3 up
  pointwise
  by_cases hs : s.val + l < 2048
  · rw [if_pos hs]
    refine (dif_pos ⟨by omega, by omega⟩).trans ((ha h x ⟨3 + s.val - k, by omega⟩).trans ?_)
    exact congrArg (fun n => ((f h x n : ℝ) : EReal)) (by show 3 + s.val - k = s.val + l; omega)
  · rw [if_neg hs]
    exact (dif_neg (by omega)).trans EReal.coe_zero.symm

/-- Four rows, one of them given. -/
theorem Lane.put {l : FVec Ideal S4096 .f32} {g} (hl : Lane l g) (k n : ℕ) (hn : k + n = 3) (hp : S1x4096.Pads (![k, 0] : Fin 2 → Nat) ![n, 0] ![0, 0] S4x4096) (r : Fin 4) (h : Fin 16) (x : Fin 256) :
    pad S4x4096 ![k, 0] ![n, 0] ![0, 0] (broadcastInDim S1x4096 ![1] bcast_S4096_S1x4096_1 l) (constant (F := Ideal) S_ .f32 0x00000000#32) hp h_S_ (ix2 r (col h x)) =
      ((if r.val = k then g h x else 0 : ℝ) : EReal) := by
  pointwise
  by_cases hr : r.val = k
  · rw [if_pos hr, ← hl h x]
    exact dif_pos ⟨by omega, by omega⟩
  · rw [if_neg hr]
    exact (dif_neg (by omega)).trans EReal.coe_zero.symm

/-! ### The logistic function -/

theorem Holds.sig {s : Shape} {p : Place s} {a : FVec Ideal s .f32} {f : Seq} (ha : Holds p a f) (hb hb' : S_.BroadcastsInDim s (![] : Fin 0 → Fin s.rank)) :
    Holds p (Host.divf (broadcastInDim s ![] hb' (constant S_ .f32 0x3F800000#32)) (addf (broadcastInDim s ![] hb (constant S_ .f32 0x3F800000#32)) (Host.exp (Host.negf a)))) fun h x s => sgm (f h x s) :=
  ((Holds.const _ 1 word_one hb').div ((Holds.const _ 1 word_one hb).add ha.neg.exp) fun h x s => by positivity).congr fun h x s => by unfold sgm; rw [one_mul, one_div]

end Cert.LruRefIdeal.Host
end
-- ==== Proof.LruRefBefore.lean ====
module

public import proofs.«01_k».proof.Proof.LruRefRun
public import proofs.«01_k».proof.Proof.LruRefRows
public import Idealize.ShloMosaic.Lib.StableHlo.RunRead

/-! What the reference's lines before its first loop hold, in real numbers. -/

@[expose] public section

set_option maxRecDepth 100000

noncomputable section

namespace Cert.LruRefIdeal.Host

open Idealize.ShloMosaic Idealize.ShloMosaic.TcCoe Cert.LruRefIdeal.Gen Cert.LruM Cert.Common Idealize.ShloMosaic.StableHlo

variable {W : Valuation τ sig (Elt Ideal)} {I : In}

/-- The arguments hold the model's numbers. -/
structure Args (W : Valuation τ sig (Elt Ideal)) (I : In) : Prop where
  a0 : ∀ (s : Fin 2048) (e : Fin 8192), W (Proc.devRef .tc main_arg0) (ix3 0 s e) = ((I.p s.val e : ℝ) : EReal)
  a1 : ∀ (k : Fin 4) (e : Fin 4096), W (Proc.devRef .tc main_arg1) (ix3 0 k e) = ((I.cw k e : ℝ) : EReal)
  a2 : ∀ e : Fin 4096, W (Proc.devRef .tc main_arg2) (ix2 0 e) = ((I.cb e : ℝ) : EReal)
  a3 : ∀ (h : Fin 16) (i j : Fin 256), W (Proc.devRef .tc main_arg3) (ix4 0 h i j) = ((I.wa h i j : ℝ) : EReal)
  a4 : ∀ (h : Fin 16) (x : Fin 256), W (Proc.devRef .tc main_arg4) (ix3 0 h x) = ((I.ba h x : ℝ) : EReal)
  a5 : ∀ (h : Fin 16) (i j : Fin 256), W (Proc.devRef .tc main_arg5) (ix4 0 h i j) = ((I.wx h i j : ℝ) : EReal)
  a6 : ∀ (h : Fin 16) (x : Fin 256), W (Proc.devRef .tc main_arg6) (ix3 0 h x) = ((I.bx h x : ℝ) : EReal)
  a7 : ∀ e : Fin 4096, W (Proc.devRef .tc main_arg7) (ix2 0 e) = ((I.lam e : ℝ) : EReal)
  a8 : ∀ (s : Fin 2048) (e : Fin 4096), W (Proc.devRef .tc main_arg8) (ix3 0 s e) = ((I.dy s.val e : ℝ) : EReal)

/-! ### The first lines: the convolution and the gates' sums -/

section
variable (H : Args W I)
include H

theorem at_vin (h : Fin 16) (x : Fin 256) (s : Fin 2048) : W (Proc.devRef .tc main_arg0) (ix3 0 s ⟨(col h x).val, by omega⟩) = ((vin I h x s.val : ℝ) : EReal) := H.a0 s _
theorem at_gin : Holds P3 (after line0_0 W (Proc.devRef .tc main_v8)) (gin I) := by
  after_reads_simp
  intro h x s
  refine Eq.trans ?_ (H.a0 s ⟨4096 + (col h x).val, by omega⟩)
  unfold P3
  pointwise
theorem at_wa : Mat (after line0_0 W (Proc.devRef .tc main_v2)) I.wa := by
  after_reads_simp
  intro h i j
  refine Eq.trans ?_ (H.a3 h i j)
  pointwise
theorem at_wx : Mat (after line0_0 W (Proc.devRef .tc main_v4)) I.wx := by
  after_reads_simp
  intro h i j
  refine Eq.trans ?_ (H.a5 h i j)
  pointwise
theorem at_bx : LaneH (after line0_0 W (Proc.devRef .tc main_v5)) I.bx := by
  after_reads_simp
  intro h x
  refine Eq.trans ?_ (H.a6 h x)
  pointwise
theorem at_lam : Lane (after line0_0 W (Proc.devRef .tc main_v6)) fun h x => I.lam (col h x) := by
  after_reads_simp
  intro h x
  refine Eq.trans ?_ (H.a7 (col h x))
  pointwise
theorem at_t0 : Line (after line0_0 W (Proc.devRef .tc main_v15)) (tap I · · 0) := by
  after_reads_simp; exact (tap_lane H.a1 0 slices_S4x4096_S1x4096_0_0).line
theorem at_t1 : Line (after line0_0 W (Proc.devRef .tc main_v23)) (tap I · · 1) := by
  after_reads_simp; exact (tap_lane H.a1 1 slices_S4x4096_S1x4096_1_0).line
theorem at_t2 : Line (after line0_0 W (Proc.devRef .tc main_v30)) (tap I · · 2) := by
  after_reads_simp; exact (tap_lane H.a1 2 slices_S4x4096_S1x4096_2_0).line
theorem at_t3 : Line (after line0_0 W (Proc.devRef .tc main_v37)) (tap I · · 3) := by
  after_reads_simp; exact (tap_lane H.a1 3 slices_S4x4096_S1x4096_3_0).line
theorem at_x0 : Holds P3 (after line0_0 W (Proc.devRef .tc main_v14)) fun h x => dn 3 (vin I h x) := by
  after_reads_simp; exact late_holds (at_vin H) 0 (by omega) _
theorem at_x1 : Holds P3 (after line0_0 W (Proc.devRef .tc main_v22)) fun h x => dn 2 (vin I h x) := by
  after_reads_simp; exact late_holds (at_vin H) 1 (by omega) _
theorem at_x2 : Holds P3 (after line0_0 W (Proc.devRef .tc main_v29)) fun h x => dn 1 (vin I h x) := by
  after_reads_simp; exact late_holds (at_vin H) 2 (by omega) _
theorem at_x3 : Holds P3 (after line0_0 W (Proc.devRef .tc main_v36)) fun h x => dn 0 (vin I h x) := by
  after_reads_simp; exact late_holds (at_vin H) 3 (by omega) _

theorem bias_lane : Lane (shapeCast S4096 (W (Proc.devRef .tc main_arg2)) shapeCasts_S1x4096_S4096) fun h x => I.cb (col h x) := fun h x => by
  refine Eq.trans ?_ (H.a2 (col h x))
  pointwise
theorem ba_lane : LaneH (shapeCast S16x256 (W (Proc.devRef .tc main_arg4)) shapeCasts_S1x16x256_S16x256) I.ba := fun h x => by
  refine Eq.trans ?_ (H.a4 h x)
  pointwise
end

/-- The convolution's lines. -/
def conv (W : Valuation τ sig (Elt Ideal)) : FVec Ideal S1x2048x4096 .f32 :=
  let w (t : FVec Ideal S1x1x4096 .f32) : FVec Ideal S1x2048x4096 .f32 := broadcastInDim S1x2048x4096 ![0, 1, 2] bcast_S1x1x4096_S1x2048x4096_0_1_2 t
  let at_ (r : Ref sig .tc) := after line0_0 W (Proc.devRef .tc r)
  addf (addf (addf (addf (addf (broadcastInDim S1x2048x4096 ![] bcast_S_S1x2048x4096 (constant S_ .f32 0x00000000#32)) (mulf (w (at_ main_v15)) (at_ main_v14)))
    (mulf (w (at_ main_v23)) (at_ main_v22))) (mulf (w (at_ main_v30)) (at_ main_v29))) (mulf (w (at_ main_v37)) (at_ main_v36)))
    (w (broadcastInDim S1x1x4096 ![2] bcast_S4096_S1x1x4096_2 (shapeCast S4096 (W (Proc.devRef .tc main_arg2)) shapeCasts_S1x4096_S4096)))

theorem dn_zero (f : ℕ → ℝ) (s : ℕ) : dn 0 f s = f s := if_pos (Nat.zero_le s)

theorem conv_read : after line0_0 W (Proc.devRef .tc main_v43) = conv W := by
  unfold conv
  after_reads_simp
  rfl
theorem conv_holds (H : Args W I) : Holds P3 (conv W) (cv I) :=
  ((((((Holds.const _ 0 word_zero _).add ((at_t0 H).wide.mul (at_x0 H))).add ((at_t1 H).wide.mul (at_x1 H))).add ((at_t2 H).wide.mul (at_x2 H))).add ((at_t3 H).wide.mul (at_x3 H))).add
    (bias_lane H).line.wide).congr fun h x s => by
      unfold cv
      rw [dn_zero]
      ring
theorem conv4_read : after line0_0 W (Proc.devRef .tc main_v44) = shapeCast S1x2048x16x256 (after line0_0 W (Proc.devRef .tc main_v43)) shapeCasts_S1x2048x4096_S1x2048x16x256 := by
  after_reads_simp
  rfl
theorem at_cv (H : Args W I) : Holds P3 (after line0_0 W (Proc.devRef .tc main_v43)) (cv I) := conv_read ▸ conv_holds H
theorem at_cv4 (H : Args W I) : Holds P4 (after line0_0 W (Proc.devRef .tc main_v44)) (cv I) := conv4_read ▸ (at_cv H).split _
/-- The denominator of the first gate. -/
def den (W : Valuation τ sig (Elt Ideal)) : FVec Ideal S1x2048x16x256 .f32 :=
  addf (broadcastInDim S1x2048x16x256 ![] bcast_S_S1x2048x16x256 (constant S_ .f32 0x3F800000#32)) (Host.exp (Host.negf (addf
    (transpose S1x2048x16x256 [2, 3, 0, 1] (Host.dotGeneral (φ₁ := .f32) (φ₂ := .f32) dot_S16x256x256_S1x2048x16x256_S16x256x1x2048_1_3_2_01_0_2 none (after line0_0 W (Proc.devRef .tc main_v2)) (after line0_0 W (Proc.devRef .tc main_v44)))
      transposes_S16x256x1x2048_S1x2048x16x256_2_3_0_1)
    (broadcastInDim S1x2048x16x256 ![0, 1, 2, 3] bcast_S1x1x16x256_S1x2048x16x256_0_1_2_3 (broadcastInDim S1x1x16x256 ![2, 3] bcast_S16x256_S1x1x16x256_2_3
      (shapeCast S16x256 (W (Proc.devRef .tc main_arg4)) shapeCasts_S1x16x256_S16x256))))))
theorem den_read : after line0_0 W (Proc.devRef .tc main_v53) = den W := by
  unfold den
  after_reads_simp
  rfl
theorem at_one : Holds P4 (after line0_0 W (Proc.devRef .tc main_v54)) fun _ _ _ => 1 := by
  after_reads_simp
  exact Holds.const _ 1 word_one _
theorem at_den (H : Args W I) : Holds P4 (after line0_0 W (Proc.devRef .tc main_v53)) fun h x s => 1 + Real.exp (-(∑ j, cv I h j s * I.wa h j x + I.ba h x)) :=
  den_read ▸ (Holds.const _ 1 word_one _).add (((at_cv4 H).gate (at_wa H)).add (ba_lane H).wide).neg.exp

/-! ### The gates -/

theorem div_sig {s : Shape} {p : Place s} {a b : FVec Ideal s .f32} {f : Seq} (ha : Holds p a fun _ _ _ => 1) (hb : Holds p b fun h x s => 1 + Real.exp (-f h x s)) :
    Holds p (Host.divf a b) fun h x s => sgm (f h x s) :=
  (ha.div hb fun h x s => by positivity).congr fun h x s => by unfold sgm; rw [one_mul, one_div]

section
variable (h1 : Holds P4 (W (Proc.devRef .tc main_v54)) fun _ _ _ => 1)
  (hd : Holds P4 (W (Proc.devRef .tc main_v53)) fun h x s => 1 + Real.exp (-(∑ j, cv I h j s * I.wa h j x + I.ba h x)))
  (hw : Mat (W (Proc.devRef .tc main_v4)) I.wx) (hc : Holds P4 (W (Proc.devRef .tc main_v44)) (cv I)) (hb : LaneH (W (Proc.devRef .tc main_v5)) I.bx)

include h1 hd in
theorem at_rg1 : Holds P4 (after line1_0 W (Proc.devRef .tc main_v58)) fun h x s => rg I h x s * (1 - rg I h x s) := by
  after_reads_simp
  have hr := div_sig h1 hd
  exact hr.mul ((Holds.const _ 1 word_one _).sub hr)
include h1 hd in
theorem at_rg8 : Holds P3 (after line1_0 W (Proc.devRef .tc main_v76)) fun h x s => -8 * rg I h x s := by
  after_reads_simp
  exact (Holds.const _ (-8) word_neg8 _).mul ((div_sig h1 hd).join _)
include hw hc hb in
theorem at_ig4 : Holds P4 (after line1_0 W (Proc.devRef .tc main_v70)) (ig I) := by
  after_reads_simp
  exact ((hc.gate hw).add hb.wide).sig _ _
include hw hc hb in
theorem at_ig1 : Holds P4 (after line1_0 W (Proc.devRef .tc main_v73)) fun h x s => ig I h x s * (1 - ig I h x s) := by
  after_reads_simp
  have hr := ((hc.gate hw).add hb.wide).sig bcast_S_S1x2048x16x256 bcast_S_S1x2048x16x256
  exact hr.mul ((Holds.const _ 1 word_one _).sub hr)
include hw hc hb in
theorem at_ig : Holds P3 (after line1_0 W (Proc.devRef .tc main_v74)) (ig I) := by
  after_reads_simp
  exact (((hc.gate hw).add hb.wide).sig _ _).join _
theorem at_nlam (hl : Lane (W (Proc.devRef .tc main_v6)) fun h x => I.lam (col h x)) : Lane (after line1_0 W (Proc.devRef .tc main_v77)) fun h x => -I.lam (col h x) := by
  after_reads_simp
  intro h x
  refine Eq.trans ?_ (EReal.coe_neg _).symm
  rw [← hl h x]
  rfl
end

/-! ### The decay rate's softplus -/

theorem inf_word : Ideal.ofBits FTy.f32 0x7F800000#32 = ⊤ := by simp [Ideal.ofBits, Ideal.ieee]

theorem plus_val (z : ℝ) : max (z : EReal) 0 + Ideal.log1p (Ideal.exp (-(max ((z : EReal) - 0) (-((z : EReal) - 0))))) = ((max z 0 + Real.log (1 + Real.exp (-|z|)) : ℝ) : EReal) := by
  rw [sub_zero, ← EReal.coe_neg, coe_max, ← EReal.coe_neg, Ideal.exp_coe, log_one_add_exp, ← EReal.coe_zero, coe_max, ← EReal.coe_add]
  rfl

/-- One number in every column. -/
def fill (w : BitVec 32) : FVec Ideal S4096 .f32 := broadcastInDim S4096 ![] bcast_S_S4096 (constant S_ .f32 w)
/-- The softplus. -/
def plus (z : FVec Ideal S4096 .f32) : FVec Ideal S4096 .f32 :=
  select (cmpf .une (subf z (fill 0#32)) (subf z (fill 0#32))) (addf z (fill 0#32))
    (addf (maximumf z (fill 0#32)) (Host.log1p (Host.exp (Host.negf (Host.absf (subf z (fill 0#32)))))))
/-- Its derivative. -/
def slope (z p : FVec Ideal S4096 .f32) : FVec Ideal S4096 .f32 :=
  Host.exp (subf (select (cmpf .oeq z (fill 0x7F800000#32)) (fill 0#32) z) (select (cmpf .oeq p (fill 0x7F800000#32)) (fill 0#32) p))

theorem plus_read : after line1_1 W (Proc.devRef .tc main_v78_0) = plus (W (Proc.devRef .tc main_v77)) := by
  after_reads_simp
  rfl
theorem slope_read : after line1_1 W (Proc.devRef .tc main_v78_1) = slope (W (Proc.devRef .tc main_v77)) (plus (W (Proc.devRef .tc main_v77))) := by
  after_reads_simp
  rfl

theorem plus_holds {z : FVec Ideal S4096 .f32} {g} (hz : Lane z g) : Lane (plus z) fun h x => max (g h x) 0 + Real.log (1 + Real.exp (-|g h x|)) := fun h x => by
  rw [← plus_val, ← hz h x]
  unfold plus fill
  pointwise
  rw [if_neg (not_not.mpr rfl)]
  rfl
theorem slope_holds {z p : FVec Ideal S4096 .f32} {g q} (hz : Lane z g) (hp : Lane p q) : Lane (slope z p) fun h x => Real.exp (g h x - q h x) := fun h x => by
  rw [← Ideal.exp_coe, EReal.coe_sub, ← hz h x, ← hp h x]
  unfold slope fill
  pointwise
  rw [inf_word, hz h x, hp h x, if_neg (EReal.coe_ne_top _), if_neg (EReal.coe_ne_top _)]

/-- The derivative is the logistic function. -/
theorem slope_sgm (z : ℝ) : Real.exp (z - (max z 0 + Real.log (1 + Real.exp (-|z|)))) = sgm z := by
  have h : max z 0 + Real.log (1 + Real.exp (-|z|)) = Real.log (1 + Real.exp z) := by
    rcases le_total 0 z with hz | hz
    · rw [max_eq_left hz, abs_of_nonneg hz, show (1 : ℝ) + Real.exp z = Real.exp z * (1 + Real.exp (-z)) by rw [mul_add, ← Real.exp_add]; simp; ring,
        Real.log_mul (Real.exp_pos z).ne' (by positivity), Real.log_exp]
    · rw [max_eq_right hz, abs_of_nonpos hz, neg_neg, zero_add]
  rw [h, Real.exp_sub, Real.exp_log (by positivity)]
  unfold sgm
  rw [Real.exp_neg]
  field_simp
  ring

section
variable (hl : Lane (W (Proc.devRef .tc main_v77)) fun h x => -I.lam (col h x))
include hl
theorem at_sp : Lane (after line1_1 W (Proc.devRef .tc main_v78_0)) (sp I) := by
  rw [plus_read]
  intro h x
  refine (plus_holds hl h x).trans ?_
  unfold sp
  beta_reduce
  rw [abs_neg]
theorem at_sps : Lane (after line1_1 W (Proc.devRef .tc main_v78_1)) fun h x => sgm (-I.lam (col h x)) := by
  rw [slope_read]
  intro h x
  refine (slope_holds hl (plus_holds hl) h x).trans ?_
  beta_reduce
  rw [slope_sgm]
end

/-! ### Decay and input -/

section
variable (hr : Holds P3 (W (Proc.devRef .tc main_v76)) fun h x s => -8 * rg I h x s) (hs : Lane (W (Proc.devRef .tc main_v78_0)) (sp I))
  (hi : Holds P3 (W (Proc.devRef .tc main_v74)) (ig I)) (hc : Holds P3 (W (Proc.devRef .tc main_v43)) (cv I))

include hs in
theorem at_spl : Line (after line1_2 W (Proc.devRef .tc main_v79)) (sp I) := by
  after_reads_simp; exact hs.line
include hr hs in
theorem at_av : Holds P3 (after line1_2 W (Proc.devRef .tc main_v82)) (av I) := by
  after_reads_simp; exact (hr.mul hs.line.wide).exp
theorem two_la (h : Fin 16) (x : Fin 256) (s : ℕ) : Real.exp (2 * (-8 * rg I h x s * sp I h x)) = av I h x s * av I h x s := (av_sq I h x s).symm
include hr hs in
theorem at_av2 : Holds P3 (after line1_2 W (Proc.devRef .tc main_v86)) fun h x s => av I h x s * av I h x s := by
  after_reads_simp; exact ((Holds.const _ 2 word_two _).mul (hr.mul hs.line.wide)).exp.congr fun h x s => two_la h x _
include hr hs in
theorem at_mu : Holds P3 (after line1_2 W (Proc.devRef .tc main_v88)) (mu I) := by
  after_reads_simp
  refine (Holds.sqrt ((((Holds.const _ 2 word_two _).mul (hr.mul hs.line.wide)).expm1.neg).congr (g := fun h x s => 1 - av I h x s * av I h x s) fun h x s => ?_) fun h x s => (one_sub_pos I h x s).le)
  rw [two_la]; ring
theorem half_read : after line1_2 W (Proc.devRef .tc main_v90) = Host.divf (F := Ideal) (φ := .f32) (broadcastInDim S1x2048x4096 ![] bcast_S_S1x2048x4096 (constant S_ .f32 0x3F000000#32)) (after line1_2 W (Proc.devRef .tc main_v88)) := by
  after_reads_simp
include hr hs in
theorem at_half : Holds P3 (after line1_2 W (Proc.devRef .tc main_v90)) fun h x s => 1 / 2 * (1 / mu I h x s) :=
  half_read ▸ (Holds.const _ (1 / 2) word_half _).div (at_mu hr hs) fun h x s => (mu_pos I h x s).ne'
include hi hc in
theorem at_ic : Holds P3 (after line1_2 W (Proc.devRef .tc main_v91)) fun h x s => ig I h x s * cv I h x s := by
  after_reads_simp; exact hi.mul hc
theorem bv_read : after line1_2 W (Proc.devRef .tc main_v98_1) = transpose S2048x1x4096 [1, 0, 2] (mulf (F := Ideal) (φ := .f32) (s := S1x2048x4096) (after line1_2 W (Proc.devRef .tc main_v88)) (after line1_2 W (Proc.devRef .tc main_v91)))
    transposes_S1x2048x4096_S2048x1x4096_1_0_2 := by
  after_reads_simp
  rfl
include hr hs hi hc in
theorem at_bv : Holds PT (after line1_2 W (Proc.devRef .tc main_v98_1)) (bv I) :=
  bv_read ▸ (((at_mu hr hs).mul (at_ic hi hc)).congr fun h x s => by unfold bv; ring).toT _
include hr hs in
theorem at_avT : Holds PT (after line1_2 W (Proc.devRef .tc main_v94)) (av I) := by
  after_reads_simp; exact (hr.mul hs.line.wide).exp.toT _
theorem at_same : after line1_2 W (Proc.devRef .tc main_v98_0) = after line1_2 W (Proc.devRef .tc main_v94) := by
  after_reads_simp; rfl
theorem at_h0 (h : Fin 16) (x : Fin 256) : after line1_2 W (Proc.devRef .tc main_v98_3) (ix2 0 (col h x)) = ((0 : ℝ) : EReal) := by
  after_reads_simp; exact word_zero
theorem at_ctr : after line1_2 W (Proc.devRef .tc main_v98_2) = fun _ => (0#32 : BitVec 32) := by
  after_reads_simp; rfl
end

end Cert.LruRefIdeal.Host
end
-- ==== Proof.LruRefLoop.lean ====
module

public import proofs.«01_k».proof.Proof.LruRefRun
public import proofs.«01_k».proof.Proof.LruModel
public import Idealize.ShloMosaic.Lib.StableHlo.RunRead
public import Idealize.ShloMosaic.Lib.Pipeline.ValueKit
public import Idealize.ShloMosaic.Lib.Tactic.CleanTypes

/-! What the two loops of the reference of the recurrence's backward call leave. -/

@[expose] public section

set_option maxRecDepth 100000

noncomputable section

namespace Cert.LruRefIdeal.Host

open Idealize.ShloMosaic Idealize.ShloMosaic.TcCoe Cert.LruRefIdeal.Gen Idealize.ShloMosaic.StableHlo
open Idealize.SL.Sem Cert.LruM

/-- Rows of 4096 and one row. -/
abbrev Rows := FVec Ideal S2048x1x4096 .f32
abbrev Row := FVec Ideal S1x4096 .f32

/-- The starts of a read or a write at row `n`. -/
def at3 (n : IVec S_ 32) : Fin 3 → Int := fun k => ((![n, constantI S_ 32 0#32, constantI S_ 32 0#32] : Fin 3 → IVec S_ 32) k (Shape.Idx.first h_S_)).toInt
def getRow (a : Rows) (n : IVec S_ 32) : Row :=
  shapeCast S1x4096 (Host.dynamicSlice S1x1x4096 a (at3 n) sliceFits_S2048x1x4096_S1x1x4096) shapeCasts_S1x1x4096_S1x4096
def putRow (a : Rows) (v : Row) (n : IVec S_ 32) : Rows :=
  Host.dynamicUpdateSlice a (broadcastInDim S1x1x4096 ![1, 2] bcast_S1x4096_S1x1x4096_1_2 v) (at3 n) updateFits_S2048x1x4096_S1x1x4096

section
variable (a : Rows) (v : Row) (n : IVec S_ 32) (k : ℕ) (hk : k < 2048) (hn : n (Shape.Idx.first h_S_) = BitVec.ofNat 32 k)
include hk hn

theorem start0 : at3 n 0 = (k : Int) := by
  show (n (Shape.Idx.first h_S_)).toInt = _
  rw [hn, BitVec.toInt_eq_toNat_of_lt (by rw [BitVec.toNat_ofNat]; omega), BitVec.toNat_ofNat, Nat.mod_eq_of_lt (by omega)]
omit hk hn in
theorem start1 : at3 n 1 = ((0 : ℕ) : Int) := rfl
omit hk hn in
theorem start2 : at3 n 2 = ((0 : ℕ) : Int) := rfl

theorem clamps : Host.clampedStart S2048x1x4096 S1x1x4096 sliceFits_S2048x1x4096_S1x1x4096.1 (at3 n) 0 = k ∧ Host.clampedStart S2048x1x4096 S1x1x4096 sliceFits_S2048x1x4096_S1x1x4096.1 (at3 n) 1 = 0 ∧
    Host.clampedStart S2048x1x4096 S1x1x4096 sliceFits_S2048x1x4096_S1x1x4096.1 (at3 n) 2 = 0 :=
  ⟨Host.clampedStart_of_le (s := S2048x1x4096) (t := S1x1x4096) _ _ 0 k (start0 n k hk hn) (by show k + 1 ≤ 2048; omega), Host.clampedStart_of_le (s := S2048x1x4096) (t := S1x1x4096) _ _ 1 0 (start1 n) (by decide),
    Host.clampedStart_of_le (s := S2048x1x4096) (t := S1x1x4096) _ _ 2 0 (start2 n) (by decide)⟩

theorem getRow_at (e : Fin 4096) : getRow a n (ix2 0 e) = a (ix3 ⟨k, hk⟩ 0 e) := by
  obtain ⟨c0, c1, c2⟩ := clamps n k hk hn
  unfold getRow
  pointwise
  refine congrArg a (funext fun b => Fin.ext ?_)
  match b with
  | ⟨0, _⟩ => show Host.clampedStart S2048x1x4096 S1x1x4096 sliceFits_S2048x1x4096_S1x1x4096.1 (at3 n) 0 + 0 = k; rw [c0, Nat.add_zero]
  | ⟨1, _⟩ => show Host.clampedStart S2048x1x4096 S1x1x4096 sliceFits_S2048x1x4096_S1x1x4096.1 (at3 n) 1 + 0 = 0; rw [c1]
  | ⟨2, _⟩ => show Host.clampedStart S2048x1x4096 S1x1x4096 sliceFits_S2048x1x4096_S1x1x4096.1 (at3 n) 2 + e.val = e.val; rw [c2]; omega

theorem putRow_at (s : Fin 2048) (e : Fin 4096) : putRow a v n (ix3 s 0 e) = if s.val = k then v (ix2 0 e) else a (ix3 s 0 e) := by
  obtain ⟨c0, c1, c2⟩ := clamps n k hk hn
  unfold putRow
  rw [Host.dynamicUpdateSlice_apply]
  by_cases h : s.val = k
  · rw [if_pos h, dif_pos]
    · pointwise
      refine congrArg v (funext fun b => Fin.ext ?_)
      match b with
      | ⟨0, _⟩ => rfl
      | ⟨1, _⟩ => show e.val - Host.clampedStart S2048x1x4096 S1x1x4096 updateFits_S2048x1x4096_S1x1x4096.1 (at3 n) 2 = e.val; rw [c2]; rfl
    · intro b
      match b with
      | ⟨0, _⟩ => show Host.clampedStart S2048x1x4096 S1x1x4096 updateFits_S2048x1x4096_S1x1x4096.1 (at3 n) 0 ≤ s.val ∧ s.val < Host.clampedStart S2048x1x4096 S1x1x4096 updateFits_S2048x1x4096_S1x1x4096.1 (at3 n) 0 + 1; rw [c0]; omega
      | ⟨1, _⟩ => show Host.clampedStart S2048x1x4096 S1x1x4096 updateFits_S2048x1x4096_S1x1x4096.1 (at3 n) 1 ≤ 0 ∧ 0 < Host.clampedStart S2048x1x4096 S1x1x4096 updateFits_S2048x1x4096_S1x1x4096.1 (at3 n) 1 + 1; rw [c1]; omega
      | ⟨2, _⟩ => show Host.clampedStart S2048x1x4096 S1x1x4096 updateFits_S2048x1x4096_S1x1x4096.1 (at3 n) 2 ≤ e.val ∧ e.val < Host.clampedStart S2048x1x4096 S1x1x4096 updateFits_S2048x1x4096_S1x1x4096.1 (at3 n) 2 + 4096; rw [c2]; omega
  · rw [if_neg h, dif_neg]
    intro hh
    have := hh 0
    change Host.clampedStart S2048x1x4096 S1x1x4096 updateFits_S2048x1x4096_S1x1x4096.1 (at3 n) 0 ≤ s.val ∧ s.val < Host.clampedStart S2048x1x4096 S1x1x4096 updateFits_S2048x1x4096_S1x1x4096.1 (at3 n) 0 + 1 at this
    rw [c0] at this
    omega
end

section
variable (W : Valuation τ sig (Elt Ideal))

def step0 : Row := addf (mulf (getRow (W (Proc.devRef .tc main_v98_0)) (W (Proc.devRef .tc main_v98_2))) (W (Proc.devRef .tc main_v98_3)))
  (getRow (W (Proc.devRef .tc main_v98_1)) (W (Proc.devRef .tc main_v98_2)))

theorem trip0_h : afterL trip0 W (Proc.devRef .tc main_v98_3) = step0 W := by
  simp only [afterL_cons, afterL_nil]
  after_reads_simp [unaryIndexed_result_read, binaryIndexed_result_read, indexContents_tref_cons, indexContents_tref_empty]
  rfl
theorem trip0_hs : afterL trip0 W (Proc.devRef .tc main_v98_4) = putRow (W (Proc.devRef .tc main_v98_4)) (step0 W) (W (Proc.devRef .tc main_v98_2)) := by
  simp only [afterL_cons, afterL_nil]
  after_reads_simp [unaryIndexed_result_read, binaryIndexed_result_read, indexContents_tref_cons, indexContents_tref_empty]
  rfl
theorem trip0_hp : afterL trip0 W (Proc.devRef .tc main_v98_5) =
    putRow (W (Proc.devRef .tc main_v98_5)) (W (Proc.devRef .tc main_v98_3)) (W (Proc.devRef .tc main_v98_2)) := by
  simp only [afterL_cons, afterL_nil]
  after_reads_simp [unaryIndexed_result_read, binaryIndexed_result_read, indexContents_tref_cons, indexContents_tref_empty]
  rfl

/-- The row of a trip of the second loop. -/
def row1 : IVec S_ 32 := subi (subi (constantI S_ 32 2048#32) (W (Proc.devRef .tc main_v110_3))) (constantI S_ 32 1#32)
def step1 : Row := addf (W (Proc.devRef .tc main_v110_4)) (getRow (W (Proc.devRef .tc main_v110_0)) (row1 W))

theorem trip1_c : afterL trip1 W (Proc.devRef .tc main_v110_4) = mulf (getRow (W (Proc.devRef .tc main_v110_2)) (row1 W)) (step1 W) := by
  simp only [afterL_cons, afterL_nil]
  after_reads_simp [unaryIndexed_result_read, binaryIndexed_result_read, indexContents_tref_cons, indexContents_tref_empty]
  rfl
theorem put_a (X : Valuation τ sig (Elt Ideal)) : after trip1_5 X (Proc.devRef .tc main_while1b_v235) =
    putRow (X (Proc.devRef .tc main_v110_5)) (X (Proc.devRef .tc main_while1b_v234)) (X (Proc.devRef .tc main_while1b_v228)) := by
  after_reads_simp [unaryIndexed_result_read, binaryIndexed_result_read, indexContents_tref_cons, indexContents_tref_empty]
  rfl
theorem put_h (X : Valuation τ sig (Elt Ideal)) : after trip1_6 X (Proc.devRef .tc main_while1b_v236) =
    putRow (X (Proc.devRef .tc main_v110_6)) (X (Proc.devRef .tc main_while1b_v232)) (X (Proc.devRef .tc main_while1b_v228)) := by
  after_reads_simp [unaryIndexed_result_read, binaryIndexed_result_read, indexContents_tref_cons, indexContents_tref_empty]
  rfl
/-- What the trip's writes find. -/
abbrev half1 : Valuation τ sig (Elt Ideal) := afterL [trip1_0, trip1_1, trip1_2, trip1_3, trip1_4] W
theorem half1_row : half1 W (Proc.devRef .tc main_while1b_v228) = row1 W := by
  simp only [half1, afterL_cons, afterL_nil]
  after_reads_simp
  rfl
theorem half1_s : half1 W (Proc.devRef .tc main_while1b_v232) = step1 W := by
  simp only [half1, afterL_cons, afterL_nil]
  after_reads_simp [unaryIndexed_result_read, binaryIndexed_result_read, indexContents_tref_cons, indexContents_tref_empty]
  rfl
theorem half1_p : half1 W (Proc.devRef .tc main_while1b_v234) = mulf (step1 W) (getRow (W (Proc.devRef .tc main_v110_1)) (row1 W)) := by
  simp only [half1, afterL_cons, afterL_nil]
  after_reads_simp [unaryIndexed_result_read, binaryIndexed_result_read, indexContents_tref_cons, indexContents_tref_empty]
  rfl
theorem half1_keep {r : Ref sig .tc} (h : r ∉ trip1_0_W ++ trip1_1_W ++ trip1_2_W ++ trip1_3_W ++ trip1_4_W) : half1 W (Proc.devRef .tc r) = W (Proc.devRef .tc r) := by
  simp only [List.mem_append, not_or] at h
  obtain ⟨⟨⟨⟨h0, h1⟩, h2⟩, h3⟩, h4⟩ := h
  exact (after_of_writes_sub trip1_4 _ trip1_4_writes h4) |>.trans <| (after_of_writes_sub trip1_3 _ trip1_3_writes h3) |>.trans <| (after_of_writes_sub trip1_2 _ trip1_2_writes h2) |>.trans <|
    (after_of_writes_sub trip1_1 _ trip1_1_writes h1) |>.trans <| (after_of_writes_sub trip1_0 _ trip1_0_writes h0)

theorem trip1_a : afterL trip1 W (Proc.devRef .tc main_v110_5) =
    putRow (W (Proc.devRef .tc main_v110_5)) (mulf (step1 W) (getRow (W (Proc.devRef .tc main_v110_1)) (row1 W))) (row1 W) := by
  have e7 : ∀ X : Valuation τ sig (Elt Ideal), after trip1_7 X (Proc.devRef .tc main_v110_5) = X (Proc.devRef .tc main_while1b_v235) := fun X => by
    after_reads_simp; rfl
  show after trip1_7 (after trip1_6 (after trip1_5 (half1 W))) (Proc.devRef .tc main_v110_5) = _
  rw [e7, after_of_writes_sub trip1_6 _ trip1_6_writes (by decide +kernel), put_a, half1_row, half1_p, half1_keep W (by decide +kernel)]
theorem trip1_h : afterL trip1 W (Proc.devRef .tc main_v110_6) = putRow (W (Proc.devRef .tc main_v110_6)) (step1 W) (row1 W) := by
  have e7 : ∀ X : Valuation τ sig (Elt Ideal), after trip1_7 X (Proc.devRef .tc main_v110_6) = X (Proc.devRef .tc main_while1b_v236) := fun X => by
    after_reads_simp; rfl
  show after trip1_7 (after trip1_6 (after trip1_5 (half1 W))) (Proc.devRef .tc main_v110_6) = _
  rw [e7, put_h, after_of_writes_sub trip1_5 _ trip1_5_writes (by decide +kernel), after_of_writes_sub trip1_5 _ trip1_5_writes (by decide +kernel), after_of_writes_sub trip1_5 _ trip1_5_writes (by decide +kernel),
    half1_row, half1_s, half1_keep W (by decide +kernel)]
end

/-! ### The invariants -/

/-- A row, and a whole array by rows, in real numbers. -/
def IsRow (v : Row) (f : Fin 16 → Fin 256 → ℝ) : Prop := ∀ h x, v (ix2 0 (col h x)) = ((f h x : ℝ) : EReal)
def IsRows (a : Rows) (f : Fin 16 → Fin 256 → ℕ → ℝ) (p : ℕ → Prop) : Prop := ∀ h x (s : Fin 2048), p s.val → a (ix3 s 0 (col h x)) = ((f h x s.val : ℝ) : EReal)

theorem IsRow.mul {v w : Row} {f g} (hv : IsRow v f) (hw : IsRow w g) : IsRow (mulf v w) fun h x => f h x * g h x := fun h x => by
  show v _ * w _ = _; rw [hv, hw, ← EReal.coe_mul]
theorem IsRow.add {v w : Row} {f g} (hv : IsRow v f) (hw : IsRow w g) : IsRow (addf v w) fun h x => f h x + g h x := fun h x => by
  show v _ + w _ = _; rw [hv, hw, ← EReal.coe_add]
theorem IsRows.get {a : Rows} {f} (ha : IsRows a f fun _ => True) (n : IVec S_ 32) (k : ℕ) (hk : k < 2048) (hn : n (Shape.Idx.first h_S_) = BitVec.ofNat 32 k) :
    IsRow (getRow a n) fun h x => f h x k := fun h x => by
  rw [getRow_at a n k hk hn, ha h x ⟨k, hk⟩ trivial]
theorem IsRows.put {a : Rows} {f p} (ha : IsRows a f p) {v : Row} {g} (hv : IsRow v g) (n : IVec S_ 32) (k : ℕ) (hk : k < 2048)
    (hn : n (Shape.Idx.first h_S_) = BitVec.ofNat 32 k) (q : ℕ → Prop) (hg : ∀ h x, g h x = f h x k) (hq : ∀ s, q s → s ≠ k → p s) : IsRows (putRow a v n) f q := fun h x s hs => by
  rw [putRow_at a v n k hk hn]
  split
  · rename_i e; rw [hv, hg, e]
  · rename_i e; exact ha h x s (hq _ hs e)
theorem IsRow.congr {v : Row} {f g} (hv : IsRow v f) (e : ∀ h x, f h x = g h x) : IsRow v g := fun h x => by rw [hv, e]

theorem row_word (k : ℕ) (hk : k < 2048) : (2048#32 - BitVec.ofNat 32 k) - 1#32 = BitVec.ofNat 32 (2047 - k) := by
  apply BitVec.eq_of_toNat_eq
  simp only [BitVec.toNat_sub, BitVec.toNat_ofNat]
  omega
theorem iv_one (k : ℕ) : Scf.iv 0#32 1#32 k = BitVec.ofNat 32 k := by unfold Scf.iv; simp

section
variable (V : Dev nD → Valuation τ sig (Elt Ideal)) (c : Dev nD) (a b : Fin 16 → Fin 256 → ℕ → ℝ)

/-- The first loop before a trip. -/
structure Inv0 (W : Valuation τ sig (Elt Ideal)) (k : ℕ) : Prop where
  ra : IsRows (W (Proc.devRef .tc main_v98_0)) a fun _ => True
  rb : IsRows (W (Proc.devRef .tc main_v98_1)) b fun _ => True
  h : IsRow (W (Proc.devRef .tc main_v98_3)) fun h x => lin (a h x) (b h x) k
  hs : IsRows (W (Proc.devRef .tc main_v98_4)) (fun h x s => lin (a h x) (b h x) (s + 1)) fun s => s < k
  hp : IsRows (W (Proc.devRef .tc main_v98_5)) (fun h x s => lin (a h x) (b h x) s) fun s => s < k

theorem inv0 (hc : V c (Proc.devRef .tc main_v98_2) = fun _ => (0#32 : BitVec 32)) (H : Inv0 a b (V c) 0) : ∀ k, k ≤ 2048 → Inv0 a b (atTrip test0 trip0 V k c) k
  | 0, _ => by rw [atTrip_zero]; exact H
  | k + 1, hk => by
    have h := inv0 hc H k (by omega)
    have hn := congrFun (counter0 V c hc k) (Shape.Idx.first h_S_)
    rw [atTrip_succ]
    have keep := fun (r : Ref sig .tc) (hr : r ∉ [main_while0c_c_51, main_while0c_v227]) => test0_keep (atTrip test0 trip0 V k c) hr
    generalize atTrip test0 trip0 V k c = W at *
    have hn : after test0 W (Proc.devRef .tc main_v98_2) (Shape.Idx.first h_S_) = BitVec.ofNat 32 k := by
      rw [keep _ (by decide +kernel), ← iv_one]; exact hn
    have h0 : Inv0 a b (after test0 W) k := by
      refine ⟨?_, ?_, ?_, ?_, ?_⟩ <;> rw [keep _ (by decide +kernel)]
      exacts [h.ra, h.rb, h.h, h.hs, h.hp]
    generalize after test0 W = W at *
    have hstep : IsRow (step0 W) fun h x => lin (a h x) (b h x) (k + 1) := ((h0.ra.get _ k (by omega) hn).mul h0.h).add (h0.rb.get _ k (by omega) hn)
    refine ⟨?_, ?_, ?_, ?_, ?_⟩
    · rw [trip0_keep W (by decide +kernel)]; exact h0.ra
    · rw [trip0_keep W (by decide +kernel)]; exact h0.rb
    · rw [trip0_h]; exact hstep
    · rw [trip0_hs]; exact h0.hs.put hstep _ k (by omega) hn _ (fun _ _ => rfl) (fun s hs e => by omega)
    · rw [trip0_hp]; exact h0.hp.put h0.h _ k (by omega) hn _ (fun _ _ => rfl) (fun s hs e => by omega)

theorem loop0 (hc : V c (Proc.devRef .tc main_v98_2) = fun _ => (0#32 : BitVec 32)) (H : Inv0 a b (V c) 0) : Inv0 a b (scan0.out V c) 2048 := by
  have h := inv0 V c a b hc H 2048 le_rfl
  have keep := fun (r : Ref sig .tc) (hr : r ∉ [main_while0c_c_51, main_while0c_v227]) => test0_keep (atTrip test0 trip0 V 2048 c) hr
  show Inv0 a b (after test0 (atTrip test0 trip0 V 2048 c)) 2048
  refine ⟨?_, ?_, ?_, ?_, ?_⟩ <;> rw [keep _ (by decide +kernel)]
  exacts [h.ra, h.rb, h.h, h.hs, h.hp]

/-- The second loop before a trip: `p` is multiplied into what it writes. -/
structure Inv1 (p : Fin 16 → Fin 256 → ℕ → ℝ) (W : Valuation τ sig (Elt Ideal)) (k : ℕ) : Prop where
  rb : IsRows (W (Proc.devRef .tc main_v110_0)) b fun _ => True
  rp : IsRows (W (Proc.devRef .tc main_v110_1)) p fun _ => True
  ra : IsRows (W (Proc.devRef .tc main_v110_2)) a fun _ => True
  g : IsRow (W (Proc.devRef .tc main_v110_4)) fun h x => if k = 0 then 0 else a h x (2048 - k) * back (a h x) (b h x) (2048 - k)
  da : IsRows (W (Proc.devRef .tc main_v110_5)) (fun h x s => back (a h x) (b h x) s * p h x s) fun s => 2048 ≤ s + k
  dh : IsRows (W (Proc.devRef .tc main_v110_6)) (fun h x s => back (a h x) (b h x) s) fun s => 2048 ≤ s + k

theorem inv1 (p : Fin 16 → Fin 256 → ℕ → ℝ) (hc : V c (Proc.devRef .tc main_v110_3) = fun _ => (0#32 : BitVec 32)) (H : Inv1 a b p (V c) 0) :
    ∀ k, k ≤ 2048 → Inv1 a b p (atTrip test1 trip1 V k c) k
  | 0, _ => by rw [atTrip_zero]; exact H
  | k + 1, hk => by
    have h := inv1 p hc H k (by omega)
    have hn := congrFun (counter1 V c hc k) (Shape.Idx.first h_S_)
    rw [atTrip_succ]
    have keep := fun (r : Ref sig .tc) (hr : r ∉ [main_while1c_c_52, main_while1c_v227]) => test1_keep (atTrip test1 trip1 V k c) hr
    generalize atTrip test1 trip1 V k c = W at *
    have hn : row1 (after test1 W) (Shape.Idx.first h_S_) = BitVec.ofNat 32 (2047 - k) := by
      unfold row1
      rw [keep _ (by decide +kernel)]
      show (2048#32 : BitVec 32) - W (Proc.devRef .tc main_v110_3) (Shape.Idx.first h_S_) - 1#32 = _
      rw [hn, iv_one]
      exact row_word k (by omega)
    have h0 : Inv1 a b p (after test1 W) k := by
      refine ⟨?_, ?_, ?_, ?_, ?_, ?_⟩ <;> rw [keep _ (by decide +kernel)]
      exacts [h.rb, h.rp, h.ra, h.g, h.da, h.dh]
    generalize after test1 W = W at *
    have hstep : IsRow (step1 W) fun h x => back (a h x) (b h x) (2047 - k) := by
      refine (h0.g.add (h0.rb.get _ (2047 - k) (by omega) hn)).congr fun h x => ?_
      rw [back_step _ _ (2047 - k) (by omega)]
      unfold up
      split
      · rename_i e; subst e; simp
      · rename_i e
        rw [if_pos (by omega), show 2047 - k + 1 = 2048 - k by omega]
    refine ⟨?_, ?_, ?_, ?_, ?_, ?_⟩
    · rw [trip1_keep W (by decide +kernel)]; exact h0.rb
    · rw [trip1_keep W (by decide +kernel)]; exact h0.rp
    · rw [trip1_keep W (by decide +kernel)]; exact h0.ra
    · rw [trip1_c]
      refine ((h0.ra.get _ (2047 - k) (by omega) hn).mul hstep).congr fun h x => ?_
      rw [if_neg (by omega), show 2048 - (k + 1) = 2047 - k by omega]
    · rw [trip1_a]; exact h0.da.put (hstep.mul (h0.rp.get _ (2047 - k) (by omega) hn)) _ (2047 - k) (by omega) hn _ (fun _ _ => rfl) (fun s hs e => by omega)
    · rw [trip1_h]; exact h0.dh.put hstep _ (2047 - k) (by omega) hn _ (fun _ _ => rfl) (fun s hs e => by omega)

theorem loop1 (p : Fin 16 → Fin 256 → ℕ → ℝ) (hc : V c (Proc.devRef .tc main_v110_3) = fun _ => (0#32 : BitVec 32)) (H : Inv1 a b p (V c) 0) : Inv1 a b p (scan1.out V c) 2048 := by
  have h := inv1 V c a b p hc H 2048 le_rfl
  have keep := fun (r : Ref sig .tc) (hr : r ∉ [main_while1c_c_52, main_while1c_v227]) => test1_keep (atTrip test1 trip1 V 2048 c) hr
  show Inv1 a b p (after test1 (atTrip test1 trip1 V 2048 c)) 2048
  refine ⟨?_, ?_, ?_, ?_, ?_, ?_⟩ <;> rw [keep _ (by decide +kernel)]
  exacts [h.rb, h.rp, h.ra, h.g, h.da, h.dh]
end

end Cert.LruRefIdeal.Host
end
-- ==== Proof.LruRefSaved.lean ====
module

public import proofs.«01_k».proof.Proof.LruRefBefore
public import proofs.«01_k».proof.Proof.LruRefLoop

/-! The values the reference saves for its backward lines, and what the loops and the lines between them make. -/

@[expose] public section

set_option maxRecDepth 100000

noncomputable section

namespace Cert.LruRefIdeal.Host

open Idealize.ShloMosaic Idealize.ShloMosaic.TcCoe Cert.LruRefIdeal.Gen Cert.LruM Cert.Common Idealize.ShloMosaic.StableHlo

/-- The buffers read again after the first loop. -/
abbrev saved : List (Ref sig .tc) := [main_arg8, main_v2, main_v4, main_v8, main_v14, main_v15, main_v22, main_v23, main_v29, main_v30, main_v36, main_v37, main_v43, main_v44, main_v58,
  main_v73, main_v74, main_v76, main_v78_1, main_v79, main_v82, main_v86, main_v88, main_v90, main_v91, main_v94]

/-- What they hold. -/
structure Saved (X : Valuation τ sig (Elt Ideal)) (I : In) : Prop where
  dy : Holds P3 (X (Proc.devRef .tc main_arg8)) (dy I)
  wa : Mat (X (Proc.devRef .tc main_v2)) I.wa
  wx : Mat (X (Proc.devRef .tc main_v4)) I.wx
  gin : Holds P3 (X (Proc.devRef .tc main_v8)) (gin I)
  x0 : Holds P3 (X (Proc.devRef .tc main_v14)) fun h x => dn 3 (vin I h x)
  t0 : Line (X (Proc.devRef .tc main_v15)) (tap I · · 0)
  x1 : Holds P3 (X (Proc.devRef .tc main_v22)) fun h x => dn 2 (vin I h x)
  t1 : Line (X (Proc.devRef .tc main_v23)) (tap I · · 1)
  x2 : Holds P3 (X (Proc.devRef .tc main_v29)) fun h x => dn 1 (vin I h x)
  t2 : Line (X (Proc.devRef .tc main_v30)) (tap I · · 2)
  x3 : Holds P3 (X (Proc.devRef .tc main_v36)) fun h x => dn 0 (vin I h x)
  t3 : Line (X (Proc.devRef .tc main_v37)) (tap I · · 3)
  cv : Holds P3 (X (Proc.devRef .tc main_v43)) (cv I)
  cv4 : Holds P4 (X (Proc.devRef .tc main_v44)) (LruM.cv I)
  rg1 : Holds P4 (X (Proc.devRef .tc main_v58)) fun h x s => rg I h x s * (1 - rg I h x s)
  ig1 : Holds P4 (X (Proc.devRef .tc main_v73)) fun h x s => ig I h x s * (1 - ig I h x s)
  ig : Holds P3 (X (Proc.devRef .tc main_v74)) (ig I)
  rg8 : Holds P3 (X (Proc.devRef .tc main_v76)) fun h x s => -8 * rg I h x s
  sps : Lane (X (Proc.devRef .tc main_v78_1)) fun h x => sgm (-I.lam (col h x))
  sp : Line (X (Proc.devRef .tc main_v79)) (sp I)
  av : Holds P3 (X (Proc.devRef .tc main_v82)) (av I)
  av2 : Holds P3 (X (Proc.devRef .tc main_v86)) fun h x s => LruM.av I h x s * LruM.av I h x s
  mu : Holds P3 (X (Proc.devRef .tc main_v88)) (mu I)
  half : Holds P3 (X (Proc.devRef .tc main_v90)) fun h x s => 1 / 2 * (1 / LruM.mu I h x s)
  ic : Holds P3 (X (Proc.devRef .tc main_v91)) fun h x s => LruM.ig I h x s * LruM.cv I h x s
  avT : Holds PT (X (Proc.devRef .tc main_v94)) (LruM.av I)

/-- They stay so while nothing writes these buffers. -/
theorem Saved.keep {X Y : Valuation τ sig (Elt Ideal)} {I : In} (H : Saved X I) (e : ∀ r ∈ saved, Y (Proc.devRef .tc r) = X (Proc.devRef .tc r)) : Saved Y I := by
  simp only [saved, List.forall_mem_cons, List.not_mem_nil, false_imp_iff, implies_true, and_true] at e
  obtain ⟨e0, e1, e2, e3, e4, e5, e6, e7, e8, e9, e10, e11, e12, e13, e14, e15, e16, e17, e18, e19, e20, e21, e22, e23, e24, e25⟩ := e
  exact ⟨e0 ▸ H.dy, e1 ▸ H.wa, e2 ▸ H.wx, e3 ▸ H.gin, e4 ▸ H.x0, e5 ▸ H.t0, e6 ▸ H.x1, e7 ▸ H.t1, e8 ▸ H.x2, e9 ▸ H.t2, e10 ▸ H.x3, e11 ▸ H.t3, e12 ▸ H.cv, e13 ▸ H.cv4,
    e14 ▸ H.rg1, e15 ▸ H.ig1, e16 ▸ H.ig, e17 ▸ H.rg8, e18 ▸ H.sps, e19 ▸ H.sp, e20 ▸ H.av, e21 ▸ H.av2, e22 ▸ H.mu, e23 ▸ H.half, e24 ▸ H.ic, e25 ▸ H.avT⟩

section
variable {W : Valuation τ sig (Elt Ideal)} {I : In}

theorem keep1 (X : Valuation τ sig (Elt Ideal)) {r : Ref sig .tc} (h : r ∉ line1_0_W ++ line1_1_W ++ line1_2_W) :
    after line1_2 (after line1_1 (after line1_0 X)) (Proc.devRef .tc r) = X (Proc.devRef .tc r) := by
  simp only [List.mem_append, not_or] at h
  exact (after_of_writes_sub line1_2 _ line1_2_writes h.2).trans ((after_of_writes_sub line1_1 _ line1_1_writes h.1.2).trans (after_of_writes_sub line1_0 _ line1_0_writes h.1.1))
theorem keep2 (X : Valuation τ sig (Elt Ideal)) {r : Ref sig .tc} (h : r ∉ line1_1_W ++ line1_2_W) :
    after line1_2 (after line1_1 X) (Proc.devRef .tc r) = X (Proc.devRef .tc r) := by
  simp only [List.mem_append, not_or] at h
  exact (after_of_writes_sub line1_2 _ line1_2_writes h.2).trans (after_of_writes_sub line1_1 _ line1_1_writes h.1)
theorem keep10 (X : Valuation τ sig (Elt Ideal)) {r : Ref sig .tc} (h : r ∉ line1_0_W ++ line1_1_W) :
    after line1_1 (after line1_0 X) (Proc.devRef .tc r) = X (Proc.devRef .tc r) := by
  simp only [List.mem_append, not_or] at h
  exact (after_of_writes_sub line1_1 _ line1_1_writes h.2).trans (after_of_writes_sub line1_0 _ line1_0_writes h.1)
theorem keep3 (X : Valuation τ sig (Elt Ideal)) {r : Ref sig .tc} (h : r ∉ line1_2_W) :
    after line1_2 X (Proc.devRef .tc r) = X (Proc.devRef .tc r) := after_of_writes_sub line1_2 _ line1_2_writes h
theorem keep11 (X : Valuation τ sig (Elt Ideal)) {r : Ref sig .tc} (h : r ∉ line1_1_W) :
    after line1_1 X (Proc.devRef .tc r) = X (Proc.devRef .tc r) := after_of_writes_sub line1_1 _ line1_1_writes h

variable (H : Args W I)

include H in
theorem mid_sp : Lane (after line1_1 (after line1_0 (after line0_0 W)) (Proc.devRef .tc main_v78_0)) (sp I) := at_sp (at_nlam (at_lam H))
include H in
theorem mid_rg8 : Holds P3 (after line1_1 (after line1_0 (after line0_0 W)) (Proc.devRef .tc main_v76)) fun h x s => -8 * rg I h x s :=
  keep11 (after line1_0 (after line0_0 W)) (r := main_v76) (by decide +kernel) ▸ at_rg8 at_one (at_den H)
include H in
theorem mid_ig : Holds P3 (after line1_1 (after line1_0 (after line0_0 W)) (Proc.devRef .tc main_v74)) (ig I) :=
  keep11 (after line1_0 (after line0_0 W)) (r := main_v74) (by decide +kernel) ▸ at_ig (at_wx H) (at_cv4 H) (at_bx H)
include H in
theorem mid_cv : Holds P3 (after line1_1 (after line1_0 (after line0_0 W)) (Proc.devRef .tc main_v43)) (cv I) :=
  keep10 (after line0_0 W) (r := main_v43) (by decide +kernel) ▸ at_cv H

include H in
set_option maxHeartbeats 4000000 in  -- twenty-six buffers
theorem saved_lines : Saved (after line1_2 (after line1_1 (after line1_0 (after line0_0 W)))) I where
  dy := (keep1 (after line0_0 W) (r := main_arg8) (by decide +kernel)).trans (after_of_writes_sub line0_0 W line0_0_writes (r := main_arg8) (by decide +kernel)) ▸ fun h x s => H.a8 s (col h x)
  wa := keep1 (after line0_0 W) (r := main_v2) (by decide +kernel) ▸ at_wa H
  wx := keep1 (after line0_0 W) (r := main_v4) (by decide +kernel) ▸ at_wx H
  gin := keep1 (after line0_0 W) (r := main_v8) (by decide +kernel) ▸ at_gin H
  x0 := keep1 (after line0_0 W) (r := main_v14) (by decide +kernel) ▸ at_x0 H
  t0 := keep1 (after line0_0 W) (r := main_v15) (by decide +kernel) ▸ at_t0 H
  x1 := keep1 (after line0_0 W) (r := main_v22) (by decide +kernel) ▸ at_x1 H
  t1 := keep1 (after line0_0 W) (r := main_v23) (by decide +kernel) ▸ at_t1 H
  x2 := keep1 (after line0_0 W) (r := main_v29) (by decide +kernel) ▸ at_x2 H
  t2 := keep1 (after line0_0 W) (r := main_v30) (by decide +kernel) ▸ at_t2 H
  x3 := keep1 (after line0_0 W) (r := main_v36) (by decide +kernel) ▸ at_x3 H
  t3 := keep1 (after line0_0 W) (r := main_v37) (by decide +kernel) ▸ at_t3 H
  cv := keep1 (after line0_0 W) (r := main_v43) (by decide +kernel) ▸ at_cv H
  cv4 := keep1 (after line0_0 W) (r := main_v44) (by decide +kernel) ▸ at_cv4 H
  rg1 := keep2 (after line1_0 (after line0_0 W)) (r := main_v58) (by decide +kernel) ▸ at_rg1 at_one (at_den H)
  ig1 := keep2 (after line1_0 (after line0_0 W)) (r := main_v73) (by decide +kernel) ▸ at_ig1 (at_wx H) (at_cv4 H) (at_bx H)
  ig := keep2 (after line1_0 (after line0_0 W)) (r := main_v74) (by decide +kernel) ▸ at_ig (at_wx H) (at_cv4 H) (at_bx H)
  rg8 := keep2 (after line1_0 (after line0_0 W)) (r := main_v76) (by decide +kernel) ▸ at_rg8 at_one (at_den H)
  sps := keep3 (after line1_1 (after line1_0 (after line0_0 W))) (r := main_v78_1) (by decide +kernel) ▸ at_sps (at_nlam (at_lam H))
  sp := at_spl (mid_sp H)
  av := at_av (mid_rg8 H) (mid_sp H)
  av2 := at_av2 (mid_rg8 H) (mid_sp H)
  mu := at_mu (mid_rg8 H) (mid_sp H)
  half := at_half (mid_rg8 H) (mid_sp H)
  ic := at_ic (mid_ig H) (mid_cv H)
  avT := at_avT (mid_rg8 H) (mid_sp H)
include H in
theorem saved_before : Saved (afterL before W) I := saved_lines H
end

/-! ### The first loop -/

section
variable (m : (ℓ : Loc nD τ sig) → Buf (Elt Ideal) ℓ) (c : Dev nD) {I : In} (H : Args (launchContents m c) I)
include H

theorem V0_saved : Saved (V0 m c) I := saved_before H
theorem first_start : Inv0 (av I) (bv I) (V0 m c) 0 where
  ra := fun h x s _ => by
    show after line1_2 (after line1_1 (after line1_0 (after line0_0 (launchContents m c)))) (Proc.devRef .tc main_v98_0) (ix3 s 0 (col h x)) = _
    rw [at_same]
    exact at_avT (mid_rg8 H) (mid_sp H) h x s
  rb := fun h x s _ => at_bv (mid_rg8 H) (mid_sp H) (mid_ig H) (mid_cv H) h x s
  h := fun h x => at_h0 h x
  hs := fun h x s hs => absurd hs (Nat.not_lt_zero _)
  hp := fun h x s hs => absurd hs (Nat.not_lt_zero _)
theorem first_end : Inv0 (av I) (bv I) (V1 m c) 2048 := loop0 (V0 m) c (av I) (bv I) (V0_ctr m c) (first_start m c H)
end

/-- The first loop leaves what its trips do not write. -/
theorem V1_keep (m : (ℓ : Loc nD τ sig) → Buf (Elt Ideal) ℓ) (c : Dev nD) {r : Ref sig .tc}
    (h : r ∉ [main_while0c_c_51, main_while0c_v227] ++ (trip0_0_W ++ trip0_1_W ++ trip0_2_W ++ trip0_3_W ++ trip0_4_W ++ trip0_5_W)) :
    V1 m c (Proc.devRef .tc r) = V0 m c (Proc.devRef .tc r) := by
  obtain ⟨h0, h1⟩ := not_or.mp (List.mem_append.not.mp h)
  have a0 : ∀ k, atTrip test0 trip0 (V0 m) k c (Proc.devRef .tc r) = V0 m c (Proc.devRef .tc r) := fun k => by
    induction k with
    | zero => rw [atTrip_zero]
    | succ k ih => rw [atTrip_succ, trip0_keep _ h1, test0_keep _ h0, ih]
  exact (test0_keep _ h0).trans (a0 2048)
/-- The second too. -/
theorem V3_keep (m : (ℓ : Loc nD τ sig) → Buf (Elt Ideal) ℓ) (c : Dev nD) {r : Ref sig .tc}
    (h : r ∉ [main_while1c_c_52, main_while1c_v227] ++ (trip1_0_W ++ trip1_1_W ++ trip1_2_W ++ trip1_3_W ++ trip1_4_W ++ trip1_5_W ++ trip1_6_W ++ trip1_7_W)) :
    V3 m c (Proc.devRef .tc r) = V2 m c (Proc.devRef .tc r) := by
  obtain ⟨h0, h1⟩ := not_or.mp (List.mem_append.not.mp h)
  have a0 : ∀ k, atTrip test1 trip1 (V2 m) k c (Proc.devRef .tc r) = V2 m c (Proc.devRef .tc r) := fun k => by
    induction k with
    | zero => rw [atTrip_zero]
    | succ k ih => rw [atTrip_succ, trip1_keep _ h1, test1_keep _ h0, ih]
  exact (test1_keep _ h0).trans (a0 2048)

theorem saved_notin0 : ∀ r ∈ saved, r ∉ [main_while0c_c_51, main_while0c_v227] ++ (trip0_0_W ++ trip0_1_W ++ trip0_2_W ++ trip0_3_W ++ trip0_4_W ++ trip0_5_W) := by decide +kernel
theorem saved_notin1 : ∀ r ∈ saved, r ∉ [main_while1c_c_52, main_while1c_v227] ++ (trip1_0_W ++ trip1_1_W ++ trip1_2_W ++ trip1_3_W ++ trip1_4_W ++ trip1_5_W ++ trip1_6_W ++ trip1_7_W) := by decide +kernel
theorem saved_notin2 : ∀ r ∈ saved, r ∉ line2_0_W ++ line2_1_W ++ line2_2_W ++ line2_3_W ++ line2_4_W := by decide +kernel

/-! ### Between the loops -/

section
variable {X : Valuation τ sig (Elt Ideal)} {I : In} (S : Saved X I) (E : Inv0 (av I) (bv I) X 2048)

theorem scan_holds (E : Inv0 (av I) (bv I) X 2048) : Holds PT (X (Proc.devRef .tc main_v98_4)) (hv I) := fun h x s => E.hs h x s s.isLt

theorem lin_dn (h : Fin 16) (x : Fin 256) (s : ℕ) : lin (av I h x) (bv I h x) s = dn 1 (hv I h x) s := by
  unfold dn
  cases s with
  | zero => rfl
  | succ n => rw [if_pos (by omega)]; rfl

/-- The logistic function of the gate's half. -/
def sig_ (X : Valuation τ sig (Elt Ideal)) : FVec Ideal S1x2048x4096 .f32 :=
  Host.divf (broadcastInDim S1x2048x4096 ![] bcast_S_S1x2048x4096 (constant S_ .f32 0x3F800000#32)) (addf (broadcastInDim S1x2048x4096 ![] bcast_S_S1x2048x4096 (constant S_ .f32 0x3F800000#32))
    (Host.exp (Host.negf (X (Proc.devRef .tc main_v8)))))
include S in
theorem sig_holds : Holds P3 (sig_ X) fun h x s => sgm (gin I h x s) := S.gin.sig _ _

theorem y_read : afterL between X (Proc.devRef .tc main_v101) = mulf (transpose S1x2048x4096 [1, 0, 2] (X (Proc.devRef .tc main_v98_4)) transposes_S2048x1x4096_S1x2048x4096_1_0_2) (mulf (X (Proc.devRef .tc main_v8)) (sig_ X)) := by
  simp only [afterL_cons, afterL_nil]
  after_reads_simp
  rfl
theorem dgin_read : afterL between X (Proc.devRef .tc main_v105) =
    (let d : FVec Ideal S1x2048x4096 .f32 := mulf (transpose S1x2048x4096 [1, 0, 2] (X (Proc.devRef .tc main_v98_4)) transposes_S2048x1x4096_S1x2048x4096_1_0_2) (X (Proc.devRef .tc main_arg8))
     addf (mulf d (sig_ X)) (mulf (mulf (X (Proc.devRef .tc main_v8)) d) (mulf (sig_ X) (subf (broadcastInDim S1x2048x4096 ![] bcast_S_S1x2048x4096 (constant S_ .f32 0x3F800000#32)) (sig_ X))))) := by
  simp only [afterL_cons, afterL_nil]
  after_reads_simp
  rfl
theorem dhs_read : afterL between X (Proc.devRef .tc main_v110_0) = transpose S2048x1x4096 [1, 0, 2] (mulf (F := Ideal) (φ := .f32) (s := S1x2048x4096) (X (Proc.devRef .tc main_arg8)) (mulf (F := Ideal) (φ := .f32) (s := S1x2048x4096) (X (Proc.devRef .tc main_v8)) (sig_ X)))
    transposes_S1x2048x4096_S2048x1x4096_1_0_2 := by
  simp only [afterL_cons, afterL_nil]
  after_reads_simp
  rfl
theorem prev_read : afterL between X (Proc.devRef .tc main_v110_1) = X (Proc.devRef .tc main_v98_5) := by
  simp only [afterL_cons, afterL_nil]
  after_reads_simp
  rfl
theorem decay_read : afterL between X (Proc.devRef .tc main_v110_2) = X (Proc.devRef .tc main_v94) := by
  simp only [afterL_cons, afterL_nil]
  after_reads_simp
  rfl
theorem carry_read : afterL between X (Proc.devRef .tc main_v110_4) = broadcastInDim S1x4096 ![] bcast_S_S1x4096 (constant (F := Ideal) S_ .f32 0x00000000#32) := by
  simp only [afterL_cons, afterL_nil]
  after_reads_simp
  rfl

include S E in
theorem at_y : Holds P3 (afterL between X (Proc.devRef .tc main_v101)) (yv I) := y_read ▸ ((scan_holds E).ofT _).mul (S.gin.mul (sig_holds S))
include S E in
theorem at_dgin : Holds P3 (afterL between X (Proc.devRef .tc main_v105)) (dgin I) := by
  rw [dgin_read]
  have hd := ((scan_holds E).ofT transposes_S2048x1x4096_S1x2048x4096_1_0_2).mul S.dy
  refine ((hd.mul (sig_holds S)).add ((S.gin.mul hd).mul ((sig_holds S).mul ((Holds.const _ 1 word_one bcast_S_S1x2048x4096).sub (sig_holds S))))).congr fun h x s => ?_
  unfold dgin
  ring
include S E in
theorem second_start : Inv1 (av I) (dhs I) (fun h x => dn 1 (hv I h x)) (afterL between X) 0 where
  rb := fun h x s _ => by
    rw [dhs_read]
    exact (S.dy.mul (S.gin.mul (sig_holds S))).toT transposes_S1x2048x4096_S2048x1x4096_1_0_2 h x s
  rp := fun h x s _ => by
    rw [prev_read]
    exact (E.hp h x s s.isLt).trans (congrArg (fun r : ℝ => (r : EReal)) (lin_dn h x s.val))
  ra := fun h x s _ => by
    rw [decay_read]
    exact S.avT h x s
  g := fun h x => by
    rw [carry_read]
    exact word_zero.trans (congrArg (fun r : ℝ => (r : EReal)) (if_pos rfl).symm)
  da := fun h x s hs => absurd s.isLt (by omega)
  dh := fun h x s hs => absurd s.isLt (by omega)
end

/-! ### After the second loop -/

section
variable (m : (ℓ : Loc nD τ sig) → Buf (Elt Ideal) ℓ) (c : Dev nD) {I : In} (H : Args (launchContents m c) I)
include H

theorem V1_saved : Saved (V1 m c) I := (V0_saved m c H).keep fun r hr => V1_keep m c (saved_notin0 r hr)
theorem V3_saved : Saved (V3 m c) I := (V1_saved m c H).keep fun r hr => (V3_keep m c (saved_notin1 r hr)).trans (between_keep _ (saved_notin2 r hr))
theorem second_end : Inv1 (av I) (dhs I) (fun h x => dn 1 (hv I h x)) (V3 m c) 2048 :=
  loop1 (V2 m) c (av I) (dhs I) _ (V2_ctr m c) (second_start (V1_saved m c H) (first_end m c H))
theorem V3_dh : Holds PT (V3 m c (Proc.devRef .tc main_v110_6)) (dh I) := fun h x s => (second_end m c H).dh h x s (by omega)
theorem V3_da : Holds PT (V3 m c (Proc.devRef .tc main_v110_5)) (da I) := fun h x s => (second_end m c H).da h x s (by omega)
theorem V3_y : Holds P3 (V3 m c (Proc.devRef .tc main_v101)) (yv I) := V3_keep m c (r := main_v101) (by decide +kernel) ▸ at_y (V1_saved m c H) (first_end m c H)
theorem V3_dgin : Holds P3 (V3 m c (Proc.devRef .tc main_v105)) (dgin I) := V3_keep m c (r := main_v105) (by decide +kernel) ▸ at_dgin (V1_saved m c H) (first_end m c H)
end

end Cert.LruRefIdeal.Host
end
-- ==== Proof.LruRefRest.lean ====
module

public import proofs.«01_k».proof.Proof.LruRefSaved

/-! What the reference's lines after its second loop make. -/

@[expose] public section

set_option maxRecDepth 100000

noncomputable section

namespace Cert.LruRefIdeal.Host

open Idealize.ShloMosaic Idealize.ShloMosaic.TcCoe Cert.LruRefIdeal.Gen Cert.LruM Cert.Common Idealize.ShloMosaic.StableHlo

section
variable {Y : Valuation τ sig (Elt Ideal)} {I : In}

/-! ### Decay rate and gates -/

/-- The lines up to the gates' gradients. -/
abbrev restA : List (List (HloOp τ sig (Elt Ideal))) := [line2_5, line2_6, line2_7]
theorem restA_keep (V : Valuation τ sig (Elt Ideal)) {r : Ref sig .tc} (h : r ∉ line2_5_W ++ line2_6_W ++ line2_7_W) :
    after line2_7 (after line2_6 (after line2_5 V)) (Proc.devRef .tc r) = V (Proc.devRef .tc r) := by
  simp only [List.mem_append, not_or] at h
  exact (after_of_writes_sub line2_7 _ line2_7_writes h.2).trans ((after_of_writes_sub line2_6 _ line2_6_writes h.1.2).trans (after_of_writes_sub line2_5 _ line2_5_writes h.1.1))

/-- The state's gradient, time second. -/
def gH (Y : Valuation τ sig (Elt Ideal)) : FVec Ideal S1x2048x4096 .f32 := transpose S1x2048x4096 [1, 0, 2] (Y (Proc.devRef .tc main_v110_6)) transposes_S2048x1x4096_S1x2048x4096_1_0_2
/-- The exponent's gradient. -/
def gL (Y : Valuation τ sig (Elt Ideal)) : FVec Ideal S1x2048x4096 .f32 :=
  addf (mulf (broadcastInDim S1x2048x4096 ![] bcast_S_S1x2048x4096 (constant S_ .f32 0x40000000#32))
      (mulf (Host.negf (mulf (mulf (gH Y) (Y (Proc.devRef .tc main_v91))) (Y (Proc.devRef .tc main_v90)))) (Y (Proc.devRef .tc main_v86))))
    (mulf (transpose S1x2048x4096 [1, 0, 2] (Y (Proc.devRef .tc main_v110_5)) transposes_S2048x1x4096_S1x2048x4096_1_0_2) (Y (Proc.devRef .tc main_v82)))
/-- Sums over time. -/
def sumT (a : FVec Ideal S1x2048x4096 .f32) : FVec Ideal S4096 .f32 :=
  Host.reduceAdd (shapeCast S1x1x4096 (Host.reduceAdd a (constant S_ .f32 0x00000000#32) reducesTo_S1x2048x4096_S1x4096_d1 h_S_) shapeCasts_S1x4096_S1x1x4096)
    (constant S_ .f32 0x00000000#32) reducesTo_S1x1x4096_S4096_d0_1 h_S_
def sumH (a : FVec Ideal S1x2048x16x256 .f32) : FVec Ideal S16x256 .f32 :=
  Host.reduceAdd (shapeCast S1x1x16x256 (Host.reduceAdd a (constant S_ .f32 0x00000000#32) reducesTo_S1x2048x16x256_S1x16x256_d1 h_S_) shapeCasts_S1x16x256_S1x1x16x256)
    (constant S_ .f32 0x00000000#32) reducesTo_S1x1x16x256_S16x256_d0_1 h_S_
/-- The second gate's gradient. -/
def gZ (Y : Valuation τ sig (Elt Ideal)) : FVec Ideal S1x2048x16x256 .f32 :=
  mulf (shapeCast S1x2048x16x256 (mulf (F := Ideal) (φ := .f32) (s := S1x2048x4096) (mulf (F := Ideal) (φ := .f32) (s := S1x2048x4096) (Y (Proc.devRef .tc main_v88)) (gH Y)) (Y (Proc.devRef .tc main_v43))) shapeCasts_S1x2048x4096_S1x2048x16x256)
    (Y (Proc.devRef .tc main_v73))

theorem a115 : afterL restA Y (Proc.devRef .tc main_v115) = mulf (F := Ideal) (φ := .f32) (s := S1x2048x4096) (Y (Proc.devRef .tc main_v74)) (mulf (F := Ideal) (φ := .f32) (s := S1x2048x4096) (Y (Proc.devRef .tc main_v88)) (gH Y)) := by
  simp only [afterL_cons, afterL_nil]
  after_reads_simp
  rfl
theorem a131 : afterL restA Y (Proc.devRef .tc main_v131) = Host.negf (F := Ideal) (φ := .f32) (s := S4096) (mulf (F := Ideal) (φ := .f32) (s := S4096) (sumT (mulf (Y (Proc.devRef .tc main_v76)) (gL Y))) (Y (Proc.devRef .tc main_v78_1))) := by
  simp only [afterL_cons, afterL_nil]
  after_reads_simp
  rfl
theorem a133 : afterL restA Y (Proc.devRef .tc main_v133) = mulf (F := Ideal) (φ := .f32) (s := S1x2048x4096) (broadcastInDim S1x2048x4096 ![] bcast_S_S1x2048x4096 (constant S_ .f32 0xC1000000#32))
    (mulf (F := Ideal) (φ := .f32) (s := S1x2048x4096) (gL Y) (broadcastInDim S1x2048x4096 ![0, 1, 2] bcast_S1x1x4096_S1x2048x4096_0_1_2 (Y (Proc.devRef .tc main_v79)))) := by
  simp only [afterL_cons, afterL_nil]
  after_reads_simp
  rfl
theorem a138 : afterL restA Y (Proc.devRef .tc main_v138) = sumH (gZ Y) := by
  simp only [afterL_cons, afterL_nil]
  after_reads_simp
  rfl
theorem a139 : afterL restA Y (Proc.devRef .tc main_v139) = transpose S16x256x1x2048 [2, 3, 0, 1] (gZ Y) transposes_S1x2048x16x256_S16x256x1x2048_2_3_0_1 := by
  simp only [afterL_cons, afterL_nil]
  after_reads_simp
  rfl

variable (S : Saved Y I) (hh : Holds PT (Y (Proc.devRef .tc main_v110_6)) (dh I)) (ha : Holds PT (Y (Proc.devRef .tc main_v110_5)) (da I))

include hh in
theorem gH_holds : Holds P3 (gH Y) (dh I) := hh.ofT _
include S hh ha in
theorem gL_holds : Holds P3 (gL Y) (dla I) := by
  refine (((Holds.const _ 2 word_two bcast_S_S1x2048x4096).mul ((((gH_holds hh).mul S.ic).mul S.half).neg.mul S.av2)).add ((ha.ofT transposes_S2048x1x4096_S1x2048x4096_1_0_2).mul S.av)).congr fun h x s => ?_
  unfold dla
  ring
include S hh in
theorem gZ_holds : Holds P4 (gZ Y) (dzi I) := by
  refine ((((S.mu.mul (gH_holds hh)).mul S.cv).split shapeCasts_S1x2048x4096_S1x2048x16x256).mul S.ig1).congr fun h x s => ?_
  unfold dzi
  ring
include S hh in
theorem h115 : Holds P3 (afterL restA Y (Proc.devRef .tc main_v115)) fun h x s => dh I h x s * mu I h x s * ig I h x s :=
  a115 ▸ (S.ig.mul (S.mu.mul (gH_holds hh))).congr fun h x s => by ring
include S hh ha in
theorem h131 : Lane (afterL restA Y (Proc.devRef .tc main_v131)) fun h x => vec I 2 h x := by
  rw [a131]
  intro h x
  have e := (S.rg8.mul (gL_holds S hh ha)).sum h x
  show -(sumT _ (ix1 (col h x)) * _) = _
  rw [show sumT (mulf (Y (Proc.devRef .tc main_v76)) (gL Y)) (ix1 (col h x)) = _ from e, S.sps h x, ← EReal.coe_mul, ← EReal.coe_neg]
  refine congrArg (fun r : ℝ => (r : EReal)) ?_
  have e2 : (∑ s : Fin 2048, -8 * rg I h x s.val * dla I h x s.val) = -8 * ∑ s : Fin 2048, dla I h x s.val * rg I h x s.val := by
    rw [Finset.mul_sum]
    exact Finset.sum_congr rfl fun s _ => by ring
  show -((∑ s : Fin 2048, -8 * rg I h x s.val * dla I h x s.val) * sgm (-I.lam (col h x))) = 8 * (∑ s : Fin 2048, dla I h x s.val * rg I h x s.val) * sgm (-I.lam (col h x))
  rw [e2]
  ring
include S hh ha in
theorem h133 : Holds P3 (afterL restA Y (Proc.devRef .tc main_v133)) fun h x s => -8 * (dla I h x s * sp I h x) :=
  a133 ▸ (Holds.const _ (-8) word_neg8 _).mul ((gL_holds S hh ha).mul S.sp.wide)
include S hh in
theorem h138 : LaneH (afterL restA Y (Proc.devRef .tc main_v138)) fun h x => vec I 1 h x := a138 ▸ (gZ_holds S hh).sumH
include S hh in
theorem h139 : Holds Q4 (afterL restA Y (Proc.devRef .tc main_v139)) (dzi I) := a139 ▸ (gZ_holds S hh).toQ _
end

/-! ### The gates' inputs and the convolution -/

section
variable {W : Valuation τ sig (Elt Ideal)} {I : In} (S : Saved W I) (h115 : Holds P3 (W (Proc.devRef .tc main_v115)) fun h x s => dh I h x s * mu I h x s * ig I h x s)
  (h133 : Holds P3 (W (Proc.devRef .tc main_v133)) fun h x s => -8 * (dla I h x s * sp I h x)) (h139 : Holds Q4 (W (Proc.devRef .tc main_v139)) (dzi I))

/-- The first gate's gradient. -/
def gR (W : Valuation τ sig (Elt Ideal)) : FVec Ideal S1x2048x16x256 .f32 := mulf (shapeCast S1x2048x16x256 (W (Proc.devRef .tc main_v133)) shapeCasts_S1x2048x4096_S1x2048x16x256) (W (Proc.devRef .tc main_v58))
def gRq (W : Valuation τ sig (Elt Ideal)) : FVec Ideal S16x256x1x2048 .f32 := transpose S16x256x1x2048 [2, 3, 0, 1] (gR W) transposes_S1x2048x16x256_S16x256x1x2048_2_3_0_1
def pull (a : FVec Ideal S16x256x1x2048 .f32) (w : FVec Ideal S16x256x256 .f32) : FVec Ideal S1x2048x16x256 .f32 :=
  transpose S1x2048x16x256 [1, 2, 0, 3] (Host.dotGeneral dot_S16x256x1x2048_S16x256x256_S16x1x2048x256_1_2_23_1_0_0 none a w) transposes_S16x1x2048x256_S1x2048x16x256_1_2_0_3
def prod (a : FVec Ideal S16x256x1x2048 .f32) (b : FVec Ideal S1x2048x16x256 .f32) : FVec Ideal S16x256x256 .f32 :=
  transpose S16x256x256 [0, 2, 1] (Host.dotGeneral dot_S16x256x1x2048_S1x2048x16x256_S16x256x256_23_01_1_3_0_2 none a b) transposes_S16x256x256_S16x256x256_0_2_1
/-- The convolution's gradient. -/
def gC (W : Valuation τ sig (Elt Ideal)) : FVec Ideal S1x2048x4096 .f32 :=
  addf (W (Proc.devRef .tc main_v115)) (shapeCast S1x2048x4096 (addf (pull (W (Proc.devRef .tc main_v139)) (W (Proc.devRef .tc main_v4))) (pull (gRq W) (W (Proc.devRef .tc main_v2)))) shapeCasts_S1x2048x16x256_S1x2048x4096)
def wideL (t : FVec Ideal S1x1x4096 .f32) : FVec Ideal S1x2048x4096 .f32 := broadcastInDim S1x2048x4096 ![0, 1, 2] bcast_S1x1x4096_S1x2048x4096_0_1_2 t

theorem b143 : after line3_0 W (Proc.devRef .tc main_v143) = prod (W (Proc.devRef .tc main_v139)) (W (Proc.devRef .tc main_v44)) := by after_reads_simp; rfl
theorem b148 : after line3_0 W (Proc.devRef .tc main_v148) = sumH (gR W) := by after_reads_simp; rfl
theorem b154 : after line3_0 W (Proc.devRef .tc main_v154) = prod (gRq W) (W (Proc.devRef .tc main_v44)) := by after_reads_simp; rfl
theorem b156 : after line3_0 W (Proc.devRef .tc main_v156) = gC W := by after_reads_simp; rfl
theorem b159 : after line3_0 W (Proc.devRef .tc main_v159) = sumT (gC W) := by after_reads_simp; rfl
theorem b176 : after line3_0 W (Proc.devRef .tc main_v176) =
    addf (F := Ideal) (φ := .f32) (s := S1x2051x4096) (pad S1x2051x4096 ![0, 3, 0] ![0, 0, 0] ![0, 0, 0] (mulf (wideL (W (Proc.devRef .tc main_v37))) (gC W)) (constant (F := Ideal) S_ .f32 0x00000000#32) pads_S1x2048x4096_S1x2051x4096_000_300_000 h_S_)
      (pad S1x2051x4096 ![0, 2, 0] ![0, 1, 0] ![0, 0, 0] (mulf (wideL (W (Proc.devRef .tc main_v30))) (gC W)) (constant (F := Ideal) S_ .f32 0x00000000#32) pads_S1x2048x4096_S1x2051x4096_000_210_000 h_S_) := by
  after_reads_simp; rfl
theorem b179 : after line3_0 W (Proc.devRef .tc main_v179) =
    addf (F := Ideal) (φ := .f32) (s := S4x4096) (pad S4x4096 ![3, 0] ![0, 0] ![0, 0] (broadcastInDim S1x4096 ![1] bcast_S4096_S1x4096_1 (sumT (mulf (gC W) (W (Proc.devRef .tc main_v36))))) (constant (F := Ideal) S_ .f32 0x00000000#32) pads_S1x4096_S4x4096_300_000 h_S_)
      (pad S4x4096 ![2, 0] ![1, 0] ![0, 0] (broadcastInDim S1x4096 ![1] bcast_S4096_S1x4096_1 (sumT (mulf (gC W) (W (Proc.devRef .tc main_v29))))) (constant (F := Ideal) S_ .f32 0x00000000#32) pads_S1x4096_S4x4096_210_000 h_S_) := by
  after_reads_simp; rfl
theorem b181 : after line3_0 W (Proc.devRef .tc main_v181) = mulf (F := Ideal) (φ := .f32) (s := S1x2048x4096) (wideL (W (Proc.devRef .tc main_v23))) (gC W) := by after_reads_simp; rfl
theorem b185 : after line3_0 W (Proc.devRef .tc main_v185) = sumT (mulf (gC W) (W (Proc.devRef .tc main_v22))) := by after_reads_simp; rfl

include S h133 in
theorem gR_holds : Holds P4 (gR W) (dzr I) := by
  refine ((h133.split shapeCasts_S1x2048x4096_S1x2048x16x256).mul S.rg1).congr fun h x s => ?_
  unfold dzr
  ring
include S h115 h133 h139 in
theorem gC_holds : Holds P3 (gC W) (dcv I) := by
  refine (h115.add (((h139.back S.wx).add (((gR_holds S h133).toQ transposes_S1x2048x16x256_S16x256x1x2048_2_3_0_1).back S.wa)).join shapeCasts_S1x2048x16x256_S1x2048x4096)).congr fun h x s => ?_
  unfold dcv
  ring
include S h139 in
theorem h143 : Mat (after line3_0 W (Proc.devRef .tc main_v143)) (dwx I) := b143 ▸ h139.outer S.cv4
include S h133 in
theorem h148 : LaneH (after line3_0 W (Proc.devRef .tc main_v148)) fun h x => vec I 0 h x := b148 ▸ (gR_holds S h133).sumH
include S h133 in
theorem h154 : Mat (after line3_0 W (Proc.devRef .tc main_v154)) (dwa I) := b154 ▸ ((gR_holds S h133).toQ _).outer S.cv4
include S h115 h133 h139 in
theorem h159 : Lane (after line3_0 W (Proc.devRef .tc main_v159)) fun h x => vec I 3 h x := b159 ▸ (gC_holds S h115 h133 h139).sum
end

end Cert.LruRefIdeal.Host
end
-- ==== Proof.LruRefOut.lean ====
module

public import proofs.«01_k».proof.Proof.LruRefRest

/-! The reference's results. -/

@[expose] public section

set_option maxRecDepth 100000

noncomputable section

namespace Cert.LruRefIdeal.Host

open Idealize.ShloMosaic Idealize.ShloMosaic.TcCoe Cert.LruRefIdeal.Gen Cert.LruM Cert.Common Idealize.ShloMosaic.StableHlo

section
variable {W : Valuation τ sig (Elt Ideal)} {I : In}

/-- The projection's gradient through the convolution, and its gate's half after it. -/
def full (W : Valuation τ sig (Elt Ideal)) : FVec Ideal S1x2048x4096 .f32 :=
  extractStridedSlice S1x2048x4096 ![0, 3, 0]
    (addf (addf (W (Proc.devRef .tc main_v176)) (pad S1x2051x4096 ![0, 1, 0] ![0, 2, 0] ![0, 0, 0] (W (Proc.devRef .tc main_v181)) (constant (F := Ideal) S_ .f32 0x00000000#32) pads_S1x2048x4096_S1x2051x4096_000_120_000 h_S_))
      (pad S1x2051x4096 ![0, 0, 0] ![0, 3, 0] ![0, 0, 0] (mulf (F := Ideal) (φ := .f32) (s := S1x2048x4096) (wideL (W (Proc.devRef .tc main_v15))) (W (Proc.devRef .tc main_v156))) (constant (F := Ideal) S_ .f32 0x00000000#32) pads_S1x2048x4096_S1x2051x4096_000_030_000 h_S_))
    slices_S1x2051x4096_S1x2048x4096_0_3_0
/-- The taps' gradients. -/
def taps (W : Valuation τ sig (Elt Ideal)) : FVec Ideal S4x4096 .f32 :=
  addf (addf (W (Proc.devRef .tc main_v179)) (pad S4x4096 ![1, 0] ![2, 0] ![0, 0] (broadcastInDim S1x4096 ![1] bcast_S4096_S1x4096_1 (W (Proc.devRef .tc main_v185))) (constant (F := Ideal) S_ .f32 0x00000000#32) pads_S1x4096_S4x4096_120_000 h_S_))
    (pad S4x4096 ![0, 0] ![3, 0] ![0, 0] (broadcastInDim S1x4096 ![1] bcast_S4096_S1x4096_1 (sumT (mulf (W (Proc.devRef .tc main_v156)) (W (Proc.devRef .tc main_v14))))) (constant (F := Ideal) S_ .f32 0x00000000#32) pads_S1x4096_S4x4096_030_000 h_S_)
/-- A head's row in 4096 columns. -/
def flat (l : FVec Ideal S16x256 .f32) : FVec Ideal S1x4096 .f32 := shapeCast S1x4096 (broadcastInDim S1x16x256 ![1, 2] bcast_S16x256_S1x16x256_1_2 l) shapeCasts_S1x16x256_S1x4096
def row (l : FVec Ideal S4096 .f32) : FVec Ideal S1x4096 .f32 := broadcastInDim S1x4096 ![1] bcast_S4096_S1x4096_1 l
/-- The sixteen rows of vector gradients. -/
def rows16 (a b d e : FVec Ideal S1x4096 .f32) (t : FVec Ideal S4x4096 .f32) : FVec Ideal S16x4096 .f32 :=
  concatenate S16x4096 0 [⟨S1x4096, a⟩, ⟨S1x4096, b⟩, ⟨S1x4096, d⟩, ⟨S1x4096, e⟩,
    ⟨S4x4096, shapeCast S4x4096 (broadcastInDim S1x4x4096 ![1, 2] bcast_S4x4096_S1x4x4096_1_2 t) shapeCasts_S1x4x4096_S4x4096⟩,
    ⟨S8x4096, broadcastInDim S8x4096 ![] bcast_S_S8x4096 (constant S_ .f32 0x00000000#32)⟩] concatenates_S1x4096_S1x4096_S1x4096_S1x4096_S4x4096_S8x4096_S16x4096_d0

theorem c218 : after line4_0 W (Proc.devRef .tc main_v218) = truncf (F := Ideal) .bf16 (shapeCast S2048x4096 (W (Proc.devRef .tc main_v101)) shapeCasts_S1x2048x4096_S2048x4096) bitsLt_bf16_f32 := by
  after_reads_simp; rfl
theorem c222 : after line4_0 W (Proc.devRef .tc main_v222) = truncf (F := Ideal) .bf16 (transpose S2x2048x4096 [1, 0, 2] (shapeCast S2048x2x4096 (shapeCast S2048x8192
    (concatenate S1x2048x8192 2 [⟨S1x2048x4096, full W⟩, ⟨S1x2048x4096, W (Proc.devRef .tc main_v105)⟩] concatenates_S1x2048x4096_S1x2048x4096_S1x2048x8192_d2) shapeCasts_S1x2048x8192_S2048x8192) shapeCasts_S2048x8192_S2048x2x4096)
    transposes_S2048x2x4096_S2x2048x4096_1_0_2) bitsLt_bf16_f32 := by
  after_reads_simp; rfl
theorem c224 : after line4_0 W (Proc.devRef .tc main_v224) = truncf (F := Ideal) .bf16 (shapeCast S16x256x256 (broadcastInDim S1x16x256x256 ![1, 2, 3] bcast_S16x256x256_S1x16x256x256_1_2_3 (W (Proc.devRef .tc main_v154))) shapeCasts_S1x16x256x256_S16x256x256) bitsLt_bf16_f32 := by
  after_reads_simp; rfl
theorem c226 : after line4_0 W (Proc.devRef .tc main_v226) = truncf (F := Ideal) .bf16 (shapeCast S16x256x256 (broadcastInDim S1x16x256x256 ![1, 2, 3] bcast_S16x256x256_S1x16x256x256_1_2_3 (W (Proc.devRef .tc main_v143))) shapeCasts_S1x16x256x256_S16x256x256) bitsLt_bf16_f32 := by
  after_reads_simp; rfl
theorem c216 : after line4_0 W (Proc.devRef .tc main_v216) = rows16 (flat (W (Proc.devRef .tc main_v148))) (flat (W (Proc.devRef .tc main_v138))) (row (W (Proc.devRef .tc main_v131))) (row (W (Proc.devRef .tc main_v159))) (taps W) := by
  after_reads_simp; rfl

theorem out_mat {w : FVec Ideal S16x256x256 .f32} {q} (hw : Mat w q) (h : Fin 16) (i j : Fin 256) :
    (truncf (F := Ideal) .bf16 (shapeCast S16x256x256 (broadcastInDim S1x16x256x256 ![1, 2, 3] bcast_S16x256x256_S1x16x256x256_1_2_3 w) shapeCasts_S1x16x256x256_S16x256x256) bitsLt_bf16_f32 : S16x256x256.Idx → EReal) (ix3 h i j) = ((q h i j : ℝ) : EReal) := by
  rw [← hw h i j]
  pointwise
theorem out_y {a : FVec Ideal S1x2048x4096 .f32} {f : Seq} (ha : Holds P3 a f) (h : Fin 16) (x : Fin 256) (s : Fin 2048) :
    (truncf (F := Ideal) .bf16 (shapeCast S2048x4096 a shapeCasts_S1x2048x4096_S2048x4096) bitsLt_bf16_f32 : S2048x4096.Idx → EReal) (ix2 s (col h x)) = ((f h x s.val : ℝ) : EReal) := by
  rw [← ha h x s]
  unfold P3
  pointwise
theorem out_dp {a b : FVec Ideal S1x2048x4096 .f32} {f g : Seq} (ha : Holds P3 a f) (hb : Holds P3 b g) (j : Fin 2) (h : Fin 16) (x : Fin 256) (s : Fin 2048) :
    (truncf (F := Ideal) .bf16 (transpose S2x2048x4096 [1, 0, 2] (shapeCast S2048x2x4096 (shapeCast S2048x8192
      (concatenate S1x2048x8192 2 [⟨S1x2048x4096, a⟩, ⟨S1x2048x4096, b⟩] concatenates_S1x2048x4096_S1x2048x4096_S1x2048x8192_d2) shapeCasts_S1x2048x8192_S2048x8192) shapeCasts_S2048x8192_S2048x2x4096)
      transposes_S2048x2x4096_S2x2048x4096_1_0_2) bitsLt_bf16_f32 : S2x2048x4096.Idx → EReal) (ix3 j s (col h x)) = (((if j.val = 0 then f h x s.val else g h x s.val) : ℝ) : EReal) := by
  pointwise
  have hc := (col h x).isLt
  by_cases hj : j.val = 0
  · rw [if_pos hj]
    refine (dif_pos (by omega)).trans (Eq.trans ?_ (ha h x s))
    exact congrArg (fun e => a (ix3 0 s e)) (Fin.ext (by show j.val * 4096 + (col h x).val = (col h x).val; omega))
  · rw [if_neg hj]
    refine (dif_neg (by omega)).trans (Eq.trans ?_ (hb h x s))
    exact congrArg (fun e => b (ix3 0 s e)) (Fin.ext (by show j.val * 4096 + (col h x).val - 4096 = (col h x).val; have := j.isLt; omega))
theorem flat_holds {l : FVec Ideal S16x256 .f32} {g} (hl : LaneH l g) (h : Fin 16) (x : Fin 256) : flat l (ix2 0 (col h x)) = ((g h x : ℝ) : EReal) := by
  unfold flat
  pointwise
  refine Eq.trans ?_ (hl h x)
  exact congrArg₂ (fun y z => l (ix2 y z)) (Fin.ext (by show (h.val * 256 + x.val) / 256 = h.val; omega)) (Fin.ext (by show (h.val * 256 + x.val) % 256 = x.val; omega))
theorem row_holds {l : FVec Ideal S4096 .f32} {g} (hl : Lane l g) (h : Fin 16) (x : Fin 256) : row l (ix2 0 (col h x)) = ((g h x : ℝ) : EReal) := by
  rw [← hl h x]
  unfold row
  pointwise
theorem rows16_holds {a b d e : FVec Ideal S1x4096 .f32} {t : FVec Ideal S4x4096 .f32} {g : ℕ → ℝ} (k : Fin 4096) (ha : a (ix2 0 k) = ((g 0 : ℝ) : EReal)) (hb : b (ix2 0 k) = ((g 1 : ℝ) : EReal))
    (hd : d (ix2 0 k) = ((g 2 : ℝ) : EReal)) (he : e (ix2 0 k) = ((g 3 : ℝ) : EReal)) (ht : ∀ i : Fin 4, t (ix2 i k) = ((g (4 + i.val) : ℝ) : EReal)) (hz : ∀ r, 8 ≤ r → g r = 0) (r : Fin 16) :
    rows16 a b d e t (ix2 r k) = ((g r.val : ℝ) : EReal) := by
  have at0 : ∀ {v : FVec Ideal S1x4096 .f32} (i : Fin 1), v (ix2 i k) = v (ix2 0 k) := fun {v} i => congrArg (fun j => v (ix2 j k)) (Subsingleton.elim i 0)
  unfold rows16
  pointwise
  by_cases h0 : r.val < 1
  · exact (dif_pos h0).trans ((at0 _).trans (ha.trans (congrArg (fun n => ((g n : ℝ) : EReal)) (by omega))))
  refine (dif_neg h0).trans ?_
  by_cases h1 : r.val - 1 < 1
  · exact (dif_pos h1).trans ((at0 _).trans (hb.trans (congrArg (fun n => ((g n : ℝ) : EReal)) (by omega))))
  refine (dif_neg h1).trans ?_
  by_cases h2 : r.val - 1 - 1 < 1
  · exact (dif_pos h2).trans ((at0 _).trans (hd.trans (congrArg (fun n => ((g n : ℝ) : EReal)) (by omega))))
  refine (dif_neg h2).trans ?_
  by_cases h3 : r.val - 1 - 1 - 1 < 1
  · exact (dif_pos h3).trans ((at0 _).trans (he.trans (congrArg (fun n => ((g n : ℝ) : EReal)) (by omega))))
  refine (dif_neg h3).trans ?_
  by_cases h4 : r.val - 1 - 1 - 1 - 1 < 4
  · exact (dif_pos h4).trans ((ht ⟨_, h4⟩).trans (congrArg (fun n => ((g n : ℝ) : EReal)) (by show 4 + (r.val - 1 - 1 - 1 - 1) = r.val; omega)))
  refine (dif_neg h4).trans ?_
  rw [hz r.val (by omega)]
  exact EReal.coe_zero.symm

/-! ### The convolution's two gradients -/

/-- The rows behind the first three. -/
def cut3 (a : FVec Ideal S1x2051x4096 .f32) : FVec Ideal S1x2048x4096 .f32 := extractStridedSlice S1x2048x4096 ![0, 3, 0] a slices_S1x2051x4096_S1x2048x4096_0_3_0
theorem cut3_add (a b : FVec Ideal S1x2051x4096 .f32) : cut3 (addf (F := Ideal) (φ := .f32) (s := S1x2051x4096) a b) = addf (F := Ideal) (φ := .f32) (s := S1x2048x4096) (cut3 a) (cut3 b) := rfl

theorem up_mul (l : ℕ) (q : ℝ) (f : ℕ → ℝ) (s : ℕ) : up l (fun s => q * f s) s = q * up l f s := by
  unfold up
  split_ifs
  · rfl
  · exact (mul_zero q).symm
theorem up_zero (f : ℕ → ℝ) (s : Fin 2048) : up 0 f s.val = f s.val := if_pos (by omega)

variable (t0 : Line (W (Proc.devRef .tc main_v15)) (tap I · · 0)) (x0 : Holds P3 (W (Proc.devRef .tc main_v14)) fun h x => dn 3 (vin I h x))
  (h156 : Holds P3 (W (Proc.devRef .tc main_v156)) (dcv I)) (h181 : Holds P3 (W (Proc.devRef .tc main_v181)) fun h x s => tap I h x 1 * dcv I h x s)
  (h176 : Holds P3 (cut3 (W (Proc.devRef .tc main_v176))) fun h x s => tap I h x 3 * dcv I h x s + tap I h x 2 * up 1 (dcv I h x) s)
  (h179 : ∀ (r : Fin 4) h x, W (Proc.devRef .tc main_v179) (ix2 r (col h x)) = (((if r.val = 3 then vec I 7 h x else 0) + (if r.val = 2 then vec I 6 h x else 0) : ℝ) : EReal))
  (h185 : Lane (W (Proc.devRef .tc main_v185)) fun h x => vec I 5 h x)

include t0 h156 h181 h176 in
theorem full_holds : Holds P3 (full W) (dvin I) := by
  show Holds P3 (cut3 (addf (F := Ideal) (φ := .f32) (s := S1x2051x4096) (addf (F := Ideal) (φ := .f32) (s := S1x2051x4096) _ _) _)) _
  rw [cut3_add, cut3_add]
  refine ((h176.add (h181.put 1 2 rfl pads_S1x2048x4096_S1x2051x4096_000_120_000)).add ((t0.wide.mul h156).put 0 3 rfl pads_S1x2048x4096_S1x2051x4096_000_030_000)).congr fun h x s => ?_
  beta_reduce
  rw [up_mul, up_mul]
  unfold dvin
  ring
include x0 h156 h179 h185 in
theorem taps_holds (r : Fin 4) (h : Fin 16) (x : Fin 256) : taps W (ix2 r (col h x)) = ((vec I (4 + r.val) h x : ℝ) : EReal) := by
  have e0 : Lane (sumT (mulf (W (Proc.devRef .tc main_v156)) (W (Proc.devRef .tc main_v14)))) fun h x => vec I 4 h x := (h156.mul x0).sum
  unfold taps
  rw [addf_apply, addf_apply]
  rw [h179, h185.put 1 2 rfl, e0.put 0 3 rfl]
  refine Eq.trans (b := (((if r.val = 3 then vec I 7 h x else 0) + (if r.val = 2 then vec I 6 h x else 0) : ℝ) : EReal) + ((if r.val = 1 then vec I 5 h x else 0 : ℝ) : EReal) + ((if r.val = 0 then vec I 4 h x else 0 : ℝ) : EReal)) rfl ?_
  rw [← EReal.coe_add, ← EReal.coe_add]
  refine congrArg (fun q : ℝ => (q : EReal)) ?_
  match r with
  | ⟨0, _⟩ => simp
  | ⟨1, _⟩ => simp
  | ⟨2, _⟩ => simp
  | ⟨3, _⟩ => simp
end

/-! ### The lines before the results -/

section
variable {W : Valuation τ sig (Elt Ideal)} {I : In} (S : Saved W I) (h115 : Holds P3 (W (Proc.devRef .tc main_v115)) fun h x s => dh I h x s * mu I h x s * ig I h x s)
  (h133 : Holds P3 (W (Proc.devRef .tc main_v133)) fun h x s => -8 * (dla I h x s * sp I h x)) (h139 : Holds Q4 (W (Proc.devRef .tc main_v139)) (dzi I))
include S h115 h133 h139

theorem h181 : Holds P3 (after line3_0 W (Proc.devRef .tc main_v181)) fun h x s => tap I h x 1 * dcv I h x s := b181 ▸ S.t1.wide.mul (gC_holds S h115 h133 h139)
theorem h185 : Lane (after line3_0 W (Proc.devRef .tc main_v185)) fun h x => vec I 5 h x := b185 ▸ ((gC_holds S h115 h133 h139).mul S.x1).sum
theorem h176 : Holds P3 (cut3 (after line3_0 W (Proc.devRef .tc main_v176)))
    fun h x s => tap I h x 3 * dcv I h x s + tap I h x 2 * up 1 (dcv I h x) s := by
  rw [b176]
  rw [cut3_add]
  refine (((S.t3.wide.mul (gC_holds S h115 h133 h139)).put 3 0 rfl pads_S1x2048x4096_S1x2051x4096_000_300_000).add
    ((S.t2.wide.mul (gC_holds S h115 h133 h139)).put 2 1 rfl pads_S1x2048x4096_S1x2051x4096_000_210_000)).congr fun h x s => ?_
  beta_reduce
  rw [up_mul, up_mul, up_zero]
theorem h179 (r : Fin 4) (h : Fin 16) (x : Fin 256) : after line3_0 W (Proc.devRef .tc main_v179) (ix2 r (col h x)) =
    (((if r.val = 3 then vec I 7 h x else 0) + (if r.val = 2 then vec I 6 h x else 0) : ℝ) : EReal) := by
  rw [b179]
  have e3 : Lane (sumT (mulf (gC W) (W (Proc.devRef .tc main_v36)))) fun h x => vec I 7 h x := ((gC_holds S h115 h133 h139).mul S.x3).sum
  have e2 : Lane (sumT (mulf (gC W) (W (Proc.devRef .tc main_v29)))) fun h x => vec I 6 h x := ((gC_holds S h115 h133 h139).mul S.x2).sum
  rw [addf_apply]
  rw [e3.put 3 0 rfl, e2.put 2 1 rfl]
  exact (EReal.coe_add _ _).symm
end

/-! ### The results -/

section
variable (m : (ℓ : Loc nD τ sig) → Buf (Elt Ideal) ℓ) (c : Dev nD) {I : In} (H : Args (launchContents m c) I)

/-- Before the results' lines, and before those. -/
def Z1 : Valuation τ sig (Elt Ideal) := afterL restA (V3 m c)
def Z2 : Valuation τ sig (Elt Ideal) := after line3_0 (Z1 m c)
theorem V4_eq : V4 m c = after line4_0 (Z2 m c) := rfl
theorem saved_notin3 : ∀ r ∈ saved, r ∉ line2_5_W ++ line2_6_W ++ line2_7_W := by decide +kernel
theorem Z1_keep {r : Ref sig .tc} (h : r ∉ line2_5_W ++ line2_6_W ++ line2_7_W) : Z1 m c (Proc.devRef .tc r) = V3 m c (Proc.devRef .tc r) := restA_keep _ h
theorem Z2_keep {r : Ref sig .tc} (h : r ∉ line3_0_W) : Z2 m c (Proc.devRef .tc r) = Z1 m c (Proc.devRef .tc r) := after_of_writes_sub line3_0 _ line3_0_writes h

include H
theorem Z1_saved : Saved (Z1 m c) I := (V3_saved m c H).keep fun r hr => Z1_keep m c (saved_notin3 r hr)
theorem Z1_115 : Holds P3 (Z1 m c (Proc.devRef .tc main_v115)) fun h x s => dh I h x s * mu I h x s * ig I h x s := h115 (V3_saved m c H) (V3_dh m c H)
theorem Z1_133 : Holds P3 (Z1 m c (Proc.devRef .tc main_v133)) fun h x s => -8 * (dla I h x s * sp I h x) := h133 (V3_saved m c H) (V3_dh m c H) (V3_da m c H)
theorem Z1_139 : Holds Q4 (Z1 m c (Proc.devRef .tc main_v139)) (dzi I) := h139 (V3_saved m c H) (V3_dh m c H)
theorem Z2_156 : Holds P3 (Z2 m c (Proc.devRef .tc main_v156)) (dcv I) := by
  unfold Z2
  rw [b156]
  exact gC_holds (Z1_saved m c H) (Z1_115 m c H) (Z1_133 m c H) (Z1_139 m c H)

theorem res_y (h : Fin 16) (x : Fin 256) (s : Fin 2048) : (V4 m c (Proc.devRef .tc main_v218) : S2048x4096.Idx → EReal) (ix2 s (col h x)) = ((yv I h x s.val : ℝ) : EReal) := by
  rw [V4_eq, c218, Z2_keep m c (by decide +kernel), Z1_keep m c (by decide +kernel)]
  exact out_y (V3_y m c H) h x s
theorem res_dp (j : Fin 2) (h : Fin 16) (x : Fin 256) (s : Fin 2048) : (V4 m c (Proc.devRef .tc main_v222) : S2x2048x4096.Idx → EReal) (ix3 j s (col h x)) = ((dp I j.val h x s.val : ℝ) : EReal) := by
  rw [V4_eq, c222, Z2_keep m c (r := main_v105) (by decide +kernel), Z1_keep m c (r := main_v105) (by decide +kernel)]
  have S := Z1_saved m c H
  exact out_dp (full_holds (W := Z2 m c) ((Z2_keep m c (r := main_v15) (by decide +kernel)) ▸ S.t0) (Z2_156 m c H) (h181 S (Z1_115 m c H) (Z1_133 m c H) (Z1_139 m c H))
    (h176 S (Z1_115 m c H) (Z1_133 m c H) (Z1_139 m c H))) (V3_dgin m c H) j h x s
theorem res_dwa (h : Fin 16) (i j : Fin 256) : (V4 m c (Proc.devRef .tc main_v224) : S16x256x256.Idx → EReal) (ix3 h i j) = ((dwa I h i j : ℝ) : EReal) := by
  rw [V4_eq, c224]
  exact out_mat (h154 (Z1_saved m c H) (Z1_133 m c H)) h i j
theorem res_dwx (h : Fin 16) (i j : Fin 256) : (V4 m c (Proc.devRef .tc main_v226) : S16x256x256.Idx → EReal) (ix3 h i j) = ((dwx I h i j : ℝ) : EReal) := by
  rw [V4_eq, c226]
  exact out_mat (h143 (Z1_saved m c H) (Z1_139 m c H)) h i j
theorem res_vec (r h : Fin 16) (x : Fin 256) : (V4 m c (Proc.devRef .tc main_v216) : S16x4096.Idx → EReal) (ix2 r (col h x)) = ((vec I r.val h x : ℝ) : EReal) := by
  rw [V4_eq, c216, Z2_keep m c (r := main_v138) (by decide +kernel), Z2_keep m c (r := main_v131) (by decide +kernel)]
  have S := Z1_saved m c H
  refine rows16_holds (g := fun n => vec I n h x) (col h x) (flat_holds (h148 S (Z1_133 m c H)) h x) (flat_holds (h138 (V3_saved m c H) (V3_dh m c H)) h x)
    (row_holds (h131 (V3_saved m c H) (V3_dh m c H) (V3_da m c H)) h x) (row_holds (h159 S (Z1_115 m c H) (Z1_133 m c H) (Z1_139 m c H)) h x)
    (fun i => taps_holds (W := Z2 m c) ((Z2_keep m c (r := main_v14) (by decide +kernel)) ▸ S.x0) (Z2_156 m c H) (h179 S (Z1_115 m c H) (Z1_133 m c H) (Z1_139 m c H))
      (h185 S (Z1_115 m c H) (Z1_133 m c H) (Z1_139 m c H)) i h x) (fun n hn => ?_) r
  show vec I n h x = 0
  unfold vec
  rw [if_neg (by omega), if_neg (by omega), if_neg (by omega), if_neg (by omega), if_neg (by omega)]
end

end Cert.LruRefIdeal.Host
end
-- ==== Proof.LruClaim.lean ====
module

public import proofs.«01_k».proof.Defs
public import proofs.«01_k».proof.Proof.LruKer
public import proofs.«01_k».proof.Proof.LruKerRun
public import proofs.«01_k».proof.Proof.LruRefOut
public import proofs.«01_k».proof.Proof.Common

/-! The recurrence's claim: both programs end at the model's five functions of the arguments. -/

@[expose] public section

set_option maxRecDepth 16384

noncomputable section

open Idealize.ShloMosaic Idealize.ShloMosaic.TcCoe Idealize.SL.Sem

namespace Cert.LruClaim

open Cert.Common Cert.LruM

/-- What the printed precondition states of its broadcasts. -/
instance preFacts : Cert.Pre_lru_finite.Facts := ⟨by decide, by decide, by decide, by decide, by decide, by decide⟩

/-- The real number an entry is. -/
def re (v : EReal) : ℝ := v.toReal
theorem IsR.coe_re {v : EReal} (h : IsR v) : v = ((re v : ℝ) : EReal) := by
  obtain ⟨r, rfl⟩ := h
  rfl
/-- A row of an array by its number. -/
def at2 {n : ℕ} (f : Fin 2048 → Fin n → EReal) (s : ℕ) (e : Fin n) : ℝ := if h : s < 2048 then re (f ⟨s, h⟩ e) else 0
theorem coe_at2 {n : ℕ} (f : Fin 2048 → Fin n → EReal) (hf : ∀ s e, IsR (f s e)) (s : Fin 2048) (e : Fin n) : f s e = ((at2 f s.val e : ℝ) : EReal) := by
  unfold at2
  rw [dif_pos s.isLt]
  exact IsR.coe_re (hf s e)

section
open Cert.LruIdeal
variable (m : (ℓ : Loc nD τ sig) → Buf (Elt Ideal) ℓ) (c : Dev nD)
/-- The arguments' real numbers. -/
def input : In where
  p := at2 fun s e => (m ((c : Thread nD τ).loc main_arg0) : S1x2048x8192.Idx → EReal) (ix3 0 s e)
  cw k e := re ((m ((c : Thread nD τ).loc main_arg1) : S1x4x4096.Idx → EReal) (ix3 0 k e))
  cb e := re ((m ((c : Thread nD τ).loc main_arg2) : S1x4096.Idx → EReal) (ix2 0 e))
  wa h i j := re ((m ((c : Thread nD τ).loc main_arg3) : S1x16x256x256.Idx → EReal) (ix4 0 h i j))
  ba h x := re ((m ((c : Thread nD τ).loc main_arg4) : S1x16x256.Idx → EReal) (ix3 0 h x))
  wx h i j := re ((m ((c : Thread nD τ).loc main_arg5) : S1x16x256x256.Idx → EReal) (ix4 0 h i j))
  bx h x := re ((m ((c : Thread nD τ).loc main_arg6) : S1x16x256.Idx → EReal) (ix3 0 h x))
  lam e := re ((m ((c : Thread nD τ).loc main_arg7) : S1x4096.Idx → EReal) (ix2 0 e))
  dy := at2 fun s e => (m ((c : Thread nD τ).loc main_arg8) : S1x2048x4096.Idx → EReal) (ix3 0 s e)

theorem args (hpre : Cert.Pre_LruIdeal_lru_finite m) : Hand.Args m c (input m c) :=
  have r0 := real_entries _ _ (hpre c).1
  have r1 := real_entries _ _ (hpre c).2.1
  have r2 := real_entries _ _ (hpre c).2.2.1
  have r3 := real_entries _ _ (hpre c).2.2.2.1
  have r4 := real_entries _ _ (hpre c).2.2.2.2.1
  have r5 := real_entries _ _ (hpre c).2.2.2.2.2.1
  have r6 := real_entries _ _ (hpre c).2.2.2.2.2.2.1
  have r7 := real_entries _ _ (hpre c).2.2.2.2.2.2.2.1
  have r8 := real_entries _ _ (hpre c).2.2.2.2.2.2.2.2
  { a0 := fun s e => coe_at2 _ (fun _ _ => r0 _) s e
    a1 := fun k e => IsR.coe_re (r1 _)
    a2 := fun e => IsR.coe_re (r2 _)
    a3 := fun h i j => IsR.coe_re (r3 _)
    a4 := fun h x => IsR.coe_re (r4 _)
    a5 := fun h i j => IsR.coe_re (r5 _)
    a6 := fun h x => IsR.coe_re (r6 _)
    a7 := fun e => IsR.coe_re (r7 _)
    a8 := fun s e => coe_at2 _ (fun _ _ => r8 _) s e }
end

/-- The five results. -/
def outY (I : In) : Cert.LruIdeal.S2048x4096.Idx → EReal := fun i => ((yv I (Cert.LruIdeal.Hand.hdOf (i 1)) (Cert.LruIdeal.Hand.inHd (i 1)) (i 0).val : ℝ) : EReal)
def outP (I : In) : Cert.LruIdeal.S2x2048x4096.Idx → EReal := fun i => ((dp I (i 0).val (Cert.LruIdeal.Hand.hdOf (i 2)) (Cert.LruIdeal.Hand.inHd (i 2)) (i 1).val : ℝ) : EReal)
def outA (I : In) : Cert.LruIdeal.S16x256x256.Idx → EReal := fun i => ((dwa I (i 0) (i 1) (i 2) : ℝ) : EReal)
def outX (I : In) : Cert.LruIdeal.S16x256x256.Idx → EReal := fun i => ((dwx I (i 0) (i 1) (i 2) : ℝ) : EReal)
def outV (I : In) : Cert.LruIdeal.S16x4096.Idx → EReal := fun i => ((vec I (i 0).val (Cert.LruIdeal.Hand.hdOf (i 1)) (Cert.LruIdeal.Hand.inHd (i 1)) : ℝ) : EReal)

/-- A column is its head's column. -/
theorem col_split (e : Fin 4096) : e = col (Cert.LruIdeal.Hand.hdOf e) (Cert.LruIdeal.Hand.inHd e) :=
  Fin.ext (by show e.val = e.val / 256 * 256 + e.val % 256; omega)

section
open Cert.LruRefIdeal Cert.LruRefIdeal.Host
variable (m : (ℓ : Loc nD τ sig) → Buf (Elt Ideal) ℓ) (c : Dev nD) {I : In} (H : Args (StableHlo.launchContents m c) I)
include H
theorem ref_y : V4 m c (Proc.devRef .tc main_v218) = outY I := by
  refine funext fun i => ?_
  idx_vars i
  exact (congrArg (fun e => (V4 m c (Proc.devRef .tc main_v218) : S2048x4096.Idx → EReal) (ix2 i0 e)) (col_split i1)).trans (res_y m c H _ _ _)
theorem ref_dp : V4 m c (Proc.devRef .tc main_v222) = outP I := by
  refine funext fun i => ?_
  idx_vars i
  exact (congrArg (fun e => (V4 m c (Proc.devRef .tc main_v222) : S2x2048x4096.Idx → EReal) (ix3 i0 i1 e)) (col_split i2)).trans (res_dp m c H _ _ _ _)
theorem ref_dwa : V4 m c (Proc.devRef .tc main_v224) = outA I := by
  refine funext fun i => ?_
  idx_vars i
  exact res_dwa m c H _ _ _
theorem ref_dwx : V4 m c (Proc.devRef .tc main_v226) = outX I := by
  refine funext fun i => ?_
  idx_vars i
  exact res_dwx m c H _ _ _
theorem ref_vec : V4 m c (Proc.devRef .tc main_v216) = outV I := by
  refine funext fun i => ?_
  idx_vars i
  exact (congrArg (fun e => (V4 m c (Proc.devRef .tc main_v216) : S16x4096.Idx → EReal) (ix2 i0 e)) (col_split i1)).trans (res_vec m c H _ _ _)
end

/-- The reference leaves its arguments as they were. -/
theorem ref_args (m : (ℓ : Loc Cert.LruRefIdeal.nD Cert.LruRefIdeal.τ Cert.LruRefIdeal.sig) → Buf (Elt Ideal) ℓ) (c : Dev Cert.LruRefIdeal.nD) (b : Ref Cert.LruRefIdeal.sig .tc)
    (h : b ∈ ([Cert.LruRefIdeal.main_arg0, Cert.LruRefIdeal.main_arg1, Cert.LruRefIdeal.main_arg2, Cert.LruRefIdeal.main_arg3, Cert.LruRefIdeal.main_arg4, Cert.LruRefIdeal.main_arg5, Cert.LruRefIdeal.main_arg6, Cert.LruRefIdeal.main_arg7, Cert.LruRefIdeal.main_arg8] : List _)) :
    Cert.LruRefIdeal.Host.V4 m c (Proc.devRef .tc b) = m ((c : Thread Cert.LruRefIdeal.nD Cert.LruRefIdeal.τ).loc b) := by
  have h0 : ∀ b ∈ ([Cert.LruRefIdeal.main_arg0, Cert.LruRefIdeal.main_arg1, Cert.LruRefIdeal.main_arg2, Cert.LruRefIdeal.main_arg3, Cert.LruRefIdeal.main_arg4, Cert.LruRefIdeal.main_arg5, Cert.LruRefIdeal.main_arg6, Cert.LruRefIdeal.main_arg7, Cert.LruRefIdeal.main_arg8] : List (Ref Cert.LruRefIdeal.sig .tc)),
      (Cert.LruRefIdeal.Host.V4 m c (Proc.devRef .tc b) = m ((c : Thread Cert.LruRefIdeal.nD Cert.LruRefIdeal.τ).loc b)) := by
    simp only [List.forall_mem_cons]
    refine ⟨?_, ?_, ?_, ?_, ?_, ?_, ?_, ?_, ?_, fun x hx => absurd hx List.not_mem_nil⟩ <;>
      exact Cert.LruRefIdeal.Host.V4_arg m c (by decide +kernel) (by decide +kernel) (by decide +kernel) (by decide +kernel) (by decide +kernel) (by decide +kernel) (by decide +kernel)
  exact h0 b h

theorem refFrame (m : (ℓ : Loc Cert.LruRefIdeal.nD Cert.LruRefIdeal.τ Cert.LruRefIdeal.sig) → Buf (Elt Ideal) ℓ) (g : Dev Cert.LruRefIdeal.nD → PrngReg) :
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0) ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1) ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2) ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3) ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4) ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5) ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6) ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7) ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0) :=
  (θ_run _ _ _).mono (fun r h => ⟨fun c => ⟨(h c _ rfl).trans (ref_args m c _ (by decide)), (h c _ rfl).trans (ref_args m c _ (by decide)), (h c _ rfl).trans (ref_args m c _ (by decide)), (h c _ rfl).trans (ref_args m c _ (by decide)), (h c _ rfl).trans (ref_args m c _ (by decide)), (h c _ rfl).trans (ref_args m c _ (by decide)), (h c _ rfl).trans (ref_args m c _ (by decide)), (h c _ rfl).trans (ref_args m c _ (by decide)), (h c _ rfl).trans (ref_args m c _ (by decide))⟩,
    sem_eq_zero_of_no_sems (by decide) r.2⟩) (Cert.LruRefIdeal.Host.run m g)

theorem claim : Cert.algebraic_LruIdeal_LruRefIdeal_pre_lru_finite (hLruIdeal := Cert.LruIdeal.Gen.facts) (hLruRefIdeal := Cert.LruRefIdeal.Gen.facts) (hPre_lru_finite := preFacts) := by
  intro m g m' g' hpre hagree
  refine ⟨fun c => outY (input m c), fun c => outP (input m c), fun c => outA (input m c), fun c => outX (input m c), fun c => outV (input m c),
    (θ_run _ _ _).mono (fun r h c => ?_) (Cert.LruIdeal.Hand.run m g), (θ_run _ _ _).mono (fun r h c => ?_) (Cert.LruRefIdeal.Host.run m' g')⟩
  · have H := args m c hpre
    refine ⟨(h c _ (by decide)).trans ((Cert.LruIdeal.Hand.end_y m g c).trans (Cert.LruIdeal.Hand.final9 g H)), (h c _ (by decide)).trans ((Cert.LruIdeal.Hand.end_dp m g c).trans (Cert.LruIdeal.Hand.final11 g H)),
      (h c _ (by decide)).trans ((Cert.LruIdeal.Hand.end_dwa m g c).trans (Cert.LruIdeal.Hand.final12 g H)), (h c _ (by decide)).trans ((Cert.LruIdeal.Hand.end_dwx m g c).trans (Cert.LruIdeal.Hand.final13 g H)),
      (h c _ (by decide)).trans ((Cert.LruIdeal.Hand.end_vec m g c).trans (Cert.LruIdeal.Hand.final14 g H)),
      (h c _ (by decide)).trans (Cert.LruIdeal.Gen.W4_main_arg0 m g c), (h c _ (by decide)).trans (Cert.LruIdeal.Gen.W4_main_arg1 m g c), (h c _ (by decide)).trans (Cert.LruIdeal.Gen.W4_main_arg2 m g c), (h c _ (by decide)).trans (Cert.LruIdeal.Gen.W4_main_arg3 m g c), (h c _ (by decide)).trans (Cert.LruIdeal.Gen.W4_main_arg4 m g c), (h c _ (by decide)).trans (Cert.LruIdeal.Gen.W4_main_arg5 m g c), (h c _ (by decide)).trans (Cert.LruIdeal.Gen.W4_main_arg6 m g c), (h c _ (by decide)).trans (Cert.LruIdeal.Gen.W4_main_arg7 m g c), (h c _ (by decide)).trans (Cert.LruIdeal.Gen.W4_main_arg8 m g c)⟩
  · have A := args m c hpre
    obtain ⟨e0, e1, e2, e3, e4, e5, e6, e7, e8⟩ := hagree c
    have H : Cert.LruRefIdeal.Host.Args (StableHlo.launchContents m' c) (input m c) :=
      { a0 := fun s e => (congrFun e0 _).trans (A.a0 s e)
        a1 := fun k e => (congrFun e1 _).trans (A.a1 k e)
        a2 := fun e => (congrFun e2 _).trans (A.a2 e)
        a3 := fun h i j => (congrFun e3 _).trans (A.a3 h i j)
        a4 := fun h x => (congrFun e4 _).trans (A.a4 h x)
        a5 := fun h i j => (congrFun e5 _).trans (A.a5 h i j)
        a6 := fun h x => (congrFun e6 _).trans (A.a6 h x)
        a7 := fun e => (congrFun e7 _).trans (A.a7 e)
        a8 := fun s e => (congrFun e8 _).trans (A.a8 s e) }
    refine ⟨(h c _ rfl).trans (ref_y m' c H), (h c _ rfl).trans (ref_dp m' c H), (h c _ rfl).trans (ref_dwa m' c H), (h c _ rfl).trans (ref_dwx m' c H), (h c _ rfl).trans (ref_vec m' c H),
      (h c _ rfl).trans (ref_args m' c _ (by decide)), (h c _ rfl).trans (ref_args m' c _ (by decide)), (h c _ rfl).trans (ref_args m' c _ (by decide)), (h c _ rfl).trans (ref_args m' c _ (by decide)), (h c _ rfl).trans (ref_args m' c _ (by decide)), (h c _ rfl).trans (ref_args m' c _ (by decide)), (h c _ rfl).trans (ref_args m' c _ (by decide)), (h c _ rfl).trans (ref_args m' c _ (by decide)), (h c _ rfl).trans (ref_args m' c _ (by decide))⟩

end Cert.LruClaim

end
-- ==== Proof.AdaMath.lean ====
module

public import Idealize.ShloMosaic.Lib.Pipeline.ValueKit

@[expose] public section

noncomputable section

open Idealize.ShloMosaic

namespace Cert.Adam

/-- `x · σ(x)`. -/
def silu (x : EReal) : EReal := x * Ideal.logistic x

/-- The gradient of the modulation's weights: over the sequences, the condition's silu times the cotangent. -/
def grad (c : (⟨2, ![8, 2048]⟩ : Shape).Idx → EReal) (g : (⟨3, ![2, 8, 768]⟩ : Shape).Idx → EReal) (l : Fin 2) (d : Fin 2048) (f : Fin 768) : EReal :=
  ∑ k : Fin 8, silu (c (ix2 k d)) * g (ix3 l k f)

abbrev wd (b : BitVec 32) : EReal := Ideal.ofBits .f32 b

/-- The first moment after the step. -/
def mom (g m : EReal) : EReal := wd 0x3F666666#32 * m + wd 0x3DCCCCCD#32 * g
/-- The second moment after the step. -/
def vel (g v : EReal) : EReal := wd 0x3F7FBE77#32 * v + wd 0x3A83126F#32 * (g * g)
/-- The step itself. -/
def delta (w g m v : EReal) : EReal :=
  wd 0xBA83126F#32 * (Ideal.div (Ideal.div (mom g m) (wd 0x3F26BD02#32)) (Ideal.sqrt (Ideal.div (vel g v) (wd 0x3C231ACC#32)) + wd 0x322BCC77#32) + wd 0x3C23D70A#32 * w)

end Cert.Adam

end
-- ==== Proof.AdaVal.lean ====
module

public import proofs.«01_k».proof.Proof.Gen.AdaIdeal.Frame
public import proofs.«01_k».proof.Proof.AdaMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.Hand

open Cert.AdaIdeal Cert.AdaIdeal.Gen Cert.Adam

variable (m : (ℓ : Loc nD τ sig) → Buf (Elt Ideal) ℓ)

def lay (t : Fin cfg0.N) : Fin 2 := ⟨t.val / 4, by have : t.val < 8 := t.isLt; omega⟩
def row (t : Fin cfg0.N) (x : Fin 512) : Fin 2048 := ⟨t.val % 4 * 512 + x.val, by omega⟩

theorem idx : ∀ t : Fin cfg0.N, win0_0.index t = ![t.val % 4, 0] ∧ win0_1.index t = ![t.val / 4, 0, 0] ∧
    win0_2.index t = ![t.val / 4, t.val % 4, 0] ∧ win0_3.index t = ![t.val / 4, t.val % 4, 0] ∧
    win0_4.index t = ![t.val / 4, t.val % 4, 0] ∧ win0_5.index t = ![t.val / 4, t.val % 4, 0] ∧
    win0_6.index t = ![t.val / 4, t.val % 4, 0] ∧ win0_7.index t = ![t.val / 4, t.val % 4, 0] ∧
    win0_8.index t = ![t.val / 4, t.val % 4, 0] :=
  (by decide +kernel : ∀ t : Fin grid0.N, _)

theorem turned (c : Dev nD) (d : Fin 2048) (k : Fin 8) : V m c main_v0 (ix2 d k) = m ((c : Thread nD τ).loc main_arg0) (ix2 k d) := by
  entry_read
  pointwise

theorem ib0 (c : Dev nD) (t : Fin cfg0.N) (x : Fin 512) (k : Fin 8) :
    iblk m c 0 t (ix2 x k) = m ((c : Thread nD τ).loc main_arg0) (ix2 k (row t x)) := by
  refine Eq.trans ?_ (turned m c (row t x) k)
  blk_point [iblk, idx t, row]
theorem ib1 (c : Dev nD) (t : Fin cfg0.N) (k : Fin 8) (f : Fin 768) :
    iblk m c 1 t (ix3 0 k f) = m ((c : Thread nD τ).loc main_arg1) (ix3 (lay t) k f) := by
  blk_point [iblk, idx t, lay]
theorem ib2 (c : Dev nD) (t : Fin cfg0.N) (x : Fin 512) (f : Fin 768) :
    iblk m c 2 t (ix3 0 x f) = m ((c : Thread nD τ).loc main_arg2) (ix3 (lay t) (row t x) f) := by
  blk_point [iblk, idx t, row, lay]
theorem ib3 (c : Dev nD) (t : Fin cfg0.N) (x : Fin 512) (f : Fin 768) :
    iblk m c 3 t (ix3 0 x f) = m ((c : Thread nD τ).loc main_arg3) (ix3 (lay t) (row t x) f) := by
  blk_point [iblk, idx t, row, lay]
theorem ib4 (c : Dev nD) (t : Fin cfg0.N) (x : Fin 512) (f : Fin 768) :
    iblk m c 4 t (ix3 0 x f) = m ((c : Thread nD τ).loc main_arg4) (ix3 (lay t) (row t x) f) := by
  blk_point [iblk, idx t, row, lay]

variable (c : Dev nD) (t : Fin cfg0.N)

/-- The gradient the arguments have at row `x`, column `f` of point `t`'s block. -/
def g (x : Fin 512) (f : Fin 768) : EReal :=
  grad (m ((c : Thread nD τ).loc main_arg0)) (m ((c : Thread nD τ).loc main_arg1)) (lay t) (row t x) f
def wAt (x : Fin 512) (f : Fin 768) : EReal := m ((c : Thread nD τ).loc main_arg2) (ix3 (lay t) (row t x) f)
def mAt (x : Fin 512) (f : Fin 768) : EReal := m ((c : Thread nD τ).loc main_arg3) (ix3 (lay t) (row t x) f)
def vAt (x : Fin 512) (f : Fin 768) : EReal := m ((c : Thread nD τ).loc main_arg4) (ix3 (lay t) (row t x) f)

theorem point5 (x : Fin 512) (f : Fin 768) :
    out0_5 (iblk m c 0 t) (iblk m c 1 t) (iblk m c 2 t) (iblk m c 3 t) (iblk m c 4 t) (ix3 0 x f) = g m c t x f := by
  frame_out
  open_payloads
  pointwise
  simp only [ib0, ib1]
  simp only [g, grad, silu, Fin.sum_univ_eight]

theorem point7 (x : Fin 512) (f : Fin 768) :
    out0_7 (iblk m c 0 t) (iblk m c 1 t) (iblk m c 2 t) (iblk m c 3 t) (iblk m c 4 t) (ix3 0 x f) = mom (g m c t x f) (mAt m c t x f) := by
  frame_out
  open_payloads
  pointwise
  simp only [ib0, ib1, ib3]
  simp only [mom, g, grad, silu, mAt, Fin.sum_univ_eight]

theorem point8 (x : Fin 512) (f : Fin 768) :
    out0_8 (iblk m c 0 t) (iblk m c 1 t) (iblk m c 2 t) (iblk m c 3 t) (iblk m c 4 t) (ix3 0 x f) = vel (g m c t x f) (vAt m c t x f) := by
  frame_out
  open_payloads
  pointwise
  simp only [ib0, ib1, ib4]
  simp only [vel, g, grad, silu, vAt, Fin.sum_univ_eight]

theorem point6 (x : Fin 512) (f : Fin 768) :
    out0_6 (iblk m c 0 t) (iblk m c 1 t) (iblk m c 2 t) (iblk m c 3 t) (iblk m c 4 t) (ix3 0 x f)
      = delta (wAt m c t x f) (g m c t x f) (mAt m c t x f) (vAt m c t x f) := by
  frame_out
  open_payloads
  pointwise
  simp only [ib0, ib1, ib2, ib3, ib4]
  simp only [delta, mom, vel, g, grad, silu, wAt, mAt, vAt, Fin.sum_univ_eight]

/-- The arrays the step leaves, from the arguments. -/
def gOut (i : S2x2048x768.Idx) : EReal := grad (m ((c : Thread nD τ).loc main_arg0)) (m ((c : Thread nD τ).loc main_arg1)) (i 0) (i 1) (i 2)
def mOut (i : S2x2048x768.Idx) : EReal := mom (gOut m c i) (m ((c : Thread nD τ).loc main_arg3) i)
def vOut (i : S2x2048x768.Idx) : EReal := vel (gOut m c i) (m ((c : Thread nD τ).loc main_arg4) i)
def dOut (i : S2x2048x768.Idx) : EReal :=
  delta (m ((c : Thread nD τ).loc main_arg2) i) (gOut m c i) (m ((c : Thread nD τ).loc main_arg3) i) (m ((c : Thread nD τ).loc main_arg4) i)

theorem final5 : (dats m 0 c).arrAt 5 cfg0.N = gOut m c := by
  refine (dats m 0 c).arrAt_eq_of_covers 5 _ (by decide +kernel) fun t hf y => ?_
  have e : (win0_5.blk t).view.emb y = ix3 (lay t) (row t (y 1)) (y 2) := by
    funext a; apply Fin.ext
    match a with
    | ⟨0, _⟩ => blk_simp [idx t, lay]
    | ⟨1, _⟩ => blk_simp [idx t, row]; rfl
    | ⟨2, _⟩ => blk_simp [idx t]; rfl
  refine Eq.trans ?_ (congrArg (gOut m c) e).symm
  blk_simp
  rw [after0_5]
  idx_vars y
  obtain rfl : y0 = 0 := Subsingleton.elim _ _
  exact point5 m c t y1 y2

theorem final6 : (dats m 0 c).arrAt 6 cfg0.N = dOut m c := by
  refine (dats m 0 c).arrAt_eq_of_covers 6 _ (by decide +kernel) fun t hf y => ?_
  have e : (win0_6.blk t).view.emb y = ix3 (lay t) (row t (y 1)) (y 2) := by
    funext a; apply Fin.ext
    match a with
    | ⟨0, _⟩ => blk_simp [idx t, lay]
    | ⟨1, _⟩ => blk_simp [idx t, row]; rfl
    | ⟨2, _⟩ => blk_simp [idx t]; rfl
  refine Eq.trans ?_ (congrArg (dOut m c) e).symm
  blk_simp
  rw [after0_6]
  idx_vars y
  obtain rfl : y0 = 0 := Subsingleton.elim _ _
  exact point6 m c t y1 y2

theorem final7 : (dats m 0 c).arrAt 7 cfg0.N = mOut m c := by
  refine (dats m 0 c).arrAt_eq_of_covers 7 _ (by decide +kernel) fun t hf y => ?_
  have e : (win0_7.blk t).view.emb y = ix3 (lay t) (row t (y 1)) (y 2) := by
    funext a; apply Fin.ext
    match a with
    | ⟨0, _⟩ => blk_simp [idx t, lay]
    | ⟨1, _⟩ => blk_simp [idx t, row]; rfl
    | ⟨2, _⟩ => blk_simp [idx t]; rfl
  refine Eq.trans ?_ (congrArg (mOut m c) e).symm
  blk_simp
  rw [after0_7]
  idx_vars y
  obtain rfl : y0 = 0 := Subsingleton.elim _ _
  exact point7 m c t y1 y2

theorem final8 : (dats m 0 c).arrAt 8 cfg0.N = vOut m c := by
  refine (dats m 0 c).arrAt_eq_of_covers 8 _ (by decide +kernel) fun t hf y => ?_
  have e : (win0_8.blk t).view.emb y = ix3 (lay t) (row t (y 1)) (y 2) := by
    funext a; apply Fin.ext
    match a with
    | ⟨0, _⟩ => blk_simp [idx t, lay]
    | ⟨1, _⟩ => blk_simp [idx t, row]; rfl
    | ⟨2, _⟩ => blk_simp [idx t]; rfl
  refine Eq.trans ?_ (congrArg (vOut m c) e).symm
  blk_simp
  rw [after0_8]
  idx_vars y
  obtain rfl : y0 = 0 := Subsingleton.elim _ _
  exact point8 m c t y1 y2

theorem run (ρ : Dev nD → PrngReg) : θ_run defs (onTc (τ := τ) (main (F := Ideal))) ⟨m, fun _ => 0, ρ⟩ fun r => ∀ c : Dev nD,
    r.2.mem ((c : Thread nD τ).loc main_v1_0) = gOut m c ∧ r.2.mem ((c : Thread nD τ).loc main_v1_1) = dOut m c
    ∧ r.2.mem ((c : Thread nD τ).loc main_v1_2) = mOut m c ∧ r.2.mem ((c : Thread nD τ).loc main_v1_3) = vOut m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (run_main m ρ)
  have stays : ∀ w : Fin 9, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨((h c).1 5).trans (final5 m c), ((h c).1 6).trans (final6 m c), ((h c).1 7).trans (final7 m c), ((h c).1 8).trans (final8 m c),
    ((h c).2 main_arg0 (Pipeline.mem_restRefs_of main_arg0 (by decide) (by decide))).trans (V_main_arg0 m c),
    (stays 1 rfl).trans (V_main_arg1 m c), (stays 2 rfl).trans (V_main_arg2 m c), (stays 3 rfl).trans (V_main_arg3 m c),
    (stays 4 rfl).trans (V_main_arg4 m c)⟩

end Cert.AdaIdeal.Hand

end
-- ==== Proof.AdaRefVal.lean ====
module

public import proofs.«01_k».proof.Proof.Gen.AdaRefIdeal.Run
public import proofs.«01_k».proof.Proof.AdaMath
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.AdaRefIdeal.Hand

open Cert.AdaRefIdeal Cert.AdaRefIdeal.Gen Cert.AdaRefIdeal.Value Cert.Adam

variable (m : (ℓ : Loc nD τ sig) → Buf (Elt Ideal) ℓ) (c : Dev nD)

abbrev cnd : S8x2048.Idx → EReal := m ((c.tc : Thread nD τ).loc main_arg0)
abbrev cot : S2x8x768.Idx → EReal := m ((c.tc : Thread nD τ).loc main_arg1)
abbrev wgt : S2x2048x768.Idx → EReal := m ((c.tc : Thread nD τ).loc main_arg2)
abbrev mo1 : S2x2048x768.Idx → EReal := m ((c.tc : Thread nD τ).loc main_arg3)
abbrev mo2 : S2x2048x768.Idx → EReal := m ((c.tc : Thread nD τ).loc main_arg4)

/-- The two layers' gradients, each padded to both layers, add up to the gradient. -/
theorem layers (l : Fin 2) (d : Fin 2048) (f : Fin 768) :
    ((if h : 1 ≤ l.val ∧ l.val - 1 < 1 then
        ∑ x : Fin 8, cot m c (ix3 1 x f) * (cnd m c (ix2 x d) * Ideal.div 1 (1 + Ideal.exp (-cnd m c (ix2 x d)))) else 0)
      + if h : l.val < 1 then
        ∑ x : Fin 8, cot m c (ix3 0 x f) * (cnd m c (ix2 x d) * Ideal.div 1 (1 + Ideal.exp (-cnd m c (ix2 x d)))) else 0)
      = grad (cnd m c) (cot m c) l d f := by
  have h : ∀ k : Fin 2, (∑ x : Fin 8, cot m c (ix3 k x f) * (cnd m c (ix2 x d) * Ideal.div 1 (1 + Ideal.exp (-cnd m c (ix2 x d)))))
      = grad (cnd m c) (cot m c) k d f := fun k => Finset.sum_congr rfl fun x _ => mul_comm _ _
  rw [h, h]
  fin_cases l
  · exact zero_add _
  · exact add_zero _

variable (ρ : Dev nD → PrngReg)

theorem run : θ_run defs (onTc (τ := τ) (main (F := Ideal))) ⟨m, fun _ => 0, ρ⟩ fun r => ∀ c : Dev nD,
    (r.2.mem ((c.tc : Thread nD τ).loc main_v23) = (fun i => grad (cnd m c) (cot m c) (i 0) (i 1) (i 2) : S2x2048x768.Idx → EReal)
    ∧ r.2.mem ((c.tc : Thread nD τ).loc main_v47) = (fun i => delta (wgt m c i) (grad (cnd m c) (cot m c) (i 0) (i 1) (i 2)) (mo1 m c i) (mo2 m c i) : S2x2048x768.Idx → EReal)
    ∧ r.2.mem ((c.tc : Thread nD τ).loc main_v28) = (fun i => mom (grad (cnd m c) (cot m c) (i 0) (i 1) (i 2)) (mo1 m c i) : S2x2048x768.Idx → EReal)
    ∧ r.2.mem ((c.tc : Thread nD τ).loc main_v34) = (fun i => vel (grad (cnd m c) (cot m c) (i 0) (i 1) (i 2)) (mo2 m c i) : S2x2048x768.Idx → EReal))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨o0, o1, o2, o3, k⟩ := h c
  refine ⟨⟨o0.trans ?_, o1.trans ?_, o2.trans ?_, o3.trans ?_⟩, k⟩
  · funext i; idx_vars i
    clean_types
    pointwise
    exact layers m c i0 i1 i2
  · funext i; idx_vars i
    unfold res_main_v47
    clean_types
    pointwise
    exact congrArg (fun g => delta (wgt m c (ix3 i0 i1 i2)) g (mo1 m c (ix3 i0 i1 i2)) (mo2 m c (ix3 i0 i1 i2))) (layers m c i0 i1 i2)
  · funext i; idx_vars i
    clean_types
    pointwise
    exact congrArg (fun g => mom g (mo1 m c (ix3 i0 i1 i2))) (layers m c i0 i1 i2)
  · funext i; idx_vars i
    clean_types
    pointwise
    exact congrArg (fun g => vel g (mo2 m c (ix3 i0 i1 i2))) (layers m c i0 i1 i2)

end Cert.AdaRefIdeal.Hand

end
-- ==== Proof.AdaClaim.lean ====
module

public import proofs.«01_k».proof.Defs
public import proofs.«01_k».proof.Proof.AdaVal
public import proofs.«01_k».proof.Proof.AdaRefVal

@[expose] public section

set_option maxRecDepth 16384

noncomputable section

open Idealize.ShloMosaic Idealize.ShloMosaic.TcCoe Idealize.SL.Sem

namespace Cert.Adam

theorem claim : Cert.algebraic_AdaIdeal_AdaRefIdeal (hAdaIdeal := Cert.AdaIdeal.Gen.facts) (hAdaRefIdeal := Cert.AdaRefIdeal.Gen.facts) := by
  intro m g m' g' _ hagree
  refine ⟨Cert.AdaIdeal.Hand.gOut m, Cert.AdaIdeal.Hand.dOut m, Cert.AdaIdeal.Hand.mOut m, Cert.AdaIdeal.Hand.vOut m,
    Cert.AdaIdeal.Hand.run m g, (θ_run _ _ _).mono (fun r h c => ?_) (Cert.AdaRefIdeal.Hand.run m' g')⟩
  obtain ⟨⟨o0, o1, o2, o3⟩, k⟩ := h c
  obtain ⟨a0, a1, a2, a3, a4⟩ := hagree c
  refine ⟨o0.trans ?_, o1.trans ?_, o2.trans ?_, o3.trans ?_, k⟩
  · rw [Cert.AdaRefIdeal.Hand.cnd, Cert.AdaRefIdeal.Hand.cot, a0, a1]; rfl
  · rw [Cert.AdaRefIdeal.Hand.cnd, Cert.AdaRefIdeal.Hand.cot, Cert.AdaRefIdeal.Hand.wgt, Cert.AdaRefIdeal.Hand.mo1, Cert.AdaRefIdeal.Hand.mo2, a0, a1, a2, a3, a4]; rfl
  · rw [Cert.AdaRefIdeal.Hand.cnd, Cert.AdaRefIdeal.Hand.cot, Cert.AdaRefIdeal.Hand.mo1, a0, a1, a3]; rfl
  · rw [Cert.AdaRefIdeal.Hand.cnd, Cert.AdaRefIdeal.Hand.cot, Cert.AdaRefIdeal.Hand.mo2, a0, a1, a4]; rfl

end Cert.Adam

end
-- ==== Proof.NormMath.lean ====
module

public import Idealize.ShloMosaic.Lib.Pipeline.ValueKit
public import proofs.«01_k».proof.Proof.Common

@[expose] public section

noncomputable section

open Idealize.ShloMosaic

namespace Cert.Norm

open Cert.Common

/-- The row length, epsilon and minus one half, as their words read. -/
abbrev wC : EReal := Ideal.ofBits .f32 1157627904#32
abbrev wEps : EReal := Ideal.ofBits .f32 897988541#32
abbrev wH : EReal := Ideal.ofBits .f32 3204448256#32

theorem wC_eq : wC = ((2048 : ℝ) : EReal) := by
  simp [wC, Ideal.ofBits, Ideal.ieee, -EReal.coe_mul]; norm_num
theorem wH_eq : wH = ((-(1 / 2) : ℝ) : EReal) := by
  simp [wH, Ideal.ofBits, Ideal.ieee, -EReal.coe_mul]; norm_num
def eps : ℝ := 8796093 / 2 ^ 43
theorem wEps_eq : wEps = ((eps : ℝ) : EReal) := by
  simp [wEps, eps, Ideal.ofBits, Ideal.ieee, -EReal.coe_mul]; norm_num

abbrev Row : Type := Fin 2048 → EReal

/-- The mean square of a row, with epsilon. -/
def den (X : Row) : EReal := Ideal.div (∑ e, X e * X e) wC + wEps
/-- The normalized row. -/
def hat (X : Row) (d : Fin 2048) : EReal := X d * Ideal.rsqrt (den X)
/-- The gradient of the normalization at a row, from the cotangent of the normalized row. -/
def back (X A : Row) (d : Fin 2048) : EReal :=
  Ideal.rsqrt (den X) * (A d - hat X d * Ideal.div (∑ e, A e * hat X e) wC)
/-- The same as `jax.vjp` of the mean square reads. -/
def pull (X A : Row) : EReal := Ideal.div ((∑ e, X e * A e) * (wH * Ideal.div (Ideal.rsqrt (den X)) (den X))) wC

theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem div_wC (r : ℝ) : Ideal.div (r : EReal) wC = ((r / 2048 : ℝ) : EReal) := by
  rw [wC_eq, Ideal.div_coe (by norm_num), ← EReal.coe_mul]; congr 1; ring

/-- The real mean square with epsilon. -/
def rden (x : Fin 2048 → ℝ) : ℝ := (∑ e, x e * x e) / 2048 + eps

theorem rden_pos (x : Fin 2048 → ℝ) : 0 < rden x := by
  have h : 0 ≤ ∑ e, x e * x e := Finset.sum_nonneg fun e _ => mul_self_nonneg _
  have : 0 < eps := by unfold eps; norm_num
  unfold rden; positivity

theorem den_coe (x : Fin 2048 → ℝ) : den (fun e => ((x e : ℝ) : EReal)) = ((rden x : ℝ) : EReal) := by
  unfold den rden
  simp only [← EReal.coe_mul, sum_coe, div_wC, wEps_eq, ← EReal.coe_add]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem hat_coe (x : Fin 2048 → ℝ) (d : Fin 2048) : hat (fun e => ((x e : ℝ) : EReal)) d = ((x d * (Real.sqrt (rden x))⁻¹ : ℝ) : EReal) := by
  unfold hat
  rw [den_coe, rsqrt_pos (rden_pos x), ← EReal.coe_mul]

theorem real_row {X : Row} (h : ∀ d, IsR (X d)) : ∃ x : Fin 2048 → ℝ, X = fun e => ((x e : ℝ) : EReal) :=
  ⟨fun e => (h e).choose, funext fun e => (h e).choose_spec⟩

theorem hat_real {X : Row} (h : ∀ d, IsR (X d)) (d : Fin 2048) : IsR (hat X d) := by
  obtain ⟨x, rfl⟩ := real_row h
  exact ⟨_, hat_coe x d⟩

theorem back_eq {X A : Row} (hX : ∀ d, IsR (X d)) (hA : ∀ d, IsR (A d)) (d : Fin 2048) :
    A d * Ideal.rsqrt (den X) + X d * pull X A + pull X A * X d = back X A d := by
  obtain ⟨x, rfl⟩ := real_row hX
  obtain ⟨a, rfl⟩ := real_row hA
  have hp := rden_pos x
  unfold pull back
  simp only [den_coe, hat_coe, rsqrt_pos hp, wH_eq]
  rw [Ideal.div_coe (ne_of_gt hp)]
  simp only [← EReal.coe_mul, sum_coe, div_wC, ← EReal.coe_add, ← EReal.coe_sub]
  congr 1
  have hs : (∑ i, a i * (x i * (√(rden x))⁻¹)) = (∑ i, x i * a i) * (√(rden x))⁻¹ := by
    rw [Finset.sum_mul]; exact Finset.sum_congr rfl fun _ _ => by ring
  have hq : (1 / rden x) = (√(rden x))⁻¹ * (√(rden x))⁻¹ := by
    rw [← mul_inv, Real.mul_self_sqrt hp.le, one_div]
  rw [hs, hq]
  ring

/-- The gradient with a gradient from above added on. -/
theorem back_add {X A : Row} (hX : ∀ d, IsR (X d)) (hA : ∀ d, IsR (A d)) (r : EReal) (d : Fin 2048) :
    r + A d * Ideal.rsqrt (den X) + X d * pull X A + pull X A * X d = r + back X A d := by
  rw [← back_eq hX hA, add_assoc, add_assoc, add_assoc]

/-- One half, two and the reciprocal of the row length, as their words read. -/
abbrev wHalf : EReal := Ideal.ofBits .f32 1056964608#32
abbrev wTwo : EReal := Ideal.ofBits .f32 1073741824#32
abbrev wInv : EReal := Ideal.ofBits .f32 973078528#32
theorem wHalf_eq : wHalf = ((1 / 2 : ℝ) : EReal) := by
  simp [wHalf, Ideal.ofBits, Ideal.ieee, -EReal.coe_mul]; norm_num
theorem wTwo_eq : wTwo = ((2 : ℝ) : EReal) := by
  simp [wTwo, Ideal.ofBits, Ideal.ieee, -EReal.coe_mul]; norm_num
theorem wInv_eq : wInv = ((1 / 2048 : ℝ) : EReal) := by
  simp [wInv, Ideal.ofBits, Ideal.ieee, -EReal.coe_mul]; norm_num

/-- The square's derivative, halved and divided by the row length, is the error by the reciprocal. -/
theorem half_square {e : EReal} (h : IsR e) : Ideal.div wHalf wC * (wTwo * e) = e * wInv := by
  obtain ⟨r, rfl⟩ := h
  rw [wHalf_eq, div_wC, wTwo_eq, wInv_eq, ← EReal.coe_mul, ← EReal.coe_mul, ← EReal.coe_mul]
  congr 1; ring

theorem half_sum {ι : Type} [Fintype ι] (q : ι → EReal) (h : ∀ i, IsR (q i)) : wHalf * ∑ i, q i = ∑ i, wHalf * q i := by
  choose r hr using h
  simp only [hr, wHalf_eq, ← EReal.coe_mul, sum_coe, Finset.mul_sum]

theorem IsR.sub {x y : EReal} (hx : IsR x) (hy : IsR y) : IsR (x - y) := by
  obtain ⟨a, rfl⟩ := hx
  obtain ⟨b, rfl⟩ := hy
  exact ⟨a - b, (EReal.coe_sub a b).symm⟩

/-- A row's mean square is real. -/
theorem mean_real {X : Row} (h : ∀ d, IsR (X d)) : IsR (Ideal.div (∑ e, X e * X e) wC) := by
  obtain ⟨x, rfl⟩ := real_row h
  exact ⟨_, by simp only [← EReal.coe_mul, sum_coe, div_wC]; rfl⟩

/-- A position, from the grid point of its block and its place in the block. -/
def rowOf {N : ℕ} (hN : N = 8) (t : Fin N) (x : Fin 256) : Fin 2048 := ⟨t.val * 256 + x.val, by have : t.val < 8 := hN ▸ t.isLt; omega⟩

/-- A block kept over the grid, started at the first point: at the last point it is the sum over all the positions. -/
theorem accum {N w : ℕ} (hN : N = 8) (o : (n : ℕ) → n < N → Fin w → EReal) (T : Fin 2048 → Fin w → EReal)
    (hA : ∀ t : Fin N, t.val % 8 = 0 → ∀ d, o t.val t.isLt d = 0 + ∑ k : Fin 256, T (rowOf hN t k) d)
    (hB : ∀ t : Fin N, ¬ t.val % 8 = 0 → ∀ d, o t.val t.isLt d
      = o (t.val - 1) (Nat.lt_of_le_of_lt (Nat.sub_le _ _) t.isLt) d + ∑ k : Fin 256, T (rowOf hN t k) d) (t : Fin N) (ht : t.val = 7) (d : Fin w) :
    o t.val t.isLt d = ∑ s, T s d := by
  refine (Pipeline.eq_sum_fin_of_reset_step_apply_last (fun n h d => o n h d) 8 (fun _ => (0 : EReal))
    (fun t d => ∑ k : Fin 256, T (rowOf hN t k) d) hA hB (le_of_eq hN) t (by omega) d).trans ?_
  subst hN
  rw [zero_add]
  exact Fin.sum_mul_add_congr (f := fun s => T s d) (F := fun (p : Fin 8) (k : Fin 256) => T (rowOf rfl p k) d) fun s k hl => rfl

end Cert.Norm

end
-- ==== Proof.Norm0Val.lean ====
module

public import proofs.«01_k».proof.Proof.Gen.Norm0Ideal.Value
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm0Ideal.Hand

open Cert.Norm0Ideal Cert.Norm0Ideal.Gen Cert.Norm

variable (m : (ℓ : Loc nD τ sig) → Buf (Elt Ideal) ℓ) (c : Dev nD)

/-- The arguments, by position and channel. -/
def X (s : Fin 2048) : Row := fun d => m ((c : Thread nD τ).loc main_arg0) (ix3 0 s d)
def G : Row := fun d => m ((c : Thread nD τ).loc main_arg1) (ix1 d)
def Sc : Row := fun d => m ((c : Thread nD τ).loc main_arg2) (ix2 0 d)
def Dh (s : Fin 2048) : Row := fun d => m ((c : Thread nD τ).loc main_arg4) (ix3 0 s d)
def Dr (s : Fin 2048) : Row := fun d => m ((c : Thread nD τ).loc main_arg5) (ix3 0 s d)
/-- The cotangent of the normalized row. -/
def A (s : Fin 2048) : Row := fun d => Dh m c s d * (1 + Sc m c d) * G m c d

abbrev row (t : Fin cfg0.N) (x : Fin 256) : Fin 2048 := rowOf N_0 t x

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![t.val, 0] :=
  (by decide +kernel : ∀ t : Fin grid0.N, _)

theorem ib0 (t : Fin cfg0.N) (x : Fin 256) (d : Fin 2048) : iblk m c 0 t (ix2 x d) = X m c (row t x) d := by
  refine Eq.trans ?_ (show V m c (Pipeline.arrRef spec0 0) (ix2 (row t x) d) = X m c (row t x) d by unfold X; entry_read; pointwise)
  blk_point [iblk, idx t, rowOf]
theorem ib1 (t : Fin cfg0.N) (x : Fin 256) (d : Fin 2048) : iblk m c 1 t (ix2 x d) = Dh m c (row t x) d := by
  refine Eq.trans ?_ (show V m c (Pipeline.arrRef spec0 1) (ix2 (row t x) d) = Dh m c (row t x) d by unfold Dh; entry_read; pointwise)
  blk_point [iblk, idx t, rowOf]
theorem ib2 (t : Fin cfg0.N) (x : Fin 256) (d : Fin 2048) : iblk m c 2 t (ix2 x d) = Dr m c (row t x) d := by
  refine Eq.trans ?_ (show V m c (Pipeline.arrRef spec0 2) (ix2 (row t x) d) = Dr m c (row t x) d by unfold Dr; entry_read; pointwise)
  blk_point [iblk, idx t, rowOf]
theorem ib3 (t : Fin cfg0.N) (d : Fin 2048) : iblk m c 3 t (ix2 0 d) = G m c d := by
  refine Eq.trans ?_ (show V m c (Pipeline.arrRef spec0 3) (ix2 0 d) = G m c d by unfold G; entry_read; pointwise)
  blk_point [iblk, idx t]
theorem ib4 (t : Fin cfg0.N) (d : Fin 2048) : iblk m c 4 t (ix2 0 d) = Sc m c d := by
  unfold Sc
  blk_point [iblk, idx t]

theorem point5 (t : Fin cfg0.N) (x : Fin 256) (d : Fin 2048) :
    (outsAt0 m c t.val t.isLt).1 (ix2 x d) = Dr m c (row t x) d + back (X m c (row t x)) (A m c (row t x)) d := by
  by_cases h : t.val % 8 = 0
  · rw [outsAt0_A m c t h]
    frame_out
    open_payloads
    pointwise
    simp only [ib0, ib1, ib2, ib3, ib4]
    rfl
  · rw [outsAt0_B m c t h]
    frame_out
    open_payloads
    pointwise
    simp only [ib0, ib1, ib2, ib3, ib4]
    rfl

theorem final5 : (dats m 0 c).arrAt 5 cfg0.N = fun i => Dr m c (i 0) (i 1) + back (X m c (i 0)) (A m c (i 0)) (i 1) := by
  refine (dats m 0 c).arrAt_eq_of_covers 5 _ (by decide +kernel) fun t hf y => ?_
  have e1 : ((win0_5.blk t).view.emb y 1) = y 1 := Fin.ext (by blk_simp [idx t])
  have e0 : ((win0_5.blk t).view.emb y 0) = row t (y 0) := Fin.ext (by blk_simp [idx t]; rfl)
  show _ = Dr m c ((win0_5.blk t).view.emb y 0) ((win0_5.blk t).view.emb y 1) + back (X m c ((win0_5.blk t).view.emb y 0)) (A m c ((win0_5.blk t).view.emb y 0)) ((win0_5.blk t).view.emb y 1)
  rw [e0, e1]
  blk_simp
  rw [after0_5]
  idx_vars y
  exact point5 m c t y0 y1

theorem final6 : (dats m 0 c).arrAt 6 cfg0.N = fun i => ∑ s, Dh m c s (i 1) * hat (X m c s) (i 1) * G m c (i 1) := by
  refine (dats m 0 c).arrAt_eq_of_after_last 6 t0_7 (by decide +kernel) _ fun j => ?_
  blk_simp
  idx_vars j
  obtain rfl : j0 = 0 := Subsingleton.elim _ _
  rw [after0_6]
  refine accum N_0 (fun n h d => (outsAt0 m c n h).2.1 (ix2 0 d)) (fun s d => Dh m c s d * hat (X m c s) d * G m c d) (fun t h d => ?_) (fun t h d => ?_) t0_7 rfl j1
  · show (outsAt0 m c t.val t.isLt).2.1 (ix2 0 d) = _
    rw [outsAt0_A m c t h]
    frame_out
    open_payloads
    pointwise
    simp only [ib0, ib1, ib3]
    rfl
  · show (outsAt0 m c t.val t.isLt).2.1 (ix2 0 d) = _
    rw [outsAt0_B m c t h]
    frame_out
    open_payloads
    pointwise
    simp only [ib0, ib1, ib3]
    rfl

theorem final7 : (dats m 0 c).arrAt 7 cfg0.N = fun i => ∑ s, Dh m c s (i 1) := by
  refine (dats m 0 c).arrAt_eq_of_after_last 7 t0_7 (by decide +kernel) _ fun j => ?_
  blk_simp
  idx_vars j
  obtain rfl : j0 = 0 := Subsingleton.elim _ _
  rw [after0_7]
  refine accum N_0 (fun n h d => (outsAt0 m c n h).2.2.1 (ix2 0 d)) (Dh m c) (fun t h d => ?_) (fun t h d => ?_) t0_7 rfl j1
  · show (outsAt0 m c t.val t.isLt).2.2.1 (ix2 0 d) = _
    rw [outsAt0_A m c t h]
    frame_out
    open_payloads
    pointwise
    simp only [ib1]
  · show (outsAt0 m c t.val t.isLt).2.2.1 (ix2 0 d) = _
    rw [outsAt0_B m c t h]
    frame_out
    open_payloads
    pointwise
    simp only [ib1]

theorem final8 : (dats m 0 c).arrAt 8 cfg0.N = fun i => ∑ s, Dh m c s (i 1) * (1 + Sc m c (i 1)) * hat (X m c s) (i 1) := by
  refine (dats m 0 c).arrAt_eq_of_after_last 8 t0_7 (by decide +kernel) _ fun j => ?_
  blk_simp
  idx_vars j
  obtain rfl : j0 = 0 := Subsingleton.elim _ _
  rw [after0_8]
  refine accum N_0 (fun n h d => (outsAt0 m c n h).2.2.2 (ix2 0 d)) (fun s d => Dh m c s d * (1 + Sc m c d) * hat (X m c s) d) (fun t h d => ?_) (fun t h d => ?_) t0_7 rfl j1
  · show (outsAt0 m c t.val t.isLt).2.2.2 (ix2 0 d) = _
    rw [outsAt0_A m c t h]
    frame_out
    open_payloads
    pointwise
    simp only [ib0, ib1, ib4]
    rfl
  · show (outsAt0 m c t.val t.isLt).2.2.2 (ix2 0 d) = _
    rw [outsAt0_B m c t h]
    frame_out
    open_payloads
    pointwise
    simp only [ib0, ib1, ib4]
    rfl

end Cert.Norm0Ideal.Hand

end
-- ==== Proof.NormCommon.lean ====
module

public import Idealize.ShloMosaic.Lib.Pipeline.ValueKit
public import Idealize.ShloMosaic.Lib.Tactic.CleanTypes
public import proofs.«01_k».proof.Proof.Common

@[expose] public section

noncomputable section

open Idealize.ShloMosaic

namespace Cert.Common

section Ends
variable {n0 n1 n2 : Nat} {t : Shape} (h : (⟨3, ![n0, n1, n2]⟩ : Shape).ReducesTo [0, 2] t)
include h

theorem mid_rank : t.rank = 1 := h.1
theorem mid_pos : 0 < t.rank := by rw [mid_rank h]; exact Nat.one_pos
theorem mid_size : t.size ⟨0, mid_pos h⟩ = n1 := h.2 ⟨0, mid_pos h⟩
/-- The kept coordinate of a result index, on the operand's middle axis. -/
def keptMid (j : t.Idx) : Fin n1 := (j ⟨0, mid_pos h⟩).cast (mid_size h)

/-- The host's sum over the two outer axes of a rank-3 array, at a result index. -/
@[pointwise] theorem sum_ends (x : (⟨3, ![n0, n1, n2]⟩ : Shape).Idx → EReal) (init : EReal) (j : t.Idx) :
    Ideal.hostReduceAdd h x init j =
      init + ∑ a : Fin n0, ∑ b : Fin n2, x (ix3 a ⟨(j ⟨0, mid_pos h⟩).val, (keptMid h j).isLt⟩ b) := by
  unfold Ideal.hostReduceAdd
  congr 1
  rw [Finset.sum_filter_eq_sum_of_fiber _ (fun k : Fin n0 × Fin n2 => ix3 k.1 (keptMid h j) k.2)
    (fun k k' e => Prod.ext (congrFun e 0) (congrFun e 2)), Fintype.sum_prod_type]
  · rfl
  · intro i
    constructor
    · intro e
      refine ⟨(i 0, i 2), ?_⟩
      funext a
      match a with
      | ⟨0, _⟩ => rfl
      | ⟨1, _⟩ => exact Fin.ext (congrArg Fin.val (congrFun e ⟨0, mid_pos h⟩)).symm
      | ⟨2, _⟩ => rfl
    · rintro ⟨k, rfl⟩
      funext b
      obtain ⟨b, hb⟩ := b
      obtain rfl : b = 0 := by rw [mid_rank h] at hb; omega
      rfl

end Ends

end Cert.Common

end
-- ==== Proof.Norm0RefVal.lean ====
module

public import proofs.«01_k».proof.Proof.Gen.Norm0RefIdeal.Run
public import proofs.«01_k».proof.Proof.NormMath
public import proofs.«01_k».proof.Proof.NormCommon

@[expose] public section

set_option maxRecDepth 16384

noncomputable section

open Idealize.ShloMosaic Idealize.ShloMosaic.TcCoe Idealize.SL.Sem

namespace Cert.Norm0RefIdeal.Hand

open Cert.Norm0RefIdeal Cert.Norm0RefIdeal.Gen Cert.Norm0RefIdeal.Value Cert.Norm

variable (m : (ℓ : Loc nD τ sig) → Buf (Elt Ideal) ℓ) (c : Dev nD)

/-- The arguments, by position and channel. -/
def X (s : Fin 2048) : Row := fun d => m ((c.tc : Thread nD τ).loc main_arg0) (ix3 0 s d)
def G : Row := fun d => m ((c.tc : Thread nD τ).loc main_arg1) (ix1 d)
def Sc : Row := fun d => m ((c.tc : Thread nD τ).loc main_arg2) (ix2 0 d)
def Dh (s : Fin 2048) : Row := fun d => m ((c.tc : Thread nD τ).loc main_arg4) (ix3 0 s d)
def Dr (s : Fin 2048) : Row := fun d => m ((c.tc : Thread nD τ).loc main_arg5) (ix3 0 s d)
def A (s : Fin 2048) : Row := fun d => Dh m c s d * (1 + Sc m c d) * G m c d

variable (ρ : Dev nD → PrngReg)

theorem run (hX : ∀ c s d, Common.IsR (X m c s d)) (hA : ∀ c s d, Common.IsR (A m c s d)) :
    θ_run defs (onTc (τ := τ) (main (F := Ideal))) ⟨m, fun _ => 0, ρ⟩ fun r => ∀ c : Dev nD,
    (r.2.mem ((c.tc : Thread nD τ).loc main_v58) = (fun i => Dr m c (i 0) (i 1) + back (X m c (i 0)) (A m c (i 0)) (i 1) : S2048x2048.Idx → EReal)
    ∧ r.2.mem ((c.tc : Thread nD τ).loc main_v35) = (fun i => ∑ s, Dh m c s (i 1) * hat (X m c s) (i 1) * G m c (i 1) : S1x2048.Idx → EReal)
    ∧ r.2.mem ((c.tc : Thread nD τ).loc main_v28) = (fun i => ∑ s, Dh m c s (i 1) : S1x2048.Idx → EReal)
    ∧ r.2.mem ((c.tc : Thread nD τ).loc main_v59) = (fun i => ∑ s, Dh m c s (i 1) * (1 + Sc m c (i 1)) * hat (X m c s) (i 1) : S1x2048.Idx → EReal))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨o0, o1, o2, o3, k⟩ := h c
  clear h
  refine ⟨⟨o0.trans ?_, o1.trans ?_, o2.trans ?_, o3.trans ?_⟩, k⟩
  · funext i; idx_vars i
    unfold res_main_v58
    clean_types
    pointwise
    simp only [Finset.univ_unique, Finset.sum_singleton]
    exact congrArg (Dr m c i0 i1 + ·) (back_eq (hX c i0) (hA c i0) i1)
  · funext i; idx_vars i
    clean_types
    pointwise
    simp only [Finset.univ_unique, Finset.sum_singleton]
    exact Finset.sum_congr rfl fun s _ => show hat (X m c s) i1 * G m c i1 * Dh m c s i1 = Dh m c s i1 * hat (X m c s) i1 * G m c i1 by rw [mul_comm, mul_assoc]
  · funext i; idx_vars i
    clean_types
    pointwise
    simp only [Finset.univ_unique, Finset.sum_singleton]
    rfl
  · funext i; idx_vars i
    clean_types
    pointwise
    simp only [Finset.univ_unique, Finset.sum_singleton]
    exact Finset.sum_congr rfl fun s _ => mul_comm _ _

end Cert.Norm0RefIdeal.Hand

end
-- ==== Proof.Norm0Claim.lean ====
module

public import proofs.«01_k».proof.Defs
public import proofs.«01_k».proof.Proof.Norm0Val
public import proofs.«01_k».proof.Proof.Norm0RefVal

/-! The first block's normalization and modulation, backward: both programs end at the same four functions of the arguments. -/

@[expose] public section

set_option maxRecDepth 16384

noncomputable section

open Idealize.ShloMosaic Idealize.ShloMosaic.TcCoe Idealize.SL.Sem

namespace Cert.Norm0

open Cert.Common

/-- What the printed precondition states of its broadcasts. -/
instance preFacts : Cert.Pre_norm0_finite.Facts := ⟨by decide, by decide, by decide, by decide⟩

section
open Cert.Norm0Ideal
variable (m : (ℓ : Loc nD τ sig) → Buf (Elt Ideal) ℓ) (c : Dev nD)
def oX : S2048x2048.Idx → EReal := fun i => Hand.Dr m c (i 0) (i 1) + Norm.back (Hand.X m c (i 0)) (Hand.A m c (i 0)) (i 1)
def oSc : S1x2048.Idx → EReal := fun i => ∑ s, Hand.Dh m c s (i 1) * Norm.hat (Hand.X m c s) (i 1) * Hand.G m c (i 1)
def oSh : S1x2048.Idx → EReal := fun i => ∑ s, Hand.Dh m c s (i 1)
def oG : S1x2048.Idx → EReal := fun i => ∑ s, Hand.Dh m c s (i 1) * (1 + Hand.Sc m c (i 1)) * Norm.hat (Hand.X m c s) (i 1)

theorem real (hpre : Cert.Pre_Norm0Ideal_norm0_finite m) :
    (∀ s d, IsR (Hand.X m c s d)) ∧ ∀ s d, IsR (Hand.A m c s d) :=
  have r0 := real_entries _ _ (hpre c).1
  have r1 := real_entries _ _ (hpre c).2.1
  have r2 := real_entries _ _ (hpre c).2.2.1
  have r3 := real_entries _ _ (hpre c).2.2.2
  ⟨fun _ _ => r0 _, fun _ _ => IsR.mul (IsR.mul (r3 _) (IsR.add IsR.one (r2 _))) (r1 _)⟩
end

theorem claim : Cert.algebraic_Norm0Ideal_Norm0RefIdeal_pre_norm0_finite (hNorm0Ideal := Cert.Norm0Ideal.Gen.facts) (hNorm0RefIdeal := Cert.Norm0RefIdeal.Gen.facts) (hPre_norm0_finite := preFacts) := by
  intro m g m' g' hpre hagree
  have eX : ∀ c, Cert.Norm0RefIdeal.Hand.X m' c = Cert.Norm0Ideal.Hand.X m c := fun c => by
    unfold Cert.Norm0RefIdeal.Hand.X; rw [(hagree c).1]; rfl
  have eG : ∀ c, Cert.Norm0RefIdeal.Hand.G m' c = Cert.Norm0Ideal.Hand.G m c := fun c => by
    unfold Cert.Norm0RefIdeal.Hand.G; rw [(hagree c).2.1]; rfl
  have eSc : ∀ c, Cert.Norm0RefIdeal.Hand.Sc m' c = Cert.Norm0Ideal.Hand.Sc m c := fun c => by
    unfold Cert.Norm0RefIdeal.Hand.Sc; rw [(hagree c).2.2.1]; rfl
  have eDh : ∀ c, Cert.Norm0RefIdeal.Hand.Dh m' c = Cert.Norm0Ideal.Hand.Dh m c := fun c => by
    unfold Cert.Norm0RefIdeal.Hand.Dh; rw [(hagree c).2.2.2.2.1]; rfl
  have eDr : ∀ c, Cert.Norm0RefIdeal.Hand.Dr m' c = Cert.Norm0Ideal.Hand.Dr m c := fun c => by
    unfold Cert.Norm0RefIdeal.Hand.Dr; rw [(hagree c).2.2.2.2.2]; rfl
  have eA : ∀ c, Cert.Norm0RefIdeal.Hand.A m' c = Cert.Norm0Ideal.Hand.A m c := fun c => by
    unfold Cert.Norm0RefIdeal.Hand.A Cert.Norm0Ideal.Hand.A; rw [eG, eSc, eDh]
  refine ⟨oX m, oSc m, oSh m, oG m,
    (θ_run _ _ _).mono (fun r h c => ?_) (Cert.Norm0Ideal.Value.run_blocks m g),
    (θ_run _ _ _).mono (fun r h c => ?_) (Cert.Norm0RefIdeal.Hand.run m' g' (fun c s d => eX c ▸ (real m c hpre).1 s d) fun c s d => eA c ▸ (real m c hpre).2 s d)⟩
  · obtain ⟨o0, o1, o2, o3, k⟩ := h c
    exact ⟨o0.trans (Cert.Norm0Ideal.Hand.final5 m c), o1.trans (Cert.Norm0Ideal.Hand.final6 m c),
      o2.trans (Cert.Norm0Ideal.Hand.final7 m c), o3.trans (Cert.Norm0Ideal.Hand.final8 m c), k⟩
  · obtain ⟨⟨o0, o1, o2, o3⟩, k⟩ := h c
    simp only [eX, eG, eSc, eDh, eDr, eA] at o0 o1 o2 o3
    exact ⟨o0, o1, o2, o3, k⟩

end Cert.Norm0

end
-- ==== Proof.Norm1Val.lean ====
module

public import proofs.«01_k».proof.Proof.Gen.Norm1Ideal.Value
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm1Ideal.Hand

open Cert.Norm1Ideal Cert.Norm1Ideal.Gen Cert.Norm

variable (m : (ℓ : Loc nD τ sig) → Buf (Elt Ideal) ℓ) (c : Dev nD)

/-- The arguments, by position and channel; the normalized rows are the residual's after the gated branch. -/
def Y (s : Fin 2048) : Row := fun d => m ((c : Thread nD τ).loc main_arg1) (ix3 0 s d)
def Gate : Row := fun d => m ((c : Thread nD τ).loc main_arg2) (ix2 0 d)
def X0 (s : Fin 2048) : Row := fun d => m ((c : Thread nD τ).loc main_arg0) (ix3 0 s d)
def X (s : Fin 2048) : Row := fun d => X0 m c s d + Gate m c d * Y m c s d
def G : Row := fun d => m ((c : Thread nD τ).loc main_arg3) (ix1 d)
def Sc : Row := fun d => m ((c : Thread nD τ).loc main_arg4) (ix2 0 d)
def Dh (s : Fin 2048) : Row := fun d => m ((c : Thread nD τ).loc main_arg6) (ix3 0 s d)
def Dr (s : Fin 2048) : Row := fun d => m ((c : Thread nD τ).loc main_arg7) (ix3 0 s d)
/-- The cotangent of the normalized row. -/
def A (s : Fin 2048) : Row := fun d => Dh m c s d * (1 + Sc m c d) * G m c d
/-- The gradient of the residual. -/
def Dx (s : Fin 2048) : Row := fun d => Dr m c s d + back (X m c s) (A m c s) d

abbrev row (t : Fin cfg0.N) (x : Fin 256) : Fin 2048 := rowOf N_0 t x

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![t.val, 0] ∧
    win0_6.index t = ![0, 0] ∧ win0_7.index t = ![t.val, 0] ∧ win0_11.index t = ![t.val, 0] :=
  (by decide +kernel : ∀ t : Fin grid0.N, _)

theorem ib0 (t : Fin cfg0.N) (x : Fin 256) (d : Fin 2048) : iblk m c 0 t (ix2 x d) = X m c (row t x) d := by
  refine Eq.trans ?_ (show V m c (Pipeline.arrRef spec0 0) (ix2 (row t x) d) = X m c (row t x) d by unfold X X0 Gate Y; entry_read; pointwise)
  blk_point [iblk, idx t, rowOf]
theorem ib1 (t : Fin cfg0.N) (x : Fin 256) (d : Fin 2048) : iblk m c 1 t (ix2 x d) = Dh m c (row t x) d := by
  refine Eq.trans ?_ (show V m c (Pipeline.arrRef spec0 1) (ix2 (row t x) d) = Dh m c (row t x) d by unfold Dh; entry_read; pointwise)
  blk_point [iblk, idx t, rowOf]
theorem ib2 (t : Fin cfg0.N) (x : Fin 256) (d : Fin 2048) : iblk m c 2 t (ix2 x d) = Dr m c (row t x) d := by
  refine Eq.trans ?_ (show V m c (Pipeline.arrRef spec0 2) (ix2 (row t x) d) = Dr m c (row t x) d by unfold Dr; entry_read; pointwise)
  blk_point [iblk, idx t, rowOf]
theorem ib3 (t : Fin cfg0.N) (d : Fin 2048) : iblk m c 3 t (ix2 0 d) = G m c d := by
  refine Eq.trans ?_ (show V m c (Pipeline.arrRef spec0 3) (ix2 0 d) = G m c d by unfold G; entry_read; pointwise)
  blk_point [iblk, idx t]
theorem ib4 (t : Fin cfg0.N) (d : Fin 2048) : iblk m c 4 t (ix2 0 d) = Sc m c d := by
  unfold Sc
  blk_point [iblk, idx t]

theorem ib5 (t : Fin cfg0.N) (x : Fin 256) (d : Fin 2048) : iblk m c 5 t (ix2 x d) = Y m c (row t x) d := by
  refine Eq.trans ?_ (show V m c (Pipeline.arrRef spec0 5) (ix2 (row t x) d) = Y m c (row t x) d by unfold Y; entry_read; pointwise)
  blk_point [iblk, idx t, rowOf]
theorem ib6 (t : Fin cfg0.N) (d : Fin 2048) : iblk m c 6 t (ix2 0 d) = Gate m c d := by
  unfold Gate
  blk_point [iblk, idx t]

theorem point7 (t : Fin cfg0.N) (x : Fin 256) (d : Fin 2048) :
    (outsAt0 m c t.val t.isLt).1 (ix2 x d) = Dx m c (row t x) d := by
  by_cases h : t.val % 8 = 0
  · rw [outsAt0_A m c t h]
    frame_out
    open_payloads
    pointwise
    simp only [ib0, ib1, ib2, ib3, ib4]
    rfl
  · rw [outsAt0_B m c t h]
    frame_out
    open_payloads
    pointwise
    simp only [ib0, ib1, ib2, ib3, ib4]
    rfl

theorem final7 : (dats m 0 c).arrAt 7 cfg0.N = fun i => Dx m c (i 0) (i 1) := by
  refine (dats m 0 c).arrAt_eq_of_covers 7 _ (by decide +kernel) fun t hf y => ?_
  have e1 : ((win0_7.blk t).view.emb y 1) = y 1 := Fin.ext (by blk_simp [idx t])
  have e0 : ((win0_7.blk t).view.emb y 0) = row t (y 0) := Fin.ext (by blk_simp [idx t]; rfl)
  show _ = Dx m c ((win0_7.blk t).view.emb y 0) ((win0_7.blk t).view.emb y 1)
  rw [e0, e1]
  blk_simp
  rw [after0_7]
  idx_vars y
  exact point7 m c t y0 y1

theorem point11 (t : Fin cfg0.N) (x : Fin 256) (d : Fin 2048) :
    (outsAt0 m c t.val t.isLt).2.2.2.2.1 (ix2 x d) = Dx m c (row t x) d * Gate m c d := by
  by_cases h : t.val % 8 = 0
  · rw [outsAt0_A m c t h]
    frame_out
    open_payloads
    pointwise
    simp only [ib0, ib1, ib2, ib3, ib4, ib5, ib6]
    rfl
  · rw [outsAt0_B m c t h]
    frame_out
    open_payloads
    pointwise
    simp only [ib0, ib1, ib2, ib3, ib4, ib5, ib6]
    rfl

theorem final11 : (dats m 0 c).arrAt 11 cfg0.N = fun i => Dx m c (i 0) (i 1) * Gate m c (i 1) := by
  refine (dats m 0 c).arrAt_eq_of_covers 11 _ (by decide +kernel) fun t hf y => ?_
  have e1 : ((win0_11.blk t).view.emb y 1) = y 1 := Fin.ext (by blk_simp [idx t])
  have e0 : ((win0_11.blk t).view.emb y 0) = row t (y 0) := Fin.ext (by blk_simp [idx t]; rfl)
  show _ = Dx m c ((win0_11.blk t).view.emb y 0) ((win0_11.blk t).view.emb y 1) * Gate m c ((win0_11.blk t).view.emb y 1)
  rw [e0, e1]
  blk_simp
  rw [after0_11]
  idx_vars y
  exact point11 m c t y0 y1

theorem final8 : (dats m 0 c).arrAt 8 cfg0.N = fun i => ∑ s, Dh m c s (i 1) * hat (X m c s) (i 1) * G m c (i 1) := by
  refine (dats m 0 c).arrAt_eq_of_after_last 8 t0_7 (by decide +kernel) _ fun j => ?_
  blk_simp
  idx_vars j
  obtain rfl : j0 = 0 := Subsingleton.elim _ _
  rw [after0_8]
  refine accum N_0 (fun n h d => (outsAt0 m c n h).2.1 (ix2 0 d)) (fun s d => Dh m c s d * hat (X m c s) d * G m c d) (fun t h d => ?_) (fun t h d => ?_) t0_7 rfl j1
  · show (outsAt0 m c t.val t.isLt).2.1 (ix2 0 d) = _
    rw [outsAt0_A m c t h]
    frame_out
    open_payloads
    pointwise
    simp only [ib0, ib1, ib3]
    rfl
  · show (outsAt0 m c t.val t.isLt).2.1 (ix2 0 d) = _
    rw [outsAt0_B m c t h]
    frame_out
    open_payloads
    pointwise
    simp only [ib0, ib1, ib3]
    rfl

theorem final9 : (dats m 0 c).arrAt 9 cfg0.N = fun i => ∑ s, Dh m c s (i 1) := by
  refine (dats m 0 c).arrAt_eq_of_after_last 9 t0_7 (by decide +kernel) _ fun j => ?_
  blk_simp
  idx_vars j
  obtain rfl : j0 = 0 := Subsingleton.elim _ _
  rw [after0_9]
  refine accum N_0 (fun n h d => (outsAt0 m c n h).2.2.1 (ix2 0 d)) (Dh m c) (fun t h d => ?_) (fun t h d => ?_) t0_7 rfl j1
  · show (outsAt0 m c t.val t.isLt).2.2.1 (ix2 0 d) = _
    rw [outsAt0_A m c t h]
    frame_out
    open_payloads
    pointwise
    simp only [ib1]
  · show (outsAt0 m c t.val t.isLt).2.2.1 (ix2 0 d) = _
    rw [outsAt0_B m c t h]
    frame_out
    open_payloads
    pointwise
    simp only [ib1]

theorem final10 : (dats m 0 c).arrAt 10 cfg0.N = fun i => ∑ s, Dh m c s (i 1) * (1 + Sc m c (i 1)) * hat (X m c s) (i 1) := by
  refine (dats m 0 c).arrAt_eq_of_after_last 10 t0_7 (by decide +kernel) _ fun j => ?_
  blk_simp
  idx_vars j
  obtain rfl : j0 = 0 := Subsingleton.elim _ _
  rw [after0_10]
  refine accum N_0 (fun n h d => (outsAt0 m c n h).2.2.2.1 (ix2 0 d)) (fun s d => Dh m c s d * (1 + Sc m c d) * hat (X m c s) d) (fun t h d => ?_) (fun t h d => ?_) t0_7 rfl j1
  · show (outsAt0 m c t.val t.isLt).2.2.2.1 (ix2 0 d) = _
    rw [outsAt0_A m c t h]
    frame_out
    open_payloads
    pointwise
    simp only [ib0, ib1, ib4]
    rfl
  · show (outsAt0 m c t.val t.isLt).2.2.2.1 (ix2 0 d) = _
    rw [outsAt0_B m c t h]
    frame_out
    open_payloads
    pointwise
    simp only [ib0, ib1, ib4]
    rfl

theorem final12 : (dats m 0 c).arrAt 12 cfg0.N = fun i => ∑ s, Dx m c s (i 1) * Y m c s (i 1) := by
  refine (dats m 0 c).arrAt_eq_of_after_last 12 t0_7 (by decide +kernel) _ fun j => ?_
  blk_simp
  idx_vars j
  obtain rfl : j0 = 0 := Subsingleton.elim _ _
  rw [after0_12]
  refine accum N_0 (fun n h d => (outsAt0 m c n h).2.2.2.2.2 (ix2 0 d)) (fun s d => Dx m c s d * Y m c s d) (fun t h d => ?_) (fun t h d => ?_) t0_7 rfl j1
  · show (outsAt0 m c t.val t.isLt).2.2.2.2.2 (ix2 0 d) = _
    rw [outsAt0_A m c t h]
    frame_out
    open_payloads
    pointwise
    simp only [ib0, ib1, ib2, ib3, ib4, ib5]
    rfl
  · show (outsAt0 m c t.val t.isLt).2.2.2.2.2 (ix2 0 d) = _
    rw [outsAt0_B m c t h]
    frame_out
    open_payloads
    pointwise
    simp only [ib0, ib1, ib2, ib3, ib4, ib5]
    rfl

end Cert.Norm1Ideal.Hand

end
-- ==== Proof.Norm1RefVal.lean ====
module

public import proofs.«01_k».proof.Proof.Gen.Norm1RefIdeal.Run
public import proofs.«01_k».proof.Proof.NormMath
public import proofs.«01_k».proof.Proof.NormCommon

@[expose] public section

set_option maxRecDepth 16384

noncomputable section

open Idealize.ShloMosaic Idealize.ShloMosaic.TcCoe Idealize.SL.Sem

namespace Cert.Norm1RefIdeal.Hand

open Cert.Norm1RefIdeal Cert.Norm1RefIdeal.Gen Cert.Norm1RefIdeal.Value Cert.Norm

variable (m : (ℓ : Loc nD τ sig) → Buf (Elt Ideal) ℓ) (c : Dev nD)

/-- The arguments, by position and channel; the normalized rows are the residual's after the gated branch. -/
def Y (s : Fin 2048) : Row := fun d => m ((c.tc : Thread nD τ).loc main_arg1) (ix3 0 s d)
def Gate : Row := fun d => m ((c.tc : Thread nD τ).loc main_arg2) (ix2 0 d)
def X0 (s : Fin 2048) : Row := fun d => m ((c.tc : Thread nD τ).loc main_arg0) (ix3 0 s d)
def X (s : Fin 2048) : Row := fun d => X0 m c s d + Gate m c d * Y m c s d
def G : Row := fun d => m ((c.tc : Thread nD τ).loc main_arg3) (ix1 d)
def Sc : Row := fun d => m ((c.tc : Thread nD τ).loc main_arg4) (ix2 0 d)
def Dh (s : Fin 2048) : Row := fun d => m ((c.tc : Thread nD τ).loc main_arg6) (ix3 0 s d)
def Dr (s : Fin 2048) : Row := fun d => m ((c.tc : Thread nD τ).loc main_arg7) (ix3 0 s d)
def A (s : Fin 2048) : Row := fun d => Dh m c s d * (1 + Sc m c d) * G m c d
def Dx (s : Fin 2048) : Row := fun d => Dr m c s d + back (X m c s) (A m c s) d

/-- The gradient of the residual, as the reference adds it up. -/
theorem residual (hX : ∀ c s d, Common.IsR (X m c s d)) (hA : ∀ c s d, Common.IsR (A m c s d)) (s d : Fin 2048) :
    Dr m c s d + A m c s d * Ideal.rsqrt (den (X m c s)) + X m c s d * pull (X m c s) (A m c s) + pull (X m c s) (A m c s) * X m c s d = Dx m c s d :=
  back_add (hX c s) (hA c s) _ d

variable (ρ : Dev nD → PrngReg)

theorem run (hX : ∀ c s d, Common.IsR (X m c s d)) (hA : ∀ c s d, Common.IsR (A m c s d)) :
    θ_run defs (onTc (τ := τ) (main (F := Ideal))) ⟨m, fun _ => 0, ρ⟩ fun r => ∀ c : Dev nD,
    (r.2.mem ((c.tc : Thread nD τ).loc main_v70) = (fun i => Dx m c (i 0) (i 1) : S2048x2048.Idx → EReal)
    ∧ r.2.mem ((c.tc : Thread nD τ).loc main_v39) = (fun i => ∑ s, Dh m c s (i 1) * hat (X m c s) (i 1) * G m c (i 1) : S1x2048.Idx → EReal)
    ∧ r.2.mem ((c.tc : Thread nD τ).loc main_v32) = (fun i => ∑ s, Dh m c s (i 1) : S1x2048.Idx → EReal)
    ∧ r.2.mem ((c.tc : Thread nD τ).loc main_v71) = (fun i => ∑ s, Dh m c s (i 1) * (1 + Sc m c (i 1)) * hat (X m c s) (i 1) : S1x2048.Idx → EReal)
    ∧ r.2.mem ((c.tc : Thread nD τ).loc main_v73) = (fun i => Dx m c (i 0) (i 1) * Gate m c (i 1) : S2048x2048.Idx → EReal)
    ∧ r.2.mem ((c.tc : Thread nD τ).loc main_v69) = (fun i => ∑ s, Dx m c s (i 1) * Y m c s (i 1) : S1x2048.Idx → EReal))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨o0, o1, o2, o3, o4, o5, k⟩ := h c
  clear h
  refine ⟨⟨o0.trans ?_, o1.trans ?_, o2.trans ?_, o3.trans ?_, o4.trans ?_, o5.trans ?_⟩, k⟩
  · funext i; idx_vars i
    unfold res_main_v70
    clean_types
    pointwise
    simp only [Finset.univ_unique, Finset.sum_singleton]
    exact residual m c hX hA i0 i1
  · funext i; idx_vars i
    clean_types
    pointwise
    simp only [Finset.univ_unique, Finset.sum_singleton]
    exact Finset.sum_congr rfl fun s _ => show hat (X m c s) i1 * G m c i1 * Dh m c s i1 = Dh m c s i1 * hat (X m c s) i1 * G m c i1 by rw [mul_comm, mul_assoc]
  · funext i; idx_vars i
    clean_types
    pointwise
    simp only [Finset.univ_unique, Finset.sum_singleton]
    rfl
  · funext i; idx_vars i
    clean_types
    pointwise
    simp only [Finset.univ_unique, Finset.sum_singleton]
    exact Finset.sum_congr rfl fun s _ => mul_comm _ _
  · funext i; idx_vars i
    unfold res_main_v73
    clean_types
    pointwise
    simp only [Finset.univ_unique, Finset.sum_singleton]
    exact (congrArg (Gate m c i1 * ·) (residual m c hX hA i0 i1)).trans (mul_comm _ _)
  · funext i; idx_vars i
    unfold res_main_v69
    clean_types
    pointwise
    simp only [Finset.univ_unique, Finset.sum_singleton]
    exact Finset.sum_congr rfl fun s _ => congrArg (· * Y m c s i1) (residual m c hX hA s i1)

end Cert.Norm1RefIdeal.Hand

end
-- ==== Proof.Norm1Claim.lean ====
module

public import proofs.«01_k».proof.Defs
public import proofs.«01_k».proof.Proof.Norm1Val
public import proofs.«01_k».proof.Proof.Norm1RefVal

/-! The second block's normalization and modulation with the gated residual under it, backward: both programs end at the same six functions of the arguments. -/

@[expose] public section

set_option maxRecDepth 16384

noncomputable section

open Idealize.ShloMosaic Idealize.ShloMosaic.TcCoe Idealize.SL.Sem

namespace Cert.Norm1

open Cert.Common

/-- What the printed precondition states of its broadcasts. -/
instance preFacts : Cert.Pre_norm1_finite.Facts := ⟨by decide, by decide, by decide, by decide⟩

section
open Cert.Norm1Ideal
variable (m : (ℓ : Loc nD τ sig) → Buf (Elt Ideal) ℓ) (c : Dev nD)
def oX : S2048x2048.Idx → EReal := fun i => Hand.Dx m c (i 0) (i 1)
def oSc : S1x2048.Idx → EReal := fun i => ∑ s, Hand.Dh m c s (i 1) * Norm.hat (Hand.X m c s) (i 1) * Hand.G m c (i 1)
def oSh : S1x2048.Idx → EReal := fun i => ∑ s, Hand.Dh m c s (i 1)
def oG : S1x2048.Idx → EReal := fun i => ∑ s, Hand.Dh m c s (i 1) * (1 + Hand.Sc m c (i 1)) * Norm.hat (Hand.X m c s) (i 1)

def oY : S2048x2048.Idx → EReal := fun i => Hand.Dx m c (i 0) (i 1) * Hand.Gate m c (i 1)
def oGate : S1x2048.Idx → EReal := fun i => ∑ s, Hand.Dx m c s (i 1) * Hand.Y m c s (i 1)

theorem real (hpre : Cert.Pre_Norm1Ideal_norm1_finite m) :
    (∀ s d, IsR (Hand.X m c s d)) ∧ ∀ s d, IsR (Hand.A m c s d) :=
  have r0 := real_entries _ _ (hpre c).1
  have r1 := real_entries _ _ (hpre c).2.1
  have r2 := real_entries _ _ (hpre c).2.2.1
  have r3 := real_entries _ _ (hpre c).2.2.2.1
  have r4 := real_entries _ _ (hpre c).2.2.2.2.1
  have r5 := real_entries _ _ (hpre c).2.2.2.2.2
  ⟨fun _ _ => IsR.add (r0 _) (IsR.mul (r2 _) (r1 _)), fun _ _ => IsR.mul (IsR.mul (r5 _) (IsR.add IsR.one (r4 _))) (r3 _)⟩
end

theorem claim : Cert.algebraic_Norm1Ideal_Norm1RefIdeal_pre_norm1_finite (hNorm1Ideal := Cert.Norm1Ideal.Gen.facts) (hNorm1RefIdeal := Cert.Norm1RefIdeal.Gen.facts) (hPre_norm1_finite := preFacts) := by
  intro m g m' g' hpre hagree
  have eX0 : ∀ c, Cert.Norm1RefIdeal.Hand.X0 m' c = Cert.Norm1Ideal.Hand.X0 m c := fun c => by
    unfold Cert.Norm1RefIdeal.Hand.X0; rw [(hagree c).1]; rfl
  have eY : ∀ c, Cert.Norm1RefIdeal.Hand.Y m' c = Cert.Norm1Ideal.Hand.Y m c := fun c => by
    unfold Cert.Norm1RefIdeal.Hand.Y; rw [(hagree c).2.1]; rfl
  have eGate : ∀ c, Cert.Norm1RefIdeal.Hand.Gate m' c = Cert.Norm1Ideal.Hand.Gate m c := fun c => by
    unfold Cert.Norm1RefIdeal.Hand.Gate; rw [(hagree c).2.2.1]; rfl
  have eG : ∀ c, Cert.Norm1RefIdeal.Hand.G m' c = Cert.Norm1Ideal.Hand.G m c := fun c => by
    unfold Cert.Norm1RefIdeal.Hand.G; rw [(hagree c).2.2.2.1]; rfl
  have eSc : ∀ c, Cert.Norm1RefIdeal.Hand.Sc m' c = Cert.Norm1Ideal.Hand.Sc m c := fun c => by
    unfold Cert.Norm1RefIdeal.Hand.Sc; rw [(hagree c).2.2.2.2.1]; rfl
  have eDh : ∀ c, Cert.Norm1RefIdeal.Hand.Dh m' c = Cert.Norm1Ideal.Hand.Dh m c := fun c => by
    unfold Cert.Norm1RefIdeal.Hand.Dh; rw [(hagree c).2.2.2.2.2.2.1]; rfl
  have eDr : ∀ c, Cert.Norm1RefIdeal.Hand.Dr m' c = Cert.Norm1Ideal.Hand.Dr m c := fun c => by
    unfold Cert.Norm1RefIdeal.Hand.Dr; rw [(hagree c).2.2.2.2.2.2.2]; rfl
  have eX : ∀ c, Cert.Norm1RefIdeal.Hand.X m' c = Cert.Norm1Ideal.Hand.X m c := fun c => by
    unfold Cert.Norm1RefIdeal.Hand.X Cert.Norm1Ideal.Hand.X; rw [eX0, eY, eGate]
  have eA : ∀ c, Cert.Norm1RefIdeal.Hand.A m' c = Cert.Norm1Ideal.Hand.A m c := fun c => by
    unfold Cert.Norm1RefIdeal.Hand.A Cert.Norm1Ideal.Hand.A; rw [eG, eSc, eDh]
  have eDx : ∀ c, Cert.Norm1RefIdeal.Hand.Dx m' c = Cert.Norm1Ideal.Hand.Dx m c := fun c => by
    unfold Cert.Norm1RefIdeal.Hand.Dx Cert.Norm1Ideal.Hand.Dx; rw [eX, eA, eDr]
  refine ⟨oX m, oSc m, oSh m, oG m, oY m, oGate m,
    (θ_run _ _ _).mono (fun r h c => ?_) (Cert.Norm1Ideal.Value.run_blocks m g),
    (θ_run _ _ _).mono (fun r h c => ?_) (Cert.Norm1RefIdeal.Hand.run m' g' (fun c s d => eX c ▸ (real m c hpre).1 s d) fun c s d => eA c ▸ (real m c hpre).2 s d)⟩
  · obtain ⟨o0, o1, o2, o3, o4, o5, k⟩ := h c
    exact ⟨o0.trans (Cert.Norm1Ideal.Hand.final7 m c), o1.trans (Cert.Norm1Ideal.Hand.final8 m c),
      o2.trans (Cert.Norm1Ideal.Hand.final9 m c), o3.trans (Cert.Norm1Ideal.Hand.final10 m c),
      o4.trans (Cert.Norm1Ideal.Hand.final11 m c), o5.trans (Cert.Norm1Ideal.Hand.final12 m c), k⟩
  · obtain ⟨⟨o0, o1, o2, o3, o4, o5⟩, k⟩ := h c
    simp only [eX, eG, eSc, eDh, eA, eDx, eGate, eY] at o0 o1 o2 o3 o4 o5
    exact ⟨o0, o1, o2, o3, o4, o5, k⟩

end Cert.Norm1

end
-- ==== Proof.LossVal.lean ====
module

public import proofs.«01_k».proof.Proof.Gen.LossIdeal.Value
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen Cert.Norm

variable (m : (ℓ : Loc nD τ sig) → Buf (Elt Ideal) ℓ) (c : Dev nD)

/-- The arguments, by position and channel; the normalized rows are the residual's after the gated branch. -/
def X0 (s : Fin 2048) : Row := fun d => m ((c : Thread nD τ).loc main_arg0) (ix3 0 s d)
def Y (s : Fin 2048) : Row := fun d => m ((c : Thread nD τ).loc main_arg1) (ix3 0 s d)
def Gate : Row := fun d => m ((c : Thread nD τ).loc main_arg2) (ix2 0 d)
def X (s : Fin 2048) : Row := fun d => X0 m c s d + Gate m c d * Y m c s d
def G : Row := fun d => m ((c : Thread nD τ).loc main_arg3) (ix1 d)
def T (s : Fin 2048) : Row := fun d => m ((c : Thread nD τ).loc main_arg4) (ix3 0 s d)
/-- The error, its share of the loss, and its gradient. -/
def Err (s : Fin 2048) : Row := fun d => hat (X m c s) d * G m c d - T m c s d
def Q (s : Fin 2048) : EReal := Ideal.div (∑ d, Err m c s d * Err m c s d) wC
def De (s : Fin 2048) : Row := fun d => Err m c s d * wInv
/-- The cotangent of the normalized row, and the gradient of the residual. -/
def A (s : Fin 2048) : Row := fun d => De m c s d * G m c d
def Dx (s : Fin 2048) : Row := fun d => back (X m c s) (A m c s) d

abbrev row (t : Fin cfg0.N) (x : Fin 256) : Fin 2048 := rowOf N_0 t x

theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_8.index t = ![t.val, 0] :=
  (by decide +kernel : ∀ t : Fin grid0.N, _)

theorem ib0 (t : Fin cfg0.N) (x : Fin 256) (d : Fin 2048) : iblk m c 0 t (ix2 x d) = X m c (row t x) d := by
  refine Eq.trans ?_ (show V m c (Pipeline.arrRef spec0 0) (ix2 (row t x) d) = X m c (row t x) d by unfold X X0 Gate Y; entry_read; pointwise)
  blk_point [iblk, idx t, rowOf]
theorem ib1 (t : Fin cfg0.N) (d : Fin 2048) : iblk m c 1 t (ix2 0 d) = G m c d := by
  refine Eq.trans ?_ (show V m c (Pipeline.arrRef spec0 1) (ix2 0 d) = G m c d by unfold G; entry_read; pointwise)
  blk_point [iblk, idx t]
theorem ib2 (t : Fin cfg0.N) (x : Fin 256) (d : Fin 2048) : iblk m c 2 t (ix2 x d) = T m c (row t x) d := by
  refine Eq.trans ?_ (show V m c (Pipeline.arrRef spec0 2) (ix2 (row t x) d) = T m c (row t x) d by unfold T; entry_read; pointwise)
  blk_point [iblk, idx t, rowOf]
theorem ib3 (t : Fin cfg0.N) (x : Fin 256) (d : Fin 2048) : iblk m c 3 t (ix2 x d) = Y m c (row t x) d := by
  refine Eq.trans ?_ (show V m c (Pipeline.arrRef spec0 3) (ix2 (row t x) d) = Y m c (row t x) d by unfold Y; entry_read; pointwise)
  blk_point [iblk, idx t, rowOf]
theorem ib4 (t : Fin cfg0.N) (d : Fin 2048) : iblk m c 4 t (ix2 0 d) = Gate m c d := by
  unfold Gate
  blk_point [iblk, idx t]

theorem point5 (t : Fin cfg0.N) (x : Fin 256) (d : Fin 2048) :
    (outsAt0 m c t.val t.isLt).1 (ix2 x d) = Dx m c (row t x) d := by
  by_cases h : t.val % 8 = 0
  · rw [outsAt0_A m c t h]
    frame_out
    open_payloads
    pointwise
    simp only [ib0, ib1, ib2]
    rfl
  · rw [outsAt0_B m c t h]
    frame_out
    open_payloads
    pointwise
    simp only [ib0, ib1, ib2]
    rfl

theorem final5 : (dats m 0 c).arrAt 5 cfg0.N = fun i => Dx m c (i 0) (i 1) := by
  refine (dats m 0 c).arrAt_eq_of_covers 5 _ (by decide +kernel) fun t hf y => ?_
  have e1 : ((win0_5.blk t).view.emb y 1) = y 1 := Fin.ext (by blk_simp [idx t])
  have e0 : ((win0_5.blk t).view.emb y 0) = row t (y 0) := Fin.ext (by blk_simp [idx t]; rfl)
  show _ = Dx m c ((win0_5.blk t).view.emb y 0) ((win0_5.blk t).view.emb y 1)
  rw [e0, e1]
  blk_simp
  rw [after0_5]
  idx_vars y
  exact point5 m c t y0 y1

theorem point8 (t : Fin cfg0.N) (x : Fin 256) (d : Fin 2048) :
    (outsAt0 m c t.val t.isLt).2.2.2.1 (ix2 x d) = Dx m c (row t x) d * Gate m c d := by
  by_cases h : t.val % 8 = 0
  · rw [outsAt0_A m c t h]
    frame_out
    open_payloads
    pointwise
    simp only [ib0, ib1, ib2, ib4]
    rfl
  · rw [outsAt0_B m c t h]
    frame_out
    open_payloads
    pointwise
    simp only [ib0, ib1, ib2, ib4]
    rfl

theorem final8 : (dats m 0 c).arrAt 8 cfg0.N = fun i => Dx m c (i 0) (i 1) * Gate m c (i 1) := by
  refine (dats m 0 c).arrAt_eq_of_covers 8 _ (by decide +kernel) fun t hf y => ?_
  have e1 : ((win0_8.blk t).view.emb y 1) = y 1 := Fin.ext (by blk_simp [idx t])
  have e0 : ((win0_8.blk t).view.emb y 0) = row t (y 0) := Fin.ext (by blk_simp [idx t]; rfl)
  show _ = Dx m c ((win0_8.blk t).view.emb y 0) ((win0_8.blk t).view.emb y 1) * Gate m c ((win0_8.blk t).view.emb y 1)
  rw [e0, e1]
  blk_simp
  rw [after0_8]
  idx_vars y
  exact point8 m c t y0 y1

theorem final6 (hE : ∀ s d, Common.IsR (Err m c s d)) : (dats m 0 c).arrAt 6 cfg0.N = fun i => ∑ s, wHalf * Q m c s := by
  refine (dats m 0 c).arrAt_eq_of_after_last 6 t0_7 (by decide +kernel) _ fun j => ?_
  blk_simp
  idx_vars j
  obtain rfl : j0 = 0 := Subsingleton.elim _ _
  rw [after0_6]
  refine accum N_0 (fun n h d => (outsAt0 m c n h).2.1 (ix2 0 d)) (fun s d => wHalf * Q m c s) (fun t h d => ?_) (fun t h d => ?_) t0_7 rfl j1
  · show (outsAt0 m c t.val t.isLt).2.1 (ix2 0 d) = _
    rw [outsAt0_A m c t h]
    frame_out
    open_payloads
    pointwise
    simp only [ib0, ib1, ib2, Finset.univ_unique, Finset.sum_singleton]
    exact half_sum (fun k => Q m c (row t k)) fun k => mean_real (hE _)
  · show (outsAt0 m c t.val t.isLt).2.1 (ix2 0 d) = _
    rw [outsAt0_B m c t h]
    frame_out
    open_payloads
    pointwise
    simp only [ib0, ib1, ib2, Finset.univ_unique, Finset.sum_singleton]
    exact congrArg (_ + ·) (half_sum (fun k => Q m c (row t k)) fun k => mean_real (hE _))

theorem final7 : (dats m 0 c).arrAt 7 cfg0.N = fun i => ∑ s, De m c s (i 1) * hat (X m c s) (i 1) := by
  refine (dats m 0 c).arrAt_eq_of_after_last 7 t0_7 (by decide +kernel) _ fun j => ?_
  blk_simp
  idx_vars j
  obtain rfl : j0 = 0 := Subsingleton.elim _ _
  rw [after0_7]
  refine accum N_0 (fun n h d => (outsAt0 m c n h).2.2.1 (ix2 0 d)) (fun s d => De m c s d * hat (X m c s) d) (fun t h d => ?_) (fun t h d => ?_) t0_7 rfl j1
  · show (outsAt0 m c t.val t.isLt).2.2.1 (ix2 0 d) = _
    rw [outsAt0_A m c t h]
    frame_out
    open_payloads
    pointwise
    simp only [ib0, ib1, ib2]
    rfl
  · show (outsAt0 m c t.val t.isLt).2.2.1 (ix2 0 d) = _
    rw [outsAt0_B m c t h]
    frame_out
    open_payloads
    pointwise
    simp only [ib0, ib1, ib2]
    rfl

theorem final9 : (dats m 0 c).arrAt 9 cfg0.N = fun i => ∑ s, Dx m c s (i 1) * Y m c s (i 1) := by
  refine (dats m 0 c).arrAt_eq_of_after_last 9 t0_7 (by decide +kernel) _ fun j => ?_
  blk_simp
  idx_vars j
  obtain rfl : j0 = 0 := Subsingleton.elim _ _
  rw [after0_9]
  refine accum N_0 (fun n h d => (outsAt0 m c n h).2.2.2.2 (ix2 0 d)) (fun s d => Dx m c s d * Y m c s d) (fun t h d => ?_) (fun t h d => ?_) t0_7 rfl j1
  · show (outsAt0 m c t.val t.isLt).2.2.2.2 (ix2 0 d) = _
    rw [outsAt0_A m c t h]
    frame_out
    open_payloads
    pointwise
    simp only [ib0, ib1, ib2, ib3]
    rfl
  · show (outsAt0 m c t.val t.isLt).2.2.2.2 (ix2 0 d) = _
    rw [outsAt0_B m c t h]
    frame_out
    open_payloads
    pointwise
    simp only [ib0, ib1, ib2, ib3]
    rfl

end Cert.LossIdeal.Hand

end
-- ==== Proof.LossRefVal.lean ====
module

public import proofs.«01_k».proof.Proof.Gen.LossRefIdeal.Run
public import proofs.«01_k».proof.Proof.NormMath
public import proofs.«01_k».proof.Proof.NormCommon

@[expose] public section

set_option maxRecDepth 16384

noncomputable section

open Idealize.ShloMosaic Idealize.ShloMosaic.TcCoe Idealize.SL.Sem

namespace Cert.LossRefIdeal.Hand

open Cert.LossRefIdeal Cert.LossRefIdeal.Gen Cert.LossRefIdeal.Value Cert.Norm

variable (m : (ℓ : Loc nD τ sig) → Buf (Elt Ideal) ℓ) (c : Dev nD)

/-- The arguments, by position and channel; the normalized rows are the residual's after the gated branch. -/
def X0 (s : Fin 2048) : Row := fun d => m ((c.tc : Thread nD τ).loc main_arg0) (ix3 0 s d)
def Y (s : Fin 2048) : Row := fun d => m ((c.tc : Thread nD τ).loc main_arg1) (ix3 0 s d)
def Gate : Row := fun d => m ((c.tc : Thread nD τ).loc main_arg2) (ix2 0 d)
def X (s : Fin 2048) : Row := fun d => X0 m c s d + Gate m c d * Y m c s d
def G : Row := fun d => m ((c.tc : Thread nD τ).loc main_arg3) (ix1 d)
def T (s : Fin 2048) : Row := fun d => m ((c.tc : Thread nD τ).loc main_arg4) (ix3 0 s d)
/-- The error, its share of the loss, and its gradient. -/
def Err (s : Fin 2048) : Row := fun d => hat (X m c s) d * G m c d - T m c s d
def Q (s : Fin 2048) : EReal := Ideal.div (∑ d, Err m c s d * Err m c s d) wC
def De (s : Fin 2048) : Row := fun d => Err m c s d * wInv
/-- The cotangent of the normalized row, and the gradient of the residual. -/
def A (s : Fin 2048) : Row := fun d => De m c s d * G m c d
def Dx (s : Fin 2048) : Row := fun d => back (X m c s) (A m c s) d

variable (hX : ∀ c s d, Common.IsR (X m c s d)) (hE : ∀ c s d, Common.IsR (Err m c s d)) (hG : ∀ c d, Common.IsR (G m c d))
include hX hE hG

theorem cot (s : Fin 2048) : A m c s = fun d => Ideal.div wHalf wC * (wTwo * Err m c s d) * G m c d :=
  funext fun d => congrArg (· * G m c d) (half_square (hE c s d)).symm

/-- The gradient of the residual, as the reference adds it up. -/
theorem residual (s d : Fin 2048) :
    Ideal.div wHalf wC * (wTwo * Err m c s d) * G m c d * Ideal.rsqrt (den (X m c s)) + X m c s d * pull (X m c s) (fun d => Ideal.div wHalf wC * (wTwo * Err m c s d) * G m c d)
      + pull (X m c s) (fun d => Ideal.div wHalf wC * (wTwo * Err m c s d) * G m c d) * X m c s d = Dx m c s d := by
  refine Eq.trans ?_ (back_eq (hX c s) (A := A m c s) (fun d => Common.IsR.mul (Common.IsR.mul (hE c s d) ⟨_, wInv_eq⟩) (hG c d)) d)
  rw [cot m c hX hE hG s]

variable (ρ : Dev nD → PrngReg)

theorem run :
    θ_run defs (onTc (τ := τ) (main (F := Ideal))) ⟨m, fun _ => 0, ρ⟩ fun r => ∀ c : Dev nD,
    (r.2.mem ((c.tc : Thread nD τ).loc main_v63) = (fun i => Dx m c (i 0) (i 1) : S2048x2048.Idx → EReal)
    ∧ r.2.mem ((c.tc : Thread nD τ).loc main_v64) = (fun i => ∑ s, wHalf * Q m c s : S1x128.Idx → EReal)
    ∧ r.2.mem ((c.tc : Thread nD τ).loc main_v65) = (fun i => ∑ s, De m c s (i 1) * hat (X m c s) (i 1) : S1x2048.Idx → EReal)
    ∧ r.2.mem ((c.tc : Thread nD τ).loc main_v67) = (fun i => Dx m c (i 0) (i 1) * Gate m c (i 1) : S2048x2048.Idx → EReal)
    ∧ r.2.mem ((c.tc : Thread nD τ).loc main_v62) = (fun i => ∑ s, Dx m c s (i 1) * Y m c s (i 1) : S1x2048.Idx → EReal))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨o0, o1, o2, o3, o4, k⟩ := h c
  refine ⟨⟨o0.trans ?_, o1.trans ?_, o2.trans ?_, o3.trans ?_, o4.trans ?_⟩, k⟩
  all_goals clear o0 o1 o2 o3 o4 k h
  · funext i; idx_vars i
    unfold res_main_v63
    clean_types
    pointwise
    simp only [Finset.univ_unique, Finset.sum_singleton]
    exact residual m c hX hE hG i0 i1
  · funext i; idx_vars i
    clean_types
    pointwise
    simp only [Finset.univ_unique, Finset.sum_singleton]
    exact half_sum (Q m c) fun s => mean_real (hE c s)
  · funext i; idx_vars i
    clean_types
    pointwise
    simp only [Finset.univ_unique, Finset.sum_singleton]
    exact Finset.sum_congr rfl fun s _ => (mul_comm _ _).trans (congrArg (· * hat (X m c s) i1) (half_square (hE c s i1)))
  · funext i; idx_vars i
    unfold res_main_v67
    clean_types
    pointwise
    simp only [Finset.univ_unique, Finset.sum_singleton]
    exact (congrArg (Gate m c i1 * ·) (residual m c hX hE hG i0 i1)).trans (mul_comm _ _)
  · funext i; idx_vars i
    unfold res_main_v62
    clean_types
    pointwise
    simp only [Finset.univ_unique, Finset.sum_singleton]
    exact Finset.sum_congr rfl fun s _ => congrArg (· * Y m c s i1) (residual m c hX hE hG s i1)

end Cert.LossRefIdeal.Hand

end
-- ==== Proof.LossClaim.lean ====
module

public import proofs.«01_k».proof.Defs
public import proofs.«01_k».proof.Proof.LossVal
public import proofs.«01_k».proof.Proof.LossRefVal

/-! The loss and its gradients, with the gated residual under it: both programs end at the same five functions of the arguments. -/

@[expose] public section

set_option maxRecDepth 16384

noncomputable section

open Idealize.ShloMosaic Idealize.ShloMosaic.TcCoe Idealize.SL.Sem

namespace Cert.Loss

open Cert.Common

/-- What the printed precondition states of its broadcasts. -/
instance preFacts : Cert.Pre_loss_finite.Facts := ⟨by decide, by decide, by decide, by decide⟩

section
open Cert.LossIdeal
variable (m : (ℓ : Loc nD τ sig) → Buf (Elt Ideal) ℓ) (c : Dev nD)
def oX : S2048x2048.Idx → EReal := fun i => Hand.Dx m c (i 0) (i 1)
def oL : S1x128.Idx → EReal := fun _ => ∑ s, Norm.wHalf * Hand.Q m c s
def oG : S1x2048.Idx → EReal := fun i => ∑ s, Hand.De m c s (i 1) * Norm.hat (Hand.X m c s) (i 1)
def oY : S2048x2048.Idx → EReal := fun i => Hand.Dx m c (i 0) (i 1) * Hand.Gate m c (i 1)
def oGate : S1x2048.Idx → EReal := fun i => ∑ s, Hand.Dx m c s (i 1) * Hand.Y m c s (i 1)

theorem real (hpre : Cert.Pre_LossIdeal_loss_finite m) :
    (∀ s d, IsR (Hand.X m c s d)) ∧ (∀ s d, IsR (Hand.Err m c s d)) ∧ ∀ d, IsR (Hand.G m c d) :=
  have r0 := real_entries _ _ (hpre c).1
  have r1 := real_entries _ _ (hpre c).2.1
  have r2 := real_entries _ _ (hpre c).2.2.1
  have r3 := real_entries _ _ (hpre c).2.2.2.1
  have r4 := real_entries _ _ (hpre c).2.2.2.2
  have rX : ∀ s d, IsR (Hand.X m c s d) := fun _ _ => IsR.add (r0 _) (IsR.mul (r2 _) (r1 _))
  ⟨rX, fun s d => Norm.IsR.sub (IsR.mul (Norm.hat_real (rX s) d) (r3 _)) (r4 _), fun _ => r3 _⟩
end

theorem claim : Cert.algebraic_LossIdeal_LossRefIdeal_pre_loss_finite (hLossIdeal := Cert.LossIdeal.Gen.facts) (hLossRefIdeal := Cert.LossRefIdeal.Gen.facts) (hPre_loss_finite := preFacts) := by
  intro m g m' g' hpre hagree
  have eX0 : ∀ c, Cert.LossRefIdeal.Hand.X0 m' c = Cert.LossIdeal.Hand.X0 m c := fun c => by
    unfold Cert.LossRefIdeal.Hand.X0; rw [(hagree c).1]; rfl
  have eY : ∀ c, Cert.LossRefIdeal.Hand.Y m' c = Cert.LossIdeal.Hand.Y m c := fun c => by
    unfold Cert.LossRefIdeal.Hand.Y; rw [(hagree c).2.1]; rfl
  have eGate : ∀ c, Cert.LossRefIdeal.Hand.Gate m' c = Cert.LossIdeal.Hand.Gate m c := fun c => by
    unfold Cert.LossRefIdeal.Hand.Gate; rw [(hagree c).2.2.1]; rfl
  have eG : ∀ c, Cert.LossRefIdeal.Hand.G m' c = Cert.LossIdeal.Hand.G m c := fun c => by
    unfold Cert.LossRefIdeal.Hand.G; rw [(hagree c).2.2.2.1]; rfl
  have eT : ∀ c, Cert.LossRefIdeal.Hand.T m' c = Cert.LossIdeal.Hand.T m c := fun c => by
    unfold Cert.LossRefIdeal.Hand.T; rw [(hagree c).2.2.2.2]; rfl
  have eX : ∀ c, Cert.LossRefIdeal.Hand.X m' c = Cert.LossIdeal.Hand.X m c := fun c => by
    unfold Cert.LossRefIdeal.Hand.X Cert.LossIdeal.Hand.X; rw [eX0, eY, eGate]
  have eErr : ∀ c, Cert.LossRefIdeal.Hand.Err m' c = Cert.LossIdeal.Hand.Err m c := fun c => by
    unfold Cert.LossRefIdeal.Hand.Err Cert.LossIdeal.Hand.Err; rw [eX, eG, eT]
  have eQ : ∀ c, Cert.LossRefIdeal.Hand.Q m' c = Cert.LossIdeal.Hand.Q m c := fun c => by
    unfold Cert.LossRefIdeal.Hand.Q Cert.LossIdeal.Hand.Q; rw [eErr]
  have eDe : ∀ c, Cert.LossRefIdeal.Hand.De m' c = Cert.LossIdeal.Hand.De m c := fun c => by
    unfold Cert.LossRefIdeal.Hand.De Cert.LossIdeal.Hand.De; rw [eErr]
  have eA : ∀ c, Cert.LossRefIdeal.Hand.A m' c = Cert.LossIdeal.Hand.A m c := fun c => by
    unfold Cert.LossRefIdeal.Hand.A Cert.LossIdeal.Hand.A; rw [eDe, eG]
  have eDx : ∀ c, Cert.LossRefIdeal.Hand.Dx m' c = Cert.LossIdeal.Hand.Dx m c := fun c => by
    unfold Cert.LossRefIdeal.Hand.Dx Cert.LossIdeal.Hand.Dx; rw [eX, eA]
  refine ⟨oX m, oL m, oG m, oY m, oGate m,
    (θ_run _ _ _).mono (fun r h c => ?_) (Cert.LossIdeal.Value.run_blocks m g),
    (θ_run _ _ _).mono (fun r h c => ?_) (Cert.LossRefIdeal.Hand.run m' (fun c s d => eX c ▸ (real m c hpre).1 s d)
      (fun c s d => eErr c ▸ (real m c hpre).2.1 s d) (fun c d => eG c ▸ (real m c hpre).2.2 d) g')⟩
  · obtain ⟨o0, o1, o2, o3, o4, k⟩ := h c
    exact ⟨o0.trans (Cert.LossIdeal.Hand.final5 m c), o1.trans (Cert.LossIdeal.Hand.final6 m c (real m c hpre).2.1),
      o2.trans (Cert.LossIdeal.Hand.final7 m c), o3.trans (Cert.LossIdeal.Hand.final8 m c), o4.trans (Cert.LossIdeal.Hand.final9 m c), k⟩
  · obtain ⟨⟨o0, o1, o2, o3, o4⟩, k⟩ := h c
    simp only [eX, eQ, eDe, eDx, eGate, eY] at o0 o1 o2 o3 o4
    exact ⟨o0, o1, o2, o3, o4, k⟩

end Cert.Loss

end
-- ==== Proof.ScFwdVal.lean ====
module

public import proofs.«01_k».proof.Proof.Gen.ScFwdIdeal.Value
public import proofs.«01_k».proof.Proof.ScMath
public import Idealize.ShloMosaic.Lib.Pipeline.ValueKit

@[expose] public section

set_option maxRecDepth 16384

noncomputable section

open Idealize.ShloMosaic Idealize.ShloMosaic.TcCoe Idealize.SL.Sem

namespace Cert.ScFwdIdeal.Hand

open Cert.ScFwdIdeal Cert.ScFwdIdeal.Gen

open Cert.Sc

variable (m : (ℓ : Loc nD τ sig) → Buf (Elt Ideal) ℓ) (c : Dev nD)

/-- Column `e` of quarter `j` of the projection, and its taps. -/
def pr (j : Fin 4) (e : Fin 4096) : Col := quarter (m ((c : Thread nD τ).loc main_arg0)) j e
def wt (e : Fin 4096) : Fin 3 → EReal := taps (m ((c : Thread nD τ).loc main_arg1)) e
/-- The gated short convolution at a position of a column. -/
def out (s : Fin 2048) (e : Fin 4096) : EReal :=
  pr m c 0 e s * conv (wt m c e) (fun s => pr m c 1 e s * pr m c 2 e s) s * (pr m c 3 e s * Ideal.logistic (pr m c 3 e s))

theorem idx : ∀ t : Fin cfg0.N, win0_0.index t = ![0, 0, t.val] ∧ win0_1.index t = ![1, 0, t.val] ∧
    win0_2.index t = ![2, 0, t.val] ∧ win0_3.index t = ![3, 0, t.val] ∧ win0_4.index t = ![0, t.val] ∧
    win0_5.index t = ![0, t.val] :=
  (by decide +kernel : ∀ t : Fin grid0.N, _)

theorem packed (j : Fin 4) (s : Fin 2048) (e : Fin 4096) : V m c main_v3 (ix3 j s e) = pr m c j e s := by
  unfold pr quarter
  entry_read
  pointwise
theorem wRow (k : Fin 3) (e : Fin 4096) : V m c main_v4 (ix2 k e) = wt m c e k := by
  unfold wt taps
  entry_read
  pointwise

def col (t : Fin cfg0.N) (x : Fin 256) : Fin 4096 :=
  ⟨t.val * 256 + x.val, by have : t.val < 16 := t.isLt; omega⟩

theorem ib0 (t : Fin cfg0.N) (s : Fin 2048) (x : Fin 256) : iblk m c 0 t (ix3 0 s x) = pr m c 0 (col t x) s := by
  rw [← packed]
  blk_point [iblk, idx t, col]
theorem ib1 (t : Fin cfg0.N) (s : Fin 2048) (x : Fin 256) : iblk m c 1 t (ix3 0 s x) = pr m c 1 (col t x) s := by
  rw [← packed]
  blk_point [iblk, idx t, col]
theorem ib2 (t : Fin cfg0.N) (s : Fin 2048) (x : Fin 256) : iblk m c 2 t (ix3 0 s x) = pr m c 2 (col t x) s := by
  rw [← packed]
  blk_point [iblk, idx t, col]
theorem ib3 (t : Fin cfg0.N) (s : Fin 2048) (x : Fin 256) : iblk m c 3 t (ix3 0 s x) = pr m c 3 (col t x) s := by
  rw [← packed]
  blk_point [iblk, idx t, col]
theorem ib4 (t : Fin cfg0.N) (k : Fin 3) (x : Fin 256) : iblk m c 4 t (ix2 k x) = wt m c (col t x) k := by
  rw [← wRow]
  blk_point [iblk, idx t, col]

theorem final5 : (dats m 0 c).arrAt 5 cfg0.N = fun i => out m c (i 0) (i 1) := by
  refine (dats m 0 c).arrAt_eq_of_covers 5 _ (by decide +kernel) fun t hf y => ?_
  have e0 : ((win0_5.blk t).view.emb y 0) = y 0 := Fin.ext (by blk_simp [idx t])
  have e1 : ((win0_5.blk t).view.emb y 1) = col t (y 1) := Fin.ext (by blk_simp [idx t]; rfl)
  show _ = out m c ((win0_5.blk t).view.emb y 0) ((win0_5.blk t).view.emb y 1)
  rw [e0, e1]
  blk_simp
  rw [after0_5]
  idx_vars y
  frame_out
  open_payloads
  pointwise
  simp only [ib0, ib1, ib2, ib3, ib4, out, conv, dn_two, dn_one]

end Cert.ScFwdIdeal.Hand

end
-- ==== Proof.ScFwdRefVal.lean ====
module

public import proofs.«01_k».proof.Proof.Gen.ScFwdRefIdeal.Run
public import proofs.«01_k».proof.Proof.ScMath
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.ScFwdRefIdeal.Hand

open Cert.ScFwdRefIdeal Cert.ScFwdRefIdeal.Gen Cert.ScFwdRefIdeal.Value

open Cert.Sc

variable (m : (ℓ : Loc nD τ sig) → Buf (Elt Ideal) ℓ)

def pr (c : Dev nD) (j : Fin 4) (e : Fin 4096) : Col := quarter (m ((c : Thread nD τ).loc main_arg0)) j e
def wt (c : Dev nD) (e : Fin 4096) : Fin 3 → EReal := taps (m ((c : Thread nD τ).loc main_arg1)) e

section Reads
variable (c : Dev nD) (e : Fin 4096)
theorem r0 (s : Fin 2048) (n : Nat) (h : n < 16384) (hn : n = e.val) :
    m ((c : Thread nD τ).loc main_arg0) (ix3 0 s ⟨n, h⟩) = pr m c 0 e s := by
  subst hn; unfold pr quarter; congr 2; exact Fin.ext (Nat.zero_add _).symm
theorem r1 (s : Fin 2048) (n : Nat) (h : n < 16384) (hn : n = 4096 + e.val) :
    m ((c : Thread nD τ).loc main_arg0) (ix3 0 s ⟨n, h⟩) = pr m c 1 e s := by subst hn; rfl
theorem r2 (s : Fin 2048) (n : Nat) (h : n < 16384) (hn : n = 8192 + e.val) :
    m ((c : Thread nD τ).loc main_arg0) (ix3 0 s ⟨n, h⟩) = pr m c 2 e s := by subst hn; rfl
theorem r3 (s : Fin 2048) (n : Nat) (h : n < 16384) (hn : n = 12288 + e.val) :
    m ((c : Thread nD τ).loc main_arg0) (ix3 0 s ⟨n, h⟩) = pr m c 3 e s := by subst hn; rfl
theorem rwt (k : Fin 3) : m ((c : Thread nD τ).loc main_arg1) (ix3 0 k e) = wt m c e k := rfl

theorem rwt' (k : Fin 3) (n : Nat) (h : n < 4096) (hn : n = e.val) :
    m ((c : Thread nD τ).loc main_arg1) (ix3 0 k ⟨n, h⟩) = wt m c e k := by subst hn; rfl

end Reads
theorem rl (x : EReal) : Ideal.div 1 (1 + Ideal.exp (-x)) = Ideal.logistic x := rfl

variable (ρ : Dev nD → PrngReg)

theorem run : θ_run defs (onTc (τ := τ) (main (F := Ideal))) ⟨m, fun _ => 0, ρ⟩ fun r => ∀ c : Dev nD,
    r.2.mem ((c.tc : Thread nD τ).loc main_v34) = (fun i => pr m c 0 (i 1) (i 0) * conv (wt m c (i 1)) (fun s => pr m c 1 (i 1) s * pr m c 2 (i 1) s) (i 0)
        * (pr m c 3 (i 1) (i 0) * Ideal.logistic (pr m c 3 (i 1) (i 0))) : S2048x4096.Idx → EReal)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  clear h
  funext i; idx_vars i
  clean_types
  pointwise
  simp (disch := omega) only [r0 m c i1, r1 m c i1, r2 m c i1, r3 m c i1, rwt' m c i1, rl]
  try simp only [rwt]
  rw [conv_eq]
  unfold conv'
  simp only [dn_two', dn_one']

end Cert.ScFwdRefIdeal.Hand

end
-- ==== Proof.ScFwdClaim.lean ====
module

public import proofs.«01_k».proof.Defs
public import proofs.«01_k».proof.Proof.ScFwdVal
public import proofs.«01_k».proof.Proof.ScFwdRefVal

@[expose] public section

set_option maxRecDepth 16384

noncomputable section

open Idealize.ShloMosaic Idealize.ShloMosaic.TcCoe Idealize.SL.Sem

namespace Cert.ScFwd

open Cert.ScFwdIdeal in
def oY (m : (ℓ : Loc nD τ sig) → Buf (Elt Ideal) ℓ) (c : Dev nD) : S2048x4096.Idx → EReal := fun i => Hand.out m c (i 0) (i 1)

theorem claim : Cert.algebraic_ScFwdIdeal_ScFwdRefIdeal (hScFwdIdeal := Cert.ScFwdIdeal.Gen.facts) (hScFwdRefIdeal := Cert.ScFwdRefIdeal.Gen.facts) := by
  intro m g m' g' _ hagree
  refine ⟨oY m, (θ_run _ _ _).mono (fun r h c => ⟨(h c).1.trans (Cert.ScFwdIdeal.Hand.final5 m c), (h c).2⟩) (Cert.ScFwdIdeal.Value.run_blocks m g),
    (θ_run _ _ _).mono (fun r h c => ⟨(h c).1.trans ?_, (h c).2⟩) (Cert.ScFwdRefIdeal.Hand.run m' g')⟩
  obtain ⟨a0, a1⟩ := hagree c
  unfold Cert.ScFwdRefIdeal.Hand.pr Cert.ScFwdRefIdeal.Hand.wt
  rw [a0, a1]
  rfl

end Cert.ScFwd

end
-- ==== Proof.NormModVal.lean ====
module

public import proofs.«01_k».proof.Proof.Gen.NormModIdeal.Value
public import proofs.«01_k».proof.Proof.NormMath
public import Idealize.ShloMosaic.Lib.Pipeline.ValueKit

@[expose] public section

set_option maxRecDepth 16384

noncomputable section

open Idealize.ShloMosaic Idealize.ShloMosaic.TcCoe Idealize.SL.Sem

namespace Cert.NormModIdeal.Hand

open Cert.NormModIdeal Cert.NormModIdeal.Gen

open Cert.Norm

variable (m : (ℓ : Loc nD τ sig) → Buf (Elt Ideal) ℓ) (c : Dev nD)

/-- The arguments, by position and channel. -/
def X (s : Fin 2048) : Row := fun d => m ((c : Thread nD τ).loc main_arg0) (ix3 0 s d)
def G : Row := fun d => m ((c : Thread nD τ).loc main_arg1) (ix1 d)
def Sc : Row := fun d => m ((c : Thread nD τ).loc main_arg2) (ix2 0 d)
def Sh : Row := fun d => m ((c : Thread nD τ).loc main_arg3) (ix2 0 d)

abbrev row (t : Fin cfg0.N) (x : Fin 256) : Fin 2048 := rowOf N_0 t x

theorem idx : ∀ t : Fin cfg0.N, win0_0.index t = ![t.val, 0] ∧ win0_1.index t = ![0, 0] ∧ win0_2.index t = ![0, 0] ∧
    win0_3.index t = ![0, 0] ∧ win0_4.index t = ![t.val, 0] :=
  (by decide +kernel : ∀ t : Fin grid0.N, _)

theorem ib0 (t : Fin cfg0.N) (x : Fin 256) (d : Fin 2048) : iblk m c 0 t (ix2 x d) = X m c (row t x) d := by
  refine Eq.trans ?_ (show V m c (Pipeline.arrRef spec0 0) (ix2 (row t x) d) = X m c (row t x) d by unfold X; entry_read; pointwise)
  blk_point [iblk, idx t, rowOf]
theorem ib1 (t : Fin cfg0.N) (d : Fin 2048) : iblk m c 1 t (ix2 0 d) = G m c d := by
  refine Eq.trans ?_ (show V m c (Pipeline.arrRef spec0 1) (ix2 0 d) = G m c d by unfold G; entry_read; pointwise)
  blk_point [iblk, idx t]
theorem ib2 (t : Fin cfg0.N) (d : Fin 2048) : iblk m c 2 t (ix2 0 d) = Sc m c d := by
  unfold Sc
  blk_point [iblk, idx t]
theorem ib3 (t : Fin cfg0.N) (d : Fin 2048) : iblk m c 3 t (ix2 0 d) = Sh m c d := by
  unfold Sh
  blk_point [iblk, idx t]

theorem final4 : (dats m 0 c).arrAt 4 cfg0.N
    = fun i => hat (X m c (i 0)) (i 1) * G m c (i 1) * (1 + Sc m c (i 1)) + Sh m c (i 1) := by
  refine (dats m 0 c).arrAt_eq_of_covers 4 _ (by decide +kernel) fun t hf y => ?_
  have e1 : ((win0_4.blk t).view.emb y 1) = y 1 := Fin.ext (by blk_simp [idx t])
  have e0 : ((win0_4.blk t).view.emb y 0) = row t (y 0) := Fin.ext (by blk_simp [idx t]; rfl)
  show _ = hat (X m c ((win0_4.blk t).view.emb y 0)) ((win0_4.blk t).view.emb y 1) * G m c ((win0_4.blk t).view.emb y 1)
    * (1 + Sc m c ((win0_4.blk t).view.emb y 1)) + Sh m c ((win0_4.blk t).view.emb y 1)
  rw [e0, e1]
  blk_simp
  rw [after0_4]
  idx_vars y
  frame_out
  open_payloads
  pointwise
  simp only [ib0, ib1, ib2, ib3]
  rfl

end Cert.NormModIdeal.Hand

end
-- ==== Proof.NormModClaim.lean ====
module

public import proofs.«01_k».proof.Defs
public import proofs.«01_k».proof.Proof.NormModVal
public import proofs.«01_k».proof.Proof.Gen.NormModRefIdeal.Run
public import Idealize.ShloMosaic.Lib.Tactic.CleanTypes

@[expose] public section

set_option maxRecDepth 16384

noncomputable section

open Idealize.ShloMosaic Idealize.ShloMosaic.TcCoe Idealize.SL.Sem

namespace Cert.NormMod

open Cert.NormModIdeal in
def oH (m : (ℓ : Loc nD τ sig) → Buf (Elt Ideal) ℓ) (c : Dev nD) : S2048x2048.Idx → EReal := fun i =>
  Norm.hat (Hand.X m c (i 0)) (i 1) * Hand.G m c (i 1) * (1 + Hand.Sc m c (i 1)) + Hand.Sh m c (i 1)

theorem claim : Cert.algebraic_NormModIdeal_NormModRefIdeal (hNormModIdeal := Cert.NormModIdeal.Gen.facts) (hNormModRefIdeal := Cert.NormModRefIdeal.Gen.facts) := by
  intro m g m' g' _ hagree
  refine ⟨oH m, (θ_run _ _ _).mono (fun r h c => ⟨(h c).1.trans (Cert.NormModIdeal.Hand.final4 m c), (h c).2⟩) (Cert.NormModIdeal.Value.run_blocks m g),
    (θ_run _ _ _).mono (fun r h c => ⟨(h c).1.trans ?_, (h c).2⟩) (Cert.NormModRefIdeal.Value.run m' g')⟩
  obtain ⟨a0, a1, a2, a3⟩ := hagree c
  rw [a0, a1, a2, a3]
  clear h
  funext i; idx_vars i
  clean_types
  pointwise
  rfl

end Cert.NormMod

end
-- ==== Proof.AdaModVal.lean ====
module

public import proofs.«01_k».proof.Proof.Gen.AdaModIdeal.Value
public import Idealize.ShloMosaic.Lib.Pipeline.ValueKit

@[expose] public section

set_option maxRecDepth 16384

noncomputable section

open Idealize.ShloMosaic Idealize.ShloMosaic.TcCoe Idealize.SL.Sem

namespace Cert.AdaModIdeal.Hand

open Cert.AdaModIdeal Cert.AdaModIdeal.Gen

variable (m : (ℓ : Loc nD τ sig) → Buf (Elt Ideal) ℓ) (c : Dev nD)

/-- The arguments, by their positions. -/
def C (b : Fin 8) (d : Fin 2048) : EReal := m ((c : Thread nD τ).loc main_arg0) (ix2 b d)
def W (l : Fin 2) (d : Fin 2048) (f : Fin 768) : EReal := m ((c : Thread nD τ).loc main_arg1) (ix3 l d f)
def B (l : Fin 2) (f : Fin 768) : EReal := m ((c : Thread nD τ).loc main_arg2) (ix2 l f)
/-- What the modulation is at a layer, a sequence and a column. -/
def out (l : Fin 2) (b : Fin 8) (f : Fin 768) : EReal :=
  (∑ d : Fin 2048, C m c b d * Ideal.logistic (C m c b d) * W m c l d f) + B m c l f

def lay (t : Fin cfg0.N) : Fin 2 := ⟨t.val, t.isLt⟩

theorem idx : ∀ t : Fin cfg0.N, win0_0.index t = ![0, 0] ∧ win0_1.index t = ![t.val, 0, 0] ∧ win0_2.index t = ![t.val, 0, 0] ∧
    win0_3.index t = ![t.val, 0, 0] :=
  (by decide +kernel : ∀ t : Fin grid0.N, _)

theorem ib0 (t : Fin cfg0.N) (b : Fin 8) (d : Fin 2048) : iblk m c 0 t (ix2 b d) = C m c b d := by
  unfold C
  blk_point [iblk, idx t]
theorem ib1 (t : Fin cfg0.N) (d : Fin 2048) (f : Fin 768) : iblk m c 1 t (ix3 0 d f) = W m c (lay t) d f := by
  unfold W
  blk_point [iblk, idx t, lay]
theorem ib2 (t : Fin cfg0.N) (f : Fin 768) : iblk m c 2 t (ix3 0 0 f) = B m c (lay t) f := by
  refine Eq.trans ?_ (show V m c (Pipeline.arrRef spec0 2) (ix3 (lay t) 0 f) = B m c (lay t) f by unfold B; entry_read; pointwise)
  blk_point [iblk, idx t, lay]

theorem final3 : (dats m 0 c).arrAt 3 cfg0.N = fun i => out m c (i 0) (i 1) (i 2) := by
  refine (dats m 0 c).arrAt_eq_of_covers 3 _ (by decide +kernel) fun t hf y => ?_
  have e0 : ((win0_3.blk t).view.emb y 0) = lay t := Fin.ext (by
    have : (y 0).val = 0 := Nat.lt_one_iff.mp (y 0).isLt
    blk_simp [idx t, lay, this])
  have e1 : ((win0_3.blk t).view.emb y 1) = y 1 := Fin.ext (by blk_simp [idx t])
  have e2 : ((win0_3.blk t).view.emb y 2) = y 2 := Fin.ext (by blk_simp [idx t])
  show _ = out m c ((win0_3.blk t).view.emb y 0) ((win0_3.blk t).view.emb y 1) ((win0_3.blk t).view.emb y 2)
  rw [e0, e1, e2]
  blk_simp
  rw [after0_3]
  idx_vars y
  obtain rfl : y0 = 0 := Subsingleton.elim _ _
  frame_out
  open_payloads
  pointwise
  simp only [ib0, ib1, ib2]
  rfl

end Cert.AdaModIdeal.Hand

end
-- ==== Proof.AdaModClaim.lean ====
module

public import proofs.«01_k».proof.Defs
public import proofs.«01_k».proof.Proof.AdaModVal
public import proofs.«01_k».proof.Proof.Gen.AdaModRefIdeal.Run
public import Idealize.ShloMosaic.Lib.Tactic.CleanTypes

@[expose] public section

set_option maxRecDepth 16384

noncomputable section

open Idealize.ShloMosaic Idealize.ShloMosaic.TcCoe Idealize.SL.Sem

namespace Cert.AdaMod

open Cert.AdaModIdeal in
def oM (m : (ℓ : Loc nD τ sig) → Buf (Elt Ideal) ℓ) (c : Dev nD) : S2x8x768.Idx → EReal := fun i => Hand.out m c (i 0) (i 1) (i 2)

theorem claim : Cert.algebraic_AdaModIdeal_AdaModRefIdeal (hAdaModIdeal := Cert.AdaModIdeal.Gen.facts) (hAdaModRefIdeal := Cert.AdaModRefIdeal.Gen.facts) := by
  intro m g m' g' _ hagree
  refine ⟨oM m, (θ_run _ _ _).mono (fun r h c => ⟨(h c).1.trans (Cert.AdaModIdeal.Hand.final3 m c), (h c).2⟩) (Cert.AdaModIdeal.Value.run_blocks m g),
    (θ_run _ _ _).mono (fun r h c => ⟨(h c).1.trans ?_, (h c).2⟩) (Cert.AdaModRefIdeal.Value.run m' g')⟩
  obtain ⟨a0, a1, a2⟩ := hagree c
  rw [a0, a1, a2]
  clear h
  funext i; idx_vars i
  clean_types
  pointwise
  fin_cases i0
  · rfl
  · rfl

end Cert.AdaMod

end
-- ==== Proof.MmOutVal.lean ====
module

public import proofs.«01_k».proof.Proof.Gen.MmOutIdeal.Value
public import Idealize.ShloMosaic.Lib.Pipeline.ValueKit

@[expose] public section

set_option maxRecDepth 16384

noncomputable section

open Idealize.ShloMosaic Idealize.ShloMosaic.TcCoe Idealize.SL.Sem

namespace Cert.MmOutIdeal.Hand

open Cert.MmOutIdeal Cert.MmOutIdeal.Gen

variable (m : (ℓ : Loc nD τ sig) → Buf (Elt Ideal) ℓ) (c : Dev nD)

/-- The arguments, by their positions. -/
def A (s : Fin 2048) (e : Fin 4096) : EReal := m ((c : Thread nD τ).loc main_arg0) (ix3 0 s e)
def W (e : Fin 4096) (d : Fin 2048) : EReal := m ((c : Thread nD τ).loc main_arg1) (ix2 e d)
def X (s d : Fin 2048) : EReal := m ((c : Thread nD τ).loc main_arg2) (ix3 0 s d)
def Gate (d : Fin 2048) : EReal := m ((c : Thread nD τ).loc main_arg3) (ix2 0 d)
def Y (s d : Fin 2048) : EReal := ∑ e : Fin 4096, A m c s e * W m c e d
def Xo (s d : Fin 2048) : EReal := X m c s d + Gate m c d * Y m c s d

theorem idx : ∀ t : Fin cfg0.N, win0_0.index t = ![0, t.val % 2] ∧ win0_1.index t = ![t.val % 2, t.val / 2] ∧
    win0_2.index t = ![0, t.val / 2] ∧ win0_3.index t = ![0, t.val / 2] ∧ win0_4.index t = ![0, t.val / 2] ∧
    win0_5.index t = ![0, t.val / 2] :=
  (by decide +kernel : ∀ t : Fin grid0.N, _)

def col (t : Fin cfg0.N) (x : Fin 512) : Fin 2048 :=
  ⟨t.val / 2 * 512 + x.val, by have : t.val < 8 := t.isLt; omega⟩
def mid (n : ℕ) (e : Fin 2048) : Fin 4096 := ⟨n % 2 * 2048 + e.val, by omega⟩

theorem ib0 (t : Fin cfg0.N) (s e : Fin 2048) : iblk m c 0 t (ix2 s e) = A m c s (mid t.val e) := by
  refine Eq.trans ?_ (show V m c (Pipeline.arrRef spec0 0) (ix2 s (mid t.val e)) = A m c s (mid t.val e) by unfold A; entry_read; pointwise)
  blk_point [iblk, idx t, mid]
theorem ib1 (t : Fin cfg0.N) (e : Fin 2048) (x : Fin 512) : iblk m c 1 t (ix2 e x) = W m c (mid t.val e) (col t x) := by
  refine Eq.trans ?_ (show V m c (Pipeline.arrRef spec0 1) (ix2 (mid t.val e) (col t x)) = W m c (mid t.val e) (col t x) by unfold W; entry_read; pointwise)
  blk_point [iblk, idx t, mid, col]
theorem ib2 (t : Fin cfg0.N) (s : Fin 2048) (x : Fin 512) : iblk m c 2 t (ix2 s x) = X m c s (col t x) := by
  refine Eq.trans ?_ (show V m c (Pipeline.arrRef spec0 2) (ix2 s (col t x)) = X m c s (col t x) by unfold X; entry_read; pointwise)
  blk_point [iblk, idx t, col]
theorem ib3 (t : Fin cfg0.N) (x : Fin 512) : iblk m c 3 t (ix2 0 x) = Gate m c (col t x) := by
  unfold Gate
  blk_point [iblk, idx t, col]

/-- One half of the products of a sum. -/
def half (k : ℕ) (s d : Fin 2048) : EReal := ∑ e : Fin 2048, A m c s (mid k e) * W m c (mid k e) d

theorem Y_halves (s d : Fin 2048) : (0 + half m c 0 s d) + half m c 1 s d = Y m c s d := by
  rw [zero_add]
  refine (Fin.sum_univ_two (fun k : Fin 2 => half m c k.val s d)).symm.trans ?_
  refine Fin.sum_mul_add_congr (f := fun e : Fin 4096 => A m c s e * W m c e d)
    (F := fun (p : Fin 2) (k : Fin 2048) => A m c s (mid p.val k) * W m c (mid p.val k) d) fun e k hl => ?_
  have e2 : mid e.val k = ⟨e.val * 2048 + k.val, hl⟩ := Fin.ext (by unfold mid; dsimp only; omega)
  rw [e2]

theorem first (n : ℕ) (hn : n < cfg0.N) (h : n % 2 = 0) (s : Fin 2048) (x : Fin 512) :
    (outsAt0 m c n hn).2.2 (ix2 s x) = 0 + half m c 0 s (col ⟨n, hn⟩ x) := by
  rw [outsAt0_A m c ⟨n, hn⟩ h (by dsimp only; omega)]
  frame_out
  open_payloads
  pointwise
  simp only [ib0, ib1]
  unfold half
  have e : ∀ k, mid n k = mid 0 k := fun k => Fin.ext (by unfold mid; dsimp only; omega)
  simp only [e]

theorem last (t : Fin cfg0.N) (h : t.val % 2 = 1) (s : Fin 2048) (x : Fin 512) :
    (outsAt0 m c (t.val - 1) (Nat.lt_of_le_of_lt (Nat.sub_le _ _) t.isLt)).2.2 (ix2 s x) + half m c t.val s (col t x) = Y m c s (col t x) := by
  rw [first m c _ _ (by omega), ← Y_halves]
  have e1 : col ⟨t.val - 1, Nat.lt_of_le_of_lt (Nat.sub_le _ _) t.isLt⟩ x = col t x := Fin.ext (by unfold col; dsimp only; omega)
  have e2 : half m c t.val s (col t x) = half m c 1 s (col t x) := by
    unfold half
    have e : ∀ k, mid t.val k = mid 1 k := fun k => Fin.ext (by unfold mid; dsimp only; omega)
    simp only [e]
  rw [e1, e2]

theorem point4 (t : Fin cfg0.N) (h : t.val % 2 = 1) (s : Fin 2048) (x : Fin 512) : (outsAt0 m c t.val t.isLt).1 (ix2 s x) = Xo m c s (col t x) := by
  unfold Xo
  rw [outsAt0_B m c t (by omega) h, ← last m c t h]
  frame_out
  open_payloads
  pointwise
  rw [(Memref.isWhole_whole cc0_scratch0).read_unread]
  simp only [ib0, ib1, ib2, ib3]
  rfl
theorem point5 (t : Fin cfg0.N) (h : t.val % 2 = 1) (s : Fin 2048) (x : Fin 512) : (outsAt0 m c t.val t.isLt).2.1 (ix2 s x) = Y m c s (col t x) := by
  rw [outsAt0_B m c t (by omega) h, ← last m c t h]
  frame_out
  open_payloads
  pointwise
  rw [(Memref.isWhole_whole cc0_scratch0).read_unread]
  simp only [ib0, ib1]
  rfl

theorem out4 : (dats m 0 c).arrAt 4 cfg0.N = fun i => Xo m c (i 0) (i 1) := by
  refine (dats m 0 c).arrAt_eq_of_covers 4 _ (by decide +kernel) fun t hf y => ?_
  have e0 : ((win0_4.blk t).view.emb y 0) = y 0 := Fin.ext (by blk_simp [idx t])
  have e1 : ((win0_4.blk t).view.emb y 1) = col t (y 1) := Fin.ext (by blk_simp [idx t]; rfl)
  show _ = Xo m c ((win0_4.blk t).view.emb y 0) ((win0_4.blk t).view.emb y 1)
  rw [e0, e1]
  blk_simp
  rw [after0_4]
  idx_vars y
  exact point4 m c t ((flush0_4 t).mp hf) y0 y1
theorem out5 : (dats m 0 c).arrAt 5 cfg0.N = fun i => Y m c (i 0) (i 1) := by
  refine (dats m 0 c).arrAt_eq_of_covers 5 _ (by decide +kernel) fun t hf y => ?_
  have e0 : ((win0_5.blk t).view.emb y 0) = y 0 := Fin.ext (by blk_simp [idx t])
  have e1 : ((win0_5.blk t).view.emb y 1) = col t (y 1) := Fin.ext (by blk_simp [idx t]; rfl)
  show _ = Y m c ((win0_5.blk t).view.emb y 0) ((win0_5.blk t).view.emb y 1)
  rw [e0, e1]
  blk_simp
  rw [after0_5]
  idx_vars y
  exact point5 m c t ((flush0_5 t).mp hf) y0 y1

end Cert.MmOutIdeal.Hand

end
-- ==== Proof.MmOutClaim.lean ====
module

public import proofs.«01_k».proof.Defs
public import proofs.«01_k».proof.Proof.MmOutVal
public import proofs.«01_k».proof.Proof.Gen.MmOutRefIdeal.Run
public import Idealize.ShloMosaic.Lib.Tactic.CleanTypes

@[expose] public section

set_option maxRecDepth 16384

noncomputable section

open Idealize.ShloMosaic Idealize.ShloMosaic.TcCoe Idealize.SL.Sem

namespace Cert.MmOut

open Cert.MmOutIdeal in
def oX (m : (ℓ : Loc nD τ sig) → Buf (Elt Ideal) ℓ) (c : Dev nD) : S2048x2048.Idx → EReal := fun i => Hand.Xo m c (i 0) (i 1)
open Cert.MmOutIdeal in
def oY (m : (ℓ : Loc nD τ sig) → Buf (Elt Ideal) ℓ) (c : Dev nD) : S2048x2048.Idx → EReal := fun i => Hand.Y m c (i 0) (i 1)

theorem claim : Cert.algebraic_MmOutIdeal_MmOutRefIdeal (hMmOutIdeal := Cert.MmOutIdeal.Gen.facts) (hMmOutRefIdeal := Cert.MmOutRefIdeal.Gen.facts) := by
  intro m g m' g' _ hagree
  refine ⟨oX m, oY m, (θ_run _ _ _).mono (fun r h c => ⟨(h c).1.trans (Cert.MmOutIdeal.Hand.out4 m c), (h c).2.1.trans (Cert.MmOutIdeal.Hand.out5 m c), (h c).2.2⟩) (Cert.MmOutIdeal.Value.run_blocks m g),
    (θ_run _ _ _).mono (fun r h c => ⟨(h c).1.trans ?_, (h c).2.1.trans ?_, (h c).2.2⟩) (Cert.MmOutRefIdeal.Value.run m' g')⟩
  · obtain ⟨a0, a1, a2, a3⟩ := hagree c
    rw [a0, a1, a2, a3]
    clear h
    funext i; idx_vars i
    clean_types
    pointwise
    rfl
  · obtain ⟨a0, a1, a2, a3⟩ := hagree c
    rw [a0, a1]
    clear h
    funext i; idx_vars i
    clean_types
    pointwise
    rfl

end Cert.MmOut

end
-- ==== Proof.MmProjVal.lean ====
module

public import proofs.«01_k».proof.Proof.Gen.MmProjIdeal.Value
public import Idealize.ShloMosaic.Lib.Pipeline.ValueKit

@[expose] public section

set_option maxRecDepth 16384

noncomputable section

open Idealize.ShloMosaic Idealize.ShloMosaic.TcCoe Idealize.SL.Sem

namespace Cert.MmProjIdeal.Hand

open Cert.MmProjIdeal Cert.MmProjIdeal.Gen

variable (m : (ℓ : Loc nD τ sig) → Buf (Elt Ideal) ℓ) (c : Dev nD)

/-- The arguments, by their positions. -/
def H (s d : Fin 2048) : EReal := m ((c : Thread nD τ).loc main_arg0) (ix3 0 s d)
def W (d : Fin 2048) (f : Fin 8192) : EReal := m ((c : Thread nD τ).loc main_arg1) (ix2 d f)
def P (s : Fin 2048) (f : Fin 8192) : EReal := ∑ d : Fin 2048, H m c s d * W m c d f
def gcol (g : Fin 2) (e : Fin 4096) : Fin 8192 := ⟨g.val * 4096 + e.val, by omega⟩

theorem idx : ∀ t : Fin cfg0.N, win0_0.index t = ![0, 0] ∧ win0_1.index t = ![t.val / 2, 0, t.val % 2] ∧
    win0_2.index t = ![t.val / 8, 0, t.val % 8] :=
  (by decide +kernel : ∀ t : Fin grid0.N, _)

def col (t : Fin cfg0.N) (x : Fin 512) : Fin 8192 :=
  ⟨t.val * 512 + x.val, by have : t.val < 16 := t.isLt; omega⟩

theorem slot (q : Fin 8) (d : Fin 2048) (n : Fin 1024) : V m c (Pipeline.arrRef spec0 1) (ix3 q d n) = W m c d ⟨q.val * 1024 + n.val, by omega⟩ := by
  unfold W
  entry_read
  pointwise

theorem ib0 (t : Fin cfg0.N) (s d : Fin 2048) : iblk m c 0 t (ix2 s d) = H m c s d := by
  refine Eq.trans ?_ (show V m c (Pipeline.arrRef spec0 0) (ix2 s d) = H m c s d by unfold H; entry_read; pointwise)
  blk_point [iblk, idx t]
theorem ib1 (t : Fin cfg0.N) (d : Fin 2048) (x : Fin 512) : iblk m c 1 t (ix3 0 d x) = W m c d (col t x) := by
  have hN : t.val < 16 := t.isLt
  have e : col t x = ⟨(⟨t.val / 2, by omega⟩ : Fin 8).val * 1024 + (⟨t.val % 2 * 512 + x.val, by omega⟩ : Fin 1024).val, by dsimp only; omega⟩ :=
    Fin.ext (by unfold col; dsimp only; omega)
  rw [e, ← slot]
  blk_point [iblk, idx t]

theorem out2 : (dats m 0 c).arrAt 2 cfg0.N = fun i => P m c (i 1) (gcol (i 0) (i 2)) := by
  refine (dats m 0 c).arrAt_eq_of_covers 2 _ (by decide +kernel) fun t hf y => ?_
  have hN : t.val < 16 := t.isLt
  have e1 : ((win0_2.blk t).view.emb y 1) = y 1 := Fin.ext (by blk_simp [idx t])
  have e2 : gcol ((win0_2.blk t).view.emb y 0) ((win0_2.blk t).view.emb y 2) = col t (y 2) := Fin.ext (by
    have : (y 0).val = 0 := Nat.lt_one_iff.mp (y 0).isLt
    unfold gcol col
    blk_simp [idx t, this]
    dsimp only
    omega)
  show _ = P m c ((win0_2.blk t).view.emb y 1) (gcol ((win0_2.blk t).view.emb y 0) ((win0_2.blk t).view.emb y 2))
  rw [e1, e2]
  blk_simp
  rw [after0_2]
  idx_vars y
  obtain rfl : y0 = 0 := Subsingleton.elim _ _
  frame_out
  open_payloads
  pointwise
  simp only [ib0, ib1]
  rfl

end Cert.MmProjIdeal.Hand

end
-- ==== Proof.MmProjClaim.lean ====
module

public import proofs.«01_k».proof.Defs
public import proofs.«01_k».proof.Proof.MmProjVal
public import proofs.«01_k».proof.Proof.Gen.MmProjRefIdeal.Run
public import Idealize.ShloMosaic.Lib.Tactic.CleanTypes

@[expose] public section

set_option maxRecDepth 16384

noncomputable section

open Idealize.ShloMosaic Idealize.ShloMosaic.TcCoe Idealize.SL.Sem

namespace Cert.MmProj

open Cert.MmProjIdeal in
def oP (m : (ℓ : Loc nD τ sig) → Buf (Elt Ideal) ℓ) (c : Dev nD) : S2x2048x4096.Idx → EReal := fun i => Hand.P m c (i 1) (Hand.gcol (i 0) (i 2))

theorem claim : Cert.algebraic_MmProjIdeal_MmProjRefIdeal (hMmProjIdeal := Cert.MmProjIdeal.Gen.facts) (hMmProjRefIdeal := Cert.MmProjRefIdeal.Gen.facts) := by
  intro m g m' g' _ hagree
  refine ⟨oP m, (θ_run _ _ _).mono (fun r h c => ⟨(h c).1.trans (Cert.MmProjIdeal.Hand.out2 m c), (h c).2⟩) (Cert.MmProjIdeal.Value.run_blocks m g),
    (θ_run _ _ _).mono (fun r h c => ⟨(h c).1.trans ?_, (h c).2⟩) (Cert.MmProjRefIdeal.Value.run m' g')⟩
  obtain ⟨a0, a1⟩ := hagree c
  rw [a0, a1]
  clear h
  funext i; idx_vars i
  clean_types
  pointwise
  fin_cases i0
  · refine (dif_pos Nat.zero_lt_one).trans ?_
    show _ = Cert.MmProjIdeal.Hand.P m c i1 (Cert.MmProjIdeal.Hand.gcol 0 i2)
    have e : Cert.MmProjIdeal.Hand.gcol 0 i2 = ⟨i2.val, by omega⟩ := Fin.ext (by unfold Cert.MmProjIdeal.Hand.gcol; show 0 * 4096 + i2.val = i2.val; omega)
    rw [e]
    rfl
  · refine (dif_neg (Nat.lt_irrefl 1)).trans ?_
    show _ = Cert.MmProjIdeal.Hand.P m c i1 (Cert.MmProjIdeal.Hand.gcol 1 i2)
    have e : Cert.MmProjIdeal.Hand.gcol 1 i2 = ⟨4096 + i2.val, by omega⟩ := Fin.ext (by unfold Cert.MmProjIdeal.Hand.gcol; show 1 * 4096 + i2.val = 4096 + i2.val; omega)
    rw [e]
    rfl

end Cert.MmProj

end
-- ==== Proof.MmNtVal.lean ====
module

public import proofs.«01_k».proof.Proof.Gen.MmNtIdeal.Value
public import Idealize.ShloMosaic.Lib.Pipeline.ValueKit

@[expose] public section

set_option maxRecDepth 16384

noncomputable section

open Idealize.ShloMosaic Idealize.ShloMosaic.TcCoe Idealize.SL.Sem

namespace Cert.MmNtIdeal.Hand

open Cert.MmNtIdeal Cert.MmNtIdeal.Gen

variable (m : (ℓ : Loc nD τ sig) → Buf (Elt Ideal) ℓ) (c : Dev nD)

/-- The arguments, by their positions. -/
def A (s : Fin 2048) (e : Fin 16384) : EReal := m ((c : Thread nD τ).loc main_arg0) (ix3 0 s e)
def W (d : Fin 2048) (e : Fin 16384) : EReal := m ((c : Thread nD τ).loc main_arg1) (ix2 d e)
def Y (s d : Fin 2048) : EReal := ∑ e : Fin 16384, A m c s e * W m c d e

theorem idx : ∀ t : Fin cfg0.N, win0_0.index t = ![t.val % 8 / 2, 0, t.val % 2] ∧ win0_1.index t = ![t.val % 8, t.val / 8, 0] ∧
    win0_2.index t = ![0, t.val / 8] :=
  (by decide +kernel : ∀ t : Fin grid0.N, _)

def col (t : Fin cfg0.N) (x : Fin 1024) : Fin 2048 :=
  ⟨t.val / 8 * 1024 + x.val, by have : t.val < 16 := t.isLt; omega⟩
def mid (n : ℕ) (e : Fin 2048) : Fin 16384 := ⟨n % 8 * 2048 + e.val, by omega⟩

theorem slotA (q : Fin 4) (s : Fin 2048) (n : Fin 4096) : V m c (Pipeline.arrRef spec0 0) (ix3 q s n) = A m c s ⟨q.val * 4096 + n.val, by omega⟩ := by
  unfold A
  entry_read
  pointwise
theorem slotW (q : Fin 8) (d n : Fin 2048) : V m c (Pipeline.arrRef spec0 1) (ix3 q d n) = W m c d ⟨q.val * 2048 + n.val, by omega⟩ := by
  unfold W
  entry_read
  pointwise

theorem ib0 (t : Fin cfg0.N) (s e : Fin 2048) : iblk m c 0 t (ix3 0 s e) = A m c s (mid t.val e) := by
  have e : mid t.val e = ⟨(⟨t.val % 8 / 2, by omega⟩ : Fin 4).val * 4096 + (⟨t.val % 2 * 2048 + e.val, by omega⟩ : Fin 4096).val, by dsimp only; omega⟩ :=
    Fin.ext (by unfold mid; dsimp only; omega)
  rw [e, ← slotA]
  blk_point [iblk, idx t]
theorem ib1 (t : Fin cfg0.N) (x : Fin 1024) (e : Fin 2048) : iblk m c 1 t (ix3 0 x e) = W m c (col t x) (mid t.val e) := by
  have e : mid t.val e = ⟨(⟨t.val % 8, by omega⟩ : Fin 8).val * 2048 + e.val, by dsimp only; omega⟩ := rfl
  rw [e, ← slotW]
  blk_point [iblk, idx t, col]

/-- The products of one step of a sum. -/
def term (t : Fin cfg0.N) (s : Fin 2048) (x : Fin 1024) : EReal := ∑ e : Fin 2048, A m c s (mid t.val e) * W m c (col t x) (mid t.val e)

theorem step0 (t : Fin cfg0.N) (h : t.val % 8 = 0) (s : Fin 2048) (x : Fin 1024) : (outsAt0 m c t.val t.isLt).2 (ix2 s x) = 0 + term m c t s x := by
  rw [outsAt0_A m c t h (by omega)]
  frame_out
  open_payloads
  pointwise
  simp only [ib0, ib1]
  rfl
theorem stepS (t : Fin cfg0.N) (h : ¬t.val % 8 = 0) (s : Fin 2048) (x : Fin 1024) : (outsAt0 m c t.val t.isLt).2 (ix2 s x)
    = (outsAt0 m c (t.val - 1) (Nat.lt_of_le_of_lt (Nat.sub_le _ _) t.isLt)).2 (ix2 s x) + term m c t s x := by
  by_cases h1 : t.val % 8 = 7
  · rw [outsAt0_C m c t h h1]
    frame_out
    open_payloads
    pointwise
    rw [(Memref.isWhole_whole cc0_scratch0).read_unread]
    simp only [ib0, ib1]
    rfl
  · rw [outsAt0_B m c t h h1]
    frame_out
    open_payloads
    pointwise
    rw [(Memref.isWhole_whole cc0_scratch0).read_unread]
    simp only [ib0, ib1]
    rfl

theorem point (t : Fin cfg0.N) (h : t.val % 8 = 7) (s : Fin 2048) (x : Fin 1024) : (outsAt0 m c t.val t.isLt).1 (ix2 s x) = Y m c s (col t x) := by
  have e : (outsAt0 m c t.val t.isLt).1 (ix2 s x) = (outsAt0 m c t.val t.isLt).2 (ix2 s x) := by
    rw [outsAt0_C m c t (by omega) h]
    frame_out
    open_payloads
    pointwise
  rw [e]
  refine (Pipeline.eq_sum_fin_of_reset_step_of_flush (fun n hn => (outsAt0 m c n hn).2 (ix2 s x)) 8 (0 : EReal)
    (fun t => term m c t s x) (fun t h => step0 m c t h s x) (fun t h => stepS m c t h s x) t h).trans ?_
  rw [zero_add]
  refine (Finset.sum_congr rfl fun k _ => ?_).trans (Fin.sum_mul_add_congr (f := fun e : Fin 16384 => A m c s e * W m c (col t x) e)
    (F := fun (p : Fin 8) (k : Fin 2048) => A m c s (mid p.val k) * W m c (col t x) (mid p.val k)) fun p k hl => ?_)
  · have e1 : ∀ h x, col ⟨8 * (t.val / 8) + k.val, h⟩ x = col t x := fun h x => Fin.ext (by unfold col; dsimp only; omega)
    have e2 : ∀ e, mid (8 * (t.val / 8) + k.val) e = mid k.val e := fun e => Fin.ext (by unfold mid; dsimp only; omega)
    unfold term
    simp only [e1, e2]
  · have e2 : mid p.val k = ⟨p.val * 2048 + k.val, hl⟩ := Fin.ext (by unfold mid; dsimp only; omega)
    rw [e2]

theorem out2 : (dats m 0 c).arrAt 2 cfg0.N = fun i => Y m c (i 0) (i 1) := by
  refine (dats m 0 c).arrAt_eq_of_covers 2 _ (by decide +kernel) fun t hf y => ?_
  have e0 : ((win0_2.blk t).view.emb y 0) = y 0 := Fin.ext (by blk_simp [idx t])
  have e1 : ((win0_2.blk t).view.emb y 1) = col t (y 1) := Fin.ext (by blk_simp [idx t]; rfl)
  show _ = Y m c ((win0_2.blk t).view.emb y 0) ((win0_2.blk t).view.emb y 1)
  rw [e0, e1]
  blk_simp
  rw [after0_2]
  idx_vars y
  exact point m c t ((flush0_2 t).mp hf) y0 y1

end Cert.MmNtIdeal.Hand

end
-- ==== Proof.MmNtClaim.lean ====
module

public import proofs.«01_k».proof.Defs
public import proofs.«01_k».proof.Proof.MmNtVal
public import proofs.«01_k».proof.Proof.Gen.MmNtRefIdeal.Run
public import Idealize.ShloMosaic.Lib.Tactic.CleanTypes

@[expose] public section

set_option maxRecDepth 16384

noncomputable section

open Idealize.ShloMosaic Idealize.ShloMosaic.TcCoe Idealize.SL.Sem

namespace Cert.MmNt

open Cert.MmNtIdeal in
def oY (m : (ℓ : Loc nD τ sig) → Buf (Elt Ideal) ℓ) (c : Dev nD) : S2048x2048.Idx → EReal := fun i => Hand.Y m c (i 0) (i 1)

theorem claim : Cert.algebraic_MmNtIdeal_MmNtRefIdeal (hMmNtIdeal := Cert.MmNtIdeal.Gen.facts) (hMmNtRefIdeal := Cert.MmNtRefIdeal.Gen.facts) := by
  intro m g m' g' _ hagree
  refine ⟨oY m, (θ_run _ _ _).mono (fun r h c => ⟨(h c).1.trans (Cert.MmNtIdeal.Hand.out2 m c), (h c).2⟩) (Cert.MmNtIdeal.Value.run_blocks m g),
    (θ_run _ _ _).mono (fun r h c => ⟨(h c).1.trans ?_, (h c).2⟩) (Cert.MmNtRefIdeal.Value.run m' g')⟩
  obtain ⟨a0, a1⟩ := hagree c
  rw [a0, a1]
  clear h
  funext i; idx_vars i
  clean_types
  pointwise
  rfl

end Cert.MmNt

end
-- ==== Proof.MmTnVal.lean ====
module

public import proofs.«01_k».proof.Proof.Gen.MmTnIdeal.Value
public import Idealize.ShloMosaic.Lib.Pipeline.ValueKit

@[expose] public section

set_option maxRecDepth 16384

noncomputable section

open Idealize.ShloMosaic Idealize.ShloMosaic.TcCoe Idealize.SL.Sem

namespace Cert.MmTnIdeal.Hand

open Cert.MmTnIdeal Cert.MmTnIdeal.Gen

variable (m : (ℓ : Loc nD τ sig) → Buf (Elt Ideal) ℓ) (c : Dev nD)

/-- The arguments, by their positions. -/
def H (s d : Fin 2048) : EReal := m ((c : Thread nD τ).loc main_arg0) (ix3 0 s d)
def B (s : Fin 2048) (f : Fin 8192) : EReal := m ((c : Thread nD τ).loc main_arg1) (ix3 0 s f)
def G (d : Fin 2048) (f : Fin 8192) : EReal := ∑ s : Fin 2048, H m c s d * B m c s f
def gcol (q : Fin 8) (n : Fin 1024) : Fin 8192 := ⟨q.val * 1024 + n.val, by omega⟩

theorem idx : ∀ t : Fin cfg0.N, win0_0.index t = ![0, t.val / 8] ∧ win0_1.index t = ![t.val % 8 / 4, 0, t.val % 4] ∧
    win0_2.index t = ![t.val % 8, t.val / 8, 0] :=
  (by decide +kernel : ∀ t : Fin grid0.N, _)

def row (n : ℕ) (hn : n < cfg0.N) (r : Fin 1024) : Fin 2048 :=
  ⟨n / 8 * 1024 + r.val, by have : n < 16 := hn; omega⟩
def piece (t : Fin cfg0.N) : Fin 8 := ⟨t.val % 8, by omega⟩

theorem slotB (g : Fin 2) (s : Fin 2048) (n : Fin 4096) : V m c (Pipeline.arrRef spec0 1) (ix3 g s n) = B m c s ⟨g.val * 4096 + n.val, by omega⟩ := by
  unfold B
  entry_read
  pointwise

theorem ib0 (t : Fin cfg0.N) (s : Fin 2048) (r : Fin 1024) : iblk m c 0 t (ix2 s r) = H m c s (row t.val t.isLt r) := by
  refine Eq.trans ?_ (show V m c (Pipeline.arrRef spec0 0) (ix2 s (row t.val t.isLt r)) = H m c s (row t.val t.isLt r) by unfold H; entry_read; pointwise)
  blk_point [iblk, idx t, row]
theorem ib1 (t : Fin cfg0.N) (s : Fin 2048) (x : Fin 1024) : iblk m c 1 t (ix3 0 s x) = B m c s (gcol (piece t) x) := by
  have e : gcol (piece t) x = ⟨(⟨t.val % 8 / 4, by omega⟩ : Fin 2).val * 4096 + (⟨t.val % 4 * 1024 + x.val, by omega⟩ : Fin 4096).val, by dsimp only; omega⟩ :=
    Fin.ext (by unfold gcol piece; dsimp only; omega)
  rw [e, ← slotB]
  blk_point [iblk, idx t]

/-- The turned block of the first factor, kept over the columns. -/
theorem kept : ∀ (n : ℕ) (hn : n < cfg0.N) (r : Fin 1024) (s : Fin 2048), (outsAt0 m c n hn).2 (ix2 r s) = H m c s (row n hn r) := by
  intro n
  induction n with
  | zero =>
    intro hn r s
    rw [outsAt0_A m c ⟨0, hn⟩ rfl]
    frame_out
    open_payloads
    pointwise
    exact ib0 m c ⟨0, hn⟩ s r
  | succ n ih =>
    intro hn r s
    by_cases h : (n + 1) % 8 = 0
    · rw [outsAt0_A m c ⟨n + 1, hn⟩ h]
      frame_out
      open_payloads
      pointwise
      exact ib0 m c ⟨n + 1, hn⟩ s r
    · rw [outsAt0_B m c ⟨n + 1, hn⟩ h]
      refine (ih (Nat.lt_of_succ_lt hn) r s).trans ?_
      have e : row n (Nat.lt_of_succ_lt hn) r = row (n + 1) hn r := Fin.ext (by unfold row; dsimp only; omega)
      rw [e]

theorem point (t : Fin cfg0.N) (r x : Fin 1024) : (outsAt0 m c t.val t.isLt).1 (ix3 0 r x) = G m c (row t.val t.isLt r) (gcol (piece t) x) := by
  have hx : (outsAt0 m c t.val t.isLt).1 (ix3 0 r x) = ∑ s : Fin 2048, (outsAt0 m c t.val t.isLt).2 (ix2 r s) * B m c s (gcol (piece t) x) := by
    by_cases h : t.val % 8 = 0
    · rw [outsAt0_A m c t h]
      frame_out
      open_payloads
      pointwise
      simp only [ib1]
    · rw [outsAt0_B m c t h]
      frame_out
      open_payloads
      pointwise
      rw [(Memref.isWhole_whole cc0_scratch0).read_unread]
      simp only [ib1]
      rfl
  rw [hx]
  simp only [kept]
  rfl

theorem out2 : (dats m 0 c).arrAt 2 cfg0.N = fun i => G m c (i 1) (gcol (i 0) (i 2)) := by
  refine (dats m 0 c).arrAt_eq_of_covers 2 _ (by decide +kernel) fun t hf y => ?_
  have e0 : ((win0_2.blk t).view.emb y 0) = piece t := Fin.ext (by
    have : (y 0).val = 0 := Nat.lt_one_iff.mp (y 0).isLt
    blk_simp [idx t, piece, this])
  have e1 : ((win0_2.blk t).view.emb y 1) = row t.val t.isLt (y 1) := Fin.ext (by blk_simp [idx t]; rfl)
  have e2 : ((win0_2.blk t).view.emb y 2) = y 2 := Fin.ext (by blk_simp [idx t])
  show _ = G m c ((win0_2.blk t).view.emb y 1) (gcol ((win0_2.blk t).view.emb y 0) ((win0_2.blk t).view.emb y 2))
  rw [e0, e1, e2]
  blk_simp
  rw [after0_2]
  idx_vars y
  obtain rfl : y0 = 0 := Subsingleton.elim _ _
  exact point m c t y1 y2

end Cert.MmTnIdeal.Hand

end
-- ==== Proof.MmTnClaim.lean ====
module

public import proofs.«01_k».proof.Defs
public import proofs.«01_k».proof.Proof.MmTnVal
public import proofs.«01_k».proof.Proof.Gen.MmTnRefIdeal.Run
public import Idealize.ShloMosaic.Lib.Tactic.CleanTypes

@[expose] public section

set_option maxRecDepth 16384

noncomputable section

open Idealize.ShloMosaic Idealize.ShloMosaic.TcCoe Idealize.SL.Sem

namespace Cert.MmTn

open Cert.MmTnIdeal in
def oG (m : (ℓ : Loc nD τ sig) → Buf (Elt Ideal) ℓ) (c : Dev nD) : S8x2048x1024.Idx → EReal := fun i => Hand.G m c (i 1) (Hand.gcol (i 0) (i 2))

theorem claim : Cert.algebraic_MmTnIdeal_MmTnRefIdeal (hMmTnIdeal := Cert.MmTnIdeal.Gen.facts) (hMmTnRefIdeal := Cert.MmTnRefIdeal.Gen.facts) := by
  intro m g m' g' _ hagree
  refine ⟨oG m, (θ_run _ _ _).mono (fun r h c => ⟨(h c).1.trans (Cert.MmTnIdeal.Hand.out2 m c), (h c).2⟩) (Cert.MmTnIdeal.Value.run_blocks m g),
    (θ_run _ _ _).mono (fun r h c => ⟨(h c).1.trans ?_, (h c).2⟩) (Cert.MmTnRefIdeal.Value.run m' g')⟩
  obtain ⟨a0, a1⟩ := hagree c
  rw [a0, a1]
  clear h
  funext i; idx_vars i
  clean_types
  pointwise
  simp only [Finset.univ_unique, Finset.sum_singleton]
  exact (Finset.sum_congr rfl fun k _ => mul_comm _ _).trans rfl

end Cert.MmTn

end
-- ==== Proof.DevSumClaim.lean ====
module

public import proofs.«01_k».proof.Defs
public import proofs.«01_k».proof.Proof.Gen.DevSumIdeal.Value
public import proofs.«01_k».proof.Proof.Gen.DevSumRefIdeal.Run

public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.DevSumIdeal.Hand

open Cert.DevSumIdeal Cert.DevSumIdeal.Gen

/-- One device's part, at a row and a lane. -/
def part (m : (ℓ : Loc nD τ sig) → Buf (Elt Ideal) ℓ) (c : Dev nD) (k : Fin 8) (r : Fin 920) (l : Fin 128) : EReal :=
  m ((c : Thread nD τ).loc main_arg0) (ix3 k r l)

/-- The sum over the devices. -/
def oS (m : (ℓ : Loc nD τ sig) → Buf (Elt Ideal) ℓ) (c : Dev nD) : S920x128.Idx → EReal := fun i => ∑ k : Fin 8, part m c k (i 0) (i 1)

theorem kernel_sum (m : (ℓ : Loc nD τ sig) → Buf (Elt Ideal) ℓ) (c : Dev nD) : (dats m 0 c).arrAt 1 cfg0.N = oS m c := by
  rw [Cert.DevSumIdeal.Value.final1]
  funext i; idx_vars i
  refine Eq.trans ?_ (Fin.sum_univ_eight (fun k : Fin 8 => part m c k i0 i1)).symm
  unfold Cert.DevSumIdeal.Value.G1
  open_payloads
  pointwise
  unfold part
  rfl

end Cert.DevSumIdeal.Hand

namespace Cert.DevSum

open Cert.DevSumIdeal.Hand

theorem claim : Cert.algebraic_DevSumIdeal_DevSumRefIdeal (hDevSumIdeal := Cert.DevSumIdeal.Gen.facts) (hDevSumRefIdeal := Cert.DevSumRefIdeal.Gen.facts) := by
  intro m g m' g' _ hagree
  refine ⟨oS m, (θ_run _ _ _).mono (fun r h c => ⟨(h c).1.trans (kernel_sum m c), (h c).2⟩) (Cert.DevSumIdeal.Value.run_blocks m g),
    (θ_run _ _ _).mono (fun r h c => ⟨(h c).1.trans ?_, (h c).2⟩) (Cert.DevSumRefIdeal.Value.run m' g')⟩
  have a0 := hagree c
  rw [a0]
  clear h
  funext i; idx_vars i
  clean_types
  pointwise
  rfl

end Cert.DevSum

end
-- ==== Proof.AdwClaim.lean ====
module

public import proofs.«01_k».proof.Defs
public import proofs.«01_k».proof.Proof.Gen.AdwIdeal.Value
public import proofs.«01_k».proof.Proof.Gen.AdwRefIdeal.Run
public import proofs.«01_k».proof.Proof.AdaMath

public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Adw

open Cert.AdwIdeal Cert.Adam

variable (m : (ℓ : Loc nD τ sig) → Buf (Elt Ideal) ℓ) (c : Dev nD) (i : S192x128.Idx)

/-- The weights, the gradient and the two moments. -/
def w : EReal := m ((c : Thread nD τ).loc main_arg0) i
def g : EReal := m ((c : Thread nD τ).loc main_arg1) i
def m1 : EReal := m ((c : Thread nD τ).loc main_arg2) i
def m2 : EReal := m ((c : Thread nD τ).loc main_arg3) i

/-- The step and the two new moments. -/
def oD : S192x128.Idx → EReal := fun i => delta (w m c i) (g m c i) (m1 m c i) (m2 m c i)
def oM : S192x128.Idx → EReal := fun i => mom (g m c i) (m1 m c i)
def oV : S192x128.Idx → EReal := fun i => vel (g m c i) (m2 m c i)

theorem claim : Cert.algebraic_AdwIdeal_AdwRefIdeal (hAdwIdeal := Cert.AdwIdeal.Gen.facts) (hAdwRefIdeal := Cert.AdwRefIdeal.Gen.facts) := by
  intro m g m' g' _ hagree
  refine ⟨oD m, oM m, oV m, (θ_run _ _ _).mono (fun r h c => ⟨(h c).1.trans ?_, (h c).2.1.trans ?_, (h c).2.2.1.trans ?_, (h c).2.2.2⟩) (Cert.AdwIdeal.Value.run m g),
    (θ_run _ _ _).mono (fun r h c => ⟨(h c).1.trans ?_, (h c).2.1.trans ?_, (h c).2.2.1.trans ?_, (h c).2.2.2⟩) (Cert.AdwRefIdeal.Value.run m' g')⟩
  · rfl
  · rfl
  · rfl
  all_goals
    obtain ⟨a0, a1, a2, a3⟩ := hagree c
    simp only [a0, a1, a2, a3]
    clear h
    funext i; idx_vars i
    clean_types
    pointwise
    rfl

end Cert.Adw

end
-- ==== Proof.Table.lean ====
module

public import Idealize.ShloMosaic.Lib.Pipeline.ValueKit

@[expose] public section

namespace Cert.Table

open Idealize.ShloMosaic

/-- The table of the device at chip 0, core 0: its three neighbours, its chip, its core. -/
def nums : (⟨1, ![5]⟩ : Shape).Idx → BitVec 32 := fun i => ![1#32, 2#32, 3#32, 0#32, 0#32] (i 0)

end Cert.Table

end
-- ==== Proof.AdrOk.lean ====
module

public import proofs.«01_k».proof.Proof.Gen.Adr.Frame
public import proofs.«01_k».proof.Proof.Gen.AdrIdeal.Frame
public import proofs.«01_k».proof.Proof.Table

@[expose] public section

set_option maxRecDepth 16384

noncomputable section

open Idealize.ShloMosaic Idealize.ShloMosaic.TcCoe Idealize.SL.Sem

namespace Cert.Adr.Hand

open Cert.Adr Cert.Adr.Gen Cert.Table

set_option backward.proofsInPublic true in
/-- The one table's contents. -/
def words : pre0.Contents (Elt Bits) := fun | ⟨0, _⟩ => nums | ⟨_ + 1, h⟩ => absurd h (by simp)

theorem words_ok : ok0 words := by decide +kernel

variable (m : (ℓ : Loc nD τ sig) → Buf (Elt Bits) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.Adr.Hand

namespace Cert.AdrIdeal.Hand

open Cert.AdrIdeal Cert.AdrIdeal.Gen Cert.Table

set_option backward.proofsInPublic true in
/-- The one table's contents. -/
def words : pre0.Contents (Elt Ideal) := fun | ⟨0, _⟩ => nums | ⟨_ + 1, h⟩ => absurd h (by simp)

theorem words_ok : ok0 words := by decide +kernel

variable (m : (ℓ : Loc nD τ sig) → Buf (Elt Ideal) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.AdrIdeal.Hand

end
-- ==== Proof.AdrVal.lean ====
module

public import proofs.«01_k».proof.Proof.AdrOk
public import proofs.«01_k».proof.Proof.AdaMath

@[expose] public section

set_option maxRecDepth 16384

noncomputable section

open Idealize.ShloMosaic Idealize.ShloMosaic.TcCoe Idealize.SL.Sem
open Idealize.ShloMosaic.Pipeline (Dat)

namespace Cert.AdrIdeal.Hand

open Cert.AdrIdeal Cert.AdrIdeal.Gen Cert.Adam

/-- The pipeline's table, as admitted contents. -/
abbrev adm0 : (pcfg0 (F := Ideal)).Adm := ⟨words, words_ok⟩

variable (m : (ℓ : Loc nD τ sig) → Buf (Elt Ideal) ℓ)

theorem adm_eq : adm m (ok m) = adm0 := Subtype.ext (tbl_eq m)

theorem idx : ∀ t : Fin (cfgM m (ok m)).N, ((cfgM m (ok m)).win 0).index t = ![t.val, 0] ∧ ((cfgM m (ok m)).win 1).index t = ![t.val, 0]
    ∧ ((cfgM m (ok m)).win 2).index t = ![t.val, 0] ∧ ((cfgM m (ok m)).win 3).index t = ![0, 0, t.val, 0]
    ∧ ((cfgM m (ok m)).win 4).index t = ![0, 0, t.val, 0] ∧ ((cfgM m (ok m)).win 5).index t = ![0, t.val, 0]
    ∧ ((cfgM m (ok m)).win 6).index t = ![t.val, 0] ∧ ((cfgM m (ok m)).win 7).index t = ![t.val, 0]
    ∧ ((cfgM m (ok m)).win 8).index t = ![t.val, 0] ∧ ((cfgM m (ok m)).win 9).index t = ![t.val, 0] := by
  unfold cfgM
  rw [adm_eq]
  decide +kernel

theorem covers : ((cfgM m (ok m)).win 6).Covers ∧ ((cfgM m (ok m)).win 7).Covers ∧ ((cfgM m (ok m)).win 8).Covers ∧ ((cfgM m (ok m)).win 9).Covers := by
  unfold cfgM
  rw [adm_eq]
  exact ⟨by decide +kernel, by decide +kernel, by decide +kernel, by decide +kernel⟩

variable (c : Dev nD) (t : Fin (cfgM m (ok m)).N)

def row (x : Fin 256) : Fin 2048 := ⟨t.val * 256 + x.val, by have : t.val < 8 := t.isLt; omega⟩

theorem ib0 (x : Fin 256) (f : Fin 1024) : iblk m (ok m) c 0 t (ix2 x f) = m ((c : Thread nD τ).loc main_arg0) (ix2 (row m t x) f) := by
  blk_point [iblk, idx m t, row]
theorem ib1 (x : Fin 256) (f : Fin 1024) : iblk m (ok m) c 1 t (ix2 x f) = m ((c : Thread nD τ).loc main_arg1) (ix2 (row m t x) f) := by
  blk_point [iblk, idx m t, row]
theorem ib2 (x : Fin 256) (f : Fin 1024) : iblk m (ok m) c 2 t (ix2 x f) = m ((c : Thread nD τ).loc main_arg2) (ix2 (row m t x) f) := by
  blk_point [iblk, idx m t, row]
theorem ib3 (x : Fin 256) (f : Fin 1024) : iblk m (ok m) c 3 t (ix4 0 0 x f) = m ((c : Thread nD τ).loc main_arg3) (ix4 0 0 (row m t x) f) := by
  blk_point [iblk, idx m t, row]
theorem ib4 (x : Fin 256) (f : Fin 1024) : iblk m (ok m) c 4 t (ix4 0 0 x f) = m ((c : Thread nD τ).loc main_arg4) (ix4 0 0 (row m t x) f) := by
  blk_point [iblk, idx m t, row]
theorem ib5 (k : Fin 3) (x : Fin 256) (f : Fin 1024) : iblk m (ok m) c 5 t (ix3 k x f) = m ((c : Thread nD τ).loc main_arg5) (ix3 k (row m t x) f) := by
  blk_point [iblk, idx m t, row]

abbrev rd (x : EReal) : EReal := x
/-- The gradient: this core's part and the other core's, then the parts of the three other chips. -/
def grd (i : S2048x1024.Idx) : EReal :=
  rd (m ((c : Thread nD τ).loc main_arg3) (ix4 0 0 (i 0) (i 1))) + rd (m ((c : Thread nD τ).loc main_arg4) (ix4 0 0 (i 0) (i 1)))
    + rd (m ((c : Thread nD τ).loc main_arg5) (ix3 0 (i 0) (i 1))) + rd (m ((c : Thread nD τ).loc main_arg5) (ix3 1 (i 0) (i 1)))
    + rd (m ((c : Thread nD τ).loc main_arg5) (ix3 2 (i 0) (i 1)))
def mOut (i : S2048x1024.Idx) : EReal := mom (grd m c i) (m ((c : Thread nD τ).loc main_arg1) i)
def vOut (i : S2048x1024.Idx) : EReal := vel (grd m c i) (m ((c : Thread nD τ).loc main_arg2) i)
def dOut (i : S2048x1024.Idx) : EReal :=
  delta (m ((c : Thread nD τ).loc main_arg0) i) (grd m c i) (m ((c : Thread nD τ).loc main_arg1) i) (m ((c : Thread nD τ).loc main_arg2) i)

section Body

variable {i : grid0.Coords} {a2 : Memref sig .tc .vmem S256x1024 .f32} {h2 : a2.IsWhole} {a3 : Memref sig .tc .vmem S256x1024 .f32} {h3 : a3.IsWhole}
  {a4 : Memref sig .tc .vmem S256x1024 .f32} {h4 : a4.IsWhole} {a5 : Memref sig .tc .vmem S1x1x256x1024 .bf16} {h5 : a5.IsWhole}
  {a6 : Memref sig .tc .vmem S1x1x256x1024 .bf16} {h6 : a6.IsWhole} {a7 : Memref sig .tc .vmem S3x256x1024 .bf16} {h7 : a7.IsWhole}
  {a8 : Memref sig .tc .vmem S256x1024 .f32} {h8 : a8.IsWhole} {a9 : Memref sig .tc .vmem S256x1024 .f32} {h9 : a9.IsWhole}
  {a10 : Memref sig .tc .vmem S256x1024 .f32} {h10 : a10.IsWhole} {a11 : Memref sig .tc .vmem S256x1024 .f32} {h11 : a11.IsWhole}
  {X0 X1 X2 : Vec Ideal S256x1024 .f32} {X3 X4 : Vec Ideal S1x1x256x1024 .bf16} {X5 : Vec Ideal S3x256x1024 .bf16} {T : TbBuf0 (F := Ideal) c tbM0_0}
  {x : Fin 256} {f : Fin 1024}

def bg (X3 X4 : Vec Ideal S1x1x256x1024 .bf16) (X5 : Vec Ideal S3x256x1024 .bf16) (x : Fin 256) (f : Fin 1024) : EReal :=
  rd (X3 (ix4 0 0 x f)) + rd (X4 (ix4 0 0 x f)) + rd (X5 (ix3 0 x f)) + rd (X5 (ix3 1 x f)) + rd (X5 (ix3 2 x f))

theorem body6 : out0_A_6 c i a2 h2 a3 h3 a4 h4 a5 h5 a6 h6 a7 h7 a8 h8 a9 h9 a10 h10 a11 h11 X0 X1 X2 X3 X4 X5 T (ix2 x f) = bg X3 X4 X5 x f := by
  frame_out
  open_payloads
  pointwise
  rfl

theorem body7 : out0_A_7 c i a2 h2 a3 h3 a4 h4 a5 h5 a6 h6 a7 h7 a8 h8 a9 h9 a10 h10 a11 h11 X0 X1 X2 X3 X4 X5 T (ix2 x f)
    = delta (X0 (ix2 x f)) (bg X3 X4 X5 x f) (X1 (ix2 x f)) (X2 (ix2 x f)) := by
  frame_out
  open_payloads
  pointwise
  rfl

theorem body8 : out0_A_8 c i a2 h2 a3 h3 a4 h4 a5 h5 a6 h6 a7 h7 a8 h8 a9 h9 a10 h10 a11 h11 X0 X1 X2 X3 X4 X5 T (ix2 x f)
    = mom (bg X3 X4 X5 x f) (X1 (ix2 x f)) := by
  frame_out
  open_payloads
  pointwise
  rfl

theorem body9 : out0_A_9 c i a2 h2 a3 h3 a4 h4 a5 h5 a6 h6 a7 h7 a8 h8 a9 h9 a10 h10 a11 h11 X0 X1 X2 X3 X4 X5 T (ix2 x f)
    = vel (bg X3 X4 X5 x f) (X2 (ix2 x f)) := by
  frame_out
  open_payloads
  pointwise
  rfl

end Body

theorem block_grd (x : Fin 256) (f : Fin 1024) :
    bg (iblk m (ok m) c 3 t) (iblk m (ok m) c 4 t) (iblk m (ok m) c 5 t) x f = grd m c (ix2 (row m t x) f) := by
  unfold bg
  rw [ib3, ib4, ib5, ib5, ib5]
  rfl

theorem point6 (x : Fin 256) (f : Fin 1024) : (outsAt0 m (ok m) c t).1 (ix2 x f) = grd m c (ix2 (row m t x) f) := by
  unfold outsAt0
  dsimp only
  exact (body6 c).trans (block_grd m c t x f)

theorem point7 (x : Fin 256) (f : Fin 1024) : (outsAt0 m (ok m) c t).2.1 (ix2 x f) = dOut m c (ix2 (row m t x) f) := by
  unfold outsAt0
  dsimp only
  refine (body7 c).trans ?_
  rw [block_grd, ib0, ib1, ib2]
  rfl

theorem point8 (x : Fin 256) (f : Fin 1024) : (outsAt0 m (ok m) c t).2.2.1 (ix2 x f) = mOut m c (ix2 (row m t x) f) := by
  unfold outsAt0
  dsimp only
  refine (body8 c).trans ?_
  rw [block_grd, ib1]
  rfl

theorem point9 (x : Fin 256) (f : Fin 1024) : (outsAt0 m (ok m) c t).2.2.2 (ix2 x f) = vOut m c (ix2 (row m t x) f) := by
  unfold outsAt0
  dsimp only
  refine (body9 c).trans ?_
  rw [block_grd, ib2]
  rfl

theorem emb6 (y : S256x1024.Idx) : (((cfgM m (ok m)).win 6).blk t).view.emb y = ix2 (row m t (y 0)) (y 1) := by
  funext a; apply Fin.ext
  match a with
  | ⟨0, _⟩ => blk_simp [idx m t, row]; rfl
  | ⟨1, _⟩ => blk_simp [idx m t]; rfl

theorem final6 : (dats m (ok m) 0 c).arrAt 6 (cfgM m (ok m)).N = grd m c := by
  refine (dats m (ok m) 0 c).arrAt_eq_of_covers 6 _ (covers m).1 fun t hf (y : S256x1024.Idx) => ?_
  refine Eq.trans ?_ (congrArg (grd m c) (emb6 m t y)).symm
  blk_simp
  rw [after0_6]
  idx_vars y
  exact point6 m c t y0 y1

theorem emb7 (y : S256x1024.Idx) : (((cfgM m (ok m)).win 7).blk t).view.emb y = ix2 (row m t (y 0)) (y 1) := by
  funext a; apply Fin.ext
  match a with
  | ⟨0, _⟩ => blk_simp [idx m t, row]; rfl
  | ⟨1, _⟩ => blk_simp [idx m t]; rfl

theorem final7 : (dats m (ok m) 0 c).arrAt 7 (cfgM m (ok m)).N = dOut m c := by
  refine (dats m (ok m) 0 c).arrAt_eq_of_covers 7 _ (covers m).2.1 fun t hf (y : S256x1024.Idx) => ?_
  refine Eq.trans ?_ (congrArg (dOut m c) (emb7 m t y)).symm
  blk_simp
  rw [after0_7]
  idx_vars y
  exact point7 m c t y0 y1

theorem emb8 (y : S256x1024.Idx) : (((cfgM m (ok m)).win 8).blk t).view.emb y = ix2 (row m t (y 0)) (y 1) := by
  funext a; apply Fin.ext
  match a with
  | ⟨0, _⟩ => blk_simp [idx m t, row]; rfl
  | ⟨1, _⟩ => blk_simp [idx m t]; rfl

theorem final8 : (dats m (ok m) 0 c).arrAt 8 (cfgM m (ok m)).N = mOut m c := by
  refine (dats m (ok m) 0 c).arrAt_eq_of_covers 8 _ (covers m).2.2.1 fun t hf (y : S256x1024.Idx) => ?_
  refine Eq.trans ?_ (congrArg (mOut m c) (emb8 m t y)).symm
  blk_simp
  rw [after0_8]
  idx_vars y
  exact point8 m c t y0 y1

theorem emb9 (y : S256x1024.Idx) : (((cfgM m (ok m)).win 9).blk t).view.emb y = ix2 (row m t (y 0)) (y 1) := by
  funext a; apply Fin.ext
  match a with
  | ⟨0, _⟩ => blk_simp [idx m t, row]; rfl
  | ⟨1, _⟩ => blk_simp [idx m t]; rfl

theorem final9 : (dats m (ok m) 0 c).arrAt 9 (cfgM m (ok m)).N = vOut m c := by
  refine (dats m (ok m) 0 c).arrAt_eq_of_covers 9 _ (covers m).2.2.2 fun t hf (y : S256x1024.Idx) => ?_
  refine Eq.trans ?_ (congrArg (vOut m c) (emb9 m t y)).symm
  blk_simp
  rw [after0_9]
  idx_vars y
  exact point9 m c t y0 y1

theorem run (ρ : Dev nD → PrngReg) : θ_run defs (onTc (τ := τ) (main (F := Ideal))) ⟨m, fun _ => 0, ρ⟩ fun r => ∀ c : Dev nD,
    r.2.mem ((c : Thread nD τ).loc main_v6_0) = grd m c ∧ r.2.mem ((c : Thread nD τ).loc main_v6_1) = dOut m c
    ∧ r.2.mem ((c : Thread nD τ).loc main_v6_2) = mOut m c ∧ r.2.mem ((c : Thread nD τ).loc main_v6_3) = vOut m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun r h c => ?_) (run_main m ρ (ok m))
  have stays : ∀ w : Fin 10, ((cfgM m (ok m)).win w).isOut = false → r.2.mem ((c : Thread nD τ).loc (Pipeline.arrRef spec0 w)) = V m c (Pipeline.arrRef spec0 w) :=
    fun w hw => ((h c).1 w).trans (((dats m (ok m) 0 c).arrAt_in w hw _).trans (A_eq m (ok m) c w))
  exact ⟨((h c).1 6).trans (final6 m c), ((h c).1 7).trans (final7 m c), ((h c).1 8).trans (final8 m c), ((h c).1 9).trans (final9 m c),
    (stays 0 rfl).trans (V_main_arg0 m c), (stays 1 rfl).trans (V_main_arg1 m c), (stays 2 rfl).trans (V_main_arg2 m c),
    (stays 3 rfl).trans (V_main_arg3 m c), (stays 4 rfl).trans (V_main_arg4 m c), (stays 5 rfl).trans (V_main_arg5 m c)⟩

end Cert.AdrIdeal.Hand

end
-- ==== Proof.AdrClaim.lean ====
module

public import proofs.«01_k».proof.Defs
public import proofs.«01_k».proof.Proof.AdrVal
public import proofs.«01_k».proof.Proof.Gen.AdrRefIdeal.Run
public import Idealize.ShloMosaic.Lib.Tactic.CleanTypes

@[expose] public section

set_option maxRecDepth 16384

noncomputable section

open Idealize.ShloMosaic Idealize.ShloMosaic.TcCoe Idealize.SL.Sem

namespace Cert.Adr

open Cert.AdrIdeal Cert.Adam Cert.AdrIdeal.Hand

theorem grd_sum (m : (ℓ : Loc nD τ sig) → Buf (Elt Ideal) ℓ) (c : Dev nD) (i0 : Fin 2048) (i1 : Fin 1024) :
    rd (m ((c : Thread nD τ).loc main_arg3) (ix4 0 0 i0 i1)) + rd (m ((c : Thread nD τ).loc main_arg4) (ix4 0 0 i0 i1))
      + ∑ x : Fin 3, rd (m ((c : Thread nD τ).loc main_arg5) (ix3 x i0 i1)) = grd m c (ix2 i0 i1) := by
  rw [Fin.sum_univ_three, ← add_assoc, ← add_assoc]
  rfl

theorem claim : Cert.algebraic_AdrIdeal_AdrRefIdeal (hAdrIdeal := Cert.AdrIdeal.Gen.facts) (hAdrRefIdeal := Cert.AdrRefIdeal.Gen.facts) := by
  intro m g m' g' _ hagree
  refine ⟨grd m, dOut m, mOut m, vOut m, Hand.run m g,
    (θ_run _ _ _).mono (fun r h c => ⟨(h c).1.trans ?_, (h c).2.1.trans ?_, (h c).2.2.1.trans ?_, (h c).2.2.2.1.trans ?_, (h c).2.2.2.2⟩) (Cert.AdrRefIdeal.Value.run m' g')⟩
  all_goals
    have e := grd_sum m c
    obtain ⟨a0, a1, a2, a3, a4, a5⟩ := hagree c
    simp only [a0, a1, a2, a3, a4, a5]
    clear h
    funext i; idx_vars i
    clean_types
    pointwise
    simp only [e] <;> rfl

end Cert.Adr

end
-- ==== Proof.PairSumOk.lean ====
module

public import proofs.«01_k».proof.Proof.Gen.PairSum.Frame
public import proofs.«01_k».proof.Proof.Gen.PairSumIdeal.Frame
public import proofs.«01_k».proof.Proof.Table

@[expose] public section

set_option maxRecDepth 16384

noncomputable section

open Idealize.ShloMosaic Idealize.ShloMosaic.TcCoe Idealize.SL.Sem

namespace Cert.PairSum.Hand

open Cert.PairSum Cert.PairSum.Gen Cert.Table

set_option backward.proofsInPublic true in
/-- The one table's contents. -/
def words : pre0.Contents (Elt Bits) := fun | ⟨0, _⟩ => nums | ⟨_ + 1, h⟩ => absurd h (by simp)

theorem words_ok : ok0 words := by decide +kernel

variable (m : (ℓ : Loc nD τ sig) → Buf (Elt Bits) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.PairSum.Hand

namespace Cert.PairSumIdeal.Hand

open Cert.PairSumIdeal Cert.PairSumIdeal.Gen Cert.Table

set_option backward.proofsInPublic true in
/-- The one table's contents. -/
def words : pre0.Contents (Elt Ideal) := fun | ⟨0, _⟩ => nums | ⟨_ + 1, h⟩ => absurd h (by simp)

theorem words_ok : ok0 words := by decide +kernel

variable (m : (ℓ : Loc nD τ sig) → Buf (Elt Ideal) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.PairSumIdeal.Hand

end
-- ==== Proof.PairSumVal.lean ====
module

public import proofs.«01_k».proof.Proof.PairSumOk

@[expose] public section

set_option maxRecDepth 16384

noncomputable section

open Idealize.ShloMosaic Idealize.ShloMosaic.TcCoe Idealize.SL.Sem
open Idealize.ShloMosaic.Pipeline (Dat)

namespace Cert.PairSumIdeal.Hand

open Cert.PairSumIdeal Cert.PairSumIdeal.Gen

abbrev adm0 : (pcfg0 (F := Ideal)).Adm := ⟨words, words_ok⟩

variable (m : (ℓ : Loc nD τ sig) → Buf (Elt Ideal) ℓ)

theorem adm_eq : adm m (ok m) = adm0 := Subtype.ext (tbl_eq m)

theorem idx : ∀ t : Fin (cfgM m (ok m)).N, ((cfgM m (ok m)).win 0).index t = ![t.val / 2 + 1, 0, t.val % 2, 0]
    ∧ ((cfgM m (ok m)).win 1).index t = ![t.val / 2 + 1, 0, t.val % 2, 0] ∧ ((cfgM m (ok m)).win 2).index t = ![t.val / 2, t.val % 2, 0] := by
  unfold cfgM
  rw [adm_eq]
  decide +kernel

theorem covers : ((cfgM m (ok m)).win 2).Covers := by
  unfold cfgM
  rw [adm_eq]
  decide +kernel

variable (c : Dev nD) (t : Fin (cfgM m (ok m)).N)

/-- The other chip a slot is for. -/
def nb (k : Fin 3) : Fin 4 := ⟨1 + k.val, by omega⟩
def slot : Fin 3 := ⟨t.val / 2, by have : t.val < 6 := t.isLt; omega⟩
def row (x : Fin 1024) : Fin 2048 := ⟨t.val % 2 * 1024 + x.val, by omega⟩

theorem ib0 (x : Fin 1024) (f : Fin 1024) :
    iblk m (ok m) c 0 t (ix4 0 0 x f) = m ((c : Thread nD τ).loc main_arg0) (ix4 (nb (slot m t)) 0 (row m t x) f) := by
  blk_point [iblk, idx m t, row, slot]
  unfold nb; dsimp only; omega
theorem ib1 (x : Fin 1024) (f : Fin 1024) :
    iblk m (ok m) c 1 t (ix4 0 0 x f) = m ((c : Thread nD τ).loc main_arg1) (ix4 (nb (slot m t)) 0 (row m t x) f) := by
  blk_point [iblk, idx m t, row, slot]
  unfold nb; dsimp only; omega

abbrev rd (x : EReal) : EReal := x

/-- The sum of the two cores' parts for each of the three other chips. -/
def pair (i : S3x2048x1024.Idx) : EReal :=
  rd (m ((c : Thread nD τ).loc main_arg0) (ix4 (nb (i 0)) 0 (i 1) (i 2))) + rd (m ((c : Thread nD τ).loc main_arg1) (ix4 (nb (i 0)) 0 (i 1) (i 2)))

theorem body {i : grid0.Coords} {a3 : Memref sig .tc .vmem S1x1x1024x1024 .bf16} {h3 : a3.IsWhole} {a4 : Memref sig .tc .vmem S1x1x1024x1024 .bf16}
    {h4 : a4.IsWhole} {a5 : Memref sig .tc .vmem S1x1024x1024 .bf16} {h5 : a5.IsWhole} {X Y : Vec Ideal S1x1x1024x1024 .bf16}
    {T : TbBuf0 (F := Ideal) c tbM0_0} {x f : Fin 1024} :
    out0_A_2 c i a3 h3 a4 h4 a5 h5 X Y T (ix3 0 x f) = rd (X (ix4 0 0 x f)) + rd (Y (ix4 0 0 x f)) := by
  frame_out
  open_payloads
  pointwise

theorem point (x f : Fin 1024) : outsAt0 m (ok m) c t (ix3 0 x f) = pair m c (ix3 (slot m t) (row m t x) f) := by
  unfold outsAt0
  refine (body c).trans ?_
  rw [ib0, ib1]
  rfl

theorem emb (y : S1x1024x1024.Idx) : (((cfgM m (ok m)).win 2).blk t).view.emb y = ix3 (slot m t) (row m t (y 1)) (y 2) := by
  have h0 : (y 0).val = 0 := Nat.lt_one_iff.mp (y 0).isLt
  funext a; apply Fin.ext
  match a with
  | ⟨0, _⟩ => blk_simp [idx m t, slot, h0]
  | ⟨1, _⟩ => blk_simp [idx m t, row]; rfl
  | ⟨2, _⟩ => blk_simp [idx m t]; rfl

theorem final : (dats m (ok m) 0 c).arrAt 2 (cfgM m (ok m)).N = pair m c := by
  refine (dats m (ok m) 0 c).arrAt_eq_of_covers 2 _ (covers m) fun t hf (y : S1x1024x1024.Idx) => ?_
  refine Eq.trans ?_ (congrArg (pair m c) (emb m t y)).symm
  blk_simp
  rw [after0_2]
  idx_vars y
  obtain rfl : y0 = 0 := Subsingleton.elim _ _
  exact point m c t y1 y2

theorem run (ρ : Dev nD → PrngReg) : θ_run defs (onTc (τ := τ) (main (F := Ideal))) ⟨m, fun _ => 0, ρ⟩ fun r => ∀ c : Dev nD,
    r.2.mem ((c : Thread nD τ).loc main_v6) = pair m c
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ?_) (run_main m ρ (ok m))
  have stays : ∀ w : Fin 3, ((cfgM m (ok m)).win w).isOut = false → r.2.mem ((c : Thread nD τ).loc (Pipeline.arrRef spec0 w)) = V m c (Pipeline.arrRef spec0 w) :=
    fun w hw => ((h c).1 w).trans (((dats m (ok m) 0 c).arrAt_in w hw _).trans (A_eq m (ok m) c w))
  exact ⟨((h c).1 2).trans (final m c), (stays 0 rfl).trans (V_main_arg0 m c), (stays 1 rfl).trans (V_main_arg1 m c)⟩

end Cert.PairSumIdeal.Hand

end
-- ==== Proof.PairSumClaim.lean ====
module

public import proofs.«01_k».proof.Defs
public import proofs.«01_k».proof.Proof.PairSumVal
public import proofs.«01_k».proof.Proof.Gen.PairSumRefIdeal.Run
public import Idealize.ShloMosaic.Lib.Tactic.CleanTypes

@[expose] public section

set_option maxRecDepth 16384

noncomputable section

open Idealize.ShloMosaic Idealize.ShloMosaic.TcCoe Idealize.SL.Sem

namespace Cert.PairSum

open Cert.PairSumIdeal Cert.PairSumIdeal.Hand

theorem claim : Cert.algebraic_PairSumIdeal_PairSumRefIdeal (hPairSumIdeal := Cert.PairSumIdeal.Gen.facts)
    (hPairSumRefIdeal := Cert.PairSumRefIdeal.Gen.facts) := by
  intro m g m' g' _ hagree
  refine ⟨pair m, Cert.PairSumIdeal.Hand.run m g,
    (θ_run _ _ _).mono (fun r h c => ⟨(h c).1.trans ?_, (h c).2⟩) (Cert.PairSumRefIdeal.Value.run m' g')⟩
  obtain ⟨a0, a1⟩ := hagree c
  rw [a0, a1]
  clear h
  funext i; idx_vars i
  clean_types
  pointwise
  rfl

end Cert.PairSum

end
-- ==== Proof.MmTnGOk.lean ====
module

public import proofs.«01_k».proof.Proof.Gen.MmTnG.Frame
public import proofs.«01_k».proof.Proof.Gen.MmTnGIdeal.Frame
public import proofs.«01_k».proof.Proof.Table

@[expose] public section

set_option maxRecDepth 16384

noncomputable section

open Idealize.ShloMosaic Idealize.ShloMosaic.TcCoe Idealize.SL.Sem

namespace Cert.MmTnG.Hand

open Cert.MmTnG Cert.MmTnG.Gen Cert.Table

set_option backward.proofsInPublic true in
/-- The one table's contents. -/
def words : pre0.Contents (Elt Bits) := fun | ⟨0, _⟩ => nums | ⟨_ + 1, h⟩ => absurd h (by simp)

theorem words_ok : ok0 words := by decide +kernel

variable (m : (ℓ : Loc nD τ sig) → Buf (Elt Bits) ℓ)

theorem num (k : Fin 5) : (V m (0 : Dev nD) main_v11 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v11 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.MmTnG.Hand

namespace Cert.MmTnGIdeal.Hand

open Cert.MmTnGIdeal Cert.MmTnGIdeal.Gen Cert.Table

set_option backward.proofsInPublic true in
/-- The one table's contents. -/
def words : pre0.Contents (Elt Ideal) := fun | ⟨0, _⟩ => nums | ⟨_ + 1, h⟩ => absurd h (by simp)

theorem words_ok : ok0 words := by decide +kernel

variable (m : (ℓ : Loc nD τ sig) → Buf (Elt Ideal) ℓ)

theorem num (k : Fin 5) : (V m (0 : Dev nD) main_v11 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v11 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.MmTnGIdeal.Hand

end
-- ==== Proof.MmTnGVal.lean ====
module

public import proofs.«01_k».proof.Proof.MmTnGOk

@[expose] public section

set_option maxRecDepth 16384

noncomputable section

open Idealize.ShloMosaic Idealize.ShloMosaic.TcCoe Idealize.SL.Sem

namespace Cert.MmTnGIdeal.Hand

open Cert.MmTnGIdeal Cert.MmTnGIdeal.Gen

abbrev adm0 : (pcfg0 (F := Ideal)).Adm := ⟨words, words_ok⟩

variable (m : (ℓ : Loc nD τ sig) → Buf (Elt Ideal) ℓ)

theorem adm_eq : adm m (ok m) = adm0 := Subtype.ext (tbl_eq m)

theorem idx : ∀ t : Fin (cfgM m (ok m)).N, ((cfgM m (ok m)).win 0).index t = ![0, t.val / 4]
    ∧ ((cfgM m (ok m)).win 1).index t = ![3, 0, t.val % 4] ∧ ((cfgM m (ok m)).win 2).index t = ![t.val % 4 / 2, t.val / 4, t.val % 2] := by
  unfold cfgM
  rw [adm_eq]
  decide +kernel

theorem covers : ((cfgM m (ok m)).win 2).Covers := by
  unfold cfgM
  rw [adm_eq]
  decide +kernel

variable (c : Dev nD)

/-- The arguments, by their positions; the product; the far group's columns. -/
def H (s d : Fin 2048) : EReal := m ((c : Thread nD τ).loc main_arg0) (ix3 0 s d)
def B (s : Fin 2048) (f : Fin 16384) : EReal := m ((c : Thread nD τ).loc main_arg1) (ix3 0 s f)
def G (d : Fin 2048) (f : Fin 16384) : EReal := ∑ s : Fin 2048, H m c s d * B m c s f
def gcol (q : Fin 2) (n : Fin 2048) : Fin 16384 := ⟨12288 + q.val * 2048 + n.val, by omega⟩

def row (n : ℕ) (hn : n < (cfgM m (ok m)).N) (r : Fin 1024) : Fin 2048 :=
  ⟨n / 4 * 1024 + r.val, by have : n < 8 := hn; omega⟩

variable (t : Fin (cfgM m (ok m)).N)

def chunk : Fin 2 := ⟨t.val % 4 / 2, by omega⟩
def col (x : Fin 1024) : Fin 2048 := ⟨t.val % 2 * 1024 + x.val, by omega⟩

theorem slotB (g : Fin 4) (s : Fin 2048) (n : Fin 4096) : V m c (Pipeline.arrRef spec0 1) (ix3 g s n) = B m c s ⟨g.val * 4096 + n.val, by omega⟩ := by
  unfold B
  entry_read
  pointwise

theorem ib0 (s : Fin 2048) (r : Fin 1024) : iblk m (ok m) c 0 t (ix2 s r) = H m c s (row m t.val t.isLt r) := by
  refine Eq.trans ?_ (show V m c (Pipeline.arrRef spec0 0) (ix2 s (row m t.val t.isLt r)) = H m c s (row m t.val t.isLt r) by unfold H; entry_read; pointwise)
  blk_point [iblk, idx m t, row]
theorem ib1 (s : Fin 2048) (x : Fin 1024) : iblk m (ok m) c 1 t (ix3 0 s x) = B m c s (gcol (chunk m t) (col m t x)) := by
  have e : gcol (chunk m t) (col m t x) = ⟨(3 : Fin 4).val * 4096 + (⟨t.val % 4 * 1024 + x.val, by omega⟩ : Fin 4096).val, by dsimp only; omega⟩ :=
    Fin.ext (by unfold gcol chunk col; show 12288 + t.val % 4 / 2 * 2048 + (t.val % 2 * 1024 + x.val) = 3 * 4096 + (t.val % 4 * 1024 + x.val); omega)
  rw [e, ← slotB]
  blk_point [iblk, idx m t]

section Body

variable {i : grid0.Coords} {a3 : Memref sig .tc .vmem S2048x1024 .bf16} {h3 : a3.IsWhole} {a4 : Memref sig .tc .vmem S1x2048x1024 .bf16} {h4 : a4.IsWhole}
  {a5 : Memref sig .tc .vmem S1x1024x1024 .bf16} {h5 : a5.IsWhole} {X : Vec Ideal S2048x1024 .bf16} {Y : Vec Ideal S1x2048x1024 .bf16}
  {T : TbBuf0 (F := Ideal) c tbM0_0} {Z : Vec Ideal S1024x2048 .bf16} {r x : Fin 1024} {s : Fin 2048}

abbrev prod (p q : EReal) : EReal := p * q

theorem keptA {h : cond0_0 i} : sout0_A_0 c i a3 h3 a4 h4 a5 h5 scM0_0 (Memref.isWhole_whole _) h X Y T (ix2 r s) = X (ix2 s r) := by
  frame_out
  open_payloads
  pointwise

theorem bodyA {h : cond0_0 i} : out0_A_2 c i a3 h3 a4 h4 a5 h5 scM0_0 (Memref.isWhole_whole _) h X Y T (ix3 0 r x)
    = ∑ s : Fin 2048, prod (X (ix2 s r)) (Y (ix3 0 s x)) := by
  frame_out
  open_payloads
  pointwise

theorem bodyB {h : ¬cond0_0 i} : out0_B_2 c i a3 h3 a4 h4 a5 h5 scM0_0 (Memref.isWhole_whole _) h X Y T Z (ix3 0 r x)
    = ∑ s : Fin 2048, prod (Z (ix2 r s)) (Y (ix3 0 s x)) := by
  frame_out
  open_payloads
  pointwise
  rw [(Memref.isWhole_whole cc0_scratch0).read_unread]

end Body

/-- The turned block of the first factor, kept over the columns. -/
theorem kept : ∀ (n : ℕ) (hn : n < (cfgM m (ok m)).N) (r : Fin 1024) (s : Fin 2048), (outsAt0 m (ok m) c n hn).2 (ix2 r s) = H m c s (row m n hn r) := by
  intro n
  induction n with
  | zero =>
    intro hn r s
    rw [outsAt0_A m (ok m) c ⟨0, hn⟩ rfl]
    dsimp only
    exact (keptA c).trans (ib0 m c ⟨0, hn⟩ s r)
  | succ n ih =>
    intro hn r s
    by_cases h : (n + 1) % 4 = 0
    · rw [outsAt0_A m (ok m) c ⟨n + 1, hn⟩ h]
      dsimp only
      exact (keptA c).trans (ib0 m c ⟨n + 1, hn⟩ s r)
    · rw [outsAt0_B m (ok m) c ⟨n + 1, hn⟩ h]
      refine (ih (Nat.lt_of_succ_lt hn) r s).trans ?_
      have e : row m n (Nat.lt_of_succ_lt hn) r = row m (n + 1) hn r := Fin.ext (by unfold row; dsimp only; omega)
      rw [e]

theorem point (r x : Fin 1024) : (outsAt0 m (ok m) c t.val t.isLt).1 (ix3 0 r x) = G m c (row m t.val t.isLt r) (gcol (chunk m t) (col m t x)) := by
  unfold G
  by_cases h : t.val % 4 = 0
  · rw [outsAt0_A m (ok m) c t h]
    dsimp only
    refine (bodyA c).trans (Finset.sum_congr rfl fun s _ => ?_)
    rw [ib0, ib1]
  · rw [outsAt0_B m (ok m) c t h]
    dsimp only
    refine (bodyB c).trans (Finset.sum_congr rfl fun s _ => ?_)
    have e : row m (t.val - 1) (Nat.lt_of_le_of_lt (Nat.sub_le _ _) t.isLt) r = row m t.val t.isLt r := Fin.ext (by unfold row; dsimp only; omega)
    rw [kept, ib1, e]

def out (i : S2x2048x2048.Idx) : EReal := G m c (i 1) (gcol (i 0) (i 2))

theorem emb (y : S1x1024x1024.Idx) : (((cfgM m (ok m)).win 2).blk t).view.emb y = ix3 (chunk m t) (row m t.val t.isLt (y 1)) (col m t (y 2)) := by
  have h0 : (y 0).val = 0 := Nat.lt_one_iff.mp (y 0).isLt
  funext a; apply Fin.ext
  match a with
  | ⟨0, _⟩ => blk_simp [idx m t, chunk, h0]
  | ⟨1, _⟩ => blk_simp [idx m t, row]; rfl
  | ⟨2, _⟩ => blk_simp [idx m t, col]; rfl

theorem final : (dats m (ok m) 0 c).arrAt 2 (cfgM m (ok m)).N = out m c := by
  refine (dats m (ok m) 0 c).arrAt_eq_of_covers 2 _ (covers m) fun t hf (y : S1x1024x1024.Idx) => ?_
  refine Eq.trans ?_ (congrArg (out m c) (emb m t y)).symm
  blk_simp
  rw [after0_2]
  idx_vars y
  obtain rfl : y0 = 0 := Subsingleton.elim _ _
  exact point m c t y1 y2

theorem run (ρ : Dev nD → PrngReg) : θ_run defs (onTc (τ := τ) (main (F := Ideal))) ⟨m, fun _ => 0, ρ⟩ fun r => ∀ c : Dev nD,
    r.2.mem ((c : Thread nD τ).loc main_v12) = out m c
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ?_) (run_main m ρ (ok m))
  exact ⟨((h c).1 2).trans (final m c), ((h c).2 main_arg0 (by decide : main_arg0 ∈ Pipeline.restRefs sig spec0)).trans (V_main_arg0 m c),
    ((h c).2 main_arg1 (by decide : main_arg1 ∈ Pipeline.restRefs sig spec0)).trans (V_main_arg1 m c)⟩

end Cert.MmTnGIdeal.Hand

end
-- ==== Proof.MmTnGClaim.lean ====
module

public import proofs.«01_k».proof.Defs
public import proofs.«01_k».proof.Proof.MmTnGVal
public import proofs.«01_k».proof.Proof.Gen.MmTnGRefIdeal.Run
public import Idealize.ShloMosaic.Lib.Tactic.CleanTypes

@[expose] public section

set_option maxRecDepth 16384

noncomputable section

open Idealize.ShloMosaic Idealize.ShloMosaic.TcCoe Idealize.SL.Sem

namespace Cert.MmTnG

open Cert.MmTnGIdeal Cert.MmTnGIdeal.Hand

theorem claim : Cert.algebraic_MmTnGIdeal_MmTnGRefIdeal (hMmTnGIdeal := Cert.MmTnGIdeal.Gen.facts)
    (hMmTnGRefIdeal := Cert.MmTnGRefIdeal.Gen.facts) := by
  intro m g m' g' _ hagree
  refine ⟨out m, Cert.MmTnGIdeal.Hand.run m g,
    (θ_run _ _ _).mono (fun r h c => ⟨(h c).1.trans ?_, (h c).2⟩) (Cert.MmTnGRefIdeal.Value.run m' g')⟩
  obtain ⟨a0, a1⟩ := hagree c
  rw [a0, a1]
  clear h
  funext i; idx_vars i
  clean_types
  pointwise
  simp only [Finset.univ_unique, Finset.sum_singleton]
  match i0 with
  | 0 => exact (dif_pos Nat.zero_lt_one).trans ((Finset.sum_congr rfl fun k _ => mul_comm _ _).trans rfl)
  | 1 => exact (dif_neg (Nat.lt_irrefl 1)).trans ((Finset.sum_congr rfl fun k _ => mul_comm _ _).trans rfl)

end Cert.MmTnG

end
-- ==== Proof.MmProjGOk.lean ====
module

public import proofs.«01_k».proof.Proof.Gen.MmProjG.Frame
public import proofs.«01_k».proof.Proof.Gen.MmProjGIdeal.Frame
public import proofs.«01_k».proof.Proof.Table

@[expose] public section

set_option maxRecDepth 16384

noncomputable section

open Idealize.ShloMosaic Idealize.ShloMosaic.TcCoe Idealize.SL.Sem

namespace Cert.MmProjG.Hand

open Cert.MmProjG Cert.MmProjG.Gen Cert.Table

set_option backward.proofsInPublic true in
/-- The one table's contents. -/
def words : pre0.Contents (Elt Bits) := fun | ⟨0, _⟩ => nums | ⟨_ + 1, h⟩ => absurd h (by simp)

theorem words_ok : ok0 words := by decide +kernel

variable (m : (ℓ : Loc nD τ sig) → Buf (Elt Bits) ℓ)

theorem num (k : Fin 5) : (V m (0 : Dev nD) main_v10 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v10 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.MmProjG.Hand

namespace Cert.MmProjGIdeal.Hand

open Cert.MmProjGIdeal Cert.MmProjGIdeal.Gen Cert.Table

set_option backward.proofsInPublic true in
/-- The one table's contents. -/
def words : pre0.Contents (Elt Ideal) := fun | ⟨0, _⟩ => nums | ⟨_ + 1, h⟩ => absurd h (by simp)

theorem words_ok : ok0 words := by decide +kernel

variable (m : (ℓ : Loc nD τ sig) → Buf (Elt Ideal) ℓ)

theorem num (k : Fin 5) : (V m (0 : Dev nD) main_v10 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v10 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.MmProjGIdeal.Hand

end
-- ==== Proof.MmProjGVal.lean ====
module

public import proofs.«01_k».proof.Proof.MmProjGOk

@[expose] public section

set_option maxRecDepth 16384

noncomputable section

open Idealize.ShloMosaic Idealize.ShloMosaic.TcCoe Idealize.SL.Sem
open Idealize.ShloMosaic.Pipeline (Dat)

namespace Cert.MmProjGIdeal.Hand

open Cert.MmProjGIdeal Cert.MmProjGIdeal.Gen

abbrev adm0 : (pcfg0 (F := Ideal)).Adm := ⟨words, words_ok⟩

variable (m : (ℓ : Loc nD τ sig) → Buf (Elt Ideal) ℓ)

theorem adm_eq : adm m (ok m) = adm0 := Subtype.ext (tbl_eq m)

theorem idx : ∀ t : Fin (cfgM m (ok m)).N, ((cfgM m (ok m)).win 0).index t = ![0, 0]
    ∧ ((cfgM m (ok m)).win 1).index t = ![6 + t.val / 4, 0, t.val % 4] ∧ ((cfgM m (ok m)).win 2).index t = ![3, 0, t.val] := by
  unfold cfgM
  rw [adm_eq]
  decide +kernel

/-- The cells the call writes: the far group's. -/
abbrev far : (Fin 3 → Nat) → Prop := fun b => b 0 = 3

theorem covers : ((cfgM m (ok m)).win 2).CoversWhere far := by
  unfold cfgM
  rw [adm_eq]
  decide +kernel

variable (c : Dev nD)

/-- The arguments, by their positions; the product. -/
def H (s k : Fin 2048) : EReal := m ((c : Thread nD τ).loc main_arg0) (ix3 0 s k)
def W (k : Fin 2048) (f : Fin 16384) : EReal := m ((c : Thread nD τ).loc main_arg1) (ix2 k f)
def G (s : Fin 2048) (f : Fin 16384) : EReal := ∑ k : Fin 2048, H m c s k * W m c k f
def gcol (e : Fin 4096) : Fin 16384 := ⟨12288 + e.val, by omega⟩

variable (t : Fin (cfgM m (ok m)).N)

def col (x : Fin 512) : Fin 4096 := ⟨t.val * 512 + x.val, by have : t.val < 8 := t.isLt; omega⟩

theorem slotW (g : Fin 8) (k n : Fin 2048) : V m c (Pipeline.arrRef spec0 1) (ix3 g k n) = W m c k ⟨g.val * 2048 + n.val, by omega⟩ := by
  unfold W
  entry_read
  pointwise

theorem ib0 (s k : Fin 2048) : iblk m (ok m) c 0 t (ix2 s k) = H m c s k := by
  refine Eq.trans ?_ (show V m c (Pipeline.arrRef spec0 0) (ix2 s k) = H m c s k by unfold H; entry_read; pointwise)
  blk_point [iblk, idx m t]
theorem ib1 (k : Fin 2048) (x : Fin 512) : iblk m (ok m) c 1 t (ix3 0 k x) = W m c k (gcol (col m t x)) := by
  have ht : t.val < 8 := t.isLt
  have e : gcol (col m t x) = ⟨(⟨6 + t.val / 4, by omega⟩ : Fin 8).val * 2048 + (⟨t.val % 4 * 512 + x.val, by omega⟩ : Fin 2048).val, by dsimp only; omega⟩ :=
    Fin.ext (by unfold gcol col; dsimp only; omega)
  rw [e, ← slotW]
  blk_point [iblk, idx m t]

abbrev prod (p q : EReal) : EReal := p * q

theorem body {i : grid0.Coords} {a2 : Memref sig .tc .vmem S2048x2048 .bf16} {h2 : a2.IsWhole} {a3 : Memref sig .tc .vmem S1x2048x512 .bf16} {h3 : a3.IsWhole}
    {a5 : Memref sig .tc .vmem S1x2048x512 .bf16} {h5 : a5.IsWhole} {X : Vec Ideal S2048x2048 .bf16} {Y : Vec Ideal S1x2048x512 .bf16}
    {T : TbBuf0 (F := Ideal) c tbM0_0} {s : Fin 2048} {x : Fin 512} :
    out0_A_2 c i a2 h2 a3 h3 a5 h5 X Y T (ix3 0 s x) = ∑ k : Fin 2048, prod (X (ix2 s k)) (Y (ix3 0 k x)) := by
  frame_out
  open_payloads
  pointwise

theorem point (s : Fin 2048) (x : Fin 512) : outsAt0 m (ok m) c t (ix3 0 s x) = G m c s (gcol (col m t x)) := by
  unfold outsAt0 G
  refine (body c).trans (Finset.sum_congr rfl fun k _ => ?_)
  rw [ib0, ib1]

/-- The array after the call: the far group's product, the other groups as they were. -/
def out (i : S4x2048x4096.Idx) : EReal := if (i 0).val < 3 then m ((c : Thread nD τ).loc main_arg2) i else G m c (i 1) (gcol (i 2))

theorem emb (y : S1x2048x512.Idx) : (((cfgM m (ok m)).win 2).blk t).view.emb y = ix3 3 (y 1) (col m t (y 2)) := by
  have h0 : (y 0).val = 0 := Nat.lt_one_iff.mp (y 0).isLt
  funext a; apply Fin.ext
  match a with
  | ⟨0, _⟩ => blk_simp [idx m t, h0]; rfl
  | ⟨1, _⟩ => blk_simp [idx m t]; rfl
  | ⟨2, _⟩ => blk_simp [idx m t, col]; rfl

theorem start : V m c main_v11 = m ((c : Thread nD τ).loc main_arg2) := by
  funext i
  entry_read
  rfl

theorem final : (dats m (ok m) 0 c).arrAt 2 (cfgM m (ok m)).N = out m c := by
  refine (dats m (ok m) 0 c).arrAt_eq_of_coversWhere_of_agree 2 _ far (covers m) (fun t hf (y : S1x2048x512.Idx) => ?_) (fun (j : S4x2048x4096.Idx) hj => ?_)
  · refine Eq.trans ?_ (congrArg (out m c) (emb m t y)).symm
    blk_simp
    rw [after0_2]
    idx_vars y
    obtain rfl : y0 = 0 := Subsingleton.elim _ _
    refine (point m c t y1 y2).trans ?_
    exact (if_neg (Nat.lt_irrefl 3)).symm
  · rw [A_eq]
    refine (congrFun (start m c) _).trans ?_
    refine (if_pos ?_).symm
    have h1 : ¬ (j 0).val / 1 = 3 := hj
    have h2 : (j 0).val < 4 := (j 0).isLt
    rw [Nat.div_one] at h1
    show (j 0).val < 3
    omega

theorem run (ρ : Dev nD → PrngReg) : θ_run defs (onTc (τ := τ) (main (F := Ideal))) ⟨m, fun _ => 0, ρ⟩ fun r => ∀ c : Dev nD,
    r.2.mem ((c : Thread nD τ).loc main_v11) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ?_) (run_main m ρ (ok m))
  exact ⟨((h c).1 2).trans (final m c), ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c)⟩

end Cert.MmProjGIdeal.Hand

end
-- ==== Proof.MmProjGClaim.lean ====
module

public import proofs.«01_k».proof.Defs
public import proofs.«01_k».proof.Proof.MmProjGVal
public import proofs.«01_k».proof.Proof.Gen.MmProjGRefIdeal.Run
public import Idealize.ShloMosaic.Lib.Tactic.CleanTypes

@[expose] public section

set_option maxRecDepth 16384

noncomputable section

open Idealize.ShloMosaic Idealize.ShloMosaic.TcCoe Idealize.SL.Sem

namespace Cert.MmProjG

open Cert.MmProjGIdeal Cert.MmProjGIdeal.Hand

theorem claim : Cert.algebraic_MmProjGIdeal_MmProjGRefIdeal (hMmProjGIdeal := Cert.MmProjGIdeal.Gen.facts)
    (hMmProjGRefIdeal := Cert.MmProjGRefIdeal.Gen.facts) := by
  intro m g m' g' _ hagree
  refine ⟨out m, Cert.MmProjGIdeal.Hand.run m g,
    (θ_run _ _ _).mono (fun r h c => ⟨(h c).1.trans ?_, (h c).2⟩) (Cert.MmProjGRefIdeal.Value.run m' g')⟩
  obtain ⟨a0, a1, a2⟩ := hagree c
  rw [a0, a1, a2]
  clear h
  funext i; idx_vars i
  clean_types
  pointwise
  unfold out
  by_cases h : i0.val < 3
  · exact (dif_pos h).trans (if_pos h).symm
  · refine (dif_neg h).trans (Eq.trans (Finset.sum_congr rfl fun k _ => ?_) (if_neg h).symm)
    have e : (⟨i0.val - 3, by omega⟩ : Fin 1) = 0 := Subsingleton.elim _ _
    exact congrArg (fun q : Fin 1 => prod (m ((c : Thread nD τ).loc main_arg0) (ix3 q i1 k)) (m ((c : Thread nD τ).loc main_arg1) (ix2 k (gcol i2)))) e

end Cert.MmProjG

end
-- ==== Proof.AdrScOk.lean ====
module

public import proofs.«01_k».proof.Proof.Gen.AdrSc.Frame
public import proofs.«01_k».proof.Proof.Gen.AdrScIdeal.Frame
public import Idealize.ShloMosaic.Lib.Pipeline.ValueKit

@[expose] public section

set_option maxRecDepth 16384

noncomputable section

open Idealize.ShloMosaic Idealize.ShloMosaic.TcCoe Idealize.SL.Sem

namespace Cert.AdrSc

/-- The table of a call whose parts have one slot: slot 0 throughout, and core 0. -/
def nums : (⟨1, ![5]⟩ : Shape).Idx → BitVec 32 := fun _ => 0#32

end Cert.AdrSc

namespace Cert.AdrSc.Hand

open Cert.AdrSc Cert.AdrSc.Gen

set_option backward.proofsInPublic true in
/-- The one table's contents. -/
def words : pre0.Contents (Elt Bits) := fun | ⟨0, _⟩ => nums | ⟨_ + 1, h⟩ => absurd h (by simp)

theorem words_ok : ok0 words := by decide +kernel

variable (m : (ℓ : Loc nD τ sig) → Buf (Elt Bits) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.AdrSc.Hand

namespace Cert.AdrScIdeal.Hand

open Cert.AdrScIdeal Cert.AdrScIdeal.Gen
open Cert.AdrSc (nums)

set_option backward.proofsInPublic true in
/-- The one table's contents. -/
def words : pre0.Contents (Elt Ideal) := fun | ⟨0, _⟩ => nums | ⟨_ + 1, h⟩ => absurd h (by simp)

theorem words_ok : ok0 words := by decide +kernel

variable (m : (ℓ : Loc nD τ sig) → Buf (Elt Ideal) ℓ)

theorem num (k : Fin 5) : (V m (0 : Dev nD) main_v5 : S5.Idx → BitVec 32) (ix1 k) = nums (ix1 k) := by
  match k with
  | 0 => sl_kernel_rfl
  | 1 => sl_kernel_rfl
  | 2 => sl_kernel_rfl
  | 3 => sl_kernel_rfl
  | 4 => sl_kernel_rfl

theorem all_nums (x : S5.Idx) : (V m (0 : Dev nD) main_v5 : S5.Idx → BitVec 32) x = nums x := by
  idx_vars x
  exact num m x0

theorem tbl_eq : tbl m = words := by
  funext j x
  match j with
  | ⟨0, _⟩ => exact all_nums m x

theorem ok : Ok m := by
  unfold Ok
  rw [tbl_eq]
  exact words_ok

end Cert.AdrScIdeal.Hand

end
-- ==== Proof.AdrScVal.lean ====
module

public import proofs.«01_k».proof.Proof.AdrScOk
public import proofs.«01_k».proof.Proof.AdaMath

@[expose] public section

set_option maxRecDepth 16384

noncomputable section

open Idealize.ShloMosaic Idealize.ShloMosaic.TcCoe Idealize.SL.Sem
open Idealize.ShloMosaic.Pipeline (Dat)

namespace Cert.AdrScIdeal.Hand

open Cert.AdrScIdeal Cert.AdrScIdeal.Gen Cert.Adam

/-- The pipeline's table, as admitted contents. -/
abbrev adm0 : (pcfg0 (F := Ideal)).Adm := ⟨words, words_ok⟩

variable (m : (ℓ : Loc nD τ sig) → Buf (Elt Ideal) ℓ)

theorem adm_eq : adm m (ok m) = adm0 := Subtype.ext (tbl_eq m)

theorem idx : ∀ t : Fin (cfgM m (ok m)).N, ((cfgM m (ok m)).win 0).index t = ![t.val, 0] ∧ ((cfgM m (ok m)).win 1).index t = ![t.val, 0]
    ∧ ((cfgM m (ok m)).win 2).index t = ![t.val, 0] ∧ ((cfgM m (ok m)).win 3).index t = ![0, 0, t.val, 0]
    ∧ ((cfgM m (ok m)).win 4).index t = ![0, 0, t.val, 0] ∧ ((cfgM m (ok m)).win 5).index t = ![0, t.val, 0]
    ∧ ((cfgM m (ok m)).win 6).index t = ![0, t.val, 0] ∧ ((cfgM m (ok m)).win 7).index t = ![0, t.val, 0]
    ∧ ((cfgM m (ok m)).win 8).index t = ![t.val, 0] ∧ ((cfgM m (ok m)).win 9).index t = ![t.val, 0]
    ∧ ((cfgM m (ok m)).win 10).index t = ![t.val, 0] ∧ ((cfgM m (ok m)).win 11).index t = ![t.val, 0] := by
  unfold cfgM
  rw [adm_eq]
  decide +kernel

theorem covers : ((cfgM m (ok m)).win 8).Covers ∧ ((cfgM m (ok m)).win 9).Covers ∧ ((cfgM m (ok m)).win 10).Covers ∧ ((cfgM m (ok m)).win 11).Covers := by
  unfold cfgM
  rw [adm_eq]
  exact ⟨by decide +kernel, by decide +kernel, by decide +kernel, by decide +kernel⟩

variable (c : Dev nD) (t : Fin (cfgM m (ok m)).N)

def row (x : Fin 256) : Fin 2048 := ⟨t.val * 256 + x.val, by have : t.val < 8 := t.isLt; omega⟩

theorem ib0 (x : Fin 256) (f : Fin 2048) : iblk m (ok m) c 0 t (ix2 x f) = m ((c : Thread nD τ).loc main_arg0) (ix2 (row m t x) f) := by
  blk_point [iblk, idx m t, row]
theorem ib1 (x : Fin 256) (f : Fin 2048) : iblk m (ok m) c 1 t (ix2 x f) = m ((c : Thread nD τ).loc main_arg1) (ix2 (row m t x) f) := by
  blk_point [iblk, idx m t, row]
theorem ib2 (x : Fin 256) (f : Fin 2048) : iblk m (ok m) c 2 t (ix2 x f) = m ((c : Thread nD τ).loc main_arg2) (ix2 (row m t x) f) := by
  blk_point [iblk, idx m t, row]
theorem ib3 (x : Fin 256) (f : Fin 2048) : iblk m (ok m) c 3 t (ix4 0 0 x f) = m ((c : Thread nD τ).loc main_arg3) (ix4 0 0 (row m t x) f) := by
  blk_point [iblk, idx m t, row]
theorem ib4 (x : Fin 256) (f : Fin 2048) : iblk m (ok m) c 4 t (ix4 0 0 x f) = m ((c : Thread nD τ).loc main_arg4) (ix4 0 0 (row m t x) f) := by
  blk_point [iblk, idx m t, row]
theorem ib5 (x : Fin 256) (f : Fin 2048) : iblk m (ok m) c 5 t (ix3 0 x f) = m ((c : Thread nD τ).loc main_arg5) (ix3 0 (row m t x) f) := by
  blk_point [iblk, idx m t, row]
theorem ib6 (x : Fin 256) (f : Fin 2048) : iblk m (ok m) c 6 t (ix3 0 x f) = m ((c : Thread nD τ).loc main_arg6) (ix3 0 (row m t x) f) := by
  blk_point [iblk, idx m t, row]
theorem ib7 (x : Fin 256) (f : Fin 2048) : iblk m (ok m) c 7 t (ix3 0 x f) = m ((c : Thread nD τ).loc main_arg7) (ix3 0 (row m t x) f) := by
  blk_point [iblk, idx m t, row]

abbrev rd (x : EReal) : EReal := x
/-- The gradient: this core's part and the other core's, then the part of each of the three other chips. -/
def grd (i : S2048x2048.Idx) : EReal :=
  rd (m ((c : Thread nD τ).loc main_arg3) (ix4 0 0 (i 0) (i 1))) + rd (m ((c : Thread nD τ).loc main_arg4) (ix4 0 0 (i 0) (i 1)))
    + rd (m ((c : Thread nD τ).loc main_arg5) (ix3 0 (i 0) (i 1))) + rd (m ((c : Thread nD τ).loc main_arg6) (ix3 0 (i 0) (i 1)))
    + rd (m ((c : Thread nD τ).loc main_arg7) (ix3 0 (i 0) (i 1)))
def mOut (i : S2048x2048.Idx) : EReal := mom (grd m c i) (m ((c : Thread nD τ).loc main_arg1) i)
def vOut (i : S2048x2048.Idx) : EReal := vel (grd m c i) (m ((c : Thread nD τ).loc main_arg2) i)
def dOut (i : S2048x2048.Idx) : EReal :=
  delta (m ((c : Thread nD τ).loc main_arg0) i) (grd m c i) (m ((c : Thread nD τ).loc main_arg1) i) (m ((c : Thread nD τ).loc main_arg2) i)

section Body

variable {i : grid0.Coords} {a2 : Memref sig .tc .vmem S256x2048 .f32} {h2 : a2.IsWhole} {a3 : Memref sig .tc .vmem S256x2048 .f32} {h3 : a3.IsWhole}
  {a4 : Memref sig .tc .vmem S256x2048 .f32} {h4 : a4.IsWhole} {a5 : Memref sig .tc .vmem S1x1x256x2048 .bf16} {h5 : a5.IsWhole}
  {a6 : Memref sig .tc .vmem S1x1x256x2048 .bf16} {h6 : a6.IsWhole} {a7 : Memref sig .tc .vmem S1x256x2048 .bf16} {h7 : a7.IsWhole}
  {a8 : Memref sig .tc .vmem S1x256x2048 .bf16} {h8 : a8.IsWhole} {a9 : Memref sig .tc .vmem S1x256x2048 .bf16} {h9 : a9.IsWhole}
  {a10 : Memref sig .tc .vmem S256x2048 .f32} {h10 : a10.IsWhole} {a11 : Memref sig .tc .vmem S256x2048 .f32} {h11 : a11.IsWhole}
  {a12 : Memref sig .tc .vmem S256x2048 .f32} {h12 : a12.IsWhole} {a13 : Memref sig .tc .vmem S256x2048 .f32} {h13 : a13.IsWhole}
  {X0 X1 X2 : Vec Ideal S256x2048 .f32} {X3 X4 : Vec Ideal S1x1x256x2048 .bf16} {X5 X6 X7 : Vec Ideal S1x256x2048 .bf16} {T : TbBuf0 (F := Ideal) c tbM0_0}
  {x : Fin 256} {f : Fin 2048}

def bg (X3 X4 : Vec Ideal S1x1x256x2048 .bf16) (X5 X6 X7 : Vec Ideal S1x256x2048 .bf16) (x : Fin 256) (f : Fin 2048) : EReal :=
  rd (X3 (ix4 0 0 x f)) + rd (X4 (ix4 0 0 x f)) + rd (X5 (ix3 0 x f)) + rd (X6 (ix3 0 x f)) + rd (X7 (ix3 0 x f))

theorem body8 : out0_A_8 c i a2 h2 a3 h3 a4 h4 a5 h5 a6 h6 a7 h7 a8 h8 a9 h9 a10 h10 a11 h11 a12 h12 a13 h13 X0 X1 X2 X3 X4 X5 X6 X7 T (ix2 x f) = bg X3 X4 X5 X6 X7 x f := by
  frame_out
  open_payloads
  pointwise
  rfl

theorem body9 : out0_A_9 c i a2 h2 a3 h3 a4 h4 a5 h5 a6 h6 a7 h7 a8 h8 a9 h9 a10 h10 a11 h11 a12 h12 a13 h13 X0 X1 X2 X3 X4 X5 X6 X7 T (ix2 x f)
    = delta (X0 (ix2 x f)) (bg X3 X4 X5 X6 X7 x f) (X1 (ix2 x f)) (X2 (ix2 x f)) := by
  frame_out
  open_payloads
  pointwise
  rfl

theorem body10 : out0_A_10 c i a2 h2 a3 h3 a4 h4 a5 h5 a6 h6 a7 h7 a8 h8 a9 h9 a10 h10 a11 h11 a12 h12 a13 h13 X0 X1 X2 X3 X4 X5 X6 X7 T (ix2 x f)
    = mom (bg X3 X4 X5 X6 X7 x f) (X1 (ix2 x f)) := by
  frame_out
  open_payloads
  pointwise
  rfl

theorem body11 : out0_A_11 c i a2 h2 a3 h3 a4 h4 a5 h5 a6 h6 a7 h7 a8 h8 a9 h9 a10 h10 a11 h11 a12 h12 a13 h13 X0 X1 X2 X3 X4 X5 X6 X7 T (ix2 x f)
    = vel (bg X3 X4 X5 X6 X7 x f) (X2 (ix2 x f)) := by
  frame_out
  open_payloads
  pointwise
  rfl

end Body

theorem block_grd (x : Fin 256) (f : Fin 2048) :
    bg (iblk m (ok m) c 3 t) (iblk m (ok m) c 4 t) (iblk m (ok m) c 5 t) (iblk m (ok m) c 6 t) (iblk m (ok m) c 7 t) x f = grd m c (ix2 (row m t x) f) := by
  unfold bg
  rw [ib3, ib4, ib5, ib6, ib7]
  rfl

theorem point8 (x : Fin 256) (f : Fin 2048) : (outsAt0 m (ok m) c t).1 (ix2 x f) = grd m c (ix2 (row m t x) f) := by
  unfold outsAt0
  dsimp only
  exact (body8 c).trans (block_grd m c t x f)

theorem point9 (x : Fin 256) (f : Fin 2048) : (outsAt0 m (ok m) c t).2.1 (ix2 x f) = dOut m c (ix2 (row m t x) f) := by
  unfold outsAt0
  dsimp only
  refine (body9 c).trans ?_
  rw [block_grd, ib0, ib1, ib2]
  rfl

theorem point10 (x : Fin 256) (f : Fin 2048) : (outsAt0 m (ok m) c t).2.2.1 (ix2 x f) = mOut m c (ix2 (row m t x) f) := by
  unfold outsAt0
  dsimp only
  refine (body10 c).trans ?_
  rw [block_grd, ib1]
  rfl

theorem point11 (x : Fin 256) (f : Fin 2048) : (outsAt0 m (ok m) c t).2.2.2 (ix2 x f) = vOut m c (ix2 (row m t x) f) := by
  unfold outsAt0
  dsimp only
  refine (body11 c).trans ?_
  rw [block_grd, ib2]
  rfl

theorem emb8 (y : S256x2048.Idx) : (((cfgM m (ok m)).win 8).blk t).view.emb y = ix2 (row m t (y 0)) (y 1) := by
  funext a; apply Fin.ext
  match a with
  | ⟨0, _⟩ => blk_simp [idx m t, row]; rfl
  | ⟨1, _⟩ => blk_simp [idx m t]; rfl

theorem final8 : (dats m (ok m) 0 c).arrAt 8 (cfgM m (ok m)).N = grd m c := by
  refine (dats m (ok m) 0 c).arrAt_eq_of_covers 8 _ (covers m).1 fun t hf (y : S256x2048.Idx) => ?_
  refine Eq.trans ?_ (congrArg (grd m c) (emb8 m t y)).symm
  blk_simp
  rw [after0_8]
  idx_vars y
  exact point8 m c t y0 y1

theorem emb9 (y : S256x2048.Idx) : (((cfgM m (ok m)).win 9).blk t).view.emb y = ix2 (row m t (y 0)) (y 1) := by
  funext a; apply Fin.ext
  match a with
  | ⟨0, _⟩ => blk_simp [idx m t, row]; rfl
  | ⟨1, _⟩ => blk_simp [idx m t]; rfl

theorem final9 : (dats m (ok m) 0 c).arrAt 9 (cfgM m (ok m)).N = dOut m c := by
  refine (dats m (ok m) 0 c).arrAt_eq_of_covers 9 _ (covers m).2.1 fun t hf (y : S256x2048.Idx) => ?_
  refine Eq.trans ?_ (congrArg (dOut m c) (emb9 m t y)).symm
  blk_simp
  rw [after0_9]
  idx_vars y
  exact point9 m c t y0 y1

theorem emb10 (y : S256x2048.Idx) : (((cfgM m (ok m)).win 10).blk t).view.emb y = ix2 (row m t (y 0)) (y 1) := by
  funext a; apply Fin.ext
  match a with
  | ⟨0, _⟩ => blk_simp [idx m t, row]; rfl
  | ⟨1, _⟩ => blk_simp [idx m t]; rfl

theorem final10 : (dats m (ok m) 0 c).arrAt 10 (cfgM m (ok m)).N = mOut m c := by
  refine (dats m (ok m) 0 c).arrAt_eq_of_covers 10 _ (covers m).2.2.1 fun t hf (y : S256x2048.Idx) => ?_
  refine Eq.trans ?_ (congrArg (mOut m c) (emb10 m t y)).symm
  blk_simp
  rw [after0_10]
  idx_vars y
  exact point10 m c t y0 y1

theorem emb11 (y : S256x2048.Idx) : (((cfgM m (ok m)).win 11).blk t).view.emb y = ix2 (row m t (y 0)) (y 1) := by
  funext a; apply Fin.ext
  match a with
  | ⟨0, _⟩ => blk_simp [idx m t, row]; rfl
  | ⟨1, _⟩ => blk_simp [idx m t]; rfl

theorem final11 : (dats m (ok m) 0 c).arrAt 11 (cfgM m (ok m)).N = vOut m c := by
  refine (dats m (ok m) 0 c).arrAt_eq_of_covers 11 _ (covers m).2.2.2 fun t hf (y : S256x2048.Idx) => ?_
  refine Eq.trans ?_ (congrArg (vOut m c) (emb11 m t y)).symm
  blk_simp
  rw [after0_11]
  idx_vars y
  exact point11 m c t y0 y1

theorem run (ρ : Dev nD → PrngReg) : θ_run defs (onTc (τ := τ) (main (F := Ideal))) ⟨m, fun _ => 0, ρ⟩ fun r => ∀ c : Dev nD,
    r.2.mem ((c : Thread nD τ).loc main_v6_0) = grd m c ∧ r.2.mem ((c : Thread nD τ).loc main_v6_1) = dOut m c
    ∧ r.2.mem ((c : Thread nD τ).loc main_v6_2) = mOut m c ∧ r.2.mem ((c : Thread nD τ).loc main_v6_3) = vOut m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun r h c => ?_) (run_main m ρ (ok m))
  have stays : ∀ w : Fin 12, ((cfgM m (ok m)).win w).isOut = false → r.2.mem ((c : Thread nD τ).loc (Pipeline.arrRef spec0 w)) = V m c (Pipeline.arrRef spec0 w) :=
    fun w hw => ((h c).1 w).trans (((dats m (ok m) 0 c).arrAt_in w hw _).trans (A_eq m (ok m) c w))
  exact ⟨((h c).1 8).trans (final8 m c), ((h c).1 9).trans (final9 m c), ((h c).1 10).trans (final10 m c), ((h c).1 11).trans (final11 m c),
    (stays 0 rfl).trans (V_main_arg0 m c), (stays 1 rfl).trans (V_main_arg1 m c), (stays 2 rfl).trans (V_main_arg2 m c),
    (stays 3 rfl).trans (V_main_arg3 m c), (stays 4 rfl).trans (V_main_arg4 m c), (stays 5 rfl).trans (V_main_arg5 m c),
    (stays 6 rfl).trans (V_main_arg6 m c), (stays 7 rfl).trans (V_main_arg7 m c)⟩

end Cert.AdrScIdeal.Hand

end
-- ==== Proof.AdrScClaim.lean ====
module

public import proofs.«01_k».proof.Defs
public import proofs.«01_k».proof.Proof.AdrScVal
public import proofs.«01_k».proof.Proof.Gen.AdrScRefIdeal.Run
public import Idealize.ShloMosaic.Lib.Tactic.CleanTypes

@[expose] public section

set_option maxRecDepth 16384

noncomputable section

open Idealize.ShloMosaic Idealize.ShloMosaic.TcCoe Idealize.SL.Sem

namespace Cert.AdrSc

open Cert.AdrScIdeal Cert.Adam Cert.AdrScIdeal.Hand

theorem grd_sum (m : (ℓ : Loc nD τ sig) → Buf (Elt Ideal) ℓ) (c : Dev nD) (i0 : Fin 2048) (i1 : Fin 2048) :
    rd (m ((c : Thread nD τ).loc main_arg3) (ix4 0 0 i0 i1)) + rd (m ((c : Thread nD τ).loc main_arg4) (ix4 0 0 i0 i1))
      + (rd (m ((c : Thread nD τ).loc main_arg5) (ix3 0 i0 i1)) + rd (m ((c : Thread nD τ).loc main_arg6) (ix3 0 i0 i1))
        + rd (m ((c : Thread nD τ).loc main_arg7) (ix3 0 i0 i1))) = grd m c (ix2 i0 i1) := by
  rw [← add_assoc, ← add_assoc]
  rfl

theorem claim : Cert.algebraic_AdrScIdeal_AdrScRefIdeal (hAdrScIdeal := Cert.AdrScIdeal.Gen.facts) (hAdrScRefIdeal := Cert.AdrScRefIdeal.Gen.facts) := by
  intro m g m' g' _ hagree
  refine ⟨grd m, dOut m, mOut m, vOut m, Hand.run m g,
    (θ_run _ _ _).mono (fun r h c => ⟨(h c).1.trans ?_, (h c).2.1.trans ?_, (h c).2.2.1.trans ?_, (h c).2.2.2.1.trans ?_, (h c).2.2.2.2⟩) (Cert.AdrScRefIdeal.Value.run m' g')⟩
  all_goals
    have e := grd_sum m c
    obtain ⟨a0, a1, a2, a3, a4, a5, a6, a7⟩ := hagree c
    simp only [a0, a1, a2, a3, a4, a5, a6, a7]
    clear h
    funext i; idx_vars i
    clean_types
    pointwise
    simp only [e] <;> rfl

end Cert.AdrSc

end
-- ==== Proof.lean ====
/- Every claim of `Cert.Claim`, from the modules that prove them one call at a time. -/
module

public import proofs.«01_k».proof.Defs
public import proofs.«01_k».proof.Proof.Gen.ScBwd
public import proofs.«01_k».proof.Proof.Gen.ScBwd.Skeleton
public import proofs.«01_k».proof.Proof.Gen.ScBwd.Launch
public import proofs.«01_k».proof.Proof.Gen.ScBwd.Points
public import proofs.«01_k».proof.Proof.Gen.ScBwd.Frame
public import proofs.«01_k».proof.Proof.Gen.ScBwdIdeal
public import proofs.«01_k».proof.Proof.Gen.ScBwdIdeal.Skeleton
public import proofs.«01_k».proof.Proof.Gen.ScBwdIdeal.Launch
public import proofs.«01_k».proof.Proof.Gen.ScBwdIdeal.Points
public import proofs.«01_k».proof.Proof.Gen.ScBwdIdeal.Frame
public import proofs.«01_k».proof.Proof.Gen.ScBwdIdeal.Value
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.ScRefIdeal
public import proofs.«01_k».proof.Proof.Gen.ScRefIdeal.Run
public import proofs.«01_k».proof.Proof.Gen.ScRefIdeal.Read
public import proofs.«01_k».proof.Proof.Gen.LruRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Norm0
public import proofs.«01_k».proof.Proof.Gen.Norm0.Skeleton
public import proofs.«01_k».proof.Proof.Gen.Norm0.Launch
public import proofs.«01_k».proof.Proof.Gen.Norm0.Points
public import proofs.«01_k».proof.Proof.Gen.Norm0.Frame
public import proofs.«01_k».proof.Proof.Gen.Norm0Ideal
public import proofs.«01_k».proof.Proof.Gen.Norm0Ideal.Skeleton
public import proofs.«01_k».proof.Proof.Gen.Norm0Ideal.Launch
public import proofs.«01_k».proof.Proof.Gen.Norm0Ideal.Points
public import proofs.«01_k».proof.Proof.Gen.Norm0Ideal.Frame
public import proofs.«01_k».proof.Proof.Gen.Norm0Ideal.Value
public import proofs.«01_k».proof.Proof.Gen.Norm0RefIdeal
public import proofs.«01_k».proof.Proof.Gen.Norm0RefIdeal.Run
public import proofs.«01_k».proof.Proof.Gen.Norm0RefIdeal.Read
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1Ideal.Value
public import proofs.«01_k».proof.Proof.Gen.Norm1RefIdeal
public import proofs.«01_k».proof.Proof.Gen.Norm1RefIdeal.Run
public import proofs.«01_k».proof.Proof.Gen.Norm1RefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.ScFwd
public import proofs.«01_k».proof.Proof.Gen.ScFwd.Skeleton
public import proofs.«01_k».proof.Proof.Gen.ScFwd.Launch
public import proofs.«01_k».proof.Proof.Gen.ScFwd.Points
public import proofs.«01_k».proof.Proof.Gen.ScFwd.Frame
public import proofs.«01_k».proof.Proof.Gen.ScFwdIdeal
public import proofs.«01_k».proof.Proof.Gen.ScFwdIdeal.Skeleton
public import proofs.«01_k».proof.Proof.Gen.ScFwdIdeal.Launch
public import proofs.«01_k».proof.Proof.Gen.ScFwdIdeal.Points
public import proofs.«01_k».proof.Proof.Gen.ScFwdIdeal.Frame
public import proofs.«01_k».proof.Proof.Gen.ScFwdIdeal.Value
public import proofs.«01_k».proof.Proof.Gen.ScFwdRefIdeal
public import proofs.«01_k».proof.Proof.Gen.ScFwdRefIdeal.Run
public import proofs.«01_k».proof.Proof.Gen.ScFwdRefIdeal.Read
public import proofs.«01_k».proof.Proof.Gen.NormMod
public import proofs.«01_k».proof.Proof.Gen.NormMod.Skeleton
public import proofs.«01_k».proof.Proof.Gen.NormMod.Launch
public import proofs.«01_k».proof.Proof.Gen.NormMod.Points
public import proofs.«01_k».proof.Proof.Gen.NormMod.Frame
public import proofs.«01_k».proof.Proof.Gen.NormModIdeal
public import proofs.«01_k».proof.Proof.Gen.NormModIdeal.Skeleton
public import proofs.«01_k».proof.Proof.Gen.NormModIdeal.Launch
public import proofs.«01_k».proof.Proof.Gen.NormModIdeal.Points
public import proofs.«01_k».proof.Proof.Gen.NormModIdeal.Frame
public import proofs.«01_k».proof.Proof.Gen.NormModIdeal.Value
public import proofs.«01_k».proof.Proof.Gen.NormModRefIdeal
public import proofs.«01_k».proof.Proof.Gen.NormModRefIdeal.Run
public import proofs.«01_k».proof.Proof.Gen.NormModRefIdeal.Read
public import proofs.«01_k».proof.Proof.Gen.AdaMod
public import proofs.«01_k».proof.Proof.Gen.AdaMod.Skeleton
public import proofs.«01_k».proof.Proof.Gen.AdaMod.Launch
public import proofs.«01_k».proof.Proof.Gen.AdaMod.Points
public import proofs.«01_k».proof.Proof.Gen.AdaMod.Frame
public import proofs.«01_k».proof.Proof.Gen.AdaModIdeal
public import proofs.«01_k».proof.Proof.Gen.AdaModIdeal.Skeleton
public import proofs.«01_k».proof.Proof.Gen.AdaModIdeal.Launch
public import proofs.«01_k».proof.Proof.Gen.AdaModIdeal.Points
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.AdaModRefIdeal.Read
public import proofs.«01_k».proof.Proof.Gen.MmOut
public import proofs.«01_k».proof.Proof.Gen.MmOut.Skeleton
public import proofs.«01_k».proof.Proof.Gen.MmOut.Launch
public import proofs.«01_k».proof.Proof.Gen.MmOut.Points
public import proofs.«01_k».proof.Proof.Gen.MmOut.Frame
public import proofs.«01_k».proof.Proof.Gen.MmOutIdeal
public import proofs.«01_k».proof.Proof.Gen.MmOutIdeal.Skeleton
public import proofs.«01_k».proof.Proof.Gen.MmOutIdeal.Launch
public import proofs.«01_k».proof.Proof.Gen.MmOutIdeal.Points
public import proofs.«01_k».proof.Proof.Gen.MmOutIdeal.Frame
public import proofs.«01_k».proof.Proof.Gen.MmOutIdeal.Value
public import proofs.«01_k».proof.Proof.Gen.MmOutRefIdeal
public import proofs.«01_k».proof.Proof.Gen.MmOutRefIdeal.Run
public import proofs.«01_k».proof.Proof.Gen.MmOutRefIdeal.Read
public import proofs.«01_k».proof.Proof.Gen.MmProj
public import proofs.«01_k».proof.Proof.Gen.MmProj.Skeleton
public import proofs.«01_k».proof.Proof.Gen.MmProj.Launch
public import proofs.«01_k».proof.Proof.Gen.MmProj.Points
public import proofs.«01_k».proof.Proof.Gen.MmProj.Frame
public import proofs.«01_k».proof.Proof.Gen.MmProjIdeal
public import proofs.«01_k».proof.Proof.Gen.MmProjIdeal.Skeleton
public import proofs.«01_k».proof.Proof.Gen.MmProjIdeal.Launch
public import proofs.«01_k».proof.Proof.Gen.MmProjIdeal.Points
public import proofs.«01_k».proof.Proof.Gen.MmProjIdeal.Frame
public import proofs.«01_k».proof.Proof.Gen.MmProjIdeal.Value
public import proofs.«01_k».proof.Proof.Gen.MmProjRefIdeal
public import proofs.«01_k».proof.Proof.Gen.MmProjRefIdeal.Run
public import proofs.«01_k».proof.Proof.Gen.MmProjRefIdeal.Read
public import proofs.«01_k».proof.Proof.Gen.MmNt
public import proofs.«01_k».proof.Proof.Gen.MmNt.Skeleton
public import proofs.«01_k».proof.Proof.Gen.MmNt.Launch
public import proofs.«01_k».proof.Proof.Gen.MmNt.Points
public import proofs.«01_k».proof.Proof.Gen.MmNt.Frame
public import proofs.«01_k».proof.Proof.Gen.MmNtIdeal
public import proofs.«01_k».proof.Proof.Gen.MmNtIdeal.Skeleton
public import proofs.«01_k».proof.Proof.Gen.MmNtIdeal.Launch
public import proofs.«01_k».proof.Proof.Gen.MmNtIdeal.Points
public import proofs.«01_k».proof.Proof.Gen.MmNtIdeal.Frame
public import proofs.«01_k».proof.Proof.Gen.MmNtIdeal.Value
public import proofs.«01_k».proof.Proof.Gen.MmNtRefIdeal
public import proofs.«01_k».proof.Proof.Gen.MmNtRefIdeal.Run
public import proofs.«01_k».proof.Proof.Gen.MmNtRefIdeal.Read
public import proofs.«01_k».proof.Proof.Gen.MmTn
public import proofs.«01_k».proof.Proof.Gen.MmTn.Skeleton
public import proofs.«01_k».proof.Proof.Gen.MmTn.Launch
public import proofs.«01_k».proof.Proof.Gen.MmTn.Points
public import proofs.«01_k».proof.Proof.Gen.MmTn.Frame
public import proofs.«01_k».proof.Proof.Gen.MmTnIdeal
public import proofs.«01_k».proof.Proof.Gen.MmTnIdeal.Skeleton
public import proofs.«01_k».proof.Proof.Gen.MmTnIdeal.Launch
public import proofs.«01_k».proof.Proof.Gen.MmTnIdeal.Points
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.Gen.MmTnRefIdeal.Read
public import proofs.«01_k».proof.Proof.Gen.DevSum
public import proofs.«01_k».proof.Proof.Gen.DevSum.Skeleton
public import proofs.«01_k».proof.Proof.Gen.DevSum.Launch
public import proofs.«01_k».proof.Proof.Gen.DevSum.Points
public import proofs.«01_k».proof.Proof.Gen.DevSum.Frame
public import proofs.«01_k».proof.Proof.Gen.DevSumIdeal
public import proofs.«01_k».proof.Proof.Gen.DevSumIdeal.Skeleton
public import proofs.«01_k».proof.Proof.Gen.DevSumIdeal.Launch
public import proofs.«01_k».proof.Proof.Gen.DevSumIdeal.Points
public import proofs.«01_k».proof.Proof.Gen.DevSumIdeal.Frame
public import proofs.«01_k».proof.Proof.Gen.DevSumIdeal.Value
public import proofs.«01_k».proof.Proof.Gen.DevSumRefIdeal
public import proofs.«01_k».proof.Proof.Gen.DevSumRefIdeal.Run
public import proofs.«01_k».proof.Proof.Gen.DevSumRefIdeal.Read
public import proofs.«01_k».proof.Proof.Gen.Adw
public import proofs.«01_k».proof.Proof.Gen.Adw.Skeleton
public import proofs.«01_k».proof.Proof.Gen.Adw.Launch
public import proofs.«01_k».proof.Proof.Gen.Adw.Points
public import proofs.«01_k».proof.Proof.Gen.Adw.Frame
public import proofs.«01_k».proof.Proof.Gen.AdwIdeal
public import proofs.«01_k».proof.Proof.Gen.AdwIdeal.Skeleton
public import proofs.«01_k».proof.Proof.Gen.AdwIdeal.Launch
public import proofs.«01_k».proof.Proof.Gen.AdwIdeal.Points
public import proofs.«01_k».proof.Proof.Gen.AdwIdeal.Frame
public import proofs.«01_k».proof.Proof.Gen.AdwIdeal.Value
public import proofs.«01_k».proof.Proof.Gen.AdwRefIdeal
public import proofs.«01_k».proof.Proof.Gen.AdwRefIdeal.Run
public import proofs.«01_k».proof.Proof.Gen.AdwRefIdeal.Read
public import proofs.«01_k».proof.Proof.Gen.Adr
public import proofs.«01_k».proof.Proof.Gen.Adr.Skeleton
public import proofs.«01_k».proof.Proof.Gen.Adr.Launch
public import proofs.«01_k».proof.Proof.Gen.Adr.Points
public import proofs.«01_k».proof.Proof.Gen.Adr.Frame
public import proofs.«01_k».proof.Proof.Gen.AdrIdeal
public import proofs.«01_k».proof.Proof.Gen.AdrIdeal.Skeleton
public import proofs.«01_k».proof.Proof.Gen.AdrIdeal.Launch
public import proofs.«01_k».proof.Proof.Gen.AdrIdeal.Points
public import proofs.«01_k».proof.Proof.Gen.AdrIdeal.Frame
public import proofs.«01_k».proof.Proof.Gen.AdrRefIdeal
public import proofs.«01_k».proof.Proof.Gen.AdrRefIdeal.Run
public import proofs.«01_k».proof.Proof.Gen.AdrRefIdeal.Read
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairSumRefIdeal
public import proofs.«01_k».proof.Proof.Gen.PairSumRefIdeal.Run
public import proofs.«01_k».proof.Proof.Gen.PairSumRefIdeal.Read
public import proofs.«01_k».proof.Proof.Gen.MmTnG
public import proofs.«01_k».proof.Proof.Gen.MmTnG.Skeleton
public import proofs.«01_k».proof.Proof.Gen.MmTnG.Launch
public import proofs.«01_k».proof.Proof.Gen.MmTnG.Points
public import proofs.«01_k».proof.Proof.Gen.MmTnG.Frame
public import proofs.«01_k».proof.Proof.Gen.MmTnGIdeal
public import proofs.«01_k».proof.Proof.Gen.MmTnGIdeal.Skeleton
public import proofs.«01_k».proof.Proof.Gen.MmTnGIdeal.Launch
public import proofs.«01_k».proof.Proof.Gen.MmTnGIdeal.Points
public import proofs.«01_k».proof.Proof.Gen.MmTnGIdeal.Frame
public import proofs.«01_k».proof.Proof.Gen.MmTnGRefIdeal
public import proofs.«01_k».proof.Proof.Gen.MmTnGRefIdeal.Run
public import proofs.«01_k».proof.Proof.Gen.MmTnGRefIdeal.Read
public import proofs.«01_k».proof.Proof.Gen.MmProjG
public import proofs.«01_k».proof.Proof.Gen.MmProjG.Skeleton
public import proofs.«01_k».proof.Proof.Gen.MmProjG.Launch
public import proofs.«01_k».proof.Proof.Gen.MmProjG.Points
public import proofs.«01_k».proof.Proof.Gen.MmProjG.Frame
public import proofs.«01_k».proof.Proof.Gen.MmProjGIdeal
public import proofs.«01_k».proof.Proof.Gen.MmProjGIdeal.Skeleton
public import proofs.«01_k».proof.Proof.Gen.MmProjGIdeal.Launch
public import proofs.«01_k».proof.Proof.Gen.MmProjGIdeal.Points
public import proofs.«01_k».proof.Proof.Gen.MmProjGIdeal.Frame
public import proofs.«01_k».proof.Proof.Gen.MmProjGRefIdeal
public import proofs.«01_k».proof.Proof.Gen.MmProjGRefIdeal.Run
public import proofs.«01_k».proof.Proof.Gen.MmProjGRefIdeal.Read
public import proofs.«01_k».proof.Proof.Gen.AdrSc
public import proofs.«01_k».proof.Proof.Gen.AdrSc.Skeleton
public import proofs.«01_k».proof.Proof.Gen.AdrSc.Launch
public import proofs.«01_k».proof.Proof.Gen.AdrSc.Points
public import proofs.«01_k».proof.Proof.Gen.AdrSc.Frame
public import proofs.«01_k».proof.Proof.Gen.AdrScIdeal
public import proofs.«01_k».proof.Proof.Gen.AdrScIdeal.Skeleton
public import proofs.«01_k».proof.Proof.Gen.AdrScIdeal.Launch
public import proofs.«01_k».proof.Proof.Gen.AdrScIdeal.Points
public import proofs.«01_k».proof.Proof.Gen.AdrScIdeal.Frame
public import proofs.«01_k».proof.Proof.Gen.AdrScRefIdeal
public import proofs.«01_k».proof.Proof.Gen.AdrScRefIdeal.Run
public import proofs.«01_k».proof.Proof.Gen.AdrScRefIdeal.Read
public import proofs.«01_k».proof.Proof.ScClaim
public import proofs.«01_k».proof.Proof.LruClaim
public import proofs.«01_k».proof.Proof.AdaClaim
public import proofs.«01_k».proof.Proof.Norm0Claim
public import proofs.«01_k».proof.Proof.Norm1Claim
public import proofs.«01_k».proof.Proof.LossClaim
public import proofs.«01_k».proof.Proof.ScFwdClaim
public import proofs.«01_k».proof.Proof.NormModClaim
public import proofs.«01_k».proof.Proof.AdaModClaim
public import proofs.«01_k».proof.Proof.MmOutClaim
public import proofs.«01_k».proof.Proof.MmProjClaim
public import proofs.«01_k».proof.Proof.MmNtClaim
public import proofs.«01_k».proof.Proof.MmTnClaim
public import proofs.«01_k».proof.Proof.DevSumClaim
public import proofs.«01_k».proof.Proof.AdwClaim
public import proofs.«01_k».proof.Proof.AdrClaim
public import proofs.«01_k».proof.Proof.PairSumClaim
public import proofs.«01_k».proof.Proof.MmTnGClaim
public import proofs.«01_k».proof.Proof.MmProjGClaim
public import proofs.«01_k».proof.Proof.AdrScClaim
public import Idealize.ShloMosaic.Lib.Claim
public import Idealize.ShloMosaic.Adequacy
public import Idealize.ShloMosaic.Init

@[expose] public section

noncomputable section

namespace Cert.Proof

open Idealize.ShloMosaic Idealize.SL.Sem

theorem scRefFrame : Cert.quiescent_ScRefIdeal (hScRefIdeal := Cert.ScRefIdeal.Gen.facts) :=
  fun m g _ => (θ_run _ _ _).mono (fun r h => ⟨fun c => (h c).2.2, sem_eq_zero_of_no_sems (by decide) r.2⟩)
    (Cert.ScRefIdeal.Value.run m g)

theorem adaRefFrame : Cert.quiescent_AdaRefIdeal (hAdaRefIdeal := Cert.AdaRefIdeal.Gen.facts) :=
  fun m g _ => (θ_run _ _ _).mono (fun r h => ⟨fun c => (h c).2.2.2.2, sem_eq_zero_of_no_sems (by decide) r.2⟩)
    (Cert.AdaRefIdeal.Value.run m g)

theorem norm0RefFrame : Cert.quiescent_Norm0RefIdeal (hNorm0RefIdeal := Cert.Norm0RefIdeal.Gen.facts) :=
  fun m g _ => (θ_run _ _ _).mono (fun r h => ⟨fun c => (h c).2.2.2.2, sem_eq_zero_of_no_sems (by decide) r.2⟩)
    (Cert.Norm0RefIdeal.Value.run m g)

theorem norm1RefFrame : Cert.quiescent_Norm1RefIdeal (hNorm1RefIdeal := Cert.Norm1RefIdeal.Gen.facts) :=
  fun m g _ => (θ_run _ _ _).mono (fun r h => ⟨fun c => (h c).2.2.2.2.2.2, sem_eq_zero_of_no_sems (by decide) r.2⟩)
    (Cert.Norm1RefIdeal.Value.run m g)

theorem lossRefFrame : Cert.quiescent_LossRefIdeal (hLossRefIdeal := Cert.LossRefIdeal.Gen.facts) :=
  fun m g _ => (θ_run _ _ _).mono (fun r h => ⟨fun c => (h c).2.2.2.2.2, sem_eq_zero_of_no_sems (by decide) r.2⟩)
    (Cert.LossRefIdeal.Value.run m g)

theorem scFwdRefFrame : Cert.quiescent_ScFwdRefIdeal (hScFwdRefIdeal := Cert.ScFwdRefIdeal.Gen.facts) :=
  fun m g _ => (θ_run _ _ _).mono (fun r h => ⟨fun c => (h c).2, sem_eq_zero_of_no_sems (by decide) r.2⟩)
    (Cert.ScFwdRefIdeal.Value.run m g)

theorem normModRefFrame : Cert.quiescent_NormModRefIdeal (hNormModRefIdeal := Cert.NormModRefIdeal.Gen.facts) :=
  fun m g _ => (θ_run _ _ _).mono (fun r h => ⟨fun c => (h c).2, sem_eq_zero_of_no_sems (by decide) r.2⟩)
    (Cert.NormModRefIdeal.Value.run m g)

theorem adaModRefFrame : Cert.quiescent_AdaModRefIdeal (hAdaModRefIdeal := Cert.AdaModRefIdeal.Gen.facts) :=
  fun m g _ => (θ_run _ _ _).mono (fun r h => ⟨fun c => (h c).2, sem_eq_zero_of_no_sems (by decide) r.2⟩)
    (Cert.AdaModRefIdeal.Value.run m g)

theorem mmOutRefFrame : Cert.quiescent_MmOutRefIdeal (hMmOutRefIdeal := Cert.MmOutRefIdeal.Gen.facts) :=
  fun m g _ => (θ_run _ _ _).mono (fun r h => ⟨fun c => (h c).2.2, sem_eq_zero_of_no_sems (by decide) r.2⟩)
    (Cert.MmOutRefIdeal.Value.run m g)

theorem mmProjRefFrame : Cert.quiescent_MmProjRefIdeal (hMmProjRefIdeal := Cert.MmProjRefIdeal.Gen.facts) :=
  fun m g _ => (θ_run _ _ _).mono (fun r h => ⟨fun c => (h c).2, sem_eq_zero_of_no_sems (by decide) r.2⟩)
    (Cert.MmProjRefIdeal.Value.run m g)

theorem mmNtRefFrame : Cert.quiescent_MmNtRefIdeal (hMmNtRefIdeal := Cert.MmNtRefIdeal.Gen.facts) :=
  fun m g _ => (θ_run _ _ _).mono (fun r h => ⟨fun c => (h c).2, sem_eq_zero_of_no_sems (by decide) r.2⟩)
    (Cert.MmNtRefIdeal.Value.run m g)

theorem mmTnRefFrame : Cert.quiescent_MmTnRefIdeal (hMmTnRefIdeal := Cert.MmTnRefIdeal.Gen.facts) :=
  fun m g _ => (θ_run _ _ _).mono (fun r h => ⟨fun c => (h c).2, sem_eq_zero_of_no_sems (by decide) r.2⟩)
    (Cert.MmTnRefIdeal.Value.run m g)

theorem devSumRefFrame : Cert.quiescent_DevSumRefIdeal (hDevSumRefIdeal := Cert.DevSumRefIdeal.Gen.facts) :=
  fun m g _ => (θ_run _ _ _).mono (fun r h => ⟨fun c => (h c).2, sem_eq_zero_of_no_sems (by decide) r.2⟩)
    (Cert.DevSumRefIdeal.Value.run m g)

theorem adwRefFrame : Cert.quiescent_AdwRefIdeal (hAdwRefIdeal := Cert.AdwRefIdeal.Gen.facts) :=
  fun m g _ => (θ_run _ _ _).mono (fun r h => ⟨fun c => (h c).2.2.2, sem_eq_zero_of_no_sems (by decide) r.2⟩)
    (Cert.AdwRefIdeal.Value.run m g)

theorem adrRefFrame : Cert.quiescent_AdrRefIdeal (hAdrRefIdeal := Cert.AdrRefIdeal.Gen.facts) :=
  fun m g _ => (θ_run _ _ _).mono (fun r h => ⟨fun c => (h c).2.2.2.2, sem_eq_zero_of_no_sems (by decide) r.2⟩)
    (Cert.AdrRefIdeal.Value.run m g)

theorem pairSumRefFrame : Cert.quiescent_PairSumRefIdeal (hPairSumRefIdeal := Cert.PairSumRefIdeal.Gen.facts) :=
  fun m g _ => (θ_run _ _ _).mono (fun r h => ⟨fun c => (h c).2, sem_eq_zero_of_no_sems (by decide) r.2⟩)
    (Cert.PairSumRefIdeal.Value.run m g)

theorem mmTnGRefFrame : Cert.quiescent_MmTnGRefIdeal (hMmTnGRefIdeal := Cert.MmTnGRefIdeal.Gen.facts) :=
  fun m g _ => (θ_run _ _ _).mono (fun r h => ⟨fun c => (h c).2, sem_eq_zero_of_no_sems (by decide) r.2⟩)
    (Cert.MmTnGRefIdeal.Value.run m g)

theorem mmProjGRefFrame : Cert.quiescent_MmProjGRefIdeal (hMmProjGRefIdeal := Cert.MmProjGRefIdeal.Gen.facts) :=
  fun m g _ => (θ_run _ _ _).mono (fun r h => ⟨fun c => (h c).2, sem_eq_zero_of_no_sems (by decide) r.2⟩)
    (Cert.MmProjGRefIdeal.Value.run m g)

theorem adrScRefFrame : Cert.quiescent_AdrScRefIdeal (hAdrScRefIdeal := Cert.AdrScRefIdeal.Gen.facts) :=
  fun m g _ => (θ_run _ _ _).mono (fun r h => ⟨fun c => (h c).2.2.2.2, sem_eq_zero_of_no_sems (by decide) r.2⟩)
    (Cert.AdrScRefIdeal.Value.run m g)

theorem claim : Cert.Claim := ⟨Cert.ScBwd.Gen.facts, Cert.ScBwdIdeal.Gen.facts, Cert.ScRefIdeal.Gen.facts, Cert.Lru.Gen.facts, Cert.LruIdeal.Gen.facts, Cert.LruRefIdeal.Gen.facts, Cert.Ada.Gen.facts, Cert.AdaIdeal.Gen.facts, Cert.AdaRefIdeal.Gen.facts, Cert.Norm0.Gen.facts, Cert.Norm0Ideal.Gen.facts, Cert.Norm0RefIdeal.Gen.facts, Cert.Norm1.Gen.facts, Cert.Norm1Ideal.Gen.facts, Cert.Norm1RefIdeal.Gen.facts, Cert.Loss.Gen.facts, Cert.LossIdeal.Gen.facts, Cert.LossRefIdeal.Gen.facts, Cert.ScFwd.Gen.facts, Cert.ScFwdIdeal.Gen.facts, Cert.ScFwdRefIdeal.Gen.facts, Cert.NormMod.Gen.facts, Cert.NormModIdeal.Gen.facts, Cert.NormModRefIdeal.Gen.facts, Cert.AdaMod.Gen.facts, Cert.AdaModIdeal.Gen.facts, Cert.AdaModRefIdeal.Gen.facts, Cert.MmOut.Gen.facts, Cert.MmOutIdeal.Gen.facts, Cert.MmOutRefIdeal.Gen.facts, Cert.MmProj.Gen.facts, Cert.MmProjIdeal.Gen.facts, Cert.MmProjRefIdeal.Gen.facts, Cert.MmNt.Gen.facts, Cert.MmNtIdeal.Gen.facts, Cert.MmNtRefIdeal.Gen.facts, Cert.MmTn.Gen.facts, Cert.MmTnIdeal.Gen.facts, Cert.MmTnRefIdeal.Gen.facts, Cert.DevSum.Gen.facts, Cert.DevSumIdeal.Gen.facts, Cert.DevSumRefIdeal.Gen.facts, Cert.Adw.Gen.facts, Cert.AdwIdeal.Gen.facts, Cert.AdwRefIdeal.Gen.facts, Cert.Adr.Gen.facts, Cert.AdrIdeal.Gen.facts, Cert.AdrRefIdeal.Gen.facts, Cert.PairSum.Gen.facts, Cert.PairSumIdeal.Gen.facts, Cert.PairSumRefIdeal.Gen.facts, Cert.MmTnG.Gen.facts, Cert.MmTnGIdeal.Gen.facts, Cert.MmTnGRefIdeal.Gen.facts, Cert.MmProjG.Gen.facts, Cert.MmProjGIdeal.Gen.facts, Cert.MmProjGRefIdeal.Gen.facts, Cert.AdrSc.Gen.facts, Cert.AdrScIdeal.Gen.facts, Cert.AdrScRefIdeal.Gen.facts,
  Cert.Sc.preFacts, Cert.LruClaim.preFacts, Cert.Norm0.preFacts, Cert.Norm1.preFacts, Cert.Loss.preFacts,
  fun m ρ _ => Cert.ScBwd.Gen.frame m ρ, fun m ρ _ => Cert.ScBwdIdeal.Gen.frame m ρ, fun m ρ _ => Cert.ScBwdIdeal.Gen.frame m ρ,
  scRefFrame, fun m ρ _ => scRefFrame m ρ trivial,
  fun m ρ _ => Cert.Lru.Gen.frame m ρ, fun m ρ _ => Cert.LruIdeal.Gen.frame m ρ, fun m ρ _ => Cert.LruIdeal.Gen.frame m ρ,
  fun m ρ _ => Cert.LruClaim.refFrame m ρ, fun m ρ _ => Cert.LruClaim.refFrame m ρ,
  fun m ρ _ => Cert.Ada.Gen.frame m ρ, fun m ρ _ => Cert.AdaIdeal.Gen.frame m ρ, adaRefFrame,
  fun m ρ _ => Cert.Norm0.Gen.frame m ρ, fun m ρ _ => Cert.Norm0Ideal.Gen.frame m ρ, fun m ρ _ => Cert.Norm0Ideal.Gen.frame m ρ,
  norm0RefFrame, fun m ρ _ => norm0RefFrame m ρ trivial,
  fun m ρ _ => Cert.Norm1.Gen.frame m ρ, fun m ρ _ => Cert.Norm1Ideal.Gen.frame m ρ, fun m ρ _ => Cert.Norm1Ideal.Gen.frame m ρ,
  norm1RefFrame, fun m ρ _ => norm1RefFrame m ρ trivial,
  fun m ρ _ => Cert.Loss.Gen.frame m ρ, fun m ρ _ => Cert.LossIdeal.Gen.frame m ρ, fun m ρ _ => Cert.LossIdeal.Gen.frame m ρ,
  lossRefFrame, fun m ρ _ => lossRefFrame m ρ trivial,
  fun m ρ _ => Cert.ScFwd.Gen.frame m ρ, fun m ρ _ => Cert.ScFwdIdeal.Gen.frame m ρ, scFwdRefFrame,
  fun m ρ _ => Cert.NormMod.Gen.frame m ρ, fun m ρ _ => Cert.NormModIdeal.Gen.frame m ρ, normModRefFrame,
  fun m ρ _ => Cert.AdaMod.Gen.frame m ρ, fun m ρ _ => Cert.AdaModIdeal.Gen.frame m ρ, adaModRefFrame,
  fun m ρ _ => Cert.MmOut.Gen.frame m ρ, fun m ρ _ => Cert.MmOutIdeal.Gen.frame m ρ, mmOutRefFrame,
  fun m ρ _ => Cert.MmProj.Gen.frame m ρ, fun m ρ _ => Cert.MmProjIdeal.Gen.frame m ρ, mmProjRefFrame,
  fun m ρ _ => Cert.MmNt.Gen.frame m ρ, fun m ρ _ => Cert.MmNtIdeal.Gen.frame m ρ, mmNtRefFrame,
  fun m ρ _ => Cert.MmTn.Gen.frame m ρ, fun m ρ _ => Cert.MmTnIdeal.Gen.frame m ρ, mmTnRefFrame,
  fun m ρ _ => Cert.DevSum.Gen.frame m ρ, fun m ρ _ => Cert.DevSumIdeal.Gen.frame m ρ, devSumRefFrame,
  fun m ρ _ => Cert.Adw.Gen.frame m ρ, fun m ρ _ => Cert.AdwIdeal.Gen.frame m ρ, adwRefFrame,
  fun m ρ _ => Cert.Adr.Gen.frame m ρ (Cert.Adr.Hand.ok m), fun m ρ _ => Cert.AdrIdeal.Gen.frame m ρ (Cert.AdrIdeal.Hand.ok m), adrRefFrame,
  fun m ρ _ => Cert.PairSum.Gen.frame m ρ (Cert.PairSum.Hand.ok m), fun m ρ _ => Cert.PairSumIdeal.Gen.frame m ρ (Cert.PairSumIdeal.Hand.ok m), pairSumRefFrame,
  fun m ρ _ => Cert.MmTnG.Gen.frame m ρ (Cert.MmTnG.Hand.ok m), fun m ρ _ => Cert.MmTnGIdeal.Gen.frame m ρ (Cert.MmTnGIdeal.Hand.ok m), mmTnGRefFrame,
  fun m ρ _ => Cert.MmProjG.Gen.frame m ρ (Cert.MmProjG.Hand.ok m), fun m ρ _ => Cert.MmProjGIdeal.Gen.frame m ρ (Cert.MmProjGIdeal.Hand.ok m), mmProjGRefFrame,
  fun m ρ _ => Cert.AdrSc.Gen.frame m ρ (Cert.AdrSc.Hand.ok m), fun m ρ _ => Cert.AdrScIdeal.Gen.frame m ρ (Cert.AdrScIdeal.Hand.ok m), adrScRefFrame,
  trivial, Cert.Sc.claim, trivial, Cert.LruClaim.claim, trivial, Cert.Adam.claim, trivial, Cert.Norm0.claim, trivial, Cert.Norm1.claim, trivial, Cert.Loss.claim, trivial, Cert.ScFwd.claim, trivial, Cert.NormMod.claim, trivial, Cert.AdaMod.claim, trivial, Cert.MmOut.claim, trivial, Cert.MmProj.claim, trivial, Cert.MmNt.claim, trivial, Cert.MmTn.claim, trivial, Cert.DevSum.claim, trivial, Cert.Adw.claim, trivial, Cert.Adr.claim, trivial, Cert.PairSum.claim, trivial, Cert.MmTnG.claim, trivial, Cert.MmProjG.claim, trivial, Cert.AdrSc.claim⟩

end Cert.Proof

end
